-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInFwd (m : (ℓ : Loc Cert.KernelInFwd.nD Cert.KernelInFwd.τ Cert.KernelInFwd.sig) → Buf (Elt Bits) ℓ) : Prop :=
  True

def Pre_KernelInFwdIdeal (m : (ℓ : Loc Cert.KernelInFwdIdeal.nD Cert.KernelInFwdIdeal.τ Cert.KernelInFwdIdeal.sig) → Buf (Elt Ideal) ℓ) : Prop :=
  True

def Pre_ReferenceInFwdIdeal (m : (ℓ : Loc Cert.ReferenceInFwdIdeal.nD Cert.ReferenceInFwdIdeal.τ Cert.ReferenceInFwdIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelUpFwd (m : (ℓ : Loc Cert.KernelUpFwd.nD Cert.KernelUpFwd.τ Cert.KernelUpFwd.sig) → Buf (Elt Bits) ℓ) : Prop :=
  True

def Pre_KernelUpFwdIdeal (m : (ℓ : Loc Cert.KernelUpFwdIdeal.nD Cert.KernelUpFwdIdeal.τ Cert.KernelUpFwdIdeal.sig) → Buf (Elt Ideal) ℓ) : Prop :=
  True

def Pre_ReferenceUpFwdIdeal (m : (ℓ : Loc Cert.ReferenceUpFwdIdeal.nD Cert.ReferenceUpFwdIdeal.τ Cert.ReferenceUpFwdIdeal.sig) → Buf (Elt Ideal) ℓ) : Prop :=
  True

def Pre_KernelDownFwd (m : (ℓ : Loc Cert.KernelDownFwd.nD Cert.KernelDownFwd.τ Cert.KernelDownFwd.sig) → Buf (Elt Bits) ℓ) : Prop :=
  True

def Pre_KernelDownFwdIdeal (m : (ℓ : Loc Cert.KernelDownFwdIdeal.nD Cert.KernelDownFwdIdeal.τ Cert.KernelDownFwdIdeal.sig) → Buf (Elt Ideal) ℓ) : Prop :=
  True

def Pre_ReferenceDownFwdIdeal (m : (ℓ : Loc Cert.ReferenceDownFwdIdeal.nD Cert.ReferenceDownFwdIdeal.τ Cert.ReferenceDownFwdIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_KernelMixBwd (m : (ℓ : Loc Cert.KernelMixBwd.nD Cert.KernelMixBwd.τ Cert.KernelMixBwd.sig) → Buf (Elt Bits) ℓ) : Prop :=
  True

def Pre_KernelMixBwdIdeal (m : (ℓ : Loc Cert.KernelMixBwdIdeal.nD Cert.KernelMixBwdIdeal.τ Cert.KernelMixBwdIdeal.sig) → Buf (Elt Ideal) ℓ) : Prop :=
  True

def Pre_ReferenceMixBwdIdeal (m : (ℓ : Loc Cert.ReferenceMixBwdIdeal.nD Cert.ReferenceMixBwdIdeal.τ Cert.ReferenceMixBwdIdeal.sig) → Buf (Elt Ideal) ℓ) : Prop :=
  True

def Pre_KernelActFwd (m : (ℓ : Loc Cert.KernelActFwd.nD Cert.KernelActFwd.τ Cert.KernelActFwd.sig) → Buf (Elt Bits) ℓ) : Prop :=
  True

def Pre_KernelActFwdIdeal (m : (ℓ : Loc Cert.KernelActFwdIdeal.nD Cert.KernelActFwdIdeal.τ Cert.KernelActFwdIdeal.sig) → Buf (Elt Ideal) ℓ) : Prop :=
  True

def Pre_ReferenceActFwdIdeal (m : (ℓ : Loc Cert.ReferenceActFwdIdeal.nD Cert.ReferenceActFwdIdeal.τ Cert.ReferenceActFwdIdeal.sig) → Buf (Elt Ideal) ℓ) : Prop :=
  True

def Pre_KernelNormFwd (m : (ℓ : Loc Cert.KernelNormFwd.nD Cert.KernelNormFwd.τ Cert.KernelNormFwd.sig) → Buf (Elt Bits) ℓ) : Prop :=
  True

def Pre_KernelNormFwdIdeal (m : (ℓ : Loc Cert.KernelNormFwdIdeal.nD Cert.KernelNormFwdIdeal.τ Cert.KernelNormFwdIdeal.sig) → Buf (Elt Ideal) ℓ) : Prop :=
  True

def Pre_ReferenceNormFwdIdeal (m : (ℓ : Loc Cert.ReferenceNormFwdIdeal.nD Cert.ReferenceNormFwdIdeal.τ Cert.ReferenceNormFwdIdeal.sig) → Buf (Elt Ideal) ℓ) : Prop :=
  True

def Pre_KernelMixFwd (m : (ℓ : Loc Cert.KernelMixFwd.nD Cert.KernelMixFwd.τ Cert.KernelMixFwd.sig) → Buf (Elt Bits) ℓ) : Prop :=
  True

def Pre_KernelMixFwdIdeal (m : (ℓ : Loc Cert.KernelMixFwdIdeal.nD Cert.KernelMixFwdIdeal.τ Cert.KernelMixFwdIdeal.sig) → Buf (Elt Ideal) ℓ) : Prop :=
  True

def Pre_ReferenceMixFwdIdeal (m : (ℓ : Loc Cert.ReferenceMixFwdIdeal.nD Cert.ReferenceMixFwdIdeal.τ Cert.ReferenceMixFwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelBiasA (m : (ℓ : Loc Cert.KernelBiasA.nD Cert.KernelBiasA.τ Cert.KernelBiasA.sig) → Buf (Elt Bits) ℓ) : Prop :=
  True

def Pre_KernelBiasAIdeal (m : (ℓ : Loc Cert.KernelBiasAIdeal.nD Cert.KernelBiasAIdeal.τ Cert.KernelBiasAIdeal.sig) → Buf (Elt Ideal) ℓ) : Prop :=
  True

def Pre_ReferenceBiasAIdeal (m : (ℓ : Loc Cert.ReferenceBiasAIdeal.nD Cert.ReferenceBiasAIdeal.τ Cert.ReferenceBiasAIdeal.sig) → Buf (Elt Ideal) ℓ) : Prop :=
  True

def Pre_KernelBiasC (m : (ℓ : Loc Cert.KernelBiasC.nD Cert.KernelBiasC.τ Cert.KernelBiasC.sig) → Buf (Elt Bits) ℓ) : Prop :=
  True

def Pre_KernelBiasCIdeal (m : (ℓ : Loc Cert.KernelBiasCIdeal.nD Cert.KernelBiasCIdeal.τ Cert.KernelBiasCIdeal.sig) → Buf (Elt Ideal) ℓ) : Prop :=
  True

def Pre_ReferenceBiasCIdeal (m : (ℓ : Loc Cert.ReferenceBiasCIdeal.nD Cert.ReferenceBiasCIdeal.τ Cert.ReferenceBiasCIdeal.sig) → Buf (Elt Ideal) ℓ) : Prop :=
  True

def Pre_KernelUpdateIn (m : (ℓ : Loc Cert.KernelUpdateIn.nD Cert.KernelUpdateIn.τ Cert.KernelUpdateIn.sig) → Buf (Elt Bits) ℓ) : Prop :=
  True

def Pre_KernelUpdateInIdeal (m : (ℓ : Loc Cert.KernelUpdateInIdeal.nD Cert.KernelUpdateInIdeal.τ Cert.KernelUpdateInIdeal.sig) → Buf (Elt Ideal) ℓ) : Prop :=
  True

def Pre_ReferenceUpdateInIdeal (m : (ℓ : Loc Cert.ReferenceUpdateInIdeal.nD Cert.ReferenceUpdateInIdeal.τ Cert.ReferenceUpdateInIdeal.sig) → Buf (Elt Ideal) ℓ) : Prop :=
  True

def Pre_KernelUpdateOut (m : (ℓ : Loc Cert.KernelUpdateOut.nD Cert.KernelUpdateOut.τ Cert.KernelUpdateOut.sig) → Buf (Elt Bits) ℓ) : Prop :=
  True

def Pre_KernelUpdateOutIdeal (m : (ℓ : Loc Cert.KernelUpdateOutIdeal.nD Cert.KernelUpdateOutIdeal.τ Cert.KernelUpdateOutIdeal.sig) → Buf (Elt Ideal) ℓ) : Prop :=
  True

def Pre_ReferenceUpdateOutIdeal (m : (ℓ : Loc Cert.ReferenceUpdateOutIdeal.nD Cert.ReferenceUpdateOutIdeal.τ Cert.ReferenceUpdateOutIdeal.sig) → Buf (Elt Ideal) ℓ) : Prop :=
  True

def Pre_KernelUpdateUp (m : (ℓ : Loc Cert.KernelUpdateUp.nD Cert.KernelUpdateUp.τ Cert.KernelUpdateUp.sig) → Buf (Elt Bits) ℓ) : Prop :=
  True

def Pre_KernelUpdateUpIdeal (m : (ℓ : Loc Cert.KernelUpdateUpIdeal.nD Cert.KernelUpdateUpIdeal.τ Cert.KernelUpdateUpIdeal.sig) → Buf (Elt Ideal) ℓ) : Prop :=
  True

def Pre_ReferenceUpdateUpIdeal (m : (ℓ : Loc Cert.ReferenceUpdateUpIdeal.nD Cert.ReferenceUpdateUpIdeal.τ Cert.ReferenceUpdateUpIdeal.sig) → Buf (Elt Ideal) ℓ) : Prop :=
  True

def Pre_KernelUpdateDown (m : (ℓ : Loc Cert.KernelUpdateDown.nD Cert.KernelUpdateDown.τ Cert.KernelUpdateDown.sig) → Buf (Elt Bits) ℓ) : Prop :=
  True

def Pre_KernelUpdateDownIdeal (m : (ℓ : Loc Cert.KernelUpdateDownIdeal.nD Cert.KernelUpdateDownIdeal.τ Cert.KernelUpdateDownIdeal.sig) → Buf (Elt Ideal) ℓ) : Prop :=
  True

def Pre_ReferenceUpdateDownIdeal (m : (ℓ : Loc Cert.ReferenceUpdateDownIdeal.nD Cert.ReferenceUpdateDownIdeal.τ Cert.ReferenceUpdateDownIdeal.sig) → Buf (Elt Ideal) ℓ) : Prop :=
  True

def Pre_KernelSmallSum (m : (ℓ : Loc Cert.KernelSmallSum.nD Cert.KernelSmallSum.τ Cert.KernelSmallSum.sig) → Buf (Elt Bits) ℓ) : Prop :=
  True

def Pre_KernelSmallSumIdeal (m : (ℓ : Loc Cert.KernelSmallSumIdeal.nD Cert.KernelSmallSumIdeal.τ Cert.KernelSmallSumIdeal.sig) → Buf (Elt Ideal) ℓ) : Prop :=
  True

def Pre_ReferenceSmallSumIdeal (m : (ℓ : Loc Cert.ReferenceSmallSumIdeal.nD Cert.ReferenceSmallSumIdeal.τ Cert.ReferenceSmallSumIdeal.sig) → Buf (Elt Ideal) ℓ) : Prop :=
  True

def Pre_KernelUpdateSmall (m : (ℓ : Loc Cert.KernelUpdateSmall.nD Cert.KernelUpdateSmall.τ Cert.KernelUpdateSmall.sig) → Buf (Elt Bits) ℓ) : Prop :=
  True

def Pre_KernelUpdateSmallIdeal (m : (ℓ : Loc Cert.KernelUpdateSmallIdeal.nD Cert.KernelUpdateSmallIdeal.τ Cert.KernelUpdateSmallIdeal.sig) → Buf (Elt Ideal) ℓ) : Prop :=
  True

def Pre_ReferenceUpdateSmallIdeal (m : (ℓ : Loc Cert.ReferenceUpdateSmallIdeal.nD Cert.ReferenceUpdateSmallIdeal.τ Cert.ReferenceUpdateSmallIdeal.sig) → Buf (Elt Ideal) ℓ) : Prop :=
  True

def Pre_KernelUpdateIn1 (m : (ℓ : Loc Cert.KernelUpdateIn1.nD Cert.KernelUpdateIn1.τ Cert.KernelUpdateIn1.sig) → Buf (Elt Bits) ℓ) : Prop :=
  True

def Pre_KernelUpdateIn1Ideal (m : (ℓ : Loc Cert.KernelUpdateIn1Ideal.nD Cert.KernelUpdateIn1Ideal.τ Cert.KernelUpdateIn1Ideal.sig) → Buf (Elt Ideal) ℓ) : Prop :=
  True

def Pre_ReferenceUpdateIn1Ideal (m : (ℓ : Loc Cert.ReferenceUpdateIn1Ideal.nD Cert.ReferenceUpdateIn1Ideal.τ Cert.ReferenceUpdateIn1Ideal.sig) → Buf (Elt Ideal) ℓ) : Prop :=
  True

def Pre_KernelUpdateOut1 (m : (ℓ : Loc Cert.KernelUpdateOut1.nD Cert.KernelUpdateOut1.τ Cert.KernelUpdateOut1.sig) → Buf (Elt Bits) ℓ) : Prop :=
  True

def Pre_KernelUpdateOut1Ideal (m : (ℓ : Loc Cert.KernelUpdateOut1Ideal.nD Cert.KernelUpdateOut1Ideal.τ Cert.KernelUpdateOut1Ideal.sig) → Buf (Elt Ideal) ℓ) : Prop :=
  True

def Pre_ReferenceUpdateOut1Ideal (m : (ℓ : Loc Cert.ReferenceUpdateOut1Ideal.nD Cert.ReferenceUpdateOut1Ideal.τ Cert.ReferenceUpdateOut1Ideal.sig) → Buf (Elt Ideal) ℓ) : Prop :=
  True

def Pre_KernelUpdateUp1 (m : (ℓ : Loc Cert.KernelUpdateUp1.nD Cert.KernelUpdateUp1.τ Cert.KernelUpdateUp1.sig) → Buf (Elt Bits) ℓ) : Prop :=
  True

def Pre_KernelUpdateUp1Ideal (m : (ℓ : Loc Cert.KernelUpdateUp1Ideal.nD Cert.KernelUpdateUp1Ideal.τ Cert.KernelUpdateUp1Ideal.sig) → Buf (Elt Ideal) ℓ) : Prop :=
  True

def Pre_ReferenceUpdateUp1Ideal (m : (ℓ : Loc Cert.ReferenceUpdateUp1Ideal.nD Cert.ReferenceUpdateUp1Ideal.τ Cert.ReferenceUpdateUp1Ideal.sig) → Buf (Elt Ideal) ℓ) : Prop :=
  True

def Pre_KernelUpdateDown1 (m : (ℓ : Loc Cert.KernelUpdateDown1.nD Cert.KernelUpdateDown1.τ Cert.KernelUpdateDown1.sig) → Buf (Elt Bits) ℓ) : Prop :=
  True

def Pre_KernelUpdateDown1Ideal (m : (ℓ : Loc Cert.KernelUpdateDown1Ideal.nD Cert.KernelUpdateDown1Ideal.τ Cert.KernelUpdateDown1Ideal.sig) → Buf (Elt Ideal) ℓ) : Prop :=
  True

def Pre_ReferenceUpdateDown1Ideal (m : (ℓ : Loc Cert.ReferenceUpdateDown1Ideal.nD Cert.ReferenceUpdateDown1Ideal.τ Cert.ReferenceUpdateDown1Ideal.sig) → Buf (Elt Ideal) ℓ) : Prop :=
  True

def Pre_KernelUpdateIn2 (m : (ℓ : Loc Cert.KernelUpdateIn2.nD Cert.KernelUpdateIn2.τ Cert.KernelUpdateIn2.sig) → Buf (Elt Bits) ℓ) : Prop :=
  True

def Pre_KernelUpdateIn2Ideal (m : (ℓ : Loc Cert.KernelUpdateIn2Ideal.nD Cert.KernelUpdateIn2Ideal.τ Cert.KernelUpdateIn2Ideal.sig) → Buf (Elt Ideal) ℓ) : Prop :=
  True

def Pre_ReferenceUpdateIn2Ideal (m : (ℓ : Loc Cert.ReferenceUpdateIn2Ideal.nD Cert.ReferenceUpdateIn2Ideal.τ Cert.ReferenceUpdateIn2Ideal.sig) → Buf (Elt Ideal) ℓ) : Prop :=
  True

def Pre_KernelUpdateOut2 (m : (ℓ : Loc Cert.KernelUpdateOut2.nD Cert.KernelUpdateOut2.τ Cert.KernelUpdateOut2.sig) → Buf (Elt Bits) ℓ) : Prop :=
  True

def Pre_KernelUpdateOut2Ideal (m : (ℓ : Loc Cert.KernelUpdateOut2Ideal.nD Cert.KernelUpdateOut2Ideal.τ Cert.KernelUpdateOut2Ideal.sig) → Buf (Elt Ideal) ℓ) : Prop :=
  True

def Pre_ReferenceUpdateOut2Ideal (m : (ℓ : Loc Cert.ReferenceUpdateOut2Ideal.nD Cert.ReferenceUpdateOut2Ideal.τ Cert.ReferenceUpdateOut2Ideal.sig) → Buf (Elt Ideal) ℓ) : Prop :=
  True

def Pre_KernelUpdateUp2 (m : (ℓ : Loc Cert.KernelUpdateUp2.nD Cert.KernelUpdateUp2.τ Cert.KernelUpdateUp2.sig) → Buf (Elt Bits) ℓ) : Prop :=
  True

def Pre_KernelUpdateUp2Ideal (m : (ℓ : Loc Cert.KernelUpdateUp2Ideal.nD Cert.KernelUpdateUp2Ideal.τ Cert.KernelUpdateUp2Ideal.sig) → Buf (Elt Ideal) ℓ) : Prop :=
  True

def Pre_ReferenceUpdateUp2Ideal (m : (ℓ : Loc Cert.ReferenceUpdateUp2Ideal.nD Cert.ReferenceUpdateUp2Ideal.τ Cert.ReferenceUpdateUp2Ideal.sig) → Buf (Elt Ideal) ℓ) : Prop :=
  True

def Pre_KernelUpdateDown2 (m : (ℓ : Loc Cert.KernelUpdateDown2.nD Cert.KernelUpdateDown2.τ Cert.KernelUpdateDown2.sig) → Buf (Elt Bits) ℓ) : Prop :=
  True

def Pre_KernelUpdateDown2Ideal (m : (ℓ : Loc Cert.KernelUpdateDown2Ideal.nD Cert.KernelUpdateDown2Ideal.τ Cert.KernelUpdateDown2Ideal.sig) → Buf (Elt Ideal) ℓ) : Prop :=
  True

def Pre_ReferenceUpdateDown2Ideal (m : (ℓ : Loc Cert.ReferenceUpdateDown2Ideal.nD Cert.ReferenceUpdateDown2Ideal.τ Cert.ReferenceUpdateDown2Ideal.sig) → Buf (Elt Ideal) ℓ) : Prop :=
  True

def Pre_KernelUpdateIn3 (m : (ℓ : Loc Cert.KernelUpdateIn3.nD Cert.KernelUpdateIn3.τ Cert.KernelUpdateIn3.sig) → Buf (Elt Bits) ℓ) : Prop :=
  True

def Pre_KernelUpdateIn3Ideal (m : (ℓ : Loc Cert.KernelUpdateIn3Ideal.nD Cert.KernelUpdateIn3Ideal.τ Cert.KernelUpdateIn3Ideal.sig) → Buf (Elt Ideal) ℓ) : Prop :=
  True

def Pre_ReferenceUpdateIn3Ideal (m : (ℓ : Loc Cert.ReferenceUpdateIn3Ideal.nD Cert.ReferenceUpdateIn3Ideal.τ Cert.ReferenceUpdateIn3Ideal.sig) → Buf (Elt Ideal) ℓ) : Prop :=
  True

def Pre_KernelUpdateOut3 (m : (ℓ : Loc Cert.KernelUpdateOut3.nD Cert.KernelUpdateOut3.τ Cert.KernelUpdateOut3.sig) → Buf (Elt Bits) ℓ) : Prop :=
  True

def Pre_KernelUpdateOut3Ideal (m : (ℓ : Loc Cert.KernelUpdateOut3Ideal.nD Cert.KernelUpdateOut3Ideal.τ Cert.KernelUpdateOut3Ideal.sig) → Buf (Elt Ideal) ℓ) : Prop :=
  True

def Pre_ReferenceUpdateOut3Ideal (m : (ℓ : Loc Cert.ReferenceUpdateOut3Ideal.nD Cert.ReferenceUpdateOut3Ideal.τ Cert.ReferenceUpdateOut3Ideal.sig) → Buf (Elt Ideal) ℓ) : Prop :=
  True

def Pre_KernelUpdateUp3 (m : (ℓ : Loc Cert.KernelUpdateUp3.nD Cert.KernelUpdateUp3.τ Cert.KernelUpdateUp3.sig) → Buf (Elt Bits) ℓ) : Prop :=
  True

def Pre_KernelUpdateUp3Ideal (m : (ℓ : Loc Cert.KernelUpdateUp3Ideal.nD Cert.KernelUpdateUp3Ideal.τ Cert.KernelUpdateUp3Ideal.sig) → Buf (Elt Ideal) ℓ) : Prop :=
  True

def Pre_ReferenceUpdateUp3Ideal (m : (ℓ : Loc Cert.ReferenceUpdateUp3Ideal.nD Cert.ReferenceUpdateUp3Ideal.τ Cert.ReferenceUpdateUp3Ideal.sig) → Buf (Elt Ideal) ℓ) : Prop :=
  True

def Pre_KernelUpdateDown3 (m : (ℓ : Loc Cert.KernelUpdateDown3.nD Cert.KernelUpdateDown3.τ Cert.KernelUpdateDown3.sig) → Buf (Elt Bits) ℓ) : Prop :=
  True

def Pre_KernelUpdateDown3Ideal (m : (ℓ : Loc Cert.KernelUpdateDown3Ideal.nD Cert.KernelUpdateDown3Ideal.τ Cert.KernelUpdateDown3Ideal.sig) → Buf (Elt Ideal) ℓ) : Prop :=
  True

def Pre_ReferenceUpdateDown3Ideal (m : (ℓ : Loc Cert.ReferenceUpdateDown3Ideal.nD Cert.ReferenceUpdateDown3Ideal.τ Cert.ReferenceUpdateDown3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelInFwd [hKernelInFwd : Cert.KernelInFwd.Facts] : Prop :=
  ∀ (m : (ℓ : Loc Cert.KernelInFwd.nD Cert.KernelInFwd.τ Cert.KernelInFwd.sig) → Buf (Elt Bits) ℓ) (g : Dev Cert.KernelInFwd.nD → PrngReg), Pre_KernelInFwd m →
    θ_run (Cert.KernelInFwd.defs (F := Bits)) (onTc (τ := Cert.KernelInFwd.τ) (Cert.KernelInFwd.main (F := Bits))) ⟨m, fun _ => 0, g⟩ (fun r => (∀ c : Dev Cert.KernelInFwd.nD,
      r.2.mem ((c.tc : Thread Cert.KernelInFwd.nD Cert.KernelInFwd.τ).loc Cert.KernelInFwd.main_arg0) = m ((c.tc : Thread Cert.KernelInFwd.nD Cert.KernelInFwd.τ).loc Cert.KernelInFwd.main_arg0)
      ∧ r.2.mem ((c.tc : Thread Cert.KernelInFwd.nD Cert.KernelInFwd.τ).loc Cert.KernelInFwd.main_arg1) = m ((c.tc : Thread Cert.KernelInFwd.nD Cert.KernelInFwd.τ).loc Cert.KernelInFwd.main_arg1))
      ∧ r.2.sem = fun _ => 0)

def quiescent_KernelInFwdIdeal [hKernelInFwdIdeal : Cert.KernelInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg), Pre_KernelInFwdIdeal m →
    θ_run (Cert.KernelInFwdIdeal.defs (F := Ideal)) (onTc (τ := Cert.KernelInFwdIdeal.τ) (Cert.KernelInFwdIdeal.main (F := Ideal))) ⟨m, fun _ => 0, g⟩ (fun r => (∀ c : Dev Cert.KernelInFwdIdeal.nD,
      r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
      ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1))
      ∧ r.2.sem = fun _ => 0)

def quiescent_ReferenceInFwdIdeal [hReferenceInFwdIdeal : Cert.ReferenceInFwdIdeal.Facts] : Prop :=
  ∀ (m : (ℓ : Loc Cert.ReferenceInFwdIdeal.nD Cert.ReferenceInFwdIdeal.τ Cert.ReferenceInFwdIdeal.sig) → Buf (Elt Ideal) ℓ) (g : Dev Cert.ReferenceInFwdIdeal.nD → PrngReg), Pre_ReferenceInFwdIdeal m →
    θ_run (Cert.ReferenceInFwdIdeal.defs (F := Ideal)) (onTc (τ := Cert.ReferenceInFwdIdeal.τ) (Cert.ReferenceInFwdIdeal.main (F := Ideal))) ⟨m, fun _ => 0, g⟩ (fun r => (∀ c : Dev Cert.ReferenceInFwdIdeal.nD,
      r.2.mem ((c.tc : Thread Cert.ReferenceInFwdIdeal.nD Cert.ReferenceInFwdIdeal.τ).loc Cert.ReferenceInFwdIdeal.main_arg0) = m ((c.tc : Thread Cert.ReferenceInFwdIdeal.nD Cert.ReferenceInFwdIdeal.τ).loc Cert.ReferenceInFwdIdeal.main_arg0)
      ∧ r.2.mem ((c.tc : Thread Cert.ReferenceInFwdIdeal.nD Cert.ReferenceInFwdIdeal.τ).loc Cert.ReferenceInFwdIdeal.main_arg1) = m ((c.tc : Thread Cert.ReferenceInFwdIdeal.nD Cert.ReferenceInFwdIdeal.τ).loc Cert.ReferenceInFwdIdeal.main_arg1))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2))
      ∧ r.2.sem = fun _ => 0)

def quiescent_KernelUpFwd [hKernelUpFwd : Cert.KernelUpFwd.Facts] : Prop :=
  ∀ (m : (ℓ : Loc Cert.KernelUpFwd.nD Cert.KernelUpFwd.τ Cert.KernelUpFwd.sig) → Buf (Elt Bits) ℓ) (g : Dev Cert.KernelUpFwd.nD → PrngReg), Pre_KernelUpFwd m →
    θ_run (Cert.KernelUpFwd.defs (F := Bits)) (onTc (τ := Cert.KernelUpFwd.τ) (Cert.KernelUpFwd.main (F := Bits))) ⟨m, fun _ => 0, g⟩ (fun r => (∀ c : Dev Cert.KernelUpFwd.nD,
      r.2.mem ((c.tc : Thread Cert.KernelUpFwd.nD Cert.KernelUpFwd.τ).loc Cert.KernelUpFwd.main_arg0) = m ((c.tc : Thread Cert.KernelUpFwd.nD Cert.KernelUpFwd.τ).loc Cert.KernelUpFwd.main_arg0)
      ∧ r.2.mem ((c.tc : Thread Cert.KernelUpFwd.nD Cert.KernelUpFwd.τ).loc Cert.KernelUpFwd.main_arg1) = m ((c.tc : Thread Cert.KernelUpFwd.nD Cert.KernelUpFwd.τ).loc Cert.KernelUpFwd.main_arg1))
      ∧ r.2.sem = fun _ => 0)

def quiescent_KernelUpFwdIdeal [hKernelUpFwdIdeal : Cert.KernelUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg), Pre_KernelUpFwdIdeal m →
    θ_run (Cert.KernelUpFwdIdeal.defs (F := Ideal)) (onTc (τ := Cert.KernelUpFwdIdeal.τ) (Cert.KernelUpFwdIdeal.main (F := Ideal))) ⟨m, fun _ => 0, g⟩ (fun r => (∀ c : Dev Cert.KernelUpFwdIdeal.nD,
      r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
      ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1))
      ∧ r.2.sem = fun _ => 0)

def quiescent_ReferenceUpFwdIdeal [hReferenceUpFwdIdeal : Cert.ReferenceUpFwdIdeal.Facts] : Prop :=
  ∀ (m : (ℓ : Loc Cert.ReferenceUpFwdIdeal.nD Cert.ReferenceUpFwdIdeal.τ Cert.ReferenceUpFwdIdeal.sig) → Buf (Elt Ideal) ℓ) (g : Dev Cert.ReferenceUpFwdIdeal.nD → PrngReg), Pre_ReferenceUpFwdIdeal m →
    θ_run (Cert.ReferenceUpFwdIdeal.defs (F := Ideal)) (onTc (τ := Cert.ReferenceUpFwdIdeal.τ) (Cert.ReferenceUpFwdIdeal.main (F := Ideal))) ⟨m, fun _ => 0, g⟩ (fun r => (∀ c : Dev Cert.ReferenceUpFwdIdeal.nD,
      r.2.mem ((c.tc : Thread Cert.ReferenceUpFwdIdeal.nD Cert.ReferenceUpFwdIdeal.τ).loc Cert.ReferenceUpFwdIdeal.main_arg0) = m ((c.tc : Thread Cert.ReferenceUpFwdIdeal.nD Cert.ReferenceUpFwdIdeal.τ).loc Cert.ReferenceUpFwdIdeal.main_arg0)
      ∧ r.2.mem ((c.tc : Thread Cert.ReferenceUpFwdIdeal.nD Cert.ReferenceUpFwdIdeal.τ).loc Cert.ReferenceUpFwdIdeal.main_arg1) = m ((c.tc : Thread Cert.ReferenceUpFwdIdeal.nD Cert.ReferenceUpFwdIdeal.τ).loc Cert.ReferenceUpFwdIdeal.main_arg1))
      ∧ r.2.sem = fun _ => 0)

def quiescent_KernelDownFwd [hKernelDownFwd : Cert.KernelDownFwd.Facts] : Prop :=
  ∀ (m : (ℓ : Loc Cert.KernelDownFwd.nD Cert.KernelDownFwd.τ Cert.KernelDownFwd.sig) → Buf (Elt Bits) ℓ) (g : Dev Cert.KernelDownFwd.nD → PrngReg), Pre_KernelDownFwd m →
    θ_run (Cert.KernelDownFwd.defs (F := Bits)) (onTc (τ := Cert.KernelDownFwd.τ) (Cert.KernelDownFwd.main (F := Bits))) ⟨m, fun _ => 0, g⟩ (fun r => (∀ c : Dev Cert.KernelDownFwd.nD,
      r.2.mem ((c.tc : Thread Cert.KernelDownFwd.nD Cert.KernelDownFwd.τ).loc Cert.KernelDownFwd.main_arg0) = m ((c.tc : Thread Cert.KernelDownFwd.nD Cert.KernelDownFwd.τ).loc Cert.KernelDownFwd.main_arg0)
      ∧ r.2.mem ((c.tc : Thread Cert.KernelDownFwd.nD Cert.KernelDownFwd.τ).loc Cert.KernelDownFwd.main_arg1) = m ((c.tc : Thread Cert.KernelDownFwd.nD Cert.KernelDownFwd.τ).loc Cert.KernelDownFwd.main_arg1)
      ∧ r.2.mem ((c.tc : Thread Cert.KernelDownFwd.nD Cert.KernelDownFwd.τ).loc Cert.KernelDownFwd.main_arg2) = m ((c.tc : Thread Cert.KernelDownFwd.nD Cert.KernelDownFwd.τ).loc Cert.KernelDownFwd.main_arg2))
      ∧ r.2.sem = fun _ => 0)

def quiescent_KernelDownFwdIdeal [hKernelDownFwdIdeal : Cert.KernelDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg), Pre_KernelDownFwdIdeal m →
    θ_run (Cert.KernelDownFwdIdeal.defs (F := Ideal)) (onTc (τ := Cert.KernelDownFwdIdeal.τ) (Cert.KernelDownFwdIdeal.main (F := Ideal))) ⟨m, fun _ => 0, g⟩ (fun r => (∀ c : Dev Cert.KernelDownFwdIdeal.nD,
      r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
      ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
      ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2))
      ∧ r.2.sem = fun _ => 0)

def quiescent_ReferenceDownFwdIdeal [hReferenceDownFwdIdeal : Cert.ReferenceDownFwdIdeal.Facts] : Prop :=
  ∀ (m : (ℓ : Loc Cert.ReferenceDownFwdIdeal.nD Cert.ReferenceDownFwdIdeal.τ Cert.ReferenceDownFwdIdeal.sig) → Buf (Elt Ideal) ℓ) (g : Dev Cert.ReferenceDownFwdIdeal.nD → PrngReg), Pre_ReferenceDownFwdIdeal m →
    θ_run (Cert.ReferenceDownFwdIdeal.defs (F := Ideal)) (onTc (τ := Cert.ReferenceDownFwdIdeal.τ) (Cert.ReferenceDownFwdIdeal.main (F := Ideal))) ⟨m, fun _ => 0, g⟩ (fun r => (∀ c : Dev Cert.ReferenceDownFwdIdeal.nD,
      r.2.mem ((c.tc : Thread Cert.ReferenceDownFwdIdeal.nD Cert.ReferenceDownFwdIdeal.τ).loc Cert.ReferenceDownFwdIdeal.main_arg0) = m ((c.tc : Thread Cert.ReferenceDownFwdIdeal.nD Cert.ReferenceDownFwdIdeal.τ).loc Cert.ReferenceDownFwdIdeal.main_arg0)
      ∧ r.2.mem ((c.tc : Thread Cert.ReferenceDownFwdIdeal.nD Cert.ReferenceDownFwdIdeal.τ).loc Cert.ReferenceDownFwdIdeal.main_arg1) = m ((c.tc : Thread Cert.ReferenceDownFwdIdeal.nD Cert.ReferenceDownFwdIdeal.τ).loc Cert.ReferenceDownFwdIdeal.main_arg1)
      ∧ r.2.mem ((c.tc : Thread Cert.ReferenceDownFwdIdeal.nD Cert.ReferenceDownFwdIdeal.τ).loc Cert.ReferenceDownFwdIdeal.main_arg2) = m ((c.tc : Thread Cert.ReferenceDownFwdIdeal.nD Cert.ReferenceDownFwdIdeal.τ).loc Cert.ReferenceDownFwdIdeal.main_arg2))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_KernelMixBwd [hKernelMixBwd : Cert.KernelMixBwd.Facts] : Prop :=
  ∀ (m : (ℓ : Loc Cert.KernelMixBwd.nD Cert.KernelMixBwd.τ Cert.KernelMixBwd.sig) → Buf (Elt Bits) ℓ) (g : Dev Cert.KernelMixBwd.nD → PrngReg), Pre_KernelMixBwd m →
    θ_run (Cert.KernelMixBwd.defs (F := Bits)) (onTc (τ := Cert.KernelMixBwd.τ) (Cert.KernelMixBwd.main (F := Bits))) ⟨m, fun _ => 0, g⟩ (fun r => (∀ c : Dev Cert.KernelMixBwd.nD,
      r.2.mem ((c.tc : Thread Cert.KernelMixBwd.nD Cert.KernelMixBwd.τ).loc Cert.KernelMixBwd.main_arg0) = m ((c.tc : Thread Cert.KernelMixBwd.nD Cert.KernelMixBwd.τ).loc Cert.KernelMixBwd.main_arg0)
      ∧ r.2.mem ((c.tc : Thread Cert.KernelMixBwd.nD Cert.KernelMixBwd.τ).loc Cert.KernelMixBwd.main_arg1) = m ((c.tc : Thread Cert.KernelMixBwd.nD Cert.KernelMixBwd.τ).loc Cert.KernelMixBwd.main_arg1)
      ∧ r.2.mem ((c.tc : Thread Cert.KernelMixBwd.nD Cert.KernelMixBwd.τ).loc Cert.KernelMixBwd.main_arg2) = m ((c.tc : Thread Cert.KernelMixBwd.nD Cert.KernelMixBwd.τ).loc Cert.KernelMixBwd.main_arg2)
      ∧ r.2.mem ((c.tc : Thread Cert.KernelMixBwd.nD Cert.KernelMixBwd.τ).loc Cert.KernelMixBwd.main_arg3) = m ((c.tc : Thread Cert.KernelMixBwd.nD Cert.KernelMixBwd.τ).loc Cert.KernelMixBwd.main_arg3)
      ∧ r.2.mem ((c.tc : Thread Cert.KernelMixBwd.nD Cert.KernelMixBwd.τ).loc Cert.KernelMixBwd.main_arg4) = m ((c.tc : Thread Cert.KernelMixBwd.nD Cert.KernelMixBwd.τ).loc Cert.KernelMixBwd.main_arg4))
      ∧ r.2.sem = fun _ => 0)

def quiescent_KernelMixBwdIdeal [hKernelMixBwdIdeal : Cert.KernelMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg), Pre_KernelMixBwdIdeal m →
    θ_run (Cert.KernelMixBwdIdeal.defs (F := Ideal)) (onTc (τ := Cert.KernelMixBwdIdeal.τ) (Cert.KernelMixBwdIdeal.main (F := Ideal))) ⟨m, fun _ => 0, g⟩ (fun r => (∀ c : Dev Cert.KernelMixBwdIdeal.nD,
      r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
      ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
      ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
      ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3)
      ∧ r.2.mem ((c.tc : Thread Cert.KernelMixBwdIdeal.nD Cert.KernelMixBwdIdeal.τ).loc Cert.KernelMixBwdIdeal.main_arg4) = m ((c.tc : Thread Cert.KernelMixBwdIdeal.nD Cert.KernelMixBwdIdeal.τ).loc Cert.KernelMixBwdIdeal.main_arg4))
      ∧ r.2.sem = fun _ => 0)

def quiescent_ReferenceMixBwdIdeal [hReferenceMixBwdIdeal : Cert.ReferenceMixBwdIdeal.Facts] : Prop :=
  ∀ (m : (ℓ : Loc Cert.ReferenceMixBwdIdeal.nD Cert.ReferenceMixBwdIdeal.τ Cert.ReferenceMixBwdIdeal.sig) → Buf (Elt Ideal) ℓ) (g : Dev Cert.ReferenceMixBwdIdeal.nD → PrngReg), Pre_ReferenceMixBwdIdeal m →
    θ_run (Cert.ReferenceMixBwdIdeal.defs (F := Ideal)) (onTc (τ := Cert.ReferenceMixBwdIdeal.τ) (Cert.ReferenceMixBwdIdeal.main (F := Ideal))) ⟨m, fun _ => 0, g⟩ (fun r => (∀ c : Dev Cert.ReferenceMixBwdIdeal.nD,
      r.2.mem ((c.tc : Thread Cert.ReferenceMixBwdIdeal.nD Cert.ReferenceMixBwdIdeal.τ).loc Cert.ReferenceMixBwdIdeal.main_arg0) = m ((c.tc : Thread Cert.ReferenceMixBwdIdeal.nD Cert.ReferenceMixBwdIdeal.τ).loc Cert.ReferenceMixBwdIdeal.main_arg0)
      ∧ r.2.mem ((c.tc : Thread Cert.ReferenceMixBwdIdeal.nD Cert.ReferenceMixBwdIdeal.τ).loc Cert.ReferenceMixBwdIdeal.main_arg1) = m ((c.tc : Thread Cert.ReferenceMixBwdIdeal.nD Cert.ReferenceMixBwdIdeal.τ).loc Cert.ReferenceMixBwdIdeal.main_arg1)
      ∧ r.2.mem ((c.tc : Thread Cert.ReferenceMixBwdIdeal.nD Cert.ReferenceMixBwdIdeal.τ).loc Cert.ReferenceMixBwdIdeal.main_arg2) = m ((c.tc : Thread Cert.ReferenceMixBwdIdeal.nD Cert.ReferenceMixBwdIdeal.τ).loc Cert.ReferenceMixBwdIdeal.main_arg2)
      ∧ r.2.mem ((c.tc : Thread Cert.ReferenceMixBwdIdeal.nD Cert.ReferenceMixBwdIdeal.τ).loc Cert.ReferenceMixBwdIdeal.main_arg3) = m ((c.tc : Thread Cert.ReferenceMixBwdIdeal.nD Cert.ReferenceMixBwdIdeal.τ).loc Cert.ReferenceMixBwdIdeal.main_arg3)
      ∧ r.2.mem ((c.tc : Thread Cert.ReferenceMixBwdIdeal.nD Cert.ReferenceMixBwdIdeal.τ).loc Cert.ReferenceMixBwdIdeal.main_arg4) = m ((c.tc : Thread Cert.ReferenceMixBwdIdeal.nD Cert.ReferenceMixBwdIdeal.τ).loc Cert.ReferenceMixBwdIdeal.main_arg4))
      ∧ r.2.sem = fun _ => 0)

def quiescent_KernelActFwd [hKernelActFwd : Cert.KernelActFwd.Facts] : Prop :=
  ∀ (m : (ℓ : Loc Cert.KernelActFwd.nD Cert.KernelActFwd.τ Cert.KernelActFwd.sig) → Buf (Elt Bits) ℓ) (g : Dev Cert.KernelActFwd.nD → PrngReg), Pre_KernelActFwd m →
    θ_run (Cert.KernelActFwd.defs (F := Bits)) (onTc (τ := Cert.KernelActFwd.τ) (Cert.KernelActFwd.main (F := Bits))) ⟨m, fun _ => 0, g⟩ (fun r => (∀ c : Dev Cert.KernelActFwd.nD,
      r.2.mem ((c.tc : Thread Cert.KernelActFwd.nD Cert.KernelActFwd.τ).loc Cert.KernelActFwd.main_arg0) = m ((c.tc : Thread Cert.KernelActFwd.nD Cert.KernelActFwd.τ).loc Cert.KernelActFwd.main_arg0)
      ∧ r.2.mem ((c.tc : Thread Cert.KernelActFwd.nD Cert.KernelActFwd.τ).loc Cert.KernelActFwd.main_arg1) = m ((c.tc : Thread Cert.KernelActFwd.nD Cert.KernelActFwd.τ).loc Cert.KernelActFwd.main_arg1)
      ∧ r.2.mem ((c.tc : Thread Cert.KernelActFwd.nD Cert.KernelActFwd.τ).loc Cert.KernelActFwd.main_arg2) = m ((c.tc : Thread Cert.KernelActFwd.nD Cert.KernelActFwd.τ).loc Cert.KernelActFwd.main_arg2))
      ∧ r.2.sem = fun _ => 0)

def quiescent_KernelActFwdIdeal [hKernelActFwdIdeal : Cert.KernelActFwdIdeal.Facts] : Prop :=
  ∀ (m : (ℓ : Loc Cert.KernelActFwdIdeal.nD Cert.KernelActFwdIdeal.τ Cert.KernelActFwdIdeal.sig) → Buf (Elt Ideal) ℓ) (g : Dev Cert.KernelActFwdIdeal.nD → PrngReg), Pre_KernelActFwdIdeal m →
    θ_run (Cert.KernelActFwdIdeal.defs (F := Ideal)) (onTc (τ := Cert.KernelActFwdIdeal.τ) (Cert.KernelActFwdIdeal.main (F := Ideal))) ⟨m, fun _ => 0, g⟩ (fun r => (∀ c : Dev Cert.KernelActFwdIdeal.nD,
      r.2.mem ((c.tc : Thread Cert.KernelActFwdIdeal.nD Cert.KernelActFwdIdeal.τ).loc Cert.KernelActFwdIdeal.main_arg0) = m ((c.tc : Thread Cert.KernelActFwdIdeal.nD Cert.KernelActFwdIdeal.τ).loc Cert.KernelActFwdIdeal.main_arg0)
      ∧ r.2.mem ((c.tc : Thread Cert.KernelActFwdIdeal.nD Cert.KernelActFwdIdeal.τ).loc Cert.KernelActFwdIdeal.main_arg1) = m ((c.tc : Thread Cert.KernelActFwdIdeal.nD Cert.KernelActFwdIdeal.τ).loc Cert.KernelActFwdIdeal.main_arg1)
      ∧ r.2.mem ((c.tc : Thread Cert.KernelActFwdIdeal.nD Cert.KernelActFwdIdeal.τ).loc Cert.KernelActFwdIdeal.main_arg2) = m ((c.tc : Thread Cert.KernelActFwdIdeal.nD Cert.KernelActFwdIdeal.τ).loc Cert.KernelActFwdIdeal.main_arg2))
      ∧ r.2.sem = fun _ => 0)

def quiescent_ReferenceActFwdIdeal [hReferenceActFwdIdeal : Cert.ReferenceActFwdIdeal.Facts] : Prop :=
  ∀ (m : (ℓ : Loc Cert.ReferenceActFwdIdeal.nD Cert.ReferenceActFwdIdeal.τ Cert.ReferenceActFwdIdeal.sig) → Buf (Elt Ideal) ℓ) (g : Dev Cert.ReferenceActFwdIdeal.nD → PrngReg), Pre_ReferenceActFwdIdeal m →
    θ_run (Cert.ReferenceActFwdIdeal.defs (F := Ideal)) (onTc (τ := Cert.ReferenceActFwdIdeal.τ) (Cert.ReferenceActFwdIdeal.main (F := Ideal))) ⟨m, fun _ => 0, g⟩ (fun r => (∀ c : Dev Cert.ReferenceActFwdIdeal.nD,
      r.2.mem ((c.tc : Thread Cert.ReferenceActFwdIdeal.nD Cert.ReferenceActFwdIdeal.τ).loc Cert.ReferenceActFwdIdeal.main_arg0) = m ((c.tc : Thread Cert.ReferenceActFwdIdeal.nD Cert.ReferenceActFwdIdeal.τ).loc Cert.ReferenceActFwdIdeal.main_arg0)
      ∧ r.2.mem ((c.tc : Thread Cert.ReferenceActFwdIdeal.nD Cert.ReferenceActFwdIdeal.τ).loc Cert.ReferenceActFwdIdeal.main_arg1) = m ((c.tc : Thread Cert.ReferenceActFwdIdeal.nD Cert.ReferenceActFwdIdeal.τ).loc Cert.ReferenceActFwdIdeal.main_arg1)
      ∧ r.2.mem ((c.tc : Thread Cert.ReferenceActFwdIdeal.nD Cert.ReferenceActFwdIdeal.τ).loc Cert.ReferenceActFwdIdeal.main_arg2) = m ((c.tc : Thread Cert.ReferenceActFwdIdeal.nD Cert.ReferenceActFwdIdeal.τ).loc Cert.ReferenceActFwdIdeal.main_arg2))
      ∧ r.2.sem = fun _ => 0)

def quiescent_KernelNormFwd [hKernelNormFwd : Cert.KernelNormFwd.Facts] : Prop :=
  ∀ (m : (ℓ : Loc Cert.KernelNormFwd.nD Cert.KernelNormFwd.τ Cert.KernelNormFwd.sig) → Buf (Elt Bits) ℓ) (g : Dev Cert.KernelNormFwd.nD → PrngReg), Pre_KernelNormFwd m →
    θ_run (Cert.KernelNormFwd.defs (F := Bits)) (onTc (τ := Cert.KernelNormFwd.τ) (Cert.KernelNormFwd.main (F := Bits))) ⟨m, fun _ => 0, g⟩ (fun r => (∀ c : Dev Cert.KernelNormFwd.nD,
      r.2.mem ((c.tc : Thread Cert.KernelNormFwd.nD Cert.KernelNormFwd.τ).loc Cert.KernelNormFwd.main_arg0) = m ((c.tc : Thread Cert.KernelNormFwd.nD Cert.KernelNormFwd.τ).loc Cert.KernelNormFwd.main_arg0)
      ∧ r.2.mem ((c.tc : Thread Cert.KernelNormFwd.nD Cert.KernelNormFwd.τ).loc Cert.KernelNormFwd.main_arg1) = m ((c.tc : Thread Cert.KernelNormFwd.nD Cert.KernelNormFwd.τ).loc Cert.KernelNormFwd.main_arg1))
      ∧ r.2.sem = fun _ => 0)

def quiescent_KernelNormFwdIdeal [hKernelNormFwdIdeal : Cert.KernelNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg), Pre_KernelNormFwdIdeal m →
    θ_run (Cert.KernelNormFwdIdeal.defs (F := Ideal)) (onTc (τ := Cert.KernelNormFwdIdeal.τ) (Cert.KernelNormFwdIdeal.main (F := Ideal))) ⟨m, fun _ => 0, g⟩ (fun r => (∀ c : Dev Cert.KernelNormFwdIdeal.nD,
      r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
      ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1))
      ∧ r.2.sem = fun _ => 0)

def quiescent_ReferenceNormFwdIdeal [hReferenceNormFwdIdeal : Cert.ReferenceNormFwdIdeal.Facts] : Prop :=
  ∀ (m : (ℓ : Loc Cert.ReferenceNormFwdIdeal.nD Cert.ReferenceNormFwdIdeal.τ Cert.ReferenceNormFwdIdeal.sig) → Buf (Elt Ideal) ℓ) (g : Dev Cert.ReferenceNormFwdIdeal.nD → PrngReg), Pre_ReferenceNormFwdIdeal m →
    θ_run (Cert.ReferenceNormFwdIdeal.defs (F := Ideal)) (onTc (τ := Cert.ReferenceNormFwdIdeal.τ) (Cert.ReferenceNormFwdIdeal.main (F := Ideal))) ⟨m, fun _ => 0, g⟩ (fun r => (∀ c : Dev Cert.ReferenceNormFwdIdeal.nD,
      r.2.mem ((c.tc : Thread Cert.ReferenceNormFwdIdeal.nD Cert.ReferenceNormFwdIdeal.τ).loc Cert.ReferenceNormFwdIdeal.main_arg0) = m ((c.tc : Thread Cert.ReferenceNormFwdIdeal.nD Cert.ReferenceNormFwdIdeal.τ).loc Cert.ReferenceNormFwdIdeal.main_arg0)
      ∧ r.2.mem ((c.tc : Thread Cert.ReferenceNormFwdIdeal.nD Cert.ReferenceNormFwdIdeal.τ).loc Cert.ReferenceNormFwdIdeal.main_arg1) = m ((c.tc : Thread Cert.ReferenceNormFwdIdeal.nD Cert.ReferenceNormFwdIdeal.τ).loc Cert.ReferenceNormFwdIdeal.main_arg1))
      ∧ r.2.sem = fun _ => 0)

def quiescent_KernelMixFwd [hKernelMixFwd : Cert.KernelMixFwd.Facts] : Prop :=
  ∀ (m : (ℓ : Loc Cert.KernelMixFwd.nD Cert.KernelMixFwd.τ Cert.KernelMixFwd.sig) → Buf (Elt Bits) ℓ) (g : Dev Cert.KernelMixFwd.nD → PrngReg), Pre_KernelMixFwd m →
    θ_run (Cert.KernelMixFwd.defs (F := Bits)) (onTc (τ := Cert.KernelMixFwd.τ) (Cert.KernelMixFwd.main (F := Bits))) ⟨m, fun _ => 0, g⟩ (fun r => (∀ c : Dev Cert.KernelMixFwd.nD,
      r.2.mem ((c.tc : Thread Cert.KernelMixFwd.nD Cert.KernelMixFwd.τ).loc Cert.KernelMixFwd.main_arg0) = m ((c.tc : Thread Cert.KernelMixFwd.nD Cert.KernelMixFwd.τ).loc Cert.KernelMixFwd.main_arg0)
      ∧ r.2.mem ((c.tc : Thread Cert.KernelMixFwd.nD Cert.KernelMixFwd.τ).loc Cert.KernelMixFwd.main_arg1) = m ((c.tc : Thread Cert.KernelMixFwd.nD Cert.KernelMixFwd.τ).loc Cert.KernelMixFwd.main_arg1)
      ∧ r.2.mem ((c.tc : Thread Cert.KernelMixFwd.nD Cert.KernelMixFwd.τ).loc Cert.KernelMixFwd.main_arg2) = m ((c.tc : Thread Cert.KernelMixFwd.nD Cert.KernelMixFwd.τ).loc Cert.KernelMixFwd.main_arg2)
      ∧ r.2.mem ((c.tc : Thread Cert.KernelMixFwd.nD Cert.KernelMixFwd.τ).loc Cert.KernelMixFwd.main_arg3) = m ((c.tc : Thread Cert.KernelMixFwd.nD Cert.KernelMixFwd.τ).loc Cert.KernelMixFwd.main_arg3))
      ∧ r.2.sem = fun _ => 0)

def quiescent_KernelMixFwdIdeal [hKernelMixFwdIdeal : Cert.KernelMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg), Pre_KernelMixFwdIdeal m →
    θ_run (Cert.KernelMixFwdIdeal.defs (F := Ideal)) (onTc (τ := Cert.KernelMixFwdIdeal.τ) (Cert.KernelMixFwdIdeal.main (F := Ideal))) ⟨m, fun _ => 0, g⟩ (fun r => (∀ c : Dev Cert.KernelMixFwdIdeal.nD,
      r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
      ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
      ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
      ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3))
      ∧ r.2.sem = fun _ => 0)

def quiescent_ReferenceMixFwdIdeal [hReferenceMixFwdIdeal : Cert.ReferenceMixFwdIdeal.Facts] : Prop :=
  ∀ (m : (ℓ : Loc Cert.ReferenceMixFwdIdeal.nD Cert.ReferenceMixFwdIdeal.τ Cert.ReferenceMixFwdIdeal.sig) → Buf (Elt Ideal) ℓ) (g : Dev Cert.ReferenceMixFwdIdeal.nD → PrngReg), Pre_ReferenceMixFwdIdeal m →
    θ_run (Cert.ReferenceMixFwdIdeal.defs (F := Ideal)) (onTc (τ := Cert.ReferenceMixFwdIdeal.τ) (Cert.ReferenceMixFwdIdeal.main (F := Ideal))) ⟨m, fun _ => 0, g⟩ (fun r => (∀ c : Dev Cert.ReferenceMixFwdIdeal.nD,
      r.2.mem ((c.tc : Thread Cert.ReferenceMixFwdIdeal.nD Cert.ReferenceMixFwdIdeal.τ).loc Cert.ReferenceMixFwdIdeal.main_arg0) = m ((c.tc : Thread Cert.ReferenceMixFwdIdeal.nD Cert.ReferenceMixFwdIdeal.τ).loc Cert.ReferenceMixFwdIdeal.main_arg0)
      ∧ r.2.mem ((c.tc : Thread Cert.ReferenceMixFwdIdeal.nD Cert.ReferenceMixFwdIdeal.τ).loc Cert.ReferenceMixFwdIdeal.main_arg1) = m ((c.tc : Thread Cert.ReferenceMixFwdIdeal.nD Cert.ReferenceMixFwdIdeal.τ).loc Cert.ReferenceMixFwdIdeal.main_arg1)
      ∧ r.2.mem ((c.tc : Thread Cert.ReferenceMixFwdIdeal.nD Cert.ReferenceMixFwdIdeal.τ).loc Cert.ReferenceMixFwdIdeal.main_arg2) = m ((c.tc : Thread Cert.ReferenceMixFwdIdeal.nD Cert.ReferenceMixFwdIdeal.τ).loc Cert.ReferenceMixFwdIdeal.main_arg2)
      ∧ r.2.mem ((c.tc : Thread Cert.ReferenceMixFwdIdeal.nD Cert.ReferenceMixFwdIdeal.τ).loc Cert.ReferenceMixFwdIdeal.main_arg3) = m ((c.tc : Thread Cert.ReferenceMixFwdIdeal.nD Cert.ReferenceMixFwdIdeal.τ).loc Cert.ReferenceMixFwdIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelBiasA [hKernelBiasA : Cert.KernelBiasA.Facts] : Prop :=
  ∀ (m : (ℓ : Loc Cert.KernelBiasA.nD Cert.KernelBiasA.τ Cert.KernelBiasA.sig) → Buf (Elt Bits) ℓ) (g : Dev Cert.KernelBiasA.nD → PrngReg), Pre_KernelBiasA m →
    θ_run (Cert.KernelBiasA.defs (F := Bits)) (onTc (τ := Cert.KernelBiasA.τ) (Cert.KernelBiasA.main (F := Bits))) ⟨m, fun _ => 0, g⟩ (fun r => (∀ c : Dev Cert.KernelBiasA.nD,
      r.2.mem ((c.tc : Thread Cert.KernelBiasA.nD Cert.KernelBiasA.τ).loc Cert.KernelBiasA.main_arg0) = m ((c.tc : Thread Cert.KernelBiasA.nD Cert.KernelBiasA.τ).loc Cert.KernelBiasA.main_arg0)
      ∧ r.2.mem ((c.tc : Thread Cert.KernelBiasA.nD Cert.KernelBiasA.τ).loc Cert.KernelBiasA.main_arg1) = m ((c.tc : Thread Cert.KernelBiasA.nD Cert.KernelBiasA.τ).loc Cert.KernelBiasA.main_arg1))
      ∧ r.2.sem = fun _ => 0)

def quiescent_KernelBiasAIdeal [hKernelBiasAIdeal : Cert.KernelBiasAIdeal.Facts] : Prop :=
  ∀ (m : (ℓ : Loc Cert.KernelBiasAIdeal.nD Cert.KernelBiasAIdeal.τ Cert.KernelBiasAIdeal.sig) → Buf (Elt Ideal) ℓ) (g : Dev Cert.KernelBiasAIdeal.nD → PrngReg), Pre_KernelBiasAIdeal m →
    θ_run (Cert.KernelBiasAIdeal.defs (F := Ideal)) (onTc (τ := Cert.KernelBiasAIdeal.τ) (Cert.KernelBiasAIdeal.main (F := Ideal))) ⟨m, fun _ => 0, g⟩ (fun r => (∀ c : Dev Cert.KernelBiasAIdeal.nD,
      r.2.mem ((c.tc : Thread Cert.KernelBiasAIdeal.nD Cert.KernelBiasAIdeal.τ).loc Cert.KernelBiasAIdeal.main_arg0) = m ((c.tc : Thread Cert.KernelBiasAIdeal.nD Cert.KernelBiasAIdeal.τ).loc Cert.KernelBiasAIdeal.main_arg0)
      ∧ r.2.mem ((c.tc : Thread Cert.KernelBiasAIdeal.nD Cert.KernelBiasAIdeal.τ).loc Cert.KernelBiasAIdeal.main_arg1) = m ((c.tc : Thread Cert.KernelBiasAIdeal.nD Cert.KernelBiasAIdeal.τ).loc Cert.KernelBiasAIdeal.main_arg1))
      ∧ r.2.sem = fun _ => 0)

def quiescent_ReferenceBiasAIdeal [hReferenceBiasAIdeal : Cert.ReferenceBiasAIdeal.Facts] : Prop :=
  ∀ (m : (ℓ : Loc Cert.ReferenceBiasAIdeal.nD Cert.ReferenceBiasAIdeal.τ Cert.ReferenceBiasAIdeal.sig) → Buf (Elt Ideal) ℓ) (g : Dev Cert.ReferenceBiasAIdeal.nD → PrngReg), Pre_ReferenceBiasAIdeal m →
    θ_run (Cert.ReferenceBiasAIdeal.defs (F := Ideal)) (onTc (τ := Cert.ReferenceBiasAIdeal.τ) (Cert.ReferenceBiasAIdeal.main (F := Ideal))) ⟨m, fun _ => 0, g⟩ (fun r => (∀ c : Dev Cert.ReferenceBiasAIdeal.nD,
      r.2.mem ((c.tc : Thread Cert.ReferenceBiasAIdeal.nD Cert.ReferenceBiasAIdeal.τ).loc Cert.ReferenceBiasAIdeal.main_arg0) = m ((c.tc : Thread Cert.ReferenceBiasAIdeal.nD Cert.ReferenceBiasAIdeal.τ).loc Cert.ReferenceBiasAIdeal.main_arg0)
      ∧ r.2.mem ((c.tc : Thread Cert.ReferenceBiasAIdeal.nD Cert.ReferenceBiasAIdeal.τ).loc Cert.ReferenceBiasAIdeal.main_arg1) = m ((c.tc : Thread Cert.ReferenceBiasAIdeal.nD Cert.ReferenceBiasAIdeal.τ).loc Cert.ReferenceBiasAIdeal.main_arg1))
      ∧ r.2.sem = fun _ => 0)

def quiescent_KernelBiasC [hKernelBiasC : Cert.KernelBiasC.Facts] : Prop :=
  ∀ (m : (ℓ : Loc Cert.KernelBiasC.nD Cert.KernelBiasC.τ Cert.KernelBiasC.sig) → Buf (Elt Bits) ℓ) (g : Dev Cert.KernelBiasC.nD → PrngReg), Pre_KernelBiasC m →
    θ_run (Cert.KernelBiasC.defs (F := Bits)) (onTc (τ := Cert.KernelBiasC.τ) (Cert.KernelBiasC.main (F := Bits))) ⟨m, fun _ => 0, g⟩ (fun r => (∀ c : Dev Cert.KernelBiasC.nD,
      r.2.mem ((c.tc : Thread Cert.KernelBiasC.nD Cert.KernelBiasC.τ).loc Cert.KernelBiasC.main_arg0) = m ((c.tc : Thread Cert.KernelBiasC.nD Cert.KernelBiasC.τ).loc Cert.KernelBiasC.main_arg0)
      ∧ r.2.mem ((c.tc : Thread Cert.KernelBiasC.nD Cert.KernelBiasC.τ).loc Cert.KernelBiasC.main_arg1) = m ((c.tc : Thread Cert.KernelBiasC.nD Cert.KernelBiasC.τ).loc Cert.KernelBiasC.main_arg1))
      ∧ r.2.sem = fun _ => 0)

def quiescent_KernelBiasCIdeal [hKernelBiasCIdeal : Cert.KernelBiasCIdeal.Facts] : Prop :=
  ∀ (m : (ℓ : Loc Cert.KernelBiasCIdeal.nD Cert.KernelBiasCIdeal.τ Cert.KernelBiasCIdeal.sig) → Buf (Elt Ideal) ℓ) (g : Dev Cert.KernelBiasCIdeal.nD → PrngReg), Pre_KernelBiasCIdeal m →
    θ_run (Cert.KernelBiasCIdeal.defs (F := Ideal)) (onTc (τ := Cert.KernelBiasCIdeal.τ) (Cert.KernelBiasCIdeal.main (F := Ideal))) ⟨m, fun _ => 0, g⟩ (fun r => (∀ c : Dev Cert.KernelBiasCIdeal.nD,
      r.2.mem ((c.tc : Thread Cert.KernelBiasCIdeal.nD Cert.KernelBiasCIdeal.τ).loc Cert.KernelBiasCIdeal.main_arg0) = m ((c.tc : Thread Cert.KernelBiasCIdeal.nD Cert.KernelBiasCIdeal.τ).loc Cert.KernelBiasCIdeal.main_arg0)
      ∧ r.2.mem ((c.tc : Thread Cert.KernelBiasCIdeal.nD Cert.KernelBiasCIdeal.τ).loc Cert.KernelBiasCIdeal.main_arg1) = m ((c.tc : Thread Cert.KernelBiasCIdeal.nD Cert.KernelBiasCIdeal.τ).loc Cert.KernelBiasCIdeal.main_arg1))
      ∧ r.2.sem = fun _ => 0)

def quiescent_ReferenceBiasCIdeal [hReferenceBiasCIdeal : Cert.ReferenceBiasCIdeal.Facts] : Prop :=
  ∀ (m : (ℓ : Loc Cert.ReferenceBiasCIdeal.nD Cert.ReferenceBiasCIdeal.τ Cert.ReferenceBiasCIdeal.sig) → Buf (Elt Ideal) ℓ) (g : Dev Cert.ReferenceBiasCIdeal.nD → PrngReg), Pre_ReferenceBiasCIdeal m →
    θ_run (Cert.ReferenceBiasCIdeal.defs (F := Ideal)) (onTc (τ := Cert.ReferenceBiasCIdeal.τ) (Cert.ReferenceBiasCIdeal.main (F := Ideal))) ⟨m, fun _ => 0, g⟩ (fun r => (∀ c : Dev Cert.ReferenceBiasCIdeal.nD,
      r.2.mem ((c.tc : Thread Cert.ReferenceBiasCIdeal.nD Cert.ReferenceBiasCIdeal.τ).loc Cert.ReferenceBiasCIdeal.main_arg0) = m ((c.tc : Thread Cert.ReferenceBiasCIdeal.nD Cert.ReferenceBiasCIdeal.τ).loc Cert.ReferenceBiasCIdeal.main_arg0)
      ∧ r.2.mem ((c.tc : Thread Cert.ReferenceBiasCIdeal.nD Cert.ReferenceBiasCIdeal.τ).loc Cert.ReferenceBiasCIdeal.main_arg1) = m ((c.tc : Thread Cert.ReferenceBiasCIdeal.nD Cert.ReferenceBiasCIdeal.τ).loc Cert.ReferenceBiasCIdeal.main_arg1))
      ∧ r.2.sem = fun _ => 0)

def quiescent_KernelUpdateIn [hKernelUpdateIn : Cert.KernelUpdateIn.Facts] : Prop :=
  ∀ (m : (ℓ : Loc Cert.KernelUpdateIn.nD Cert.KernelUpdateIn.τ Cert.KernelUpdateIn.sig) → Buf (Elt Bits) ℓ) (g : Dev Cert.KernelUpdateIn.nD → PrngReg), Pre_KernelUpdateIn m →
    θ_run (Cert.KernelUpdateIn.defs (F := Bits)) (onTc (τ := Cert.KernelUpdateIn.τ) (Cert.KernelUpdateIn.main (F := Bits))) ⟨m, fun _ => 0, g⟩ (fun r => (∀ c : Dev Cert.KernelUpdateIn.nD,
      r.2.mem ((c.tc : Thread Cert.KernelUpdateIn.nD Cert.KernelUpdateIn.τ).loc Cert.KernelUpdateIn.main_arg0) = m ((c.tc : Thread Cert.KernelUpdateIn.nD Cert.KernelUpdateIn.τ).loc Cert.KernelUpdateIn.main_arg0)
      ∧ r.2.mem ((c.tc : Thread Cert.KernelUpdateIn.nD Cert.KernelUpdateIn.τ).loc Cert.KernelUpdateIn.main_arg1) = m ((c.tc : Thread Cert.KernelUpdateIn.nD Cert.KernelUpdateIn.τ).loc Cert.KernelUpdateIn.main_arg1)
      ∧ r.2.mem ((c.tc : Thread Cert.KernelUpdateIn.nD Cert.KernelUpdateIn.τ).loc Cert.KernelUpdateIn.main_arg2) = m ((c.tc : Thread Cert.KernelUpdateIn.nD Cert.KernelUpdateIn.τ).loc Cert.KernelUpdateIn.main_arg2)
      ∧ r.2.mem ((c.tc : Thread Cert.KernelUpdateIn.nD Cert.KernelUpdateIn.τ).loc Cert.KernelUpdateIn.main_arg3) = m ((c.tc : Thread Cert.KernelUpdateIn.nD Cert.KernelUpdateIn.τ).loc Cert.KernelUpdateIn.main_arg3)
      ∧ r.2.mem ((c.tc : Thread Cert.KernelUpdateIn.nD Cert.KernelUpdateIn.τ).loc Cert.KernelUpdateIn.main_arg4) = m ((c.tc : Thread Cert.KernelUpdateIn.nD Cert.KernelUpdateIn.τ).loc Cert.KernelUpdateIn.main_arg4)
      ∧ r.2.mem ((c.tc : Thread Cert.KernelUpdateIn.nD Cert.KernelUpdateIn.τ).loc Cert.KernelUpdateIn.main_arg5) = m ((c.tc : Thread Cert.KernelUpdateIn.nD Cert.KernelUpdateIn.τ).loc Cert.KernelUpdateIn.main_arg5)
      ∧ r.2.mem ((c.tc : Thread Cert.KernelUpdateIn.nD Cert.KernelUpdateIn.τ).loc Cert.KernelUpdateIn.main_arg6) = m ((c.tc : Thread Cert.KernelUpdateIn.nD Cert.KernelUpdateIn.τ).loc Cert.KernelUpdateIn.main_arg6)
      ∧ r.2.mem ((c.tc : Thread Cert.KernelUpdateIn.nD Cert.KernelUpdateIn.τ).loc Cert.KernelUpdateIn.main_arg7) = m ((c.tc : Thread Cert.KernelUpdateIn.nD Cert.KernelUpdateIn.τ).loc Cert.KernelUpdateIn.main_arg7))
      ∧ r.2.sem = fun _ => 0)

def quiescent_KernelUpdateInIdeal [hKernelUpdateInIdeal : Cert.KernelUpdateInIdeal.Facts] : Prop :=
  ∀ (m : (ℓ : Loc Cert.KernelUpdateInIdeal.nD Cert.KernelUpdateInIdeal.τ Cert.KernelUpdateInIdeal.sig) → Buf (Elt Ideal) ℓ) (g : Dev Cert.KernelUpdateInIdeal.nD → PrngReg), Pre_KernelUpdateInIdeal m →
    θ_run (Cert.KernelUpdateInIdeal.defs (F := Ideal)) (onTc (τ := Cert.KernelUpdateInIdeal.τ) (Cert.KernelUpdateInIdeal.main (F := Ideal))) ⟨m, fun _ => 0, g⟩ (fun r => (∀ c : Dev Cert.KernelUpdateInIdeal.nD,
      r.2.mem ((c.tc : Thread Cert.KernelUpdateInIdeal.nD Cert.KernelUpdateInIdeal.τ).loc Cert.KernelUpdateInIdeal.main_arg0) = m ((c.tc : Thread Cert.KernelUpdateInIdeal.nD Cert.KernelUpdateInIdeal.τ).loc Cert.KernelUpdateInIdeal.main_arg0)
      ∧ r.2.mem ((c.tc : Thread Cert.KernelUpdateInIdeal.nD Cert.KernelUpdateInIdeal.τ).loc Cert.KernelUpdateInIdeal.main_arg1) = m ((c.tc : Thread Cert.KernelUpdateInIdeal.nD Cert.KernelUpdateInIdeal.τ).loc Cert.KernelUpdateInIdeal.main_arg1)
      ∧ r.2.mem ((c.tc : Thread Cert.KernelUpdateInIdeal.nD Cert.KernelUpdateInIdeal.τ).loc Cert.KernelUpdateInIdeal.main_arg2) = m ((c.tc : Thread Cert.KernelUpdateInIdeal.nD Cert.KernelUpdateInIdeal.τ).loc Cert.KernelUpdateInIdeal.main_arg2)
      ∧ r.2.mem ((c.tc : Thread Cert.KernelUpdateInIdeal.nD Cert.KernelUpdateInIdeal.τ).loc Cert.KernelUpdateInIdeal.main_arg3) = m ((c.tc : Thread Cert.KernelUpdateInIdeal.nD Cert.KernelUpdateInIdeal.τ).loc Cert.KernelUpdateInIdeal.main_arg3)
      ∧ r.2.mem ((c.tc : Thread Cert.KernelUpdateInIdeal.nD Cert.KernelUpdateInIdeal.τ).loc Cert.KernelUpdateInIdeal.main_arg4) = m ((c.tc : Thread Cert.KernelUpdateInIdeal.nD Cert.KernelUpdateInIdeal.τ).loc Cert.KernelUpdateInIdeal.main_arg4)
      ∧ r.2.mem ((c.tc : Thread Cert.KernelUpdateInIdeal.nD Cert.KernelUpdateInIdeal.τ).loc Cert.KernelUpdateInIdeal.main_arg5) = m ((c.tc : Thread Cert.KernelUpdateInIdeal.nD Cert.KernelUpdateInIdeal.τ).loc Cert.KernelUpdateInIdeal.main_arg5)
      ∧ r.2.mem ((c.tc : Thread Cert.KernelUpdateInIdeal.nD Cert.KernelUpdateInIdeal.τ).loc Cert.KernelUpdateInIdeal.main_arg6) = m ((c.tc : Thread Cert.KernelUpdateInIdeal.nD Cert.KernelUpdateInIdeal.τ).loc Cert.KernelUpdateInIdeal.main_arg6)
      ∧ r.2.mem ((c.tc : Thread Cert.KernelUpdateInIdeal.nD Cert.KernelUpdateInIdeal.τ).loc Cert.KernelUpdateInIdeal.main_arg7) = m ((c.tc : Thread Cert.KernelUpdateInIdeal.nD Cert.KernelUpdateInIdeal.τ).loc Cert.KernelUpdateInIdeal.main_arg7))
      ∧ r.2.sem = fun _ => 0)

def quiescent_ReferenceUpdateInIdeal [hReferenceUpdateInIdeal : Cert.ReferenceUpdateInIdeal.Facts] : Prop :=
  ∀ (m : (ℓ : Loc Cert.ReferenceUpdateInIdeal.nD Cert.ReferenceUpdateInIdeal.τ Cert.ReferenceUpdateInIdeal.sig) → Buf (Elt Ideal) ℓ) (g : Dev Cert.ReferenceUpdateInIdeal.nD → PrngReg), Pre_ReferenceUpdateInIdeal m →
    θ_run (Cert.ReferenceUpdateInIdeal.defs (F := Ideal)) (onTc (τ := Cert.ReferenceUpdateInIdeal.τ) (Cert.ReferenceUpdateInIdeal.main (F := Ideal))) ⟨m, fun _ => 0, g⟩ (fun r => (∀ c : Dev Cert.ReferenceUpdateInIdeal.nD,
      r.2.mem ((c.tc : Thread Cert.ReferenceUpdateInIdeal.nD Cert.ReferenceUpdateInIdeal.τ).loc Cert.ReferenceUpdateInIdeal.main_arg0) = m ((c.tc : Thread Cert.ReferenceUpdateInIdeal.nD Cert.ReferenceUpdateInIdeal.τ).loc Cert.ReferenceUpdateInIdeal.main_arg0)
      ∧ r.2.mem ((c.tc : Thread Cert.ReferenceUpdateInIdeal.nD Cert.ReferenceUpdateInIdeal.τ).loc Cert.ReferenceUpdateInIdeal.main_arg1) = m ((c.tc : Thread Cert.ReferenceUpdateInIdeal.nD Cert.ReferenceUpdateInIdeal.τ).loc Cert.ReferenceUpdateInIdeal.main_arg1)
      ∧ r.2.mem ((c.tc : Thread Cert.ReferenceUpdateInIdeal.nD Cert.ReferenceUpdateInIdeal.τ).loc Cert.ReferenceUpdateInIdeal.main_arg2) = m ((c.tc : Thread Cert.ReferenceUpdateInIdeal.nD Cert.ReferenceUpdateInIdeal.τ).loc Cert.ReferenceUpdateInIdeal.main_arg2)
      ∧ r.2.mem ((c.tc : Thread Cert.ReferenceUpdateInIdeal.nD Cert.ReferenceUpdateInIdeal.τ).loc Cert.ReferenceUpdateInIdeal.main_arg3) = m ((c.tc : Thread Cert.ReferenceUpdateInIdeal.nD Cert.ReferenceUpdateInIdeal.τ).loc Cert.ReferenceUpdateInIdeal.main_arg3)
      ∧ r.2.mem ((c.tc : Thread Cert.ReferenceUpdateInIdeal.nD Cert.ReferenceUpdateInIdeal.τ).loc Cert.ReferenceUpdateInIdeal.main_arg4) = m ((c.tc : Thread Cert.ReferenceUpdateInIdeal.nD Cert.ReferenceUpdateInIdeal.τ).loc Cert.ReferenceUpdateInIdeal.main_arg4)
      ∧ r.2.mem ((c.tc : Thread Cert.ReferenceUpdateInIdeal.nD Cert.ReferenceUpdateInIdeal.τ).loc Cert.ReferenceUpdateInIdeal.main_arg5) = m ((c.tc : Thread Cert.ReferenceUpdateInIdeal.nD Cert.ReferenceUpdateInIdeal.τ).loc Cert.ReferenceUpdateInIdeal.main_arg5)
      ∧ r.2.mem ((c.tc : Thread Cert.ReferenceUpdateInIdeal.nD Cert.ReferenceUpdateInIdeal.τ).loc Cert.ReferenceUpdateInIdeal.main_arg6) = m ((c.tc : Thread Cert.ReferenceUpdateInIdeal.nD Cert.ReferenceUpdateInIdeal.τ).loc Cert.ReferenceUpdateInIdeal.main_arg6)
      ∧ r.2.mem ((c.tc : Thread Cert.ReferenceUpdateInIdeal.nD Cert.ReferenceUpdateInIdeal.τ).loc Cert.ReferenceUpdateInIdeal.main_arg7) = m ((c.tc : Thread Cert.ReferenceUpdateInIdeal.nD Cert.ReferenceUpdateInIdeal.τ).loc Cert.ReferenceUpdateInIdeal.main_arg7))
      ∧ r.2.sem = fun _ => 0)

def quiescent_KernelUpdateOut [hKernelUpdateOut : Cert.KernelUpdateOut.Facts] : Prop :=
  ∀ (m : (ℓ : Loc Cert.KernelUpdateOut.nD Cert.KernelUpdateOut.τ Cert.KernelUpdateOut.sig) → Buf (Elt Bits) ℓ) (g : Dev Cert.KernelUpdateOut.nD → PrngReg), Pre_KernelUpdateOut m →
    θ_run (Cert.KernelUpdateOut.defs (F := Bits)) (onTc (τ := Cert.KernelUpdateOut.τ) (Cert.KernelUpdateOut.main (F := Bits))) ⟨m, fun _ => 0, g⟩ (fun r => (∀ c : Dev Cert.KernelUpdateOut.nD,
      r.2.mem ((c.tc : Thread Cert.KernelUpdateOut.nD Cert.KernelUpdateOut.τ).loc Cert.KernelUpdateOut.main_arg0) = m ((c.tc : Thread Cert.KernelUpdateOut.nD Cert.KernelUpdateOut.τ).loc Cert.KernelUpdateOut.main_arg0)
      ∧ r.2.mem ((c.tc : Thread Cert.KernelUpdateOut.nD Cert.KernelUpdateOut.τ).loc Cert.KernelUpdateOut.main_arg1) = m ((c.tc : Thread Cert.KernelUpdateOut.nD Cert.KernelUpdateOut.τ).loc Cert.KernelUpdateOut.main_arg1)
      ∧ r.2.mem ((c.tc : Thread Cert.KernelUpdateOut.nD Cert.KernelUpdateOut.τ).loc Cert.KernelUpdateOut.main_arg2) = m ((c.tc : Thread Cert.KernelUpdateOut.nD Cert.KernelUpdateOut.τ).loc Cert.KernelUpdateOut.main_arg2)
      ∧ r.2.mem ((c.tc : Thread Cert.KernelUpdateOut.nD Cert.KernelUpdateOut.τ).loc Cert.KernelUpdateOut.main_arg3) = m ((c.tc : Thread Cert.KernelUpdateOut.nD Cert.KernelUpdateOut.τ).loc Cert.KernelUpdateOut.main_arg3)
      ∧ r.2.mem ((c.tc : Thread Cert.KernelUpdateOut.nD Cert.KernelUpdateOut.τ).loc Cert.KernelUpdateOut.main_arg4) = m ((c.tc : Thread Cert.KernelUpdateOut.nD Cert.KernelUpdateOut.τ).loc Cert.KernelUpdateOut.main_arg4)
      ∧ r.2.mem ((c.tc : Thread Cert.KernelUpdateOut.nD Cert.KernelUpdateOut.τ).loc Cert.KernelUpdateOut.main_arg5) = m ((c.tc : Thread Cert.KernelUpdateOut.nD Cert.KernelUpdateOut.τ).loc Cert.KernelUpdateOut.main_arg5)
      ∧ r.2.mem ((c.tc : Thread Cert.KernelUpdateOut.nD Cert.KernelUpdateOut.τ).loc Cert.KernelUpdateOut.main_arg6) = m ((c.tc : Thread Cert.KernelUpdateOut.nD Cert.KernelUpdateOut.τ).loc Cert.KernelUpdateOut.main_arg6)
      ∧ r.2.mem ((c.tc : Thread Cert.KernelUpdateOut.nD Cert.KernelUpdateOut.τ).loc Cert.KernelUpdateOut.main_arg7) = m ((c.tc : Thread Cert.KernelUpdateOut.nD Cert.KernelUpdateOut.τ).loc Cert.KernelUpdateOut.main_arg7))
      ∧ r.2.sem = fun _ => 0)

def quiescent_KernelUpdateOutIdeal [hKernelUpdateOutIdeal : Cert.KernelUpdateOutIdeal.Facts] : Prop :=
  ∀ (m : (ℓ : Loc Cert.KernelUpdateOutIdeal.nD Cert.KernelUpdateOutIdeal.τ Cert.KernelUpdateOutIdeal.sig) → Buf (Elt Ideal) ℓ) (g : Dev Cert.KernelUpdateOutIdeal.nD → PrngReg), Pre_KernelUpdateOutIdeal m →
    θ_run (Cert.KernelUpdateOutIdeal.defs (F := Ideal)) (onTc (τ := Cert.KernelUpdateOutIdeal.τ) (Cert.KernelUpdateOutIdeal.main (F := Ideal))) ⟨m, fun _ => 0, g⟩ (fun r => (∀ c : Dev Cert.KernelUpdateOutIdeal.nD,
      r.2.mem ((c.tc : Thread Cert.KernelUpdateOutIdeal.nD Cert.KernelUpdateOutIdeal.τ).loc Cert.KernelUpdateOutIdeal.main_arg0) = m ((c.tc : Thread Cert.KernelUpdateOutIdeal.nD Cert.KernelUpdateOutIdeal.τ).loc Cert.KernelUpdateOutIdeal.main_arg0)
      ∧ r.2.mem ((c.tc : Thread Cert.KernelUpdateOutIdeal.nD Cert.KernelUpdateOutIdeal.τ).loc Cert.KernelUpdateOutIdeal.main_arg1) = m ((c.tc : Thread Cert.KernelUpdateOutIdeal.nD Cert.KernelUpdateOutIdeal.τ).loc Cert.KernelUpdateOutIdeal.main_arg1)
      ∧ r.2.mem ((c.tc : Thread Cert.KernelUpdateOutIdeal.nD Cert.KernelUpdateOutIdeal.τ).loc Cert.KernelUpdateOutIdeal.main_arg2) = m ((c.tc : Thread Cert.KernelUpdateOutIdeal.nD Cert.KernelUpdateOutIdeal.τ).loc Cert.KernelUpdateOutIdeal.main_arg2)
      ∧ r.2.mem ((c.tc : Thread Cert.KernelUpdateOutIdeal.nD Cert.KernelUpdateOutIdeal.τ).loc Cert.KernelUpdateOutIdeal.main_arg3) = m ((c.tc : Thread Cert.KernelUpdateOutIdeal.nD Cert.KernelUpdateOutIdeal.τ).loc Cert.KernelUpdateOutIdeal.main_arg3)
      ∧ r.2.mem ((c.tc : Thread Cert.KernelUpdateOutIdeal.nD Cert.KernelUpdateOutIdeal.τ).loc Cert.KernelUpdateOutIdeal.main_arg4) = m ((c.tc : Thread Cert.KernelUpdateOutIdeal.nD Cert.KernelUpdateOutIdeal.τ).loc Cert.KernelUpdateOutIdeal.main_arg4)
      ∧ r.2.mem ((c.tc : Thread Cert.KernelUpdateOutIdeal.nD Cert.KernelUpdateOutIdeal.τ).loc Cert.KernelUpdateOutIdeal.main_arg5) = m ((c.tc : Thread Cert.KernelUpdateOutIdeal.nD Cert.KernelUpdateOutIdeal.τ).loc Cert.KernelUpdateOutIdeal.main_arg5)
      ∧ r.2.mem ((c.tc : Thread Cert.KernelUpdateOutIdeal.nD Cert.KernelUpdateOutIdeal.τ).loc Cert.KernelUpdateOutIdeal.main_arg6) = m ((c.tc : Thread Cert.KernelUpdateOutIdeal.nD Cert.KernelUpdateOutIdeal.τ).loc Cert.KernelUpdateOutIdeal.main_arg6)
      ∧ r.2.mem ((c.tc : Thread Cert.KernelUpdateOutIdeal.nD Cert.KernelUpdateOutIdeal.τ).loc Cert.KernelUpdateOutIdeal.main_arg7) = m ((c.tc : Thread Cert.KernelUpdateOutIdeal.nD Cert.KernelUpdateOutIdeal.τ).loc Cert.KernelUpdateOutIdeal.main_arg7))
      ∧ r.2.sem = fun _ => 0)

def quiescent_ReferenceUpdateOutIdeal [hReferenceUpdateOutIdeal : Cert.ReferenceUpdateOutIdeal.Facts] : Prop :=
  ∀ (m : (ℓ : Loc Cert.ReferenceUpdateOutIdeal.nD Cert.ReferenceUpdateOutIdeal.τ Cert.ReferenceUpdateOutIdeal.sig) → Buf (Elt Ideal) ℓ) (g : Dev Cert.ReferenceUpdateOutIdeal.nD → PrngReg), Pre_ReferenceUpdateOutIdeal m →
    θ_run (Cert.ReferenceUpdateOutIdeal.defs (F := Ideal)) (onTc (τ := Cert.ReferenceUpdateOutIdeal.τ) (Cert.ReferenceUpdateOutIdeal.main (F := Ideal))) ⟨m, fun _ => 0, g⟩ (fun r => (∀ c : Dev Cert.ReferenceUpdateOutIdeal.nD,
      r.2.mem ((c.tc : Thread Cert.ReferenceUpdateOutIdeal.nD Cert.ReferenceUpdateOutIdeal.τ).loc Cert.ReferenceUpdateOutIdeal.main_arg0) = m ((c.tc : Thread Cert.ReferenceUpdateOutIdeal.nD Cert.ReferenceUpdateOutIdeal.τ).loc Cert.ReferenceUpdateOutIdeal.main_arg0)
      ∧ r.2.mem ((c.tc : Thread Cert.ReferenceUpdateOutIdeal.nD Cert.ReferenceUpdateOutIdeal.τ).loc Cert.ReferenceUpdateOutIdeal.main_arg1) = m ((c.tc : Thread Cert.ReferenceUpdateOutIdeal.nD Cert.ReferenceUpdateOutIdeal.τ).loc Cert.ReferenceUpdateOutIdeal.main_arg1)
      ∧ r.2.mem ((c.tc : Thread Cert.ReferenceUpdateOutIdeal.nD Cert.ReferenceUpdateOutIdeal.τ).loc Cert.ReferenceUpdateOutIdeal.main_arg2) = m ((c.tc : Thread Cert.ReferenceUpdateOutIdeal.nD Cert.ReferenceUpdateOutIdeal.τ).loc Cert.ReferenceUpdateOutIdeal.main_arg2)
      ∧ r.2.mem ((c.tc : Thread Cert.ReferenceUpdateOutIdeal.nD Cert.ReferenceUpdateOutIdeal.τ).loc Cert.ReferenceUpdateOutIdeal.main_arg3) = m ((c.tc : Thread Cert.ReferenceUpdateOutIdeal.nD Cert.ReferenceUpdateOutIdeal.τ).loc Cert.ReferenceUpdateOutIdeal.main_arg3)
      ∧ r.2.mem ((c.tc : Thread Cert.ReferenceUpdateOutIdeal.nD Cert.ReferenceUpdateOutIdeal.τ).loc Cert.ReferenceUpdateOutIdeal.main_arg4) = m ((c.tc : Thread Cert.ReferenceUpdateOutIdeal.nD Cert.ReferenceUpdateOutIdeal.τ).loc Cert.ReferenceUpdateOutIdeal.main_arg4)
      ∧ r.2.mem ((c.tc : Thread Cert.ReferenceUpdateOutIdeal.nD Cert.ReferenceUpdateOutIdeal.τ).loc Cert.ReferenceUpdateOutIdeal.main_arg5) = m ((c.tc : Thread Cert.ReferenceUpdateOutIdeal.nD Cert.ReferenceUpdateOutIdeal.τ).loc Cert.ReferenceUpdateOutIdeal.main_arg5)
      ∧ r.2.mem ((c.tc : Thread Cert.ReferenceUpdateOutIdeal.nD Cert.ReferenceUpdateOutIdeal.τ).loc Cert.ReferenceUpdateOutIdeal.main_arg6) = m ((c.tc : Thread Cert.ReferenceUpdateOutIdeal.nD Cert.ReferenceUpdateOutIdeal.τ).loc Cert.ReferenceUpdateOutIdeal.main_arg6)
      ∧ r.2.mem ((c.tc : Thread Cert.ReferenceUpdateOutIdeal.nD Cert.ReferenceUpdateOutIdeal.τ).loc Cert.ReferenceUpdateOutIdeal.main_arg7) = m ((c.tc : Thread Cert.ReferenceUpdateOutIdeal.nD Cert.ReferenceUpdateOutIdeal.τ).loc Cert.ReferenceUpdateOutIdeal.main_arg7))
      ∧ r.2.sem = fun _ => 0)

def quiescent_KernelUpdateUp [hKernelUpdateUp : Cert.KernelUpdateUp.Facts] : Prop :=
  ∀ (m : (ℓ : Loc Cert.KernelUpdateUp.nD Cert.KernelUpdateUp.τ Cert.KernelUpdateUp.sig) → Buf (Elt Bits) ℓ) (g : Dev Cert.KernelUpdateUp.nD → PrngReg), Pre_KernelUpdateUp m →
    θ_run (Cert.KernelUpdateUp.defs (F := Bits)) (onTc (τ := Cert.KernelUpdateUp.τ) (Cert.KernelUpdateUp.main (F := Bits))) ⟨m, fun _ => 0, g⟩ (fun r => (∀ c : Dev Cert.KernelUpdateUp.nD,
      r.2.mem ((c.tc : Thread Cert.KernelUpdateUp.nD Cert.KernelUpdateUp.τ).loc Cert.KernelUpdateUp.main_arg0) = m ((c.tc : Thread Cert.KernelUpdateUp.nD Cert.KernelUpdateUp.τ).loc Cert.KernelUpdateUp.main_arg0)
      ∧ r.2.mem ((c.tc : Thread Cert.KernelUpdateUp.nD Cert.KernelUpdateUp.τ).loc Cert.KernelUpdateUp.main_arg1) = m ((c.tc : Thread Cert.KernelUpdateUp.nD Cert.KernelUpdateUp.τ).loc Cert.KernelUpdateUp.main_arg1)
      ∧ r.2.mem ((c.tc : Thread Cert.KernelUpdateUp.nD Cert.KernelUpdateUp.τ).loc Cert.KernelUpdateUp.main_arg2) = m ((c.tc : Thread Cert.KernelUpdateUp.nD Cert.KernelUpdateUp.τ).loc Cert.KernelUpdateUp.main_arg2)
      ∧ r.2.mem ((c.tc : Thread Cert.KernelUpdateUp.nD Cert.KernelUpdateUp.τ).loc Cert.KernelUpdateUp.main_arg3) = m ((c.tc : Thread Cert.KernelUpdateUp.nD Cert.KernelUpdateUp.τ).loc Cert.KernelUpdateUp.main_arg3)
      ∧ r.2.mem ((c.tc : Thread Cert.KernelUpdateUp.nD Cert.KernelUpdateUp.τ).loc Cert.KernelUpdateUp.main_arg4) = m ((c.tc : Thread Cert.KernelUpdateUp.nD Cert.KernelUpdateUp.τ).loc Cert.KernelUpdateUp.main_arg4)
      ∧ r.2.mem ((c.tc : Thread Cert.KernelUpdateUp.nD Cert.KernelUpdateUp.τ).loc Cert.KernelUpdateUp.main_arg5) = m ((c.tc : Thread Cert.KernelUpdateUp.nD Cert.KernelUpdateUp.τ).loc Cert.KernelUpdateUp.main_arg5)
      ∧ r.2.mem ((c.tc : Thread Cert.KernelUpdateUp.nD Cert.KernelUpdateUp.τ).loc Cert.KernelUpdateUp.main_arg6) = m ((c.tc : Thread Cert.KernelUpdateUp.nD Cert.KernelUpdateUp.τ).loc Cert.KernelUpdateUp.main_arg6)
      ∧ r.2.mem ((c.tc : Thread Cert.KernelUpdateUp.nD Cert.KernelUpdateUp.τ).loc Cert.KernelUpdateUp.main_arg7) = m ((c.tc : Thread Cert.KernelUpdateUp.nD Cert.KernelUpdateUp.τ).loc Cert.KernelUpdateUp.main_arg7))
      ∧ r.2.sem = fun _ => 0)

def quiescent_KernelUpdateUpIdeal [hKernelUpdateUpIdeal : Cert.KernelUpdateUpIdeal.Facts] : Prop :=
  ∀ (m : (ℓ : Loc Cert.KernelUpdateUpIdeal.nD Cert.KernelUpdateUpIdeal.τ Cert.KernelUpdateUpIdeal.sig) → Buf (Elt Ideal) ℓ) (g : Dev Cert.KernelUpdateUpIdeal.nD → PrngReg), Pre_KernelUpdateUpIdeal m →
    θ_run (Cert.KernelUpdateUpIdeal.defs (F := Ideal)) (onTc (τ := Cert.KernelUpdateUpIdeal.τ) (Cert.KernelUpdateUpIdeal.main (F := Ideal))) ⟨m, fun _ => 0, g⟩ (fun r => (∀ c : Dev Cert.KernelUpdateUpIdeal.nD,
      r.2.mem ((c.tc : Thread Cert.KernelUpdateUpIdeal.nD Cert.KernelUpdateUpIdeal.τ).loc Cert.KernelUpdateUpIdeal.main_arg0) = m ((c.tc : Thread Cert.KernelUpdateUpIdeal.nD Cert.KernelUpdateUpIdeal.τ).loc Cert.KernelUpdateUpIdeal.main_arg0)
      ∧ r.2.mem ((c.tc : Thread Cert.KernelUpdateUpIdeal.nD Cert.KernelUpdateUpIdeal.τ).loc Cert.KernelUpdateUpIdeal.main_arg1) = m ((c.tc : Thread Cert.KernelUpdateUpIdeal.nD Cert.KernelUpdateUpIdeal.τ).loc Cert.KernelUpdateUpIdeal.main_arg1)
      ∧ r.2.mem ((c.tc : Thread Cert.KernelUpdateUpIdeal.nD Cert.KernelUpdateUpIdeal.τ).loc Cert.KernelUpdateUpIdeal.main_arg2) = m ((c.tc : Thread Cert.KernelUpdateUpIdeal.nD Cert.KernelUpdateUpIdeal.τ).loc Cert.KernelUpdateUpIdeal.main_arg2)
      ∧ r.2.mem ((c.tc : Thread Cert.KernelUpdateUpIdeal.nD Cert.KernelUpdateUpIdeal.τ).loc Cert.KernelUpdateUpIdeal.main_arg3) = m ((c.tc : Thread Cert.KernelUpdateUpIdeal.nD Cert.KernelUpdateUpIdeal.τ).loc Cert.KernelUpdateUpIdeal.main_arg3)
      ∧ r.2.mem ((c.tc : Thread Cert.KernelUpdateUpIdeal.nD Cert.KernelUpdateUpIdeal.τ).loc Cert.KernelUpdateUpIdeal.main_arg4) = m ((c.tc : Thread Cert.KernelUpdateUpIdeal.nD Cert.KernelUpdateUpIdeal.τ).loc Cert.KernelUpdateUpIdeal.main_arg4)
      ∧ r.2.mem ((c.tc : Thread Cert.KernelUpdateUpIdeal.nD Cert.KernelUpdateUpIdeal.τ).loc Cert.KernelUpdateUpIdeal.main_arg5) = m ((c.tc : Thread Cert.KernelUpdateUpIdeal.nD Cert.KernelUpdateUpIdeal.τ).loc Cert.KernelUpdateUpIdeal.main_arg5)
      ∧ r.2.mem ((c.tc : Thread Cert.KernelUpdateUpIdeal.nD Cert.KernelUpdateUpIdeal.τ).loc Cert.KernelUpdateUpIdeal.main_arg6) = m ((c.tc : Thread Cert.KernelUpdateUpIdeal.nD Cert.KernelUpdateUpIdeal.τ).loc Cert.KernelUpdateUpIdeal.main_arg6)
      ∧ r.2.mem ((c.tc : Thread Cert.KernelUpdateUpIdeal.nD Cert.KernelUpdateUpIdeal.τ).loc Cert.KernelUpdateUpIdeal.main_arg7) = m ((c.tc : Thread Cert.KernelUpdateUpIdeal.nD Cert.KernelUpdateUpIdeal.τ).loc Cert.KernelUpdateUpIdeal.main_arg7))
      ∧ r.2.sem = fun _ => 0)

def quiescent_ReferenceUpdateUpIdeal [hReferenceUpdateUpIdeal : Cert.ReferenceUpdateUpIdeal.Facts] : Prop :=
  ∀ (m : (ℓ : Loc Cert.ReferenceUpdateUpIdeal.nD Cert.ReferenceUpdateUpIdeal.τ Cert.ReferenceUpdateUpIdeal.sig) → Buf (Elt Ideal) ℓ) (g : Dev Cert.ReferenceUpdateUpIdeal.nD → PrngReg), Pre_ReferenceUpdateUpIdeal m →
    θ_run (Cert.ReferenceUpdateUpIdeal.defs (F := Ideal)) (onTc (τ := Cert.ReferenceUpdateUpIdeal.τ) (Cert.ReferenceUpdateUpIdeal.main (F := Ideal))) ⟨m, fun _ => 0, g⟩ (fun r => (∀ c : Dev Cert.ReferenceUpdateUpIdeal.nD,
      r.2.mem ((c.tc : Thread Cert.ReferenceUpdateUpIdeal.nD Cert.ReferenceUpdateUpIdeal.τ).loc Cert.ReferenceUpdateUpIdeal.main_arg0) = m ((c.tc : Thread Cert.ReferenceUpdateUpIdeal.nD Cert.ReferenceUpdateUpIdeal.τ).loc Cert.ReferenceUpdateUpIdeal.main_arg0)
      ∧ r.2.mem ((c.tc : Thread Cert.ReferenceUpdateUpIdeal.nD Cert.ReferenceUpdateUpIdeal.τ).loc Cert.ReferenceUpdateUpIdeal.main_arg1) = m ((c.tc : Thread Cert.ReferenceUpdateUpIdeal.nD Cert.ReferenceUpdateUpIdeal.τ).loc Cert.ReferenceUpdateUpIdeal.main_arg1)
      ∧ r.2.mem ((c.tc : Thread Cert.ReferenceUpdateUpIdeal.nD Cert.ReferenceUpdateUpIdeal.τ).loc Cert.ReferenceUpdateUpIdeal.main_arg2) = m ((c.tc : Thread Cert.ReferenceUpdateUpIdeal.nD Cert.ReferenceUpdateUpIdeal.τ).loc Cert.ReferenceUpdateUpIdeal.main_arg2)
      ∧ r.2.mem ((c.tc : Thread Cert.ReferenceUpdateUpIdeal.nD Cert.ReferenceUpdateUpIdeal.τ).loc Cert.ReferenceUpdateUpIdeal.main_arg3) = m ((c.tc : Thread Cert.ReferenceUpdateUpIdeal.nD Cert.ReferenceUpdateUpIdeal.τ).loc Cert.ReferenceUpdateUpIdeal.main_arg3)
      ∧ r.2.mem ((c.tc : Thread Cert.ReferenceUpdateUpIdeal.nD Cert.ReferenceUpdateUpIdeal.τ).loc Cert.ReferenceUpdateUpIdeal.main_arg4) = m ((c.tc : Thread Cert.ReferenceUpdateUpIdeal.nD Cert.ReferenceUpdateUpIdeal.τ).loc Cert.ReferenceUpdateUpIdeal.main_arg4)
      ∧ r.2.mem ((c.tc : Thread Cert.ReferenceUpdateUpIdeal.nD Cert.ReferenceUpdateUpIdeal.τ).loc Cert.ReferenceUpdateUpIdeal.main_arg5) = m ((c.tc : Thread Cert.ReferenceUpdateUpIdeal.nD Cert.ReferenceUpdateUpIdeal.τ).loc Cert.ReferenceUpdateUpIdeal.main_arg5)
      ∧ r.2.mem ((c.tc : Thread Cert.ReferenceUpdateUpIdeal.nD Cert.ReferenceUpdateUpIdeal.τ).loc Cert.ReferenceUpdateUpIdeal.main_arg6) = m ((c.tc : Thread Cert.ReferenceUpdateUpIdeal.nD Cert.ReferenceUpdateUpIdeal.τ).loc Cert.ReferenceUpdateUpIdeal.main_arg6)
      ∧ r.2.mem ((c.tc : Thread Cert.ReferenceUpdateUpIdeal.nD Cert.ReferenceUpdateUpIdeal.τ).loc Cert.ReferenceUpdateUpIdeal.main_arg7) = m ((c.tc : Thread Cert.ReferenceUpdateUpIdeal.nD Cert.ReferenceUpdateUpIdeal.τ).loc Cert.ReferenceUpdateUpIdeal.main_arg7))
      ∧ r.2.sem = fun _ => 0)

def quiescent_KernelUpdateDown [hKernelUpdateDown : Cert.KernelUpdateDown.Facts] : Prop :=
  ∀ (m : (ℓ : Loc Cert.KernelUpdateDown.nD Cert.KernelUpdateDown.τ Cert.KernelUpdateDown.sig) → Buf (Elt Bits) ℓ) (g : Dev Cert.KernelUpdateDown.nD → PrngReg), Pre_KernelUpdateDown m →
    θ_run (Cert.KernelUpdateDown.defs (F := Bits)) (onTc (τ := Cert.KernelUpdateDown.τ) (Cert.KernelUpdateDown.main (F := Bits))) ⟨m, fun _ => 0, g⟩ (fun r => (∀ c : Dev Cert.KernelUpdateDown.nD,
      r.2.mem ((c.tc : Thread Cert.KernelUpdateDown.nD Cert.KernelUpdateDown.τ).loc Cert.KernelUpdateDown.main_arg0) = m ((c.tc : Thread Cert.KernelUpdateDown.nD Cert.KernelUpdateDown.τ).loc Cert.KernelUpdateDown.main_arg0)
      ∧ r.2.mem ((c.tc : Thread Cert.KernelUpdateDown.nD Cert.KernelUpdateDown.τ).loc Cert.KernelUpdateDown.main_arg1) = m ((c.tc : Thread Cert.KernelUpdateDown.nD Cert.KernelUpdateDown.τ).loc Cert.KernelUpdateDown.main_arg1)
      ∧ r.2.mem ((c.tc : Thread Cert.KernelUpdateDown.nD Cert.KernelUpdateDown.τ).loc Cert.KernelUpdateDown.main_arg2) = m ((c.tc : Thread Cert.KernelUpdateDown.nD Cert.KernelUpdateDown.τ).loc Cert.KernelUpdateDown.main_arg2)
      ∧ r.2.mem ((c.tc : Thread Cert.KernelUpdateDown.nD Cert.KernelUpdateDown.τ).loc Cert.KernelUpdateDown.main_arg3) = m ((c.tc : Thread Cert.KernelUpdateDown.nD Cert.KernelUpdateDown.τ).loc Cert.KernelUpdateDown.main_arg3)
      ∧ r.2.mem ((c.tc : Thread Cert.KernelUpdateDown.nD Cert.KernelUpdateDown.τ).loc Cert.KernelUpdateDown.main_arg4) = m ((c.tc : Thread Cert.KernelUpdateDown.nD Cert.KernelUpdateDown.τ).loc Cert.KernelUpdateDown.main_arg4)
      ∧ r.2.mem ((c.tc : Thread Cert.KernelUpdateDown.nD Cert.KernelUpdateDown.τ).loc Cert.KernelUpdateDown.main_arg5) = m ((c.tc : Thread Cert.KernelUpdateDown.nD Cert.KernelUpdateDown.τ).loc Cert.KernelUpdateDown.main_arg5)
      ∧ r.2.mem ((c.tc : Thread Cert.KernelUpdateDown.nD Cert.KernelUpdateDown.τ).loc Cert.KernelUpdateDown.main_arg6) = m ((c.tc : Thread Cert.KernelUpdateDown.nD Cert.KernelUpdateDown.τ).loc Cert.KernelUpdateDown.main_arg6)
      ∧ r.2.mem ((c.tc : Thread Cert.KernelUpdateDown.nD Cert.KernelUpdateDown.τ).loc Cert.KernelUpdateDown.main_arg7) = m ((c.tc : Thread Cert.KernelUpdateDown.nD Cert.KernelUpdateDown.τ).loc Cert.KernelUpdateDown.main_arg7))
      ∧ r.2.sem = fun _ => 0)

def quiescent_KernelUpdateDownIdeal [hKernelUpdateDownIdeal : Cert.KernelUpdateDownIdeal.Facts] : Prop :=
  ∀ (m : (ℓ : Loc Cert.KernelUpdateDownIdeal.nD Cert.KernelUpdateDownIdeal.τ Cert.KernelUpdateDownIdeal.sig) → Buf (Elt Ideal) ℓ) (g : Dev Cert.KernelUpdateDownIdeal.nD → PrngReg), Pre_KernelUpdateDownIdeal m →
    θ_run (Cert.KernelUpdateDownIdeal.defs (F := Ideal)) (onTc (τ := Cert.KernelUpdateDownIdeal.τ) (Cert.KernelUpdateDownIdeal.main (F := Ideal))) ⟨m, fun _ => 0, g⟩ (fun r => (∀ c : Dev Cert.KernelUpdateDownIdeal.nD,
      r.2.mem ((c.tc : Thread Cert.KernelUpdateDownIdeal.nD Cert.KernelUpdateDownIdeal.τ).loc Cert.KernelUpdateDownIdeal.main_arg0) = m ((c.tc : Thread Cert.KernelUpdateDownIdeal.nD Cert.KernelUpdateDownIdeal.τ).loc Cert.KernelUpdateDownIdeal.main_arg0)
      ∧ r.2.mem ((c.tc : Thread Cert.KernelUpdateDownIdeal.nD Cert.KernelUpdateDownIdeal.τ).loc Cert.KernelUpdateDownIdeal.main_arg1) = m ((c.tc : Thread Cert.KernelUpdateDownIdeal.nD Cert.KernelUpdateDownIdeal.τ).loc Cert.KernelUpdateDownIdeal.main_arg1)
      ∧ r.2.mem ((c.tc : Thread Cert.KernelUpdateDownIdeal.nD Cert.KernelUpdateDownIdeal.τ).loc Cert.KernelUpdateDownIdeal.main_arg2) = m ((c.tc : Thread Cert.KernelUpdateDownIdeal.nD Cert.KernelUpdateDownIdeal.τ).loc Cert.KernelUpdateDownIdeal.main_arg2)
      ∧ r.2.mem ((c.tc : Thread Cert.KernelUpdateDownIdeal.nD Cert.KernelUpdateDownIdeal.τ).loc Cert.KernelUpdateDownIdeal.main_arg3) = m ((c.tc : Thread Cert.KernelUpdateDownIdeal.nD Cert.KernelUpdateDownIdeal.τ).loc Cert.KernelUpdateDownIdeal.main_arg3)
      ∧ r.2.mem ((c.tc : Thread Cert.KernelUpdateDownIdeal.nD Cert.KernelUpdateDownIdeal.τ).loc Cert.KernelUpdateDownIdeal.main_arg4) = m ((c.tc : Thread Cert.KernelUpdateDownIdeal.nD Cert.KernelUpdateDownIdeal.τ).loc Cert.KernelUpdateDownIdeal.main_arg4)
      ∧ r.2.mem ((c.tc : Thread Cert.KernelUpdateDownIdeal.nD Cert.KernelUpdateDownIdeal.τ).loc Cert.KernelUpdateDownIdeal.main_arg5) = m ((c.tc : Thread Cert.KernelUpdateDownIdeal.nD Cert.KernelUpdateDownIdeal.τ).loc Cert.KernelUpdateDownIdeal.main_arg5)
      ∧ r.2.mem ((c.tc : Thread Cert.KernelUpdateDownIdeal.nD Cert.KernelUpdateDownIdeal.τ).loc Cert.KernelUpdateDownIdeal.main_arg6) = m ((c.tc : Thread Cert.KernelUpdateDownIdeal.nD Cert.KernelUpdateDownIdeal.τ).loc Cert.KernelUpdateDownIdeal.main_arg6)
      ∧ r.2.mem ((c.tc : Thread Cert.KernelUpdateDownIdeal.nD Cert.KernelUpdateDownIdeal.τ).loc Cert.KernelUpdateDownIdeal.main_arg7) = m ((c.tc : Thread Cert.KernelUpdateDownIdeal.nD Cert.KernelUpdateDownIdeal.τ).loc Cert.KernelUpdateDownIdeal.main_arg7))
      ∧ r.2.sem = fun _ => 0)

def quiescent_ReferenceUpdateDownIdeal [hReferenceUpdateDownIdeal : Cert.ReferenceUpdateDownIdeal.Facts] : Prop :=
  ∀ (m : (ℓ : Loc Cert.ReferenceUpdateDownIdeal.nD Cert.ReferenceUpdateDownIdeal.τ Cert.ReferenceUpdateDownIdeal.sig) → Buf (Elt Ideal) ℓ) (g : Dev Cert.ReferenceUpdateDownIdeal.nD → PrngReg), Pre_ReferenceUpdateDownIdeal m →
    θ_run (Cert.ReferenceUpdateDownIdeal.defs (F := Ideal)) (onTc (τ := Cert.ReferenceUpdateDownIdeal.τ) (Cert.ReferenceUpdateDownIdeal.main (F := Ideal))) ⟨m, fun _ => 0, g⟩ (fun r => (∀ c : Dev Cert.ReferenceUpdateDownIdeal.nD,
      r.2.mem ((c.tc : Thread Cert.ReferenceUpdateDownIdeal.nD Cert.ReferenceUpdateDownIdeal.τ).loc Cert.ReferenceUpdateDownIdeal.main_arg0) = m ((c.tc : Thread Cert.ReferenceUpdateDownIdeal.nD Cert.ReferenceUpdateDownIdeal.τ).loc Cert.ReferenceUpdateDownIdeal.main_arg0)
      ∧ r.2.mem ((c.tc : Thread Cert.ReferenceUpdateDownIdeal.nD Cert.ReferenceUpdateDownIdeal.τ).loc Cert.ReferenceUpdateDownIdeal.main_arg1) = m ((c.tc : Thread Cert.ReferenceUpdateDownIdeal.nD Cert.ReferenceUpdateDownIdeal.τ).loc Cert.ReferenceUpdateDownIdeal.main_arg1)
      ∧ r.2.mem ((c.tc : Thread Cert.ReferenceUpdateDownIdeal.nD Cert.ReferenceUpdateDownIdeal.τ).loc Cert.ReferenceUpdateDownIdeal.main_arg2) = m ((c.tc : Thread Cert.ReferenceUpdateDownIdeal.nD Cert.ReferenceUpdateDownIdeal.τ).loc Cert.ReferenceUpdateDownIdeal.main_arg2)
      ∧ r.2.mem ((c.tc : Thread Cert.ReferenceUpdateDownIdeal.nD Cert.ReferenceUpdateDownIdeal.τ).loc Cert.ReferenceUpdateDownIdeal.main_arg3) = m ((c.tc : Thread Cert.ReferenceUpdateDownIdeal.nD Cert.ReferenceUpdateDownIdeal.τ).loc Cert.ReferenceUpdateDownIdeal.main_arg3)
      ∧ r.2.mem ((c.tc : Thread Cert.ReferenceUpdateDownIdeal.nD Cert.ReferenceUpdateDownIdeal.τ).loc Cert.ReferenceUpdateDownIdeal.main_arg4) = m ((c.tc : Thread Cert.ReferenceUpdateDownIdeal.nD Cert.ReferenceUpdateDownIdeal.τ).loc Cert.ReferenceUpdateDownIdeal.main_arg4)
      ∧ r.2.mem ((c.tc : Thread Cert.ReferenceUpdateDownIdeal.nD Cert.ReferenceUpdateDownIdeal.τ).loc Cert.ReferenceUpdateDownIdeal.main_arg5) = m ((c.tc : Thread Cert.ReferenceUpdateDownIdeal.nD Cert.ReferenceUpdateDownIdeal.τ).loc Cert.ReferenceUpdateDownIdeal.main_arg5)
      ∧ r.2.mem ((c.tc : Thread Cert.ReferenceUpdateDownIdeal.nD Cert.ReferenceUpdateDownIdeal.τ).loc Cert.ReferenceUpdateDownIdeal.main_arg6) = m ((c.tc : Thread Cert.ReferenceUpdateDownIdeal.nD Cert.ReferenceUpdateDownIdeal.τ).loc Cert.ReferenceUpdateDownIdeal.main_arg6)
      ∧ r.2.mem ((c.tc : Thread Cert.ReferenceUpdateDownIdeal.nD Cert.ReferenceUpdateDownIdeal.τ).loc Cert.ReferenceUpdateDownIdeal.main_arg7) = m ((c.tc : Thread Cert.ReferenceUpdateDownIdeal.nD Cert.ReferenceUpdateDownIdeal.τ).loc Cert.ReferenceUpdateDownIdeal.main_arg7))
      ∧ r.2.sem = fun _ => 0)

def quiescent_KernelSmallSum [hKernelSmallSum : Cert.KernelSmallSum.Facts] : Prop :=
  ∀ (m : (ℓ : Loc Cert.KernelSmallSum.nD Cert.KernelSmallSum.τ Cert.KernelSmallSum.sig) → Buf (Elt Bits) ℓ) (g : Dev Cert.KernelSmallSum.nD → PrngReg), Pre_KernelSmallSum m →
    θ_run (Cert.KernelSmallSum.defs (F := Bits)) (onTc (τ := Cert.KernelSmallSum.τ) (Cert.KernelSmallSum.main (F := Bits))) ⟨m, fun _ => 0, g⟩ (fun r => (∀ c : Dev Cert.KernelSmallSum.nD,
      r.2.mem ((c.tc : Thread Cert.KernelSmallSum.nD Cert.KernelSmallSum.τ).loc Cert.KernelSmallSum.main_arg0) = m ((c.tc : Thread Cert.KernelSmallSum.nD Cert.KernelSmallSum.τ).loc Cert.KernelSmallSum.main_arg0))
      ∧ r.2.sem = fun _ => 0)

def quiescent_KernelSmallSumIdeal [hKernelSmallSumIdeal : Cert.KernelSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg), Pre_KernelSmallSumIdeal m →
    θ_run (Cert.KernelSmallSumIdeal.defs (F := Ideal)) (onTc (τ := Cert.KernelSmallSumIdeal.τ) (Cert.KernelSmallSumIdeal.main (F := Ideal))) ⟨m, fun _ => 0, g⟩ (fun r => (∀ c : Dev Cert.KernelSmallSumIdeal.nD,
      r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0))
      ∧ r.2.sem = fun _ => 0)

def quiescent_ReferenceSmallSumIdeal [hReferenceSmallSumIdeal : Cert.ReferenceSmallSumIdeal.Facts] : Prop :=
  ∀ (m : (ℓ : Loc Cert.ReferenceSmallSumIdeal.nD Cert.ReferenceSmallSumIdeal.τ Cert.ReferenceSmallSumIdeal.sig) → Buf (Elt Ideal) ℓ) (g : Dev Cert.ReferenceSmallSumIdeal.nD → PrngReg), Pre_ReferenceSmallSumIdeal m →
    θ_run (Cert.ReferenceSmallSumIdeal.defs (F := Ideal)) (onTc (τ := Cert.ReferenceSmallSumIdeal.τ) (Cert.ReferenceSmallSumIdeal.main (F := Ideal))) ⟨m, fun _ => 0, g⟩ (fun r => (∀ c : Dev Cert.ReferenceSmallSumIdeal.nD,
      r.2.mem ((c.tc : Thread Cert.ReferenceSmallSumIdeal.nD Cert.ReferenceSmallSumIdeal.τ).loc Cert.ReferenceSmallSumIdeal.main_arg0) = m ((c.tc : Thread Cert.ReferenceSmallSumIdeal.nD Cert.ReferenceSmallSumIdeal.τ).loc Cert.ReferenceSmallSumIdeal.main_arg0))
      ∧ r.2.sem = fun _ => 0)

def quiescent_KernelUpdateSmall [hKernelUpdateSmall : Cert.KernelUpdateSmall.Facts] : Prop :=
  ∀ (m : (ℓ : Loc Cert.KernelUpdateSmall.nD Cert.KernelUpdateSmall.τ Cert.KernelUpdateSmall.sig) → Buf (Elt Bits) ℓ) (g : Dev Cert.KernelUpdateSmall.nD → PrngReg), Pre_KernelUpdateSmall m →
    θ_run (Cert.KernelUpdateSmall.defs (F := Bits)) (onTc (τ := Cert.KernelUpdateSmall.τ) (Cert.KernelUpdateSmall.main (F := Bits))) ⟨m, fun _ => 0, g⟩ (fun r => (∀ c : Dev Cert.KernelUpdateSmall.nD,
      r.2.mem ((c.tc : Thread Cert.KernelUpdateSmall.nD Cert.KernelUpdateSmall.τ).loc Cert.KernelUpdateSmall.main_arg0) = m ((c.tc : Thread Cert.KernelUpdateSmall.nD Cert.KernelUpdateSmall.τ).loc Cert.KernelUpdateSmall.main_arg0)
      ∧ r.2.mem ((c.tc : Thread Cert.KernelUpdateSmall.nD Cert.KernelUpdateSmall.τ).loc Cert.KernelUpdateSmall.main_arg1) = m ((c.tc : Thread Cert.KernelUpdateSmall.nD Cert.KernelUpdateSmall.τ).loc Cert.KernelUpdateSmall.main_arg1)
      ∧ r.2.mem ((c.tc : Thread Cert.KernelUpdateSmall.nD Cert.KernelUpdateSmall.τ).loc Cert.KernelUpdateSmall.main_arg2) = m ((c.tc : Thread Cert.KernelUpdateSmall.nD Cert.KernelUpdateSmall.τ).loc Cert.KernelUpdateSmall.main_arg2)
      ∧ r.2.mem ((c.tc : Thread Cert.KernelUpdateSmall.nD Cert.KernelUpdateSmall.τ).loc Cert.KernelUpdateSmall.main_arg3) = m ((c.tc : Thread Cert.KernelUpdateSmall.nD Cert.KernelUpdateSmall.τ).loc Cert.KernelUpdateSmall.main_arg3))
      ∧ r.2.sem = fun _ => 0)

def quiescent_KernelUpdateSmallIdeal [hKernelUpdateSmallIdeal : Cert.KernelUpdateSmallIdeal.Facts] : Prop :=
  ∀ (m : (ℓ : Loc Cert.KernelUpdateSmallIdeal.nD Cert.KernelUpdateSmallIdeal.τ Cert.KernelUpdateSmallIdeal.sig) → Buf (Elt Ideal) ℓ) (g : Dev Cert.KernelUpdateSmallIdeal.nD → PrngReg), Pre_KernelUpdateSmallIdeal m →
    θ_run (Cert.KernelUpdateSmallIdeal.defs (F := Ideal)) (onTc (τ := Cert.KernelUpdateSmallIdeal.τ) (Cert.KernelUpdateSmallIdeal.main (F := Ideal))) ⟨m, fun _ => 0, g⟩ (fun r => (∀ c : Dev Cert.KernelUpdateSmallIdeal.nD,
      r.2.mem ((c.tc : Thread Cert.KernelUpdateSmallIdeal.nD Cert.KernelUpdateSmallIdeal.τ).loc Cert.KernelUpdateSmallIdeal.main_arg0) = m ((c.tc : Thread Cert.KernelUpdateSmallIdeal.nD Cert.KernelUpdateSmallIdeal.τ).loc Cert.KernelUpdateSmallIdeal.main_arg0)
      ∧ r.2.mem ((c.tc : Thread Cert.KernelUpdateSmallIdeal.nD Cert.KernelUpdateSmallIdeal.τ).loc Cert.KernelUpdateSmallIdeal.main_arg1) = m ((c.tc : Thread Cert.KernelUpdateSmallIdeal.nD Cert.KernelUpdateSmallIdeal.τ).loc Cert.KernelUpdateSmallIdeal.main_arg1)
      ∧ r.2.mem ((c.tc : Thread Cert.KernelUpdateSmallIdeal.nD Cert.KernelUpdateSmallIdeal.τ).loc Cert.KernelUpdateSmallIdeal.main_arg2) = m ((c.tc : Thread Cert.KernelUpdateSmallIdeal.nD Cert.KernelUpdateSmallIdeal.τ).loc Cert.KernelUpdateSmallIdeal.main_arg2)
      ∧ r.2.mem ((c.tc : Thread Cert.KernelUpdateSmallIdeal.nD Cert.KernelUpdateSmallIdeal.τ).loc Cert.KernelUpdateSmallIdeal.main_arg3) = m ((c.tc : Thread Cert.KernelUpdateSmallIdeal.nD Cert.KernelUpdateSmallIdeal.τ).loc Cert.KernelUpdateSmallIdeal.main_arg3))
      ∧ r.2.sem = fun _ => 0)

def quiescent_ReferenceUpdateSmallIdeal [hReferenceUpdateSmallIdeal : Cert.ReferenceUpdateSmallIdeal.Facts] : Prop :=
  ∀ (m : (ℓ : Loc Cert.ReferenceUpdateSmallIdeal.nD Cert.ReferenceUpdateSmallIdeal.τ Cert.ReferenceUpdateSmallIdeal.sig) → Buf (Elt Ideal) ℓ) (g : Dev Cert.ReferenceUpdateSmallIdeal.nD → PrngReg), Pre_ReferenceUpdateSmallIdeal m →
    θ_run (Cert.ReferenceUpdateSmallIdeal.defs (F := Ideal)) (onTc (τ := Cert.ReferenceUpdateSmallIdeal.τ) (Cert.ReferenceUpdateSmallIdeal.main (F := Ideal))) ⟨m, fun _ => 0, g⟩ (fun r => (∀ c : Dev Cert.ReferenceUpdateSmallIdeal.nD,
      r.2.mem ((c.tc : Thread Cert.ReferenceUpdateSmallIdeal.nD Cert.ReferenceUpdateSmallIdeal.τ).loc Cert.ReferenceUpdateSmallIdeal.main_arg0) = m ((c.tc : Thread Cert.ReferenceUpdateSmallIdeal.nD Cert.ReferenceUpdateSmallIdeal.τ).loc Cert.ReferenceUpdateSmallIdeal.main_arg0)
      ∧ r.2.mem ((c.tc : Thread Cert.ReferenceUpdateSmallIdeal.nD Cert.ReferenceUpdateSmallIdeal.τ).loc Cert.ReferenceUpdateSmallIdeal.main_arg1) = m ((c.tc : Thread Cert.ReferenceUpdateSmallIdeal.nD Cert.ReferenceUpdateSmallIdeal.τ).loc Cert.ReferenceUpdateSmallIdeal.main_arg1)
      ∧ r.2.mem ((c.tc : Thread Cert.ReferenceUpdateSmallIdeal.nD Cert.ReferenceUpdateSmallIdeal.τ).loc Cert.ReferenceUpdateSmallIdeal.main_arg2) = m ((c.tc : Thread Cert.ReferenceUpdateSmallIdeal.nD Cert.ReferenceUpdateSmallIdeal.τ).loc Cert.ReferenceUpdateSmallIdeal.main_arg2)
      ∧ r.2.mem ((c.tc : Thread Cert.ReferenceUpdateSmallIdeal.nD Cert.ReferenceUpdateSmallIdeal.τ).loc Cert.ReferenceUpdateSmallIdeal.main_arg3) = m ((c.tc : Thread Cert.ReferenceUpdateSmallIdeal.nD Cert.ReferenceUpdateSmallIdeal.τ).loc Cert.ReferenceUpdateSmallIdeal.main_arg3))
      ∧ r.2.sem = fun _ => 0)

def quiescent_KernelUpdateIn1 [hKernelUpdateIn1 : Cert.KernelUpdateIn1.Facts] : Prop :=
  ∀ (m : (ℓ : Loc Cert.KernelUpdateIn1.nD Cert.KernelUpdateIn1.τ Cert.KernelUpdateIn1.sig) → Buf (Elt Bits) ℓ) (g : Dev Cert.KernelUpdateIn1.nD → PrngReg), Pre_KernelUpdateIn1 m →
    θ_run (Cert.KernelUpdateIn1.defs (F := Bits)) (onTc (τ := Cert.KernelUpdateIn1.τ) (Cert.KernelUpdateIn1.main (F := Bits))) ⟨m, fun _ => 0, g⟩ (fun r => (∀ c : Dev Cert.KernelUpdateIn1.nD,
      r.2.mem ((c.tc : Thread Cert.KernelUpdateIn1.nD Cert.KernelUpdateIn1.τ).loc Cert.KernelUpdateIn1.main_arg0) = m ((c.tc : Thread Cert.KernelUpdateIn1.nD Cert.KernelUpdateIn1.τ).loc Cert.KernelUpdateIn1.main_arg0)
      ∧ r.2.mem ((c.tc : Thread Cert.KernelUpdateIn1.nD Cert.KernelUpdateIn1.τ).loc Cert.KernelUpdateIn1.main_arg1) = m ((c.tc : Thread Cert.KernelUpdateIn1.nD Cert.KernelUpdateIn1.τ).loc Cert.KernelUpdateIn1.main_arg1)
      ∧ r.2.mem ((c.tc : Thread Cert.KernelUpdateIn1.nD Cert.KernelUpdateIn1.τ).loc Cert.KernelUpdateIn1.main_arg2) = m ((c.tc : Thread Cert.KernelUpdateIn1.nD Cert.KernelUpdateIn1.τ).loc Cert.KernelUpdateIn1.main_arg2)
      ∧ r.2.mem ((c.tc : Thread Cert.KernelUpdateIn1.nD Cert.KernelUpdateIn1.τ).loc Cert.KernelUpdateIn1.main_arg3) = m ((c.tc : Thread Cert.KernelUpdateIn1.nD Cert.KernelUpdateIn1.τ).loc Cert.KernelUpdateIn1.main_arg3)
      ∧ r.2.mem ((c.tc : Thread Cert.KernelUpdateIn1.nD Cert.KernelUpdateIn1.τ).loc Cert.KernelUpdateIn1.main_arg4) = m ((c.tc : Thread Cert.KernelUpdateIn1.nD Cert.KernelUpdateIn1.τ).loc Cert.KernelUpdateIn1.main_arg4)
      ∧ r.2.mem ((c.tc : Thread Cert.KernelUpdateIn1.nD Cert.KernelUpdateIn1.τ).loc Cert.KernelUpdateIn1.main_arg5) = m ((c.tc : Thread Cert.KernelUpdateIn1.nD Cert.KernelUpdateIn1.τ).loc Cert.KernelUpdateIn1.main_arg5)
      ∧ r.2.mem ((c.tc : Thread Cert.KernelUpdateIn1.nD Cert.KernelUpdateIn1.τ).loc Cert.KernelUpdateIn1.main_arg6) = m ((c.tc : Thread Cert.KernelUpdateIn1.nD Cert.KernelUpdateIn1.τ).loc Cert.KernelUpdateIn1.main_arg6)
      ∧ r.2.mem ((c.tc : Thread Cert.KernelUpdateIn1.nD Cert.KernelUpdateIn1.τ).loc Cert.KernelUpdateIn1.main_arg7) = m ((c.tc : Thread Cert.KernelUpdateIn1.nD Cert.KernelUpdateIn1.τ).loc Cert.KernelUpdateIn1.main_arg7))
      ∧ r.2.sem = fun _ => 0)

def quiescent_KernelUpdateIn1Ideal [hKernelUpdateIn1Ideal : Cert.KernelUpdateIn1Ideal.Facts] : Prop :=
  ∀ (m : (ℓ : Loc Cert.KernelUpdateIn1Ideal.nD Cert.KernelUpdateIn1Ideal.τ Cert.KernelUpdateIn1Ideal.sig) → Buf (Elt Ideal) ℓ) (g : Dev Cert.KernelUpdateIn1Ideal.nD → PrngReg), Pre_KernelUpdateIn1Ideal m →
    θ_run (Cert.KernelUpdateIn1Ideal.defs (F := Ideal)) (onTc (τ := Cert.KernelUpdateIn1Ideal.τ) (Cert.KernelUpdateIn1Ideal.main (F := Ideal))) ⟨m, fun _ => 0, g⟩ (fun r => (∀ c : Dev Cert.KernelUpdateIn1Ideal.nD,
      r.2.mem ((c.tc : Thread Cert.KernelUpdateIn1Ideal.nD Cert.KernelUpdateIn1Ideal.τ).loc Cert.KernelUpdateIn1Ideal.main_arg0) = m ((c.tc : Thread Cert.KernelUpdateIn1Ideal.nD Cert.KernelUpdateIn1Ideal.τ).loc Cert.KernelUpdateIn1Ideal.main_arg0)
      ∧ r.2.mem ((c.tc : Thread Cert.KernelUpdateIn1Ideal.nD Cert.KernelUpdateIn1Ideal.τ).loc Cert.KernelUpdateIn1Ideal.main_arg1) = m ((c.tc : Thread Cert.KernelUpdateIn1Ideal.nD Cert.KernelUpdateIn1Ideal.τ).loc Cert.KernelUpdateIn1Ideal.main_arg1)
      ∧ r.2.mem ((c.tc : Thread Cert.KernelUpdateIn1Ideal.nD Cert.KernelUpdateIn1Ideal.τ).loc Cert.KernelUpdateIn1Ideal.main_arg2) = m ((c.tc : Thread Cert.KernelUpdateIn1Ideal.nD Cert.KernelUpdateIn1Ideal.τ).loc Cert.KernelUpdateIn1Ideal.main_arg2)
      ∧ r.2.mem ((c.tc : Thread Cert.KernelUpdateIn1Ideal.nD Cert.KernelUpdateIn1Ideal.τ).loc Cert.KernelUpdateIn1Ideal.main_arg3) = m ((c.tc : Thread Cert.KernelUpdateIn1Ideal.nD Cert.KernelUpdateIn1Ideal.τ).loc Cert.KernelUpdateIn1Ideal.main_arg3)
      ∧ r.2.mem ((c.tc : Thread Cert.KernelUpdateIn1Ideal.nD Cert.KernelUpdateIn1Ideal.τ).loc Cert.KernelUpdateIn1Ideal.main_arg4) = m ((c.tc : Thread Cert.KernelUpdateIn1Ideal.nD Cert.KernelUpdateIn1Ideal.τ).loc Cert.KernelUpdateIn1Ideal.main_arg4)
      ∧ r.2.mem ((c.tc : Thread Cert.KernelUpdateIn1Ideal.nD Cert.KernelUpdateIn1Ideal.τ).loc Cert.KernelUpdateIn1Ideal.main_arg5) = m ((c.tc : Thread Cert.KernelUpdateIn1Ideal.nD Cert.KernelUpdateIn1Ideal.τ).loc Cert.KernelUpdateIn1Ideal.main_arg5)
      ∧ r.2.mem ((c.tc : Thread Cert.KernelUpdateIn1Ideal.nD Cert.KernelUpdateIn1Ideal.τ).loc Cert.KernelUpdateIn1Ideal.main_arg6) = m ((c.tc : Thread Cert.KernelUpdateIn1Ideal.nD Cert.KernelUpdateIn1Ideal.τ).loc Cert.KernelUpdateIn1Ideal.main_arg6)
      ∧ r.2.mem ((c.tc : Thread Cert.KernelUpdateIn1Ideal.nD Cert.KernelUpdateIn1Ideal.τ).loc Cert.KernelUpdateIn1Ideal.main_arg7) = m ((c.tc : Thread Cert.KernelUpdateIn1Ideal.nD Cert.KernelUpdateIn1Ideal.τ).loc Cert.KernelUpdateIn1Ideal.main_arg7))
      ∧ r.2.sem = fun _ => 0)

def quiescent_ReferenceUpdateIn1Ideal [hReferenceUpdateIn1Ideal : Cert.ReferenceUpdateIn1Ideal.Facts] : Prop :=
  ∀ (m : (ℓ : Loc Cert.ReferenceUpdateIn1Ideal.nD Cert.ReferenceUpdateIn1Ideal.τ Cert.ReferenceUpdateIn1Ideal.sig) → Buf (Elt Ideal) ℓ) (g : Dev Cert.ReferenceUpdateIn1Ideal.nD → PrngReg), Pre_ReferenceUpdateIn1Ideal m →
    θ_run (Cert.ReferenceUpdateIn1Ideal.defs (F := Ideal)) (onTc (τ := Cert.ReferenceUpdateIn1Ideal.τ) (Cert.ReferenceUpdateIn1Ideal.main (F := Ideal))) ⟨m, fun _ => 0, g⟩ (fun r => (∀ c : Dev Cert.ReferenceUpdateIn1Ideal.nD,
      r.2.mem ((c.tc : Thread Cert.ReferenceUpdateIn1Ideal.nD Cert.ReferenceUpdateIn1Ideal.τ).loc Cert.ReferenceUpdateIn1Ideal.main_arg0) = m ((c.tc : Thread Cert.ReferenceUpdateIn1Ideal.nD Cert.ReferenceUpdateIn1Ideal.τ).loc Cert.ReferenceUpdateIn1Ideal.main_arg0)
      ∧ r.2.mem ((c.tc : Thread Cert.ReferenceUpdateIn1Ideal.nD Cert.ReferenceUpdateIn1Ideal.τ).loc Cert.ReferenceUpdateIn1Ideal.main_arg1) = m ((c.tc : Thread Cert.ReferenceUpdateIn1Ideal.nD Cert.ReferenceUpdateIn1Ideal.τ).loc Cert.ReferenceUpdateIn1Ideal.main_arg1)
      ∧ r.2.mem ((c.tc : Thread Cert.ReferenceUpdateIn1Ideal.nD Cert.ReferenceUpdateIn1Ideal.τ).loc Cert.ReferenceUpdateIn1Ideal.main_arg2) = m ((c.tc : Thread Cert.ReferenceUpdateIn1Ideal.nD Cert.ReferenceUpdateIn1Ideal.τ).loc Cert.ReferenceUpdateIn1Ideal.main_arg2)
      ∧ r.2.mem ((c.tc : Thread Cert.ReferenceUpdateIn1Ideal.nD Cert.ReferenceUpdateIn1Ideal.τ).loc Cert.ReferenceUpdateIn1Ideal.main_arg3) = m ((c.tc : Thread Cert.ReferenceUpdateIn1Ideal.nD Cert.ReferenceUpdateIn1Ideal.τ).loc Cert.ReferenceUpdateIn1Ideal.main_arg3)
      ∧ r.2.mem ((c.tc : Thread Cert.ReferenceUpdateIn1Ideal.nD Cert.ReferenceUpdateIn1Ideal.τ).loc Cert.ReferenceUpdateIn1Ideal.main_arg4) = m ((c.tc : Thread Cert.ReferenceUpdateIn1Ideal.nD Cert.ReferenceUpdateIn1Ideal.τ).loc Cert.ReferenceUpdateIn1Ideal.main_arg4)
      ∧ r.2.mem ((c.tc : Thread Cert.ReferenceUpdateIn1Ideal.nD Cert.ReferenceUpdateIn1Ideal.τ).loc Cert.ReferenceUpdateIn1Ideal.main_arg5) = m ((c.tc : Thread Cert.ReferenceUpdateIn1Ideal.nD Cert.ReferenceUpdateIn1Ideal.τ).loc Cert.ReferenceUpdateIn1Ideal.main_arg5)
      ∧ r.2.mem ((c.tc : Thread Cert.ReferenceUpdateIn1Ideal.nD Cert.ReferenceUpdateIn1Ideal.τ).loc Cert.ReferenceUpdateIn1Ideal.main_arg6) = m ((c.tc : Thread Cert.ReferenceUpdateIn1Ideal.nD Cert.ReferenceUpdateIn1Ideal.τ).loc Cert.ReferenceUpdateIn1Ideal.main_arg6)
      ∧ r.2.mem ((c.tc : Thread Cert.ReferenceUpdateIn1Ideal.nD Cert.ReferenceUpdateIn1Ideal.τ).loc Cert.ReferenceUpdateIn1Ideal.main_arg7) = m ((c.tc : Thread Cert.ReferenceUpdateIn1Ideal.nD Cert.ReferenceUpdateIn1Ideal.τ).loc Cert.ReferenceUpdateIn1Ideal.main_arg7))
      ∧ r.2.sem = fun _ => 0)

def quiescent_KernelUpdateOut1 [hKernelUpdateOut1 : Cert.KernelUpdateOut1.Facts] : Prop :=
  ∀ (m : (ℓ : Loc Cert.KernelUpdateOut1.nD Cert.KernelUpdateOut1.τ Cert.KernelUpdateOut1.sig) → Buf (Elt Bits) ℓ) (g : Dev Cert.KernelUpdateOut1.nD → PrngReg), Pre_KernelUpdateOut1 m →
    θ_run (Cert.KernelUpdateOut1.defs (F := Bits)) (onTc (τ := Cert.KernelUpdateOut1.τ) (Cert.KernelUpdateOut1.main (F := Bits))) ⟨m, fun _ => 0, g⟩ (fun r => (∀ c : Dev Cert.KernelUpdateOut1.nD,
      r.2.mem ((c.tc : Thread Cert.KernelUpdateOut1.nD Cert.KernelUpdateOut1.τ).loc Cert.KernelUpdateOut1.main_arg0) = m ((c.tc : Thread Cert.KernelUpdateOut1.nD Cert.KernelUpdateOut1.τ).loc Cert.KernelUpdateOut1.main_arg0)
      ∧ r.2.mem ((c.tc : Thread Cert.KernelUpdateOut1.nD Cert.KernelUpdateOut1.τ).loc Cert.KernelUpdateOut1.main_arg1) = m ((c.tc : Thread Cert.KernelUpdateOut1.nD Cert.KernelUpdateOut1.τ).loc Cert.KernelUpdateOut1.main_arg1)
      ∧ r.2.mem ((c.tc : Thread Cert.KernelUpdateOut1.nD Cert.KernelUpdateOut1.τ).loc Cert.KernelUpdateOut1.main_arg2) = m ((c.tc : Thread Cert.KernelUpdateOut1.nD Cert.KernelUpdateOut1.τ).loc Cert.KernelUpdateOut1.main_arg2)
      ∧ r.2.mem ((c.tc : Thread Cert.KernelUpdateOut1.nD Cert.KernelUpdateOut1.τ).loc Cert.KernelUpdateOut1.main_arg3) = m ((c.tc : Thread Cert.KernelUpdateOut1.nD Cert.KernelUpdateOut1.τ).loc Cert.KernelUpdateOut1.main_arg3)
      ∧ r.2.mem ((c.tc : Thread Cert.KernelUpdateOut1.nD Cert.KernelUpdateOut1.τ).loc Cert.KernelUpdateOut1.main_arg4) = m ((c.tc : Thread Cert.KernelUpdateOut1.nD Cert.KernelUpdateOut1.τ).loc Cert.KernelUpdateOut1.main_arg4)
      ∧ r.2.mem ((c.tc : Thread Cert.KernelUpdateOut1.nD Cert.KernelUpdateOut1.τ).loc Cert.KernelUpdateOut1.main_arg5) = m ((c.tc : Thread Cert.KernelUpdateOut1.nD Cert.KernelUpdateOut1.τ).loc Cert.KernelUpdateOut1.main_arg5)
      ∧ r.2.mem ((c.tc : Thread Cert.KernelUpdateOut1.nD Cert.KernelUpdateOut1.τ).loc Cert.KernelUpdateOut1.main_arg6) = m ((c.tc : Thread Cert.KernelUpdateOut1.nD Cert.KernelUpdateOut1.τ).loc Cert.KernelUpdateOut1.main_arg6)
      ∧ r.2.mem ((c.tc : Thread Cert.KernelUpdateOut1.nD Cert.KernelUpdateOut1.τ).loc Cert.KernelUpdateOut1.main_arg7) = m ((c.tc : Thread Cert.KernelUpdateOut1.nD Cert.KernelUpdateOut1.τ).loc Cert.KernelUpdateOut1.main_arg7))
      ∧ r.2.sem = fun _ => 0)

def quiescent_KernelUpdateOut1Ideal [hKernelUpdateOut1Ideal : Cert.KernelUpdateOut1Ideal.Facts] : Prop :=
  ∀ (m : (ℓ : Loc Cert.KernelUpdateOut1Ideal.nD Cert.KernelUpdateOut1Ideal.τ Cert.KernelUpdateOut1Ideal.sig) → Buf (Elt Ideal) ℓ) (g : Dev Cert.KernelUpdateOut1Ideal.nD → PrngReg), Pre_KernelUpdateOut1Ideal m →
    θ_run (Cert.KernelUpdateOut1Ideal.defs (F := Ideal)) (onTc (τ := Cert.KernelUpdateOut1Ideal.τ) (Cert.KernelUpdateOut1Ideal.main (F := Ideal))) ⟨m, fun _ => 0, g⟩ (fun r => (∀ c : Dev Cert.KernelUpdateOut1Ideal.nD,
      r.2.mem ((c.tc : Thread Cert.KernelUpdateOut1Ideal.nD Cert.KernelUpdateOut1Ideal.τ).loc Cert.KernelUpdateOut1Ideal.main_arg0) = m ((c.tc : Thread Cert.KernelUpdateOut1Ideal.nD Cert.KernelUpdateOut1Ideal.τ).loc Cert.KernelUpdateOut1Ideal.main_arg0)
      ∧ r.2.mem ((c.tc : Thread Cert.KernelUpdateOut1Ideal.nD Cert.KernelUpdateOut1Ideal.τ).loc Cert.KernelUpdateOut1Ideal.main_arg1) = m ((c.tc : Thread Cert.KernelUpdateOut1Ideal.nD Cert.KernelUpdateOut1Ideal.τ).loc Cert.KernelUpdateOut1Ideal.main_arg1)
      ∧ r.2.mem ((c.tc : Thread Cert.KernelUpdateOut1Ideal.nD Cert.KernelUpdateOut1Ideal.τ).loc Cert.KernelUpdateOut1Ideal.main_arg2) = m ((c.tc : Thread Cert.KernelUpdateOut1Ideal.nD Cert.KernelUpdateOut1Ideal.τ).loc Cert.KernelUpdateOut1Ideal.main_arg2)
      ∧ r.2.mem ((c.tc : Thread Cert.KernelUpdateOut1Ideal.nD Cert.KernelUpdateOut1Ideal.τ).loc Cert.KernelUpdateOut1Ideal.main_arg3) = m ((c.tc : Thread Cert.KernelUpdateOut1Ideal.nD Cert.KernelUpdateOut1Ideal.τ).loc Cert.KernelUpdateOut1Ideal.main_arg3)
      ∧ r.2.mem ((c.tc : Thread Cert.KernelUpdateOut1Ideal.nD Cert.KernelUpdateOut1Ideal.τ).loc Cert.KernelUpdateOut1Ideal.main_arg4) = m ((c.tc : Thread Cert.KernelUpdateOut1Ideal.nD Cert.KernelUpdateOut1Ideal.τ).loc Cert.KernelUpdateOut1Ideal.main_arg4)
      ∧ r.2.mem ((c.tc : Thread Cert.KernelUpdateOut1Ideal.nD Cert.KernelUpdateOut1Ideal.τ).loc Cert.KernelUpdateOut1Ideal.main_arg5) = m ((c.tc : Thread Cert.KernelUpdateOut1Ideal.nD Cert.KernelUpdateOut1Ideal.τ).loc Cert.KernelUpdateOut1Ideal.main_arg5)
      ∧ r.2.mem ((c.tc : Thread Cert.KernelUpdateOut1Ideal.nD Cert.KernelUpdateOut1Ideal.τ).loc Cert.KernelUpdateOut1Ideal.main_arg6) = m ((c.tc : Thread Cert.KernelUpdateOut1Ideal.nD Cert.KernelUpdateOut1Ideal.τ).loc Cert.KernelUpdateOut1Ideal.main_arg6)
      ∧ r.2.mem ((c.tc : Thread Cert.KernelUpdateOut1Ideal.nD Cert.KernelUpdateOut1Ideal.τ).loc Cert.KernelUpdateOut1Ideal.main_arg7) = m ((c.tc : Thread Cert.KernelUpdateOut1Ideal.nD Cert.KernelUpdateOut1Ideal.τ).loc Cert.KernelUpdateOut1Ideal.main_arg7))
      ∧ r.2.sem = fun _ => 0)

def quiescent_ReferenceUpdateOut1Ideal [hReferenceUpdateOut1Ideal : Cert.ReferenceUpdateOut1Ideal.Facts] : Prop :=
  ∀ (m : (ℓ : Loc Cert.ReferenceUpdateOut1Ideal.nD Cert.ReferenceUpdateOut1Ideal.τ Cert.ReferenceUpdateOut1Ideal.sig) → Buf (Elt Ideal) ℓ) (g : Dev Cert.ReferenceUpdateOut1Ideal.nD → PrngReg), Pre_ReferenceUpdateOut1Ideal m →
    θ_run (Cert.ReferenceUpdateOut1Ideal.defs (F := Ideal)) (onTc (τ := Cert.ReferenceUpdateOut1Ideal.τ) (Cert.ReferenceUpdateOut1Ideal.main (F := Ideal))) ⟨m, fun _ => 0, g⟩ (fun r => (∀ c : Dev Cert.ReferenceUpdateOut1Ideal.nD,
      r.2.mem ((c.tc : Thread Cert.ReferenceUpdateOut1Ideal.nD Cert.ReferenceUpdateOut1Ideal.τ).loc Cert.ReferenceUpdateOut1Ideal.main_arg0) = m ((c.tc : Thread Cert.ReferenceUpdateOut1Ideal.nD Cert.ReferenceUpdateOut1Ideal.τ).loc Cert.ReferenceUpdateOut1Ideal.main_arg0)
      ∧ r.2.mem ((c.tc : Thread Cert.ReferenceUpdateOut1Ideal.nD Cert.ReferenceUpdateOut1Ideal.τ).loc Cert.ReferenceUpdateOut1Ideal.main_arg1) = m ((c.tc : Thread Cert.ReferenceUpdateOut1Ideal.nD Cert.ReferenceUpdateOut1Ideal.τ).loc Cert.ReferenceUpdateOut1Ideal.main_arg1)
      ∧ r.2.mem ((c.tc : Thread Cert.ReferenceUpdateOut1Ideal.nD Cert.ReferenceUpdateOut1Ideal.τ).loc Cert.ReferenceUpdateOut1Ideal.main_arg2) = m ((c.tc : Thread Cert.ReferenceUpdateOut1Ideal.nD Cert.ReferenceUpdateOut1Ideal.τ).loc Cert.ReferenceUpdateOut1Ideal.main_arg2)
      ∧ r.2.mem ((c.tc : Thread Cert.ReferenceUpdateOut1Ideal.nD Cert.ReferenceUpdateOut1Ideal.τ).loc Cert.ReferenceUpdateOut1Ideal.main_arg3) = m ((c.tc : Thread Cert.ReferenceUpdateOut1Ideal.nD Cert.ReferenceUpdateOut1Ideal.τ).loc Cert.ReferenceUpdateOut1Ideal.main_arg3)
      ∧ r.2.mem ((c.tc : Thread Cert.ReferenceUpdateOut1Ideal.nD Cert.ReferenceUpdateOut1Ideal.τ).loc Cert.ReferenceUpdateOut1Ideal.main_arg4) = m ((c.tc : Thread Cert.ReferenceUpdateOut1Ideal.nD Cert.ReferenceUpdateOut1Ideal.τ).loc Cert.ReferenceUpdateOut1Ideal.main_arg4)
      ∧ r.2.mem ((c.tc : Thread Cert.ReferenceUpdateOut1Ideal.nD Cert.ReferenceUpdateOut1Ideal.τ).loc Cert.ReferenceUpdateOut1Ideal.main_arg5) = m ((c.tc : Thread Cert.ReferenceUpdateOut1Ideal.nD Cert.ReferenceUpdateOut1Ideal.τ).loc Cert.ReferenceUpdateOut1Ideal.main_arg5)
      ∧ r.2.mem ((c.tc : Thread Cert.ReferenceUpdateOut1Ideal.nD Cert.ReferenceUpdateOut1Ideal.τ).loc Cert.ReferenceUpdateOut1Ideal.main_arg6) = m ((c.tc : Thread Cert.ReferenceUpdateOut1Ideal.nD Cert.ReferenceUpdateOut1Ideal.τ).loc Cert.ReferenceUpdateOut1Ideal.main_arg6)
      ∧ r.2.mem ((c.tc : Thread Cert.ReferenceUpdateOut1Ideal.nD Cert.ReferenceUpdateOut1Ideal.τ).loc Cert.ReferenceUpdateOut1Ideal.main_arg7) = m ((c.tc : Thread Cert.ReferenceUpdateOut1Ideal.nD Cert.ReferenceUpdateOut1Ideal.τ).loc Cert.ReferenceUpdateOut1Ideal.main_arg7))
      ∧ r.2.sem = fun _ => 0)

def quiescent_KernelUpdateUp1 [hKernelUpdateUp1 : Cert.KernelUpdateUp1.Facts] : Prop :=
  ∀ (m : (ℓ : Loc Cert.KernelUpdateUp1.nD Cert.KernelUpdateUp1.τ Cert.KernelUpdateUp1.sig) → Buf (Elt Bits) ℓ) (g : Dev Cert.KernelUpdateUp1.nD → PrngReg), Pre_KernelUpdateUp1 m →
    θ_run (Cert.KernelUpdateUp1.defs (F := Bits)) (onTc (τ := Cert.KernelUpdateUp1.τ) (Cert.KernelUpdateUp1.main (F := Bits))) ⟨m, fun _ => 0, g⟩ (fun r => (∀ c : Dev Cert.KernelUpdateUp1.nD,
      r.2.mem ((c.tc : Thread Cert.KernelUpdateUp1.nD Cert.KernelUpdateUp1.τ).loc Cert.KernelUpdateUp1.main_arg0) = m ((c.tc : Thread Cert.KernelUpdateUp1.nD Cert.KernelUpdateUp1.τ).loc Cert.KernelUpdateUp1.main_arg0)
      ∧ r.2.mem ((c.tc : Thread Cert.KernelUpdateUp1.nD Cert.KernelUpdateUp1.τ).loc Cert.KernelUpdateUp1.main_arg1) = m ((c.tc : Thread Cert.KernelUpdateUp1.nD Cert.KernelUpdateUp1.τ).loc Cert.KernelUpdateUp1.main_arg1)
      ∧ r.2.mem ((c.tc : Thread Cert.KernelUpdateUp1.nD Cert.KernelUpdateUp1.τ).loc Cert.KernelUpdateUp1.main_arg2) = m ((c.tc : Thread Cert.KernelUpdateUp1.nD Cert.KernelUpdateUp1.τ).loc Cert.KernelUpdateUp1.main_arg2)
      ∧ r.2.mem ((c.tc : Thread Cert.KernelUpdateUp1.nD Cert.KernelUpdateUp1.τ).loc Cert.KernelUpdateUp1.main_arg3) = m ((c.tc : Thread Cert.KernelUpdateUp1.nD Cert.KernelUpdateUp1.τ).loc Cert.KernelUpdateUp1.main_arg3)
      ∧ r.2.mem ((c.tc : Thread Cert.KernelUpdateUp1.nD Cert.KernelUpdateUp1.τ).loc Cert.KernelUpdateUp1.main_arg4) = m ((c.tc : Thread Cert.KernelUpdateUp1.nD Cert.KernelUpdateUp1.τ).loc Cert.KernelUpdateUp1.main_arg4)
      ∧ r.2.mem ((c.tc : Thread Cert.KernelUpdateUp1.nD Cert.KernelUpdateUp1.τ).loc Cert.KernelUpdateUp1.main_arg5) = m ((c.tc : Thread Cert.KernelUpdateUp1.nD Cert.KernelUpdateUp1.τ).loc Cert.KernelUpdateUp1.main_arg5)
      ∧ r.2.mem ((c.tc : Thread Cert.KernelUpdateUp1.nD Cert.KernelUpdateUp1.τ).loc Cert.KernelUpdateUp1.main_arg6) = m ((c.tc : Thread Cert.KernelUpdateUp1.nD Cert.KernelUpdateUp1.τ).loc Cert.KernelUpdateUp1.main_arg6)
      ∧ r.2.mem ((c.tc : Thread Cert.KernelUpdateUp1.nD Cert.KernelUpdateUp1.τ).loc Cert.KernelUpdateUp1.main_arg7) = m ((c.tc : Thread Cert.KernelUpdateUp1.nD Cert.KernelUpdateUp1.τ).loc Cert.KernelUpdateUp1.main_arg7))
      ∧ r.2.sem = fun _ => 0)

def quiescent_KernelUpdateUp1Ideal [hKernelUpdateUp1Ideal : Cert.KernelUpdateUp1Ideal.Facts] : Prop :=
  ∀ (m : (ℓ : Loc Cert.KernelUpdateUp1Ideal.nD Cert.KernelUpdateUp1Ideal.τ Cert.KernelUpdateUp1Ideal.sig) → Buf (Elt Ideal) ℓ) (g : Dev Cert.KernelUpdateUp1Ideal.nD → PrngReg), Pre_KernelUpdateUp1Ideal m →
    θ_run (Cert.KernelUpdateUp1Ideal.defs (F := Ideal)) (onTc (τ := Cert.KernelUpdateUp1Ideal.τ) (Cert.KernelUpdateUp1Ideal.main (F := Ideal))) ⟨m, fun _ => 0, g⟩ (fun r => (∀ c : Dev Cert.KernelUpdateUp1Ideal.nD,
      r.2.mem ((c.tc : Thread Cert.KernelUpdateUp1Ideal.nD Cert.KernelUpdateUp1Ideal.τ).loc Cert.KernelUpdateUp1Ideal.main_arg0) = m ((c.tc : Thread Cert.KernelUpdateUp1Ideal.nD Cert.KernelUpdateUp1Ideal.τ).loc Cert.KernelUpdateUp1Ideal.main_arg0)
      ∧ r.2.mem ((c.tc : Thread Cert.KernelUpdateUp1Ideal.nD Cert.KernelUpdateUp1Ideal.τ).loc Cert.KernelUpdateUp1Ideal.main_arg1) = m ((c.tc : Thread Cert.KernelUpdateUp1Ideal.nD Cert.KernelUpdateUp1Ideal.τ).loc Cert.KernelUpdateUp1Ideal.main_arg1)
      ∧ r.2.mem ((c.tc : Thread Cert.KernelUpdateUp1Ideal.nD Cert.KernelUpdateUp1Ideal.τ).loc Cert.KernelUpdateUp1Ideal.main_arg2) = m ((c.tc : Thread Cert.KernelUpdateUp1Ideal.nD Cert.KernelUpdateUp1Ideal.τ).loc Cert.KernelUpdateUp1Ideal.main_arg2)
      ∧ r.2.mem ((c.tc : Thread Cert.KernelUpdateUp1Ideal.nD Cert.KernelUpdateUp1Ideal.τ).loc Cert.KernelUpdateUp1Ideal.main_arg3) = m ((c.tc : Thread Cert.KernelUpdateUp1Ideal.nD Cert.KernelUpdateUp1Ideal.τ).loc Cert.KernelUpdateUp1Ideal.main_arg3)
      ∧ r.2.mem ((c.tc : Thread Cert.KernelUpdateUp1Ideal.nD Cert.KernelUpdateUp1Ideal.τ).loc Cert.KernelUpdateUp1Ideal.main_arg4) = m ((c.tc : Thread Cert.KernelUpdateUp1Ideal.nD Cert.KernelUpdateUp1Ideal.τ).loc Cert.KernelUpdateUp1Ideal.main_arg4)
      ∧ r.2.mem ((c.tc : Thread Cert.KernelUpdateUp1Ideal.nD Cert.KernelUpdateUp1Ideal.τ).loc Cert.KernelUpdateUp1Ideal.main_arg5) = m ((c.tc : Thread Cert.KernelUpdateUp1Ideal.nD Cert.KernelUpdateUp1Ideal.τ).loc Cert.KernelUpdateUp1Ideal.main_arg5)
      ∧ r.2.mem ((c.tc : Thread Cert.KernelUpdateUp1Ideal.nD Cert.KernelUpdateUp1Ideal.τ).loc Cert.KernelUpdateUp1Ideal.main_arg6) = m ((c.tc : Thread Cert.KernelUpdateUp1Ideal.nD Cert.KernelUpdateUp1Ideal.τ).loc Cert.KernelUpdateUp1Ideal.main_arg6)
      ∧ r.2.mem ((c.tc : Thread Cert.KernelUpdateUp1Ideal.nD Cert.KernelUpdateUp1Ideal.τ).loc Cert.KernelUpdateUp1Ideal.main_arg7) = m ((c.tc : Thread Cert.KernelUpdateUp1Ideal.nD Cert.KernelUpdateUp1Ideal.τ).loc Cert.KernelUpdateUp1Ideal.main_arg7))
      ∧ r.2.sem = fun _ => 0)

def quiescent_ReferenceUpdateUp1Ideal [hReferenceUpdateUp1Ideal : Cert.ReferenceUpdateUp1Ideal.Facts] : Prop :=
  ∀ (m : (ℓ : Loc Cert.ReferenceUpdateUp1Ideal.nD Cert.ReferenceUpdateUp1Ideal.τ Cert.ReferenceUpdateUp1Ideal.sig) → Buf (Elt Ideal) ℓ) (g : Dev Cert.ReferenceUpdateUp1Ideal.nD → PrngReg), Pre_ReferenceUpdateUp1Ideal m →
    θ_run (Cert.ReferenceUpdateUp1Ideal.defs (F := Ideal)) (onTc (τ := Cert.ReferenceUpdateUp1Ideal.τ) (Cert.ReferenceUpdateUp1Ideal.main (F := Ideal))) ⟨m, fun _ => 0, g⟩ (fun r => (∀ c : Dev Cert.ReferenceUpdateUp1Ideal.nD,
      r.2.mem ((c.tc : Thread Cert.ReferenceUpdateUp1Ideal.nD Cert.ReferenceUpdateUp1Ideal.τ).loc Cert.ReferenceUpdateUp1Ideal.main_arg0) = m ((c.tc : Thread Cert.ReferenceUpdateUp1Ideal.nD Cert.ReferenceUpdateUp1Ideal.τ).loc Cert.ReferenceUpdateUp1Ideal.main_arg0)
      ∧ r.2.mem ((c.tc : Thread Cert.ReferenceUpdateUp1Ideal.nD Cert.ReferenceUpdateUp1Ideal.τ).loc Cert.ReferenceUpdateUp1Ideal.main_arg1) = m ((c.tc : Thread Cert.ReferenceUpdateUp1Ideal.nD Cert.ReferenceUpdateUp1Ideal.τ).loc Cert.ReferenceUpdateUp1Ideal.main_arg1)
      ∧ r.2.mem ((c.tc : Thread Cert.ReferenceUpdateUp1Ideal.nD Cert.ReferenceUpdateUp1Ideal.τ).loc Cert.ReferenceUpdateUp1Ideal.main_arg2) = m ((c.tc : Thread Cert.ReferenceUpdateUp1Ideal.nD Cert.ReferenceUpdateUp1Ideal.τ).loc Cert.ReferenceUpdateUp1Ideal.main_arg2)
      ∧ r.2.mem ((c.tc : Thread Cert.ReferenceUpdateUp1Ideal.nD Cert.ReferenceUpdateUp1Ideal.τ).loc Cert.ReferenceUpdateUp1Ideal.main_arg3) = m ((c.tc : Thread Cert.ReferenceUpdateUp1Ideal.nD Cert.ReferenceUpdateUp1Ideal.τ).loc Cert.ReferenceUpdateUp1Ideal.main_arg3)
      ∧ r.2.mem ((c.tc : Thread Cert.ReferenceUpdateUp1Ideal.nD Cert.ReferenceUpdateUp1Ideal.τ).loc Cert.ReferenceUpdateUp1Ideal.main_arg4) = m ((c.tc : Thread Cert.ReferenceUpdateUp1Ideal.nD Cert.ReferenceUpdateUp1Ideal.τ).loc Cert.ReferenceUpdateUp1Ideal.main_arg4)
      ∧ r.2.mem ((c.tc : Thread Cert.ReferenceUpdateUp1Ideal.nD Cert.ReferenceUpdateUp1Ideal.τ).loc Cert.ReferenceUpdateUp1Ideal.main_arg5) = m ((c.tc : Thread Cert.ReferenceUpdateUp1Ideal.nD Cert.ReferenceUpdateUp1Ideal.τ).loc Cert.ReferenceUpdateUp1Ideal.main_arg5)
      ∧ r.2.mem ((c.tc : Thread Cert.ReferenceUpdateUp1Ideal.nD Cert.ReferenceUpdateUp1Ideal.τ).loc Cert.ReferenceUpdateUp1Ideal.main_arg6) = m ((c.tc : Thread Cert.ReferenceUpdateUp1Ideal.nD Cert.ReferenceUpdateUp1Ideal.τ).loc Cert.ReferenceUpdateUp1Ideal.main_arg6)
      ∧ r.2.mem ((c.tc : Thread Cert.ReferenceUpdateUp1Ideal.nD Cert.ReferenceUpdateUp1Ideal.τ).loc Cert.ReferenceUpdateUp1Ideal.main_arg7) = m ((c.tc : Thread Cert.ReferenceUpdateUp1Ideal.nD Cert.ReferenceUpdateUp1Ideal.τ).loc Cert.ReferenceUpdateUp1Ideal.main_arg7))
      ∧ r.2.sem = fun _ => 0)

def quiescent_KernelUpdateDown1 [hKernelUpdateDown1 : Cert.KernelUpdateDown1.Facts] : Prop :=
  ∀ (m : (ℓ : Loc Cert.KernelUpdateDown1.nD Cert.KernelUpdateDown1.τ Cert.KernelUpdateDown1.sig) → Buf (Elt Bits) ℓ) (g : Dev Cert.KernelUpdateDown1.nD → PrngReg), Pre_KernelUpdateDown1 m →
    θ_run (Cert.KernelUpdateDown1.defs (F := Bits)) (onTc (τ := Cert.KernelUpdateDown1.τ) (Cert.KernelUpdateDown1.main (F := Bits))) ⟨m, fun _ => 0, g⟩ (fun r => (∀ c : Dev Cert.KernelUpdateDown1.nD,
      r.2.mem ((c.tc : Thread Cert.KernelUpdateDown1.nD Cert.KernelUpdateDown1.τ).loc Cert.KernelUpdateDown1.main_arg0) = m ((c.tc : Thread Cert.KernelUpdateDown1.nD Cert.KernelUpdateDown1.τ).loc Cert.KernelUpdateDown1.main_arg0)
      ∧ r.2.mem ((c.tc : Thread Cert.KernelUpdateDown1.nD Cert.KernelUpdateDown1.τ).loc Cert.KernelUpdateDown1.main_arg1) = m ((c.tc : Thread Cert.KernelUpdateDown1.nD Cert.KernelUpdateDown1.τ).loc Cert.KernelUpdateDown1.main_arg1)
      ∧ r.2.mem ((c.tc : Thread Cert.KernelUpdateDown1.nD Cert.KernelUpdateDown1.τ).loc Cert.KernelUpdateDown1.main_arg2) = m ((c.tc : Thread Cert.KernelUpdateDown1.nD Cert.KernelUpdateDown1.τ).loc Cert.KernelUpdateDown1.main_arg2)
      ∧ r.2.mem ((c.tc : Thread Cert.KernelUpdateDown1.nD Cert.KernelUpdateDown1.τ).loc Cert.KernelUpdateDown1.main_arg3) = m ((c.tc : Thread Cert.KernelUpdateDown1.nD Cert.KernelUpdateDown1.τ).loc Cert.KernelUpdateDown1.main_arg3)
      ∧ r.2.mem ((c.tc : Thread Cert.KernelUpdateDown1.nD Cert.KernelUpdateDown1.τ).loc Cert.KernelUpdateDown1.main_arg4) = m ((c.tc : Thread Cert.KernelUpdateDown1.nD Cert.KernelUpdateDown1.τ).loc Cert.KernelUpdateDown1.main_arg4)
      ∧ r.2.mem ((c.tc : Thread Cert.KernelUpdateDown1.nD Cert.KernelUpdateDown1.τ).loc Cert.KernelUpdateDown1.main_arg5) = m ((c.tc : Thread Cert.KernelUpdateDown1.nD Cert.KernelUpdateDown1.τ).loc Cert.KernelUpdateDown1.main_arg5)
      ∧ r.2.mem ((c.tc : Thread Cert.KernelUpdateDown1.nD Cert.KernelUpdateDown1.τ).loc Cert.KernelUpdateDown1.main_arg6) = m ((c.tc : Thread Cert.KernelUpdateDown1.nD Cert.KernelUpdateDown1.τ).loc Cert.KernelUpdateDown1.main_arg6)
      ∧ r.2.mem ((c.tc : Thread Cert.KernelUpdateDown1.nD Cert.KernelUpdateDown1.τ).loc Cert.KernelUpdateDown1.main_arg7) = m ((c.tc : Thread Cert.KernelUpdateDown1.nD Cert.KernelUpdateDown1.τ).loc Cert.KernelUpdateDown1.main_arg7))
      ∧ r.2.sem = fun _ => 0)

def quiescent_KernelUpdateDown1Ideal [hKernelUpdateDown1Ideal : Cert.KernelUpdateDown1Ideal.Facts] : Prop :=
  ∀ (m : (ℓ : Loc Cert.KernelUpdateDown1Ideal.nD Cert.KernelUpdateDown1Ideal.τ Cert.KernelUpdateDown1Ideal.sig) → Buf (Elt Ideal) ℓ) (g : Dev Cert.KernelUpdateDown1Ideal.nD → PrngReg), Pre_KernelUpdateDown1Ideal m →
    θ_run (Cert.KernelUpdateDown1Ideal.defs (F := Ideal)) (onTc (τ := Cert.KernelUpdateDown1Ideal.τ) (Cert.KernelUpdateDown1Ideal.main (F := Ideal))) ⟨m, fun _ => 0, g⟩ (fun r => (∀ c : Dev Cert.KernelUpdateDown1Ideal.nD,
      r.2.mem ((c.tc : Thread Cert.KernelUpdateDown1Ideal.nD Cert.KernelUpdateDown1Ideal.τ).loc Cert.KernelUpdateDown1Ideal.main_arg0) = m ((c.tc : Thread Cert.KernelUpdateDown1Ideal.nD Cert.KernelUpdateDown1Ideal.τ).loc Cert.KernelUpdateDown1Ideal.main_arg0)
      ∧ r.2.mem ((c.tc : Thread Cert.KernelUpdateDown1Ideal.nD Cert.KernelUpdateDown1Ideal.τ).loc Cert.KernelUpdateDown1Ideal.main_arg1) = m ((c.tc : Thread Cert.KernelUpdateDown1Ideal.nD Cert.KernelUpdateDown1Ideal.τ).loc Cert.KernelUpdateDown1Ideal.main_arg1)
      ∧ r.2.mem ((c.tc : Thread Cert.KernelUpdateDown1Ideal.nD Cert.KernelUpdateDown1Ideal.τ).loc Cert.KernelUpdateDown1Ideal.main_arg2) = m ((c.tc : Thread Cert.KernelUpdateDown1Ideal.nD Cert.KernelUpdateDown1Ideal.τ).loc Cert.KernelUpdateDown1Ideal.main_arg2)
      ∧ r.2.mem ((c.tc : Thread Cert.KernelUpdateDown1Ideal.nD Cert.KernelUpdateDown1Ideal.τ).loc Cert.KernelUpdateDown1Ideal.main_arg3) = m ((c.tc : Thread Cert.KernelUpdateDown1Ideal.nD Cert.KernelUpdateDown1Ideal.τ).loc Cert.KernelUpdateDown1Ideal.main_arg3)
      ∧ r.2.mem ((c.tc : Thread Cert.KernelUpdateDown1Ideal.nD Cert.KernelUpdateDown1Ideal.τ).loc Cert.KernelUpdateDown1Ideal.main_arg4) = m ((c.tc : Thread Cert.KernelUpdateDown1Ideal.nD Cert.KernelUpdateDown1Ideal.τ).loc Cert.KernelUpdateDown1Ideal.main_arg4)
      ∧ r.2.mem ((c.tc : Thread Cert.KernelUpdateDown1Ideal.nD Cert.KernelUpdateDown1Ideal.τ).loc Cert.KernelUpdateDown1Ideal.main_arg5) = m ((c.tc : Thread Cert.KernelUpdateDown1Ideal.nD Cert.KernelUpdateDown1Ideal.τ).loc Cert.KernelUpdateDown1Ideal.main_arg5)
      ∧ r.2.mem ((c.tc : Thread Cert.KernelUpdateDown1Ideal.nD Cert.KernelUpdateDown1Ideal.τ).loc Cert.KernelUpdateDown1Ideal.main_arg6) = m ((c.tc : Thread Cert.KernelUpdateDown1Ideal.nD Cert.KernelUpdateDown1Ideal.τ).loc Cert.KernelUpdateDown1Ideal.main_arg6)
      ∧ r.2.mem ((c.tc : Thread Cert.KernelUpdateDown1Ideal.nD Cert.KernelUpdateDown1Ideal.τ).loc Cert.KernelUpdateDown1Ideal.main_arg7) = m ((c.tc : Thread Cert.KernelUpdateDown1Ideal.nD Cert.KernelUpdateDown1Ideal.τ).loc Cert.KernelUpdateDown1Ideal.main_arg7))
      ∧ r.2.sem = fun _ => 0)

def quiescent_ReferenceUpdateDown1Ideal [hReferenceUpdateDown1Ideal : Cert.ReferenceUpdateDown1Ideal.Facts] : Prop :=
  ∀ (m : (ℓ : Loc Cert.ReferenceUpdateDown1Ideal.nD Cert.ReferenceUpdateDown1Ideal.τ Cert.ReferenceUpdateDown1Ideal.sig) → Buf (Elt Ideal) ℓ) (g : Dev Cert.ReferenceUpdateDown1Ideal.nD → PrngReg), Pre_ReferenceUpdateDown1Ideal m →
    θ_run (Cert.ReferenceUpdateDown1Ideal.defs (F := Ideal)) (onTc (τ := Cert.ReferenceUpdateDown1Ideal.τ) (Cert.ReferenceUpdateDown1Ideal.main (F := Ideal))) ⟨m, fun _ => 0, g⟩ (fun r => (∀ c : Dev Cert.ReferenceUpdateDown1Ideal.nD,
      r.2.mem ((c.tc : Thread Cert.ReferenceUpdateDown1Ideal.nD Cert.ReferenceUpdateDown1Ideal.τ).loc Cert.ReferenceUpdateDown1Ideal.main_arg0) = m ((c.tc : Thread Cert.ReferenceUpdateDown1Ideal.nD Cert.ReferenceUpdateDown1Ideal.τ).loc Cert.ReferenceUpdateDown1Ideal.main_arg0)
      ∧ r.2.mem ((c.tc : Thread Cert.ReferenceUpdateDown1Ideal.nD Cert.ReferenceUpdateDown1Ideal.τ).loc Cert.ReferenceUpdateDown1Ideal.main_arg1) = m ((c.tc : Thread Cert.ReferenceUpdateDown1Ideal.nD Cert.ReferenceUpdateDown1Ideal.τ).loc Cert.ReferenceUpdateDown1Ideal.main_arg1)
      ∧ r.2.mem ((c.tc : Thread Cert.ReferenceUpdateDown1Ideal.nD Cert.ReferenceUpdateDown1Ideal.τ).loc Cert.ReferenceUpdateDown1Ideal.main_arg2) = m ((c.tc : Thread Cert.ReferenceUpdateDown1Ideal.nD Cert.ReferenceUpdateDown1Ideal.τ).loc Cert.ReferenceUpdateDown1Ideal.main_arg2)
      ∧ r.2.mem ((c.tc : Thread Cert.ReferenceUpdateDown1Ideal.nD Cert.ReferenceUpdateDown1Ideal.τ).loc Cert.ReferenceUpdateDown1Ideal.main_arg3) = m ((c.tc : Thread Cert.ReferenceUpdateDown1Ideal.nD Cert.ReferenceUpdateDown1Ideal.τ).loc Cert.ReferenceUpdateDown1Ideal.main_arg3)
      ∧ r.2.mem ((c.tc : Thread Cert.ReferenceUpdateDown1Ideal.nD Cert.ReferenceUpdateDown1Ideal.τ).loc Cert.ReferenceUpdateDown1Ideal.main_arg4) = m ((c.tc : Thread Cert.ReferenceUpdateDown1Ideal.nD Cert.ReferenceUpdateDown1Ideal.τ).loc Cert.ReferenceUpdateDown1Ideal.main_arg4)
      ∧ r.2.mem ((c.tc : Thread Cert.ReferenceUpdateDown1Ideal.nD Cert.ReferenceUpdateDown1Ideal.τ).loc Cert.ReferenceUpdateDown1Ideal.main_arg5) = m ((c.tc : Thread Cert.ReferenceUpdateDown1Ideal.nD Cert.ReferenceUpdateDown1Ideal.τ).loc Cert.ReferenceUpdateDown1Ideal.main_arg5)
      ∧ r.2.mem ((c.tc : Thread Cert.ReferenceUpdateDown1Ideal.nD Cert.ReferenceUpdateDown1Ideal.τ).loc Cert.ReferenceUpdateDown1Ideal.main_arg6) = m ((c.tc : Thread Cert.ReferenceUpdateDown1Ideal.nD Cert.ReferenceUpdateDown1Ideal.τ).loc Cert.ReferenceUpdateDown1Ideal.main_arg6)
      ∧ r.2.mem ((c.tc : Thread Cert.ReferenceUpdateDown1Ideal.nD Cert.ReferenceUpdateDown1Ideal.τ).loc Cert.ReferenceUpdateDown1Ideal.main_arg7) = m ((c.tc : Thread Cert.ReferenceUpdateDown1Ideal.nD Cert.ReferenceUpdateDown1Ideal.τ).loc Cert.ReferenceUpdateDown1Ideal.main_arg7))
      ∧ r.2.sem = fun _ => 0)

def quiescent_KernelUpdateIn2 [hKernelUpdateIn2 : Cert.KernelUpdateIn2.Facts] : Prop :=
  ∀ (m : (ℓ : Loc Cert.KernelUpdateIn2.nD Cert.KernelUpdateIn2.τ Cert.KernelUpdateIn2.sig) → Buf (Elt Bits) ℓ) (g : Dev Cert.KernelUpdateIn2.nD → PrngReg), Pre_KernelUpdateIn2 m →
    θ_run (Cert.KernelUpdateIn2.defs (F := Bits)) (onTc (τ := Cert.KernelUpdateIn2.τ) (Cert.KernelUpdateIn2.main (F := Bits))) ⟨m, fun _ => 0, g⟩ (fun r => (∀ c : Dev Cert.KernelUpdateIn2.nD,
      r.2.mem ((c.tc : Thread Cert.KernelUpdateIn2.nD Cert.KernelUpdateIn2.τ).loc Cert.KernelUpdateIn2.main_arg0) = m ((c.tc : Thread Cert.KernelUpdateIn2.nD Cert.KernelUpdateIn2.τ).loc Cert.KernelUpdateIn2.main_arg0)
      ∧ r.2.mem ((c.tc : Thread Cert.KernelUpdateIn2.nD Cert.KernelUpdateIn2.τ).loc Cert.KernelUpdateIn2.main_arg1) = m ((c.tc : Thread Cert.KernelUpdateIn2.nD Cert.KernelUpdateIn2.τ).loc Cert.KernelUpdateIn2.main_arg1)
      ∧ r.2.mem ((c.tc : Thread Cert.KernelUpdateIn2.nD Cert.KernelUpdateIn2.τ).loc Cert.KernelUpdateIn2.main_arg2) = m ((c.tc : Thread Cert.KernelUpdateIn2.nD Cert.KernelUpdateIn2.τ).loc Cert.KernelUpdateIn2.main_arg2)
      ∧ r.2.mem ((c.tc : Thread Cert.KernelUpdateIn2.nD Cert.KernelUpdateIn2.τ).loc Cert.KernelUpdateIn2.main_arg3) = m ((c.tc : Thread Cert.KernelUpdateIn2.nD Cert.KernelUpdateIn2.τ).loc Cert.KernelUpdateIn2.main_arg3)
      ∧ r.2.mem ((c.tc : Thread Cert.KernelUpdateIn2.nD Cert.KernelUpdateIn2.τ).loc Cert.KernelUpdateIn2.main_arg4) = m ((c.tc : Thread Cert.KernelUpdateIn2.nD Cert.KernelUpdateIn2.τ).loc Cert.KernelUpdateIn2.main_arg4)
      ∧ r.2.mem ((c.tc : Thread Cert.KernelUpdateIn2.nD Cert.KernelUpdateIn2.τ).loc Cert.KernelUpdateIn2.main_arg5) = m ((c.tc : Thread Cert.KernelUpdateIn2.nD Cert.KernelUpdateIn2.τ).loc Cert.KernelUpdateIn2.main_arg5)
      ∧ r.2.mem ((c.tc : Thread Cert.KernelUpdateIn2.nD Cert.KernelUpdateIn2.τ).loc Cert.KernelUpdateIn2.main_arg6) = m ((c.tc : Thread Cert.KernelUpdateIn2.nD Cert.KernelUpdateIn2.τ).loc Cert.KernelUpdateIn2.main_arg6)
      ∧ r.2.mem ((c.tc : Thread Cert.KernelUpdateIn2.nD Cert.KernelUpdateIn2.τ).loc Cert.KernelUpdateIn2.main_arg7) = m ((c.tc : Thread Cert.KernelUpdateIn2.nD Cert.KernelUpdateIn2.τ).loc Cert.KernelUpdateIn2.main_arg7))
      ∧ r.2.sem = fun _ => 0)

def quiescent_KernelUpdateIn2Ideal [hKernelUpdateIn2Ideal : Cert.KernelUpdateIn2Ideal.Facts] : Prop :=
  ∀ (m : (ℓ : Loc Cert.KernelUpdateIn2Ideal.nD Cert.KernelUpdateIn2Ideal.τ Cert.KernelUpdateIn2Ideal.sig) → Buf (Elt Ideal) ℓ) (g : Dev Cert.KernelUpdateIn2Ideal.nD → PrngReg), Pre_KernelUpdateIn2Ideal m →
    θ_run (Cert.KernelUpdateIn2Ideal.defs (F := Ideal)) (onTc (τ := Cert.KernelUpdateIn2Ideal.τ) (Cert.KernelUpdateIn2Ideal.main (F := Ideal))) ⟨m, fun _ => 0, g⟩ (fun r => (∀ c : Dev Cert.KernelUpdateIn2Ideal.nD,
      r.2.mem ((c.tc : Thread Cert.KernelUpdateIn2Ideal.nD Cert.KernelUpdateIn2Ideal.τ).loc Cert.KernelUpdateIn2Ideal.main_arg0) = m ((c.tc : Thread Cert.KernelUpdateIn2Ideal.nD Cert.KernelUpdateIn2Ideal.τ).loc Cert.KernelUpdateIn2Ideal.main_arg0)
      ∧ r.2.mem ((c.tc : Thread Cert.KernelUpdateIn2Ideal.nD Cert.KernelUpdateIn2Ideal.τ).loc Cert.KernelUpdateIn2Ideal.main_arg1) = m ((c.tc : Thread Cert.KernelUpdateIn2Ideal.nD Cert.KernelUpdateIn2Ideal.τ).loc Cert.KernelUpdateIn2Ideal.main_arg1)
      ∧ r.2.mem ((c.tc : Thread Cert.KernelUpdateIn2Ideal.nD Cert.KernelUpdateIn2Ideal.τ).loc Cert.KernelUpdateIn2Ideal.main_arg2) = m ((c.tc : Thread Cert.KernelUpdateIn2Ideal.nD Cert.KernelUpdateIn2Ideal.τ).loc Cert.KernelUpdateIn2Ideal.main_arg2)
      ∧ r.2.mem ((c.tc : Thread Cert.KernelUpdateIn2Ideal.nD Cert.KernelUpdateIn2Ideal.τ).loc Cert.KernelUpdateIn2Ideal.main_arg3) = m ((c.tc : Thread Cert.KernelUpdateIn2Ideal.nD Cert.KernelUpdateIn2Ideal.τ).loc Cert.KernelUpdateIn2Ideal.main_arg3)
      ∧ r.2.mem ((c.tc : Thread Cert.KernelUpdateIn2Ideal.nD Cert.KernelUpdateIn2Ideal.τ).loc Cert.KernelUpdateIn2Ideal.main_arg4) = m ((c.tc : Thread Cert.KernelUpdateIn2Ideal.nD Cert.KernelUpdateIn2Ideal.τ).loc Cert.KernelUpdateIn2Ideal.main_arg4)
      ∧ r.2.mem ((c.tc : Thread Cert.KernelUpdateIn2Ideal.nD Cert.KernelUpdateIn2Ideal.τ).loc Cert.KernelUpdateIn2Ideal.main_arg5) = m ((c.tc : Thread Cert.KernelUpdateIn2Ideal.nD Cert.KernelUpdateIn2Ideal.τ).loc Cert.KernelUpdateIn2Ideal.main_arg5)
      ∧ r.2.mem ((c.tc : Thread Cert.KernelUpdateIn2Ideal.nD Cert.KernelUpdateIn2Ideal.τ).loc Cert.KernelUpdateIn2Ideal.main_arg6) = m ((c.tc : Thread Cert.KernelUpdateIn2Ideal.nD Cert.KernelUpdateIn2Ideal.τ).loc Cert.KernelUpdateIn2Ideal.main_arg6)
      ∧ r.2.mem ((c.tc : Thread Cert.KernelUpdateIn2Ideal.nD Cert.KernelUpdateIn2Ideal.τ).loc Cert.KernelUpdateIn2Ideal.main_arg7) = m ((c.tc : Thread Cert.KernelUpdateIn2Ideal.nD Cert.KernelUpdateIn2Ideal.τ).loc Cert.KernelUpdateIn2Ideal.main_arg7))
      ∧ r.2.sem = fun _ => 0)

def quiescent_ReferenceUpdateIn2Ideal [hReferenceUpdateIn2Ideal : Cert.ReferenceUpdateIn2Ideal.Facts] : Prop :=
  ∀ (m : (ℓ : Loc Cert.ReferenceUpdateIn2Ideal.nD Cert.ReferenceUpdateIn2Ideal.τ Cert.ReferenceUpdateIn2Ideal.sig) → Buf (Elt Ideal) ℓ) (g : Dev Cert.ReferenceUpdateIn2Ideal.nD → PrngReg), Pre_ReferenceUpdateIn2Ideal m →
    θ_run (Cert.ReferenceUpdateIn2Ideal.defs (F := Ideal)) (onTc (τ := Cert.ReferenceUpdateIn2Ideal.τ) (Cert.ReferenceUpdateIn2Ideal.main (F := Ideal))) ⟨m, fun _ => 0, g⟩ (fun r => (∀ c : Dev Cert.ReferenceUpdateIn2Ideal.nD,
      r.2.mem ((c.tc : Thread Cert.ReferenceUpdateIn2Ideal.nD Cert.ReferenceUpdateIn2Ideal.τ).loc Cert.ReferenceUpdateIn2Ideal.main_arg0) = m ((c.tc : Thread Cert.ReferenceUpdateIn2Ideal.nD Cert.ReferenceUpdateIn2Ideal.τ).loc Cert.ReferenceUpdateIn2Ideal.main_arg0)
      ∧ r.2.mem ((c.tc : Thread Cert.ReferenceUpdateIn2Ideal.nD Cert.ReferenceUpdateIn2Ideal.τ).loc Cert.ReferenceUpdateIn2Ideal.main_arg1) = m ((c.tc : Thread Cert.ReferenceUpdateIn2Ideal.nD Cert.ReferenceUpdateIn2Ideal.τ).loc Cert.ReferenceUpdateIn2Ideal.main_arg1)
      ∧ r.2.mem ((c.tc : Thread Cert.ReferenceUpdateIn2Ideal.nD Cert.ReferenceUpdateIn2Ideal.τ).loc Cert.ReferenceUpdateIn2Ideal.main_arg2) = m ((c.tc : Thread Cert.ReferenceUpdateIn2Ideal.nD Cert.ReferenceUpdateIn2Ideal.τ).loc Cert.ReferenceUpdateIn2Ideal.main_arg2)
      ∧ r.2.mem ((c.tc : Thread Cert.ReferenceUpdateIn2Ideal.nD Cert.ReferenceUpdateIn2Ideal.τ).loc Cert.ReferenceUpdateIn2Ideal.main_arg3) = m ((c.tc : Thread Cert.ReferenceUpdateIn2Ideal.nD Cert.ReferenceUpdateIn2Ideal.τ).loc Cert.ReferenceUpdateIn2Ideal.main_arg3)
      ∧ r.2.mem ((c.tc : Thread Cert.ReferenceUpdateIn2Ideal.nD Cert.ReferenceUpdateIn2Ideal.τ).loc Cert.ReferenceUpdateIn2Ideal.main_arg4) = m ((c.tc : Thread Cert.ReferenceUpdateIn2Ideal.nD Cert.ReferenceUpdateIn2Ideal.τ).loc Cert.ReferenceUpdateIn2Ideal.main_arg4)
      ∧ r.2.mem ((c.tc : Thread Cert.ReferenceUpdateIn2Ideal.nD Cert.ReferenceUpdateIn2Ideal.τ).loc Cert.ReferenceUpdateIn2Ideal.main_arg5) = m ((c.tc : Thread Cert.ReferenceUpdateIn2Ideal.nD Cert.ReferenceUpdateIn2Ideal.τ).loc Cert.ReferenceUpdateIn2Ideal.main_arg5)
      ∧ r.2.mem ((c.tc : Thread Cert.ReferenceUpdateIn2Ideal.nD Cert.ReferenceUpdateIn2Ideal.τ).loc Cert.ReferenceUpdateIn2Ideal.main_arg6) = m ((c.tc : Thread Cert.ReferenceUpdateIn2Ideal.nD Cert.ReferenceUpdateIn2Ideal.τ).loc Cert.ReferenceUpdateIn2Ideal.main_arg6)
      ∧ r.2.mem ((c.tc : Thread Cert.ReferenceUpdateIn2Ideal.nD Cert.ReferenceUpdateIn2Ideal.τ).loc Cert.ReferenceUpdateIn2Ideal.main_arg7) = m ((c.tc : Thread Cert.ReferenceUpdateIn2Ideal.nD Cert.ReferenceUpdateIn2Ideal.τ).loc Cert.ReferenceUpdateIn2Ideal.main_arg7))
      ∧ r.2.sem = fun _ => 0)

def quiescent_KernelUpdateOut2 [hKernelUpdateOut2 : Cert.KernelUpdateOut2.Facts] : Prop :=
  ∀ (m : (ℓ : Loc Cert.KernelUpdateOut2.nD Cert.KernelUpdateOut2.τ Cert.KernelUpdateOut2.sig) → Buf (Elt Bits) ℓ) (g : Dev Cert.KernelUpdateOut2.nD → PrngReg), Pre_KernelUpdateOut2 m →
    θ_run (Cert.KernelUpdateOut2.defs (F := Bits)) (onTc (τ := Cert.KernelUpdateOut2.τ) (Cert.KernelUpdateOut2.main (F := Bits))) ⟨m, fun _ => 0, g⟩ (fun r => (∀ c : Dev Cert.KernelUpdateOut2.nD,
      r.2.mem ((c.tc : Thread Cert.KernelUpdateOut2.nD Cert.KernelUpdateOut2.τ).loc Cert.KernelUpdateOut2.main_arg0) = m ((c.tc : Thread Cert.KernelUpdateOut2.nD Cert.KernelUpdateOut2.τ).loc Cert.KernelUpdateOut2.main_arg0)
      ∧ r.2.mem ((c.tc : Thread Cert.KernelUpdateOut2.nD Cert.KernelUpdateOut2.τ).loc Cert.KernelUpdateOut2.main_arg1) = m ((c.tc : Thread Cert.KernelUpdateOut2.nD Cert.KernelUpdateOut2.τ).loc Cert.KernelUpdateOut2.main_arg1)
      ∧ r.2.mem ((c.tc : Thread Cert.KernelUpdateOut2.nD Cert.KernelUpdateOut2.τ).loc Cert.KernelUpdateOut2.main_arg2) = m ((c.tc : Thread Cert.KernelUpdateOut2.nD Cert.KernelUpdateOut2.τ).loc Cert.KernelUpdateOut2.main_arg2)
      ∧ r.2.mem ((c.tc : Thread Cert.KernelUpdateOut2.nD Cert.KernelUpdateOut2.τ).loc Cert.KernelUpdateOut2.main_arg3) = m ((c.tc : Thread Cert.KernelUpdateOut2.nD Cert.KernelUpdateOut2.τ).loc Cert.KernelUpdateOut2.main_arg3)
      ∧ r.2.mem ((c.tc : Thread Cert.KernelUpdateOut2.nD Cert.KernelUpdateOut2.τ).loc Cert.KernelUpdateOut2.main_arg4) = m ((c.tc : Thread Cert.KernelUpdateOut2.nD Cert.KernelUpdateOut2.τ).loc Cert.KernelUpdateOut2.main_arg4)
      ∧ r.2.mem ((c.tc : Thread Cert.KernelUpdateOut2.nD Cert.KernelUpdateOut2.τ).loc Cert.KernelUpdateOut2.main_arg5) = m ((c.tc : Thread Cert.KernelUpdateOut2.nD Cert.KernelUpdateOut2.τ).loc Cert.KernelUpdateOut2.main_arg5)
      ∧ r.2.mem ((c.tc : Thread Cert.KernelUpdateOut2.nD Cert.KernelUpdateOut2.τ).loc Cert.KernelUpdateOut2.main_arg6) = m ((c.tc : Thread Cert.KernelUpdateOut2.nD Cert.KernelUpdateOut2.τ).loc Cert.KernelUpdateOut2.main_arg6)
      ∧ r.2.mem ((c.tc : Thread Cert.KernelUpdateOut2.nD Cert.KernelUpdateOut2.τ).loc Cert.KernelUpdateOut2.main_arg7) = m ((c.tc : Thread Cert.KernelUpdateOut2.nD Cert.KernelUpdateOut2.τ).loc Cert.KernelUpdateOut2.main_arg7))
      ∧ r.2.sem = fun _ => 0)

def quiescent_KernelUpdateOut2Ideal [hKernelUpdateOut2Ideal : Cert.KernelUpdateOut2Ideal.Facts] : Prop :=
  ∀ (m : (ℓ : Loc Cert.KernelUpdateOut2Ideal.nD Cert.KernelUpdateOut2Ideal.τ Cert.KernelUpdateOut2Ideal.sig) → Buf (Elt Ideal) ℓ) (g : Dev Cert.KernelUpdateOut2Ideal.nD → PrngReg), Pre_KernelUpdateOut2Ideal m →
    θ_run (Cert.KernelUpdateOut2Ideal.defs (F := Ideal)) (onTc (τ := Cert.KernelUpdateOut2Ideal.τ) (Cert.KernelUpdateOut2Ideal.main (F := Ideal))) ⟨m, fun _ => 0, g⟩ (fun r => (∀ c : Dev Cert.KernelUpdateOut2Ideal.nD,
      r.2.mem ((c.tc : Thread Cert.KernelUpdateOut2Ideal.nD Cert.KernelUpdateOut2Ideal.τ).loc Cert.KernelUpdateOut2Ideal.main_arg0) = m ((c.tc : Thread Cert.KernelUpdateOut2Ideal.nD Cert.KernelUpdateOut2Ideal.τ).loc Cert.KernelUpdateOut2Ideal.main_arg0)
      ∧ r.2.mem ((c.tc : Thread Cert.KernelUpdateOut2Ideal.nD Cert.KernelUpdateOut2Ideal.τ).loc Cert.KernelUpdateOut2Ideal.main_arg1) = m ((c.tc : Thread Cert.KernelUpdateOut2Ideal.nD Cert.KernelUpdateOut2Ideal.τ).loc Cert.KernelUpdateOut2Ideal.main_arg1)
      ∧ r.2.mem ((c.tc : Thread Cert.KernelUpdateOut2Ideal.nD Cert.KernelUpdateOut2Ideal.τ).loc Cert.KernelUpdateOut2Ideal.main_arg2) = m ((c.tc : Thread Cert.KernelUpdateOut2Ideal.nD Cert.KernelUpdateOut2Ideal.τ).loc Cert.KernelUpdateOut2Ideal.main_arg2)
      ∧ r.2.mem ((c.tc : Thread Cert.KernelUpdateOut2Ideal.nD Cert.KernelUpdateOut2Ideal.τ).loc Cert.KernelUpdateOut2Ideal.main_arg3) = m ((c.tc : Thread Cert.KernelUpdateOut2Ideal.nD Cert.KernelUpdateOut2Ideal.τ).loc Cert.KernelUpdateOut2Ideal.main_arg3)
      ∧ r.2.mem ((c.tc : Thread Cert.KernelUpdateOut2Ideal.nD Cert.KernelUpdateOut2Ideal.τ).loc Cert.KernelUpdateOut2Ideal.main_arg4) = m ((c.tc : Thread Cert.KernelUpdateOut2Ideal.nD Cert.KernelUpdateOut2Ideal.τ).loc Cert.KernelUpdateOut2Ideal.main_arg4)
      ∧ r.2.mem ((c.tc : Thread Cert.KernelUpdateOut2Ideal.nD Cert.KernelUpdateOut2Ideal.τ).loc Cert.KernelUpdateOut2Ideal.main_arg5) = m ((c.tc : Thread Cert.KernelUpdateOut2Ideal.nD Cert.KernelUpdateOut2Ideal.τ).loc Cert.KernelUpdateOut2Ideal.main_arg5)
      ∧ r.2.mem ((c.tc : Thread Cert.KernelUpdateOut2Ideal.nD Cert.KernelUpdateOut2Ideal.τ).loc Cert.KernelUpdateOut2Ideal.main_arg6) = m ((c.tc : Thread Cert.KernelUpdateOut2Ideal.nD Cert.KernelUpdateOut2Ideal.τ).loc Cert.KernelUpdateOut2Ideal.main_arg6)
      ∧ r.2.mem ((c.tc : Thread Cert.KernelUpdateOut2Ideal.nD Cert.KernelUpdateOut2Ideal.τ).loc Cert.KernelUpdateOut2Ideal.main_arg7) = m ((c.tc : Thread Cert.KernelUpdateOut2Ideal.nD Cert.KernelUpdateOut2Ideal.τ).loc Cert.KernelUpdateOut2Ideal.main_arg7))
      ∧ r.2.sem = fun _ => 0)

def quiescent_ReferenceUpdateOut2Ideal [hReferenceUpdateOut2Ideal : Cert.ReferenceUpdateOut2Ideal.Facts] : Prop :=
  ∀ (m : (ℓ : Loc Cert.ReferenceUpdateOut2Ideal.nD Cert.ReferenceUpdateOut2Ideal.τ Cert.ReferenceUpdateOut2Ideal.sig) → Buf (Elt Ideal) ℓ) (g : Dev Cert.ReferenceUpdateOut2Ideal.nD → PrngReg), Pre_ReferenceUpdateOut2Ideal m →
    θ_run (Cert.ReferenceUpdateOut2Ideal.defs (F := Ideal)) (onTc (τ := Cert.ReferenceUpdateOut2Ideal.τ) (Cert.ReferenceUpdateOut2Ideal.main (F := Ideal))) ⟨m, fun _ => 0, g⟩ (fun r => (∀ c : Dev Cert.ReferenceUpdateOut2Ideal.nD,
      r.2.mem ((c.tc : Thread Cert.ReferenceUpdateOut2Ideal.nD Cert.ReferenceUpdateOut2Ideal.τ).loc Cert.ReferenceUpdateOut2Ideal.main_arg0) = m ((c.tc : Thread Cert.ReferenceUpdateOut2Ideal.nD Cert.ReferenceUpdateOut2Ideal.τ).loc Cert.ReferenceUpdateOut2Ideal.main_arg0)
      ∧ r.2.mem ((c.tc : Thread Cert.ReferenceUpdateOut2Ideal.nD Cert.ReferenceUpdateOut2Ideal.τ).loc Cert.ReferenceUpdateOut2Ideal.main_arg1) = m ((c.tc : Thread Cert.ReferenceUpdateOut2Ideal.nD Cert.ReferenceUpdateOut2Ideal.τ).loc Cert.ReferenceUpdateOut2Ideal.main_arg1)
      ∧ r.2.mem ((c.tc : Thread Cert.ReferenceUpdateOut2Ideal.nD Cert.ReferenceUpdateOut2Ideal.τ).loc Cert.ReferenceUpdateOut2Ideal.main_arg2) = m ((c.tc : Thread Cert.ReferenceUpdateOut2Ideal.nD Cert.ReferenceUpdateOut2Ideal.τ).loc Cert.ReferenceUpdateOut2Ideal.main_arg2)
      ∧ r.2.mem ((c.tc : Thread Cert.ReferenceUpdateOut2Ideal.nD Cert.ReferenceUpdateOut2Ideal.τ).loc Cert.ReferenceUpdateOut2Ideal.main_arg3) = m ((c.tc : Thread Cert.ReferenceUpdateOut2Ideal.nD Cert.ReferenceUpdateOut2Ideal.τ).loc Cert.ReferenceUpdateOut2Ideal.main_arg3)
      ∧ r.2.mem ((c.tc : Thread Cert.ReferenceUpdateOut2Ideal.nD Cert.ReferenceUpdateOut2Ideal.τ).loc Cert.ReferenceUpdateOut2Ideal.main_arg4) = m ((c.tc : Thread Cert.ReferenceUpdateOut2Ideal.nD Cert.ReferenceUpdateOut2Ideal.τ).loc Cert.ReferenceUpdateOut2Ideal.main_arg4)
      ∧ r.2.mem ((c.tc : Thread Cert.ReferenceUpdateOut2Ideal.nD Cert.ReferenceUpdateOut2Ideal.τ).loc Cert.ReferenceUpdateOut2Ideal.main_arg5) = m ((c.tc : Thread Cert.ReferenceUpdateOut2Ideal.nD Cert.ReferenceUpdateOut2Ideal.τ).loc Cert.ReferenceUpdateOut2Ideal.main_arg5)
      ∧ r.2.mem ((c.tc : Thread Cert.ReferenceUpdateOut2Ideal.nD Cert.ReferenceUpdateOut2Ideal.τ).loc Cert.ReferenceUpdateOut2Ideal.main_arg6) = m ((c.tc : Thread Cert.ReferenceUpdateOut2Ideal.nD Cert.ReferenceUpdateOut2Ideal.τ).loc Cert.ReferenceUpdateOut2Ideal.main_arg6)
      ∧ r.2.mem ((c.tc : Thread Cert.ReferenceUpdateOut2Ideal.nD Cert.ReferenceUpdateOut2Ideal.τ).loc Cert.ReferenceUpdateOut2Ideal.main_arg7) = m ((c.tc : Thread Cert.ReferenceUpdateOut2Ideal.nD Cert.ReferenceUpdateOut2Ideal.τ).loc Cert.ReferenceUpdateOut2Ideal.main_arg7))
      ∧ r.2.sem = fun _ => 0)

def quiescent_KernelUpdateUp2 [hKernelUpdateUp2 : Cert.KernelUpdateUp2.Facts] : Prop :=
  ∀ (m : (ℓ : Loc Cert.KernelUpdateUp2.nD Cert.KernelUpdateUp2.τ Cert.KernelUpdateUp2.sig) → Buf (Elt Bits) ℓ) (g : Dev Cert.KernelUpdateUp2.nD → PrngReg), Pre_KernelUpdateUp2 m →
    θ_run (Cert.KernelUpdateUp2.defs (F := Bits)) (onTc (τ := Cert.KernelUpdateUp2.τ) (Cert.KernelUpdateUp2.main (F := Bits))) ⟨m, fun _ => 0, g⟩ (fun r => (∀ c : Dev Cert.KernelUpdateUp2.nD,
      r.2.mem ((c.tc : Thread Cert.KernelUpdateUp2.nD Cert.KernelUpdateUp2.τ).loc Cert.KernelUpdateUp2.main_arg0) = m ((c.tc : Thread Cert.KernelUpdateUp2.nD Cert.KernelUpdateUp2.τ).loc Cert.KernelUpdateUp2.main_arg0)
      ∧ r.2.mem ((c.tc : Thread Cert.KernelUpdateUp2.nD Cert.KernelUpdateUp2.τ).loc Cert.KernelUpdateUp2.main_arg1) = m ((c.tc : Thread Cert.KernelUpdateUp2.nD Cert.KernelUpdateUp2.τ).loc Cert.KernelUpdateUp2.main_arg1)
      ∧ r.2.mem ((c.tc : Thread Cert.KernelUpdateUp2.nD Cert.KernelUpdateUp2.τ).loc Cert.KernelUpdateUp2.main_arg2) = m ((c.tc : Thread Cert.KernelUpdateUp2.nD Cert.KernelUpdateUp2.τ).loc Cert.KernelUpdateUp2.main_arg2)
      ∧ r.2.mem ((c.tc : Thread Cert.KernelUpdateUp2.nD Cert.KernelUpdateUp2.τ).loc Cert.KernelUpdateUp2.main_arg3) = m ((c.tc : Thread Cert.KernelUpdateUp2.nD Cert.KernelUpdateUp2.τ).loc Cert.KernelUpdateUp2.main_arg3)
      ∧ r.2.mem ((c.tc : Thread Cert.KernelUpdateUp2.nD Cert.KernelUpdateUp2.τ).loc Cert.KernelUpdateUp2.main_arg4) = m ((c.tc : Thread Cert.KernelUpdateUp2.nD Cert.KernelUpdateUp2.τ).loc Cert.KernelUpdateUp2.main_arg4)
      ∧ r.2.mem ((c.tc : Thread Cert.KernelUpdateUp2.nD Cert.KernelUpdateUp2.τ).loc Cert.KernelUpdateUp2.main_arg5) = m ((c.tc : Thread Cert.KernelUpdateUp2.nD Cert.KernelUpdateUp2.τ).loc Cert.KernelUpdateUp2.main_arg5)
      ∧ r.2.mem ((c.tc : Thread Cert.KernelUpdateUp2.nD Cert.KernelUpdateUp2.τ).loc Cert.KernelUpdateUp2.main_arg6) = m ((c.tc : Thread Cert.KernelUpdateUp2.nD Cert.KernelUpdateUp2.τ).loc Cert.KernelUpdateUp2.main_arg6)
      ∧ r.2.mem ((c.tc : Thread Cert.KernelUpdateUp2.nD Cert.KernelUpdateUp2.τ).loc Cert.KernelUpdateUp2.main_arg7) = m ((c.tc : Thread Cert.KernelUpdateUp2.nD Cert.KernelUpdateUp2.τ).loc Cert.KernelUpdateUp2.main_arg7))
      ∧ r.2.sem = fun _ => 0)

def quiescent_KernelUpdateUp2Ideal [hKernelUpdateUp2Ideal : Cert.KernelUpdateUp2Ideal.Facts] : Prop :=
  ∀ (m : (ℓ : Loc Cert.KernelUpdateUp2Ideal.nD Cert.KernelUpdateUp2Ideal.τ Cert.KernelUpdateUp2Ideal.sig) → Buf (Elt Ideal) ℓ) (g : Dev Cert.KernelUpdateUp2Ideal.nD → PrngReg), Pre_KernelUpdateUp2Ideal m →
    θ_run (Cert.KernelUpdateUp2Ideal.defs (F := Ideal)) (onTc (τ := Cert.KernelUpdateUp2Ideal.τ) (Cert.KernelUpdateUp2Ideal.main (F := Ideal))) ⟨m, fun _ => 0, g⟩ (fun r => (∀ c : Dev Cert.KernelUpdateUp2Ideal.nD,
      r.2.mem ((c.tc : Thread Cert.KernelUpdateUp2Ideal.nD Cert.KernelUpdateUp2Ideal.τ).loc Cert.KernelUpdateUp2Ideal.main_arg0) = m ((c.tc : Thread Cert.KernelUpdateUp2Ideal.nD Cert.KernelUpdateUp2Ideal.τ).loc Cert.KernelUpdateUp2Ideal.main_arg0)
      ∧ r.2.mem ((c.tc : Thread Cert.KernelUpdateUp2Ideal.nD Cert.KernelUpdateUp2Ideal.τ).loc Cert.KernelUpdateUp2Ideal.main_arg1) = m ((c.tc : Thread Cert.KernelUpdateUp2Ideal.nD Cert.KernelUpdateUp2Ideal.τ).loc Cert.KernelUpdateUp2Ideal.main_arg1)
      ∧ r.2.mem ((c.tc : Thread Cert.KernelUpdateUp2Ideal.nD Cert.KernelUpdateUp2Ideal.τ).loc Cert.KernelUpdateUp2Ideal.main_arg2) = m ((c.tc : Thread Cert.KernelUpdateUp2Ideal.nD Cert.KernelUpdateUp2Ideal.τ).loc Cert.KernelUpdateUp2Ideal.main_arg2)
      ∧ r.2.mem ((c.tc : Thread Cert.KernelUpdateUp2Ideal.nD Cert.KernelUpdateUp2Ideal.τ).loc Cert.KernelUpdateUp2Ideal.main_arg3) = m ((c.tc : Thread Cert.KernelUpdateUp2Ideal.nD Cert.KernelUpdateUp2Ideal.τ).loc Cert.KernelUpdateUp2Ideal.main_arg3)
      ∧ r.2.mem ((c.tc : Thread Cert.KernelUpdateUp2Ideal.nD Cert.KernelUpdateUp2Ideal.τ).loc Cert.KernelUpdateUp2Ideal.main_arg4) = m ((c.tc : Thread Cert.KernelUpdateUp2Ideal.nD Cert.KernelUpdateUp2Ideal.τ).loc Cert.KernelUpdateUp2Ideal.main_arg4)
      ∧ r.2.mem ((c.tc : Thread Cert.KernelUpdateUp2Ideal.nD Cert.KernelUpdateUp2Ideal.τ).loc Cert.KernelUpdateUp2Ideal.main_arg5) = m ((c.tc : Thread Cert.KernelUpdateUp2Ideal.nD Cert.KernelUpdateUp2Ideal.τ).loc Cert.KernelUpdateUp2Ideal.main_arg5)
      ∧ r.2.mem ((c.tc : Thread Cert.KernelUpdateUp2Ideal.nD Cert.KernelUpdateUp2Ideal.τ).loc Cert.KernelUpdateUp2Ideal.main_arg6) = m ((c.tc : Thread Cert.KernelUpdateUp2Ideal.nD Cert.KernelUpdateUp2Ideal.τ).loc Cert.KernelUpdateUp2Ideal.main_arg6)
      ∧ r.2.mem ((c.tc : Thread Cert.KernelUpdateUp2Ideal.nD Cert.KernelUpdateUp2Ideal.τ).loc Cert.KernelUpdateUp2Ideal.main_arg7) = m ((c.tc : Thread Cert.KernelUpdateUp2Ideal.nD Cert.KernelUpdateUp2Ideal.τ).loc Cert.KernelUpdateUp2Ideal.main_arg7))
      ∧ r.2.sem = fun _ => 0)

def quiescent_ReferenceUpdateUp2Ideal [hReferenceUpdateUp2Ideal : Cert.ReferenceUpdateUp2Ideal.Facts] : Prop :=
  ∀ (m : (ℓ : Loc Cert.ReferenceUpdateUp2Ideal.nD Cert.ReferenceUpdateUp2Ideal.τ Cert.ReferenceUpdateUp2Ideal.sig) → Buf (Elt Ideal) ℓ) (g : Dev Cert.ReferenceUpdateUp2Ideal.nD → PrngReg), Pre_ReferenceUpdateUp2Ideal m →
    θ_run (Cert.ReferenceUpdateUp2Ideal.defs (F := Ideal)) (onTc (τ := Cert.ReferenceUpdateUp2Ideal.τ) (Cert.ReferenceUpdateUp2Ideal.main (F := Ideal))) ⟨m, fun _ => 0, g⟩ (fun r => (∀ c : Dev Cert.ReferenceUpdateUp2Ideal.nD,
      r.2.mem ((c.tc : Thread Cert.ReferenceUpdateUp2Ideal.nD Cert.ReferenceUpdateUp2Ideal.τ).loc Cert.ReferenceUpdateUp2Ideal.main_arg0) = m ((c.tc : Thread Cert.ReferenceUpdateUp2Ideal.nD Cert.ReferenceUpdateUp2Ideal.τ).loc Cert.ReferenceUpdateUp2Ideal.main_arg0)
      ∧ r.2.mem ((c.tc : Thread Cert.ReferenceUpdateUp2Ideal.nD Cert.ReferenceUpdateUp2Ideal.τ).loc Cert.ReferenceUpdateUp2Ideal.main_arg1) = m ((c.tc : Thread Cert.ReferenceUpdateUp2Ideal.nD Cert.ReferenceUpdateUp2Ideal.τ).loc Cert.ReferenceUpdateUp2Ideal.main_arg1)
      ∧ r.2.mem ((c.tc : Thread Cert.ReferenceUpdateUp2Ideal.nD Cert.ReferenceUpdateUp2Ideal.τ).loc Cert.ReferenceUpdateUp2Ideal.main_arg2) = m ((c.tc : Thread Cert.ReferenceUpdateUp2Ideal.nD Cert.ReferenceUpdateUp2Ideal.τ).loc Cert.ReferenceUpdateUp2Ideal.main_arg2)
      ∧ r.2.mem ((c.tc : Thread Cert.ReferenceUpdateUp2Ideal.nD Cert.ReferenceUpdateUp2Ideal.τ).loc Cert.ReferenceUpdateUp2Ideal.main_arg3) = m ((c.tc : Thread Cert.ReferenceUpdateUp2Ideal.nD Cert.ReferenceUpdateUp2Ideal.τ).loc Cert.ReferenceUpdateUp2Ideal.main_arg3)
      ∧ r.2.mem ((c.tc : Thread Cert.ReferenceUpdateUp2Ideal.nD Cert.ReferenceUpdateUp2Ideal.τ).loc Cert.ReferenceUpdateUp2Ideal.main_arg4) = m ((c.tc : Thread Cert.ReferenceUpdateUp2Ideal.nD Cert.ReferenceUpdateUp2Ideal.τ).loc Cert.ReferenceUpdateUp2Ideal.main_arg4)
      ∧ r.2.mem ((c.tc : Thread Cert.ReferenceUpdateUp2Ideal.nD Cert.ReferenceUpdateUp2Ideal.τ).loc Cert.ReferenceUpdateUp2Ideal.main_arg5) = m ((c.tc : Thread Cert.ReferenceUpdateUp2Ideal.nD Cert.ReferenceUpdateUp2Ideal.τ).loc Cert.ReferenceUpdateUp2Ideal.main_arg5)
      ∧ r.2.mem ((c.tc : Thread Cert.ReferenceUpdateUp2Ideal.nD Cert.ReferenceUpdateUp2Ideal.τ).loc Cert.ReferenceUpdateUp2Ideal.main_arg6) = m ((c.tc : Thread Cert.ReferenceUpdateUp2Ideal.nD Cert.ReferenceUpdateUp2Ideal.τ).loc Cert.ReferenceUpdateUp2Ideal.main_arg6)
      ∧ r.2.mem ((c.tc : Thread Cert.ReferenceUpdateUp2Ideal.nD Cert.ReferenceUpdateUp2Ideal.τ).loc Cert.ReferenceUpdateUp2Ideal.main_arg7) = m ((c.tc : Thread Cert.ReferenceUpdateUp2Ideal.nD Cert.ReferenceUpdateUp2Ideal.τ).loc Cert.ReferenceUpdateUp2Ideal.main_arg7))
      ∧ r.2.sem = fun _ => 0)

def quiescent_KernelUpdateDown2 [hKernelUpdateDown2 : Cert.KernelUpdateDown2.Facts] : Prop :=
  ∀ (m : (ℓ : Loc Cert.KernelUpdateDown2.nD Cert.KernelUpdateDown2.τ Cert.KernelUpdateDown2.sig) → Buf (Elt Bits) ℓ) (g : Dev Cert.KernelUpdateDown2.nD → PrngReg), Pre_KernelUpdateDown2 m →
    θ_run (Cert.KernelUpdateDown2.defs (F := Bits)) (onTc (τ := Cert.KernelUpdateDown2.τ) (Cert.KernelUpdateDown2.main (F := Bits))) ⟨m, fun _ => 0, g⟩ (fun r => (∀ c : Dev Cert.KernelUpdateDown2.nD,
      r.2.mem ((c.tc : Thread Cert.KernelUpdateDown2.nD Cert.KernelUpdateDown2.τ).loc Cert.KernelUpdateDown2.main_arg0) = m ((c.tc : Thread Cert.KernelUpdateDown2.nD Cert.KernelUpdateDown2.τ).loc Cert.KernelUpdateDown2.main_arg0)
      ∧ r.2.mem ((c.tc : Thread Cert.KernelUpdateDown2.nD Cert.KernelUpdateDown2.τ).loc Cert.KernelUpdateDown2.main_arg1) = m ((c.tc : Thread Cert.KernelUpdateDown2.nD Cert.KernelUpdateDown2.τ).loc Cert.KernelUpdateDown2.main_arg1)
      ∧ r.2.mem ((c.tc : Thread Cert.KernelUpdateDown2.nD Cert.KernelUpdateDown2.τ).loc Cert.KernelUpdateDown2.main_arg2) = m ((c.tc : Thread Cert.KernelUpdateDown2.nD Cert.KernelUpdateDown2.τ).loc Cert.KernelUpdateDown2.main_arg2)
      ∧ r.2.mem ((c.tc : Thread Cert.KernelUpdateDown2.nD Cert.KernelUpdateDown2.τ).loc Cert.KernelUpdateDown2.main_arg3) = m ((c.tc : Thread Cert.KernelUpdateDown2.nD Cert.KernelUpdateDown2.τ).loc Cert.KernelUpdateDown2.main_arg3)
      ∧ r.2.mem ((c.tc : Thread Cert.KernelUpdateDown2.nD Cert.KernelUpdateDown2.τ).loc Cert.KernelUpdateDown2.main_arg4) = m ((c.tc : Thread Cert.KernelUpdateDown2.nD Cert.KernelUpdateDown2.τ).loc Cert.KernelUpdateDown2.main_arg4)
      ∧ r.2.mem ((c.tc : Thread Cert.KernelUpdateDown2.nD Cert.KernelUpdateDown2.τ).loc Cert.KernelUpdateDown2.main_arg5) = m ((c.tc : Thread Cert.KernelUpdateDown2.nD Cert.KernelUpdateDown2.τ).loc Cert.KernelUpdateDown2.main_arg5)
      ∧ r.2.mem ((c.tc : Thread Cert.KernelUpdateDown2.nD Cert.KernelUpdateDown2.τ).loc Cert.KernelUpdateDown2.main_arg6) = m ((c.tc : Thread Cert.KernelUpdateDown2.nD Cert.KernelUpdateDown2.τ).loc Cert.KernelUpdateDown2.main_arg6)
      ∧ r.2.mem ((c.tc : Thread Cert.KernelUpdateDown2.nD Cert.KernelUpdateDown2.τ).loc Cert.KernelUpdateDown2.main_arg7) = m ((c.tc : Thread Cert.KernelUpdateDown2.nD Cert.KernelUpdateDown2.τ).loc Cert.KernelUpdateDown2.main_arg7))
      ∧ r.2.sem = fun _ => 0)

def quiescent_KernelUpdateDown2Ideal [hKernelUpdateDown2Ideal : Cert.KernelUpdateDown2Ideal.Facts] : Prop :=
  ∀ (m : (ℓ : Loc Cert.KernelUpdateDown2Ideal.nD Cert.KernelUpdateDown2Ideal.τ Cert.KernelUpdateDown2Ideal.sig) → Buf (Elt Ideal) ℓ) (g : Dev Cert.KernelUpdateDown2Ideal.nD → PrngReg), Pre_KernelUpdateDown2Ideal m →
    θ_run (Cert.KernelUpdateDown2Ideal.defs (F := Ideal)) (onTc (τ := Cert.KernelUpdateDown2Ideal.τ) (Cert.KernelUpdateDown2Ideal.main (F := Ideal))) ⟨m, fun _ => 0, g⟩ (fun r => (∀ c : Dev Cert.KernelUpdateDown2Ideal.nD,
      r.2.mem ((c.tc : Thread Cert.KernelUpdateDown2Ideal.nD Cert.KernelUpdateDown2Ideal.τ).loc Cert.KernelUpdateDown2Ideal.main_arg0) = m ((c.tc : Thread Cert.KernelUpdateDown2Ideal.nD Cert.KernelUpdateDown2Ideal.τ).loc Cert.KernelUpdateDown2Ideal.main_arg0)
      ∧ r.2.mem ((c.tc : Thread Cert.KernelUpdateDown2Ideal.nD Cert.KernelUpdateDown2Ideal.τ).loc Cert.KernelUpdateDown2Ideal.main_arg1) = m ((c.tc : Thread Cert.KernelUpdateDown2Ideal.nD Cert.KernelUpdateDown2Ideal.τ).loc Cert.KernelUpdateDown2Ideal.main_arg1)
      ∧ r.2.mem ((c.tc : Thread Cert.KernelUpdateDown2Ideal.nD Cert.KernelUpdateDown2Ideal.τ).loc Cert.KernelUpdateDown2Ideal.main_arg2) = m ((c.tc : Thread Cert.KernelUpdateDown2Ideal.nD Cert.KernelUpdateDown2Ideal.τ).loc Cert.KernelUpdateDown2Ideal.main_arg2)
      ∧ r.2.mem ((c.tc : Thread Cert.KernelUpdateDown2Ideal.nD Cert.KernelUpdateDown2Ideal.τ).loc Cert.KernelUpdateDown2Ideal.main_arg3) = m ((c.tc : Thread Cert.KernelUpdateDown2Ideal.nD Cert.KernelUpdateDown2Ideal.τ).loc Cert.KernelUpdateDown2Ideal.main_arg3)
      ∧ r.2.mem ((c.tc : Thread Cert.KernelUpdateDown2Ideal.nD Cert.KernelUpdateDown2Ideal.τ).loc Cert.KernelUpdateDown2Ideal.main_arg4) = m ((c.tc : Thread Cert.KernelUpdateDown2Ideal.nD Cert.KernelUpdateDown2Ideal.τ).loc Cert.KernelUpdateDown2Ideal.main_arg4)
      ∧ r.2.mem ((c.tc : Thread Cert.KernelUpdateDown2Ideal.nD Cert.KernelUpdateDown2Ideal.τ).loc Cert.KernelUpdateDown2Ideal.main_arg5) = m ((c.tc : Thread Cert.KernelUpdateDown2Ideal.nD Cert.KernelUpdateDown2Ideal.τ).loc Cert.KernelUpdateDown2Ideal.main_arg5)
      ∧ r.2.mem ((c.tc : Thread Cert.KernelUpdateDown2Ideal.nD Cert.KernelUpdateDown2Ideal.τ).loc Cert.KernelUpdateDown2Ideal.main_arg6) = m ((c.tc : Thread Cert.KernelUpdateDown2Ideal.nD Cert.KernelUpdateDown2Ideal.τ).loc Cert.KernelUpdateDown2Ideal.main_arg6)
      ∧ r.2.mem ((c.tc : Thread Cert.KernelUpdateDown2Ideal.nD Cert.KernelUpdateDown2Ideal.τ).loc Cert.KernelUpdateDown2Ideal.main_arg7) = m ((c.tc : Thread Cert.KernelUpdateDown2Ideal.nD Cert.KernelUpdateDown2Ideal.τ).loc Cert.KernelUpdateDown2Ideal.main_arg7))
      ∧ r.2.sem = fun _ => 0)

def quiescent_ReferenceUpdateDown2Ideal [hReferenceUpdateDown2Ideal : Cert.ReferenceUpdateDown2Ideal.Facts] : Prop :=
  ∀ (m : (ℓ : Loc Cert.ReferenceUpdateDown2Ideal.nD Cert.ReferenceUpdateDown2Ideal.τ Cert.ReferenceUpdateDown2Ideal.sig) → Buf (Elt Ideal) ℓ) (g : Dev Cert.ReferenceUpdateDown2Ideal.nD → PrngReg), Pre_ReferenceUpdateDown2Ideal m →
    θ_run (Cert.ReferenceUpdateDown2Ideal.defs (F := Ideal)) (onTc (τ := Cert.ReferenceUpdateDown2Ideal.τ) (Cert.ReferenceUpdateDown2Ideal.main (F := Ideal))) ⟨m, fun _ => 0, g⟩ (fun r => (∀ c : Dev Cert.ReferenceUpdateDown2Ideal.nD,
      r.2.mem ((c.tc : Thread Cert.ReferenceUpdateDown2Ideal.nD Cert.ReferenceUpdateDown2Ideal.τ).loc Cert.ReferenceUpdateDown2Ideal.main_arg0) = m ((c.tc : Thread Cert.ReferenceUpdateDown2Ideal.nD Cert.ReferenceUpdateDown2Ideal.τ).loc Cert.ReferenceUpdateDown2Ideal.main_arg0)
      ∧ r.2.mem ((c.tc : Thread Cert.ReferenceUpdateDown2Ideal.nD Cert.ReferenceUpdateDown2Ideal.τ).loc Cert.ReferenceUpdateDown2Ideal.main_arg1) = m ((c.tc : Thread Cert.ReferenceUpdateDown2Ideal.nD Cert.ReferenceUpdateDown2Ideal.τ).loc Cert.ReferenceUpdateDown2Ideal.main_arg1)
      ∧ r.2.mem ((c.tc : Thread Cert.ReferenceUpdateDown2Ideal.nD Cert.ReferenceUpdateDown2Ideal.τ).loc Cert.ReferenceUpdateDown2Ideal.main_arg2) = m ((c.tc : Thread Cert.ReferenceUpdateDown2Ideal.nD Cert.ReferenceUpdateDown2Ideal.τ).loc Cert.ReferenceUpdateDown2Ideal.main_arg2)
      ∧ r.2.mem ((c.tc : Thread Cert.ReferenceUpdateDown2Ideal.nD Cert.ReferenceUpdateDown2Ideal.τ).loc Cert.ReferenceUpdateDown2Ideal.main_arg3) = m ((c.tc : Thread Cert.ReferenceUpdateDown2Ideal.nD Cert.ReferenceUpdateDown2Ideal.τ).loc Cert.ReferenceUpdateDown2Ideal.main_arg3)
      ∧ r.2.mem ((c.tc : Thread Cert.ReferenceUpdateDown2Ideal.nD Cert.ReferenceUpdateDown2Ideal.τ).loc Cert.ReferenceUpdateDown2Ideal.main_arg4) = m ((c.tc : Thread Cert.ReferenceUpdateDown2Ideal.nD Cert.ReferenceUpdateDown2Ideal.τ).loc Cert.ReferenceUpdateDown2Ideal.main_arg4)
      ∧ r.2.mem ((c.tc : Thread Cert.ReferenceUpdateDown2Ideal.nD Cert.ReferenceUpdateDown2Ideal.τ).loc Cert.ReferenceUpdateDown2Ideal.main_arg5) = m ((c.tc : Thread Cert.ReferenceUpdateDown2Ideal.nD Cert.ReferenceUpdateDown2Ideal.τ).loc Cert.ReferenceUpdateDown2Ideal.main_arg5)
      ∧ r.2.mem ((c.tc : Thread Cert.ReferenceUpdateDown2Ideal.nD Cert.ReferenceUpdateDown2Ideal.τ).loc Cert.ReferenceUpdateDown2Ideal.main_arg6) = m ((c.tc : Thread Cert.ReferenceUpdateDown2Ideal.nD Cert.ReferenceUpdateDown2Ideal.τ).loc Cert.ReferenceUpdateDown2Ideal.main_arg6)
      ∧ r.2.mem ((c.tc : Thread Cert.ReferenceUpdateDown2Ideal.nD Cert.ReferenceUpdateDown2Ideal.τ).loc Cert.ReferenceUpdateDown2Ideal.main_arg7) = m ((c.tc : Thread Cert.ReferenceUpdateDown2Ideal.nD Cert.ReferenceUpdateDown2Ideal.τ).loc Cert.ReferenceUpdateDown2Ideal.main_arg7))
      ∧ r.2.sem = fun _ => 0)

def quiescent_KernelUpdateIn3 [hKernelUpdateIn3 : Cert.KernelUpdateIn3.Facts] : Prop :=
  ∀ (m : (ℓ : Loc Cert.KernelUpdateIn3.nD Cert.KernelUpdateIn3.τ Cert.KernelUpdateIn3.sig) → Buf (Elt Bits) ℓ) (g : Dev Cert.KernelUpdateIn3.nD → PrngReg), Pre_KernelUpdateIn3 m →
    θ_run (Cert.KernelUpdateIn3.defs (F := Bits)) (onTc (τ := Cert.KernelUpdateIn3.τ) (Cert.KernelUpdateIn3.main (F := Bits))) ⟨m, fun _ => 0, g⟩ (fun r => (∀ c : Dev Cert.KernelUpdateIn3.nD,
      r.2.mem ((c.tc : Thread Cert.KernelUpdateIn3.nD Cert.KernelUpdateIn3.τ).loc Cert.KernelUpdateIn3.main_arg0) = m ((c.tc : Thread Cert.KernelUpdateIn3.nD Cert.KernelUpdateIn3.τ).loc Cert.KernelUpdateIn3.main_arg0)
      ∧ r.2.mem ((c.tc : Thread Cert.KernelUpdateIn3.nD Cert.KernelUpdateIn3.τ).loc Cert.KernelUpdateIn3.main_arg1) = m ((c.tc : Thread Cert.KernelUpdateIn3.nD Cert.KernelUpdateIn3.τ).loc Cert.KernelUpdateIn3.main_arg1)
      ∧ r.2.mem ((c.tc : Thread Cert.KernelUpdateIn3.nD Cert.KernelUpdateIn3.τ).loc Cert.KernelUpdateIn3.main_arg2) = m ((c.tc : Thread Cert.KernelUpdateIn3.nD Cert.KernelUpdateIn3.τ).loc Cert.KernelUpdateIn3.main_arg2)
      ∧ r.2.mem ((c.tc : Thread Cert.KernelUpdateIn3.nD Cert.KernelUpdateIn3.τ).loc Cert.KernelUpdateIn3.main_arg3) = m ((c.tc : Thread Cert.KernelUpdateIn3.nD Cert.KernelUpdateIn3.τ).loc Cert.KernelUpdateIn3.main_arg3)
      ∧ r.2.mem ((c.tc : Thread Cert.KernelUpdateIn3.nD Cert.KernelUpdateIn3.τ).loc Cert.KernelUpdateIn3.main_arg4) = m ((c.tc : Thread Cert.KernelUpdateIn3.nD Cert.KernelUpdateIn3.τ).loc Cert.KernelUpdateIn3.main_arg4)
      ∧ r.2.mem ((c.tc : Thread Cert.KernelUpdateIn3.nD Cert.KernelUpdateIn3.τ).loc Cert.KernelUpdateIn3.main_arg5) = m ((c.tc : Thread Cert.KernelUpdateIn3.nD Cert.KernelUpdateIn3.τ).loc Cert.KernelUpdateIn3.main_arg5)
      ∧ r.2.mem ((c.tc : Thread Cert.KernelUpdateIn3.nD Cert.KernelUpdateIn3.τ).loc Cert.KernelUpdateIn3.main_arg6) = m ((c.tc : Thread Cert.KernelUpdateIn3.nD Cert.KernelUpdateIn3.τ).loc Cert.KernelUpdateIn3.main_arg6)
      ∧ r.2.mem ((c.tc : Thread Cert.KernelUpdateIn3.nD Cert.KernelUpdateIn3.τ).loc Cert.KernelUpdateIn3.main_arg7) = m ((c.tc : Thread Cert.KernelUpdateIn3.nD Cert.KernelUpdateIn3.τ).loc Cert.KernelUpdateIn3.main_arg7))
      ∧ r.2.sem = fun _ => 0)

def quiescent_KernelUpdateIn3Ideal [hKernelUpdateIn3Ideal : Cert.KernelUpdateIn3Ideal.Facts] : Prop :=
  ∀ (m : (ℓ : Loc Cert.KernelUpdateIn3Ideal.nD Cert.KernelUpdateIn3Ideal.τ Cert.KernelUpdateIn3Ideal.sig) → Buf (Elt Ideal) ℓ) (g : Dev Cert.KernelUpdateIn3Ideal.nD → PrngReg), Pre_KernelUpdateIn3Ideal m →
    θ_run (Cert.KernelUpdateIn3Ideal.defs (F := Ideal)) (onTc (τ := Cert.KernelUpdateIn3Ideal.τ) (Cert.KernelUpdateIn3Ideal.main (F := Ideal))) ⟨m, fun _ => 0, g⟩ (fun r => (∀ c : Dev Cert.KernelUpdateIn3Ideal.nD,
      r.2.mem ((c.tc : Thread Cert.KernelUpdateIn3Ideal.nD Cert.KernelUpdateIn3Ideal.τ).loc Cert.KernelUpdateIn3Ideal.main_arg0) = m ((c.tc : Thread Cert.KernelUpdateIn3Ideal.nD Cert.KernelUpdateIn3Ideal.τ).loc Cert.KernelUpdateIn3Ideal.main_arg0)
      ∧ r.2.mem ((c.tc : Thread Cert.KernelUpdateIn3Ideal.nD Cert.KernelUpdateIn3Ideal.τ).loc Cert.KernelUpdateIn3Ideal.main_arg1) = m ((c.tc : Thread Cert.KernelUpdateIn3Ideal.nD Cert.KernelUpdateIn3Ideal.τ).loc Cert.KernelUpdateIn3Ideal.main_arg1)
      ∧ r.2.mem ((c.tc : Thread Cert.KernelUpdateIn3Ideal.nD Cert.KernelUpdateIn3Ideal.τ).loc Cert.KernelUpdateIn3Ideal.main_arg2) = m ((c.tc : Thread Cert.KernelUpdateIn3Ideal.nD Cert.KernelUpdateIn3Ideal.τ).loc Cert.KernelUpdateIn3Ideal.main_arg2)
      ∧ r.2.mem ((c.tc : Thread Cert.KernelUpdateIn3Ideal.nD Cert.KernelUpdateIn3Ideal.τ).loc Cert.KernelUpdateIn3Ideal.main_arg3) = m ((c.tc : Thread Cert.KernelUpdateIn3Ideal.nD Cert.KernelUpdateIn3Ideal.τ).loc Cert.KernelUpdateIn3Ideal.main_arg3)
      ∧ r.2.mem ((c.tc : Thread Cert.KernelUpdateIn3Ideal.nD Cert.KernelUpdateIn3Ideal.τ).loc Cert.KernelUpdateIn3Ideal.main_arg4) = m ((c.tc : Thread Cert.KernelUpdateIn3Ideal.nD Cert.KernelUpdateIn3Ideal.τ).loc Cert.KernelUpdateIn3Ideal.main_arg4)
      ∧ r.2.mem ((c.tc : Thread Cert.KernelUpdateIn3Ideal.nD Cert.KernelUpdateIn3Ideal.τ).loc Cert.KernelUpdateIn3Ideal.main_arg5) = m ((c.tc : Thread Cert.KernelUpdateIn3Ideal.nD Cert.KernelUpdateIn3Ideal.τ).loc Cert.KernelUpdateIn3Ideal.main_arg5)
      ∧ r.2.mem ((c.tc : Thread Cert.KernelUpdateIn3Ideal.nD Cert.KernelUpdateIn3Ideal.τ).loc Cert.KernelUpdateIn3Ideal.main_arg6) = m ((c.tc : Thread Cert.KernelUpdateIn3Ideal.nD Cert.KernelUpdateIn3Ideal.τ).loc Cert.KernelUpdateIn3Ideal.main_arg6)
      ∧ r.2.mem ((c.tc : Thread Cert.KernelUpdateIn3Ideal.nD Cert.KernelUpdateIn3Ideal.τ).loc Cert.KernelUpdateIn3Ideal.main_arg7) = m ((c.tc : Thread Cert.KernelUpdateIn3Ideal.nD Cert.KernelUpdateIn3Ideal.τ).loc Cert.KernelUpdateIn3Ideal.main_arg7))
      ∧ r.2.sem = fun _ => 0)

def quiescent_ReferenceUpdateIn3Ideal [hReferenceUpdateIn3Ideal : Cert.ReferenceUpdateIn3Ideal.Facts] : Prop :=
  ∀ (m : (ℓ : Loc Cert.ReferenceUpdateIn3Ideal.nD Cert.ReferenceUpdateIn3Ideal.τ Cert.ReferenceUpdateIn3Ideal.sig) → Buf (Elt Ideal) ℓ) (g : Dev Cert.ReferenceUpdateIn3Ideal.nD → PrngReg), Pre_ReferenceUpdateIn3Ideal m →
    θ_run (Cert.ReferenceUpdateIn3Ideal.defs (F := Ideal)) (onTc (τ := Cert.ReferenceUpdateIn3Ideal.τ) (Cert.ReferenceUpdateIn3Ideal.main (F := Ideal))) ⟨m, fun _ => 0, g⟩ (fun r => (∀ c : Dev Cert.ReferenceUpdateIn3Ideal.nD,
      r.2.mem ((c.tc : Thread Cert.ReferenceUpdateIn3Ideal.nD Cert.ReferenceUpdateIn3Ideal.τ).loc Cert.ReferenceUpdateIn3Ideal.main_arg0) = m ((c.tc : Thread Cert.ReferenceUpdateIn3Ideal.nD Cert.ReferenceUpdateIn3Ideal.τ).loc Cert.ReferenceUpdateIn3Ideal.main_arg0)
      ∧ r.2.mem ((c.tc : Thread Cert.ReferenceUpdateIn3Ideal.nD Cert.ReferenceUpdateIn3Ideal.τ).loc Cert.ReferenceUpdateIn3Ideal.main_arg1) = m ((c.tc : Thread Cert.ReferenceUpdateIn3Ideal.nD Cert.ReferenceUpdateIn3Ideal.τ).loc Cert.ReferenceUpdateIn3Ideal.main_arg1)
      ∧ r.2.mem ((c.tc : Thread Cert.ReferenceUpdateIn3Ideal.nD Cert.ReferenceUpdateIn3Ideal.τ).loc Cert.ReferenceUpdateIn3Ideal.main_arg2) = m ((c.tc : Thread Cert.ReferenceUpdateIn3Ideal.nD Cert.ReferenceUpdateIn3Ideal.τ).loc Cert.ReferenceUpdateIn3Ideal.main_arg2)
      ∧ r.2.mem ((c.tc : Thread Cert.ReferenceUpdateIn3Ideal.nD Cert.ReferenceUpdateIn3Ideal.τ).loc Cert.ReferenceUpdateIn3Ideal.main_arg3) = m ((c.tc : Thread Cert.ReferenceUpdateIn3Ideal.nD Cert.ReferenceUpdateIn3Ideal.τ).loc Cert.ReferenceUpdateIn3Ideal.main_arg3)
      ∧ r.2.mem ((c.tc : Thread Cert.ReferenceUpdateIn3Ideal.nD Cert.ReferenceUpdateIn3Ideal.τ).loc Cert.ReferenceUpdateIn3Ideal.main_arg4) = m ((c.tc : Thread Cert.ReferenceUpdateIn3Ideal.nD Cert.ReferenceUpdateIn3Ideal.τ).loc Cert.ReferenceUpdateIn3Ideal.main_arg4)
      ∧ r.2.mem ((c.tc : Thread Cert.ReferenceUpdateIn3Ideal.nD Cert.ReferenceUpdateIn3Ideal.τ).loc Cert.ReferenceUpdateIn3Ideal.main_arg5) = m ((c.tc : Thread Cert.ReferenceUpdateIn3Ideal.nD Cert.ReferenceUpdateIn3Ideal.τ).loc Cert.ReferenceUpdateIn3Ideal.main_arg5)
      ∧ r.2.mem ((c.tc : Thread Cert.ReferenceUpdateIn3Ideal.nD Cert.ReferenceUpdateIn3Ideal.τ).loc Cert.ReferenceUpdateIn3Ideal.main_arg6) = m ((c.tc : Thread Cert.ReferenceUpdateIn3Ideal.nD Cert.ReferenceUpdateIn3Ideal.τ).loc Cert.ReferenceUpdateIn3Ideal.main_arg6)
      ∧ r.2.mem ((c.tc : Thread Cert.ReferenceUpdateIn3Ideal.nD Cert.ReferenceUpdateIn3Ideal.τ).loc Cert.ReferenceUpdateIn3Ideal.main_arg7) = m ((c.tc : Thread Cert.ReferenceUpdateIn3Ideal.nD Cert.ReferenceUpdateIn3Ideal.τ).loc Cert.ReferenceUpdateIn3Ideal.main_arg7))
      ∧ r.2.sem = fun _ => 0)

def quiescent_KernelUpdateOut3 [hKernelUpdateOut3 : Cert.KernelUpdateOut3.Facts] : Prop :=
  ∀ (m : (ℓ : Loc Cert.KernelUpdateOut3.nD Cert.KernelUpdateOut3.τ Cert.KernelUpdateOut3.sig) → Buf (Elt Bits) ℓ) (g : Dev Cert.KernelUpdateOut3.nD → PrngReg), Pre_KernelUpdateOut3 m →
    θ_run (Cert.KernelUpdateOut3.defs (F := Bits)) (onTc (τ := Cert.KernelUpdateOut3.τ) (Cert.KernelUpdateOut3.main (F := Bits))) ⟨m, fun _ => 0, g⟩ (fun r => (∀ c : Dev Cert.KernelUpdateOut3.nD,
      r.2.mem ((c.tc : Thread Cert.KernelUpdateOut3.nD Cert.KernelUpdateOut3.τ).loc Cert.KernelUpdateOut3.main_arg0) = m ((c.tc : Thread Cert.KernelUpdateOut3.nD Cert.KernelUpdateOut3.τ).loc Cert.KernelUpdateOut3.main_arg0)
      ∧ r.2.mem ((c.tc : Thread Cert.KernelUpdateOut3.nD Cert.KernelUpdateOut3.τ).loc Cert.KernelUpdateOut3.main_arg1) = m ((c.tc : Thread Cert.KernelUpdateOut3.nD Cert.KernelUpdateOut3.τ).loc Cert.KernelUpdateOut3.main_arg1)
      ∧ r.2.mem ((c.tc : Thread Cert.KernelUpdateOut3.nD Cert.KernelUpdateOut3.τ).loc Cert.KernelUpdateOut3.main_arg2) = m ((c.tc : Thread Cert.KernelUpdateOut3.nD Cert.KernelUpdateOut3.τ).loc Cert.KernelUpdateOut3.main_arg2)
      ∧ r.2.mem ((c.tc : Thread Cert.KernelUpdateOut3.nD Cert.KernelUpdateOut3.τ).loc Cert.KernelUpdateOut3.main_arg3) = m ((c.tc : Thread Cert.KernelUpdateOut3.nD Cert.KernelUpdateOut3.τ).loc Cert.KernelUpdateOut3.main_arg3)
      ∧ r.2.mem ((c.tc : Thread Cert.KernelUpdateOut3.nD Cert.KernelUpdateOut3.τ).loc Cert.KernelUpdateOut3.main_arg4) = m ((c.tc : Thread Cert.KernelUpdateOut3.nD Cert.KernelUpdateOut3.τ).loc Cert.KernelUpdateOut3.main_arg4)
      ∧ r.2.mem ((c.tc : Thread Cert.KernelUpdateOut3.nD Cert.KernelUpdateOut3.τ).loc Cert.KernelUpdateOut3.main_arg5) = m ((c.tc : Thread Cert.KernelUpdateOut3.nD Cert.KernelUpdateOut3.τ).loc Cert.KernelUpdateOut3.main_arg5)
      ∧ r.2.mem ((c.tc : Thread Cert.KernelUpdateOut3.nD Cert.KernelUpdateOut3.τ).loc Cert.KernelUpdateOut3.main_arg6) = m ((c.tc : Thread Cert.KernelUpdateOut3.nD Cert.KernelUpdateOut3.τ).loc Cert.KernelUpdateOut3.main_arg6)
      ∧ r.2.mem ((c.tc : Thread Cert.KernelUpdateOut3.nD Cert.KernelUpdateOut3.τ).loc Cert.KernelUpdateOut3.main_arg7) = m ((c.tc : Thread Cert.KernelUpdateOut3.nD Cert.KernelUpdateOut3.τ).loc Cert.KernelUpdateOut3.main_arg7))
      ∧ r.2.sem = fun _ => 0)

def quiescent_KernelUpdateOut3Ideal [hKernelUpdateOut3Ideal : Cert.KernelUpdateOut3Ideal.Facts] : Prop :=
  ∀ (m : (ℓ : Loc Cert.KernelUpdateOut3Ideal.nD Cert.KernelUpdateOut3Ideal.τ Cert.KernelUpdateOut3Ideal.sig) → Buf (Elt Ideal) ℓ) (g : Dev Cert.KernelUpdateOut3Ideal.nD → PrngReg), Pre_KernelUpdateOut3Ideal m →
    θ_run (Cert.KernelUpdateOut3Ideal.defs (F := Ideal)) (onTc (τ := Cert.KernelUpdateOut3Ideal.τ) (Cert.KernelUpdateOut3Ideal.main (F := Ideal))) ⟨m, fun _ => 0, g⟩ (fun r => (∀ c : Dev Cert.KernelUpdateOut3Ideal.nD,
      r.2.mem ((c.tc : Thread Cert.KernelUpdateOut3Ideal.nD Cert.KernelUpdateOut3Ideal.τ).loc Cert.KernelUpdateOut3Ideal.main_arg0) = m ((c.tc : Thread Cert.KernelUpdateOut3Ideal.nD Cert.KernelUpdateOut3Ideal.τ).loc Cert.KernelUpdateOut3Ideal.main_arg0)
      ∧ r.2.mem ((c.tc : Thread Cert.KernelUpdateOut3Ideal.nD Cert.KernelUpdateOut3Ideal.τ).loc Cert.KernelUpdateOut3Ideal.main_arg1) = m ((c.tc : Thread Cert.KernelUpdateOut3Ideal.nD Cert.KernelUpdateOut3Ideal.τ).loc Cert.KernelUpdateOut3Ideal.main_arg1)
      ∧ r.2.mem ((c.tc : Thread Cert.KernelUpdateOut3Ideal.nD Cert.KernelUpdateOut3Ideal.τ).loc Cert.KernelUpdateOut3Ideal.main_arg2) = m ((c.tc : Thread Cert.KernelUpdateOut3Ideal.nD Cert.KernelUpdateOut3Ideal.τ).loc Cert.KernelUpdateOut3Ideal.main_arg2)
      ∧ r.2.mem ((c.tc : Thread Cert.KernelUpdateOut3Ideal.nD Cert.KernelUpdateOut3Ideal.τ).loc Cert.KernelUpdateOut3Ideal.main_arg3) = m ((c.tc : Thread Cert.KernelUpdateOut3Ideal.nD Cert.KernelUpdateOut3Ideal.τ).loc Cert.KernelUpdateOut3Ideal.main_arg3)
      ∧ r.2.mem ((c.tc : Thread Cert.KernelUpdateOut3Ideal.nD Cert.KernelUpdateOut3Ideal.τ).loc Cert.KernelUpdateOut3Ideal.main_arg4) = m ((c.tc : Thread Cert.KernelUpdateOut3Ideal.nD Cert.KernelUpdateOut3Ideal.τ).loc Cert.KernelUpdateOut3Ideal.main_arg4)
      ∧ r.2.mem ((c.tc : Thread Cert.KernelUpdateOut3Ideal.nD Cert.KernelUpdateOut3Ideal.τ).loc Cert.KernelUpdateOut3Ideal.main_arg5) = m ((c.tc : Thread Cert.KernelUpdateOut3Ideal.nD Cert.KernelUpdateOut3Ideal.τ).loc Cert.KernelUpdateOut3Ideal.main_arg5)
      ∧ r.2.mem ((c.tc : Thread Cert.KernelUpdateOut3Ideal.nD Cert.KernelUpdateOut3Ideal.τ).loc Cert.KernelUpdateOut3Ideal.main_arg6) = m ((c.tc : Thread Cert.KernelUpdateOut3Ideal.nD Cert.KernelUpdateOut3Ideal.τ).loc Cert.KernelUpdateOut3Ideal.main_arg6)
      ∧ r.2.mem ((c.tc : Thread Cert.KernelUpdateOut3Ideal.nD Cert.KernelUpdateOut3Ideal.τ).loc Cert.KernelUpdateOut3Ideal.main_arg7) = m ((c.tc : Thread Cert.KernelUpdateOut3Ideal.nD Cert.KernelUpdateOut3Ideal.τ).loc Cert.KernelUpdateOut3Ideal.main_arg7))
      ∧ r.2.sem = fun _ => 0)

def quiescent_ReferenceUpdateOut3Ideal [hReferenceUpdateOut3Ideal : Cert.ReferenceUpdateOut3Ideal.Facts] : Prop :=
  ∀ (m : (ℓ : Loc Cert.ReferenceUpdateOut3Ideal.nD Cert.ReferenceUpdateOut3Ideal.τ Cert.ReferenceUpdateOut3Ideal.sig) → Buf (Elt Ideal) ℓ) (g : Dev Cert.ReferenceUpdateOut3Ideal.nD → PrngReg), Pre_ReferenceUpdateOut3Ideal m →
    θ_run (Cert.ReferenceUpdateOut3Ideal.defs (F := Ideal)) (onTc (τ := Cert.ReferenceUpdateOut3Ideal.τ) (Cert.ReferenceUpdateOut3Ideal.main (F := Ideal))) ⟨m, fun _ => 0, g⟩ (fun r => (∀ c : Dev Cert.ReferenceUpdateOut3Ideal.nD,
      r.2.mem ((c.tc : Thread Cert.ReferenceUpdateOut3Ideal.nD Cert.ReferenceUpdateOut3Ideal.τ).loc Cert.ReferenceUpdateOut3Ideal.main_arg0) = m ((c.tc : Thread Cert.ReferenceUpdateOut3Ideal.nD Cert.ReferenceUpdateOut3Ideal.τ).loc Cert.ReferenceUpdateOut3Ideal.main_arg0)
      ∧ r.2.mem ((c.tc : Thread Cert.ReferenceUpdateOut3Ideal.nD Cert.ReferenceUpdateOut3Ideal.τ).loc Cert.ReferenceUpdateOut3Ideal.main_arg1) = m ((c.tc : Thread Cert.ReferenceUpdateOut3Ideal.nD Cert.ReferenceUpdateOut3Ideal.τ).loc Cert.ReferenceUpdateOut3Ideal.main_arg1)
      ∧ r.2.mem ((c.tc : Thread Cert.ReferenceUpdateOut3Ideal.nD Cert.ReferenceUpdateOut3Ideal.τ).loc Cert.ReferenceUpdateOut3Ideal.main_arg2) = m ((c.tc : Thread Cert.ReferenceUpdateOut3Ideal.nD Cert.ReferenceUpdateOut3Ideal.τ).loc Cert.ReferenceUpdateOut3Ideal.main_arg2)
      ∧ r.2.mem ((c.tc : Thread Cert.ReferenceUpdateOut3Ideal.nD Cert.ReferenceUpdateOut3Ideal.τ).loc Cert.ReferenceUpdateOut3Ideal.main_arg3) = m ((c.tc : Thread Cert.ReferenceUpdateOut3Ideal.nD Cert.ReferenceUpdateOut3Ideal.τ).loc Cert.ReferenceUpdateOut3Ideal.main_arg3)
      ∧ r.2.mem ((c.tc : Thread Cert.ReferenceUpdateOut3Ideal.nD Cert.ReferenceUpdateOut3Ideal.τ).loc Cert.ReferenceUpdateOut3Ideal.main_arg4) = m ((c.tc : Thread Cert.ReferenceUpdateOut3Ideal.nD Cert.ReferenceUpdateOut3Ideal.τ).loc Cert.ReferenceUpdateOut3Ideal.main_arg4)
      ∧ r.2.mem ((c.tc : Thread Cert.ReferenceUpdateOut3Ideal.nD Cert.ReferenceUpdateOut3Ideal.τ).loc Cert.ReferenceUpdateOut3Ideal.main_arg5) = m ((c.tc : Thread Cert.ReferenceUpdateOut3Ideal.nD Cert.ReferenceUpdateOut3Ideal.τ).loc Cert.ReferenceUpdateOut3Ideal.main_arg5)
      ∧ r.2.mem ((c.tc : Thread Cert.ReferenceUpdateOut3Ideal.nD Cert.ReferenceUpdateOut3Ideal.τ).loc Cert.ReferenceUpdateOut3Ideal.main_arg6) = m ((c.tc : Thread Cert.ReferenceUpdateOut3Ideal.nD Cert.ReferenceUpdateOut3Ideal.τ).loc Cert.ReferenceUpdateOut3Ideal.main_arg6)
      ∧ r.2.mem ((c.tc : Thread Cert.ReferenceUpdateOut3Ideal.nD Cert.ReferenceUpdateOut3Ideal.τ).loc Cert.ReferenceUpdateOut3Ideal.main_arg7) = m ((c.tc : Thread Cert.ReferenceUpdateOut3Ideal.nD Cert.ReferenceUpdateOut3Ideal.τ).loc Cert.ReferenceUpdateOut3Ideal.main_arg7))
      ∧ r.2.sem = fun _ => 0)

def quiescent_KernelUpdateUp3 [hKernelUpdateUp3 : Cert.KernelUpdateUp3.Facts] : Prop :=
  ∀ (m : (ℓ : Loc Cert.KernelUpdateUp3.nD Cert.KernelUpdateUp3.τ Cert.KernelUpdateUp3.sig) → Buf (Elt Bits) ℓ) (g : Dev Cert.KernelUpdateUp3.nD → PrngReg), Pre_KernelUpdateUp3 m →
    θ_run (Cert.KernelUpdateUp3.defs (F := Bits)) (onTc (τ := Cert.KernelUpdateUp3.τ) (Cert.KernelUpdateUp3.main (F := Bits))) ⟨m, fun _ => 0, g⟩ (fun r => (∀ c : Dev Cert.KernelUpdateUp3.nD,
      r.2.mem ((c.tc : Thread Cert.KernelUpdateUp3.nD Cert.KernelUpdateUp3.τ).loc Cert.KernelUpdateUp3.main_arg0) = m ((c.tc : Thread Cert.KernelUpdateUp3.nD Cert.KernelUpdateUp3.τ).loc Cert.KernelUpdateUp3.main_arg0)
      ∧ r.2.mem ((c.tc : Thread Cert.KernelUpdateUp3.nD Cert.KernelUpdateUp3.τ).loc Cert.KernelUpdateUp3.main_arg1) = m ((c.tc : Thread Cert.KernelUpdateUp3.nD Cert.KernelUpdateUp3.τ).loc Cert.KernelUpdateUp3.main_arg1)
      ∧ r.2.mem ((c.tc : Thread Cert.KernelUpdateUp3.nD Cert.KernelUpdateUp3.τ).loc Cert.KernelUpdateUp3.main_arg2) = m ((c.tc : Thread Cert.KernelUpdateUp3.nD Cert.KernelUpdateUp3.τ).loc Cert.KernelUpdateUp3.main_arg2)
      ∧ r.2.mem ((c.tc : Thread Cert.KernelUpdateUp3.nD Cert.KernelUpdateUp3.τ).loc Cert.KernelUpdateUp3.main_arg3) = m ((c.tc : Thread Cert.KernelUpdateUp3.nD Cert.KernelUpdateUp3.τ).loc Cert.KernelUpdateUp3.main_arg3)
      ∧ r.2.mem ((c.tc : Thread Cert.KernelUpdateUp3.nD Cert.KernelUpdateUp3.τ).loc Cert.KernelUpdateUp3.main_arg4) = m ((c.tc : Thread Cert.KernelUpdateUp3.nD Cert.KernelUpdateUp3.τ).loc Cert.KernelUpdateUp3.main_arg4)
      ∧ r.2.mem ((c.tc : Thread Cert.KernelUpdateUp3.nD Cert.KernelUpdateUp3.τ).loc Cert.KernelUpdateUp3.main_arg5) = m ((c.tc : Thread Cert.KernelUpdateUp3.nD Cert.KernelUpdateUp3.τ).loc Cert.KernelUpdateUp3.main_arg5)
      ∧ r.2.mem ((c.tc : Thread Cert.KernelUpdateUp3.nD Cert.KernelUpdateUp3.τ).loc Cert.KernelUpdateUp3.main_arg6) = m ((c.tc : Thread Cert.KernelUpdateUp3.nD Cert.KernelUpdateUp3.τ).loc Cert.KernelUpdateUp3.main_arg6)
      ∧ r.2.mem ((c.tc : Thread Cert.KernelUpdateUp3.nD Cert.KernelUpdateUp3.τ).loc Cert.KernelUpdateUp3.main_arg7) = m ((c.tc : Thread Cert.KernelUpdateUp3.nD Cert.KernelUpdateUp3.τ).loc Cert.KernelUpdateUp3.main_arg7))
      ∧ r.2.sem = fun _ => 0)

def quiescent_KernelUpdateUp3Ideal [hKernelUpdateUp3Ideal : Cert.KernelUpdateUp3Ideal.Facts] : Prop :=
  ∀ (m : (ℓ : Loc Cert.KernelUpdateUp3Ideal.nD Cert.KernelUpdateUp3Ideal.τ Cert.KernelUpdateUp3Ideal.sig) → Buf (Elt Ideal) ℓ) (g : Dev Cert.KernelUpdateUp3Ideal.nD → PrngReg), Pre_KernelUpdateUp3Ideal m →
    θ_run (Cert.KernelUpdateUp3Ideal.defs (F := Ideal)) (onTc (τ := Cert.KernelUpdateUp3Ideal.τ) (Cert.KernelUpdateUp3Ideal.main (F := Ideal))) ⟨m, fun _ => 0, g⟩ (fun r => (∀ c : Dev Cert.KernelUpdateUp3Ideal.nD,
      r.2.mem ((c.tc : Thread Cert.KernelUpdateUp3Ideal.nD Cert.KernelUpdateUp3Ideal.τ).loc Cert.KernelUpdateUp3Ideal.main_arg0) = m ((c.tc : Thread Cert.KernelUpdateUp3Ideal.nD Cert.KernelUpdateUp3Ideal.τ).loc Cert.KernelUpdateUp3Ideal.main_arg0)
      ∧ r.2.mem ((c.tc : Thread Cert.KernelUpdateUp3Ideal.nD Cert.KernelUpdateUp3Ideal.τ).loc Cert.KernelUpdateUp3Ideal.main_arg1) = m ((c.tc : Thread Cert.KernelUpdateUp3Ideal.nD Cert.KernelUpdateUp3Ideal.τ).loc Cert.KernelUpdateUp3Ideal.main_arg1)
      ∧ r.2.mem ((c.tc : Thread Cert.KernelUpdateUp3Ideal.nD Cert.KernelUpdateUp3Ideal.τ).loc Cert.KernelUpdateUp3Ideal.main_arg2) = m ((c.tc : Thread Cert.KernelUpdateUp3Ideal.nD Cert.KernelUpdateUp3Ideal.τ).loc Cert.KernelUpdateUp3Ideal.main_arg2)
      ∧ r.2.mem ((c.tc : Thread Cert.KernelUpdateUp3Ideal.nD Cert.KernelUpdateUp3Ideal.τ).loc Cert.KernelUpdateUp3Ideal.main_arg3) = m ((c.tc : Thread Cert.KernelUpdateUp3Ideal.nD Cert.KernelUpdateUp3Ideal.τ).loc Cert.KernelUpdateUp3Ideal.main_arg3)
      ∧ r.2.mem ((c.tc : Thread Cert.KernelUpdateUp3Ideal.nD Cert.KernelUpdateUp3Ideal.τ).loc Cert.KernelUpdateUp3Ideal.main_arg4) = m ((c.tc : Thread Cert.KernelUpdateUp3Ideal.nD Cert.KernelUpdateUp3Ideal.τ).loc Cert.KernelUpdateUp3Ideal.main_arg4)
      ∧ r.2.mem ((c.tc : Thread Cert.KernelUpdateUp3Ideal.nD Cert.KernelUpdateUp3Ideal.τ).loc Cert.KernelUpdateUp3Ideal.main_arg5) = m ((c.tc : Thread Cert.KernelUpdateUp3Ideal.nD Cert.KernelUpdateUp3Ideal.τ).loc Cert.KernelUpdateUp3Ideal.main_arg5)
      ∧ r.2.mem ((c.tc : Thread Cert.KernelUpdateUp3Ideal.nD Cert.KernelUpdateUp3Ideal.τ).loc Cert.KernelUpdateUp3Ideal.main_arg6) = m ((c.tc : Thread Cert.KernelUpdateUp3Ideal.nD Cert.KernelUpdateUp3Ideal.τ).loc Cert.KernelUpdateUp3Ideal.main_arg6)
      ∧ r.2.mem ((c.tc : Thread Cert.KernelUpdateUp3Ideal.nD Cert.KernelUpdateUp3Ideal.τ).loc Cert.KernelUpdateUp3Ideal.main_arg7) = m ((c.tc : Thread Cert.KernelUpdateUp3Ideal.nD Cert.KernelUpdateUp3Ideal.τ).loc Cert.KernelUpdateUp3Ideal.main_arg7))
      ∧ r.2.sem = fun _ => 0)

def quiescent_ReferenceUpdateUp3Ideal [hReferenceUpdateUp3Ideal : Cert.ReferenceUpdateUp3Ideal.Facts] : Prop :=
  ∀ (m : (ℓ : Loc Cert.ReferenceUpdateUp3Ideal.nD Cert.ReferenceUpdateUp3Ideal.τ Cert.ReferenceUpdateUp3Ideal.sig) → Buf (Elt Ideal) ℓ) (g : Dev Cert.ReferenceUpdateUp3Ideal.nD → PrngReg), Pre_ReferenceUpdateUp3Ideal m →
    θ_run (Cert.ReferenceUpdateUp3Ideal.defs (F := Ideal)) (onTc (τ := Cert.ReferenceUpdateUp3Ideal.τ) (Cert.ReferenceUpdateUp3Ideal.main (F := Ideal))) ⟨m, fun _ => 0, g⟩ (fun r => (∀ c : Dev Cert.ReferenceUpdateUp3Ideal.nD,
      r.2.mem ((c.tc : Thread Cert.ReferenceUpdateUp3Ideal.nD Cert.ReferenceUpdateUp3Ideal.τ).loc Cert.ReferenceUpdateUp3Ideal.main_arg0) = m ((c.tc : Thread Cert.ReferenceUpdateUp3Ideal.nD Cert.ReferenceUpdateUp3Ideal.τ).loc Cert.ReferenceUpdateUp3Ideal.main_arg0)
      ∧ r.2.mem ((c.tc : Thread Cert.ReferenceUpdateUp3Ideal.nD Cert.ReferenceUpdateUp3Ideal.τ).loc Cert.ReferenceUpdateUp3Ideal.main_arg1) = m ((c.tc : Thread Cert.ReferenceUpdateUp3Ideal.nD Cert.ReferenceUpdateUp3Ideal.τ).loc Cert.ReferenceUpdateUp3Ideal.main_arg1)
      ∧ r.2.mem ((c.tc : Thread Cert.ReferenceUpdateUp3Ideal.nD Cert.ReferenceUpdateUp3Ideal.τ).loc Cert.ReferenceUpdateUp3Ideal.main_arg2) = m ((c.tc : Thread Cert.ReferenceUpdateUp3Ideal.nD Cert.ReferenceUpdateUp3Ideal.τ).loc Cert.ReferenceUpdateUp3Ideal.main_arg2)
      ∧ r.2.mem ((c.tc : Thread Cert.ReferenceUpdateUp3Ideal.nD Cert.ReferenceUpdateUp3Ideal.τ).loc Cert.ReferenceUpdateUp3Ideal.main_arg3) = m ((c.tc : Thread Cert.ReferenceUpdateUp3Ideal.nD Cert.ReferenceUpdateUp3Ideal.τ).loc Cert.ReferenceUpdateUp3Ideal.main_arg3)
      ∧ r.2.mem ((c.tc : Thread Cert.ReferenceUpdateUp3Ideal.nD Cert.ReferenceUpdateUp3Ideal.τ).loc Cert.ReferenceUpdateUp3Ideal.main_arg4) = m ((c.tc : Thread Cert.ReferenceUpdateUp3Ideal.nD Cert.ReferenceUpdateUp3Ideal.τ).loc Cert.ReferenceUpdateUp3Ideal.main_arg4)
      ∧ r.2.mem ((c.tc : Thread Cert.ReferenceUpdateUp3Ideal.nD Cert.ReferenceUpdateUp3Ideal.τ).loc Cert.ReferenceUpdateUp3Ideal.main_arg5) = m ((c.tc : Thread Cert.ReferenceUpdateUp3Ideal.nD Cert.ReferenceUpdateUp3Ideal.τ).loc Cert.ReferenceUpdateUp3Ideal.main_arg5)
      ∧ r.2.mem ((c.tc : Thread Cert.ReferenceUpdateUp3Ideal.nD Cert.ReferenceUpdateUp3Ideal.τ).loc Cert.ReferenceUpdateUp3Ideal.main_arg6) = m ((c.tc : Thread Cert.ReferenceUpdateUp3Ideal.nD Cert.ReferenceUpdateUp3Ideal.τ).loc Cert.ReferenceUpdateUp3Ideal.main_arg6)
      ∧ r.2.mem ((c.tc : Thread Cert.ReferenceUpdateUp3Ideal.nD Cert.ReferenceUpdateUp3Ideal.τ).loc Cert.ReferenceUpdateUp3Ideal.main_arg7) = m ((c.tc : Thread Cert.ReferenceUpdateUp3Ideal.nD Cert.ReferenceUpdateUp3Ideal.τ).loc Cert.ReferenceUpdateUp3Ideal.main_arg7))
      ∧ r.2.sem = fun _ => 0)

def quiescent_KernelUpdateDown3 [hKernelUpdateDown3 : Cert.KernelUpdateDown3.Facts] : Prop :=
  ∀ (m : (ℓ : Loc Cert.KernelUpdateDown3.nD Cert.KernelUpdateDown3.τ Cert.KernelUpdateDown3.sig) → Buf (Elt Bits) ℓ) (g : Dev Cert.KernelUpdateDown3.nD → PrngReg), Pre_KernelUpdateDown3 m →
    θ_run (Cert.KernelUpdateDown3.defs (F := Bits)) (onTc (τ := Cert.KernelUpdateDown3.τ) (Cert.KernelUpdateDown3.main (F := Bits))) ⟨m, fun _ => 0, g⟩ (fun r => (∀ c : Dev Cert.KernelUpdateDown3.nD,
      r.2.mem ((c.tc : Thread Cert.KernelUpdateDown3.nD Cert.KernelUpdateDown3.τ).loc Cert.KernelUpdateDown3.main_arg0) = m ((c.tc : Thread Cert.KernelUpdateDown3.nD Cert.KernelUpdateDown3.τ).loc Cert.KernelUpdateDown3.main_arg0)
      ∧ r.2.mem ((c.tc : Thread Cert.KernelUpdateDown3.nD Cert.KernelUpdateDown3.τ).loc Cert.KernelUpdateDown3.main_arg1) = m ((c.tc : Thread Cert.KernelUpdateDown3.nD Cert.KernelUpdateDown3.τ).loc Cert.KernelUpdateDown3.main_arg1)
      ∧ r.2.mem ((c.tc : Thread Cert.KernelUpdateDown3.nD Cert.KernelUpdateDown3.τ).loc Cert.KernelUpdateDown3.main_arg2) = m ((c.tc : Thread Cert.KernelUpdateDown3.nD Cert.KernelUpdateDown3.τ).loc Cert.KernelUpdateDown3.main_arg2)
      ∧ r.2.mem ((c.tc : Thread Cert.KernelUpdateDown3.nD Cert.KernelUpdateDown3.τ).loc Cert.KernelUpdateDown3.main_arg3) = m ((c.tc : Thread Cert.KernelUpdateDown3.nD Cert.KernelUpdateDown3.τ).loc Cert.KernelUpdateDown3.main_arg3)
      ∧ r.2.mem ((c.tc : Thread Cert.KernelUpdateDown3.nD Cert.KernelUpdateDown3.τ).loc Cert.KernelUpdateDown3.main_arg4) = m ((c.tc : Thread Cert.KernelUpdateDown3.nD Cert.KernelUpdateDown3.τ).loc Cert.KernelUpdateDown3.main_arg4)
      ∧ r.2.mem ((c.tc : Thread Cert.KernelUpdateDown3.nD Cert.KernelUpdateDown3.τ).loc Cert.KernelUpdateDown3.main_arg5) = m ((c.tc : Thread Cert.KernelUpdateDown3.nD Cert.KernelUpdateDown3.τ).loc Cert.KernelUpdateDown3.main_arg5)
      ∧ r.2.mem ((c.tc : Thread Cert.KernelUpdateDown3.nD Cert.KernelUpdateDown3.τ).loc Cert.KernelUpdateDown3.main_arg6) = m ((c.tc : Thread Cert.KernelUpdateDown3.nD Cert.KernelUpdateDown3.τ).loc Cert.KernelUpdateDown3.main_arg6)
      ∧ r.2.mem ((c.tc : Thread Cert.KernelUpdateDown3.nD Cert.KernelUpdateDown3.τ).loc Cert.KernelUpdateDown3.main_arg7) = m ((c.tc : Thread Cert.KernelUpdateDown3.nD Cert.KernelUpdateDown3.τ).loc Cert.KernelUpdateDown3.main_arg7))
      ∧ r.2.sem = fun _ => 0)

def quiescent_KernelUpdateDown3Ideal [hKernelUpdateDown3Ideal : Cert.KernelUpdateDown3Ideal.Facts] : Prop :=
  ∀ (m : (ℓ : Loc Cert.KernelUpdateDown3Ideal.nD Cert.KernelUpdateDown3Ideal.τ Cert.KernelUpdateDown3Ideal.sig) → Buf (Elt Ideal) ℓ) (g : Dev Cert.KernelUpdateDown3Ideal.nD → PrngReg), Pre_KernelUpdateDown3Ideal m →
    θ_run (Cert.KernelUpdateDown3Ideal.defs (F := Ideal)) (onTc (τ := Cert.KernelUpdateDown3Ideal.τ) (Cert.KernelUpdateDown3Ideal.main (F := Ideal))) ⟨m, fun _ => 0, g⟩ (fun r => (∀ c : Dev Cert.KernelUpdateDown3Ideal.nD,
      r.2.mem ((c.tc : Thread Cert.KernelUpdateDown3Ideal.nD Cert.KernelUpdateDown3Ideal.τ).loc Cert.KernelUpdateDown3Ideal.main_arg0) = m ((c.tc : Thread Cert.KernelUpdateDown3Ideal.nD Cert.KernelUpdateDown3Ideal.τ).loc Cert.KernelUpdateDown3Ideal.main_arg0)
      ∧ r.2.mem ((c.tc : Thread Cert.KernelUpdateDown3Ideal.nD Cert.KernelUpdateDown3Ideal.τ).loc Cert.KernelUpdateDown3Ideal.main_arg1) = m ((c.tc : Thread Cert.KernelUpdateDown3Ideal.nD Cert.KernelUpdateDown3Ideal.τ).loc Cert.KernelUpdateDown3Ideal.main_arg1)
      ∧ r.2.mem ((c.tc : Thread Cert.KernelUpdateDown3Ideal.nD Cert.KernelUpdateDown3Ideal.τ).loc Cert.KernelUpdateDown3Ideal.main_arg2) = m ((c.tc : Thread Cert.KernelUpdateDown3Ideal.nD Cert.KernelUpdateDown3Ideal.τ).loc Cert.KernelUpdateDown3Ideal.main_arg2)
      ∧ r.2.mem ((c.tc : Thread Cert.KernelUpdateDown3Ideal.nD Cert.KernelUpdateDown3Ideal.τ).loc Cert.KernelUpdateDown3Ideal.main_arg3) = m ((c.tc : Thread Cert.KernelUpdateDown3Ideal.nD Cert.KernelUpdateDown3Ideal.τ).loc Cert.KernelUpdateDown3Ideal.main_arg3)
      ∧ r.2.mem ((c.tc : Thread Cert.KernelUpdateDown3Ideal.nD Cert.KernelUpdateDown3Ideal.τ).loc Cert.KernelUpdateDown3Ideal.main_arg4) = m ((c.tc : Thread Cert.KernelUpdateDown3Ideal.nD Cert.KernelUpdateDown3Ideal.τ).loc Cert.KernelUpdateDown3Ideal.main_arg4)
      ∧ r.2.mem ((c.tc : Thread Cert.KernelUpdateDown3Ideal.nD Cert.KernelUpdateDown3Ideal.τ).loc Cert.KernelUpdateDown3Ideal.main_arg5) = m ((c.tc : Thread Cert.KernelUpdateDown3Ideal.nD Cert.KernelUpdateDown3Ideal.τ).loc Cert.KernelUpdateDown3Ideal.main_arg5)
      ∧ r.2.mem ((c.tc : Thread Cert.KernelUpdateDown3Ideal.nD Cert.KernelUpdateDown3Ideal.τ).loc Cert.KernelUpdateDown3Ideal.main_arg6) = m ((c.tc : Thread Cert.KernelUpdateDown3Ideal.nD Cert.KernelUpdateDown3Ideal.τ).loc Cert.KernelUpdateDown3Ideal.main_arg6)
      ∧ r.2.mem ((c.tc : Thread Cert.KernelUpdateDown3Ideal.nD Cert.KernelUpdateDown3Ideal.τ).loc Cert.KernelUpdateDown3Ideal.main_arg7) = m ((c.tc : Thread Cert.KernelUpdateDown3Ideal.nD Cert.KernelUpdateDown3Ideal.τ).loc Cert.KernelUpdateDown3Ideal.main_arg7))
      ∧ r.2.sem = fun _ => 0)

def quiescent_ReferenceUpdateDown3Ideal [hReferenceUpdateDown3Ideal : Cert.ReferenceUpdateDown3Ideal.Facts] : Prop :=
  ∀ (m : (ℓ : Loc Cert.ReferenceUpdateDown3Ideal.nD Cert.ReferenceUpdateDown3Ideal.τ Cert.ReferenceUpdateDown3Ideal.sig) → Buf (Elt Ideal) ℓ) (g : Dev Cert.ReferenceUpdateDown3Ideal.nD → PrngReg), Pre_ReferenceUpdateDown3Ideal m →
    θ_run (Cert.ReferenceUpdateDown3Ideal.defs (F := Ideal)) (onTc (τ := Cert.ReferenceUpdateDown3Ideal.τ) (Cert.ReferenceUpdateDown3Ideal.main (F := Ideal))) ⟨m, fun _ => 0, g⟩ (fun r => (∀ c : Dev Cert.ReferenceUpdateDown3Ideal.nD,
      r.2.mem ((c.tc : Thread Cert.ReferenceUpdateDown3Ideal.nD Cert.ReferenceUpdateDown3Ideal.τ).loc Cert.ReferenceUpdateDown3Ideal.main_arg0) = m ((c.tc : Thread Cert.ReferenceUpdateDown3Ideal.nD Cert.ReferenceUpdateDown3Ideal.τ).loc Cert.ReferenceUpdateDown3Ideal.main_arg0)
      ∧ r.2.mem ((c.tc : Thread Cert.ReferenceUpdateDown3Ideal.nD Cert.ReferenceUpdateDown3Ideal.τ).loc Cert.ReferenceUpdateDown3Ideal.main_arg1) = m ((c.tc : Thread Cert.ReferenceUpdateDown3Ideal.nD Cert.ReferenceUpdateDown3Ideal.τ).loc Cert.ReferenceUpdateDown3Ideal.main_arg1)
      ∧ r.2.mem ((c.tc : Thread Cert.ReferenceUpdateDown3Ideal.nD Cert.ReferenceUpdateDown3Ideal.τ).loc Cert.ReferenceUpdateDown3Ideal.main_arg2) = m ((c.tc : Thread Cert.ReferenceUpdateDown3Ideal.nD Cert.ReferenceUpdateDown3Ideal.τ).loc Cert.ReferenceUpdateDown3Ideal.main_arg2)
      ∧ r.2.mem ((c.tc : Thread Cert.ReferenceUpdateDown3Ideal.nD Cert.ReferenceUpdateDown3Ideal.τ).loc Cert.ReferenceUpdateDown3Ideal.main_arg3) = m ((c.tc : Thread Cert.ReferenceUpdateDown3Ideal.nD Cert.ReferenceUpdateDown3Ideal.τ).loc Cert.ReferenceUpdateDown3Ideal.main_arg3)
      ∧ r.2.mem ((c.tc : Thread Cert.ReferenceUpdateDown3Ideal.nD Cert.ReferenceUpdateDown3Ideal.τ).loc Cert.ReferenceUpdateDown3Ideal.main_arg4) = m ((c.tc : Thread Cert.ReferenceUpdateDown3Ideal.nD Cert.ReferenceUpdateDown3Ideal.τ).loc Cert.ReferenceUpdateDown3Ideal.main_arg4)
      ∧ r.2.mem ((c.tc : Thread Cert.ReferenceUpdateDown3Ideal.nD Cert.ReferenceUpdateDown3Ideal.τ).loc Cert.ReferenceUpdateDown3Ideal.main_arg5) = m ((c.tc : Thread Cert.ReferenceUpdateDown3Ideal.nD Cert.ReferenceUpdateDown3Ideal.τ).loc Cert.ReferenceUpdateDown3Ideal.main_arg5)
      ∧ r.2.mem ((c.tc : Thread Cert.ReferenceUpdateDown3Ideal.nD Cert.ReferenceUpdateDown3Ideal.τ).loc Cert.ReferenceUpdateDown3Ideal.main_arg6) = m ((c.tc : Thread Cert.ReferenceUpdateDown3Ideal.nD Cert.ReferenceUpdateDown3Ideal.τ).loc Cert.ReferenceUpdateDown3Ideal.main_arg6)
      ∧ r.2.mem ((c.tc : Thread Cert.ReferenceUpdateDown3Ideal.nD Cert.ReferenceUpdateDown3Ideal.τ).loc Cert.ReferenceUpdateDown3Ideal.main_arg7) = m ((c.tc : Thread Cert.ReferenceUpdateDown3Ideal.nD Cert.ReferenceUpdateDown3Ideal.τ).loc Cert.ReferenceUpdateDown3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v4) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v6) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)) →
    ∃ (v0 : (c : Dev Cert.KernelUpDxIdeal.nD) → Buf (Elt Ideal) ((c.tc : Thread Cert.KernelUpDxIdeal.nD Cert.KernelUpDxIdeal.τ).loc Cert.KernelUpDxIdeal.main_v0)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v10) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v13) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v4) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v6) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v5) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v7) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelInFwd_KernelInFwdIdeal : Prop :=
  True

def algebraic_KernelInFwdIdeal_ReferenceInFwdIdeal [hKernelInFwdIdeal : Cert.KernelInFwdIdeal.Facts] [hReferenceInFwdIdeal : Cert.ReferenceInFwdIdeal.Facts] : Prop :=
  ∀ (m : (ℓ : Loc Cert.KernelInFwdIdeal.nD Cert.KernelInFwdIdeal.τ Cert.KernelInFwdIdeal.sig) → Buf (Elt Ideal) ℓ) (g : Dev Cert.KernelInFwdIdeal.nD → PrngReg)
    (m' : (ℓ : Loc Cert.ReferenceInFwdIdeal.nD Cert.ReferenceInFwdIdeal.τ Cert.ReferenceInFwdIdeal.sig) → Buf (Elt Ideal) ℓ) (g' : Dev Cert.ReferenceInFwdIdeal.nD → PrngReg), Pre_KernelInFwdIdeal m →
    (∀ c : Dev Cert.KernelInFwdIdeal.nD,
      m' ((c.tc : Thread Cert.ReferenceInFwdIdeal.nD Cert.ReferenceInFwdIdeal.τ).loc Cert.ReferenceInFwdIdeal.main_arg0) = m ((c.tc : Thread Cert.KernelInFwdIdeal.nD Cert.KernelInFwdIdeal.τ).loc Cert.KernelInFwdIdeal.main_arg0)
      ∧ m' ((c.tc : Thread Cert.ReferenceInFwdIdeal.nD Cert.ReferenceInFwdIdeal.τ).loc Cert.ReferenceInFwdIdeal.main_arg1) = m ((c.tc : Thread Cert.KernelInFwdIdeal.nD Cert.KernelInFwdIdeal.τ).loc Cert.KernelInFwdIdeal.main_arg1)) →
    ∃ (v0 : (c : Dev Cert.KernelInFwdIdeal.nD) → Buf (Elt Ideal) ((c.tc : Thread Cert.KernelInFwdIdeal.nD Cert.KernelInFwdIdeal.τ).loc Cert.KernelInFwdIdeal.main_v0)),
      θ_run (Cert.KernelInFwdIdeal.defs (F := Ideal)) (onTc (τ := Cert.KernelInFwdIdeal.τ) (Cert.KernelInFwdIdeal.main (F := Ideal))) ⟨m, fun _ => 0, g⟩ (fun r => ∀ c : Dev Cert.KernelInFwdIdeal.nD,
          r.2.mem ((c.tc : Thread Cert.KernelInFwdIdeal.nD Cert.KernelInFwdIdeal.τ).loc Cert.KernelInFwdIdeal.main_v0) = v0 c
          ∧ r.2.mem ((c.tc : Thread Cert.KernelInFwdIdeal.nD Cert.KernelInFwdIdeal.τ).loc Cert.KernelInFwdIdeal.main_arg0) = m ((c.tc : Thread Cert.KernelInFwdIdeal.nD Cert.KernelInFwdIdeal.τ).loc Cert.KernelInFwdIdeal.main_arg0)
          ∧ r.2.mem ((c.tc : Thread Cert.KernelInFwdIdeal.nD Cert.KernelInFwdIdeal.τ).loc Cert.KernelInFwdIdeal.main_arg1) = m ((c.tc : Thread Cert.KernelInFwdIdeal.nD Cert.KernelInFwdIdeal.τ).loc Cert.KernelInFwdIdeal.main_arg1))
      ∧ θ_run (Cert.ReferenceInFwdIdeal.defs (F := Ideal)) (onTc (τ := Cert.ReferenceInFwdIdeal.τ) (Cert.ReferenceInFwdIdeal.main (F := Ideal))) ⟨m', fun _ => 0, g'⟩ (fun r => ∀ c : Dev Cert.ReferenceInFwdIdeal.nD,
          r.2.mem ((c.tc : Thread Cert.ReferenceInFwdIdeal.nD Cert.ReferenceInFwdIdeal.τ).loc Cert.ReferenceInFwdIdeal.main_v3) = v0 c
          ∧ r.2.mem ((c.tc : Thread Cert.ReferenceInFwdIdeal.nD Cert.ReferenceInFwdIdeal.τ).loc Cert.ReferenceInFwdIdeal.main_arg0) = m' ((c.tc : Thread Cert.ReferenceInFwdIdeal.nD Cert.ReferenceInFwdIdeal.τ).loc Cert.ReferenceInFwdIdeal.main_arg0)
          ∧ r.2.mem ((c.tc : Thread Cert.ReferenceInFwdIdeal.nD Cert.ReferenceInFwdIdeal.τ).loc Cert.ReferenceInFwdIdeal.main_arg1) = m' ((c.tc : Thread Cert.ReferenceInFwdIdeal.nD Cert.ReferenceInFwdIdeal.τ).loc Cert.ReferenceInFwdIdeal.main_arg1))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)) →
    ∃ (v0 : (c : Dev Cert.KernelOutFwdIdeal.nD) → Buf (Elt Ideal) ((c.tc : Thread Cert.KernelOutFwdIdeal.nD Cert.KernelOutFwdIdeal.τ).loc Cert.KernelOutFwdIdeal.main_v0)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v0) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v3) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2))

def preserves_KernelUpFwd_KernelUpFwdIdeal : Prop :=
  True

def algebraic_KernelUpFwdIdeal_ReferenceUpFwdIdeal [hKernelUpFwdIdeal : Cert.KernelUpFwdIdeal.Facts] [hReferenceUpFwdIdeal : Cert.ReferenceUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg)
    (m' : (ℓ : Loc Cert.ReferenceUpFwdIdeal.nD Cert.ReferenceUpFwdIdeal.τ Cert.ReferenceUpFwdIdeal.sig) → Buf (Elt Ideal) ℓ) (g' : Dev Cert.ReferenceUpFwdIdeal.nD → PrngReg), Pre_KernelUpFwdIdeal m →
    (∀ c : Dev Cert.KernelUpFwdIdeal.nD,
      m' ((c.tc : Thread Cert.ReferenceUpFwdIdeal.nD Cert.ReferenceUpFwdIdeal.τ).loc Cert.ReferenceUpFwdIdeal.main_arg0) = m ((c.tc : Thread Cert.KernelUpFwdIdeal.nD Cert.KernelUpFwdIdeal.τ).loc Cert.KernelUpFwdIdeal.main_arg0)
      ∧ m' ((c.tc : Thread Cert.ReferenceUpFwdIdeal.nD Cert.ReferenceUpFwdIdeal.τ).loc Cert.ReferenceUpFwdIdeal.main_arg1) = m ((c.tc : Thread Cert.KernelUpFwdIdeal.nD Cert.KernelUpFwdIdeal.τ).loc Cert.KernelUpFwdIdeal.main_arg1)) →
    ∃ (v0 : (c : Dev Cert.KernelUpFwdIdeal.nD) → Buf (Elt Ideal) ((c.tc : Thread Cert.KernelUpFwdIdeal.nD Cert.KernelUpFwdIdeal.τ).loc Cert.KernelUpFwdIdeal.main_v0)),
      θ_run (Cert.KernelUpFwdIdeal.defs (F := Ideal)) (onTc (τ := Cert.KernelUpFwdIdeal.τ) (Cert.KernelUpFwdIdeal.main (F := Ideal))) ⟨m, fun _ => 0, g⟩ (fun r => ∀ c : Dev Cert.KernelUpFwdIdeal.nD,
          r.2.mem ((c.tc : Thread Cert.KernelUpFwdIdeal.nD Cert.KernelUpFwdIdeal.τ).loc Cert.KernelUpFwdIdeal.main_v0) = v0 c
          ∧ r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
          ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1))
      ∧ θ_run (Cert.ReferenceUpFwdIdeal.defs (F := Ideal)) (onTc (τ := Cert.ReferenceUpFwdIdeal.τ) (Cert.ReferenceUpFwdIdeal.main (F := Ideal))) ⟨m', fun _ => 0, g'⟩ (fun r => ∀ c : Dev Cert.ReferenceUpFwdIdeal.nD,
          r.2.mem ((c.tc : Thread Cert.ReferenceUpFwdIdeal.nD Cert.ReferenceUpFwdIdeal.τ).loc Cert.ReferenceUpFwdIdeal.main_v3) = v0 c
          ∧ r.2.mem ((c.tc : Thread Cert.ReferenceUpFwdIdeal.nD Cert.ReferenceUpFwdIdeal.τ).loc Cert.ReferenceUpFwdIdeal.main_arg0) = m' ((c.tc : Thread Cert.ReferenceUpFwdIdeal.nD Cert.ReferenceUpFwdIdeal.τ).loc Cert.ReferenceUpFwdIdeal.main_arg0)
          ∧ r.2.mem ((c.tc : Thread Cert.ReferenceUpFwdIdeal.nD Cert.ReferenceUpFwdIdeal.τ).loc Cert.ReferenceUpFwdIdeal.main_arg1) = m' ((c.tc : Thread Cert.ReferenceUpFwdIdeal.nD Cert.ReferenceUpFwdIdeal.τ).loc Cert.ReferenceUpFwdIdeal.main_arg1))

def preserves_KernelDownFwd_KernelDownFwdIdeal : Prop :=
  True

def algebraic_KernelDownFwdIdeal_ReferenceDownFwdIdeal [hKernelDownFwdIdeal : Cert.KernelDownFwdIdeal.Facts] [hReferenceDownFwdIdeal : Cert.ReferenceDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg)
    (m' : (ℓ : Loc Cert.ReferenceDownFwdIdeal.nD Cert.ReferenceDownFwdIdeal.τ Cert.ReferenceDownFwdIdeal.sig) → Buf (Elt Ideal) ℓ) (g' : Dev Cert.ReferenceDownFwdIdeal.nD → PrngReg), Pre_KernelDownFwdIdeal m →
    (∀ c : Dev Cert.KernelDownFwdIdeal.nD,
      m' ((c.tc : Thread Cert.ReferenceDownFwdIdeal.nD Cert.ReferenceDownFwdIdeal.τ).loc Cert.ReferenceDownFwdIdeal.main_arg0) = m ((c.tc : Thread Cert.KernelDownFwdIdeal.nD Cert.KernelDownFwdIdeal.τ).loc Cert.KernelDownFwdIdeal.main_arg0)
      ∧ m' ((c.tc : Thread Cert.ReferenceDownFwdIdeal.nD Cert.ReferenceDownFwdIdeal.τ).loc Cert.ReferenceDownFwdIdeal.main_arg1) = m ((c.tc : Thread Cert.KernelDownFwdIdeal.nD Cert.KernelDownFwdIdeal.τ).loc Cert.KernelDownFwdIdeal.main_arg1)
      ∧ m' ((c.tc : Thread Cert.ReferenceDownFwdIdeal.nD Cert.ReferenceDownFwdIdeal.τ).loc Cert.ReferenceDownFwdIdeal.main_arg2) = m ((c.tc : Thread Cert.KernelDownFwdIdeal.nD Cert.KernelDownFwdIdeal.τ).loc Cert.KernelDownFwdIdeal.main_arg2)) →
    ∃ (v0 : (c : Dev Cert.KernelDownFwdIdeal.nD) → Buf (Elt Ideal) ((c.tc : Thread Cert.KernelDownFwdIdeal.nD Cert.KernelDownFwdIdeal.τ).loc Cert.KernelDownFwdIdeal.main_v0)),
      θ_run (Cert.KernelDownFwdIdeal.defs (F := Ideal)) (onTc (τ := Cert.KernelDownFwdIdeal.τ) (Cert.KernelDownFwdIdeal.main (F := Ideal))) ⟨m, fun _ => 0, g⟩ (fun r => ∀ c : Dev Cert.KernelDownFwdIdeal.nD,
          r.2.mem ((c.tc : Thread Cert.KernelDownFwdIdeal.nD Cert.KernelDownFwdIdeal.τ).loc Cert.KernelDownFwdIdeal.main_v0) = v0 c
          ∧ r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
          ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
          ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2))
      ∧ θ_run (Cert.ReferenceDownFwdIdeal.defs (F := Ideal)) (onTc (τ := Cert.ReferenceDownFwdIdeal.τ) (Cert.ReferenceDownFwdIdeal.main (F := Ideal))) ⟨m', fun _ => 0, g'⟩ (fun r => ∀ c : Dev Cert.ReferenceDownFwdIdeal.nD,
          r.2.mem ((c.tc : Thread Cert.ReferenceDownFwdIdeal.nD Cert.ReferenceDownFwdIdeal.τ).loc Cert.ReferenceDownFwdIdeal.main_v3) = v0 c
          ∧ r.2.mem ((c.tc : Thread Cert.ReferenceDownFwdIdeal.nD Cert.ReferenceDownFwdIdeal.τ).loc Cert.ReferenceDownFwdIdeal.main_arg0) = m' ((c.tc : Thread Cert.ReferenceDownFwdIdeal.nD Cert.ReferenceDownFwdIdeal.τ).loc Cert.ReferenceDownFwdIdeal.main_arg0)
          ∧ r.2.mem ((c.tc : Thread Cert.ReferenceDownFwdIdeal.nD Cert.ReferenceDownFwdIdeal.τ).loc Cert.ReferenceDownFwdIdeal.main_arg1) = m' ((c.tc : Thread Cert.ReferenceDownFwdIdeal.nD Cert.ReferenceDownFwdIdeal.τ).loc Cert.ReferenceDownFwdIdeal.main_arg1)
          ∧ r.2.mem ((c.tc : Thread Cert.ReferenceDownFwdIdeal.nD Cert.ReferenceDownFwdIdeal.τ).loc Cert.ReferenceDownFwdIdeal.main_arg2) = m' ((c.tc : Thread Cert.ReferenceDownFwdIdeal.nD Cert.ReferenceDownFwdIdeal.τ).loc Cert.ReferenceDownFwdIdeal.main_arg2))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)) →
    ∃ (v0 : (c : Dev Cert.KernelNormBwdIdeal.nD) → Buf (Elt Ideal) ((c.tc : Thread Cert.KernelNormBwdIdeal.nD Cert.KernelNormBwdIdeal.τ).loc Cert.KernelNormBwdIdeal.main_v1_0)) (v1 : (c : Dev Cert.KernelNormBwdIdeal.nD) → Buf (Elt Ideal) ((c.tc : Thread Cert.KernelNormBwdIdeal.nD Cert.KernelNormBwdIdeal.τ).loc Cert.KernelNormBwdIdeal.main_v1_1)) (v2 : (c : Dev Cert.KernelNormBwdIdeal.nD) → Buf (Elt Ideal) ((c.tc : Thread Cert.KernelNormBwdIdeal.nD Cert.KernelNormBwdIdeal.τ).loc Cert.KernelNormBwdIdeal.main_v1_2)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v1_0) = v0 c
          ∧ r.2.mem ((c.tc : Thread Cert.KernelNormBwdIdeal.nD Cert.KernelNormBwdIdeal.τ).loc Cert.KernelNormBwdIdeal.main_v1_1) = v1 c
          ∧ r.2.mem ((c.tc : Thread Cert.KernelNormBwdIdeal.nD Cert.KernelNormBwdIdeal.τ).loc Cert.KernelNormBwdIdeal.main_v1_2) = v2 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v36) = v0 c
          ∧ r.2.mem ((c.tc : Thread Cert.ReferenceNormBwdIdeal.nD Cert.ReferenceNormBwdIdeal.τ).loc Cert.ReferenceNormBwdIdeal.main_v37) = v1 c
          ∧ r.2.mem ((c.tc : Thread Cert.ReferenceNormBwdIdeal.nD Cert.ReferenceNormBwdIdeal.τ).loc Cert.ReferenceNormBwdIdeal.main_v38) = v2 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def preserves_KernelMixBwd_KernelMixBwdIdeal : Prop :=
  True

def algebraic_KernelMixBwdIdeal_ReferenceMixBwdIdeal [hKernelMixBwdIdeal : Cert.KernelMixBwdIdeal.Facts] [hReferenceMixBwdIdeal : Cert.ReferenceMixBwdIdeal.Facts] : Prop :=
  ∀ (m : (ℓ : Loc Cert.KernelMixBwdIdeal.nD Cert.KernelMixBwdIdeal.τ Cert.KernelMixBwdIdeal.sig) → Buf (Elt Ideal) ℓ) (g : Dev Cert.KernelMixBwdIdeal.nD → PrngReg)
    (m' : (ℓ : Loc Cert.ReferenceMixBwdIdeal.nD Cert.ReferenceMixBwdIdeal.τ Cert.ReferenceMixBwdIdeal.sig) → Buf (Elt Ideal) ℓ) (g' : Dev Cert.ReferenceMixBwdIdeal.nD → PrngReg), Pre_KernelMixBwdIdeal m →
    (∀ c : Dev Cert.KernelMixBwdIdeal.nD,
      m' ((c.tc : Thread Cert.ReferenceMixBwdIdeal.nD Cert.ReferenceMixBwdIdeal.τ).loc Cert.ReferenceMixBwdIdeal.main_arg0) = m ((c.tc : Thread Cert.KernelMixBwdIdeal.nD Cert.KernelMixBwdIdeal.τ).loc Cert.KernelMixBwdIdeal.main_arg0)
      ∧ m' ((c.tc : Thread Cert.ReferenceMixBwdIdeal.nD Cert.ReferenceMixBwdIdeal.τ).loc Cert.ReferenceMixBwdIdeal.main_arg1) = m ((c.tc : Thread Cert.KernelMixBwdIdeal.nD Cert.KernelMixBwdIdeal.τ).loc Cert.KernelMixBwdIdeal.main_arg1)
      ∧ m' ((c.tc : Thread Cert.ReferenceMixBwdIdeal.nD Cert.ReferenceMixBwdIdeal.τ).loc Cert.ReferenceMixBwdIdeal.main_arg2) = m ((c.tc : Thread Cert.KernelMixBwdIdeal.nD Cert.KernelMixBwdIdeal.τ).loc Cert.KernelMixBwdIdeal.main_arg2)
      ∧ m' ((c.tc : Thread Cert.ReferenceMixBwdIdeal.nD Cert.ReferenceMixBwdIdeal.τ).loc Cert.ReferenceMixBwdIdeal.main_arg3) = m ((c.tc : Thread Cert.KernelMixBwdIdeal.nD Cert.KernelMixBwdIdeal.τ).loc Cert.KernelMixBwdIdeal.main_arg3)
      ∧ m' ((c.tc : Thread Cert.ReferenceMixBwdIdeal.nD Cert.ReferenceMixBwdIdeal.τ).loc Cert.ReferenceMixBwdIdeal.main_arg4) = m ((c.tc : Thread Cert.KernelMixBwdIdeal.nD Cert.KernelMixBwdIdeal.τ).loc Cert.KernelMixBwdIdeal.main_arg4)) →
    ∃ (v0 : (c : Dev Cert.KernelMixBwdIdeal.nD) → Buf (Elt Ideal) ((c.tc : Thread Cert.KernelMixBwdIdeal.nD Cert.KernelMixBwdIdeal.τ).loc Cert.KernelMixBwdIdeal.main_v1_0)) (v1 : (c : Dev Cert.KernelMixBwdIdeal.nD) → Buf (Elt Ideal) ((c.tc : Thread Cert.KernelMixBwdIdeal.nD Cert.KernelMixBwdIdeal.τ).loc Cert.KernelMixBwdIdeal.main_v1_1)) (v2 : (c : Dev Cert.KernelMixBwdIdeal.nD) → Buf (Elt Ideal) ((c.tc : Thread Cert.KernelMixBwdIdeal.nD Cert.KernelMixBwdIdeal.τ).loc Cert.KernelMixBwdIdeal.main_v1_2)) (v3 : (c : Dev Cert.KernelMixBwdIdeal.nD) → Buf (Elt Ideal) ((c.tc : Thread Cert.KernelMixBwdIdeal.nD Cert.KernelMixBwdIdeal.τ).loc Cert.KernelMixBwdIdeal.main_v1_3)),
      θ_run (Cert.KernelMixBwdIdeal.defs (F := Ideal)) (onTc (τ := Cert.KernelMixBwdIdeal.τ) (Cert.KernelMixBwdIdeal.main (F := Ideal))) ⟨m, fun _ => 0, g⟩ (fun r => ∀ c : Dev Cert.KernelMixBwdIdeal.nD,
          r.2.mem ((c.tc : Thread Cert.KernelMixBwdIdeal.nD Cert.KernelMixBwdIdeal.τ).loc Cert.KernelMixBwdIdeal.main_v1_0) = v0 c
          ∧ r.2.mem ((c.tc : Thread Cert.KernelMixBwdIdeal.nD Cert.KernelMixBwdIdeal.τ).loc Cert.KernelMixBwdIdeal.main_v1_1) = v1 c
          ∧ r.2.mem ((c.tc : Thread Cert.KernelMixBwdIdeal.nD Cert.KernelMixBwdIdeal.τ).loc Cert.KernelMixBwdIdeal.main_v1_2) = v2 c
          ∧ r.2.mem ((c.tc : Thread Cert.KernelMixBwdIdeal.nD Cert.KernelMixBwdIdeal.τ).loc Cert.KernelMixBwdIdeal.main_v1_3) = v3 c
          ∧ r.2.mem ((c.tc : Thread Cert.KernelMixBwdIdeal.nD Cert.KernelMixBwdIdeal.τ).loc Cert.KernelMixBwdIdeal.main_arg0) = m ((c.tc : Thread Cert.KernelMixBwdIdeal.nD Cert.KernelMixBwdIdeal.τ).loc Cert.KernelMixBwdIdeal.main_arg0)
          ∧ r.2.mem ((c.tc : Thread Cert.KernelMixBwdIdeal.nD Cert.KernelMixBwdIdeal.τ).loc Cert.KernelMixBwdIdeal.main_arg1) = m ((c.tc : Thread Cert.KernelMixBwdIdeal.nD Cert.KernelMixBwdIdeal.τ).loc Cert.KernelMixBwdIdeal.main_arg1)
          ∧ r.2.mem ((c.tc : Thread Cert.KernelMixBwdIdeal.nD Cert.KernelMixBwdIdeal.τ).loc Cert.KernelMixBwdIdeal.main_arg2) = m ((c.tc : Thread Cert.KernelMixBwdIdeal.nD Cert.KernelMixBwdIdeal.τ).loc Cert.KernelMixBwdIdeal.main_arg2)
          ∧ r.2.mem ((c.tc : Thread Cert.KernelMixBwdIdeal.nD Cert.KernelMixBwdIdeal.τ).loc Cert.KernelMixBwdIdeal.main_arg3) = m ((c.tc : Thread Cert.KernelMixBwdIdeal.nD Cert.KernelMixBwdIdeal.τ).loc Cert.KernelMixBwdIdeal.main_arg3)
          ∧ r.2.mem ((c.tc : Thread Cert.KernelMixBwdIdeal.nD Cert.KernelMixBwdIdeal.τ).loc Cert.KernelMixBwdIdeal.main_arg4) = m ((c.tc : Thread Cert.KernelMixBwdIdeal.nD Cert.KernelMixBwdIdeal.τ).loc Cert.KernelMixBwdIdeal.main_arg4))
      ∧ θ_run (Cert.ReferenceMixBwdIdeal.defs (F := Ideal)) (onTc (τ := Cert.ReferenceMixBwdIdeal.τ) (Cert.ReferenceMixBwdIdeal.main (F := Ideal))) ⟨m', fun _ => 0, g'⟩ (fun r => ∀ c : Dev Cert.ReferenceMixBwdIdeal.nD,
          r.2.mem ((c.tc : Thread Cert.ReferenceMixBwdIdeal.nD Cert.ReferenceMixBwdIdeal.τ).loc Cert.ReferenceMixBwdIdeal.main_v114) = v0 c
          ∧ r.2.mem ((c.tc : Thread Cert.ReferenceMixBwdIdeal.nD Cert.ReferenceMixBwdIdeal.τ).loc Cert.ReferenceMixBwdIdeal.main_v94) = v1 c
          ∧ r.2.mem ((c.tc : Thread Cert.ReferenceMixBwdIdeal.nD Cert.ReferenceMixBwdIdeal.τ).loc Cert.ReferenceMixBwdIdeal.main_v74) = v2 c
          ∧ r.2.mem ((c.tc : Thread Cert.ReferenceMixBwdIdeal.nD Cert.ReferenceMixBwdIdeal.τ).loc Cert.ReferenceMixBwdIdeal.main_v116) = v3 c
          ∧ r.2.mem ((c.tc : Thread Cert.ReferenceMixBwdIdeal.nD Cert.ReferenceMixBwdIdeal.τ).loc Cert.ReferenceMixBwdIdeal.main_arg0) = m' ((c.tc : Thread Cert.ReferenceMixBwdIdeal.nD Cert.ReferenceMixBwdIdeal.τ).loc Cert.ReferenceMixBwdIdeal.main_arg0)
          ∧ r.2.mem ((c.tc : Thread Cert.ReferenceMixBwdIdeal.nD Cert.ReferenceMixBwdIdeal.τ).loc Cert.ReferenceMixBwdIdeal.main_arg1) = m' ((c.tc : Thread Cert.ReferenceMixBwdIdeal.nD Cert.ReferenceMixBwdIdeal.τ).loc Cert.ReferenceMixBwdIdeal.main_arg1)
          ∧ r.2.mem ((c.tc : Thread Cert.ReferenceMixBwdIdeal.nD Cert.ReferenceMixBwdIdeal.τ).loc Cert.ReferenceMixBwdIdeal.main_arg2) = m' ((c.tc : Thread Cert.ReferenceMixBwdIdeal.nD Cert.ReferenceMixBwdIdeal.τ).loc Cert.ReferenceMixBwdIdeal.main_arg2)
          ∧ r.2.mem ((c.tc : Thread Cert.ReferenceMixBwdIdeal.nD Cert.ReferenceMixBwdIdeal.τ).loc Cert.ReferenceMixBwdIdeal.main_arg3) = m' ((c.tc : Thread Cert.ReferenceMixBwdIdeal.nD Cert.ReferenceMixBwdIdeal.τ).loc Cert.ReferenceMixBwdIdeal.main_arg3)
          ∧ r.2.mem ((c.tc : Thread Cert.ReferenceMixBwdIdeal.nD Cert.ReferenceMixBwdIdeal.τ).loc Cert.ReferenceMixBwdIdeal.main_arg4) = m' ((c.tc : Thread Cert.ReferenceMixBwdIdeal.nD Cert.ReferenceMixBwdIdeal.τ).loc Cert.ReferenceMixBwdIdeal.main_arg4))

def preserves_KernelActFwd_KernelActFwdIdeal : Prop :=
  True

def algebraic_KernelActFwdIdeal_ReferenceActFwdIdeal [hKernelActFwdIdeal : Cert.KernelActFwdIdeal.Facts] [hReferenceActFwdIdeal : Cert.ReferenceActFwdIdeal.Facts] : Prop :=
  ∀ (m : (ℓ : Loc Cert.KernelActFwdIdeal.nD Cert.KernelActFwdIdeal.τ Cert.KernelActFwdIdeal.sig) → Buf (Elt Ideal) ℓ) (g : Dev Cert.KernelActFwdIdeal.nD → PrngReg)
    (m' : (ℓ : Loc Cert.ReferenceActFwdIdeal.nD Cert.ReferenceActFwdIdeal.τ Cert.ReferenceActFwdIdeal.sig) → Buf (Elt Ideal) ℓ) (g' : Dev Cert.ReferenceActFwdIdeal.nD → PrngReg), Pre_KernelActFwdIdeal m →
    (∀ c : Dev Cert.KernelActFwdIdeal.nD,
      m' ((c.tc : Thread Cert.ReferenceActFwdIdeal.nD Cert.ReferenceActFwdIdeal.τ).loc Cert.ReferenceActFwdIdeal.main_arg0) = m ((c.tc : Thread Cert.KernelActFwdIdeal.nD Cert.KernelActFwdIdeal.τ).loc Cert.KernelActFwdIdeal.main_arg0)
      ∧ m' ((c.tc : Thread Cert.ReferenceActFwdIdeal.nD Cert.ReferenceActFwdIdeal.τ).loc Cert.ReferenceActFwdIdeal.main_arg1) = m ((c.tc : Thread Cert.KernelActFwdIdeal.nD Cert.KernelActFwdIdeal.τ).loc Cert.KernelActFwdIdeal.main_arg1)
      ∧ m' ((c.tc : Thread Cert.ReferenceActFwdIdeal.nD Cert.ReferenceActFwdIdeal.τ).loc Cert.ReferenceActFwdIdeal.main_arg2) = m ((c.tc : Thread Cert.KernelActFwdIdeal.nD Cert.KernelActFwdIdeal.τ).loc Cert.KernelActFwdIdeal.main_arg2)) →
    ∃ (v0 : (c : Dev Cert.KernelActFwdIdeal.nD) → Buf (Elt Ideal) ((c.tc : Thread Cert.KernelActFwdIdeal.nD Cert.KernelActFwdIdeal.τ).loc Cert.KernelActFwdIdeal.main_v2)),
      θ_run (Cert.KernelActFwdIdeal.defs (F := Ideal)) (onTc (τ := Cert.KernelActFwdIdeal.τ) (Cert.KernelActFwdIdeal.main (F := Ideal))) ⟨m, fun _ => 0, g⟩ (fun r => ∀ c : Dev Cert.KernelActFwdIdeal.nD,
          r.2.mem ((c.tc : Thread Cert.KernelActFwdIdeal.nD Cert.KernelActFwdIdeal.τ).loc Cert.KernelActFwdIdeal.main_v2) = v0 c
          ∧ r.2.mem ((c.tc : Thread Cert.KernelActFwdIdeal.nD Cert.KernelActFwdIdeal.τ).loc Cert.KernelActFwdIdeal.main_arg0) = m ((c.tc : Thread Cert.KernelActFwdIdeal.nD Cert.KernelActFwdIdeal.τ).loc Cert.KernelActFwdIdeal.main_arg0)
          ∧ r.2.mem ((c.tc : Thread Cert.KernelActFwdIdeal.nD Cert.KernelActFwdIdeal.τ).loc Cert.KernelActFwdIdeal.main_arg1) = m ((c.tc : Thread Cert.KernelActFwdIdeal.nD Cert.KernelActFwdIdeal.τ).loc Cert.KernelActFwdIdeal.main_arg1)
          ∧ r.2.mem ((c.tc : Thread Cert.KernelActFwdIdeal.nD Cert.KernelActFwdIdeal.τ).loc Cert.KernelActFwdIdeal.main_arg2) = m ((c.tc : Thread Cert.KernelActFwdIdeal.nD Cert.KernelActFwdIdeal.τ).loc Cert.KernelActFwdIdeal.main_arg2))
      ∧ θ_run (Cert.ReferenceActFwdIdeal.defs (F := Ideal)) (onTc (τ := Cert.ReferenceActFwdIdeal.τ) (Cert.ReferenceActFwdIdeal.main (F := Ideal))) ⟨m', fun _ => 0, g'⟩ (fun r => ∀ c : Dev Cert.ReferenceActFwdIdeal.nD,
          r.2.mem ((c.tc : Thread Cert.ReferenceActFwdIdeal.nD Cert.ReferenceActFwdIdeal.τ).loc Cert.ReferenceActFwdIdeal.main_v29) = v0 c
          ∧ r.2.mem ((c.tc : Thread Cert.ReferenceActFwdIdeal.nD Cert.ReferenceActFwdIdeal.τ).loc Cert.ReferenceActFwdIdeal.main_arg0) = m' ((c.tc : Thread Cert.ReferenceActFwdIdeal.nD Cert.ReferenceActFwdIdeal.τ).loc Cert.ReferenceActFwdIdeal.main_arg0)
          ∧ r.2.mem ((c.tc : Thread Cert.ReferenceActFwdIdeal.nD Cert.ReferenceActFwdIdeal.τ).loc Cert.ReferenceActFwdIdeal.main_arg1) = m' ((c.tc : Thread Cert.ReferenceActFwdIdeal.nD Cert.ReferenceActFwdIdeal.τ).loc Cert.ReferenceActFwdIdeal.main_arg1)
          ∧ r.2.mem ((c.tc : Thread Cert.ReferenceActFwdIdeal.nD Cert.ReferenceActFwdIdeal.τ).loc Cert.ReferenceActFwdIdeal.main_arg2) = m' ((c.tc : Thread Cert.ReferenceActFwdIdeal.nD Cert.ReferenceActFwdIdeal.τ).loc Cert.ReferenceActFwdIdeal.main_arg2))

def preserves_KernelNormFwd_KernelNormFwdIdeal : Prop :=
  True

def algebraic_KernelNormFwdIdeal_ReferenceNormFwdIdeal [hKernelNormFwdIdeal : Cert.KernelNormFwdIdeal.Facts] [hReferenceNormFwdIdeal : Cert.ReferenceNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg)
    (m' : (ℓ : Loc Cert.ReferenceNormFwdIdeal.nD Cert.ReferenceNormFwdIdeal.τ Cert.ReferenceNormFwdIdeal.sig) → Buf (Elt Ideal) ℓ) (g' : Dev Cert.ReferenceNormFwdIdeal.nD → PrngReg), Pre_KernelNormFwdIdeal m →
    (∀ c : Dev Cert.KernelNormFwdIdeal.nD,
      m' ((c.tc : Thread Cert.ReferenceNormFwdIdeal.nD Cert.ReferenceNormFwdIdeal.τ).loc Cert.ReferenceNormFwdIdeal.main_arg0) = m ((c.tc : Thread Cert.KernelNormFwdIdeal.nD Cert.KernelNormFwdIdeal.τ).loc Cert.KernelNormFwdIdeal.main_arg0)
      ∧ m' ((c.tc : Thread Cert.ReferenceNormFwdIdeal.nD Cert.ReferenceNormFwdIdeal.τ).loc Cert.ReferenceNormFwdIdeal.main_arg1) = m ((c.tc : Thread Cert.KernelNormFwdIdeal.nD Cert.KernelNormFwdIdeal.τ).loc Cert.KernelNormFwdIdeal.main_arg1)) →
    ∃ (v0 : (c : Dev Cert.KernelNormFwdIdeal.nD) → Buf (Elt Ideal) ((c.tc : Thread Cert.KernelNormFwdIdeal.nD Cert.KernelNormFwdIdeal.τ).loc Cert.KernelNormFwdIdeal.main_v1)),
      θ_run (Cert.KernelNormFwdIdeal.defs (F := Ideal)) (onTc (τ := Cert.KernelNormFwdIdeal.τ) (Cert.KernelNormFwdIdeal.main (F := Ideal))) ⟨m, fun _ => 0, g⟩ (fun r => ∀ c : Dev Cert.KernelNormFwdIdeal.nD,
          r.2.mem ((c.tc : Thread Cert.KernelNormFwdIdeal.nD Cert.KernelNormFwdIdeal.τ).loc Cert.KernelNormFwdIdeal.main_v1) = v0 c
          ∧ r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
          ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1))
      ∧ θ_run (Cert.ReferenceNormFwdIdeal.defs (F := Ideal)) (onTc (τ := Cert.ReferenceNormFwdIdeal.τ) (Cert.ReferenceNormFwdIdeal.main (F := Ideal))) ⟨m', fun _ => 0, g'⟩ (fun r => ∀ c : Dev Cert.ReferenceNormFwdIdeal.nD,
          r.2.mem ((c.tc : Thread Cert.ReferenceNormFwdIdeal.nD Cert.ReferenceNormFwdIdeal.τ).loc Cert.ReferenceNormFwdIdeal.main_v13) = v0 c
          ∧ r.2.mem ((c.tc : Thread Cert.ReferenceNormFwdIdeal.nD Cert.ReferenceNormFwdIdeal.τ).loc Cert.ReferenceNormFwdIdeal.main_arg0) = m' ((c.tc : Thread Cert.ReferenceNormFwdIdeal.nD Cert.ReferenceNormFwdIdeal.τ).loc Cert.ReferenceNormFwdIdeal.main_arg0)
          ∧ r.2.mem ((c.tc : Thread Cert.ReferenceNormFwdIdeal.nD Cert.ReferenceNormFwdIdeal.τ).loc Cert.ReferenceNormFwdIdeal.main_arg1) = m' ((c.tc : Thread Cert.ReferenceNormFwdIdeal.nD Cert.ReferenceNormFwdIdeal.τ).loc Cert.ReferenceNormFwdIdeal.main_arg1))

def preserves_KernelMixFwd_KernelMixFwdIdeal : Prop :=
  True

def algebraic_KernelMixFwdIdeal_ReferenceMixFwdIdeal [hKernelMixFwdIdeal : Cert.KernelMixFwdIdeal.Facts] [hReferenceMixFwdIdeal : Cert.ReferenceMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg)
    (m' : (ℓ : Loc Cert.ReferenceMixFwdIdeal.nD Cert.ReferenceMixFwdIdeal.τ Cert.ReferenceMixFwdIdeal.sig) → Buf (Elt Ideal) ℓ) (g' : Dev Cert.ReferenceMixFwdIdeal.nD → PrngReg), Pre_KernelMixFwdIdeal m →
    (∀ c : Dev Cert.KernelMixFwdIdeal.nD,
      m' ((c.tc : Thread Cert.ReferenceMixFwdIdeal.nD Cert.ReferenceMixFwdIdeal.τ).loc Cert.ReferenceMixFwdIdeal.main_arg0) = m ((c.tc : Thread Cert.KernelMixFwdIdeal.nD Cert.KernelMixFwdIdeal.τ).loc Cert.KernelMixFwdIdeal.main_arg0)
      ∧ m' ((c.tc : Thread Cert.ReferenceMixFwdIdeal.nD Cert.ReferenceMixFwdIdeal.τ).loc Cert.ReferenceMixFwdIdeal.main_arg1) = m ((c.tc : Thread Cert.KernelMixFwdIdeal.nD Cert.KernelMixFwdIdeal.τ).loc Cert.KernelMixFwdIdeal.main_arg1)
      ∧ m' ((c.tc : Thread Cert.ReferenceMixFwdIdeal.nD Cert.ReferenceMixFwdIdeal.τ).loc Cert.ReferenceMixFwdIdeal.main_arg2) = m ((c.tc : Thread Cert.KernelMixFwdIdeal.nD Cert.KernelMixFwdIdeal.τ).loc Cert.KernelMixFwdIdeal.main_arg2)
      ∧ m' ((c.tc : Thread Cert.ReferenceMixFwdIdeal.nD Cert.ReferenceMixFwdIdeal.τ).loc Cert.ReferenceMixFwdIdeal.main_arg3) = m ((c.tc : Thread Cert.KernelMixFwdIdeal.nD Cert.KernelMixFwdIdeal.τ).loc Cert.KernelMixFwdIdeal.main_arg3)) →
    ∃ (v0 : (c : Dev Cert.KernelMixFwdIdeal.nD) → Buf (Elt Ideal) ((c.tc : Thread Cert.KernelMixFwdIdeal.nD Cert.KernelMixFwdIdeal.τ).loc Cert.KernelMixFwdIdeal.main_v1)),
      θ_run (Cert.KernelMixFwdIdeal.defs (F := Ideal)) (onTc (τ := Cert.KernelMixFwdIdeal.τ) (Cert.KernelMixFwdIdeal.main (F := Ideal))) ⟨m, fun _ => 0, g⟩ (fun r => ∀ c : Dev Cert.KernelMixFwdIdeal.nD,
          r.2.mem ((c.tc : Thread Cert.KernelMixFwdIdeal.nD Cert.KernelMixFwdIdeal.τ).loc Cert.KernelMixFwdIdeal.main_v1) = v0 c
          ∧ r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
          ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
          ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
          ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3))
      ∧ θ_run (Cert.ReferenceMixFwdIdeal.defs (F := Ideal)) (onTc (τ := Cert.ReferenceMixFwdIdeal.τ) (Cert.ReferenceMixFwdIdeal.main (F := Ideal))) ⟨m', fun _ => 0, g'⟩ (fun r => ∀ c : Dev Cert.ReferenceMixFwdIdeal.nD,
          r.2.mem ((c.tc : Thread Cert.ReferenceMixFwdIdeal.nD Cert.ReferenceMixFwdIdeal.τ).loc Cert.ReferenceMixFwdIdeal.main_v43) = v0 c
          ∧ r.2.mem ((c.tc : Thread Cert.ReferenceMixFwdIdeal.nD Cert.ReferenceMixFwdIdeal.τ).loc Cert.ReferenceMixFwdIdeal.main_arg0) = m' ((c.tc : Thread Cert.ReferenceMixFwdIdeal.nD Cert.ReferenceMixFwdIdeal.τ).loc Cert.ReferenceMixFwdIdeal.main_arg0)
          ∧ r.2.mem ((c.tc : Thread Cert.ReferenceMixFwdIdeal.nD Cert.ReferenceMixFwdIdeal.τ).loc Cert.ReferenceMixFwdIdeal.main_arg1) = m' ((c.tc : Thread Cert.ReferenceMixFwdIdeal.nD Cert.ReferenceMixFwdIdeal.τ).loc Cert.ReferenceMixFwdIdeal.main_arg1)
          ∧ r.2.mem ((c.tc : Thread Cert.ReferenceMixFwdIdeal.nD Cert.ReferenceMixFwdIdeal.τ).loc Cert.ReferenceMixFwdIdeal.main_arg2) = m' ((c.tc : Thread Cert.ReferenceMixFwdIdeal.nD Cert.ReferenceMixFwdIdeal.τ).loc Cert.ReferenceMixFwdIdeal.main_arg2)
          ∧ r.2.mem ((c.tc : Thread Cert.ReferenceMixFwdIdeal.nD Cert.ReferenceMixFwdIdeal.τ).loc Cert.ReferenceMixFwdIdeal.main_arg3) = m' ((c.tc : Thread Cert.ReferenceMixFwdIdeal.nD Cert.ReferenceMixFwdIdeal.τ).loc Cert.ReferenceMixFwdIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_v16) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelBiasA_KernelBiasAIdeal : Prop :=
  True

def algebraic_KernelBiasAIdeal_ReferenceBiasAIdeal [hKernelBiasAIdeal : Cert.KernelBiasAIdeal.Facts] [hReferenceBiasAIdeal : Cert.ReferenceBiasAIdeal.Facts] : Prop :=
  ∀ (m : (ℓ : Loc Cert.KernelBiasAIdeal.nD Cert.KernelBiasAIdeal.τ Cert.KernelBiasAIdeal.sig) → Buf (Elt Ideal) ℓ) (g : Dev Cert.KernelBiasAIdeal.nD → PrngReg)
    (m' : (ℓ : Loc Cert.ReferenceBiasAIdeal.nD Cert.ReferenceBiasAIdeal.τ Cert.ReferenceBiasAIdeal.sig) → Buf (Elt Ideal) ℓ) (g' : Dev Cert.ReferenceBiasAIdeal.nD → PrngReg), Pre_KernelBiasAIdeal m →
    (∀ c : Dev Cert.KernelBiasAIdeal.nD,
      m' ((c.tc : Thread Cert.ReferenceBiasAIdeal.nD Cert.ReferenceBiasAIdeal.τ).loc Cert.ReferenceBiasAIdeal.main_arg0) = m ((c.tc : Thread Cert.KernelBiasAIdeal.nD Cert.KernelBiasAIdeal.τ).loc Cert.KernelBiasAIdeal.main_arg0)
      ∧ m' ((c.tc : Thread Cert.ReferenceBiasAIdeal.nD Cert.ReferenceBiasAIdeal.τ).loc Cert.ReferenceBiasAIdeal.main_arg1) = m ((c.tc : Thread Cert.KernelBiasAIdeal.nD Cert.KernelBiasAIdeal.τ).loc Cert.KernelBiasAIdeal.main_arg1)) →
    ∃ (v0 : (c : Dev Cert.KernelBiasAIdeal.nD) → Buf (Elt Ideal) ((c.tc : Thread Cert.KernelBiasAIdeal.nD Cert.KernelBiasAIdeal.τ).loc Cert.KernelBiasAIdeal.main_v0)),
      θ_run (Cert.KernelBiasAIdeal.defs (F := Ideal)) (onTc (τ := Cert.KernelBiasAIdeal.τ) (Cert.KernelBiasAIdeal.main (F := Ideal))) ⟨m, fun _ => 0, g⟩ (fun r => ∀ c : Dev Cert.KernelBiasAIdeal.nD,
          r.2.mem ((c.tc : Thread Cert.KernelBiasAIdeal.nD Cert.KernelBiasAIdeal.τ).loc Cert.KernelBiasAIdeal.main_v0) = v0 c
          ∧ r.2.mem ((c.tc : Thread Cert.KernelBiasAIdeal.nD Cert.KernelBiasAIdeal.τ).loc Cert.KernelBiasAIdeal.main_arg0) = m ((c.tc : Thread Cert.KernelBiasAIdeal.nD Cert.KernelBiasAIdeal.τ).loc Cert.KernelBiasAIdeal.main_arg0)
          ∧ r.2.mem ((c.tc : Thread Cert.KernelBiasAIdeal.nD Cert.KernelBiasAIdeal.τ).loc Cert.KernelBiasAIdeal.main_arg1) = m ((c.tc : Thread Cert.KernelBiasAIdeal.nD Cert.KernelBiasAIdeal.τ).loc Cert.KernelBiasAIdeal.main_arg1))
      ∧ θ_run (Cert.ReferenceBiasAIdeal.defs (F := Ideal)) (onTc (τ := Cert.ReferenceBiasAIdeal.τ) (Cert.ReferenceBiasAIdeal.main (F := Ideal))) ⟨m', fun _ => 0, g'⟩ (fun r => ∀ c : Dev Cert.ReferenceBiasAIdeal.nD,
          r.2.mem ((c.tc : Thread Cert.ReferenceBiasAIdeal.nD Cert.ReferenceBiasAIdeal.τ).loc Cert.ReferenceBiasAIdeal.main_v19) = v0 c
          ∧ r.2.mem ((c.tc : Thread Cert.ReferenceBiasAIdeal.nD Cert.ReferenceBiasAIdeal.τ).loc Cert.ReferenceBiasAIdeal.main_arg0) = m' ((c.tc : Thread Cert.ReferenceBiasAIdeal.nD Cert.ReferenceBiasAIdeal.τ).loc Cert.ReferenceBiasAIdeal.main_arg0)
          ∧ r.2.mem ((c.tc : Thread Cert.ReferenceBiasAIdeal.nD Cert.ReferenceBiasAIdeal.τ).loc Cert.ReferenceBiasAIdeal.main_arg1) = m' ((c.tc : Thread Cert.ReferenceBiasAIdeal.nD Cert.ReferenceBiasAIdeal.τ).loc Cert.ReferenceBiasAIdeal.main_arg1))

def preserves_KernelBiasC_KernelBiasCIdeal : Prop :=
  True

def algebraic_KernelBiasCIdeal_ReferenceBiasCIdeal [hKernelBiasCIdeal : Cert.KernelBiasCIdeal.Facts] [hReferenceBiasCIdeal : Cert.ReferenceBiasCIdeal.Facts] : Prop :=
  ∀ (m : (ℓ : Loc Cert.KernelBiasCIdeal.nD Cert.KernelBiasCIdeal.τ Cert.KernelBiasCIdeal.sig) → Buf (Elt Ideal) ℓ) (g : Dev Cert.KernelBiasCIdeal.nD → PrngReg)
    (m' : (ℓ : Loc Cert.ReferenceBiasCIdeal.nD Cert.ReferenceBiasCIdeal.τ Cert.ReferenceBiasCIdeal.sig) → Buf (Elt Ideal) ℓ) (g' : Dev Cert.ReferenceBiasCIdeal.nD → PrngReg), Pre_KernelBiasCIdeal m →
    (∀ c : Dev Cert.KernelBiasCIdeal.nD,
      m' ((c.tc : Thread Cert.ReferenceBiasCIdeal.nD Cert.ReferenceBiasCIdeal.τ).loc Cert.ReferenceBiasCIdeal.main_arg0) = m ((c.tc : Thread Cert.KernelBiasCIdeal.nD Cert.KernelBiasCIdeal.τ).loc Cert.KernelBiasCIdeal.main_arg0)
      ∧ m' ((c.tc : Thread Cert.ReferenceBiasCIdeal.nD Cert.ReferenceBiasCIdeal.τ).loc Cert.ReferenceBiasCIdeal.main_arg1) = m ((c.tc : Thread Cert.KernelBiasCIdeal.nD Cert.KernelBiasCIdeal.τ).loc Cert.KernelBiasCIdeal.main_arg1)) →
    ∃ (v0 : (c : Dev Cert.KernelBiasCIdeal.nD) → Buf (Elt Ideal) ((c.tc : Thread Cert.KernelBiasCIdeal.nD Cert.KernelBiasCIdeal.τ).loc Cert.KernelBiasCIdeal.main_v0)),
      θ_run (Cert.KernelBiasCIdeal.defs (F := Ideal)) (onTc (τ := Cert.KernelBiasCIdeal.τ) (Cert.KernelBiasCIdeal.main (F := Ideal))) ⟨m, fun _ => 0, g⟩ (fun r => ∀ c : Dev Cert.KernelBiasCIdeal.nD,
          r.2.mem ((c.tc : Thread Cert.KernelBiasCIdeal.nD Cert.KernelBiasCIdeal.τ).loc Cert.KernelBiasCIdeal.main_v0) = v0 c
          ∧ r.2.mem ((c.tc : Thread Cert.KernelBiasCIdeal.nD Cert.KernelBiasCIdeal.τ).loc Cert.KernelBiasCIdeal.main_arg0) = m ((c.tc : Thread Cert.KernelBiasCIdeal.nD Cert.KernelBiasCIdeal.τ).loc Cert.KernelBiasCIdeal.main_arg0)
          ∧ r.2.mem ((c.tc : Thread Cert.KernelBiasCIdeal.nD Cert.KernelBiasCIdeal.τ).loc Cert.KernelBiasCIdeal.main_arg1) = m ((c.tc : Thread Cert.KernelBiasCIdeal.nD Cert.KernelBiasCIdeal.τ).loc Cert.KernelBiasCIdeal.main_arg1))
      ∧ θ_run (Cert.ReferenceBiasCIdeal.defs (F := Ideal)) (onTc (τ := Cert.ReferenceBiasCIdeal.τ) (Cert.ReferenceBiasCIdeal.main (F := Ideal))) ⟨m', fun _ => 0, g'⟩ (fun r => ∀ c : Dev Cert.ReferenceBiasCIdeal.nD,
          r.2.mem ((c.tc : Thread Cert.ReferenceBiasCIdeal.nD Cert.ReferenceBiasCIdeal.τ).loc Cert.ReferenceBiasCIdeal.main_v19) = v0 c
          ∧ r.2.mem ((c.tc : Thread Cert.ReferenceBiasCIdeal.nD Cert.ReferenceBiasCIdeal.τ).loc Cert.ReferenceBiasCIdeal.main_arg0) = m' ((c.tc : Thread Cert.ReferenceBiasCIdeal.nD Cert.ReferenceBiasCIdeal.τ).loc Cert.ReferenceBiasCIdeal.main_arg0)
          ∧ r.2.mem ((c.tc : Thread Cert.ReferenceBiasCIdeal.nD Cert.ReferenceBiasCIdeal.τ).loc Cert.ReferenceBiasCIdeal.main_arg1) = m' ((c.tc : Thread Cert.ReferenceBiasCIdeal.nD Cert.ReferenceBiasCIdeal.τ).loc Cert.ReferenceBiasCIdeal.main_arg1))

def preserves_KernelUpdateIn_KernelUpdateInIdeal : Prop :=
  True

def algebraic_KernelUpdateInIdeal_ReferenceUpdateInIdeal [hKernelUpdateInIdeal : Cert.KernelUpdateInIdeal.Facts] [hReferenceUpdateInIdeal : Cert.ReferenceUpdateInIdeal.Facts] : Prop :=
  ∀ (m : (ℓ : Loc Cert.KernelUpdateInIdeal.nD Cert.KernelUpdateInIdeal.τ Cert.KernelUpdateInIdeal.sig) → Buf (Elt Ideal) ℓ) (g : Dev Cert.KernelUpdateInIdeal.nD → PrngReg)
    (m' : (ℓ : Loc Cert.ReferenceUpdateInIdeal.nD Cert.ReferenceUpdateInIdeal.τ Cert.ReferenceUpdateInIdeal.sig) → Buf (Elt Ideal) ℓ) (g' : Dev Cert.ReferenceUpdateInIdeal.nD → PrngReg), Pre_KernelUpdateInIdeal m →
    (∀ c : Dev Cert.KernelUpdateInIdeal.nD,
      m' ((c.tc : Thread Cert.ReferenceUpdateInIdeal.nD Cert.ReferenceUpdateInIdeal.τ).loc Cert.ReferenceUpdateInIdeal.main_arg0) = m ((c.tc : Thread Cert.KernelUpdateInIdeal.nD Cert.KernelUpdateInIdeal.τ).loc Cert.KernelUpdateInIdeal.main_arg0)
      ∧ m' ((c.tc : Thread Cert.ReferenceUpdateInIdeal.nD Cert.ReferenceUpdateInIdeal.τ).loc Cert.ReferenceUpdateInIdeal.main_arg1) = m ((c.tc : Thread Cert.KernelUpdateInIdeal.nD Cert.KernelUpdateInIdeal.τ).loc Cert.KernelUpdateInIdeal.main_arg1)
      ∧ m' ((c.tc : Thread Cert.ReferenceUpdateInIdeal.nD Cert.ReferenceUpdateInIdeal.τ).loc Cert.ReferenceUpdateInIdeal.main_arg2) = m ((c.tc : Thread Cert.KernelUpdateInIdeal.nD Cert.KernelUpdateInIdeal.τ).loc Cert.KernelUpdateInIdeal.main_arg2)
      ∧ m' ((c.tc : Thread Cert.ReferenceUpdateInIdeal.nD Cert.ReferenceUpdateInIdeal.τ).loc Cert.ReferenceUpdateInIdeal.main_arg3) = m ((c.tc : Thread Cert.KernelUpdateInIdeal.nD Cert.KernelUpdateInIdeal.τ).loc Cert.KernelUpdateInIdeal.main_arg3)
      ∧ m' ((c.tc : Thread Cert.ReferenceUpdateInIdeal.nD Cert.ReferenceUpdateInIdeal.τ).loc Cert.ReferenceUpdateInIdeal.main_arg4) = m ((c.tc : Thread Cert.KernelUpdateInIdeal.nD Cert.KernelUpdateInIdeal.τ).loc Cert.KernelUpdateInIdeal.main_arg4)
      ∧ m' ((c.tc : Thread Cert.ReferenceUpdateInIdeal.nD Cert.ReferenceUpdateInIdeal.τ).loc Cert.ReferenceUpdateInIdeal.main_arg5) = m ((c.tc : Thread Cert.KernelUpdateInIdeal.nD Cert.KernelUpdateInIdeal.τ).loc Cert.KernelUpdateInIdeal.main_arg5)
      ∧ m' ((c.tc : Thread Cert.ReferenceUpdateInIdeal.nD Cert.ReferenceUpdateInIdeal.τ).loc Cert.ReferenceUpdateInIdeal.main_arg6) = m ((c.tc : Thread Cert.KernelUpdateInIdeal.nD Cert.KernelUpdateInIdeal.τ).loc Cert.KernelUpdateInIdeal.main_arg6)
      ∧ m' ((c.tc : Thread Cert.ReferenceUpdateInIdeal.nD Cert.ReferenceUpdateInIdeal.τ).loc Cert.ReferenceUpdateInIdeal.main_arg7) = m ((c.tc : Thread Cert.KernelUpdateInIdeal.nD Cert.KernelUpdateInIdeal.τ).loc Cert.KernelUpdateInIdeal.main_arg7)) →
    ∃ (v0 : (c : Dev Cert.KernelUpdateInIdeal.nD) → Buf (Elt Ideal) ((c.tc : Thread Cert.KernelUpdateInIdeal.nD Cert.KernelUpdateInIdeal.τ).loc Cert.KernelUpdateInIdeal.main_v0_0)) (v1 : (c : Dev Cert.KernelUpdateInIdeal.nD) → Buf (Elt Ideal) ((c.tc : Thread Cert.KernelUpdateInIdeal.nD Cert.KernelUpdateInIdeal.τ).loc Cert.KernelUpdateInIdeal.main_v0_1)) (v2 : (c : Dev Cert.KernelUpdateInIdeal.nD) → Buf (Elt Ideal) ((c.tc : Thread Cert.KernelUpdateInIdeal.nD Cert.KernelUpdateInIdeal.τ).loc Cert.KernelUpdateInIdeal.main_v0_2)) (v3 : (c : Dev Cert.KernelUpdateInIdeal.nD) → Buf (Elt Ideal) ((c.tc : Thread Cert.KernelUpdateInIdeal.nD Cert.KernelUpdateInIdeal.τ).loc Cert.KernelUpdateInIdeal.main_v0_3)),
      θ_run (Cert.KernelUpdateInIdeal.defs (F := Ideal)) (onTc (τ := Cert.KernelUpdateInIdeal.τ) (Cert.KernelUpdateInIdeal.main (F := Ideal))) ⟨m, fun _ => 0, g⟩ (fun r => ∀ c : Dev Cert.KernelUpdateInIdeal.nD,
          r.2.mem ((c.tc : Thread Cert.KernelUpdateInIdeal.nD Cert.KernelUpdateInIdeal.τ).loc Cert.KernelUpdateInIdeal.main_v0_0) = v0 c
          ∧ r.2.mem ((c.tc : Thread Cert.KernelUpdateInIdeal.nD Cert.KernelUpdateInIdeal.τ).loc Cert.KernelUpdateInIdeal.main_v0_1) = v1 c
          ∧ r.2.mem ((c.tc : Thread Cert.KernelUpdateInIdeal.nD Cert.KernelUpdateInIdeal.τ).loc Cert.KernelUpdateInIdeal.main_v0_2) = v2 c
          ∧ r.2.mem ((c.tc : Thread Cert.KernelUpdateInIdeal.nD Cert.KernelUpdateInIdeal.τ).loc Cert.KernelUpdateInIdeal.main_v0_3) = v3 c
          ∧ r.2.mem ((c.tc : Thread Cert.KernelUpdateInIdeal.nD Cert.KernelUpdateInIdeal.τ).loc Cert.KernelUpdateInIdeal.main_arg0) = m ((c.tc : Thread Cert.KernelUpdateInIdeal.nD Cert.KernelUpdateInIdeal.τ).loc Cert.KernelUpdateInIdeal.main_arg0)
          ∧ r.2.mem ((c.tc : Thread Cert.KernelUpdateInIdeal.nD Cert.KernelUpdateInIdeal.τ).loc Cert.KernelUpdateInIdeal.main_arg1) = m ((c.tc : Thread Cert.KernelUpdateInIdeal.nD Cert.KernelUpdateInIdeal.τ).loc Cert.KernelUpdateInIdeal.main_arg1)
          ∧ r.2.mem ((c.tc : Thread Cert.KernelUpdateInIdeal.nD Cert.KernelUpdateInIdeal.τ).loc Cert.KernelUpdateInIdeal.main_arg2) = m ((c.tc : Thread Cert.KernelUpdateInIdeal.nD Cert.KernelUpdateInIdeal.τ).loc Cert.KernelUpdateInIdeal.main_arg2)
          ∧ r.2.mem ((c.tc : Thread Cert.KernelUpdateInIdeal.nD Cert.KernelUpdateInIdeal.τ).loc Cert.KernelUpdateInIdeal.main_arg3) = m ((c.tc : Thread Cert.KernelUpdateInIdeal.nD Cert.KernelUpdateInIdeal.τ).loc Cert.KernelUpdateInIdeal.main_arg3)
          ∧ r.2.mem ((c.tc : Thread Cert.KernelUpdateInIdeal.nD Cert.KernelUpdateInIdeal.τ).loc Cert.KernelUpdateInIdeal.main_arg4) = m ((c.tc : Thread Cert.KernelUpdateInIdeal.nD Cert.KernelUpdateInIdeal.τ).loc Cert.KernelUpdateInIdeal.main_arg4)
          ∧ r.2.mem ((c.tc : Thread Cert.KernelUpdateInIdeal.nD Cert.KernelUpdateInIdeal.τ).loc Cert.KernelUpdateInIdeal.main_arg5) = m ((c.tc : Thread Cert.KernelUpdateInIdeal.nD Cert.KernelUpdateInIdeal.τ).loc Cert.KernelUpdateInIdeal.main_arg5)
          ∧ r.2.mem ((c.tc : Thread Cert.KernelUpdateInIdeal.nD Cert.KernelUpdateInIdeal.τ).loc Cert.KernelUpdateInIdeal.main_arg6) = m ((c.tc : Thread Cert.KernelUpdateInIdeal.nD Cert.KernelUpdateInIdeal.τ).loc Cert.KernelUpdateInIdeal.main_arg6)
          ∧ r.2.mem ((c.tc : Thread Cert.KernelUpdateInIdeal.nD Cert.KernelUpdateInIdeal.τ).loc Cert.KernelUpdateInIdeal.main_arg7) = m ((c.tc : Thread Cert.KernelUpdateInIdeal.nD Cert.KernelUpdateInIdeal.τ).loc Cert.KernelUpdateInIdeal.main_arg7))
      ∧ θ_run (Cert.ReferenceUpdateInIdeal.defs (F := Ideal)) (onTc (τ := Cert.ReferenceUpdateInIdeal.τ) (Cert.ReferenceUpdateInIdeal.main (F := Ideal))) ⟨m', fun _ => 0, g'⟩ (fun r => ∀ c : Dev Cert.ReferenceUpdateInIdeal.nD,
          r.2.mem ((c.tc : Thread Cert.ReferenceUpdateInIdeal.nD Cert.ReferenceUpdateInIdeal.τ).loc Cert.ReferenceUpdateInIdeal.main_v34) = v0 c
          ∧ r.2.mem ((c.tc : Thread Cert.ReferenceUpdateInIdeal.nD Cert.ReferenceUpdateInIdeal.τ).loc Cert.ReferenceUpdateInIdeal.main_v37) = v1 c
          ∧ r.2.mem ((c.tc : Thread Cert.ReferenceUpdateInIdeal.nD Cert.ReferenceUpdateInIdeal.τ).loc Cert.ReferenceUpdateInIdeal.main_v40) = v2 c
          ∧ r.2.mem ((c.tc : Thread Cert.ReferenceUpdateInIdeal.nD Cert.ReferenceUpdateInIdeal.τ).loc Cert.ReferenceUpdateInIdeal.main_v43) = v3 c
          ∧ r.2.mem ((c.tc : Thread Cert.ReferenceUpdateInIdeal.nD Cert.ReferenceUpdateInIdeal.τ).loc Cert.ReferenceUpdateInIdeal.main_arg0) = m' ((c.tc : Thread Cert.ReferenceUpdateInIdeal.nD Cert.ReferenceUpdateInIdeal.τ).loc Cert.ReferenceUpdateInIdeal.main_arg0)
          ∧ r.2.mem ((c.tc : Thread Cert.ReferenceUpdateInIdeal.nD Cert.ReferenceUpdateInIdeal.τ).loc Cert.ReferenceUpdateInIdeal.main_arg1) = m' ((c.tc : Thread Cert.ReferenceUpdateInIdeal.nD Cert.ReferenceUpdateInIdeal.τ).loc Cert.ReferenceUpdateInIdeal.main_arg1)
          ∧ r.2.mem ((c.tc : Thread Cert.ReferenceUpdateInIdeal.nD Cert.ReferenceUpdateInIdeal.τ).loc Cert.ReferenceUpdateInIdeal.main_arg2) = m' ((c.tc : Thread Cert.ReferenceUpdateInIdeal.nD Cert.ReferenceUpdateInIdeal.τ).loc Cert.ReferenceUpdateInIdeal.main_arg2)
          ∧ r.2.mem ((c.tc : Thread Cert.ReferenceUpdateInIdeal.nD Cert.ReferenceUpdateInIdeal.τ).loc Cert.ReferenceUpdateInIdeal.main_arg3) = m' ((c.tc : Thread Cert.ReferenceUpdateInIdeal.nD Cert.ReferenceUpdateInIdeal.τ).loc Cert.ReferenceUpdateInIdeal.main_arg3)
          ∧ r.2.mem ((c.tc : Thread Cert.ReferenceUpdateInIdeal.nD Cert.ReferenceUpdateInIdeal.τ).loc Cert.ReferenceUpdateInIdeal.main_arg4) = m' ((c.tc : Thread Cert.ReferenceUpdateInIdeal.nD Cert.ReferenceUpdateInIdeal.τ).loc Cert.ReferenceUpdateInIdeal.main_arg4)
          ∧ r.2.mem ((c.tc : Thread Cert.ReferenceUpdateInIdeal.nD Cert.ReferenceUpdateInIdeal.τ).loc Cert.ReferenceUpdateInIdeal.main_arg5) = m' ((c.tc : Thread Cert.ReferenceUpdateInIdeal.nD Cert.ReferenceUpdateInIdeal.τ).loc Cert.ReferenceUpdateInIdeal.main_arg5)
          ∧ r.2.mem ((c.tc : Thread Cert.ReferenceUpdateInIdeal.nD Cert.ReferenceUpdateInIdeal.τ).loc Cert.ReferenceUpdateInIdeal.main_arg6) = m' ((c.tc : Thread Cert.ReferenceUpdateInIdeal.nD Cert.ReferenceUpdateInIdeal.τ).loc Cert.ReferenceUpdateInIdeal.main_arg6)
          ∧ r.2.mem ((c.tc : Thread Cert.ReferenceUpdateInIdeal.nD Cert.ReferenceUpdateInIdeal.τ).loc Cert.ReferenceUpdateInIdeal.main_arg7) = m' ((c.tc : Thread Cert.ReferenceUpdateInIdeal.nD Cert.ReferenceUpdateInIdeal.τ).loc Cert.ReferenceUpdateInIdeal.main_arg7))

def preserves_KernelUpdateOut_KernelUpdateOutIdeal : Prop :=
  True

def algebraic_KernelUpdateOutIdeal_ReferenceUpdateOutIdeal [hKernelUpdateOutIdeal : Cert.KernelUpdateOutIdeal.Facts] [hReferenceUpdateOutIdeal : Cert.ReferenceUpdateOutIdeal.Facts] : Prop :=
  ∀ (m : (ℓ : Loc Cert.KernelUpdateOutIdeal.nD Cert.KernelUpdateOutIdeal.τ Cert.KernelUpdateOutIdeal.sig) → Buf (Elt Ideal) ℓ) (g : Dev Cert.KernelUpdateOutIdeal.nD → PrngReg)
    (m' : (ℓ : Loc Cert.ReferenceUpdateOutIdeal.nD Cert.ReferenceUpdateOutIdeal.τ Cert.ReferenceUpdateOutIdeal.sig) → Buf (Elt Ideal) ℓ) (g' : Dev Cert.ReferenceUpdateOutIdeal.nD → PrngReg), Pre_KernelUpdateOutIdeal m →
    (∀ c : Dev Cert.KernelUpdateOutIdeal.nD,
      m' ((c.tc : Thread Cert.ReferenceUpdateOutIdeal.nD Cert.ReferenceUpdateOutIdeal.τ).loc Cert.ReferenceUpdateOutIdeal.main_arg0) = m ((c.tc : Thread Cert.KernelUpdateOutIdeal.nD Cert.KernelUpdateOutIdeal.τ).loc Cert.KernelUpdateOutIdeal.main_arg0)
      ∧ m' ((c.tc : Thread Cert.ReferenceUpdateOutIdeal.nD Cert.ReferenceUpdateOutIdeal.τ).loc Cert.ReferenceUpdateOutIdeal.main_arg1) = m ((c.tc : Thread Cert.KernelUpdateOutIdeal.nD Cert.KernelUpdateOutIdeal.τ).loc Cert.KernelUpdateOutIdeal.main_arg1)
      ∧ m' ((c.tc : Thread Cert.ReferenceUpdateOutIdeal.nD Cert.ReferenceUpdateOutIdeal.τ).loc Cert.ReferenceUpdateOutIdeal.main_arg2) = m ((c.tc : Thread Cert.KernelUpdateOutIdeal.nD Cert.KernelUpdateOutIdeal.τ).loc Cert.KernelUpdateOutIdeal.main_arg2)
      ∧ m' ((c.tc : Thread Cert.ReferenceUpdateOutIdeal.nD Cert.ReferenceUpdateOutIdeal.τ).loc Cert.ReferenceUpdateOutIdeal.main_arg3) = m ((c.tc : Thread Cert.KernelUpdateOutIdeal.nD Cert.KernelUpdateOutIdeal.τ).loc Cert.KernelUpdateOutIdeal.main_arg3)
      ∧ m' ((c.tc : Thread Cert.ReferenceUpdateOutIdeal.nD Cert.ReferenceUpdateOutIdeal.τ).loc Cert.ReferenceUpdateOutIdeal.main_arg4) = m ((c.tc : Thread Cert.KernelUpdateOutIdeal.nD Cert.KernelUpdateOutIdeal.τ).loc Cert.KernelUpdateOutIdeal.main_arg4)
      ∧ m' ((c.tc : Thread Cert.ReferenceUpdateOutIdeal.nD Cert.ReferenceUpdateOutIdeal.τ).loc Cert.ReferenceUpdateOutIdeal.main_arg5) = m ((c.tc : Thread Cert.KernelUpdateOutIdeal.nD Cert.KernelUpdateOutIdeal.τ).loc Cert.KernelUpdateOutIdeal.main_arg5)
      ∧ m' ((c.tc : Thread Cert.ReferenceUpdateOutIdeal.nD Cert.ReferenceUpdateOutIdeal.τ).loc Cert.ReferenceUpdateOutIdeal.main_arg6) = m ((c.tc : Thread Cert.KernelUpdateOutIdeal.nD Cert.KernelUpdateOutIdeal.τ).loc Cert.KernelUpdateOutIdeal.main_arg6)
      ∧ m' ((c.tc : Thread Cert.ReferenceUpdateOutIdeal.nD Cert.ReferenceUpdateOutIdeal.τ).loc Cert.ReferenceUpdateOutIdeal.main_arg7) = m ((c.tc : Thread Cert.KernelUpdateOutIdeal.nD Cert.KernelUpdateOutIdeal.τ).loc Cert.KernelUpdateOutIdeal.main_arg7)) →
    ∃ (v0 : (c : Dev Cert.KernelUpdateOutIdeal.nD) → Buf (Elt Ideal) ((c.tc : Thread Cert.KernelUpdateOutIdeal.nD Cert.KernelUpdateOutIdeal.τ).loc Cert.KernelUpdateOutIdeal.main_v0_0)) (v1 : (c : Dev Cert.KernelUpdateOutIdeal.nD) → Buf (Elt Ideal) ((c.tc : Thread Cert.KernelUpdateOutIdeal.nD Cert.KernelUpdateOutIdeal.τ).loc Cert.KernelUpdateOutIdeal.main_v0_1)) (v2 : (c : Dev Cert.KernelUpdateOutIdeal.nD) → Buf (Elt Ideal) ((c.tc : Thread Cert.KernelUpdateOutIdeal.nD Cert.KernelUpdateOutIdeal.τ).loc Cert.KernelUpdateOutIdeal.main_v0_2)) (v3 : (c : Dev Cert.KernelUpdateOutIdeal.nD) → Buf (Elt Ideal) ((c.tc : Thread Cert.KernelUpdateOutIdeal.nD Cert.KernelUpdateOutIdeal.τ).loc Cert.KernelUpdateOutIdeal.main_v0_3)),
      θ_run (Cert.KernelUpdateOutIdeal.defs (F := Ideal)) (onTc (τ := Cert.KernelUpdateOutIdeal.τ) (Cert.KernelUpdateOutIdeal.main (F := Ideal))) ⟨m, fun _ => 0, g⟩ (fun r => ∀ c : Dev Cert.KernelUpdateOutIdeal.nD,
          r.2.mem ((c.tc : Thread Cert.KernelUpdateOutIdeal.nD Cert.KernelUpdateOutIdeal.τ).loc Cert.KernelUpdateOutIdeal.main_v0_0) = v0 c
          ∧ r.2.mem ((c.tc : Thread Cert.KernelUpdateOutIdeal.nD Cert.KernelUpdateOutIdeal.τ).loc Cert.KernelUpdateOutIdeal.main_v0_1) = v1 c
          ∧ r.2.mem ((c.tc : Thread Cert.KernelUpdateOutIdeal.nD Cert.KernelUpdateOutIdeal.τ).loc Cert.KernelUpdateOutIdeal.main_v0_2) = v2 c
          ∧ r.2.mem ((c.tc : Thread Cert.KernelUpdateOutIdeal.nD Cert.KernelUpdateOutIdeal.τ).loc Cert.KernelUpdateOutIdeal.main_v0_3) = v3 c
          ∧ r.2.mem ((c.tc : Thread Cert.KernelUpdateOutIdeal.nD Cert.KernelUpdateOutIdeal.τ).loc Cert.KernelUpdateOutIdeal.main_arg0) = m ((c.tc : Thread Cert.KernelUpdateOutIdeal.nD Cert.KernelUpdateOutIdeal.τ).loc Cert.KernelUpdateOutIdeal.main_arg0)
          ∧ r.2.mem ((c.tc : Thread Cert.KernelUpdateOutIdeal.nD Cert.KernelUpdateOutIdeal.τ).loc Cert.KernelUpdateOutIdeal.main_arg1) = m ((c.tc : Thread Cert.KernelUpdateOutIdeal.nD Cert.KernelUpdateOutIdeal.τ).loc Cert.KernelUpdateOutIdeal.main_arg1)
          ∧ r.2.mem ((c.tc : Thread Cert.KernelUpdateOutIdeal.nD Cert.KernelUpdateOutIdeal.τ).loc Cert.KernelUpdateOutIdeal.main_arg2) = m ((c.tc : Thread Cert.KernelUpdateOutIdeal.nD Cert.KernelUpdateOutIdeal.τ).loc Cert.KernelUpdateOutIdeal.main_arg2)
          ∧ r.2.mem ((c.tc : Thread Cert.KernelUpdateOutIdeal.nD Cert.KernelUpdateOutIdeal.τ).loc Cert.KernelUpdateOutIdeal.main_arg3) = m ((c.tc : Thread Cert.KernelUpdateOutIdeal.nD Cert.KernelUpdateOutIdeal.τ).loc Cert.KernelUpdateOutIdeal.main_arg3)
          ∧ r.2.mem ((c.tc : Thread Cert.KernelUpdateOutIdeal.nD Cert.KernelUpdateOutIdeal.τ).loc Cert.KernelUpdateOutIdeal.main_arg4) = m ((c.tc : Thread Cert.KernelUpdateOutIdeal.nD Cert.KernelUpdateOutIdeal.τ).loc Cert.KernelUpdateOutIdeal.main_arg4)
          ∧ r.2.mem ((c.tc : Thread Cert.KernelUpdateOutIdeal.nD Cert.KernelUpdateOutIdeal.τ).loc Cert.KernelUpdateOutIdeal.main_arg5) = m ((c.tc : Thread Cert.KernelUpdateOutIdeal.nD Cert.KernelUpdateOutIdeal.τ).loc Cert.KernelUpdateOutIdeal.main_arg5)
          ∧ r.2.mem ((c.tc : Thread Cert.KernelUpdateOutIdeal.nD Cert.KernelUpdateOutIdeal.τ).loc Cert.KernelUpdateOutIdeal.main_arg6) = m ((c.tc : Thread Cert.KernelUpdateOutIdeal.nD Cert.KernelUpdateOutIdeal.τ).loc Cert.KernelUpdateOutIdeal.main_arg6)
          ∧ r.2.mem ((c.tc : Thread Cert.KernelUpdateOutIdeal.nD Cert.KernelUpdateOutIdeal.τ).loc Cert.KernelUpdateOutIdeal.main_arg7) = m ((c.tc : Thread Cert.KernelUpdateOutIdeal.nD Cert.KernelUpdateOutIdeal.τ).loc Cert.KernelUpdateOutIdeal.main_arg7))
      ∧ θ_run (Cert.ReferenceUpdateOutIdeal.defs (F := Ideal)) (onTc (τ := Cert.ReferenceUpdateOutIdeal.τ) (Cert.ReferenceUpdateOutIdeal.main (F := Ideal))) ⟨m', fun _ => 0, g'⟩ (fun r => ∀ c : Dev Cert.ReferenceUpdateOutIdeal.nD,
          r.2.mem ((c.tc : Thread Cert.ReferenceUpdateOutIdeal.nD Cert.ReferenceUpdateOutIdeal.τ).loc Cert.ReferenceUpdateOutIdeal.main_v34) = v0 c
          ∧ r.2.mem ((c.tc : Thread Cert.ReferenceUpdateOutIdeal.nD Cert.ReferenceUpdateOutIdeal.τ).loc Cert.ReferenceUpdateOutIdeal.main_v37) = v1 c
          ∧ r.2.mem ((c.tc : Thread Cert.ReferenceUpdateOutIdeal.nD Cert.ReferenceUpdateOutIdeal.τ).loc Cert.ReferenceUpdateOutIdeal.main_v40) = v2 c
          ∧ r.2.mem ((c.tc : Thread Cert.ReferenceUpdateOutIdeal.nD Cert.ReferenceUpdateOutIdeal.τ).loc Cert.ReferenceUpdateOutIdeal.main_v43) = v3 c
          ∧ r.2.mem ((c.tc : Thread Cert.ReferenceUpdateOutIdeal.nD Cert.ReferenceUpdateOutIdeal.τ).loc Cert.ReferenceUpdateOutIdeal.main_arg0) = m' ((c.tc : Thread Cert.ReferenceUpdateOutIdeal.nD Cert.ReferenceUpdateOutIdeal.τ).loc Cert.ReferenceUpdateOutIdeal.main_arg0)
          ∧ r.2.mem ((c.tc : Thread Cert.ReferenceUpdateOutIdeal.nD Cert.ReferenceUpdateOutIdeal.τ).loc Cert.ReferenceUpdateOutIdeal.main_arg1) = m' ((c.tc : Thread Cert.ReferenceUpdateOutIdeal.nD Cert.ReferenceUpdateOutIdeal.τ).loc Cert.ReferenceUpdateOutIdeal.main_arg1)
          ∧ r.2.mem ((c.tc : Thread Cert.ReferenceUpdateOutIdeal.nD Cert.ReferenceUpdateOutIdeal.τ).loc Cert.ReferenceUpdateOutIdeal.main_arg2) = m' ((c.tc : Thread Cert.ReferenceUpdateOutIdeal.nD Cert.ReferenceUpdateOutIdeal.τ).loc Cert.ReferenceUpdateOutIdeal.main_arg2)
          ∧ r.2.mem ((c.tc : Thread Cert.ReferenceUpdateOutIdeal.nD Cert.ReferenceUpdateOutIdeal.τ).loc Cert.ReferenceUpdateOutIdeal.main_arg3) = m' ((c.tc : Thread Cert.ReferenceUpdateOutIdeal.nD Cert.ReferenceUpdateOutIdeal.τ).loc Cert.ReferenceUpdateOutIdeal.main_arg3)
          ∧ r.2.mem ((c.tc : Thread Cert.ReferenceUpdateOutIdeal.nD Cert.ReferenceUpdateOutIdeal.τ).loc Cert.ReferenceUpdateOutIdeal.main_arg4) = m' ((c.tc : Thread Cert.ReferenceUpdateOutIdeal.nD Cert.ReferenceUpdateOutIdeal.τ).loc Cert.ReferenceUpdateOutIdeal.main_arg4)
          ∧ r.2.mem ((c.tc : Thread Cert.ReferenceUpdateOutIdeal.nD Cert.ReferenceUpdateOutIdeal.τ).loc Cert.ReferenceUpdateOutIdeal.main_arg5) = m' ((c.tc : Thread Cert.ReferenceUpdateOutIdeal.nD Cert.ReferenceUpdateOutIdeal.τ).loc Cert.ReferenceUpdateOutIdeal.main_arg5)
          ∧ r.2.mem ((c.tc : Thread Cert.ReferenceUpdateOutIdeal.nD Cert.ReferenceUpdateOutIdeal.τ).loc Cert.ReferenceUpdateOutIdeal.main_arg6) = m' ((c.tc : Thread Cert.ReferenceUpdateOutIdeal.nD Cert.ReferenceUpdateOutIdeal.τ).loc Cert.ReferenceUpdateOutIdeal.main_arg6)
          ∧ r.2.mem ((c.tc : Thread Cert.ReferenceUpdateOutIdeal.nD Cert.ReferenceUpdateOutIdeal.τ).loc Cert.ReferenceUpdateOutIdeal.main_arg7) = m' ((c.tc : Thread Cert.ReferenceUpdateOutIdeal.nD Cert.ReferenceUpdateOutIdeal.τ).loc Cert.ReferenceUpdateOutIdeal.main_arg7))

def preserves_KernelUpdateUp_KernelUpdateUpIdeal : Prop :=
  True

def algebraic_KernelUpdateUpIdeal_ReferenceUpdateUpIdeal [hKernelUpdateUpIdeal : Cert.KernelUpdateUpIdeal.Facts] [hReferenceUpdateUpIdeal : Cert.ReferenceUpdateUpIdeal.Facts] : Prop :=
  ∀ (m : (ℓ : Loc Cert.KernelUpdateUpIdeal.nD Cert.KernelUpdateUpIdeal.τ Cert.KernelUpdateUpIdeal.sig) → Buf (Elt Ideal) ℓ) (g : Dev Cert.KernelUpdateUpIdeal.nD → PrngReg)
    (m' : (ℓ : Loc Cert.ReferenceUpdateUpIdeal.nD Cert.ReferenceUpdateUpIdeal.τ Cert.ReferenceUpdateUpIdeal.sig) → Buf (Elt Ideal) ℓ) (g' : Dev Cert.ReferenceUpdateUpIdeal.nD → PrngReg), Pre_KernelUpdateUpIdeal m →
    (∀ c : Dev Cert.KernelUpdateUpIdeal.nD,
      m' ((c.tc : Thread Cert.ReferenceUpdateUpIdeal.nD Cert.ReferenceUpdateUpIdeal.τ).loc Cert.ReferenceUpdateUpIdeal.main_arg0) = m ((c.tc : Thread Cert.KernelUpdateUpIdeal.nD Cert.KernelUpdateUpIdeal.τ).loc Cert.KernelUpdateUpIdeal.main_arg0)
      ∧ m' ((c.tc : Thread Cert.ReferenceUpdateUpIdeal.nD Cert.ReferenceUpdateUpIdeal.τ).loc Cert.ReferenceUpdateUpIdeal.main_arg1) = m ((c.tc : Thread Cert.KernelUpdateUpIdeal.nD Cert.KernelUpdateUpIdeal.τ).loc Cert.KernelUpdateUpIdeal.main_arg1)
      ∧ m' ((c.tc : Thread Cert.ReferenceUpdateUpIdeal.nD Cert.ReferenceUpdateUpIdeal.τ).loc Cert.ReferenceUpdateUpIdeal.main_arg2) = m ((c.tc : Thread Cert.KernelUpdateUpIdeal.nD Cert.KernelUpdateUpIdeal.τ).loc Cert.KernelUpdateUpIdeal.main_arg2)
      ∧ m' ((c.tc : Thread Cert.ReferenceUpdateUpIdeal.nD Cert.ReferenceUpdateUpIdeal.τ).loc Cert.ReferenceUpdateUpIdeal.main_arg3) = m ((c.tc : Thread Cert.KernelUpdateUpIdeal.nD Cert.KernelUpdateUpIdeal.τ).loc Cert.KernelUpdateUpIdeal.main_arg3)
      ∧ m' ((c.tc : Thread Cert.ReferenceUpdateUpIdeal.nD Cert.ReferenceUpdateUpIdeal.τ).loc Cert.ReferenceUpdateUpIdeal.main_arg4) = m ((c.tc : Thread Cert.KernelUpdateUpIdeal.nD Cert.KernelUpdateUpIdeal.τ).loc Cert.KernelUpdateUpIdeal.main_arg4)
      ∧ m' ((c.tc : Thread Cert.ReferenceUpdateUpIdeal.nD Cert.ReferenceUpdateUpIdeal.τ).loc Cert.ReferenceUpdateUpIdeal.main_arg5) = m ((c.tc : Thread Cert.KernelUpdateUpIdeal.nD Cert.KernelUpdateUpIdeal.τ).loc Cert.KernelUpdateUpIdeal.main_arg5)
      ∧ m' ((c.tc : Thread Cert.ReferenceUpdateUpIdeal.nD Cert.ReferenceUpdateUpIdeal.τ).loc Cert.ReferenceUpdateUpIdeal.main_arg6) = m ((c.tc : Thread Cert.KernelUpdateUpIdeal.nD Cert.KernelUpdateUpIdeal.τ).loc Cert.KernelUpdateUpIdeal.main_arg6)
      ∧ m' ((c.tc : Thread Cert.ReferenceUpdateUpIdeal.nD Cert.ReferenceUpdateUpIdeal.τ).loc Cert.ReferenceUpdateUpIdeal.main_arg7) = m ((c.tc : Thread Cert.KernelUpdateUpIdeal.nD Cert.KernelUpdateUpIdeal.τ).loc Cert.KernelUpdateUpIdeal.main_arg7)) →
    ∃ (v0 : (c : Dev Cert.KernelUpdateUpIdeal.nD) → Buf (Elt Ideal) ((c.tc : Thread Cert.KernelUpdateUpIdeal.nD Cert.KernelUpdateUpIdeal.τ).loc Cert.KernelUpdateUpIdeal.main_v0_0)) (v1 : (c : Dev Cert.KernelUpdateUpIdeal.nD) → Buf (Elt Ideal) ((c.tc : Thread Cert.KernelUpdateUpIdeal.nD Cert.KernelUpdateUpIdeal.τ).loc Cert.KernelUpdateUpIdeal.main_v0_1)) (v2 : (c : Dev Cert.KernelUpdateUpIdeal.nD) → Buf (Elt Ideal) ((c.tc : Thread Cert.KernelUpdateUpIdeal.nD Cert.KernelUpdateUpIdeal.τ).loc Cert.KernelUpdateUpIdeal.main_v0_2)) (v3 : (c : Dev Cert.KernelUpdateUpIdeal.nD) → Buf (Elt Ideal) ((c.tc : Thread Cert.KernelUpdateUpIdeal.nD Cert.KernelUpdateUpIdeal.τ).loc Cert.KernelUpdateUpIdeal.main_v0_3)),
      θ_run (Cert.KernelUpdateUpIdeal.defs (F := Ideal)) (onTc (τ := Cert.KernelUpdateUpIdeal.τ) (Cert.KernelUpdateUpIdeal.main (F := Ideal))) ⟨m, fun _ => 0, g⟩ (fun r => ∀ c : Dev Cert.KernelUpdateUpIdeal.nD,
          r.2.mem ((c.tc : Thread Cert.KernelUpdateUpIdeal.nD Cert.KernelUpdateUpIdeal.τ).loc Cert.KernelUpdateUpIdeal.main_v0_0) = v0 c
          ∧ r.2.mem ((c.tc : Thread Cert.KernelUpdateUpIdeal.nD Cert.KernelUpdateUpIdeal.τ).loc Cert.KernelUpdateUpIdeal.main_v0_1) = v1 c
          ∧ r.2.mem ((c.tc : Thread Cert.KernelUpdateUpIdeal.nD Cert.KernelUpdateUpIdeal.τ).loc Cert.KernelUpdateUpIdeal.main_v0_2) = v2 c
          ∧ r.2.mem ((c.tc : Thread Cert.KernelUpdateUpIdeal.nD Cert.KernelUpdateUpIdeal.τ).loc Cert.KernelUpdateUpIdeal.main_v0_3) = v3 c
          ∧ r.2.mem ((c.tc : Thread Cert.KernelUpdateUpIdeal.nD Cert.KernelUpdateUpIdeal.τ).loc Cert.KernelUpdateUpIdeal.main_arg0) = m ((c.tc : Thread Cert.KernelUpdateUpIdeal.nD Cert.KernelUpdateUpIdeal.τ).loc Cert.KernelUpdateUpIdeal.main_arg0)
          ∧ r.2.mem ((c.tc : Thread Cert.KernelUpdateUpIdeal.nD Cert.KernelUpdateUpIdeal.τ).loc Cert.KernelUpdateUpIdeal.main_arg1) = m ((c.tc : Thread Cert.KernelUpdateUpIdeal.nD Cert.KernelUpdateUpIdeal.τ).loc Cert.KernelUpdateUpIdeal.main_arg1)
          ∧ r.2.mem ((c.tc : Thread Cert.KernelUpdateUpIdeal.nD Cert.KernelUpdateUpIdeal.τ).loc Cert.KernelUpdateUpIdeal.main_arg2) = m ((c.tc : Thread Cert.KernelUpdateUpIdeal.nD Cert.KernelUpdateUpIdeal.τ).loc Cert.KernelUpdateUpIdeal.main_arg2)
          ∧ r.2.mem ((c.tc : Thread Cert.KernelUpdateUpIdeal.nD Cert.KernelUpdateUpIdeal.τ).loc Cert.KernelUpdateUpIdeal.main_arg3) = m ((c.tc : Thread Cert.KernelUpdateUpIdeal.nD Cert.KernelUpdateUpIdeal.τ).loc Cert.KernelUpdateUpIdeal.main_arg3)
          ∧ r.2.mem ((c.tc : Thread Cert.KernelUpdateUpIdeal.nD Cert.KernelUpdateUpIdeal.τ).loc Cert.KernelUpdateUpIdeal.main_arg4) = m ((c.tc : Thread Cert.KernelUpdateUpIdeal.nD Cert.KernelUpdateUpIdeal.τ).loc Cert.KernelUpdateUpIdeal.main_arg4)
          ∧ r.2.mem ((c.tc : Thread Cert.KernelUpdateUpIdeal.nD Cert.KernelUpdateUpIdeal.τ).loc Cert.KernelUpdateUpIdeal.main_arg5) = m ((c.tc : Thread Cert.KernelUpdateUpIdeal.nD Cert.KernelUpdateUpIdeal.τ).loc Cert.KernelUpdateUpIdeal.main_arg5)
          ∧ r.2.mem ((c.tc : Thread Cert.KernelUpdateUpIdeal.nD Cert.KernelUpdateUpIdeal.τ).loc Cert.KernelUpdateUpIdeal.main_arg6) = m ((c.tc : Thread Cert.KernelUpdateUpIdeal.nD Cert.KernelUpdateUpIdeal.τ).loc Cert.KernelUpdateUpIdeal.main_arg6)
          ∧ r.2.mem ((c.tc : Thread Cert.KernelUpdateUpIdeal.nD Cert.KernelUpdateUpIdeal.τ).loc Cert.KernelUpdateUpIdeal.main_arg7) = m ((c.tc : Thread Cert.KernelUpdateUpIdeal.nD Cert.KernelUpdateUpIdeal.τ).loc Cert.KernelUpdateUpIdeal.main_arg7))
      ∧ θ_run (Cert.ReferenceUpdateUpIdeal.defs (F := Ideal)) (onTc (τ := Cert.ReferenceUpdateUpIdeal.τ) (Cert.ReferenceUpdateUpIdeal.main (F := Ideal))) ⟨m', fun _ => 0, g'⟩ (fun r => ∀ c : Dev Cert.ReferenceUpdateUpIdeal.nD,
          r.2.mem ((c.tc : Thread Cert.ReferenceUpdateUpIdeal.nD Cert.ReferenceUpdateUpIdeal.τ).loc Cert.ReferenceUpdateUpIdeal.main_v34) = v0 c
          ∧ r.2.mem ((c.tc : Thread Cert.ReferenceUpdateUpIdeal.nD Cert.ReferenceUpdateUpIdeal.τ).loc Cert.ReferenceUpdateUpIdeal.main_v37) = v1 c
          ∧ r.2.mem ((c.tc : Thread Cert.ReferenceUpdateUpIdeal.nD Cert.ReferenceUpdateUpIdeal.τ).loc Cert.ReferenceUpdateUpIdeal.main_v40) = v2 c
          ∧ r.2.mem ((c.tc : Thread Cert.ReferenceUpdateUpIdeal.nD Cert.ReferenceUpdateUpIdeal.τ).loc Cert.ReferenceUpdateUpIdeal.main_v43) = v3 c
          ∧ r.2.mem ((c.tc : Thread Cert.ReferenceUpdateUpIdeal.nD Cert.ReferenceUpdateUpIdeal.τ).loc Cert.ReferenceUpdateUpIdeal.main_arg0) = m' ((c.tc : Thread Cert.ReferenceUpdateUpIdeal.nD Cert.ReferenceUpdateUpIdeal.τ).loc Cert.ReferenceUpdateUpIdeal.main_arg0)
          ∧ r.2.mem ((c.tc : Thread Cert.ReferenceUpdateUpIdeal.nD Cert.ReferenceUpdateUpIdeal.τ).loc Cert.ReferenceUpdateUpIdeal.main_arg1) = m' ((c.tc : Thread Cert.ReferenceUpdateUpIdeal.nD Cert.ReferenceUpdateUpIdeal.τ).loc Cert.ReferenceUpdateUpIdeal.main_arg1)
          ∧ r.2.mem ((c.tc : Thread Cert.ReferenceUpdateUpIdeal.nD Cert.ReferenceUpdateUpIdeal.τ).loc Cert.ReferenceUpdateUpIdeal.main_arg2) = m' ((c.tc : Thread Cert.ReferenceUpdateUpIdeal.nD Cert.ReferenceUpdateUpIdeal.τ).loc Cert.ReferenceUpdateUpIdeal.main_arg2)
          ∧ r.2.mem ((c.tc : Thread Cert.ReferenceUpdateUpIdeal.nD Cert.ReferenceUpdateUpIdeal.τ).loc Cert.ReferenceUpdateUpIdeal.main_arg3) = m' ((c.tc : Thread Cert.ReferenceUpdateUpIdeal.nD Cert.ReferenceUpdateUpIdeal.τ).loc Cert.ReferenceUpdateUpIdeal.main_arg3)
          ∧ r.2.mem ((c.tc : Thread Cert.ReferenceUpdateUpIdeal.nD Cert.ReferenceUpdateUpIdeal.τ).loc Cert.ReferenceUpdateUpIdeal.main_arg4) = m' ((c.tc : Thread Cert.ReferenceUpdateUpIdeal.nD Cert.ReferenceUpdateUpIdeal.τ).loc Cert.ReferenceUpdateUpIdeal.main_arg4)
          ∧ r.2.mem ((c.tc : Thread Cert.ReferenceUpdateUpIdeal.nD Cert.ReferenceUpdateUpIdeal.τ).loc Cert.ReferenceUpdateUpIdeal.main_arg5) = m' ((c.tc : Thread Cert.ReferenceUpdateUpIdeal.nD Cert.ReferenceUpdateUpIdeal.τ).loc Cert.ReferenceUpdateUpIdeal.main_arg5)
          ∧ r.2.mem ((c.tc : Thread Cert.ReferenceUpdateUpIdeal.nD Cert.ReferenceUpdateUpIdeal.τ).loc Cert.ReferenceUpdateUpIdeal.main_arg6) = m' ((c.tc : Thread Cert.ReferenceUpdateUpIdeal.nD Cert.ReferenceUpdateUpIdeal.τ).loc Cert.ReferenceUpdateUpIdeal.main_arg6)
          ∧ r.2.mem ((c.tc : Thread Cert.ReferenceUpdateUpIdeal.nD Cert.ReferenceUpdateUpIdeal.τ).loc Cert.ReferenceUpdateUpIdeal.main_arg7) = m' ((c.tc : Thread Cert.ReferenceUpdateUpIdeal.nD Cert.ReferenceUpdateUpIdeal.τ).loc Cert.ReferenceUpdateUpIdeal.main_arg7))

def preserves_KernelUpdateDown_KernelUpdateDownIdeal : Prop :=
  True

def algebraic_KernelUpdateDownIdeal_ReferenceUpdateDownIdeal [hKernelUpdateDownIdeal : Cert.KernelUpdateDownIdeal.Facts] [hReferenceUpdateDownIdeal : Cert.ReferenceUpdateDownIdeal.Facts] : Prop :=
  ∀ (m : (ℓ : Loc Cert.KernelUpdateDownIdeal.nD Cert.KernelUpdateDownIdeal.τ Cert.KernelUpdateDownIdeal.sig) → Buf (Elt Ideal) ℓ) (g : Dev Cert.KernelUpdateDownIdeal.nD → PrngReg)
    (m' : (ℓ : Loc Cert.ReferenceUpdateDownIdeal.nD Cert.ReferenceUpdateDownIdeal.τ Cert.ReferenceUpdateDownIdeal.sig) → Buf (Elt Ideal) ℓ) (g' : Dev Cert.ReferenceUpdateDownIdeal.nD → PrngReg), Pre_KernelUpdateDownIdeal m →
    (∀ c : Dev Cert.KernelUpdateDownIdeal.nD,
      m' ((c.tc : Thread Cert.ReferenceUpdateDownIdeal.nD Cert.ReferenceUpdateDownIdeal.τ).loc Cert.ReferenceUpdateDownIdeal.main_arg0) = m ((c.tc : Thread Cert.KernelUpdateDownIdeal.nD Cert.KernelUpdateDownIdeal.τ).loc Cert.KernelUpdateDownIdeal.main_arg0)
      ∧ m' ((c.tc : Thread Cert.ReferenceUpdateDownIdeal.nD Cert.ReferenceUpdateDownIdeal.τ).loc Cert.ReferenceUpdateDownIdeal.main_arg1) = m ((c.tc : Thread Cert.KernelUpdateDownIdeal.nD Cert.KernelUpdateDownIdeal.τ).loc Cert.KernelUpdateDownIdeal.main_arg1)
      ∧ m' ((c.tc : Thread Cert.ReferenceUpdateDownIdeal.nD Cert.ReferenceUpdateDownIdeal.τ).loc Cert.ReferenceUpdateDownIdeal.main_arg2) = m ((c.tc : Thread Cert.KernelUpdateDownIdeal.nD Cert.KernelUpdateDownIdeal.τ).loc Cert.KernelUpdateDownIdeal.main_arg2)
      ∧ m' ((c.tc : Thread Cert.ReferenceUpdateDownIdeal.nD Cert.ReferenceUpdateDownIdeal.τ).loc Cert.ReferenceUpdateDownIdeal.main_arg3) = m ((c.tc : Thread Cert.KernelUpdateDownIdeal.nD Cert.KernelUpdateDownIdeal.τ).loc Cert.KernelUpdateDownIdeal.main_arg3)
      ∧ m' ((c.tc : Thread Cert.ReferenceUpdateDownIdeal.nD Cert.ReferenceUpdateDownIdeal.τ).loc Cert.ReferenceUpdateDownIdeal.main_arg4) = m ((c.tc : Thread Cert.KernelUpdateDownIdeal.nD Cert.KernelUpdateDownIdeal.τ).loc Cert.KernelUpdateDownIdeal.main_arg4)
      ∧ m' ((c.tc : Thread Cert.ReferenceUpdateDownIdeal.nD Cert.ReferenceUpdateDownIdeal.τ).loc Cert.ReferenceUpdateDownIdeal.main_arg5) = m ((c.tc : Thread Cert.KernelUpdateDownIdeal.nD Cert.KernelUpdateDownIdeal.τ).loc Cert.KernelUpdateDownIdeal.main_arg5)
      ∧ m' ((c.tc : Thread Cert.ReferenceUpdateDownIdeal.nD Cert.ReferenceUpdateDownIdeal.τ).loc Cert.ReferenceUpdateDownIdeal.main_arg6) = m ((c.tc : Thread Cert.KernelUpdateDownIdeal.nD Cert.KernelUpdateDownIdeal.τ).loc Cert.KernelUpdateDownIdeal.main_arg6)
      ∧ m' ((c.tc : Thread Cert.ReferenceUpdateDownIdeal.nD Cert.ReferenceUpdateDownIdeal.τ).loc Cert.ReferenceUpdateDownIdeal.main_arg7) = m ((c.tc : Thread Cert.KernelUpdateDownIdeal.nD Cert.KernelUpdateDownIdeal.τ).loc Cert.KernelUpdateDownIdeal.main_arg7)) →
    ∃ (v0 : (c : Dev Cert.KernelUpdateDownIdeal.nD) → Buf (Elt Ideal) ((c.tc : Thread Cert.KernelUpdateDownIdeal.nD Cert.KernelUpdateDownIdeal.τ).loc Cert.KernelUpdateDownIdeal.main_v0_0)) (v1 : (c : Dev Cert.KernelUpdateDownIdeal.nD) → Buf (Elt Ideal) ((c.tc : Thread Cert.KernelUpdateDownIdeal.nD Cert.KernelUpdateDownIdeal.τ).loc Cert.KernelUpdateDownIdeal.main_v0_1)) (v2 : (c : Dev Cert.KernelUpdateDownIdeal.nD) → Buf (Elt Ideal) ((c.tc : Thread Cert.KernelUpdateDownIdeal.nD Cert.KernelUpdateDownIdeal.τ).loc Cert.KernelUpdateDownIdeal.main_v0_2)) (v3 : (c : Dev Cert.KernelUpdateDownIdeal.nD) → Buf (Elt Ideal) ((c.tc : Thread Cert.KernelUpdateDownIdeal.nD Cert.KernelUpdateDownIdeal.τ).loc Cert.KernelUpdateDownIdeal.main_v0_3)),
      θ_run (Cert.KernelUpdateDownIdeal.defs (F := Ideal)) (onTc (τ := Cert.KernelUpdateDownIdeal.τ) (Cert.KernelUpdateDownIdeal.main (F := Ideal))) ⟨m, fun _ => 0, g⟩ (fun r => ∀ c : Dev Cert.KernelUpdateDownIdeal.nD,
          r.2.mem ((c.tc : Thread Cert.KernelUpdateDownIdeal.nD Cert.KernelUpdateDownIdeal.τ).loc Cert.KernelUpdateDownIdeal.main_v0_0) = v0 c
          ∧ r.2.mem ((c.tc : Thread Cert.KernelUpdateDownIdeal.nD Cert.KernelUpdateDownIdeal.τ).loc Cert.KernelUpdateDownIdeal.main_v0_1) = v1 c
          ∧ r.2.mem ((c.tc : Thread Cert.KernelUpdateDownIdeal.nD Cert.KernelUpdateDownIdeal.τ).loc Cert.KernelUpdateDownIdeal.main_v0_2) = v2 c
          ∧ r.2.mem ((c.tc : Thread Cert.KernelUpdateDownIdeal.nD Cert.KernelUpdateDownIdeal.τ).loc Cert.KernelUpdateDownIdeal.main_v0_3) = v3 c
          ∧ r.2.mem ((c.tc : Thread Cert.KernelUpdateDownIdeal.nD Cert.KernelUpdateDownIdeal.τ).loc Cert.KernelUpdateDownIdeal.main_arg0) = m ((c.tc : Thread Cert.KernelUpdateDownIdeal.nD Cert.KernelUpdateDownIdeal.τ).loc Cert.KernelUpdateDownIdeal.main_arg0)
          ∧ r.2.mem ((c.tc : Thread Cert.KernelUpdateDownIdeal.nD Cert.KernelUpdateDownIdeal.τ).loc Cert.KernelUpdateDownIdeal.main_arg1) = m ((c.tc : Thread Cert.KernelUpdateDownIdeal.nD Cert.KernelUpdateDownIdeal.τ).loc Cert.KernelUpdateDownIdeal.main_arg1)
          ∧ r.2.mem ((c.tc : Thread Cert.KernelUpdateDownIdeal.nD Cert.KernelUpdateDownIdeal.τ).loc Cert.KernelUpdateDownIdeal.main_arg2) = m ((c.tc : Thread Cert.KernelUpdateDownIdeal.nD Cert.KernelUpdateDownIdeal.τ).loc Cert.KernelUpdateDownIdeal.main_arg2)
          ∧ r.2.mem ((c.tc : Thread Cert.KernelUpdateDownIdeal.nD Cert.KernelUpdateDownIdeal.τ).loc Cert.KernelUpdateDownIdeal.main_arg3) = m ((c.tc : Thread Cert.KernelUpdateDownIdeal.nD Cert.KernelUpdateDownIdeal.τ).loc Cert.KernelUpdateDownIdeal.main_arg3)
          ∧ r.2.mem ((c.tc : Thread Cert.KernelUpdateDownIdeal.nD Cert.KernelUpdateDownIdeal.τ).loc Cert.KernelUpdateDownIdeal.main_arg4) = m ((c.tc : Thread Cert.KernelUpdateDownIdeal.nD Cert.KernelUpdateDownIdeal.τ).loc Cert.KernelUpdateDownIdeal.main_arg4)
          ∧ r.2.mem ((c.tc : Thread Cert.KernelUpdateDownIdeal.nD Cert.KernelUpdateDownIdeal.τ).loc Cert.KernelUpdateDownIdeal.main_arg5) = m ((c.tc : Thread Cert.KernelUpdateDownIdeal.nD Cert.KernelUpdateDownIdeal.τ).loc Cert.KernelUpdateDownIdeal.main_arg5)
          ∧ r.2.mem ((c.tc : Thread Cert.KernelUpdateDownIdeal.nD Cert.KernelUpdateDownIdeal.τ).loc Cert.KernelUpdateDownIdeal.main_arg6) = m ((c.tc : Thread Cert.KernelUpdateDownIdeal.nD Cert.KernelUpdateDownIdeal.τ).loc Cert.KernelUpdateDownIdeal.main_arg6)
          ∧ r.2.mem ((c.tc : Thread Cert.KernelUpdateDownIdeal.nD Cert.KernelUpdateDownIdeal.τ).loc Cert.KernelUpdateDownIdeal.main_arg7) = m ((c.tc : Thread Cert.KernelUpdateDownIdeal.nD Cert.KernelUpdateDownIdeal.τ).loc Cert.KernelUpdateDownIdeal.main_arg7))
      ∧ θ_run (Cert.ReferenceUpdateDownIdeal.defs (F := Ideal)) (onTc (τ := Cert.ReferenceUpdateDownIdeal.τ) (Cert.ReferenceUpdateDownIdeal.main (F := Ideal))) ⟨m', fun _ => 0, g'⟩ (fun r => ∀ c : Dev Cert.ReferenceUpdateDownIdeal.nD,
          r.2.mem ((c.tc : Thread Cert.ReferenceUpdateDownIdeal.nD Cert.ReferenceUpdateDownIdeal.τ).loc Cert.ReferenceUpdateDownIdeal.main_v34) = v0 c
          ∧ r.2.mem ((c.tc : Thread Cert.ReferenceUpdateDownIdeal.nD Cert.ReferenceUpdateDownIdeal.τ).loc Cert.ReferenceUpdateDownIdeal.main_v37) = v1 c
          ∧ r.2.mem ((c.tc : Thread Cert.ReferenceUpdateDownIdeal.nD Cert.ReferenceUpdateDownIdeal.τ).loc Cert.ReferenceUpdateDownIdeal.main_v40) = v2 c
          ∧ r.2.mem ((c.tc : Thread Cert.ReferenceUpdateDownIdeal.nD Cert.ReferenceUpdateDownIdeal.τ).loc Cert.ReferenceUpdateDownIdeal.main_v43) = v3 c
          ∧ r.2.mem ((c.tc : Thread Cert.ReferenceUpdateDownIdeal.nD Cert.ReferenceUpdateDownIdeal.τ).loc Cert.ReferenceUpdateDownIdeal.main_arg0) = m' ((c.tc : Thread Cert.ReferenceUpdateDownIdeal.nD Cert.ReferenceUpdateDownIdeal.τ).loc Cert.ReferenceUpdateDownIdeal.main_arg0)
          ∧ r.2.mem ((c.tc : Thread Cert.ReferenceUpdateDownIdeal.nD Cert.ReferenceUpdateDownIdeal.τ).loc Cert.ReferenceUpdateDownIdeal.main_arg1) = m' ((c.tc : Thread Cert.ReferenceUpdateDownIdeal.nD Cert.ReferenceUpdateDownIdeal.τ).loc Cert.ReferenceUpdateDownIdeal.main_arg1)
          ∧ r.2.mem ((c.tc : Thread Cert.ReferenceUpdateDownIdeal.nD Cert.ReferenceUpdateDownIdeal.τ).loc Cert.ReferenceUpdateDownIdeal.main_arg2) = m' ((c.tc : Thread Cert.ReferenceUpdateDownIdeal.nD Cert.ReferenceUpdateDownIdeal.τ).loc Cert.ReferenceUpdateDownIdeal.main_arg2)
          ∧ r.2.mem ((c.tc : Thread Cert.ReferenceUpdateDownIdeal.nD Cert.ReferenceUpdateDownIdeal.τ).loc Cert.ReferenceUpdateDownIdeal.main_arg3) = m' ((c.tc : Thread Cert.ReferenceUpdateDownIdeal.nD Cert.ReferenceUpdateDownIdeal.τ).loc Cert.ReferenceUpdateDownIdeal.main_arg3)
          ∧ r.2.mem ((c.tc : Thread Cert.ReferenceUpdateDownIdeal.nD Cert.ReferenceUpdateDownIdeal.τ).loc Cert.ReferenceUpdateDownIdeal.main_arg4) = m' ((c.tc : Thread Cert.ReferenceUpdateDownIdeal.nD Cert.ReferenceUpdateDownIdeal.τ).loc Cert.ReferenceUpdateDownIdeal.main_arg4)
          ∧ r.2.mem ((c.tc : Thread Cert.ReferenceUpdateDownIdeal.nD Cert.ReferenceUpdateDownIdeal.τ).loc Cert.ReferenceUpdateDownIdeal.main_arg5) = m' ((c.tc : Thread Cert.ReferenceUpdateDownIdeal.nD Cert.ReferenceUpdateDownIdeal.τ).loc Cert.ReferenceUpdateDownIdeal.main_arg5)
          ∧ r.2.mem ((c.tc : Thread Cert.ReferenceUpdateDownIdeal.nD Cert.ReferenceUpdateDownIdeal.τ).loc Cert.ReferenceUpdateDownIdeal.main_arg6) = m' ((c.tc : Thread Cert.ReferenceUpdateDownIdeal.nD Cert.ReferenceUpdateDownIdeal.τ).loc Cert.ReferenceUpdateDownIdeal.main_arg6)
          ∧ r.2.mem ((c.tc : Thread Cert.ReferenceUpdateDownIdeal.nD Cert.ReferenceUpdateDownIdeal.τ).loc Cert.ReferenceUpdateDownIdeal.main_arg7) = m' ((c.tc : Thread Cert.ReferenceUpdateDownIdeal.nD Cert.ReferenceUpdateDownIdeal.τ).loc Cert.ReferenceUpdateDownIdeal.main_arg7))

def preserves_KernelSmallSum_KernelSmallSumIdeal : Prop :=
  True

def algebraic_KernelSmallSumIdeal_ReferenceSmallSumIdeal [hKernelSmallSumIdeal : Cert.KernelSmallSumIdeal.Facts] [hReferenceSmallSumIdeal : Cert.ReferenceSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg)
    (m' : (ℓ : Loc Cert.ReferenceSmallSumIdeal.nD Cert.ReferenceSmallSumIdeal.τ Cert.ReferenceSmallSumIdeal.sig) → Buf (Elt Ideal) ℓ) (g' : Dev Cert.ReferenceSmallSumIdeal.nD → PrngReg), Pre_KernelSmallSumIdeal m →
    (∀ c : Dev Cert.KernelSmallSumIdeal.nD,
      m' ((c.tc : Thread Cert.ReferenceSmallSumIdeal.nD Cert.ReferenceSmallSumIdeal.τ).loc Cert.ReferenceSmallSumIdeal.main_arg0) = m ((c.tc : Thread Cert.KernelSmallSumIdeal.nD Cert.KernelSmallSumIdeal.τ).loc Cert.KernelSmallSumIdeal.main_arg0)) →
    ∃ (v0 : (c : Dev Cert.KernelSmallSumIdeal.nD) → Buf (Elt Ideal) ((c.tc : Thread Cert.KernelSmallSumIdeal.nD Cert.KernelSmallSumIdeal.τ).loc Cert.KernelSmallSumIdeal.main_v0)),
      θ_run (Cert.KernelSmallSumIdeal.defs (F := Ideal)) (onTc (τ := Cert.KernelSmallSumIdeal.τ) (Cert.KernelSmallSumIdeal.main (F := Ideal))) ⟨m, fun _ => 0, g⟩ (fun r => ∀ c : Dev Cert.KernelSmallSumIdeal.nD,
          r.2.mem ((c.tc : Thread Cert.KernelSmallSumIdeal.nD Cert.KernelSmallSumIdeal.τ).loc Cert.KernelSmallSumIdeal.main_v0) = v0 c
          ∧ r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0))
      ∧ θ_run (Cert.ReferenceSmallSumIdeal.defs (F := Ideal)) (onTc (τ := Cert.ReferenceSmallSumIdeal.τ) (Cert.ReferenceSmallSumIdeal.main (F := Ideal))) ⟨m', fun _ => 0, g'⟩ (fun r => ∀ c : Dev Cert.ReferenceSmallSumIdeal.nD,
          r.2.mem ((c.tc : Thread Cert.ReferenceSmallSumIdeal.nD Cert.ReferenceSmallSumIdeal.τ).loc Cert.ReferenceSmallSumIdeal.main_v0) = v0 c
          ∧ r.2.mem ((c.tc : Thread Cert.ReferenceSmallSumIdeal.nD Cert.ReferenceSmallSumIdeal.τ).loc Cert.ReferenceSmallSumIdeal.main_arg0) = m' ((c.tc : Thread Cert.ReferenceSmallSumIdeal.nD Cert.ReferenceSmallSumIdeal.τ).loc Cert.ReferenceSmallSumIdeal.main_arg0))

def preserves_KernelUpdateSmall_KernelUpdateSmallIdeal : Prop :=
  True

def algebraic_KernelUpdateSmallIdeal_ReferenceUpdateSmallIdeal [hKernelUpdateSmallIdeal : Cert.KernelUpdateSmallIdeal.Facts] [hReferenceUpdateSmallIdeal : Cert.ReferenceUpdateSmallIdeal.Facts] : Prop :=
  ∀ (m : (ℓ : Loc Cert.KernelUpdateSmallIdeal.nD Cert.KernelUpdateSmallIdeal.τ Cert.KernelUpdateSmallIdeal.sig) → Buf (Elt Ideal) ℓ) (g : Dev Cert.KernelUpdateSmallIdeal.nD → PrngReg)
    (m' : (ℓ : Loc Cert.ReferenceUpdateSmallIdeal.nD Cert.ReferenceUpdateSmallIdeal.τ Cert.ReferenceUpdateSmallIdeal.sig) → Buf (Elt Ideal) ℓ) (g' : Dev Cert.ReferenceUpdateSmallIdeal.nD → PrngReg), Pre_KernelUpdateSmallIdeal m →
    (∀ c : Dev Cert.KernelUpdateSmallIdeal.nD,
      m' ((c.tc : Thread Cert.ReferenceUpdateSmallIdeal.nD Cert.ReferenceUpdateSmallIdeal.τ).loc Cert.ReferenceUpdateSmallIdeal.main_arg0) = m ((c.tc : Thread Cert.KernelUpdateSmallIdeal.nD Cert.KernelUpdateSmallIdeal.τ).loc Cert.KernelUpdateSmallIdeal.main_arg0)
      ∧ m' ((c.tc : Thread Cert.ReferenceUpdateSmallIdeal.nD Cert.ReferenceUpdateSmallIdeal.τ).loc Cert.ReferenceUpdateSmallIdeal.main_arg1) = m ((c.tc : Thread Cert.KernelUpdateSmallIdeal.nD Cert.KernelUpdateSmallIdeal.τ).loc Cert.KernelUpdateSmallIdeal.main_arg1)
      ∧ m' ((c.tc : Thread Cert.ReferenceUpdateSmallIdeal.nD Cert.ReferenceUpdateSmallIdeal.τ).loc Cert.ReferenceUpdateSmallIdeal.main_arg2) = m ((c.tc : Thread Cert.KernelUpdateSmallIdeal.nD Cert.KernelUpdateSmallIdeal.τ).loc Cert.KernelUpdateSmallIdeal.main_arg2)
      ∧ m' ((c.tc : Thread Cert.ReferenceUpdateSmallIdeal.nD Cert.ReferenceUpdateSmallIdeal.τ).loc Cert.ReferenceUpdateSmallIdeal.main_arg3) = m ((c.tc : Thread Cert.KernelUpdateSmallIdeal.nD Cert.KernelUpdateSmallIdeal.τ).loc Cert.KernelUpdateSmallIdeal.main_arg3)) →
    ∃ (v0 : (c : Dev Cert.KernelUpdateSmallIdeal.nD) → Buf (Elt Ideal) ((c.tc : Thread Cert.KernelUpdateSmallIdeal.nD Cert.KernelUpdateSmallIdeal.τ).loc Cert.KernelUpdateSmallIdeal.main_v0_0)) (v1 : (c : Dev Cert.KernelUpdateSmallIdeal.nD) → Buf (Elt Ideal) ((c.tc : Thread Cert.KernelUpdateSmallIdeal.nD Cert.KernelUpdateSmallIdeal.τ).loc Cert.KernelUpdateSmallIdeal.main_v0_1)) (v2 : (c : Dev Cert.KernelUpdateSmallIdeal.nD) → Buf (Elt Ideal) ((c.tc : Thread Cert.KernelUpdateSmallIdeal.nD Cert.KernelUpdateSmallIdeal.τ).loc Cert.KernelUpdateSmallIdeal.main_v0_2)),
      θ_run (Cert.KernelUpdateSmallIdeal.defs (F := Ideal)) (onTc (τ := Cert.KernelUpdateSmallIdeal.τ) (Cert.KernelUpdateSmallIdeal.main (F := Ideal))) ⟨m, fun _ => 0, g⟩ (fun r => ∀ c : Dev Cert.KernelUpdateSmallIdeal.nD,
          r.2.mem ((c.tc : Thread Cert.KernelUpdateSmallIdeal.nD Cert.KernelUpdateSmallIdeal.τ).loc Cert.KernelUpdateSmallIdeal.main_v0_0) = v0 c
          ∧ r.2.mem ((c.tc : Thread Cert.KernelUpdateSmallIdeal.nD Cert.KernelUpdateSmallIdeal.τ).loc Cert.KernelUpdateSmallIdeal.main_v0_1) = v1 c
          ∧ r.2.mem ((c.tc : Thread Cert.KernelUpdateSmallIdeal.nD Cert.KernelUpdateSmallIdeal.τ).loc Cert.KernelUpdateSmallIdeal.main_v0_2) = v2 c
          ∧ r.2.mem ((c.tc : Thread Cert.KernelUpdateSmallIdeal.nD Cert.KernelUpdateSmallIdeal.τ).loc Cert.KernelUpdateSmallIdeal.main_arg0) = m ((c.tc : Thread Cert.KernelUpdateSmallIdeal.nD Cert.KernelUpdateSmallIdeal.τ).loc Cert.KernelUpdateSmallIdeal.main_arg0)
          ∧ r.2.mem ((c.tc : Thread Cert.KernelUpdateSmallIdeal.nD Cert.KernelUpdateSmallIdeal.τ).loc Cert.KernelUpdateSmallIdeal.main_arg1) = m ((c.tc : Thread Cert.KernelUpdateSmallIdeal.nD Cert.KernelUpdateSmallIdeal.τ).loc Cert.KernelUpdateSmallIdeal.main_arg1)
          ∧ r.2.mem ((c.tc : Thread Cert.KernelUpdateSmallIdeal.nD Cert.KernelUpdateSmallIdeal.τ).loc Cert.KernelUpdateSmallIdeal.main_arg2) = m ((c.tc : Thread Cert.KernelUpdateSmallIdeal.nD Cert.KernelUpdateSmallIdeal.τ).loc Cert.KernelUpdateSmallIdeal.main_arg2)
          ∧ r.2.mem ((c.tc : Thread Cert.KernelUpdateSmallIdeal.nD Cert.KernelUpdateSmallIdeal.τ).loc Cert.KernelUpdateSmallIdeal.main_arg3) = m ((c.tc : Thread Cert.KernelUpdateSmallIdeal.nD Cert.KernelUpdateSmallIdeal.τ).loc Cert.KernelUpdateSmallIdeal.main_arg3))
      ∧ θ_run (Cert.ReferenceUpdateSmallIdeal.defs (F := Ideal)) (onTc (τ := Cert.ReferenceUpdateSmallIdeal.τ) (Cert.ReferenceUpdateSmallIdeal.main (F := Ideal))) ⟨m', fun _ => 0, g'⟩ (fun r => ∀ c : Dev Cert.ReferenceUpdateSmallIdeal.nD,
          r.2.mem ((c.tc : Thread Cert.ReferenceUpdateSmallIdeal.nD Cert.ReferenceUpdateSmallIdeal.τ).loc Cert.ReferenceUpdateSmallIdeal.main_v23) = v0 c
          ∧ r.2.mem ((c.tc : Thread Cert.ReferenceUpdateSmallIdeal.nD Cert.ReferenceUpdateSmallIdeal.τ).loc Cert.ReferenceUpdateSmallIdeal.main_v4) = v1 c
          ∧ r.2.mem ((c.tc : Thread Cert.ReferenceUpdateSmallIdeal.nD Cert.ReferenceUpdateSmallIdeal.τ).loc Cert.ReferenceUpdateSmallIdeal.main_v10) = v2 c
          ∧ r.2.mem ((c.tc : Thread Cert.ReferenceUpdateSmallIdeal.nD Cert.ReferenceUpdateSmallIdeal.τ).loc Cert.ReferenceUpdateSmallIdeal.main_arg0) = m' ((c.tc : Thread Cert.ReferenceUpdateSmallIdeal.nD Cert.ReferenceUpdateSmallIdeal.τ).loc Cert.ReferenceUpdateSmallIdeal.main_arg0)
          ∧ r.2.mem ((c.tc : Thread Cert.ReferenceUpdateSmallIdeal.nD Cert.ReferenceUpdateSmallIdeal.τ).loc Cert.ReferenceUpdateSmallIdeal.main_arg1) = m' ((c.tc : Thread Cert.ReferenceUpdateSmallIdeal.nD Cert.ReferenceUpdateSmallIdeal.τ).loc Cert.ReferenceUpdateSmallIdeal.main_arg1)
          ∧ r.2.mem ((c.tc : Thread Cert.ReferenceUpdateSmallIdeal.nD Cert.ReferenceUpdateSmallIdeal.τ).loc Cert.ReferenceUpdateSmallIdeal.main_arg2) = m' ((c.tc : Thread Cert.ReferenceUpdateSmallIdeal.nD Cert.ReferenceUpdateSmallIdeal.τ).loc Cert.ReferenceUpdateSmallIdeal.main_arg2)
          ∧ r.2.mem ((c.tc : Thread Cert.ReferenceUpdateSmallIdeal.nD Cert.ReferenceUpdateSmallIdeal.τ).loc Cert.ReferenceUpdateSmallIdeal.main_arg3) = m' ((c.tc : Thread Cert.ReferenceUpdateSmallIdeal.nD Cert.ReferenceUpdateSmallIdeal.τ).loc Cert.ReferenceUpdateSmallIdeal.main_arg3))

def preserves_KernelUpdateIn1_KernelUpdateIn1Ideal : Prop :=
  True

def algebraic_KernelUpdateIn1Ideal_ReferenceUpdateIn1Ideal [hKernelUpdateIn1Ideal : Cert.KernelUpdateIn1Ideal.Facts] [hReferenceUpdateIn1Ideal : Cert.ReferenceUpdateIn1Ideal.Facts] : Prop :=
  ∀ (m : (ℓ : Loc Cert.KernelUpdateIn1Ideal.nD Cert.KernelUpdateIn1Ideal.τ Cert.KernelUpdateIn1Ideal.sig) → Buf (Elt Ideal) ℓ) (g : Dev Cert.KernelUpdateIn1Ideal.nD → PrngReg)
    (m' : (ℓ : Loc Cert.ReferenceUpdateIn1Ideal.nD Cert.ReferenceUpdateIn1Ideal.τ Cert.ReferenceUpdateIn1Ideal.sig) → Buf (Elt Ideal) ℓ) (g' : Dev Cert.ReferenceUpdateIn1Ideal.nD → PrngReg), Pre_KernelUpdateIn1Ideal m →
    (∀ c : Dev Cert.KernelUpdateIn1Ideal.nD,
      m' ((c.tc : Thread Cert.ReferenceUpdateIn1Ideal.nD Cert.ReferenceUpdateIn1Ideal.τ).loc Cert.ReferenceUpdateIn1Ideal.main_arg0) = m ((c.tc : Thread Cert.KernelUpdateIn1Ideal.nD Cert.KernelUpdateIn1Ideal.τ).loc Cert.KernelUpdateIn1Ideal.main_arg0)
      ∧ m' ((c.tc : Thread Cert.ReferenceUpdateIn1Ideal.nD Cert.ReferenceUpdateIn1Ideal.τ).loc Cert.ReferenceUpdateIn1Ideal.main_arg1) = m ((c.tc : Thread Cert.KernelUpdateIn1Ideal.nD Cert.KernelUpdateIn1Ideal.τ).loc Cert.KernelUpdateIn1Ideal.main_arg1)
      ∧ m' ((c.tc : Thread Cert.ReferenceUpdateIn1Ideal.nD Cert.ReferenceUpdateIn1Ideal.τ).loc Cert.ReferenceUpdateIn1Ideal.main_arg2) = m ((c.tc : Thread Cert.KernelUpdateIn1Ideal.nD Cert.KernelUpdateIn1Ideal.τ).loc Cert.KernelUpdateIn1Ideal.main_arg2)
      ∧ m' ((c.tc : Thread Cert.ReferenceUpdateIn1Ideal.nD Cert.ReferenceUpdateIn1Ideal.τ).loc Cert.ReferenceUpdateIn1Ideal.main_arg3) = m ((c.tc : Thread Cert.KernelUpdateIn1Ideal.nD Cert.KernelUpdateIn1Ideal.τ).loc Cert.KernelUpdateIn1Ideal.main_arg3)
      ∧ m' ((c.tc : Thread Cert.ReferenceUpdateIn1Ideal.nD Cert.ReferenceUpdateIn1Ideal.τ).loc Cert.ReferenceUpdateIn1Ideal.main_arg4) = m ((c.tc : Thread Cert.KernelUpdateIn1Ideal.nD Cert.KernelUpdateIn1Ideal.τ).loc Cert.KernelUpdateIn1Ideal.main_arg4)
      ∧ m' ((c.tc : Thread Cert.ReferenceUpdateIn1Ideal.nD Cert.ReferenceUpdateIn1Ideal.τ).loc Cert.ReferenceUpdateIn1Ideal.main_arg5) = m ((c.tc : Thread Cert.KernelUpdateIn1Ideal.nD Cert.KernelUpdateIn1Ideal.τ).loc Cert.KernelUpdateIn1Ideal.main_arg5)
      ∧ m' ((c.tc : Thread Cert.ReferenceUpdateIn1Ideal.nD Cert.ReferenceUpdateIn1Ideal.τ).loc Cert.ReferenceUpdateIn1Ideal.main_arg6) = m ((c.tc : Thread Cert.KernelUpdateIn1Ideal.nD Cert.KernelUpdateIn1Ideal.τ).loc Cert.KernelUpdateIn1Ideal.main_arg6)
      ∧ m' ((c.tc : Thread Cert.ReferenceUpdateIn1Ideal.nD Cert.ReferenceUpdateIn1Ideal.τ).loc Cert.ReferenceUpdateIn1Ideal.main_arg7) = m ((c.tc : Thread Cert.KernelUpdateIn1Ideal.nD Cert.KernelUpdateIn1Ideal.τ).loc Cert.KernelUpdateIn1Ideal.main_arg7)) →
    ∃ (v0 : (c : Dev Cert.KernelUpdateIn1Ideal.nD) → Buf (Elt Ideal) ((c.tc : Thread Cert.KernelUpdateIn1Ideal.nD Cert.KernelUpdateIn1Ideal.τ).loc Cert.KernelUpdateIn1Ideal.main_v0_0)) (v1 : (c : Dev Cert.KernelUpdateIn1Ideal.nD) → Buf (Elt Ideal) ((c.tc : Thread Cert.KernelUpdateIn1Ideal.nD Cert.KernelUpdateIn1Ideal.τ).loc Cert.KernelUpdateIn1Ideal.main_v0_1)) (v2 : (c : Dev Cert.KernelUpdateIn1Ideal.nD) → Buf (Elt Ideal) ((c.tc : Thread Cert.KernelUpdateIn1Ideal.nD Cert.KernelUpdateIn1Ideal.τ).loc Cert.KernelUpdateIn1Ideal.main_v0_2)) (v3 : (c : Dev Cert.KernelUpdateIn1Ideal.nD) → Buf (Elt Ideal) ((c.tc : Thread Cert.KernelUpdateIn1Ideal.nD Cert.KernelUpdateIn1Ideal.τ).loc Cert.KernelUpdateIn1Ideal.main_v0_3)),
      θ_run (Cert.KernelUpdateIn1Ideal.defs (F := Ideal)) (onTc (τ := Cert.KernelUpdateIn1Ideal.τ) (Cert.KernelUpdateIn1Ideal.main (F := Ideal))) ⟨m, fun _ => 0, g⟩ (fun r => ∀ c : Dev Cert.KernelUpdateIn1Ideal.nD,
          r.2.mem ((c.tc : Thread Cert.KernelUpdateIn1Ideal.nD Cert.KernelUpdateIn1Ideal.τ).loc Cert.KernelUpdateIn1Ideal.main_v0_0) = v0 c
          ∧ r.2.mem ((c.tc : Thread Cert.KernelUpdateIn1Ideal.nD Cert.KernelUpdateIn1Ideal.τ).loc Cert.KernelUpdateIn1Ideal.main_v0_1) = v1 c
          ∧ r.2.mem ((c.tc : Thread Cert.KernelUpdateIn1Ideal.nD Cert.KernelUpdateIn1Ideal.τ).loc Cert.KernelUpdateIn1Ideal.main_v0_2) = v2 c
          ∧ r.2.mem ((c.tc : Thread Cert.KernelUpdateIn1Ideal.nD Cert.KernelUpdateIn1Ideal.τ).loc Cert.KernelUpdateIn1Ideal.main_v0_3) = v3 c
          ∧ r.2.mem ((c.tc : Thread Cert.KernelUpdateIn1Ideal.nD Cert.KernelUpdateIn1Ideal.τ).loc Cert.KernelUpdateIn1Ideal.main_arg0) = m ((c.tc : Thread Cert.KernelUpdateIn1Ideal.nD Cert.KernelUpdateIn1Ideal.τ).loc Cert.KernelUpdateIn1Ideal.main_arg0)
          ∧ r.2.mem ((c.tc : Thread Cert.KernelUpdateIn1Ideal.nD Cert.KernelUpdateIn1Ideal.τ).loc Cert.KernelUpdateIn1Ideal.main_arg1) = m ((c.tc : Thread Cert.KernelUpdateIn1Ideal.nD Cert.KernelUpdateIn1Ideal.τ).loc Cert.KernelUpdateIn1Ideal.main_arg1)
          ∧ r.2.mem ((c.tc : Thread Cert.KernelUpdateIn1Ideal.nD Cert.KernelUpdateIn1Ideal.τ).loc Cert.KernelUpdateIn1Ideal.main_arg2) = m ((c.tc : Thread Cert.KernelUpdateIn1Ideal.nD Cert.KernelUpdateIn1Ideal.τ).loc Cert.KernelUpdateIn1Ideal.main_arg2)
          ∧ r.2.mem ((c.tc : Thread Cert.KernelUpdateIn1Ideal.nD Cert.KernelUpdateIn1Ideal.τ).loc Cert.KernelUpdateIn1Ideal.main_arg3) = m ((c.tc : Thread Cert.KernelUpdateIn1Ideal.nD Cert.KernelUpdateIn1Ideal.τ).loc Cert.KernelUpdateIn1Ideal.main_arg3)
          ∧ r.2.mem ((c.tc : Thread Cert.KernelUpdateIn1Ideal.nD Cert.KernelUpdateIn1Ideal.τ).loc Cert.KernelUpdateIn1Ideal.main_arg4) = m ((c.tc : Thread Cert.KernelUpdateIn1Ideal.nD Cert.KernelUpdateIn1Ideal.τ).loc Cert.KernelUpdateIn1Ideal.main_arg4)
          ∧ r.2.mem ((c.tc : Thread Cert.KernelUpdateIn1Ideal.nD Cert.KernelUpdateIn1Ideal.τ).loc Cert.KernelUpdateIn1Ideal.main_arg5) = m ((c.tc : Thread Cert.KernelUpdateIn1Ideal.nD Cert.KernelUpdateIn1Ideal.τ).loc Cert.KernelUpdateIn1Ideal.main_arg5)
          ∧ r.2.mem ((c.tc : Thread Cert.KernelUpdateIn1Ideal.nD Cert.KernelUpdateIn1Ideal.τ).loc Cert.KernelUpdateIn1Ideal.main_arg6) = m ((c.tc : Thread Cert.KernelUpdateIn1Ideal.nD Cert.KernelUpdateIn1Ideal.τ).loc Cert.KernelUpdateIn1Ideal.main_arg6)
          ∧ r.2.mem ((c.tc : Thread Cert.KernelUpdateIn1Ideal.nD Cert.KernelUpdateIn1Ideal.τ).loc Cert.KernelUpdateIn1Ideal.main_arg7) = m ((c.tc : Thread Cert.KernelUpdateIn1Ideal.nD Cert.KernelUpdateIn1Ideal.τ).loc Cert.KernelUpdateIn1Ideal.main_arg7))
      ∧ θ_run (Cert.ReferenceUpdateIn1Ideal.defs (F := Ideal)) (onTc (τ := Cert.ReferenceUpdateIn1Ideal.τ) (Cert.ReferenceUpdateIn1Ideal.main (F := Ideal))) ⟨m', fun _ => 0, g'⟩ (fun r => ∀ c : Dev Cert.ReferenceUpdateIn1Ideal.nD,
          r.2.mem ((c.tc : Thread Cert.ReferenceUpdateIn1Ideal.nD Cert.ReferenceUpdateIn1Ideal.τ).loc Cert.ReferenceUpdateIn1Ideal.main_v35) = v0 c
          ∧ r.2.mem ((c.tc : Thread Cert.ReferenceUpdateIn1Ideal.nD Cert.ReferenceUpdateIn1Ideal.τ).loc Cert.ReferenceUpdateIn1Ideal.main_v39) = v1 c
          ∧ r.2.mem ((c.tc : Thread Cert.ReferenceUpdateIn1Ideal.nD Cert.ReferenceUpdateIn1Ideal.τ).loc Cert.ReferenceUpdateIn1Ideal.main_v43) = v2 c
          ∧ r.2.mem ((c.tc : Thread Cert.ReferenceUpdateIn1Ideal.nD Cert.ReferenceUpdateIn1Ideal.τ).loc Cert.ReferenceUpdateIn1Ideal.main_v47) = v3 c
          ∧ r.2.mem ((c.tc : Thread Cert.ReferenceUpdateIn1Ideal.nD Cert.ReferenceUpdateIn1Ideal.τ).loc Cert.ReferenceUpdateIn1Ideal.main_arg0) = m' ((c.tc : Thread Cert.ReferenceUpdateIn1Ideal.nD Cert.ReferenceUpdateIn1Ideal.τ).loc Cert.ReferenceUpdateIn1Ideal.main_arg0)
          ∧ r.2.mem ((c.tc : Thread Cert.ReferenceUpdateIn1Ideal.nD Cert.ReferenceUpdateIn1Ideal.τ).loc Cert.ReferenceUpdateIn1Ideal.main_arg1) = m' ((c.tc : Thread Cert.ReferenceUpdateIn1Ideal.nD Cert.ReferenceUpdateIn1Ideal.τ).loc Cert.ReferenceUpdateIn1Ideal.main_arg1)
          ∧ r.2.mem ((c.tc : Thread Cert.ReferenceUpdateIn1Ideal.nD Cert.ReferenceUpdateIn1Ideal.τ).loc Cert.ReferenceUpdateIn1Ideal.main_arg2) = m' ((c.tc : Thread Cert.ReferenceUpdateIn1Ideal.nD Cert.ReferenceUpdateIn1Ideal.τ).loc Cert.ReferenceUpdateIn1Ideal.main_arg2)
          ∧ r.2.mem ((c.tc : Thread Cert.ReferenceUpdateIn1Ideal.nD Cert.ReferenceUpdateIn1Ideal.τ).loc Cert.ReferenceUpdateIn1Ideal.main_arg3) = m' ((c.tc : Thread Cert.ReferenceUpdateIn1Ideal.nD Cert.ReferenceUpdateIn1Ideal.τ).loc Cert.ReferenceUpdateIn1Ideal.main_arg3)
          ∧ r.2.mem ((c.tc : Thread Cert.ReferenceUpdateIn1Ideal.nD Cert.ReferenceUpdateIn1Ideal.τ).loc Cert.ReferenceUpdateIn1Ideal.main_arg4) = m' ((c.tc : Thread Cert.ReferenceUpdateIn1Ideal.nD Cert.ReferenceUpdateIn1Ideal.τ).loc Cert.ReferenceUpdateIn1Ideal.main_arg4)
          ∧ r.2.mem ((c.tc : Thread Cert.ReferenceUpdateIn1Ideal.nD Cert.ReferenceUpdateIn1Ideal.τ).loc Cert.ReferenceUpdateIn1Ideal.main_arg5) = m' ((c.tc : Thread Cert.ReferenceUpdateIn1Ideal.nD Cert.ReferenceUpdateIn1Ideal.τ).loc Cert.ReferenceUpdateIn1Ideal.main_arg5)
          ∧ r.2.mem ((c.tc : Thread Cert.ReferenceUpdateIn1Ideal.nD Cert.ReferenceUpdateIn1Ideal.τ).loc Cert.ReferenceUpdateIn1Ideal.main_arg6) = m' ((c.tc : Thread Cert.ReferenceUpdateIn1Ideal.nD Cert.ReferenceUpdateIn1Ideal.τ).loc Cert.ReferenceUpdateIn1Ideal.main_arg6)
          ∧ r.2.mem ((c.tc : Thread Cert.ReferenceUpdateIn1Ideal.nD Cert.ReferenceUpdateIn1Ideal.τ).loc Cert.ReferenceUpdateIn1Ideal.main_arg7) = m' ((c.tc : Thread Cert.ReferenceUpdateIn1Ideal.nD Cert.ReferenceUpdateIn1Ideal.τ).loc Cert.ReferenceUpdateIn1Ideal.main_arg7))

def preserves_KernelUpdateOut1_KernelUpdateOut1Ideal : Prop :=
  True

def algebraic_KernelUpdateOut1Ideal_ReferenceUpdateOut1Ideal [hKernelUpdateOut1Ideal : Cert.KernelUpdateOut1Ideal.Facts] [hReferenceUpdateOut1Ideal : Cert.ReferenceUpdateOut1Ideal.Facts] : Prop :=
  ∀ (m : (ℓ : Loc Cert.KernelUpdateOut1Ideal.nD Cert.KernelUpdateOut1Ideal.τ Cert.KernelUpdateOut1Ideal.sig) → Buf (Elt Ideal) ℓ) (g : Dev Cert.KernelUpdateOut1Ideal.nD → PrngReg)
    (m' : (ℓ : Loc Cert.ReferenceUpdateOut1Ideal.nD Cert.ReferenceUpdateOut1Ideal.τ Cert.ReferenceUpdateOut1Ideal.sig) → Buf (Elt Ideal) ℓ) (g' : Dev Cert.ReferenceUpdateOut1Ideal.nD → PrngReg), Pre_KernelUpdateOut1Ideal m →
    (∀ c : Dev Cert.KernelUpdateOut1Ideal.nD,
      m' ((c.tc : Thread Cert.ReferenceUpdateOut1Ideal.nD Cert.ReferenceUpdateOut1Ideal.τ).loc Cert.ReferenceUpdateOut1Ideal.main_arg0) = m ((c.tc : Thread Cert.KernelUpdateOut1Ideal.nD Cert.KernelUpdateOut1Ideal.τ).loc Cert.KernelUpdateOut1Ideal.main_arg0)
      ∧ m' ((c.tc : Thread Cert.ReferenceUpdateOut1Ideal.nD Cert.ReferenceUpdateOut1Ideal.τ).loc Cert.ReferenceUpdateOut1Ideal.main_arg1) = m ((c.tc : Thread Cert.KernelUpdateOut1Ideal.nD Cert.KernelUpdateOut1Ideal.τ).loc Cert.KernelUpdateOut1Ideal.main_arg1)
      ∧ m' ((c.tc : Thread Cert.ReferenceUpdateOut1Ideal.nD Cert.ReferenceUpdateOut1Ideal.τ).loc Cert.ReferenceUpdateOut1Ideal.main_arg2) = m ((c.tc : Thread Cert.KernelUpdateOut1Ideal.nD Cert.KernelUpdateOut1Ideal.τ).loc Cert.KernelUpdateOut1Ideal.main_arg2)
      ∧ m' ((c.tc : Thread Cert.ReferenceUpdateOut1Ideal.nD Cert.ReferenceUpdateOut1Ideal.τ).loc Cert.ReferenceUpdateOut1Ideal.main_arg3) = m ((c.tc : Thread Cert.KernelUpdateOut1Ideal.nD Cert.KernelUpdateOut1Ideal.τ).loc Cert.KernelUpdateOut1Ideal.main_arg3)
      ∧ m' ((c.tc : Thread Cert.ReferenceUpdateOut1Ideal.nD Cert.ReferenceUpdateOut1Ideal.τ).loc Cert.ReferenceUpdateOut1Ideal.main_arg4) = m ((c.tc : Thread Cert.KernelUpdateOut1Ideal.nD Cert.KernelUpdateOut1Ideal.τ).loc Cert.KernelUpdateOut1Ideal.main_arg4)
      ∧ m' ((c.tc : Thread Cert.ReferenceUpdateOut1Ideal.nD Cert.ReferenceUpdateOut1Ideal.τ).loc Cert.ReferenceUpdateOut1Ideal.main_arg5) = m ((c.tc : Thread Cert.KernelUpdateOut1Ideal.nD Cert.KernelUpdateOut1Ideal.τ).loc Cert.KernelUpdateOut1Ideal.main_arg5)
      ∧ m' ((c.tc : Thread Cert.ReferenceUpdateOut1Ideal.nD Cert.ReferenceUpdateOut1Ideal.τ).loc Cert.ReferenceUpdateOut1Ideal.main_arg6) = m ((c.tc : Thread Cert.KernelUpdateOut1Ideal.nD Cert.KernelUpdateOut1Ideal.τ).loc Cert.KernelUpdateOut1Ideal.main_arg6)
      ∧ m' ((c.tc : Thread Cert.ReferenceUpdateOut1Ideal.nD Cert.ReferenceUpdateOut1Ideal.τ).loc Cert.ReferenceUpdateOut1Ideal.main_arg7) = m ((c.tc : Thread Cert.KernelUpdateOut1Ideal.nD Cert.KernelUpdateOut1Ideal.τ).loc Cert.KernelUpdateOut1Ideal.main_arg7)) →
    ∃ (v0 : (c : Dev Cert.KernelUpdateOut1Ideal.nD) → Buf (Elt Ideal) ((c.tc : Thread Cert.KernelUpdateOut1Ideal.nD Cert.KernelUpdateOut1Ideal.τ).loc Cert.KernelUpdateOut1Ideal.main_v0_0)) (v1 : (c : Dev Cert.KernelUpdateOut1Ideal.nD) → Buf (Elt Ideal) ((c.tc : Thread Cert.KernelUpdateOut1Ideal.nD Cert.KernelUpdateOut1Ideal.τ).loc Cert.KernelUpdateOut1Ideal.main_v0_1)) (v2 : (c : Dev Cert.KernelUpdateOut1Ideal.nD) → Buf (Elt Ideal) ((c.tc : Thread Cert.KernelUpdateOut1Ideal.nD Cert.KernelUpdateOut1Ideal.τ).loc Cert.KernelUpdateOut1Ideal.main_v0_2)) (v3 : (c : Dev Cert.KernelUpdateOut1Ideal.nD) → Buf (Elt Ideal) ((c.tc : Thread Cert.KernelUpdateOut1Ideal.nD Cert.KernelUpdateOut1Ideal.τ).loc Cert.KernelUpdateOut1Ideal.main_v0_3)),
      θ_run (Cert.KernelUpdateOut1Ideal.defs (F := Ideal)) (onTc (τ := Cert.KernelUpdateOut1Ideal.τ) (Cert.KernelUpdateOut1Ideal.main (F := Ideal))) ⟨m, fun _ => 0, g⟩ (fun r => ∀ c : Dev Cert.KernelUpdateOut1Ideal.nD,
          r.2.mem ((c.tc : Thread Cert.KernelUpdateOut1Ideal.nD Cert.KernelUpdateOut1Ideal.τ).loc Cert.KernelUpdateOut1Ideal.main_v0_0) = v0 c
          ∧ r.2.mem ((c.tc : Thread Cert.KernelUpdateOut1Ideal.nD Cert.KernelUpdateOut1Ideal.τ).loc Cert.KernelUpdateOut1Ideal.main_v0_1) = v1 c
          ∧ r.2.mem ((c.tc : Thread Cert.KernelUpdateOut1Ideal.nD Cert.KernelUpdateOut1Ideal.τ).loc Cert.KernelUpdateOut1Ideal.main_v0_2) = v2 c
          ∧ r.2.mem ((c.tc : Thread Cert.KernelUpdateOut1Ideal.nD Cert.KernelUpdateOut1Ideal.τ).loc Cert.KernelUpdateOut1Ideal.main_v0_3) = v3 c
          ∧ r.2.mem ((c.tc : Thread Cert.KernelUpdateOut1Ideal.nD Cert.KernelUpdateOut1Ideal.τ).loc Cert.KernelUpdateOut1Ideal.main_arg0) = m ((c.tc : Thread Cert.KernelUpdateOut1Ideal.nD Cert.KernelUpdateOut1Ideal.τ).loc Cert.KernelUpdateOut1Ideal.main_arg0)
          ∧ r.2.mem ((c.tc : Thread Cert.KernelUpdateOut1Ideal.nD Cert.KernelUpdateOut1Ideal.τ).loc Cert.KernelUpdateOut1Ideal.main_arg1) = m ((c.tc : Thread Cert.KernelUpdateOut1Ideal.nD Cert.KernelUpdateOut1Ideal.τ).loc Cert.KernelUpdateOut1Ideal.main_arg1)
          ∧ r.2.mem ((c.tc : Thread Cert.KernelUpdateOut1Ideal.nD Cert.KernelUpdateOut1Ideal.τ).loc Cert.KernelUpdateOut1Ideal.main_arg2) = m ((c.tc : Thread Cert.KernelUpdateOut1Ideal.nD Cert.KernelUpdateOut1Ideal.τ).loc Cert.KernelUpdateOut1Ideal.main_arg2)
          ∧ r.2.mem ((c.tc : Thread Cert.KernelUpdateOut1Ideal.nD Cert.KernelUpdateOut1Ideal.τ).loc Cert.KernelUpdateOut1Ideal.main_arg3) = m ((c.tc : Thread Cert.KernelUpdateOut1Ideal.nD Cert.KernelUpdateOut1Ideal.τ).loc Cert.KernelUpdateOut1Ideal.main_arg3)
          ∧ r.2.mem ((c.tc : Thread Cert.KernelUpdateOut1Ideal.nD Cert.KernelUpdateOut1Ideal.τ).loc Cert.KernelUpdateOut1Ideal.main_arg4) = m ((c.tc : Thread Cert.KernelUpdateOut1Ideal.nD Cert.KernelUpdateOut1Ideal.τ).loc Cert.KernelUpdateOut1Ideal.main_arg4)
          ∧ r.2.mem ((c.tc : Thread Cert.KernelUpdateOut1Ideal.nD Cert.KernelUpdateOut1Ideal.τ).loc Cert.KernelUpdateOut1Ideal.main_arg5) = m ((c.tc : Thread Cert.KernelUpdateOut1Ideal.nD Cert.KernelUpdateOut1Ideal.τ).loc Cert.KernelUpdateOut1Ideal.main_arg5)
          ∧ r.2.mem ((c.tc : Thread Cert.KernelUpdateOut1Ideal.nD Cert.KernelUpdateOut1Ideal.τ).loc Cert.KernelUpdateOut1Ideal.main_arg6) = m ((c.tc : Thread Cert.KernelUpdateOut1Ideal.nD Cert.KernelUpdateOut1Ideal.τ).loc Cert.KernelUpdateOut1Ideal.main_arg6)
          ∧ r.2.mem ((c.tc : Thread Cert.KernelUpdateOut1Ideal.nD Cert.KernelUpdateOut1Ideal.τ).loc Cert.KernelUpdateOut1Ideal.main_arg7) = m ((c.tc : Thread Cert.KernelUpdateOut1Ideal.nD Cert.KernelUpdateOut1Ideal.τ).loc Cert.KernelUpdateOut1Ideal.main_arg7))
      ∧ θ_run (Cert.ReferenceUpdateOut1Ideal.defs (F := Ideal)) (onTc (τ := Cert.ReferenceUpdateOut1Ideal.τ) (Cert.ReferenceUpdateOut1Ideal.main (F := Ideal))) ⟨m', fun _ => 0, g'⟩ (fun r => ∀ c : Dev Cert.ReferenceUpdateOut1Ideal.nD,
          r.2.mem ((c.tc : Thread Cert.ReferenceUpdateOut1Ideal.nD Cert.ReferenceUpdateOut1Ideal.τ).loc Cert.ReferenceUpdateOut1Ideal.main_v35) = v0 c
          ∧ r.2.mem ((c.tc : Thread Cert.ReferenceUpdateOut1Ideal.nD Cert.ReferenceUpdateOut1Ideal.τ).loc Cert.ReferenceUpdateOut1Ideal.main_v39) = v1 c
          ∧ r.2.mem ((c.tc : Thread Cert.ReferenceUpdateOut1Ideal.nD Cert.ReferenceUpdateOut1Ideal.τ).loc Cert.ReferenceUpdateOut1Ideal.main_v43) = v2 c
          ∧ r.2.mem ((c.tc : Thread Cert.ReferenceUpdateOut1Ideal.nD Cert.ReferenceUpdateOut1Ideal.τ).loc Cert.ReferenceUpdateOut1Ideal.main_v47) = v3 c
          ∧ r.2.mem ((c.tc : Thread Cert.ReferenceUpdateOut1Ideal.nD Cert.ReferenceUpdateOut1Ideal.τ).loc Cert.ReferenceUpdateOut1Ideal.main_arg0) = m' ((c.tc : Thread Cert.ReferenceUpdateOut1Ideal.nD Cert.ReferenceUpdateOut1Ideal.τ).loc Cert.ReferenceUpdateOut1Ideal.main_arg0)
          ∧ r.2.mem ((c.tc : Thread Cert.ReferenceUpdateOut1Ideal.nD Cert.ReferenceUpdateOut1Ideal.τ).loc Cert.ReferenceUpdateOut1Ideal.main_arg1) = m' ((c.tc : Thread Cert.ReferenceUpdateOut1Ideal.nD Cert.ReferenceUpdateOut1Ideal.τ).loc Cert.ReferenceUpdateOut1Ideal.main_arg1)
          ∧ r.2.mem ((c.tc : Thread Cert.ReferenceUpdateOut1Ideal.nD Cert.ReferenceUpdateOut1Ideal.τ).loc Cert.ReferenceUpdateOut1Ideal.main_arg2) = m' ((c.tc : Thread Cert.ReferenceUpdateOut1Ideal.nD Cert.ReferenceUpdateOut1Ideal.τ).loc Cert.ReferenceUpdateOut1Ideal.main_arg2)
          ∧ r.2.mem ((c.tc : Thread Cert.ReferenceUpdateOut1Ideal.nD Cert.ReferenceUpdateOut1Ideal.τ).loc Cert.ReferenceUpdateOut1Ideal.main_arg3) = m' ((c.tc : Thread Cert.ReferenceUpdateOut1Ideal.nD Cert.ReferenceUpdateOut1Ideal.τ).loc Cert.ReferenceUpdateOut1Ideal.main_arg3)
          ∧ r.2.mem ((c.tc : Thread Cert.ReferenceUpdateOut1Ideal.nD Cert.ReferenceUpdateOut1Ideal.τ).loc Cert.ReferenceUpdateOut1Ideal.main_arg4) = m' ((c.tc : Thread Cert.ReferenceUpdateOut1Ideal.nD Cert.ReferenceUpdateOut1Ideal.τ).loc Cert.ReferenceUpdateOut1Ideal.main_arg4)
          ∧ r.2.mem ((c.tc : Thread Cert.ReferenceUpdateOut1Ideal.nD Cert.ReferenceUpdateOut1Ideal.τ).loc Cert.ReferenceUpdateOut1Ideal.main_arg5) = m' ((c.tc : Thread Cert.ReferenceUpdateOut1Ideal.nD Cert.ReferenceUpdateOut1Ideal.τ).loc Cert.ReferenceUpdateOut1Ideal.main_arg5)
          ∧ r.2.mem ((c.tc : Thread Cert.ReferenceUpdateOut1Ideal.nD Cert.ReferenceUpdateOut1Ideal.τ).loc Cert.ReferenceUpdateOut1Ideal.main_arg6) = m' ((c.tc : Thread Cert.ReferenceUpdateOut1Ideal.nD Cert.ReferenceUpdateOut1Ideal.τ).loc Cert.ReferenceUpdateOut1Ideal.main_arg6)
          ∧ r.2.mem ((c.tc : Thread Cert.ReferenceUpdateOut1Ideal.nD Cert.ReferenceUpdateOut1Ideal.τ).loc Cert.ReferenceUpdateOut1Ideal.main_arg7) = m' ((c.tc : Thread Cert.ReferenceUpdateOut1Ideal.nD Cert.ReferenceUpdateOut1Ideal.τ).loc Cert.ReferenceUpdateOut1Ideal.main_arg7))

def preserves_KernelUpdateUp1_KernelUpdateUp1Ideal : Prop :=
  True

def algebraic_KernelUpdateUp1Ideal_ReferenceUpdateUp1Ideal [hKernelUpdateUp1Ideal : Cert.KernelUpdateUp1Ideal.Facts] [hReferenceUpdateUp1Ideal : Cert.ReferenceUpdateUp1Ideal.Facts] : Prop :=
  ∀ (m : (ℓ : Loc Cert.KernelUpdateUp1Ideal.nD Cert.KernelUpdateUp1Ideal.τ Cert.KernelUpdateUp1Ideal.sig) → Buf (Elt Ideal) ℓ) (g : Dev Cert.KernelUpdateUp1Ideal.nD → PrngReg)
    (m' : (ℓ : Loc Cert.ReferenceUpdateUp1Ideal.nD Cert.ReferenceUpdateUp1Ideal.τ Cert.ReferenceUpdateUp1Ideal.sig) → Buf (Elt Ideal) ℓ) (g' : Dev Cert.ReferenceUpdateUp1Ideal.nD → PrngReg), Pre_KernelUpdateUp1Ideal m →
    (∀ c : Dev Cert.KernelUpdateUp1Ideal.nD,
      m' ((c.tc : Thread Cert.ReferenceUpdateUp1Ideal.nD Cert.ReferenceUpdateUp1Ideal.τ).loc Cert.ReferenceUpdateUp1Ideal.main_arg0) = m ((c.tc : Thread Cert.KernelUpdateUp1Ideal.nD Cert.KernelUpdateUp1Ideal.τ).loc Cert.KernelUpdateUp1Ideal.main_arg0)
      ∧ m' ((c.tc : Thread Cert.ReferenceUpdateUp1Ideal.nD Cert.ReferenceUpdateUp1Ideal.τ).loc Cert.ReferenceUpdateUp1Ideal.main_arg1) = m ((c.tc : Thread Cert.KernelUpdateUp1Ideal.nD Cert.KernelUpdateUp1Ideal.τ).loc Cert.KernelUpdateUp1Ideal.main_arg1)
      ∧ m' ((c.tc : Thread Cert.ReferenceUpdateUp1Ideal.nD Cert.ReferenceUpdateUp1Ideal.τ).loc Cert.ReferenceUpdateUp1Ideal.main_arg2) = m ((c.tc : Thread Cert.KernelUpdateUp1Ideal.nD Cert.KernelUpdateUp1Ideal.τ).loc Cert.KernelUpdateUp1Ideal.main_arg2)
      ∧ m' ((c.tc : Thread Cert.ReferenceUpdateUp1Ideal.nD Cert.ReferenceUpdateUp1Ideal.τ).loc Cert.ReferenceUpdateUp1Ideal.main_arg3) = m ((c.tc : Thread Cert.KernelUpdateUp1Ideal.nD Cert.KernelUpdateUp1Ideal.τ).loc Cert.KernelUpdateUp1Ideal.main_arg3)
      ∧ m' ((c.tc : Thread Cert.ReferenceUpdateUp1Ideal.nD Cert.ReferenceUpdateUp1Ideal.τ).loc Cert.ReferenceUpdateUp1Ideal.main_arg4) = m ((c.tc : Thread Cert.KernelUpdateUp1Ideal.nD Cert.KernelUpdateUp1Ideal.τ).loc Cert.KernelUpdateUp1Ideal.main_arg4)
      ∧ m' ((c.tc : Thread Cert.ReferenceUpdateUp1Ideal.nD Cert.ReferenceUpdateUp1Ideal.τ).loc Cert.ReferenceUpdateUp1Ideal.main_arg5) = m ((c.tc : Thread Cert.KernelUpdateUp1Ideal.nD Cert.KernelUpdateUp1Ideal.τ).loc Cert.KernelUpdateUp1Ideal.main_arg5)
      ∧ m' ((c.tc : Thread Cert.ReferenceUpdateUp1Ideal.nD Cert.ReferenceUpdateUp1Ideal.τ).loc Cert.ReferenceUpdateUp1Ideal.main_arg6) = m ((c.tc : Thread Cert.KernelUpdateUp1Ideal.nD Cert.KernelUpdateUp1Ideal.τ).loc Cert.KernelUpdateUp1Ideal.main_arg6)
      ∧ m' ((c.tc : Thread Cert.ReferenceUpdateUp1Ideal.nD Cert.ReferenceUpdateUp1Ideal.τ).loc Cert.ReferenceUpdateUp1Ideal.main_arg7) = m ((c.tc : Thread Cert.KernelUpdateUp1Ideal.nD Cert.KernelUpdateUp1Ideal.τ).loc Cert.KernelUpdateUp1Ideal.main_arg7)) →
    ∃ (v0 : (c : Dev Cert.KernelUpdateUp1Ideal.nD) → Buf (Elt Ideal) ((c.tc : Thread Cert.KernelUpdateUp1Ideal.nD Cert.KernelUpdateUp1Ideal.τ).loc Cert.KernelUpdateUp1Ideal.main_v0_0)) (v1 : (c : Dev Cert.KernelUpdateUp1Ideal.nD) → Buf (Elt Ideal) ((c.tc : Thread Cert.KernelUpdateUp1Ideal.nD Cert.KernelUpdateUp1Ideal.τ).loc Cert.KernelUpdateUp1Ideal.main_v0_1)) (v2 : (c : Dev Cert.KernelUpdateUp1Ideal.nD) → Buf (Elt Ideal) ((c.tc : Thread Cert.KernelUpdateUp1Ideal.nD Cert.KernelUpdateUp1Ideal.τ).loc Cert.KernelUpdateUp1Ideal.main_v0_2)) (v3 : (c : Dev Cert.KernelUpdateUp1Ideal.nD) → Buf (Elt Ideal) ((c.tc : Thread Cert.KernelUpdateUp1Ideal.nD Cert.KernelUpdateUp1Ideal.τ).loc Cert.KernelUpdateUp1Ideal.main_v0_3)),
      θ_run (Cert.KernelUpdateUp1Ideal.defs (F := Ideal)) (onTc (τ := Cert.KernelUpdateUp1Ideal.τ) (Cert.KernelUpdateUp1Ideal.main (F := Ideal))) ⟨m, fun _ => 0, g⟩ (fun r => ∀ c : Dev Cert.KernelUpdateUp1Ideal.nD,
          r.2.mem ((c.tc : Thread Cert.KernelUpdateUp1Ideal.nD Cert.KernelUpdateUp1Ideal.τ).loc Cert.KernelUpdateUp1Ideal.main_v0_0) = v0 c
          ∧ r.2.mem ((c.tc : Thread Cert.KernelUpdateUp1Ideal.nD Cert.KernelUpdateUp1Ideal.τ).loc Cert.KernelUpdateUp1Ideal.main_v0_1) = v1 c
          ∧ r.2.mem ((c.tc : Thread Cert.KernelUpdateUp1Ideal.nD Cert.KernelUpdateUp1Ideal.τ).loc Cert.KernelUpdateUp1Ideal.main_v0_2) = v2 c
          ∧ r.2.mem ((c.tc : Thread Cert.KernelUpdateUp1Ideal.nD Cert.KernelUpdateUp1Ideal.τ).loc Cert.KernelUpdateUp1Ideal.main_v0_3) = v3 c
          ∧ r.2.mem ((c.tc : Thread Cert.KernelUpdateUp1Ideal.nD Cert.KernelUpdateUp1Ideal.τ).loc Cert.KernelUpdateUp1Ideal.main_arg0) = m ((c.tc : Thread Cert.KernelUpdateUp1Ideal.nD Cert.KernelUpdateUp1Ideal.τ).loc Cert.KernelUpdateUp1Ideal.main_arg0)
          ∧ r.2.mem ((c.tc : Thread Cert.KernelUpdateUp1Ideal.nD Cert.KernelUpdateUp1Ideal.τ).loc Cert.KernelUpdateUp1Ideal.main_arg1) = m ((c.tc : Thread Cert.KernelUpdateUp1Ideal.nD Cert.KernelUpdateUp1Ideal.τ).loc Cert.KernelUpdateUp1Ideal.main_arg1)
          ∧ r.2.mem ((c.tc : Thread Cert.KernelUpdateUp1Ideal.nD Cert.KernelUpdateUp1Ideal.τ).loc Cert.KernelUpdateUp1Ideal.main_arg2) = m ((c.tc : Thread Cert.KernelUpdateUp1Ideal.nD Cert.KernelUpdateUp1Ideal.τ).loc Cert.KernelUpdateUp1Ideal.main_arg2)
          ∧ r.2.mem ((c.tc : Thread Cert.KernelUpdateUp1Ideal.nD Cert.KernelUpdateUp1Ideal.τ).loc Cert.KernelUpdateUp1Ideal.main_arg3) = m ((c.tc : Thread Cert.KernelUpdateUp1Ideal.nD Cert.KernelUpdateUp1Ideal.τ).loc Cert.KernelUpdateUp1Ideal.main_arg3)
          ∧ r.2.mem ((c.tc : Thread Cert.KernelUpdateUp1Ideal.nD Cert.KernelUpdateUp1Ideal.τ).loc Cert.KernelUpdateUp1Ideal.main_arg4) = m ((c.tc : Thread Cert.KernelUpdateUp1Ideal.nD Cert.KernelUpdateUp1Ideal.τ).loc Cert.KernelUpdateUp1Ideal.main_arg4)
          ∧ r.2.mem ((c.tc : Thread Cert.KernelUpdateUp1Ideal.nD Cert.KernelUpdateUp1Ideal.τ).loc Cert.KernelUpdateUp1Ideal.main_arg5) = m ((c.tc : Thread Cert.KernelUpdateUp1Ideal.nD Cert.KernelUpdateUp1Ideal.τ).loc Cert.KernelUpdateUp1Ideal.main_arg5)
          ∧ r.2.mem ((c.tc : Thread Cert.KernelUpdateUp1Ideal.nD Cert.KernelUpdateUp1Ideal.τ).loc Cert.KernelUpdateUp1Ideal.main_arg6) = m ((c.tc : Thread Cert.KernelUpdateUp1Ideal.nD Cert.KernelUpdateUp1Ideal.τ).loc Cert.KernelUpdateUp1Ideal.main_arg6)
          ∧ r.2.mem ((c.tc : Thread Cert.KernelUpdateUp1Ideal.nD Cert.KernelUpdateUp1Ideal.τ).loc Cert.KernelUpdateUp1Ideal.main_arg7) = m ((c.tc : Thread Cert.KernelUpdateUp1Ideal.nD Cert.KernelUpdateUp1Ideal.τ).loc Cert.KernelUpdateUp1Ideal.main_arg7))
      ∧ θ_run (Cert.ReferenceUpdateUp1Ideal.defs (F := Ideal)) (onTc (τ := Cert.ReferenceUpdateUp1Ideal.τ) (Cert.ReferenceUpdateUp1Ideal.main (F := Ideal))) ⟨m', fun _ => 0, g'⟩ (fun r => ∀ c : Dev Cert.ReferenceUpdateUp1Ideal.nD,
          r.2.mem ((c.tc : Thread Cert.ReferenceUpdateUp1Ideal.nD Cert.ReferenceUpdateUp1Ideal.τ).loc Cert.ReferenceUpdateUp1Ideal.main_v35) = v0 c
          ∧ r.2.mem ((c.tc : Thread Cert.ReferenceUpdateUp1Ideal.nD Cert.ReferenceUpdateUp1Ideal.τ).loc Cert.ReferenceUpdateUp1Ideal.main_v39) = v1 c
          ∧ r.2.mem ((c.tc : Thread Cert.ReferenceUpdateUp1Ideal.nD Cert.ReferenceUpdateUp1Ideal.τ).loc Cert.ReferenceUpdateUp1Ideal.main_v43) = v2 c
          ∧ r.2.mem ((c.tc : Thread Cert.ReferenceUpdateUp1Ideal.nD Cert.ReferenceUpdateUp1Ideal.τ).loc Cert.ReferenceUpdateUp1Ideal.main_v47) = v3 c
          ∧ r.2.mem ((c.tc : Thread Cert.ReferenceUpdateUp1Ideal.nD Cert.ReferenceUpdateUp1Ideal.τ).loc Cert.ReferenceUpdateUp1Ideal.main_arg0) = m' ((c.tc : Thread Cert.ReferenceUpdateUp1Ideal.nD Cert.ReferenceUpdateUp1Ideal.τ).loc Cert.ReferenceUpdateUp1Ideal.main_arg0)
          ∧ r.2.mem ((c.tc : Thread Cert.ReferenceUpdateUp1Ideal.nD Cert.ReferenceUpdateUp1Ideal.τ).loc Cert.ReferenceUpdateUp1Ideal.main_arg1) = m' ((c.tc : Thread Cert.ReferenceUpdateUp1Ideal.nD Cert.ReferenceUpdateUp1Ideal.τ).loc Cert.ReferenceUpdateUp1Ideal.main_arg1)
          ∧ r.2.mem ((c.tc : Thread Cert.ReferenceUpdateUp1Ideal.nD Cert.ReferenceUpdateUp1Ideal.τ).loc Cert.ReferenceUpdateUp1Ideal.main_arg2) = m' ((c.tc : Thread Cert.ReferenceUpdateUp1Ideal.nD Cert.ReferenceUpdateUp1Ideal.τ).loc Cert.ReferenceUpdateUp1Ideal.main_arg2)
          ∧ r.2.mem ((c.tc : Thread Cert.ReferenceUpdateUp1Ideal.nD Cert.ReferenceUpdateUp1Ideal.τ).loc Cert.ReferenceUpdateUp1Ideal.main_arg3) = m' ((c.tc : Thread Cert.ReferenceUpdateUp1Ideal.nD Cert.ReferenceUpdateUp1Ideal.τ).loc Cert.ReferenceUpdateUp1Ideal.main_arg3)
          ∧ r.2.mem ((c.tc : Thread Cert.ReferenceUpdateUp1Ideal.nD Cert.ReferenceUpdateUp1Ideal.τ).loc Cert.ReferenceUpdateUp1Ideal.main_arg4) = m' ((c.tc : Thread Cert.ReferenceUpdateUp1Ideal.nD Cert.ReferenceUpdateUp1Ideal.τ).loc Cert.ReferenceUpdateUp1Ideal.main_arg4)
          ∧ r.2.mem ((c.tc : Thread Cert.ReferenceUpdateUp1Ideal.nD Cert.ReferenceUpdateUp1Ideal.τ).loc Cert.ReferenceUpdateUp1Ideal.main_arg5) = m' ((c.tc : Thread Cert.ReferenceUpdateUp1Ideal.nD Cert.ReferenceUpdateUp1Ideal.τ).loc Cert.ReferenceUpdateUp1Ideal.main_arg5)
          ∧ r.2.mem ((c.tc : Thread Cert.ReferenceUpdateUp1Ideal.nD Cert.ReferenceUpdateUp1Ideal.τ).loc Cert.ReferenceUpdateUp1Ideal.main_arg6) = m' ((c.tc : Thread Cert.ReferenceUpdateUp1Ideal.nD Cert.ReferenceUpdateUp1Ideal.τ).loc Cert.ReferenceUpdateUp1Ideal.main_arg6)
          ∧ r.2.mem ((c.tc : Thread Cert.ReferenceUpdateUp1Ideal.nD Cert.ReferenceUpdateUp1Ideal.τ).loc Cert.ReferenceUpdateUp1Ideal.main_arg7) = m' ((c.tc : Thread Cert.ReferenceUpdateUp1Ideal.nD Cert.ReferenceUpdateUp1Ideal.τ).loc Cert.ReferenceUpdateUp1Ideal.main_arg7))

def preserves_KernelUpdateDown1_KernelUpdateDown1Ideal : Prop :=
  True

def algebraic_KernelUpdateDown1Ideal_ReferenceUpdateDown1Ideal [hKernelUpdateDown1Ideal : Cert.KernelUpdateDown1Ideal.Facts] [hReferenceUpdateDown1Ideal : Cert.ReferenceUpdateDown1Ideal.Facts] : Prop :=
  ∀ (m : (ℓ : Loc Cert.KernelUpdateDown1Ideal.nD Cert.KernelUpdateDown1Ideal.τ Cert.KernelUpdateDown1Ideal.sig) → Buf (Elt Ideal) ℓ) (g : Dev Cert.KernelUpdateDown1Ideal.nD → PrngReg)
    (m' : (ℓ : Loc Cert.ReferenceUpdateDown1Ideal.nD Cert.ReferenceUpdateDown1Ideal.τ Cert.ReferenceUpdateDown1Ideal.sig) → Buf (Elt Ideal) ℓ) (g' : Dev Cert.ReferenceUpdateDown1Ideal.nD → PrngReg), Pre_KernelUpdateDown1Ideal m →
    (∀ c : Dev Cert.KernelUpdateDown1Ideal.nD,
      m' ((c.tc : Thread Cert.ReferenceUpdateDown1Ideal.nD Cert.ReferenceUpdateDown1Ideal.τ).loc Cert.ReferenceUpdateDown1Ideal.main_arg0) = m ((c.tc : Thread Cert.KernelUpdateDown1Ideal.nD Cert.KernelUpdateDown1Ideal.τ).loc Cert.KernelUpdateDown1Ideal.main_arg0)
      ∧ m' ((c.tc : Thread Cert.ReferenceUpdateDown1Ideal.nD Cert.ReferenceUpdateDown1Ideal.τ).loc Cert.ReferenceUpdateDown1Ideal.main_arg1) = m ((c.tc : Thread Cert.KernelUpdateDown1Ideal.nD Cert.KernelUpdateDown1Ideal.τ).loc Cert.KernelUpdateDown1Ideal.main_arg1)
      ∧ m' ((c.tc : Thread Cert.ReferenceUpdateDown1Ideal.nD Cert.ReferenceUpdateDown1Ideal.τ).loc Cert.ReferenceUpdateDown1Ideal.main_arg2) = m ((c.tc : Thread Cert.KernelUpdateDown1Ideal.nD Cert.KernelUpdateDown1Ideal.τ).loc Cert.KernelUpdateDown1Ideal.main_arg2)
      ∧ m' ((c.tc : Thread Cert.ReferenceUpdateDown1Ideal.nD Cert.ReferenceUpdateDown1Ideal.τ).loc Cert.ReferenceUpdateDown1Ideal.main_arg3) = m ((c.tc : Thread Cert.KernelUpdateDown1Ideal.nD Cert.KernelUpdateDown1Ideal.τ).loc Cert.KernelUpdateDown1Ideal.main_arg3)
      ∧ m' ((c.tc : Thread Cert.ReferenceUpdateDown1Ideal.nD Cert.ReferenceUpdateDown1Ideal.τ).loc Cert.ReferenceUpdateDown1Ideal.main_arg4) = m ((c.tc : Thread Cert.KernelUpdateDown1Ideal.nD Cert.KernelUpdateDown1Ideal.τ).loc Cert.KernelUpdateDown1Ideal.main_arg4)
      ∧ m' ((c.tc : Thread Cert.ReferenceUpdateDown1Ideal.nD Cert.ReferenceUpdateDown1Ideal.τ).loc Cert.ReferenceUpdateDown1Ideal.main_arg5) = m ((c.tc : Thread Cert.KernelUpdateDown1Ideal.nD Cert.KernelUpdateDown1Ideal.τ).loc Cert.KernelUpdateDown1Ideal.main_arg5)
      ∧ m' ((c.tc : Thread Cert.ReferenceUpdateDown1Ideal.nD Cert.ReferenceUpdateDown1Ideal.τ).loc Cert.ReferenceUpdateDown1Ideal.main_arg6) = m ((c.tc : Thread Cert.KernelUpdateDown1Ideal.nD Cert.KernelUpdateDown1Ideal.τ).loc Cert.KernelUpdateDown1Ideal.main_arg6)
      ∧ m' ((c.tc : Thread Cert.ReferenceUpdateDown1Ideal.nD Cert.ReferenceUpdateDown1Ideal.τ).loc Cert.ReferenceUpdateDown1Ideal.main_arg7) = m ((c.tc : Thread Cert.KernelUpdateDown1Ideal.nD Cert.KernelUpdateDown1Ideal.τ).loc Cert.KernelUpdateDown1Ideal.main_arg7)) →
    ∃ (v0 : (c : Dev Cert.KernelUpdateDown1Ideal.nD) → Buf (Elt Ideal) ((c.tc : Thread Cert.KernelUpdateDown1Ideal.nD Cert.KernelUpdateDown1Ideal.τ).loc Cert.KernelUpdateDown1Ideal.main_v0_0)) (v1 : (c : Dev Cert.KernelUpdateDown1Ideal.nD) → Buf (Elt Ideal) ((c.tc : Thread Cert.KernelUpdateDown1Ideal.nD Cert.KernelUpdateDown1Ideal.τ).loc Cert.KernelUpdateDown1Ideal.main_v0_1)) (v2 : (c : Dev Cert.KernelUpdateDown1Ideal.nD) → Buf (Elt Ideal) ((c.tc : Thread Cert.KernelUpdateDown1Ideal.nD Cert.KernelUpdateDown1Ideal.τ).loc Cert.KernelUpdateDown1Ideal.main_v0_2)) (v3 : (c : Dev Cert.KernelUpdateDown1Ideal.nD) → Buf (Elt Ideal) ((c.tc : Thread Cert.KernelUpdateDown1Ideal.nD Cert.KernelUpdateDown1Ideal.τ).loc Cert.KernelUpdateDown1Ideal.main_v0_3)),
      θ_run (Cert.KernelUpdateDown1Ideal.defs (F := Ideal)) (onTc (τ := Cert.KernelUpdateDown1Ideal.τ) (Cert.KernelUpdateDown1Ideal.main (F := Ideal))) ⟨m, fun _ => 0, g⟩ (fun r => ∀ c : Dev Cert.KernelUpdateDown1Ideal.nD,
          r.2.mem ((c.tc : Thread Cert.KernelUpdateDown1Ideal.nD Cert.KernelUpdateDown1Ideal.τ).loc Cert.KernelUpdateDown1Ideal.main_v0_0) = v0 c
          ∧ r.2.mem ((c.tc : Thread Cert.KernelUpdateDown1Ideal.nD Cert.KernelUpdateDown1Ideal.τ).loc Cert.KernelUpdateDown1Ideal.main_v0_1) = v1 c
          ∧ r.2.mem ((c.tc : Thread Cert.KernelUpdateDown1Ideal.nD Cert.KernelUpdateDown1Ideal.τ).loc Cert.KernelUpdateDown1Ideal.main_v0_2) = v2 c
          ∧ r.2.mem ((c.tc : Thread Cert.KernelUpdateDown1Ideal.nD Cert.KernelUpdateDown1Ideal.τ).loc Cert.KernelUpdateDown1Ideal.main_v0_3) = v3 c
          ∧ r.2.mem ((c.tc : Thread Cert.KernelUpdateDown1Ideal.nD Cert.KernelUpdateDown1Ideal.τ).loc Cert.KernelUpdateDown1Ideal.main_arg0) = m ((c.tc : Thread Cert.KernelUpdateDown1Ideal.nD Cert.KernelUpdateDown1Ideal.τ).loc Cert.KernelUpdateDown1Ideal.main_arg0)
          ∧ r.2.mem ((c.tc : Thread Cert.KernelUpdateDown1Ideal.nD Cert.KernelUpdateDown1Ideal.τ).loc Cert.KernelUpdateDown1Ideal.main_arg1) = m ((c.tc : Thread Cert.KernelUpdateDown1Ideal.nD Cert.KernelUpdateDown1Ideal.τ).loc Cert.KernelUpdateDown1Ideal.main_arg1)
          ∧ r.2.mem ((c.tc : Thread Cert.KernelUpdateDown1Ideal.nD Cert.KernelUpdateDown1Ideal.τ).loc Cert.KernelUpdateDown1Ideal.main_arg2) = m ((c.tc : Thread Cert.KernelUpdateDown1Ideal.nD Cert.KernelUpdateDown1Ideal.τ).loc Cert.KernelUpdateDown1Ideal.main_arg2)
          ∧ r.2.mem ((c.tc : Thread Cert.KernelUpdateDown1Ideal.nD Cert.KernelUpdateDown1Ideal.τ).loc Cert.KernelUpdateDown1Ideal.main_arg3) = m ((c.tc : Thread Cert.KernelUpdateDown1Ideal.nD Cert.KernelUpdateDown1Ideal.τ).loc Cert.KernelUpdateDown1Ideal.main_arg3)
          ∧ r.2.mem ((c.tc : Thread Cert.KernelUpdateDown1Ideal.nD Cert.KernelUpdateDown1Ideal.τ).loc Cert.KernelUpdateDown1Ideal.main_arg4) = m ((c.tc : Thread Cert.KernelUpdateDown1Ideal.nD Cert.KernelUpdateDown1Ideal.τ).loc Cert.KernelUpdateDown1Ideal.main_arg4)
          ∧ r.2.mem ((c.tc : Thread Cert.KernelUpdateDown1Ideal.nD Cert.KernelUpdateDown1Ideal.τ).loc Cert.KernelUpdateDown1Ideal.main_arg5) = m ((c.tc : Thread Cert.KernelUpdateDown1Ideal.nD Cert.KernelUpdateDown1Ideal.τ).loc Cert.KernelUpdateDown1Ideal.main_arg5)
          ∧ r.2.mem ((c.tc : Thread Cert.KernelUpdateDown1Ideal.nD Cert.KernelUpdateDown1Ideal.τ).loc Cert.KernelUpdateDown1Ideal.main_arg6) = m ((c.tc : Thread Cert.KernelUpdateDown1Ideal.nD Cert.KernelUpdateDown1Ideal.τ).loc Cert.KernelUpdateDown1Ideal.main_arg6)
          ∧ r.2.mem ((c.tc : Thread Cert.KernelUpdateDown1Ideal.nD Cert.KernelUpdateDown1Ideal.τ).loc Cert.KernelUpdateDown1Ideal.main_arg7) = m ((c.tc : Thread Cert.KernelUpdateDown1Ideal.nD Cert.KernelUpdateDown1Ideal.τ).loc Cert.KernelUpdateDown1Ideal.main_arg7))
      ∧ θ_run (Cert.ReferenceUpdateDown1Ideal.defs (F := Ideal)) (onTc (τ := Cert.ReferenceUpdateDown1Ideal.τ) (Cert.ReferenceUpdateDown1Ideal.main (F := Ideal))) ⟨m', fun _ => 0, g'⟩ (fun r => ∀ c : Dev Cert.ReferenceUpdateDown1Ideal.nD,
          r.2.mem ((c.tc : Thread Cert.ReferenceUpdateDown1Ideal.nD Cert.ReferenceUpdateDown1Ideal.τ).loc Cert.ReferenceUpdateDown1Ideal.main_v35) = v0 c
          ∧ r.2.mem ((c.tc : Thread Cert.ReferenceUpdateDown1Ideal.nD Cert.ReferenceUpdateDown1Ideal.τ).loc Cert.ReferenceUpdateDown1Ideal.main_v39) = v1 c
          ∧ r.2.mem ((c.tc : Thread Cert.ReferenceUpdateDown1Ideal.nD Cert.ReferenceUpdateDown1Ideal.τ).loc Cert.ReferenceUpdateDown1Ideal.main_v43) = v2 c
          ∧ r.2.mem ((c.tc : Thread Cert.ReferenceUpdateDown1Ideal.nD Cert.ReferenceUpdateDown1Ideal.τ).loc Cert.ReferenceUpdateDown1Ideal.main_v47) = v3 c
          ∧ r.2.mem ((c.tc : Thread Cert.ReferenceUpdateDown1Ideal.nD Cert.ReferenceUpdateDown1Ideal.τ).loc Cert.ReferenceUpdateDown1Ideal.main_arg0) = m' ((c.tc : Thread Cert.ReferenceUpdateDown1Ideal.nD Cert.ReferenceUpdateDown1Ideal.τ).loc Cert.ReferenceUpdateDown1Ideal.main_arg0)
          ∧ r.2.mem ((c.tc : Thread Cert.ReferenceUpdateDown1Ideal.nD Cert.ReferenceUpdateDown1Ideal.τ).loc Cert.ReferenceUpdateDown1Ideal.main_arg1) = m' ((c.tc : Thread Cert.ReferenceUpdateDown1Ideal.nD Cert.ReferenceUpdateDown1Ideal.τ).loc Cert.ReferenceUpdateDown1Ideal.main_arg1)
          ∧ r.2.mem ((c.tc : Thread Cert.ReferenceUpdateDown1Ideal.nD Cert.ReferenceUpdateDown1Ideal.τ).loc Cert.ReferenceUpdateDown1Ideal.main_arg2) = m' ((c.tc : Thread Cert.ReferenceUpdateDown1Ideal.nD Cert.ReferenceUpdateDown1Ideal.τ).loc Cert.ReferenceUpdateDown1Ideal.main_arg2)
          ∧ r.2.mem ((c.tc : Thread Cert.ReferenceUpdateDown1Ideal.nD Cert.ReferenceUpdateDown1Ideal.τ).loc Cert.ReferenceUpdateDown1Ideal.main_arg3) = m' ((c.tc : Thread Cert.ReferenceUpdateDown1Ideal.nD Cert.ReferenceUpdateDown1Ideal.τ).loc Cert.ReferenceUpdateDown1Ideal.main_arg3)
          ∧ r.2.mem ((c.tc : Thread Cert.ReferenceUpdateDown1Ideal.nD Cert.ReferenceUpdateDown1Ideal.τ).loc Cert.ReferenceUpdateDown1Ideal.main_arg4) = m' ((c.tc : Thread Cert.ReferenceUpdateDown1Ideal.nD Cert.ReferenceUpdateDown1Ideal.τ).loc Cert.ReferenceUpdateDown1Ideal.main_arg4)
          ∧ r.2.mem ((c.tc : Thread Cert.ReferenceUpdateDown1Ideal.nD Cert.ReferenceUpdateDown1Ideal.τ).loc Cert.ReferenceUpdateDown1Ideal.main_arg5) = m' ((c.tc : Thread Cert.ReferenceUpdateDown1Ideal.nD Cert.ReferenceUpdateDown1Ideal.τ).loc Cert.ReferenceUpdateDown1Ideal.main_arg5)
          ∧ r.2.mem ((c.tc : Thread Cert.ReferenceUpdateDown1Ideal.nD Cert.ReferenceUpdateDown1Ideal.τ).loc Cert.ReferenceUpdateDown1Ideal.main_arg6) = m' ((c.tc : Thread Cert.ReferenceUpdateDown1Ideal.nD Cert.ReferenceUpdateDown1Ideal.τ).loc Cert.ReferenceUpdateDown1Ideal.main_arg6)
          ∧ r.2.mem ((c.tc : Thread Cert.ReferenceUpdateDown1Ideal.nD Cert.ReferenceUpdateDown1Ideal.τ).loc Cert.ReferenceUpdateDown1Ideal.main_arg7) = m' ((c.tc : Thread Cert.ReferenceUpdateDown1Ideal.nD Cert.ReferenceUpdateDown1Ideal.τ).loc Cert.ReferenceUpdateDown1Ideal.main_arg7))

def preserves_KernelUpdateIn2_KernelUpdateIn2Ideal : Prop :=
  True

def algebraic_KernelUpdateIn2Ideal_ReferenceUpdateIn2Ideal [hKernelUpdateIn2Ideal : Cert.KernelUpdateIn2Ideal.Facts] [hReferenceUpdateIn2Ideal : Cert.ReferenceUpdateIn2Ideal.Facts] : Prop :=
  ∀ (m : (ℓ : Loc Cert.KernelUpdateIn2Ideal.nD Cert.KernelUpdateIn2Ideal.τ Cert.KernelUpdateIn2Ideal.sig) → Buf (Elt Ideal) ℓ) (g : Dev Cert.KernelUpdateIn2Ideal.nD → PrngReg)
    (m' : (ℓ : Loc Cert.ReferenceUpdateIn2Ideal.nD Cert.ReferenceUpdateIn2Ideal.τ Cert.ReferenceUpdateIn2Ideal.sig) → Buf (Elt Ideal) ℓ) (g' : Dev Cert.ReferenceUpdateIn2Ideal.nD → PrngReg), Pre_KernelUpdateIn2Ideal m →
    (∀ c : Dev Cert.KernelUpdateIn2Ideal.nD,
      m' ((c.tc : Thread Cert.ReferenceUpdateIn2Ideal.nD Cert.ReferenceUpdateIn2Ideal.τ).loc Cert.ReferenceUpdateIn2Ideal.main_arg0) = m ((c.tc : Thread Cert.KernelUpdateIn2Ideal.nD Cert.KernelUpdateIn2Ideal.τ).loc Cert.KernelUpdateIn2Ideal.main_arg0)
      ∧ m' ((c.tc : Thread Cert.ReferenceUpdateIn2Ideal.nD Cert.ReferenceUpdateIn2Ideal.τ).loc Cert.ReferenceUpdateIn2Ideal.main_arg1) = m ((c.tc : Thread Cert.KernelUpdateIn2Ideal.nD Cert.KernelUpdateIn2Ideal.τ).loc Cert.KernelUpdateIn2Ideal.main_arg1)
      ∧ m' ((c.tc : Thread Cert.ReferenceUpdateIn2Ideal.nD Cert.ReferenceUpdateIn2Ideal.τ).loc Cert.ReferenceUpdateIn2Ideal.main_arg2) = m ((c.tc : Thread Cert.KernelUpdateIn2Ideal.nD Cert.KernelUpdateIn2Ideal.τ).loc Cert.KernelUpdateIn2Ideal.main_arg2)
      ∧ m' ((c.tc : Thread Cert.ReferenceUpdateIn2Ideal.nD Cert.ReferenceUpdateIn2Ideal.τ).loc Cert.ReferenceUpdateIn2Ideal.main_arg3) = m ((c.tc : Thread Cert.KernelUpdateIn2Ideal.nD Cert.KernelUpdateIn2Ideal.τ).loc Cert.KernelUpdateIn2Ideal.main_arg3)
      ∧ m' ((c.tc : Thread Cert.ReferenceUpdateIn2Ideal.nD Cert.ReferenceUpdateIn2Ideal.τ).loc Cert.ReferenceUpdateIn2Ideal.main_arg4) = m ((c.tc : Thread Cert.KernelUpdateIn2Ideal.nD Cert.KernelUpdateIn2Ideal.τ).loc Cert.KernelUpdateIn2Ideal.main_arg4)
      ∧ m' ((c.tc : Thread Cert.ReferenceUpdateIn2Ideal.nD Cert.ReferenceUpdateIn2Ideal.τ).loc Cert.ReferenceUpdateIn2Ideal.main_arg5) = m ((c.tc : Thread Cert.KernelUpdateIn2Ideal.nD Cert.KernelUpdateIn2Ideal.τ).loc Cert.KernelUpdateIn2Ideal.main_arg5)
      ∧ m' ((c.tc : Thread Cert.ReferenceUpdateIn2Ideal.nD Cert.ReferenceUpdateIn2Ideal.τ).loc Cert.ReferenceUpdateIn2Ideal.main_arg6) = m ((c.tc : Thread Cert.KernelUpdateIn2Ideal.nD Cert.KernelUpdateIn2Ideal.τ).loc Cert.KernelUpdateIn2Ideal.main_arg6)
      ∧ m' ((c.tc : Thread Cert.ReferenceUpdateIn2Ideal.nD Cert.ReferenceUpdateIn2Ideal.τ).loc Cert.ReferenceUpdateIn2Ideal.main_arg7) = m ((c.tc : Thread Cert.KernelUpdateIn2Ideal.nD Cert.KernelUpdateIn2Ideal.τ).loc Cert.KernelUpdateIn2Ideal.main_arg7)) →
    ∃ (v0 : (c : Dev Cert.KernelUpdateIn2Ideal.nD) → Buf (Elt Ideal) ((c.tc : Thread Cert.KernelUpdateIn2Ideal.nD Cert.KernelUpdateIn2Ideal.τ).loc Cert.KernelUpdateIn2Ideal.main_v0_0)) (v1 : (c : Dev Cert.KernelUpdateIn2Ideal.nD) → Buf (Elt Ideal) ((c.tc : Thread Cert.KernelUpdateIn2Ideal.nD Cert.KernelUpdateIn2Ideal.τ).loc Cert.KernelUpdateIn2Ideal.main_v0_1)) (v2 : (c : Dev Cert.KernelUpdateIn2Ideal.nD) → Buf (Elt Ideal) ((c.tc : Thread Cert.KernelUpdateIn2Ideal.nD Cert.KernelUpdateIn2Ideal.τ).loc Cert.KernelUpdateIn2Ideal.main_v0_2)) (v3 : (c : Dev Cert.KernelUpdateIn2Ideal.nD) → Buf (Elt Ideal) ((c.tc : Thread Cert.KernelUpdateIn2Ideal.nD Cert.KernelUpdateIn2Ideal.τ).loc Cert.KernelUpdateIn2Ideal.main_v0_3)),
      θ_run (Cert.KernelUpdateIn2Ideal.defs (F := Ideal)) (onTc (τ := Cert.KernelUpdateIn2Ideal.τ) (Cert.KernelUpdateIn2Ideal.main (F := Ideal))) ⟨m, fun _ => 0, g⟩ (fun r => ∀ c : Dev Cert.KernelUpdateIn2Ideal.nD,
          r.2.mem ((c.tc : Thread Cert.KernelUpdateIn2Ideal.nD Cert.KernelUpdateIn2Ideal.τ).loc Cert.KernelUpdateIn2Ideal.main_v0_0) = v0 c
          ∧ r.2.mem ((c.tc : Thread Cert.KernelUpdateIn2Ideal.nD Cert.KernelUpdateIn2Ideal.τ).loc Cert.KernelUpdateIn2Ideal.main_v0_1) = v1 c
          ∧ r.2.mem ((c.tc : Thread Cert.KernelUpdateIn2Ideal.nD Cert.KernelUpdateIn2Ideal.τ).loc Cert.KernelUpdateIn2Ideal.main_v0_2) = v2 c
          ∧ r.2.mem ((c.tc : Thread Cert.KernelUpdateIn2Ideal.nD Cert.KernelUpdateIn2Ideal.τ).loc Cert.KernelUpdateIn2Ideal.main_v0_3) = v3 c
          ∧ r.2.mem ((c.tc : Thread Cert.KernelUpdateIn2Ideal.nD Cert.KernelUpdateIn2Ideal.τ).loc Cert.KernelUpdateIn2Ideal.main_arg0) = m ((c.tc : Thread Cert.KernelUpdateIn2Ideal.nD Cert.KernelUpdateIn2Ideal.τ).loc Cert.KernelUpdateIn2Ideal.main_arg0)
          ∧ r.2.mem ((c.tc : Thread Cert.KernelUpdateIn2Ideal.nD Cert.KernelUpdateIn2Ideal.τ).loc Cert.KernelUpdateIn2Ideal.main_arg1) = m ((c.tc : Thread Cert.KernelUpdateIn2Ideal.nD Cert.KernelUpdateIn2Ideal.τ).loc Cert.KernelUpdateIn2Ideal.main_arg1)
          ∧ r.2.mem ((c.tc : Thread Cert.KernelUpdateIn2Ideal.nD Cert.KernelUpdateIn2Ideal.τ).loc Cert.KernelUpdateIn2Ideal.main_arg2) = m ((c.tc : Thread Cert.KernelUpdateIn2Ideal.nD Cert.KernelUpdateIn2Ideal.τ).loc Cert.KernelUpdateIn2Ideal.main_arg2)
          ∧ r.2.mem ((c.tc : Thread Cert.KernelUpdateIn2Ideal.nD Cert.KernelUpdateIn2Ideal.τ).loc Cert.KernelUpdateIn2Ideal.main_arg3) = m ((c.tc : Thread Cert.KernelUpdateIn2Ideal.nD Cert.KernelUpdateIn2Ideal.τ).loc Cert.KernelUpdateIn2Ideal.main_arg3)
          ∧ r.2.mem ((c.tc : Thread Cert.KernelUpdateIn2Ideal.nD Cert.KernelUpdateIn2Ideal.τ).loc Cert.KernelUpdateIn2Ideal.main_arg4) = m ((c.tc : Thread Cert.KernelUpdateIn2Ideal.nD Cert.KernelUpdateIn2Ideal.τ).loc Cert.KernelUpdateIn2Ideal.main_arg4)
          ∧ r.2.mem ((c.tc : Thread Cert.KernelUpdateIn2Ideal.nD Cert.KernelUpdateIn2Ideal.τ).loc Cert.KernelUpdateIn2Ideal.main_arg5) = m ((c.tc : Thread Cert.KernelUpdateIn2Ideal.nD Cert.KernelUpdateIn2Ideal.τ).loc Cert.KernelUpdateIn2Ideal.main_arg5)
          ∧ r.2.mem ((c.tc : Thread Cert.KernelUpdateIn2Ideal.nD Cert.KernelUpdateIn2Ideal.τ).loc Cert.KernelUpdateIn2Ideal.main_arg6) = m ((c.tc : Thread Cert.KernelUpdateIn2Ideal.nD Cert.KernelUpdateIn2Ideal.τ).loc Cert.KernelUpdateIn2Ideal.main_arg6)
          ∧ r.2.mem ((c.tc : Thread Cert.KernelUpdateIn2Ideal.nD Cert.KernelUpdateIn2Ideal.τ).loc Cert.KernelUpdateIn2Ideal.main_arg7) = m ((c.tc : Thread Cert.KernelUpdateIn2Ideal.nD Cert.KernelUpdateIn2Ideal.τ).loc Cert.KernelUpdateIn2Ideal.main_arg7))
      ∧ θ_run (Cert.ReferenceUpdateIn2Ideal.defs (F := Ideal)) (onTc (τ := Cert.ReferenceUpdateIn2Ideal.τ) (Cert.ReferenceUpdateIn2Ideal.main (F := Ideal))) ⟨m', fun _ => 0, g'⟩ (fun r => ∀ c : Dev Cert.ReferenceUpdateIn2Ideal.nD,
          r.2.mem ((c.tc : Thread Cert.ReferenceUpdateIn2Ideal.nD Cert.ReferenceUpdateIn2Ideal.τ).loc Cert.ReferenceUpdateIn2Ideal.main_v35) = v0 c
          ∧ r.2.mem ((c.tc : Thread Cert.ReferenceUpdateIn2Ideal.nD Cert.ReferenceUpdateIn2Ideal.τ).loc Cert.ReferenceUpdateIn2Ideal.main_v39) = v1 c
          ∧ r.2.mem ((c.tc : Thread Cert.ReferenceUpdateIn2Ideal.nD Cert.ReferenceUpdateIn2Ideal.τ).loc Cert.ReferenceUpdateIn2Ideal.main_v43) = v2 c
          ∧ r.2.mem ((c.tc : Thread Cert.ReferenceUpdateIn2Ideal.nD Cert.ReferenceUpdateIn2Ideal.τ).loc Cert.ReferenceUpdateIn2Ideal.main_v47) = v3 c
          ∧ r.2.mem ((c.tc : Thread Cert.ReferenceUpdateIn2Ideal.nD Cert.ReferenceUpdateIn2Ideal.τ).loc Cert.ReferenceUpdateIn2Ideal.main_arg0) = m' ((c.tc : Thread Cert.ReferenceUpdateIn2Ideal.nD Cert.ReferenceUpdateIn2Ideal.τ).loc Cert.ReferenceUpdateIn2Ideal.main_arg0)
          ∧ r.2.mem ((c.tc : Thread Cert.ReferenceUpdateIn2Ideal.nD Cert.ReferenceUpdateIn2Ideal.τ).loc Cert.ReferenceUpdateIn2Ideal.main_arg1) = m' ((c.tc : Thread Cert.ReferenceUpdateIn2Ideal.nD Cert.ReferenceUpdateIn2Ideal.τ).loc Cert.ReferenceUpdateIn2Ideal.main_arg1)
          ∧ r.2.mem ((c.tc : Thread Cert.ReferenceUpdateIn2Ideal.nD Cert.ReferenceUpdateIn2Ideal.τ).loc Cert.ReferenceUpdateIn2Ideal.main_arg2) = m' ((c.tc : Thread Cert.ReferenceUpdateIn2Ideal.nD Cert.ReferenceUpdateIn2Ideal.τ).loc Cert.ReferenceUpdateIn2Ideal.main_arg2)
          ∧ r.2.mem ((c.tc : Thread Cert.ReferenceUpdateIn2Ideal.nD Cert.ReferenceUpdateIn2Ideal.τ).loc Cert.ReferenceUpdateIn2Ideal.main_arg3) = m' ((c.tc : Thread Cert.ReferenceUpdateIn2Ideal.nD Cert.ReferenceUpdateIn2Ideal.τ).loc Cert.ReferenceUpdateIn2Ideal.main_arg3)
          ∧ r.2.mem ((c.tc : Thread Cert.ReferenceUpdateIn2Ideal.nD Cert.ReferenceUpdateIn2Ideal.τ).loc Cert.ReferenceUpdateIn2Ideal.main_arg4) = m' ((c.tc : Thread Cert.ReferenceUpdateIn2Ideal.nD Cert.ReferenceUpdateIn2Ideal.τ).loc Cert.ReferenceUpdateIn2Ideal.main_arg4)
          ∧ r.2.mem ((c.tc : Thread Cert.ReferenceUpdateIn2Ideal.nD Cert.ReferenceUpdateIn2Ideal.τ).loc Cert.ReferenceUpdateIn2Ideal.main_arg5) = m' ((c.tc : Thread Cert.ReferenceUpdateIn2Ideal.nD Cert.ReferenceUpdateIn2Ideal.τ).loc Cert.ReferenceUpdateIn2Ideal.main_arg5)
          ∧ r.2.mem ((c.tc : Thread Cert.ReferenceUpdateIn2Ideal.nD Cert.ReferenceUpdateIn2Ideal.τ).loc Cert.ReferenceUpdateIn2Ideal.main_arg6) = m' ((c.tc : Thread Cert.ReferenceUpdateIn2Ideal.nD Cert.ReferenceUpdateIn2Ideal.τ).loc Cert.ReferenceUpdateIn2Ideal.main_arg6)
          ∧ r.2.mem ((c.tc : Thread Cert.ReferenceUpdateIn2Ideal.nD Cert.ReferenceUpdateIn2Ideal.τ).loc Cert.ReferenceUpdateIn2Ideal.main_arg7) = m' ((c.tc : Thread Cert.ReferenceUpdateIn2Ideal.nD Cert.ReferenceUpdateIn2Ideal.τ).loc Cert.ReferenceUpdateIn2Ideal.main_arg7))

def preserves_KernelUpdateOut2_KernelUpdateOut2Ideal : Prop :=
  True

def algebraic_KernelUpdateOut2Ideal_ReferenceUpdateOut2Ideal [hKernelUpdateOut2Ideal : Cert.KernelUpdateOut2Ideal.Facts] [hReferenceUpdateOut2Ideal : Cert.ReferenceUpdateOut2Ideal.Facts] : Prop :=
  ∀ (m : (ℓ : Loc Cert.KernelUpdateOut2Ideal.nD Cert.KernelUpdateOut2Ideal.τ Cert.KernelUpdateOut2Ideal.sig) → Buf (Elt Ideal) ℓ) (g : Dev Cert.KernelUpdateOut2Ideal.nD → PrngReg)
    (m' : (ℓ : Loc Cert.ReferenceUpdateOut2Ideal.nD Cert.ReferenceUpdateOut2Ideal.τ Cert.ReferenceUpdateOut2Ideal.sig) → Buf (Elt Ideal) ℓ) (g' : Dev Cert.ReferenceUpdateOut2Ideal.nD → PrngReg), Pre_KernelUpdateOut2Ideal m →
    (∀ c : Dev Cert.KernelUpdateOut2Ideal.nD,
      m' ((c.tc : Thread Cert.ReferenceUpdateOut2Ideal.nD Cert.ReferenceUpdateOut2Ideal.τ).loc Cert.ReferenceUpdateOut2Ideal.main_arg0) = m ((c.tc : Thread Cert.KernelUpdateOut2Ideal.nD Cert.KernelUpdateOut2Ideal.τ).loc Cert.KernelUpdateOut2Ideal.main_arg0)
      ∧ m' ((c.tc : Thread Cert.ReferenceUpdateOut2Ideal.nD Cert.ReferenceUpdateOut2Ideal.τ).loc Cert.ReferenceUpdateOut2Ideal.main_arg1) = m ((c.tc : Thread Cert.KernelUpdateOut2Ideal.nD Cert.KernelUpdateOut2Ideal.τ).loc Cert.KernelUpdateOut2Ideal.main_arg1)
      ∧ m' ((c.tc : Thread Cert.ReferenceUpdateOut2Ideal.nD Cert.ReferenceUpdateOut2Ideal.τ).loc Cert.ReferenceUpdateOut2Ideal.main_arg2) = m ((c.tc : Thread Cert.KernelUpdateOut2Ideal.nD Cert.KernelUpdateOut2Ideal.τ).loc Cert.KernelUpdateOut2Ideal.main_arg2)
      ∧ m' ((c.tc : Thread Cert.ReferenceUpdateOut2Ideal.nD Cert.ReferenceUpdateOut2Ideal.τ).loc Cert.ReferenceUpdateOut2Ideal.main_arg3) = m ((c.tc : Thread Cert.KernelUpdateOut2Ideal.nD Cert.KernelUpdateOut2Ideal.τ).loc Cert.KernelUpdateOut2Ideal.main_arg3)
      ∧ m' ((c.tc : Thread Cert.ReferenceUpdateOut2Ideal.nD Cert.ReferenceUpdateOut2Ideal.τ).loc Cert.ReferenceUpdateOut2Ideal.main_arg4) = m ((c.tc : Thread Cert.KernelUpdateOut2Ideal.nD Cert.KernelUpdateOut2Ideal.τ).loc Cert.KernelUpdateOut2Ideal.main_arg4)
      ∧ m' ((c.tc : Thread Cert.ReferenceUpdateOut2Ideal.nD Cert.ReferenceUpdateOut2Ideal.τ).loc Cert.ReferenceUpdateOut2Ideal.main_arg5) = m ((c.tc : Thread Cert.KernelUpdateOut2Ideal.nD Cert.KernelUpdateOut2Ideal.τ).loc Cert.KernelUpdateOut2Ideal.main_arg5)
      ∧ m' ((c.tc : Thread Cert.ReferenceUpdateOut2Ideal.nD Cert.ReferenceUpdateOut2Ideal.τ).loc Cert.ReferenceUpdateOut2Ideal.main_arg6) = m ((c.tc : Thread Cert.KernelUpdateOut2Ideal.nD Cert.KernelUpdateOut2Ideal.τ).loc Cert.KernelUpdateOut2Ideal.main_arg6)
      ∧ m' ((c.tc : Thread Cert.ReferenceUpdateOut2Ideal.nD Cert.ReferenceUpdateOut2Ideal.τ).loc Cert.ReferenceUpdateOut2Ideal.main_arg7) = m ((c.tc : Thread Cert.KernelUpdateOut2Ideal.nD Cert.KernelUpdateOut2Ideal.τ).loc Cert.KernelUpdateOut2Ideal.main_arg7)) →
    ∃ (v0 : (c : Dev Cert.KernelUpdateOut2Ideal.nD) → Buf (Elt Ideal) ((c.tc : Thread Cert.KernelUpdateOut2Ideal.nD Cert.KernelUpdateOut2Ideal.τ).loc Cert.KernelUpdateOut2Ideal.main_v0_0)) (v1 : (c : Dev Cert.KernelUpdateOut2Ideal.nD) → Buf (Elt Ideal) ((c.tc : Thread Cert.KernelUpdateOut2Ideal.nD Cert.KernelUpdateOut2Ideal.τ).loc Cert.KernelUpdateOut2Ideal.main_v0_1)) (v2 : (c : Dev Cert.KernelUpdateOut2Ideal.nD) → Buf (Elt Ideal) ((c.tc : Thread Cert.KernelUpdateOut2Ideal.nD Cert.KernelUpdateOut2Ideal.τ).loc Cert.KernelUpdateOut2Ideal.main_v0_2)) (v3 : (c : Dev Cert.KernelUpdateOut2Ideal.nD) → Buf (Elt Ideal) ((c.tc : Thread Cert.KernelUpdateOut2Ideal.nD Cert.KernelUpdateOut2Ideal.τ).loc Cert.KernelUpdateOut2Ideal.main_v0_3)),
      θ_run (Cert.KernelUpdateOut2Ideal.defs (F := Ideal)) (onTc (τ := Cert.KernelUpdateOut2Ideal.τ) (Cert.KernelUpdateOut2Ideal.main (F := Ideal))) ⟨m, fun _ => 0, g⟩ (fun r => ∀ c : Dev Cert.KernelUpdateOut2Ideal.nD,
          r.2.mem ((c.tc : Thread Cert.KernelUpdateOut2Ideal.nD Cert.KernelUpdateOut2Ideal.τ).loc Cert.KernelUpdateOut2Ideal.main_v0_0) = v0 c
          ∧ r.2.mem ((c.tc : Thread Cert.KernelUpdateOut2Ideal.nD Cert.KernelUpdateOut2Ideal.τ).loc Cert.KernelUpdateOut2Ideal.main_v0_1) = v1 c
          ∧ r.2.mem ((c.tc : Thread Cert.KernelUpdateOut2Ideal.nD Cert.KernelUpdateOut2Ideal.τ).loc Cert.KernelUpdateOut2Ideal.main_v0_2) = v2 c
          ∧ r.2.mem ((c.tc : Thread Cert.KernelUpdateOut2Ideal.nD Cert.KernelUpdateOut2Ideal.τ).loc Cert.KernelUpdateOut2Ideal.main_v0_3) = v3 c
          ∧ r.2.mem ((c.tc : Thread Cert.KernelUpdateOut2Ideal.nD Cert.KernelUpdateOut2Ideal.τ).loc Cert.KernelUpdateOut2Ideal.main_arg0) = m ((c.tc : Thread Cert.KernelUpdateOut2Ideal.nD Cert.KernelUpdateOut2Ideal.τ).loc Cert.KernelUpdateOut2Ideal.main_arg0)
          ∧ r.2.mem ((c.tc : Thread Cert.KernelUpdateOut2Ideal.nD Cert.KernelUpdateOut2Ideal.τ).loc Cert.KernelUpdateOut2Ideal.main_arg1) = m ((c.tc : Thread Cert.KernelUpdateOut2Ideal.nD Cert.KernelUpdateOut2Ideal.τ).loc Cert.KernelUpdateOut2Ideal.main_arg1)
          ∧ r.2.mem ((c.tc : Thread Cert.KernelUpdateOut2Ideal.nD Cert.KernelUpdateOut2Ideal.τ).loc Cert.KernelUpdateOut2Ideal.main_arg2) = m ((c.tc : Thread Cert.KernelUpdateOut2Ideal.nD Cert.KernelUpdateOut2Ideal.τ).loc Cert.KernelUpdateOut2Ideal.main_arg2)
          ∧ r.2.mem ((c.tc : Thread Cert.KernelUpdateOut2Ideal.nD Cert.KernelUpdateOut2Ideal.τ).loc Cert.KernelUpdateOut2Ideal.main_arg3) = m ((c.tc : Thread Cert.KernelUpdateOut2Ideal.nD Cert.KernelUpdateOut2Ideal.τ).loc Cert.KernelUpdateOut2Ideal.main_arg3)
          ∧ r.2.mem ((c.tc : Thread Cert.KernelUpdateOut2Ideal.nD Cert.KernelUpdateOut2Ideal.τ).loc Cert.KernelUpdateOut2Ideal.main_arg4) = m ((c.tc : Thread Cert.KernelUpdateOut2Ideal.nD Cert.KernelUpdateOut2Ideal.τ).loc Cert.KernelUpdateOut2Ideal.main_arg4)
          ∧ r.2.mem ((c.tc : Thread Cert.KernelUpdateOut2Ideal.nD Cert.KernelUpdateOut2Ideal.τ).loc Cert.KernelUpdateOut2Ideal.main_arg5) = m ((c.tc : Thread Cert.KernelUpdateOut2Ideal.nD Cert.KernelUpdateOut2Ideal.τ).loc Cert.KernelUpdateOut2Ideal.main_arg5)
          ∧ r.2.mem ((c.tc : Thread Cert.KernelUpdateOut2Ideal.nD Cert.KernelUpdateOut2Ideal.τ).loc Cert.KernelUpdateOut2Ideal.main_arg6) = m ((c.tc : Thread Cert.KernelUpdateOut2Ideal.nD Cert.KernelUpdateOut2Ideal.τ).loc Cert.KernelUpdateOut2Ideal.main_arg6)
          ∧ r.2.mem ((c.tc : Thread Cert.KernelUpdateOut2Ideal.nD Cert.KernelUpdateOut2Ideal.τ).loc Cert.KernelUpdateOut2Ideal.main_arg7) = m ((c.tc : Thread Cert.KernelUpdateOut2Ideal.nD Cert.KernelUpdateOut2Ideal.τ).loc Cert.KernelUpdateOut2Ideal.main_arg7))
      ∧ θ_run (Cert.ReferenceUpdateOut2Ideal.defs (F := Ideal)) (onTc (τ := Cert.ReferenceUpdateOut2Ideal.τ) (Cert.ReferenceUpdateOut2Ideal.main (F := Ideal))) ⟨m', fun _ => 0, g'⟩ (fun r => ∀ c : Dev Cert.ReferenceUpdateOut2Ideal.nD,
          r.2.mem ((c.tc : Thread Cert.ReferenceUpdateOut2Ideal.nD Cert.ReferenceUpdateOut2Ideal.τ).loc Cert.ReferenceUpdateOut2Ideal.main_v35) = v0 c
          ∧ r.2.mem ((c.tc : Thread Cert.ReferenceUpdateOut2Ideal.nD Cert.ReferenceUpdateOut2Ideal.τ).loc Cert.ReferenceUpdateOut2Ideal.main_v39) = v1 c
          ∧ r.2.mem ((c.tc : Thread Cert.ReferenceUpdateOut2Ideal.nD Cert.ReferenceUpdateOut2Ideal.τ).loc Cert.ReferenceUpdateOut2Ideal.main_v43) = v2 c
          ∧ r.2.mem ((c.tc : Thread Cert.ReferenceUpdateOut2Ideal.nD Cert.ReferenceUpdateOut2Ideal.τ).loc Cert.ReferenceUpdateOut2Ideal.main_v47) = v3 c
          ∧ r.2.mem ((c.tc : Thread Cert.ReferenceUpdateOut2Ideal.nD Cert.ReferenceUpdateOut2Ideal.τ).loc Cert.ReferenceUpdateOut2Ideal.main_arg0) = m' ((c.tc : Thread Cert.ReferenceUpdateOut2Ideal.nD Cert.ReferenceUpdateOut2Ideal.τ).loc Cert.ReferenceUpdateOut2Ideal.main_arg0)
          ∧ r.2.mem ((c.tc : Thread Cert.ReferenceUpdateOut2Ideal.nD Cert.ReferenceUpdateOut2Ideal.τ).loc Cert.ReferenceUpdateOut2Ideal.main_arg1) = m' ((c.tc : Thread Cert.ReferenceUpdateOut2Ideal.nD Cert.ReferenceUpdateOut2Ideal.τ).loc Cert.ReferenceUpdateOut2Ideal.main_arg1)
          ∧ r.2.mem ((c.tc : Thread Cert.ReferenceUpdateOut2Ideal.nD Cert.ReferenceUpdateOut2Ideal.τ).loc Cert.ReferenceUpdateOut2Ideal.main_arg2) = m' ((c.tc : Thread Cert.ReferenceUpdateOut2Ideal.nD Cert.ReferenceUpdateOut2Ideal.τ).loc Cert.ReferenceUpdateOut2Ideal.main_arg2)
          ∧ r.2.mem ((c.tc : Thread Cert.ReferenceUpdateOut2Ideal.nD Cert.ReferenceUpdateOut2Ideal.τ).loc Cert.ReferenceUpdateOut2Ideal.main_arg3) = m' ((c.tc : Thread Cert.ReferenceUpdateOut2Ideal.nD Cert.ReferenceUpdateOut2Ideal.τ).loc Cert.ReferenceUpdateOut2Ideal.main_arg3)
          ∧ r.2.mem ((c.tc : Thread Cert.ReferenceUpdateOut2Ideal.nD Cert.ReferenceUpdateOut2Ideal.τ).loc Cert.ReferenceUpdateOut2Ideal.main_arg4) = m' ((c.tc : Thread Cert.ReferenceUpdateOut2Ideal.nD Cert.ReferenceUpdateOut2Ideal.τ).loc Cert.ReferenceUpdateOut2Ideal.main_arg4)
          ∧ r.2.mem ((c.tc : Thread Cert.ReferenceUpdateOut2Ideal.nD Cert.ReferenceUpdateOut2Ideal.τ).loc Cert.ReferenceUpdateOut2Ideal.main_arg5) = m' ((c.tc : Thread Cert.ReferenceUpdateOut2Ideal.nD Cert.ReferenceUpdateOut2Ideal.τ).loc Cert.ReferenceUpdateOut2Ideal.main_arg5)
          ∧ r.2.mem ((c.tc : Thread Cert.ReferenceUpdateOut2Ideal.nD Cert.ReferenceUpdateOut2Ideal.τ).loc Cert.ReferenceUpdateOut2Ideal.main_arg6) = m' ((c.tc : Thread Cert.ReferenceUpdateOut2Ideal.nD Cert.ReferenceUpdateOut2Ideal.τ).loc Cert.ReferenceUpdateOut2Ideal.main_arg6)
          ∧ r.2.mem ((c.tc : Thread Cert.ReferenceUpdateOut2Ideal.nD Cert.ReferenceUpdateOut2Ideal.τ).loc Cert.ReferenceUpdateOut2Ideal.main_arg7) = m' ((c.tc : Thread Cert.ReferenceUpdateOut2Ideal.nD Cert.ReferenceUpdateOut2Ideal.τ).loc Cert.ReferenceUpdateOut2Ideal.main_arg7))

def preserves_KernelUpdateUp2_KernelUpdateUp2Ideal : Prop :=
  True

def algebraic_KernelUpdateUp2Ideal_ReferenceUpdateUp2Ideal [hKernelUpdateUp2Ideal : Cert.KernelUpdateUp2Ideal.Facts] [hReferenceUpdateUp2Ideal : Cert.ReferenceUpdateUp2Ideal.Facts] : Prop :=
  ∀ (m : (ℓ : Loc Cert.KernelUpdateUp2Ideal.nD Cert.KernelUpdateUp2Ideal.τ Cert.KernelUpdateUp2Ideal.sig) → Buf (Elt Ideal) ℓ) (g : Dev Cert.KernelUpdateUp2Ideal.nD → PrngReg)
    (m' : (ℓ : Loc Cert.ReferenceUpdateUp2Ideal.nD Cert.ReferenceUpdateUp2Ideal.τ Cert.ReferenceUpdateUp2Ideal.sig) → Buf (Elt Ideal) ℓ) (g' : Dev Cert.ReferenceUpdateUp2Ideal.nD → PrngReg), Pre_KernelUpdateUp2Ideal m →
    (∀ c : Dev Cert.KernelUpdateUp2Ideal.nD,
      m' ((c.tc : Thread Cert.ReferenceUpdateUp2Ideal.nD Cert.ReferenceUpdateUp2Ideal.τ).loc Cert.ReferenceUpdateUp2Ideal.main_arg0) = m ((c.tc : Thread Cert.KernelUpdateUp2Ideal.nD Cert.KernelUpdateUp2Ideal.τ).loc Cert.KernelUpdateUp2Ideal.main_arg0)
      ∧ m' ((c.tc : Thread Cert.ReferenceUpdateUp2Ideal.nD Cert.ReferenceUpdateUp2Ideal.τ).loc Cert.ReferenceUpdateUp2Ideal.main_arg1) = m ((c.tc : Thread Cert.KernelUpdateUp2Ideal.nD Cert.KernelUpdateUp2Ideal.τ).loc Cert.KernelUpdateUp2Ideal.main_arg1)
      ∧ m' ((c.tc : Thread Cert.ReferenceUpdateUp2Ideal.nD Cert.ReferenceUpdateUp2Ideal.τ).loc Cert.ReferenceUpdateUp2Ideal.main_arg2) = m ((c.tc : Thread Cert.KernelUpdateUp2Ideal.nD Cert.KernelUpdateUp2Ideal.τ).loc Cert.KernelUpdateUp2Ideal.main_arg2)
      ∧ m' ((c.tc : Thread Cert.ReferenceUpdateUp2Ideal.nD Cert.ReferenceUpdateUp2Ideal.τ).loc Cert.ReferenceUpdateUp2Ideal.main_arg3) = m ((c.tc : Thread Cert.KernelUpdateUp2Ideal.nD Cert.KernelUpdateUp2Ideal.τ).loc Cert.KernelUpdateUp2Ideal.main_arg3)
      ∧ m' ((c.tc : Thread Cert.ReferenceUpdateUp2Ideal.nD Cert.ReferenceUpdateUp2Ideal.τ).loc Cert.ReferenceUpdateUp2Ideal.main_arg4) = m ((c.tc : Thread Cert.KernelUpdateUp2Ideal.nD Cert.KernelUpdateUp2Ideal.τ).loc Cert.KernelUpdateUp2Ideal.main_arg4)
      ∧ m' ((c.tc : Thread Cert.ReferenceUpdateUp2Ideal.nD Cert.ReferenceUpdateUp2Ideal.τ).loc Cert.ReferenceUpdateUp2Ideal.main_arg5) = m ((c.tc : Thread Cert.KernelUpdateUp2Ideal.nD Cert.KernelUpdateUp2Ideal.τ).loc Cert.KernelUpdateUp2Ideal.main_arg5)
      ∧ m' ((c.tc : Thread Cert.ReferenceUpdateUp2Ideal.nD Cert.ReferenceUpdateUp2Ideal.τ).loc Cert.ReferenceUpdateUp2Ideal.main_arg6) = m ((c.tc : Thread Cert.KernelUpdateUp2Ideal.nD Cert.KernelUpdateUp2Ideal.τ).loc Cert.KernelUpdateUp2Ideal.main_arg6)
      ∧ m' ((c.tc : Thread Cert.ReferenceUpdateUp2Ideal.nD Cert.ReferenceUpdateUp2Ideal.τ).loc Cert.ReferenceUpdateUp2Ideal.main_arg7) = m ((c.tc : Thread Cert.KernelUpdateUp2Ideal.nD Cert.KernelUpdateUp2Ideal.τ).loc Cert.KernelUpdateUp2Ideal.main_arg7)) →
    ∃ (v0 : (c : Dev Cert.KernelUpdateUp2Ideal.nD) → Buf (Elt Ideal) ((c.tc : Thread Cert.KernelUpdateUp2Ideal.nD Cert.KernelUpdateUp2Ideal.τ).loc Cert.KernelUpdateUp2Ideal.main_v0_0)) (v1 : (c : Dev Cert.KernelUpdateUp2Ideal.nD) → Buf (Elt Ideal) ((c.tc : Thread Cert.KernelUpdateUp2Ideal.nD Cert.KernelUpdateUp2Ideal.τ).loc Cert.KernelUpdateUp2Ideal.main_v0_1)) (v2 : (c : Dev Cert.KernelUpdateUp2Ideal.nD) → Buf (Elt Ideal) ((c.tc : Thread Cert.KernelUpdateUp2Ideal.nD Cert.KernelUpdateUp2Ideal.τ).loc Cert.KernelUpdateUp2Ideal.main_v0_2)) (v3 : (c : Dev Cert.KernelUpdateUp2Ideal.nD) → Buf (Elt Ideal) ((c.tc : Thread Cert.KernelUpdateUp2Ideal.nD Cert.KernelUpdateUp2Ideal.τ).loc Cert.KernelUpdateUp2Ideal.main_v0_3)),
      θ_run (Cert.KernelUpdateUp2Ideal.defs (F := Ideal)) (onTc (τ := Cert.KernelUpdateUp2Ideal.τ) (Cert.KernelUpdateUp2Ideal.main (F := Ideal))) ⟨m, fun _ => 0, g⟩ (fun r => ∀ c : Dev Cert.KernelUpdateUp2Ideal.nD,
          r.2.mem ((c.tc : Thread Cert.KernelUpdateUp2Ideal.nD Cert.KernelUpdateUp2Ideal.τ).loc Cert.KernelUpdateUp2Ideal.main_v0_0) = v0 c
          ∧ r.2.mem ((c.tc : Thread Cert.KernelUpdateUp2Ideal.nD Cert.KernelUpdateUp2Ideal.τ).loc Cert.KernelUpdateUp2Ideal.main_v0_1) = v1 c
          ∧ r.2.mem ((c.tc : Thread Cert.KernelUpdateUp2Ideal.nD Cert.KernelUpdateUp2Ideal.τ).loc Cert.KernelUpdateUp2Ideal.main_v0_2) = v2 c
          ∧ r.2.mem ((c.tc : Thread Cert.KernelUpdateUp2Ideal.nD Cert.KernelUpdateUp2Ideal.τ).loc Cert.KernelUpdateUp2Ideal.main_v0_3) = v3 c
          ∧ r.2.mem ((c.tc : Thread Cert.KernelUpdateUp2Ideal.nD Cert.KernelUpdateUp2Ideal.τ).loc Cert.KernelUpdateUp2Ideal.main_arg0) = m ((c.tc : Thread Cert.KernelUpdateUp2Ideal.nD Cert.KernelUpdateUp2Ideal.τ).loc Cert.KernelUpdateUp2Ideal.main_arg0)
          ∧ r.2.mem ((c.tc : Thread Cert.KernelUpdateUp2Ideal.nD Cert.KernelUpdateUp2Ideal.τ).loc Cert.KernelUpdateUp2Ideal.main_arg1) = m ((c.tc : Thread Cert.KernelUpdateUp2Ideal.nD Cert.KernelUpdateUp2Ideal.τ).loc Cert.KernelUpdateUp2Ideal.main_arg1)
          ∧ r.2.mem ((c.tc : Thread Cert.KernelUpdateUp2Ideal.nD Cert.KernelUpdateUp2Ideal.τ).loc Cert.KernelUpdateUp2Ideal.main_arg2) = m ((c.tc : Thread Cert.KernelUpdateUp2Ideal.nD Cert.KernelUpdateUp2Ideal.τ).loc Cert.KernelUpdateUp2Ideal.main_arg2)
          ∧ r.2.mem ((c.tc : Thread Cert.KernelUpdateUp2Ideal.nD Cert.KernelUpdateUp2Ideal.τ).loc Cert.KernelUpdateUp2Ideal.main_arg3) = m ((c.tc : Thread Cert.KernelUpdateUp2Ideal.nD Cert.KernelUpdateUp2Ideal.τ).loc Cert.KernelUpdateUp2Ideal.main_arg3)
          ∧ r.2.mem ((c.tc : Thread Cert.KernelUpdateUp2Ideal.nD Cert.KernelUpdateUp2Ideal.τ).loc Cert.KernelUpdateUp2Ideal.main_arg4) = m ((c.tc : Thread Cert.KernelUpdateUp2Ideal.nD Cert.KernelUpdateUp2Ideal.τ).loc Cert.KernelUpdateUp2Ideal.main_arg4)
          ∧ r.2.mem ((c.tc : Thread Cert.KernelUpdateUp2Ideal.nD Cert.KernelUpdateUp2Ideal.τ).loc Cert.KernelUpdateUp2Ideal.main_arg5) = m ((c.tc : Thread Cert.KernelUpdateUp2Ideal.nD Cert.KernelUpdateUp2Ideal.τ).loc Cert.KernelUpdateUp2Ideal.main_arg5)
          ∧ r.2.mem ((c.tc : Thread Cert.KernelUpdateUp2Ideal.nD Cert.KernelUpdateUp2Ideal.τ).loc Cert.KernelUpdateUp2Ideal.main_arg6) = m ((c.tc : Thread Cert.KernelUpdateUp2Ideal.nD Cert.KernelUpdateUp2Ideal.τ).loc Cert.KernelUpdateUp2Ideal.main_arg6)
          ∧ r.2.mem ((c.tc : Thread Cert.KernelUpdateUp2Ideal.nD Cert.KernelUpdateUp2Ideal.τ).loc Cert.KernelUpdateUp2Ideal.main_arg7) = m ((c.tc : Thread Cert.KernelUpdateUp2Ideal.nD Cert.KernelUpdateUp2Ideal.τ).loc Cert.KernelUpdateUp2Ideal.main_arg7))
      ∧ θ_run (Cert.ReferenceUpdateUp2Ideal.defs (F := Ideal)) (onTc (τ := Cert.ReferenceUpdateUp2Ideal.τ) (Cert.ReferenceUpdateUp2Ideal.main (F := Ideal))) ⟨m', fun _ => 0, g'⟩ (fun r => ∀ c : Dev Cert.ReferenceUpdateUp2Ideal.nD,
          r.2.mem ((c.tc : Thread Cert.ReferenceUpdateUp2Ideal.nD Cert.ReferenceUpdateUp2Ideal.τ).loc Cert.ReferenceUpdateUp2Ideal.main_v35) = v0 c
          ∧ r.2.mem ((c.tc : Thread Cert.ReferenceUpdateUp2Ideal.nD Cert.ReferenceUpdateUp2Ideal.τ).loc Cert.ReferenceUpdateUp2Ideal.main_v39) = v1 c
          ∧ r.2.mem ((c.tc : Thread Cert.ReferenceUpdateUp2Ideal.nD Cert.ReferenceUpdateUp2Ideal.τ).loc Cert.ReferenceUpdateUp2Ideal.main_v43) = v2 c
          ∧ r.2.mem ((c.tc : Thread Cert.ReferenceUpdateUp2Ideal.nD Cert.ReferenceUpdateUp2Ideal.τ).loc Cert.ReferenceUpdateUp2Ideal.main_v47) = v3 c
          ∧ r.2.mem ((c.tc : Thread Cert.ReferenceUpdateUp2Ideal.nD Cert.ReferenceUpdateUp2Ideal.τ).loc Cert.ReferenceUpdateUp2Ideal.main_arg0) = m' ((c.tc : Thread Cert.ReferenceUpdateUp2Ideal.nD Cert.ReferenceUpdateUp2Ideal.τ).loc Cert.ReferenceUpdateUp2Ideal.main_arg0)
          ∧ r.2.mem ((c.tc : Thread Cert.ReferenceUpdateUp2Ideal.nD Cert.ReferenceUpdateUp2Ideal.τ).loc Cert.ReferenceUpdateUp2Ideal.main_arg1) = m' ((c.tc : Thread Cert.ReferenceUpdateUp2Ideal.nD Cert.ReferenceUpdateUp2Ideal.τ).loc Cert.ReferenceUpdateUp2Ideal.main_arg1)
          ∧ r.2.mem ((c.tc : Thread Cert.ReferenceUpdateUp2Ideal.nD Cert.ReferenceUpdateUp2Ideal.τ).loc Cert.ReferenceUpdateUp2Ideal.main_arg2) = m' ((c.tc : Thread Cert.ReferenceUpdateUp2Ideal.nD Cert.ReferenceUpdateUp2Ideal.τ).loc Cert.ReferenceUpdateUp2Ideal.main_arg2)
          ∧ r.2.mem ((c.tc : Thread Cert.ReferenceUpdateUp2Ideal.nD Cert.ReferenceUpdateUp2Ideal.τ).loc Cert.ReferenceUpdateUp2Ideal.main_arg3) = m' ((c.tc : Thread Cert.ReferenceUpdateUp2Ideal.nD Cert.ReferenceUpdateUp2Ideal.τ).loc Cert.ReferenceUpdateUp2Ideal.main_arg3)
          ∧ r.2.mem ((c.tc : Thread Cert.ReferenceUpdateUp2Ideal.nD Cert.ReferenceUpdateUp2Ideal.τ).loc Cert.ReferenceUpdateUp2Ideal.main_arg4) = m' ((c.tc : Thread Cert.ReferenceUpdateUp2Ideal.nD Cert.ReferenceUpdateUp2Ideal.τ).loc Cert.ReferenceUpdateUp2Ideal.main_arg4)
          ∧ r.2.mem ((c.tc : Thread Cert.ReferenceUpdateUp2Ideal.nD Cert.ReferenceUpdateUp2Ideal.τ).loc Cert.ReferenceUpdateUp2Ideal.main_arg5) = m' ((c.tc : Thread Cert.ReferenceUpdateUp2Ideal.nD Cert.ReferenceUpdateUp2Ideal.τ).loc Cert.ReferenceUpdateUp2Ideal.main_arg5)
          ∧ r.2.mem ((c.tc : Thread Cert.ReferenceUpdateUp2Ideal.nD Cert.ReferenceUpdateUp2Ideal.τ).loc Cert.ReferenceUpdateUp2Ideal.main_arg6) = m' ((c.tc : Thread Cert.ReferenceUpdateUp2Ideal.nD Cert.ReferenceUpdateUp2Ideal.τ).loc Cert.ReferenceUpdateUp2Ideal.main_arg6)
          ∧ r.2.mem ((c.tc : Thread Cert.ReferenceUpdateUp2Ideal.nD Cert.ReferenceUpdateUp2Ideal.τ).loc Cert.ReferenceUpdateUp2Ideal.main_arg7) = m' ((c.tc : Thread Cert.ReferenceUpdateUp2Ideal.nD Cert.ReferenceUpdateUp2Ideal.τ).loc Cert.ReferenceUpdateUp2Ideal.main_arg7))

def preserves_KernelUpdateDown2_KernelUpdateDown2Ideal : Prop :=
  True

def algebraic_KernelUpdateDown2Ideal_ReferenceUpdateDown2Ideal [hKernelUpdateDown2Ideal : Cert.KernelUpdateDown2Ideal.Facts] [hReferenceUpdateDown2Ideal : Cert.ReferenceUpdateDown2Ideal.Facts] : Prop :=
  ∀ (m : (ℓ : Loc Cert.KernelUpdateDown2Ideal.nD Cert.KernelUpdateDown2Ideal.τ Cert.KernelUpdateDown2Ideal.sig) → Buf (Elt Ideal) ℓ) (g : Dev Cert.KernelUpdateDown2Ideal.nD → PrngReg)
    (m' : (ℓ : Loc Cert.ReferenceUpdateDown2Ideal.nD Cert.ReferenceUpdateDown2Ideal.τ Cert.ReferenceUpdateDown2Ideal.sig) → Buf (Elt Ideal) ℓ) (g' : Dev Cert.ReferenceUpdateDown2Ideal.nD → PrngReg), Pre_KernelUpdateDown2Ideal m →
    (∀ c : Dev Cert.KernelUpdateDown2Ideal.nD,
      m' ((c.tc : Thread Cert.ReferenceUpdateDown2Ideal.nD Cert.ReferenceUpdateDown2Ideal.τ).loc Cert.ReferenceUpdateDown2Ideal.main_arg0) = m ((c.tc : Thread Cert.KernelUpdateDown2Ideal.nD Cert.KernelUpdateDown2Ideal.τ).loc Cert.KernelUpdateDown2Ideal.main_arg0)
      ∧ m' ((c.tc : Thread Cert.ReferenceUpdateDown2Ideal.nD Cert.ReferenceUpdateDown2Ideal.τ).loc Cert.ReferenceUpdateDown2Ideal.main_arg1) = m ((c.tc : Thread Cert.KernelUpdateDown2Ideal.nD Cert.KernelUpdateDown2Ideal.τ).loc Cert.KernelUpdateDown2Ideal.main_arg1)
      ∧ m' ((c.tc : Thread Cert.ReferenceUpdateDown2Ideal.nD Cert.ReferenceUpdateDown2Ideal.τ).loc Cert.ReferenceUpdateDown2Ideal.main_arg2) = m ((c.tc : Thread Cert.KernelUpdateDown2Ideal.nD Cert.KernelUpdateDown2Ideal.τ).loc Cert.KernelUpdateDown2Ideal.main_arg2)
      ∧ m' ((c.tc : Thread Cert.ReferenceUpdateDown2Ideal.nD Cert.ReferenceUpdateDown2Ideal.τ).loc Cert.ReferenceUpdateDown2Ideal.main_arg3) = m ((c.tc : Thread Cert.KernelUpdateDown2Ideal.nD Cert.KernelUpdateDown2Ideal.τ).loc Cert.KernelUpdateDown2Ideal.main_arg3)
      ∧ m' ((c.tc : Thread Cert.ReferenceUpdateDown2Ideal.nD Cert.ReferenceUpdateDown2Ideal.τ).loc Cert.ReferenceUpdateDown2Ideal.main_arg4) = m ((c.tc : Thread Cert.KernelUpdateDown2Ideal.nD Cert.KernelUpdateDown2Ideal.τ).loc Cert.KernelUpdateDown2Ideal.main_arg4)
      ∧ m' ((c.tc : Thread Cert.ReferenceUpdateDown2Ideal.nD Cert.ReferenceUpdateDown2Ideal.τ).loc Cert.ReferenceUpdateDown2Ideal.main_arg5) = m ((c.tc : Thread Cert.KernelUpdateDown2Ideal.nD Cert.KernelUpdateDown2Ideal.τ).loc Cert.KernelUpdateDown2Ideal.main_arg5)
      ∧ m' ((c.tc : Thread Cert.ReferenceUpdateDown2Ideal.nD Cert.ReferenceUpdateDown2Ideal.τ).loc Cert.ReferenceUpdateDown2Ideal.main_arg6) = m ((c.tc : Thread Cert.KernelUpdateDown2Ideal.nD Cert.KernelUpdateDown2Ideal.τ).loc Cert.KernelUpdateDown2Ideal.main_arg6)
      ∧ m' ((c.tc : Thread Cert.ReferenceUpdateDown2Ideal.nD Cert.ReferenceUpdateDown2Ideal.τ).loc Cert.ReferenceUpdateDown2Ideal.main_arg7) = m ((c.tc : Thread Cert.KernelUpdateDown2Ideal.nD Cert.KernelUpdateDown2Ideal.τ).loc Cert.KernelUpdateDown2Ideal.main_arg7)) →
    ∃ (v0 : (c : Dev Cert.KernelUpdateDown2Ideal.nD) → Buf (Elt Ideal) ((c.tc : Thread Cert.KernelUpdateDown2Ideal.nD Cert.KernelUpdateDown2Ideal.τ).loc Cert.KernelUpdateDown2Ideal.main_v0_0)) (v1 : (c : Dev Cert.KernelUpdateDown2Ideal.nD) → Buf (Elt Ideal) ((c.tc : Thread Cert.KernelUpdateDown2Ideal.nD Cert.KernelUpdateDown2Ideal.τ).loc Cert.KernelUpdateDown2Ideal.main_v0_1)) (v2 : (c : Dev Cert.KernelUpdateDown2Ideal.nD) → Buf (Elt Ideal) ((c.tc : Thread Cert.KernelUpdateDown2Ideal.nD Cert.KernelUpdateDown2Ideal.τ).loc Cert.KernelUpdateDown2Ideal.main_v0_2)) (v3 : (c : Dev Cert.KernelUpdateDown2Ideal.nD) → Buf (Elt Ideal) ((c.tc : Thread Cert.KernelUpdateDown2Ideal.nD Cert.KernelUpdateDown2Ideal.τ).loc Cert.KernelUpdateDown2Ideal.main_v0_3)),
      θ_run (Cert.KernelUpdateDown2Ideal.defs (F := Ideal)) (onTc (τ := Cert.KernelUpdateDown2Ideal.τ) (Cert.KernelUpdateDown2Ideal.main (F := Ideal))) ⟨m, fun _ => 0, g⟩ (fun r => ∀ c : Dev Cert.KernelUpdateDown2Ideal.nD,
          r.2.mem ((c.tc : Thread Cert.KernelUpdateDown2Ideal.nD Cert.KernelUpdateDown2Ideal.τ).loc Cert.KernelUpdateDown2Ideal.main_v0_0) = v0 c
          ∧ r.2.mem ((c.tc : Thread Cert.KernelUpdateDown2Ideal.nD Cert.KernelUpdateDown2Ideal.τ).loc Cert.KernelUpdateDown2Ideal.main_v0_1) = v1 c
          ∧ r.2.mem ((c.tc : Thread Cert.KernelUpdateDown2Ideal.nD Cert.KernelUpdateDown2Ideal.τ).loc Cert.KernelUpdateDown2Ideal.main_v0_2) = v2 c
          ∧ r.2.mem ((c.tc : Thread Cert.KernelUpdateDown2Ideal.nD Cert.KernelUpdateDown2Ideal.τ).loc Cert.KernelUpdateDown2Ideal.main_v0_3) = v3 c
          ∧ r.2.mem ((c.tc : Thread Cert.KernelUpdateDown2Ideal.nD Cert.KernelUpdateDown2Ideal.τ).loc Cert.KernelUpdateDown2Ideal.main_arg0) = m ((c.tc : Thread Cert.KernelUpdateDown2Ideal.nD Cert.KernelUpdateDown2Ideal.τ).loc Cert.KernelUpdateDown2Ideal.main_arg0)
          ∧ r.2.mem ((c.tc : Thread Cert.KernelUpdateDown2Ideal.nD Cert.KernelUpdateDown2Ideal.τ).loc Cert.KernelUpdateDown2Ideal.main_arg1) = m ((c.tc : Thread Cert.KernelUpdateDown2Ideal.nD Cert.KernelUpdateDown2Ideal.τ).loc Cert.KernelUpdateDown2Ideal.main_arg1)
          ∧ r.2.mem ((c.tc : Thread Cert.KernelUpdateDown2Ideal.nD Cert.KernelUpdateDown2Ideal.τ).loc Cert.KernelUpdateDown2Ideal.main_arg2) = m ((c.tc : Thread Cert.KernelUpdateDown2Ideal.nD Cert.KernelUpdateDown2Ideal.τ).loc Cert.KernelUpdateDown2Ideal.main_arg2)
          ∧ r.2.mem ((c.tc : Thread Cert.KernelUpdateDown2Ideal.nD Cert.KernelUpdateDown2Ideal.τ).loc Cert.KernelUpdateDown2Ideal.main_arg3) = m ((c.tc : Thread Cert.KernelUpdateDown2Ideal.nD Cert.KernelUpdateDown2Ideal.τ).loc Cert.KernelUpdateDown2Ideal.main_arg3)
          ∧ r.2.mem ((c.tc : Thread Cert.KernelUpdateDown2Ideal.nD Cert.KernelUpdateDown2Ideal.τ).loc Cert.KernelUpdateDown2Ideal.main_arg4) = m ((c.tc : Thread Cert.KernelUpdateDown2Ideal.nD Cert.KernelUpdateDown2Ideal.τ).loc Cert.KernelUpdateDown2Ideal.main_arg4)
          ∧ r.2.mem ((c.tc : Thread Cert.KernelUpdateDown2Ideal.nD Cert.KernelUpdateDown2Ideal.τ).loc Cert.KernelUpdateDown2Ideal.main_arg5) = m ((c.tc : Thread Cert.KernelUpdateDown2Ideal.nD Cert.KernelUpdateDown2Ideal.τ).loc Cert.KernelUpdateDown2Ideal.main_arg5)
          ∧ r.2.mem ((c.tc : Thread Cert.KernelUpdateDown2Ideal.nD Cert.KernelUpdateDown2Ideal.τ).loc Cert.KernelUpdateDown2Ideal.main_arg6) = m ((c.tc : Thread Cert.KernelUpdateDown2Ideal.nD Cert.KernelUpdateDown2Ideal.τ).loc Cert.KernelUpdateDown2Ideal.main_arg6)
          ∧ r.2.mem ((c.tc : Thread Cert.KernelUpdateDown2Ideal.nD Cert.KernelUpdateDown2Ideal.τ).loc Cert.KernelUpdateDown2Ideal.main_arg7) = m ((c.tc : Thread Cert.KernelUpdateDown2Ideal.nD Cert.KernelUpdateDown2Ideal.τ).loc Cert.KernelUpdateDown2Ideal.main_arg7))
      ∧ θ_run (Cert.ReferenceUpdateDown2Ideal.defs (F := Ideal)) (onTc (τ := Cert.ReferenceUpdateDown2Ideal.τ) (Cert.ReferenceUpdateDown2Ideal.main (F := Ideal))) ⟨m', fun _ => 0, g'⟩ (fun r => ∀ c : Dev Cert.ReferenceUpdateDown2Ideal.nD,
          r.2.mem ((c.tc : Thread Cert.ReferenceUpdateDown2Ideal.nD Cert.ReferenceUpdateDown2Ideal.τ).loc Cert.ReferenceUpdateDown2Ideal.main_v35) = v0 c
          ∧ r.2.mem ((c.tc : Thread Cert.ReferenceUpdateDown2Ideal.nD Cert.ReferenceUpdateDown2Ideal.τ).loc Cert.ReferenceUpdateDown2Ideal.main_v39) = v1 c
          ∧ r.2.mem ((c.tc : Thread Cert.ReferenceUpdateDown2Ideal.nD Cert.ReferenceUpdateDown2Ideal.τ).loc Cert.ReferenceUpdateDown2Ideal.main_v43) = v2 c
          ∧ r.2.mem ((c.tc : Thread Cert.ReferenceUpdateDown2Ideal.nD Cert.ReferenceUpdateDown2Ideal.τ).loc Cert.ReferenceUpdateDown2Ideal.main_v47) = v3 c
          ∧ r.2.mem ((c.tc : Thread Cert.ReferenceUpdateDown2Ideal.nD Cert.ReferenceUpdateDown2Ideal.τ).loc Cert.ReferenceUpdateDown2Ideal.main_arg0) = m' ((c.tc : Thread Cert.ReferenceUpdateDown2Ideal.nD Cert.ReferenceUpdateDown2Ideal.τ).loc Cert.ReferenceUpdateDown2Ideal.main_arg0)
          ∧ r.2.mem ((c.tc : Thread Cert.ReferenceUpdateDown2Ideal.nD Cert.ReferenceUpdateDown2Ideal.τ).loc Cert.ReferenceUpdateDown2Ideal.main_arg1) = m' ((c.tc : Thread Cert.ReferenceUpdateDown2Ideal.nD Cert.ReferenceUpdateDown2Ideal.τ).loc Cert.ReferenceUpdateDown2Ideal.main_arg1)
          ∧ r.2.mem ((c.tc : Thread Cert.ReferenceUpdateDown2Ideal.nD Cert.ReferenceUpdateDown2Ideal.τ).loc Cert.ReferenceUpdateDown2Ideal.main_arg2) = m' ((c.tc : Thread Cert.ReferenceUpdateDown2Ideal.nD Cert.ReferenceUpdateDown2Ideal.τ).loc Cert.ReferenceUpdateDown2Ideal.main_arg2)
          ∧ r.2.mem ((c.tc : Thread Cert.ReferenceUpdateDown2Ideal.nD Cert.ReferenceUpdateDown2Ideal.τ).loc Cert.ReferenceUpdateDown2Ideal.main_arg3) = m' ((c.tc : Thread Cert.ReferenceUpdateDown2Ideal.nD Cert.ReferenceUpdateDown2Ideal.τ).loc Cert.ReferenceUpdateDown2Ideal.main_arg3)
          ∧ r.2.mem ((c.tc : Thread Cert.ReferenceUpdateDown2Ideal.nD Cert.ReferenceUpdateDown2Ideal.τ).loc Cert.ReferenceUpdateDown2Ideal.main_arg4) = m' ((c.tc : Thread Cert.ReferenceUpdateDown2Ideal.nD Cert.ReferenceUpdateDown2Ideal.τ).loc Cert.ReferenceUpdateDown2Ideal.main_arg4)
          ∧ r.2.mem ((c.tc : Thread Cert.ReferenceUpdateDown2Ideal.nD Cert.ReferenceUpdateDown2Ideal.τ).loc Cert.ReferenceUpdateDown2Ideal.main_arg5) = m' ((c.tc : Thread Cert.ReferenceUpdateDown2Ideal.nD Cert.ReferenceUpdateDown2Ideal.τ).loc Cert.ReferenceUpdateDown2Ideal.main_arg5)
          ∧ r.2.mem ((c.tc : Thread Cert.ReferenceUpdateDown2Ideal.nD Cert.ReferenceUpdateDown2Ideal.τ).loc Cert.ReferenceUpdateDown2Ideal.main_arg6) = m' ((c.tc : Thread Cert.ReferenceUpdateDown2Ideal.nD Cert.ReferenceUpdateDown2Ideal.τ).loc Cert.ReferenceUpdateDown2Ideal.main_arg6)
          ∧ r.2.mem ((c.tc : Thread Cert.ReferenceUpdateDown2Ideal.nD Cert.ReferenceUpdateDown2Ideal.τ).loc Cert.ReferenceUpdateDown2Ideal.main_arg7) = m' ((c.tc : Thread Cert.ReferenceUpdateDown2Ideal.nD Cert.ReferenceUpdateDown2Ideal.τ).loc Cert.ReferenceUpdateDown2Ideal.main_arg7))

def preserves_KernelUpdateIn3_KernelUpdateIn3Ideal : Prop :=
  True

def algebraic_KernelUpdateIn3Ideal_ReferenceUpdateIn3Ideal [hKernelUpdateIn3Ideal : Cert.KernelUpdateIn3Ideal.Facts] [hReferenceUpdateIn3Ideal : Cert.ReferenceUpdateIn3Ideal.Facts] : Prop :=
  ∀ (m : (ℓ : Loc Cert.KernelUpdateIn3Ideal.nD Cert.KernelUpdateIn3Ideal.τ Cert.KernelUpdateIn3Ideal.sig) → Buf (Elt Ideal) ℓ) (g : Dev Cert.KernelUpdateIn3Ideal.nD → PrngReg)
    (m' : (ℓ : Loc Cert.ReferenceUpdateIn3Ideal.nD Cert.ReferenceUpdateIn3Ideal.τ Cert.ReferenceUpdateIn3Ideal.sig) → Buf (Elt Ideal) ℓ) (g' : Dev Cert.ReferenceUpdateIn3Ideal.nD → PrngReg), Pre_KernelUpdateIn3Ideal m →
    (∀ c : Dev Cert.KernelUpdateIn3Ideal.nD,
      m' ((c.tc : Thread Cert.ReferenceUpdateIn3Ideal.nD Cert.ReferenceUpdateIn3Ideal.τ).loc Cert.ReferenceUpdateIn3Ideal.main_arg0) = m ((c.tc : Thread Cert.KernelUpdateIn3Ideal.nD Cert.KernelUpdateIn3Ideal.τ).loc Cert.KernelUpdateIn3Ideal.main_arg0)
      ∧ m' ((c.tc : Thread Cert.ReferenceUpdateIn3Ideal.nD Cert.ReferenceUpdateIn3Ideal.τ).loc Cert.ReferenceUpdateIn3Ideal.main_arg1) = m ((c.tc : Thread Cert.KernelUpdateIn3Ideal.nD Cert.KernelUpdateIn3Ideal.τ).loc Cert.KernelUpdateIn3Ideal.main_arg1)
      ∧ m' ((c.tc : Thread Cert.ReferenceUpdateIn3Ideal.nD Cert.ReferenceUpdateIn3Ideal.τ).loc Cert.ReferenceUpdateIn3Ideal.main_arg2) = m ((c.tc : Thread Cert.KernelUpdateIn3Ideal.nD Cert.KernelUpdateIn3Ideal.τ).loc Cert.KernelUpdateIn3Ideal.main_arg2)
      ∧ m' ((c.tc : Thread Cert.ReferenceUpdateIn3Ideal.nD Cert.ReferenceUpdateIn3Ideal.τ).loc Cert.ReferenceUpdateIn3Ideal.main_arg3) = m ((c.tc : Thread Cert.KernelUpdateIn3Ideal.nD Cert.KernelUpdateIn3Ideal.τ).loc Cert.KernelUpdateIn3Ideal.main_arg3)
      ∧ m' ((c.tc : Thread Cert.ReferenceUpdateIn3Ideal.nD Cert.ReferenceUpdateIn3Ideal.τ).loc Cert.ReferenceUpdateIn3Ideal.main_arg4) = m ((c.tc : Thread Cert.KernelUpdateIn3Ideal.nD Cert.KernelUpdateIn3Ideal.τ).loc Cert.KernelUpdateIn3Ideal.main_arg4)
      ∧ m' ((c.tc : Thread Cert.ReferenceUpdateIn3Ideal.nD Cert.ReferenceUpdateIn3Ideal.τ).loc Cert.ReferenceUpdateIn3Ideal.main_arg5) = m ((c.tc : Thread Cert.KernelUpdateIn3Ideal.nD Cert.KernelUpdateIn3Ideal.τ).loc Cert.KernelUpdateIn3Ideal.main_arg5)
      ∧ m' ((c.tc : Thread Cert.ReferenceUpdateIn3Ideal.nD Cert.ReferenceUpdateIn3Ideal.τ).loc Cert.ReferenceUpdateIn3Ideal.main_arg6) = m ((c.tc : Thread Cert.KernelUpdateIn3Ideal.nD Cert.KernelUpdateIn3Ideal.τ).loc Cert.KernelUpdateIn3Ideal.main_arg6)
      ∧ m' ((c.tc : Thread Cert.ReferenceUpdateIn3Ideal.nD Cert.ReferenceUpdateIn3Ideal.τ).loc Cert.ReferenceUpdateIn3Ideal.main_arg7) = m ((c.tc : Thread Cert.KernelUpdateIn3Ideal.nD Cert.KernelUpdateIn3Ideal.τ).loc Cert.KernelUpdateIn3Ideal.main_arg7)) →
    ∃ (v0 : (c : Dev Cert.KernelUpdateIn3Ideal.nD) → Buf (Elt Ideal) ((c.tc : Thread Cert.KernelUpdateIn3Ideal.nD Cert.KernelUpdateIn3Ideal.τ).loc Cert.KernelUpdateIn3Ideal.main_v0_0)) (v1 : (c : Dev Cert.KernelUpdateIn3Ideal.nD) → Buf (Elt Ideal) ((c.tc : Thread Cert.KernelUpdateIn3Ideal.nD Cert.KernelUpdateIn3Ideal.τ).loc Cert.KernelUpdateIn3Ideal.main_v0_1)) (v2 : (c : Dev Cert.KernelUpdateIn3Ideal.nD) → Buf (Elt Ideal) ((c.tc : Thread Cert.KernelUpdateIn3Ideal.nD Cert.KernelUpdateIn3Ideal.τ).loc Cert.KernelUpdateIn3Ideal.main_v0_2)) (v3 : (c : Dev Cert.KernelUpdateIn3Ideal.nD) → Buf (Elt Ideal) ((c.tc : Thread Cert.KernelUpdateIn3Ideal.nD Cert.KernelUpdateIn3Ideal.τ).loc Cert.KernelUpdateIn3Ideal.main_v0_3)),
      θ_run (Cert.KernelUpdateIn3Ideal.defs (F := Ideal)) (onTc (τ := Cert.KernelUpdateIn3Ideal.τ) (Cert.KernelUpdateIn3Ideal.main (F := Ideal))) ⟨m, fun _ => 0, g⟩ (fun r => ∀ c : Dev Cert.KernelUpdateIn3Ideal.nD,
          r.2.mem ((c.tc : Thread Cert.KernelUpdateIn3Ideal.nD Cert.KernelUpdateIn3Ideal.τ).loc Cert.KernelUpdateIn3Ideal.main_v0_0) = v0 c
          ∧ r.2.mem ((c.tc : Thread Cert.KernelUpdateIn3Ideal.nD Cert.KernelUpdateIn3Ideal.τ).loc Cert.KernelUpdateIn3Ideal.main_v0_1) = v1 c
          ∧ r.2.mem ((c.tc : Thread Cert.KernelUpdateIn3Ideal.nD Cert.KernelUpdateIn3Ideal.τ).loc Cert.KernelUpdateIn3Ideal.main_v0_2) = v2 c
          ∧ r.2.mem ((c.tc : Thread Cert.KernelUpdateIn3Ideal.nD Cert.KernelUpdateIn3Ideal.τ).loc Cert.KernelUpdateIn3Ideal.main_v0_3) = v3 c
          ∧ r.2.mem ((c.tc : Thread Cert.KernelUpdateIn3Ideal.nD Cert.KernelUpdateIn3Ideal.τ).loc Cert.KernelUpdateIn3Ideal.main_arg0) = m ((c.tc : Thread Cert.KernelUpdateIn3Ideal.nD Cert.KernelUpdateIn3Ideal.τ).loc Cert.KernelUpdateIn3Ideal.main_arg0)
          ∧ r.2.mem ((c.tc : Thread Cert.KernelUpdateIn3Ideal.nD Cert.KernelUpdateIn3Ideal.τ).loc Cert.KernelUpdateIn3Ideal.main_arg1) = m ((c.tc : Thread Cert.KernelUpdateIn3Ideal.nD Cert.KernelUpdateIn3Ideal.τ).loc Cert.KernelUpdateIn3Ideal.main_arg1)
          ∧ r.2.mem ((c.tc : Thread Cert.KernelUpdateIn3Ideal.nD Cert.KernelUpdateIn3Ideal.τ).loc Cert.KernelUpdateIn3Ideal.main_arg2) = m ((c.tc : Thread Cert.KernelUpdateIn3Ideal.nD Cert.KernelUpdateIn3Ideal.τ).loc Cert.KernelUpdateIn3Ideal.main_arg2)
          ∧ r.2.mem ((c.tc : Thread Cert.KernelUpdateIn3Ideal.nD Cert.KernelUpdateIn3Ideal.τ).loc Cert.KernelUpdateIn3Ideal.main_arg3) = m ((c.tc : Thread Cert.KernelUpdateIn3Ideal.nD Cert.KernelUpdateIn3Ideal.τ).loc Cert.KernelUpdateIn3Ideal.main_arg3)
          ∧ r.2.mem ((c.tc : Thread Cert.KernelUpdateIn3Ideal.nD Cert.KernelUpdateIn3Ideal.τ).loc Cert.KernelUpdateIn3Ideal.main_arg4) = m ((c.tc : Thread Cert.KernelUpdateIn3Ideal.nD Cert.KernelUpdateIn3Ideal.τ).loc Cert.KernelUpdateIn3Ideal.main_arg4)
          ∧ r.2.mem ((c.tc : Thread Cert.KernelUpdateIn3Ideal.nD Cert.KernelUpdateIn3Ideal.τ).loc Cert.KernelUpdateIn3Ideal.main_arg5) = m ((c.tc : Thread Cert.KernelUpdateIn3Ideal.nD Cert.KernelUpdateIn3Ideal.τ).loc Cert.KernelUpdateIn3Ideal.main_arg5)
          ∧ r.2.mem ((c.tc : Thread Cert.KernelUpdateIn3Ideal.nD Cert.KernelUpdateIn3Ideal.τ).loc Cert.KernelUpdateIn3Ideal.main_arg6) = m ((c.tc : Thread Cert.KernelUpdateIn3Ideal.nD Cert.KernelUpdateIn3Ideal.τ).loc Cert.KernelUpdateIn3Ideal.main_arg6)
          ∧ r.2.mem ((c.tc : Thread Cert.KernelUpdateIn3Ideal.nD Cert.KernelUpdateIn3Ideal.τ).loc Cert.KernelUpdateIn3Ideal.main_arg7) = m ((c.tc : Thread Cert.KernelUpdateIn3Ideal.nD Cert.KernelUpdateIn3Ideal.τ).loc Cert.KernelUpdateIn3Ideal.main_arg7))
      ∧ θ_run (Cert.ReferenceUpdateIn3Ideal.defs (F := Ideal)) (onTc (τ := Cert.ReferenceUpdateIn3Ideal.τ) (Cert.ReferenceUpdateIn3Ideal.main (F := Ideal))) ⟨m', fun _ => 0, g'⟩ (fun r => ∀ c : Dev Cert.ReferenceUpdateIn3Ideal.nD,
          r.2.mem ((c.tc : Thread Cert.ReferenceUpdateIn3Ideal.nD Cert.ReferenceUpdateIn3Ideal.τ).loc Cert.ReferenceUpdateIn3Ideal.main_v35) = v0 c
          ∧ r.2.mem ((c.tc : Thread Cert.ReferenceUpdateIn3Ideal.nD Cert.ReferenceUpdateIn3Ideal.τ).loc Cert.ReferenceUpdateIn3Ideal.main_v39) = v1 c
          ∧ r.2.mem ((c.tc : Thread Cert.ReferenceUpdateIn3Ideal.nD Cert.ReferenceUpdateIn3Ideal.τ).loc Cert.ReferenceUpdateIn3Ideal.main_v43) = v2 c
          ∧ r.2.mem ((c.tc : Thread Cert.ReferenceUpdateIn3Ideal.nD Cert.ReferenceUpdateIn3Ideal.τ).loc Cert.ReferenceUpdateIn3Ideal.main_v47) = v3 c
          ∧ r.2.mem ((c.tc : Thread Cert.ReferenceUpdateIn3Ideal.nD Cert.ReferenceUpdateIn3Ideal.τ).loc Cert.ReferenceUpdateIn3Ideal.main_arg0) = m' ((c.tc : Thread Cert.ReferenceUpdateIn3Ideal.nD Cert.ReferenceUpdateIn3Ideal.τ).loc Cert.ReferenceUpdateIn3Ideal.main_arg0)
          ∧ r.2.mem ((c.tc : Thread Cert.ReferenceUpdateIn3Ideal.nD Cert.ReferenceUpdateIn3Ideal.τ).loc Cert.ReferenceUpdateIn3Ideal.main_arg1) = m' ((c.tc : Thread Cert.ReferenceUpdateIn3Ideal.nD Cert.ReferenceUpdateIn3Ideal.τ).loc Cert.ReferenceUpdateIn3Ideal.main_arg1)
          ∧ r.2.mem ((c.tc : Thread Cert.ReferenceUpdateIn3Ideal.nD Cert.ReferenceUpdateIn3Ideal.τ).loc Cert.ReferenceUpdateIn3Ideal.main_arg2) = m' ((c.tc : Thread Cert.ReferenceUpdateIn3Ideal.nD Cert.ReferenceUpdateIn3Ideal.τ).loc Cert.ReferenceUpdateIn3Ideal.main_arg2)
          ∧ r.2.mem ((c.tc : Thread Cert.ReferenceUpdateIn3Ideal.nD Cert.ReferenceUpdateIn3Ideal.τ).loc Cert.ReferenceUpdateIn3Ideal.main_arg3) = m' ((c.tc : Thread Cert.ReferenceUpdateIn3Ideal.nD Cert.ReferenceUpdateIn3Ideal.τ).loc Cert.ReferenceUpdateIn3Ideal.main_arg3)
          ∧ r.2.mem ((c.tc : Thread Cert.ReferenceUpdateIn3Ideal.nD Cert.ReferenceUpdateIn3Ideal.τ).loc Cert.ReferenceUpdateIn3Ideal.main_arg4) = m' ((c.tc : Thread Cert.ReferenceUpdateIn3Ideal.nD Cert.ReferenceUpdateIn3Ideal.τ).loc Cert.ReferenceUpdateIn3Ideal.main_arg4)
          ∧ r.2.mem ((c.tc : Thread Cert.ReferenceUpdateIn3Ideal.nD Cert.ReferenceUpdateIn3Ideal.τ).loc Cert.ReferenceUpdateIn3Ideal.main_arg5) = m' ((c.tc : Thread Cert.ReferenceUpdateIn3Ideal.nD Cert.ReferenceUpdateIn3Ideal.τ).loc Cert.ReferenceUpdateIn3Ideal.main_arg5)
          ∧ r.2.mem ((c.tc : Thread Cert.ReferenceUpdateIn3Ideal.nD Cert.ReferenceUpdateIn3Ideal.τ).loc Cert.ReferenceUpdateIn3Ideal.main_arg6) = m' ((c.tc : Thread Cert.ReferenceUpdateIn3Ideal.nD Cert.ReferenceUpdateIn3Ideal.τ).loc Cert.ReferenceUpdateIn3Ideal.main_arg6)
          ∧ r.2.mem ((c.tc : Thread Cert.ReferenceUpdateIn3Ideal.nD Cert.ReferenceUpdateIn3Ideal.τ).loc Cert.ReferenceUpdateIn3Ideal.main_arg7) = m' ((c.tc : Thread Cert.ReferenceUpdateIn3Ideal.nD Cert.ReferenceUpdateIn3Ideal.τ).loc Cert.ReferenceUpdateIn3Ideal.main_arg7))

def preserves_KernelUpdateOut3_KernelUpdateOut3Ideal : Prop :=
  True

def algebraic_KernelUpdateOut3Ideal_ReferenceUpdateOut3Ideal [hKernelUpdateOut3Ideal : Cert.KernelUpdateOut3Ideal.Facts] [hReferenceUpdateOut3Ideal : Cert.ReferenceUpdateOut3Ideal.Facts] : Prop :=
  ∀ (m : (ℓ : Loc Cert.KernelUpdateOut3Ideal.nD Cert.KernelUpdateOut3Ideal.τ Cert.KernelUpdateOut3Ideal.sig) → Buf (Elt Ideal) ℓ) (g : Dev Cert.KernelUpdateOut3Ideal.nD → PrngReg)
    (m' : (ℓ : Loc Cert.ReferenceUpdateOut3Ideal.nD Cert.ReferenceUpdateOut3Ideal.τ Cert.ReferenceUpdateOut3Ideal.sig) → Buf (Elt Ideal) ℓ) (g' : Dev Cert.ReferenceUpdateOut3Ideal.nD → PrngReg), Pre_KernelUpdateOut3Ideal m →
    (∀ c : Dev Cert.KernelUpdateOut3Ideal.nD,
      m' ((c.tc : Thread Cert.ReferenceUpdateOut3Ideal.nD Cert.ReferenceUpdateOut3Ideal.τ).loc Cert.ReferenceUpdateOut3Ideal.main_arg0) = m ((c.tc : Thread Cert.KernelUpdateOut3Ideal.nD Cert.KernelUpdateOut3Ideal.τ).loc Cert.KernelUpdateOut3Ideal.main_arg0)
      ∧ m' ((c.tc : Thread Cert.ReferenceUpdateOut3Ideal.nD Cert.ReferenceUpdateOut3Ideal.τ).loc Cert.ReferenceUpdateOut3Ideal.main_arg1) = m ((c.tc : Thread Cert.KernelUpdateOut3Ideal.nD Cert.KernelUpdateOut3Ideal.τ).loc Cert.KernelUpdateOut3Ideal.main_arg1)
      ∧ m' ((c.tc : Thread Cert.ReferenceUpdateOut3Ideal.nD Cert.ReferenceUpdateOut3Ideal.τ).loc Cert.ReferenceUpdateOut3Ideal.main_arg2) = m ((c.tc : Thread Cert.KernelUpdateOut3Ideal.nD Cert.KernelUpdateOut3Ideal.τ).loc Cert.KernelUpdateOut3Ideal.main_arg2)
      ∧ m' ((c.tc : Thread Cert.ReferenceUpdateOut3Ideal.nD Cert.ReferenceUpdateOut3Ideal.τ).loc Cert.ReferenceUpdateOut3Ideal.main_arg3) = m ((c.tc : Thread Cert.KernelUpdateOut3Ideal.nD Cert.KernelUpdateOut3Ideal.τ).loc Cert.KernelUpdateOut3Ideal.main_arg3)
      ∧ m' ((c.tc : Thread Cert.ReferenceUpdateOut3Ideal.nD Cert.ReferenceUpdateOut3Ideal.τ).loc Cert.ReferenceUpdateOut3Ideal.main_arg4) = m ((c.tc : Thread Cert.KernelUpdateOut3Ideal.nD Cert.KernelUpdateOut3Ideal.τ).loc Cert.KernelUpdateOut3Ideal.main_arg4)
      ∧ m' ((c.tc : Thread Cert.ReferenceUpdateOut3Ideal.nD Cert.ReferenceUpdateOut3Ideal.τ).loc Cert.ReferenceUpdateOut3Ideal.main_arg5) = m ((c.tc : Thread Cert.KernelUpdateOut3Ideal.nD Cert.KernelUpdateOut3Ideal.τ).loc Cert.KernelUpdateOut3Ideal.main_arg5)
      ∧ m' ((c.tc : Thread Cert.ReferenceUpdateOut3Ideal.nD Cert.ReferenceUpdateOut3Ideal.τ).loc Cert.ReferenceUpdateOut3Ideal.main_arg6) = m ((c.tc : Thread Cert.KernelUpdateOut3Ideal.nD Cert.KernelUpdateOut3Ideal.τ).loc Cert.KernelUpdateOut3Ideal.main_arg6)
      ∧ m' ((c.tc : Thread Cert.ReferenceUpdateOut3Ideal.nD Cert.ReferenceUpdateOut3Ideal.τ).loc Cert.ReferenceUpdateOut3Ideal.main_arg7) = m ((c.tc : Thread Cert.KernelUpdateOut3Ideal.nD Cert.KernelUpdateOut3Ideal.τ).loc Cert.KernelUpdateOut3Ideal.main_arg7)) →
    ∃ (v0 : (c : Dev Cert.KernelUpdateOut3Ideal.nD) → Buf (Elt Ideal) ((c.tc : Thread Cert.KernelUpdateOut3Ideal.nD Cert.KernelUpdateOut3Ideal.τ).loc Cert.KernelUpdateOut3Ideal.main_v0_0)) (v1 : (c : Dev Cert.KernelUpdateOut3Ideal.nD) → Buf (Elt Ideal) ((c.tc : Thread Cert.KernelUpdateOut3Ideal.nD Cert.KernelUpdateOut3Ideal.τ).loc Cert.KernelUpdateOut3Ideal.main_v0_1)) (v2 : (c : Dev Cert.KernelUpdateOut3Ideal.nD) → Buf (Elt Ideal) ((c.tc : Thread Cert.KernelUpdateOut3Ideal.nD Cert.KernelUpdateOut3Ideal.τ).loc Cert.KernelUpdateOut3Ideal.main_v0_2)) (v3 : (c : Dev Cert.KernelUpdateOut3Ideal.nD) → Buf (Elt Ideal) ((c.tc : Thread Cert.KernelUpdateOut3Ideal.nD Cert.KernelUpdateOut3Ideal.τ).loc Cert.KernelUpdateOut3Ideal.main_v0_3)),
      θ_run (Cert.KernelUpdateOut3Ideal.defs (F := Ideal)) (onTc (τ := Cert.KernelUpdateOut3Ideal.τ) (Cert.KernelUpdateOut3Ideal.main (F := Ideal))) ⟨m, fun _ => 0, g⟩ (fun r => ∀ c : Dev Cert.KernelUpdateOut3Ideal.nD,
          r.2.mem ((c.tc : Thread Cert.KernelUpdateOut3Ideal.nD Cert.KernelUpdateOut3Ideal.τ).loc Cert.KernelUpdateOut3Ideal.main_v0_0) = v0 c
          ∧ r.2.mem ((c.tc : Thread Cert.KernelUpdateOut3Ideal.nD Cert.KernelUpdateOut3Ideal.τ).loc Cert.KernelUpdateOut3Ideal.main_v0_1) = v1 c
          ∧ r.2.mem ((c.tc : Thread Cert.KernelUpdateOut3Ideal.nD Cert.KernelUpdateOut3Ideal.τ).loc Cert.KernelUpdateOut3Ideal.main_v0_2) = v2 c
          ∧ r.2.mem ((c.tc : Thread Cert.KernelUpdateOut3Ideal.nD Cert.KernelUpdateOut3Ideal.τ).loc Cert.KernelUpdateOut3Ideal.main_v0_3) = v3 c
          ∧ r.2.mem ((c.tc : Thread Cert.KernelUpdateOut3Ideal.nD Cert.KernelUpdateOut3Ideal.τ).loc Cert.KernelUpdateOut3Ideal.main_arg0) = m ((c.tc : Thread Cert.KernelUpdateOut3Ideal.nD Cert.KernelUpdateOut3Ideal.τ).loc Cert.KernelUpdateOut3Ideal.main_arg0)
          ∧ r.2.mem ((c.tc : Thread Cert.KernelUpdateOut3Ideal.nD Cert.KernelUpdateOut3Ideal.τ).loc Cert.KernelUpdateOut3Ideal.main_arg1) = m ((c.tc : Thread Cert.KernelUpdateOut3Ideal.nD Cert.KernelUpdateOut3Ideal.τ).loc Cert.KernelUpdateOut3Ideal.main_arg1)
          ∧ r.2.mem ((c.tc : Thread Cert.KernelUpdateOut3Ideal.nD Cert.KernelUpdateOut3Ideal.τ).loc Cert.KernelUpdateOut3Ideal.main_arg2) = m ((c.tc : Thread Cert.KernelUpdateOut3Ideal.nD Cert.KernelUpdateOut3Ideal.τ).loc Cert.KernelUpdateOut3Ideal.main_arg2)
          ∧ r.2.mem ((c.tc : Thread Cert.KernelUpdateOut3Ideal.nD Cert.KernelUpdateOut3Ideal.τ).loc Cert.KernelUpdateOut3Ideal.main_arg3) = m ((c.tc : Thread Cert.KernelUpdateOut3Ideal.nD Cert.KernelUpdateOut3Ideal.τ).loc Cert.KernelUpdateOut3Ideal.main_arg3)
          ∧ r.2.mem ((c.tc : Thread Cert.KernelUpdateOut3Ideal.nD Cert.KernelUpdateOut3Ideal.τ).loc Cert.KernelUpdateOut3Ideal.main_arg4) = m ((c.tc : Thread Cert.KernelUpdateOut3Ideal.nD Cert.KernelUpdateOut3Ideal.τ).loc Cert.KernelUpdateOut3Ideal.main_arg4)
          ∧ r.2.mem ((c.tc : Thread Cert.KernelUpdateOut3Ideal.nD Cert.KernelUpdateOut3Ideal.τ).loc Cert.KernelUpdateOut3Ideal.main_arg5) = m ((c.tc : Thread Cert.KernelUpdateOut3Ideal.nD Cert.KernelUpdateOut3Ideal.τ).loc Cert.KernelUpdateOut3Ideal.main_arg5)
          ∧ r.2.mem ((c.tc : Thread Cert.KernelUpdateOut3Ideal.nD Cert.KernelUpdateOut3Ideal.τ).loc Cert.KernelUpdateOut3Ideal.main_arg6) = m ((c.tc : Thread Cert.KernelUpdateOut3Ideal.nD Cert.KernelUpdateOut3Ideal.τ).loc Cert.KernelUpdateOut3Ideal.main_arg6)
          ∧ r.2.mem ((c.tc : Thread Cert.KernelUpdateOut3Ideal.nD Cert.KernelUpdateOut3Ideal.τ).loc Cert.KernelUpdateOut3Ideal.main_arg7) = m ((c.tc : Thread Cert.KernelUpdateOut3Ideal.nD Cert.KernelUpdateOut3Ideal.τ).loc Cert.KernelUpdateOut3Ideal.main_arg7))
      ∧ θ_run (Cert.ReferenceUpdateOut3Ideal.defs (F := Ideal)) (onTc (τ := Cert.ReferenceUpdateOut3Ideal.τ) (Cert.ReferenceUpdateOut3Ideal.main (F := Ideal))) ⟨m', fun _ => 0, g'⟩ (fun r => ∀ c : Dev Cert.ReferenceUpdateOut3Ideal.nD,
          r.2.mem ((c.tc : Thread Cert.ReferenceUpdateOut3Ideal.nD Cert.ReferenceUpdateOut3Ideal.τ).loc Cert.ReferenceUpdateOut3Ideal.main_v35) = v0 c
          ∧ r.2.mem ((c.tc : Thread Cert.ReferenceUpdateOut3Ideal.nD Cert.ReferenceUpdateOut3Ideal.τ).loc Cert.ReferenceUpdateOut3Ideal.main_v39) = v1 c
          ∧ r.2.mem ((c.tc : Thread Cert.ReferenceUpdateOut3Ideal.nD Cert.ReferenceUpdateOut3Ideal.τ).loc Cert.ReferenceUpdateOut3Ideal.main_v43) = v2 c
          ∧ r.2.mem ((c.tc : Thread Cert.ReferenceUpdateOut3Ideal.nD Cert.ReferenceUpdateOut3Ideal.τ).loc Cert.ReferenceUpdateOut3Ideal.main_v47) = v3 c
          ∧ r.2.mem ((c.tc : Thread Cert.ReferenceUpdateOut3Ideal.nD Cert.ReferenceUpdateOut3Ideal.τ).loc Cert.ReferenceUpdateOut3Ideal.main_arg0) = m' ((c.tc : Thread Cert.ReferenceUpdateOut3Ideal.nD Cert.ReferenceUpdateOut3Ideal.τ).loc Cert.ReferenceUpdateOut3Ideal.main_arg0)
          ∧ r.2.mem ((c.tc : Thread Cert.ReferenceUpdateOut3Ideal.nD Cert.ReferenceUpdateOut3Ideal.τ).loc Cert.ReferenceUpdateOut3Ideal.main_arg1) = m' ((c.tc : Thread Cert.ReferenceUpdateOut3Ideal.nD Cert.ReferenceUpdateOut3Ideal.τ).loc Cert.ReferenceUpdateOut3Ideal.main_arg1)
          ∧ r.2.mem ((c.tc : Thread Cert.ReferenceUpdateOut3Ideal.nD Cert.ReferenceUpdateOut3Ideal.τ).loc Cert.ReferenceUpdateOut3Ideal.main_arg2) = m' ((c.tc : Thread Cert.ReferenceUpdateOut3Ideal.nD Cert.ReferenceUpdateOut3Ideal.τ).loc Cert.ReferenceUpdateOut3Ideal.main_arg2)
          ∧ r.2.mem ((c.tc : Thread Cert.ReferenceUpdateOut3Ideal.nD Cert.ReferenceUpdateOut3Ideal.τ).loc Cert.ReferenceUpdateOut3Ideal.main_arg3) = m' ((c.tc : Thread Cert.ReferenceUpdateOut3Ideal.nD Cert.ReferenceUpdateOut3Ideal.τ).loc Cert.ReferenceUpdateOut3Ideal.main_arg3)
          ∧ r.2.mem ((c.tc : Thread Cert.ReferenceUpdateOut3Ideal.nD Cert.ReferenceUpdateOut3Ideal.τ).loc Cert.ReferenceUpdateOut3Ideal.main_arg4) = m' ((c.tc : Thread Cert.ReferenceUpdateOut3Ideal.nD Cert.ReferenceUpdateOut3Ideal.τ).loc Cert.ReferenceUpdateOut3Ideal.main_arg4)
          ∧ r.2.mem ((c.tc : Thread Cert.ReferenceUpdateOut3Ideal.nD Cert.ReferenceUpdateOut3Ideal.τ).loc Cert.ReferenceUpdateOut3Ideal.main_arg5) = m' ((c.tc : Thread Cert.ReferenceUpdateOut3Ideal.nD Cert.ReferenceUpdateOut3Ideal.τ).loc Cert.ReferenceUpdateOut3Ideal.main_arg5)
          ∧ r.2.mem ((c.tc : Thread Cert.ReferenceUpdateOut3Ideal.nD Cert.ReferenceUpdateOut3Ideal.τ).loc Cert.ReferenceUpdateOut3Ideal.main_arg6) = m' ((c.tc : Thread Cert.ReferenceUpdateOut3Ideal.nD Cert.ReferenceUpdateOut3Ideal.τ).loc Cert.ReferenceUpdateOut3Ideal.main_arg6)
          ∧ r.2.mem ((c.tc : Thread Cert.ReferenceUpdateOut3Ideal.nD Cert.ReferenceUpdateOut3Ideal.τ).loc Cert.ReferenceUpdateOut3Ideal.main_arg7) = m' ((c.tc : Thread Cert.ReferenceUpdateOut3Ideal.nD Cert.ReferenceUpdateOut3Ideal.τ).loc Cert.ReferenceUpdateOut3Ideal.main_arg7))

def preserves_KernelUpdateUp3_KernelUpdateUp3Ideal : Prop :=
  True

def algebraic_KernelUpdateUp3Ideal_ReferenceUpdateUp3Ideal [hKernelUpdateUp3Ideal : Cert.KernelUpdateUp3Ideal.Facts] [hReferenceUpdateUp3Ideal : Cert.ReferenceUpdateUp3Ideal.Facts] : Prop :=
  ∀ (m : (ℓ : Loc Cert.KernelUpdateUp3Ideal.nD Cert.KernelUpdateUp3Ideal.τ Cert.KernelUpdateUp3Ideal.sig) → Buf (Elt Ideal) ℓ) (g : Dev Cert.KernelUpdateUp3Ideal.nD → PrngReg)
    (m' : (ℓ : Loc Cert.ReferenceUpdateUp3Ideal.nD Cert.ReferenceUpdateUp3Ideal.τ Cert.ReferenceUpdateUp3Ideal.sig) → Buf (Elt Ideal) ℓ) (g' : Dev Cert.ReferenceUpdateUp3Ideal.nD → PrngReg), Pre_KernelUpdateUp3Ideal m →
    (∀ c : Dev Cert.KernelUpdateUp3Ideal.nD,
      m' ((c.tc : Thread Cert.ReferenceUpdateUp3Ideal.nD Cert.ReferenceUpdateUp3Ideal.τ).loc Cert.ReferenceUpdateUp3Ideal.main_arg0) = m ((c.tc : Thread Cert.KernelUpdateUp3Ideal.nD Cert.KernelUpdateUp3Ideal.τ).loc Cert.KernelUpdateUp3Ideal.main_arg0)
      ∧ m' ((c.tc : Thread Cert.ReferenceUpdateUp3Ideal.nD Cert.ReferenceUpdateUp3Ideal.τ).loc Cert.ReferenceUpdateUp3Ideal.main_arg1) = m ((c.tc : Thread Cert.KernelUpdateUp3Ideal.nD Cert.KernelUpdateUp3Ideal.τ).loc Cert.KernelUpdateUp3Ideal.main_arg1)
      ∧ m' ((c.tc : Thread Cert.ReferenceUpdateUp3Ideal.nD Cert.ReferenceUpdateUp3Ideal.τ).loc Cert.ReferenceUpdateUp3Ideal.main_arg2) = m ((c.tc : Thread Cert.KernelUpdateUp3Ideal.nD Cert.KernelUpdateUp3Ideal.τ).loc Cert.KernelUpdateUp3Ideal.main_arg2)
      ∧ m' ((c.tc : Thread Cert.ReferenceUpdateUp3Ideal.nD Cert.ReferenceUpdateUp3Ideal.τ).loc Cert.ReferenceUpdateUp3Ideal.main_arg3) = m ((c.tc : Thread Cert.KernelUpdateUp3Ideal.nD Cert.KernelUpdateUp3Ideal.τ).loc Cert.KernelUpdateUp3Ideal.main_arg3)
      ∧ m' ((c.tc : Thread Cert.ReferenceUpdateUp3Ideal.nD Cert.ReferenceUpdateUp3Ideal.τ).loc Cert.ReferenceUpdateUp3Ideal.main_arg4) = m ((c.tc : Thread Cert.KernelUpdateUp3Ideal.nD Cert.KernelUpdateUp3Ideal.τ).loc Cert.KernelUpdateUp3Ideal.main_arg4)
      ∧ m' ((c.tc : Thread Cert.ReferenceUpdateUp3Ideal.nD Cert.ReferenceUpdateUp3Ideal.τ).loc Cert.ReferenceUpdateUp3Ideal.main_arg5) = m ((c.tc : Thread Cert.KernelUpdateUp3Ideal.nD Cert.KernelUpdateUp3Ideal.τ).loc Cert.KernelUpdateUp3Ideal.main_arg5)
      ∧ m' ((c.tc : Thread Cert.ReferenceUpdateUp3Ideal.nD Cert.ReferenceUpdateUp3Ideal.τ).loc Cert.ReferenceUpdateUp3Ideal.main_arg6) = m ((c.tc : Thread Cert.KernelUpdateUp3Ideal.nD Cert.KernelUpdateUp3Ideal.τ).loc Cert.KernelUpdateUp3Ideal.main_arg6)
      ∧ m' ((c.tc : Thread Cert.ReferenceUpdateUp3Ideal.nD Cert.ReferenceUpdateUp3Ideal.τ).loc Cert.ReferenceUpdateUp3Ideal.main_arg7) = m ((c.tc : Thread Cert.KernelUpdateUp3Ideal.nD Cert.KernelUpdateUp3Ideal.τ).loc Cert.KernelUpdateUp3Ideal.main_arg7)) →
    ∃ (v0 : (c : Dev Cert.KernelUpdateUp3Ideal.nD) → Buf (Elt Ideal) ((c.tc : Thread Cert.KernelUpdateUp3Ideal.nD Cert.KernelUpdateUp3Ideal.τ).loc Cert.KernelUpdateUp3Ideal.main_v0_0)) (v1 : (c : Dev Cert.KernelUpdateUp3Ideal.nD) → Buf (Elt Ideal) ((c.tc : Thread Cert.KernelUpdateUp3Ideal.nD Cert.KernelUpdateUp3Ideal.τ).loc Cert.KernelUpdateUp3Ideal.main_v0_1)) (v2 : (c : Dev Cert.KernelUpdateUp3Ideal.nD) → Buf (Elt Ideal) ((c.tc : Thread Cert.KernelUpdateUp3Ideal.nD Cert.KernelUpdateUp3Ideal.τ).loc Cert.KernelUpdateUp3Ideal.main_v0_2)) (v3 : (c : Dev Cert.KernelUpdateUp3Ideal.nD) → Buf (Elt Ideal) ((c.tc : Thread Cert.KernelUpdateUp3Ideal.nD Cert.KernelUpdateUp3Ideal.τ).loc Cert.KernelUpdateUp3Ideal.main_v0_3)),
      θ_run (Cert.KernelUpdateUp3Ideal.defs (F := Ideal)) (onTc (τ := Cert.KernelUpdateUp3Ideal.τ) (Cert.KernelUpdateUp3Ideal.main (F := Ideal))) ⟨m, fun _ => 0, g⟩ (fun r => ∀ c : Dev Cert.KernelUpdateUp3Ideal.nD,
          r.2.mem ((c.tc : Thread Cert.KernelUpdateUp3Ideal.nD Cert.KernelUpdateUp3Ideal.τ).loc Cert.KernelUpdateUp3Ideal.main_v0_0) = v0 c
          ∧ r.2.mem ((c.tc : Thread Cert.KernelUpdateUp3Ideal.nD Cert.KernelUpdateUp3Ideal.τ).loc Cert.KernelUpdateUp3Ideal.main_v0_1) = v1 c
          ∧ r.2.mem ((c.tc : Thread Cert.KernelUpdateUp3Ideal.nD Cert.KernelUpdateUp3Ideal.τ).loc Cert.KernelUpdateUp3Ideal.main_v0_2) = v2 c
          ∧ r.2.mem ((c.tc : Thread Cert.KernelUpdateUp3Ideal.nD Cert.KernelUpdateUp3Ideal.τ).loc Cert.KernelUpdateUp3Ideal.main_v0_3) = v3 c
          ∧ r.2.mem ((c.tc : Thread Cert.KernelUpdateUp3Ideal.nD Cert.KernelUpdateUp3Ideal.τ).loc Cert.KernelUpdateUp3Ideal.main_arg0) = m ((c.tc : Thread Cert.KernelUpdateUp3Ideal.nD Cert.KernelUpdateUp3Ideal.τ).loc Cert.KernelUpdateUp3Ideal.main_arg0)
          ∧ r.2.mem ((c.tc : Thread Cert.KernelUpdateUp3Ideal.nD Cert.KernelUpdateUp3Ideal.τ).loc Cert.KernelUpdateUp3Ideal.main_arg1) = m ((c.tc : Thread Cert.KernelUpdateUp3Ideal.nD Cert.KernelUpdateUp3Ideal.τ).loc Cert.KernelUpdateUp3Ideal.main_arg1)
          ∧ r.2.mem ((c.tc : Thread Cert.KernelUpdateUp3Ideal.nD Cert.KernelUpdateUp3Ideal.τ).loc Cert.KernelUpdateUp3Ideal.main_arg2) = m ((c.tc : Thread Cert.KernelUpdateUp3Ideal.nD Cert.KernelUpdateUp3Ideal.τ).loc Cert.KernelUpdateUp3Ideal.main_arg2)
          ∧ r.2.mem ((c.tc : Thread Cert.KernelUpdateUp3Ideal.nD Cert.KernelUpdateUp3Ideal.τ).loc Cert.KernelUpdateUp3Ideal.main_arg3) = m ((c.tc : Thread Cert.KernelUpdateUp3Ideal.nD Cert.KernelUpdateUp3Ideal.τ).loc Cert.KernelUpdateUp3Ideal.main_arg3)
          ∧ r.2.mem ((c.tc : Thread Cert.KernelUpdateUp3Ideal.nD Cert.KernelUpdateUp3Ideal.τ).loc Cert.KernelUpdateUp3Ideal.main_arg4) = m ((c.tc : Thread Cert.KernelUpdateUp3Ideal.nD Cert.KernelUpdateUp3Ideal.τ).loc Cert.KernelUpdateUp3Ideal.main_arg4)
          ∧ r.2.mem ((c.tc : Thread Cert.KernelUpdateUp3Ideal.nD Cert.KernelUpdateUp3Ideal.τ).loc Cert.KernelUpdateUp3Ideal.main_arg5) = m ((c.tc : Thread Cert.KernelUpdateUp3Ideal.nD Cert.KernelUpdateUp3Ideal.τ).loc Cert.KernelUpdateUp3Ideal.main_arg5)
          ∧ r.2.mem ((c.tc : Thread Cert.KernelUpdateUp3Ideal.nD Cert.KernelUpdateUp3Ideal.τ).loc Cert.KernelUpdateUp3Ideal.main_arg6) = m ((c.tc : Thread Cert.KernelUpdateUp3Ideal.nD Cert.KernelUpdateUp3Ideal.τ).loc Cert.KernelUpdateUp3Ideal.main_arg6)
          ∧ r.2.mem ((c.tc : Thread Cert.KernelUpdateUp3Ideal.nD Cert.KernelUpdateUp3Ideal.τ).loc Cert.KernelUpdateUp3Ideal.main_arg7) = m ((c.tc : Thread Cert.KernelUpdateUp3Ideal.nD Cert.KernelUpdateUp3Ideal.τ).loc Cert.KernelUpdateUp3Ideal.main_arg7))
      ∧ θ_run (Cert.ReferenceUpdateUp3Ideal.defs (F := Ideal)) (onTc (τ := Cert.ReferenceUpdateUp3Ideal.τ) (Cert.ReferenceUpdateUp3Ideal.main (F := Ideal))) ⟨m', fun _ => 0, g'⟩ (fun r => ∀ c : Dev Cert.ReferenceUpdateUp3Ideal.nD,
          r.2.mem ((c.tc : Thread Cert.ReferenceUpdateUp3Ideal.nD Cert.ReferenceUpdateUp3Ideal.τ).loc Cert.ReferenceUpdateUp3Ideal.main_v35) = v0 c
          ∧ r.2.mem ((c.tc : Thread Cert.ReferenceUpdateUp3Ideal.nD Cert.ReferenceUpdateUp3Ideal.τ).loc Cert.ReferenceUpdateUp3Ideal.main_v39) = v1 c
          ∧ r.2.mem ((c.tc : Thread Cert.ReferenceUpdateUp3Ideal.nD Cert.ReferenceUpdateUp3Ideal.τ).loc Cert.ReferenceUpdateUp3Ideal.main_v43) = v2 c
          ∧ r.2.mem ((c.tc : Thread Cert.ReferenceUpdateUp3Ideal.nD Cert.ReferenceUpdateUp3Ideal.τ).loc Cert.ReferenceUpdateUp3Ideal.main_v47) = v3 c
          ∧ r.2.mem ((c.tc : Thread Cert.ReferenceUpdateUp3Ideal.nD Cert.ReferenceUpdateUp3Ideal.τ).loc Cert.ReferenceUpdateUp3Ideal.main_arg0) = m' ((c.tc : Thread Cert.ReferenceUpdateUp3Ideal.nD Cert.ReferenceUpdateUp3Ideal.τ).loc Cert.ReferenceUpdateUp3Ideal.main_arg0)
          ∧ r.2.mem ((c.tc : Thread Cert.ReferenceUpdateUp3Ideal.nD Cert.ReferenceUpdateUp3Ideal.τ).loc Cert.ReferenceUpdateUp3Ideal.main_arg1) = m' ((c.tc : Thread Cert.ReferenceUpdateUp3Ideal.nD Cert.ReferenceUpdateUp3Ideal.τ).loc Cert.ReferenceUpdateUp3Ideal.main_arg1)
          ∧ r.2.mem ((c.tc : Thread Cert.ReferenceUpdateUp3Ideal.nD Cert.ReferenceUpdateUp3Ideal.τ).loc Cert.ReferenceUpdateUp3Ideal.main_arg2) = m' ((c.tc : Thread Cert.ReferenceUpdateUp3Ideal.nD Cert.ReferenceUpdateUp3Ideal.τ).loc Cert.ReferenceUpdateUp3Ideal.main_arg2)
          ∧ r.2.mem ((c.tc : Thread Cert.ReferenceUpdateUp3Ideal.nD Cert.ReferenceUpdateUp3Ideal.τ).loc Cert.ReferenceUpdateUp3Ideal.main_arg3) = m' ((c.tc : Thread Cert.ReferenceUpdateUp3Ideal.nD Cert.ReferenceUpdateUp3Ideal.τ).loc Cert.ReferenceUpdateUp3Ideal.main_arg3)
          ∧ r.2.mem ((c.tc : Thread Cert.ReferenceUpdateUp3Ideal.nD Cert.ReferenceUpdateUp3Ideal.τ).loc Cert.ReferenceUpdateUp3Ideal.main_arg4) = m' ((c.tc : Thread Cert.ReferenceUpdateUp3Ideal.nD Cert.ReferenceUpdateUp3Ideal.τ).loc Cert.ReferenceUpdateUp3Ideal.main_arg4)
          ∧ r.2.mem ((c.tc : Thread Cert.ReferenceUpdateUp3Ideal.nD Cert.ReferenceUpdateUp3Ideal.τ).loc Cert.ReferenceUpdateUp3Ideal.main_arg5) = m' ((c.tc : Thread Cert.ReferenceUpdateUp3Ideal.nD Cert.ReferenceUpdateUp3Ideal.τ).loc Cert.ReferenceUpdateUp3Ideal.main_arg5)
          ∧ r.2.mem ((c.tc : Thread Cert.ReferenceUpdateUp3Ideal.nD Cert.ReferenceUpdateUp3Ideal.τ).loc Cert.ReferenceUpdateUp3Ideal.main_arg6) = m' ((c.tc : Thread Cert.ReferenceUpdateUp3Ideal.nD Cert.ReferenceUpdateUp3Ideal.τ).loc Cert.ReferenceUpdateUp3Ideal.main_arg6)
          ∧ r.2.mem ((c.tc : Thread Cert.ReferenceUpdateUp3Ideal.nD Cert.ReferenceUpdateUp3Ideal.τ).loc Cert.ReferenceUpdateUp3Ideal.main_arg7) = m' ((c.tc : Thread Cert.ReferenceUpdateUp3Ideal.nD Cert.ReferenceUpdateUp3Ideal.τ).loc Cert.ReferenceUpdateUp3Ideal.main_arg7))

def preserves_KernelUpdateDown3_KernelUpdateDown3Ideal : Prop :=
  True

def algebraic_KernelUpdateDown3Ideal_ReferenceUpdateDown3Ideal [hKernelUpdateDown3Ideal : Cert.KernelUpdateDown3Ideal.Facts] [hReferenceUpdateDown3Ideal : Cert.ReferenceUpdateDown3Ideal.Facts] : Prop :=
  ∀ (m : (ℓ : Loc Cert.KernelUpdateDown3Ideal.nD Cert.KernelUpdateDown3Ideal.τ Cert.KernelUpdateDown3Ideal.sig) → Buf (Elt Ideal) ℓ) (g : Dev Cert.KernelUpdateDown3Ideal.nD → PrngReg)
    (m' : (ℓ : Loc Cert.ReferenceUpdateDown3Ideal.nD Cert.ReferenceUpdateDown3Ideal.τ Cert.ReferenceUpdateDown3Ideal.sig) → Buf (Elt Ideal) ℓ) (g' : Dev Cert.ReferenceUpdateDown3Ideal.nD → PrngReg), Pre_KernelUpdateDown3Ideal m →
    (∀ c : Dev Cert.KernelUpdateDown3Ideal.nD,
      m' ((c.tc : Thread Cert.ReferenceUpdateDown3Ideal.nD Cert.ReferenceUpdateDown3Ideal.τ).loc Cert.ReferenceUpdateDown3Ideal.main_arg0) = m ((c.tc : Thread Cert.KernelUpdateDown3Ideal.nD Cert.KernelUpdateDown3Ideal.τ).loc Cert.KernelUpdateDown3Ideal.main_arg0)
      ∧ m' ((c.tc : Thread Cert.ReferenceUpdateDown3Ideal.nD Cert.ReferenceUpdateDown3Ideal.τ).loc Cert.ReferenceUpdateDown3Ideal.main_arg1) = m ((c.tc : Thread Cert.KernelUpdateDown3Ideal.nD Cert.KernelUpdateDown3Ideal.τ).loc Cert.KernelUpdateDown3Ideal.main_arg1)
      ∧ m' ((c.tc : Thread Cert.ReferenceUpdateDown3Ideal.nD Cert.ReferenceUpdateDown3Ideal.τ).loc Cert.ReferenceUpdateDown3Ideal.main_arg2) = m ((c.tc : Thread Cert.KernelUpdateDown3Ideal.nD Cert.KernelUpdateDown3Ideal.τ).loc Cert.KernelUpdateDown3Ideal.main_arg2)
      ∧ m' ((c.tc : Thread Cert.ReferenceUpdateDown3Ideal.nD Cert.ReferenceUpdateDown3Ideal.τ).loc Cert.ReferenceUpdateDown3Ideal.main_arg3) = m ((c.tc : Thread Cert.KernelUpdateDown3Ideal.nD Cert.KernelUpdateDown3Ideal.τ).loc Cert.KernelUpdateDown3Ideal.main_arg3)
      ∧ m' ((c.tc : Thread Cert.ReferenceUpdateDown3Ideal.nD Cert.ReferenceUpdateDown3Ideal.τ).loc Cert.ReferenceUpdateDown3Ideal.main_arg4) = m ((c.tc : Thread Cert.KernelUpdateDown3Ideal.nD Cert.KernelUpdateDown3Ideal.τ).loc Cert.KernelUpdateDown3Ideal.main_arg4)
      ∧ m' ((c.tc : Thread Cert.ReferenceUpdateDown3Ideal.nD Cert.ReferenceUpdateDown3Ideal.τ).loc Cert.ReferenceUpdateDown3Ideal.main_arg5) = m ((c.tc : Thread Cert.KernelUpdateDown3Ideal.nD Cert.KernelUpdateDown3Ideal.τ).loc Cert.KernelUpdateDown3Ideal.main_arg5)
      ∧ m' ((c.tc : Thread Cert.ReferenceUpdateDown3Ideal.nD Cert.ReferenceUpdateDown3Ideal.τ).loc Cert.ReferenceUpdateDown3Ideal.main_arg6) = m ((c.tc : Thread Cert.KernelUpdateDown3Ideal.nD Cert.KernelUpdateDown3Ideal.τ).loc Cert.KernelUpdateDown3Ideal.main_arg6)
      ∧ m' ((c.tc : Thread Cert.ReferenceUpdateDown3Ideal.nD Cert.ReferenceUpdateDown3Ideal.τ).loc Cert.ReferenceUpdateDown3Ideal.main_arg7) = m ((c.tc : Thread Cert.KernelUpdateDown3Ideal.nD Cert.KernelUpdateDown3Ideal.τ).loc Cert.KernelUpdateDown3Ideal.main_arg7)) →
    ∃ (v0 : (c : Dev Cert.KernelUpdateDown3Ideal.nD) → Buf (Elt Ideal) ((c.tc : Thread Cert.KernelUpdateDown3Ideal.nD Cert.KernelUpdateDown3Ideal.τ).loc Cert.KernelUpdateDown3Ideal.main_v0_0)) (v1 : (c : Dev Cert.KernelUpdateDown3Ideal.nD) → Buf (Elt Ideal) ((c.tc : Thread Cert.KernelUpdateDown3Ideal.nD Cert.KernelUpdateDown3Ideal.τ).loc Cert.KernelUpdateDown3Ideal.main_v0_1)) (v2 : (c : Dev Cert.KernelUpdateDown3Ideal.nD) → Buf (Elt Ideal) ((c.tc : Thread Cert.KernelUpdateDown3Ideal.nD Cert.KernelUpdateDown3Ideal.τ).loc Cert.KernelUpdateDown3Ideal.main_v0_2)) (v3 : (c : Dev Cert.KernelUpdateDown3Ideal.nD) → Buf (Elt Ideal) ((c.tc : Thread Cert.KernelUpdateDown3Ideal.nD Cert.KernelUpdateDown3Ideal.τ).loc Cert.KernelUpdateDown3Ideal.main_v0_3)),
      θ_run (Cert.KernelUpdateDown3Ideal.defs (F := Ideal)) (onTc (τ := Cert.KernelUpdateDown3Ideal.τ) (Cert.KernelUpdateDown3Ideal.main (F := Ideal))) ⟨m, fun _ => 0, g⟩ (fun r => ∀ c : Dev Cert.KernelUpdateDown3Ideal.nD,
          r.2.mem ((c.tc : Thread Cert.KernelUpdateDown3Ideal.nD Cert.KernelUpdateDown3Ideal.τ).loc Cert.KernelUpdateDown3Ideal.main_v0_0) = v0 c
          ∧ r.2.mem ((c.tc : Thread Cert.KernelUpdateDown3Ideal.nD Cert.KernelUpdateDown3Ideal.τ).loc Cert.KernelUpdateDown3Ideal.main_v0_1) = v1 c
          ∧ r.2.mem ((c.tc : Thread Cert.KernelUpdateDown3Ideal.nD Cert.KernelUpdateDown3Ideal.τ).loc Cert.KernelUpdateDown3Ideal.main_v0_2) = v2 c
          ∧ r.2.mem ((c.tc : Thread Cert.KernelUpdateDown3Ideal.nD Cert.KernelUpdateDown3Ideal.τ).loc Cert.KernelUpdateDown3Ideal.main_v0_3) = v3 c
          ∧ r.2.mem ((c.tc : Thread Cert.KernelUpdateDown3Ideal.nD Cert.KernelUpdateDown3Ideal.τ).loc Cert.KernelUpdateDown3Ideal.main_arg0) = m ((c.tc : Thread Cert.KernelUpdateDown3Ideal.nD Cert.KernelUpdateDown3Ideal.τ).loc Cert.KernelUpdateDown3Ideal.main_arg0)
          ∧ r.2.mem ((c.tc : Thread Cert.KernelUpdateDown3Ideal.nD Cert.KernelUpdateDown3Ideal.τ).loc Cert.KernelUpdateDown3Ideal.main_arg1) = m ((c.tc : Thread Cert.KernelUpdateDown3Ideal.nD Cert.KernelUpdateDown3Ideal.τ).loc Cert.KernelUpdateDown3Ideal.main_arg1)
          ∧ r.2.mem ((c.tc : Thread Cert.KernelUpdateDown3Ideal.nD Cert.KernelUpdateDown3Ideal.τ).loc Cert.KernelUpdateDown3Ideal.main_arg2) = m ((c.tc : Thread Cert.KernelUpdateDown3Ideal.nD Cert.KernelUpdateDown3Ideal.τ).loc Cert.KernelUpdateDown3Ideal.main_arg2)
          ∧ r.2.mem ((c.tc : Thread Cert.KernelUpdateDown3Ideal.nD Cert.KernelUpdateDown3Ideal.τ).loc Cert.KernelUpdateDown3Ideal.main_arg3) = m ((c.tc : Thread Cert.KernelUpdateDown3Ideal.nD Cert.KernelUpdateDown3Ideal.τ).loc Cert.KernelUpdateDown3Ideal.main_arg3)
          ∧ r.2.mem ((c.tc : Thread Cert.KernelUpdateDown3Ideal.nD Cert.KernelUpdateDown3Ideal.τ).loc Cert.KernelUpdateDown3Ideal.main_arg4) = m ((c.tc : Thread Cert.KernelUpdateDown3Ideal.nD Cert.KernelUpdateDown3Ideal.τ).loc Cert.KernelUpdateDown3Ideal.main_arg4)
          ∧ r.2.mem ((c.tc : Thread Cert.KernelUpdateDown3Ideal.nD Cert.KernelUpdateDown3Ideal.τ).loc Cert.KernelUpdateDown3Ideal.main_arg5) = m ((c.tc : Thread Cert.KernelUpdateDown3Ideal.nD Cert.KernelUpdateDown3Ideal.τ).loc Cert.KernelUpdateDown3Ideal.main_arg5)
          ∧ r.2.mem ((c.tc : Thread Cert.KernelUpdateDown3Ideal.nD Cert.KernelUpdateDown3Ideal.τ).loc Cert.KernelUpdateDown3Ideal.main_arg6) = m ((c.tc : Thread Cert.KernelUpdateDown3Ideal.nD Cert.KernelUpdateDown3Ideal.τ).loc Cert.KernelUpdateDown3Ideal.main_arg6)
          ∧ r.2.mem ((c.tc : Thread Cert.KernelUpdateDown3Ideal.nD Cert.KernelUpdateDown3Ideal.τ).loc Cert.KernelUpdateDown3Ideal.main_arg7) = m ((c.tc : Thread Cert.KernelUpdateDown3Ideal.nD Cert.KernelUpdateDown3Ideal.τ).loc Cert.KernelUpdateDown3Ideal.main_arg7))
      ∧ θ_run (Cert.ReferenceUpdateDown3Ideal.defs (F := Ideal)) (onTc (τ := Cert.ReferenceUpdateDown3Ideal.τ) (Cert.ReferenceUpdateDown3Ideal.main (F := Ideal))) ⟨m', fun _ => 0, g'⟩ (fun r => ∀ c : Dev Cert.ReferenceUpdateDown3Ideal.nD,
          r.2.mem ((c.tc : Thread Cert.ReferenceUpdateDown3Ideal.nD Cert.ReferenceUpdateDown3Ideal.τ).loc Cert.ReferenceUpdateDown3Ideal.main_v35) = v0 c
          ∧ r.2.mem ((c.tc : Thread Cert.ReferenceUpdateDown3Ideal.nD Cert.ReferenceUpdateDown3Ideal.τ).loc Cert.ReferenceUpdateDown3Ideal.main_v39) = v1 c
          ∧ r.2.mem ((c.tc : Thread Cert.ReferenceUpdateDown3Ideal.nD Cert.ReferenceUpdateDown3Ideal.τ).loc Cert.ReferenceUpdateDown3Ideal.main_v43) = v2 c
          ∧ r.2.mem ((c.tc : Thread Cert.ReferenceUpdateDown3Ideal.nD Cert.ReferenceUpdateDown3Ideal.τ).loc Cert.ReferenceUpdateDown3Ideal.main_v47) = v3 c
          ∧ r.2.mem ((c.tc : Thread Cert.ReferenceUpdateDown3Ideal.nD Cert.ReferenceUpdateDown3Ideal.τ).loc Cert.ReferenceUpdateDown3Ideal.main_arg0) = m' ((c.tc : Thread Cert.ReferenceUpdateDown3Ideal.nD Cert.ReferenceUpdateDown3Ideal.τ).loc Cert.ReferenceUpdateDown3Ideal.main_arg0)
          ∧ r.2.mem ((c.tc : Thread Cert.ReferenceUpdateDown3Ideal.nD Cert.ReferenceUpdateDown3Ideal.τ).loc Cert.ReferenceUpdateDown3Ideal.main_arg1) = m' ((c.tc : Thread Cert.ReferenceUpdateDown3Ideal.nD Cert.ReferenceUpdateDown3Ideal.τ).loc Cert.ReferenceUpdateDown3Ideal.main_arg1)
          ∧ r.2.mem ((c.tc : Thread Cert.ReferenceUpdateDown3Ideal.nD Cert.ReferenceUpdateDown3Ideal.τ).loc Cert.ReferenceUpdateDown3Ideal.main_arg2) = m' ((c.tc : Thread Cert.ReferenceUpdateDown3Ideal.nD Cert.ReferenceUpdateDown3Ideal.τ).loc Cert.ReferenceUpdateDown3Ideal.main_arg2)
          ∧ r.2.mem ((c.tc : Thread Cert.ReferenceUpdateDown3Ideal.nD Cert.ReferenceUpdateDown3Ideal.τ).loc Cert.ReferenceUpdateDown3Ideal.main_arg3) = m' ((c.tc : Thread Cert.ReferenceUpdateDown3Ideal.nD Cert.ReferenceUpdateDown3Ideal.τ).loc Cert.ReferenceUpdateDown3Ideal.main_arg3)
          ∧ r.2.mem ((c.tc : Thread Cert.ReferenceUpdateDown3Ideal.nD Cert.ReferenceUpdateDown3Ideal.τ).loc Cert.ReferenceUpdateDown3Ideal.main_arg4) = m' ((c.tc : Thread Cert.ReferenceUpdateDown3Ideal.nD Cert.ReferenceUpdateDown3Ideal.τ).loc Cert.ReferenceUpdateDown3Ideal.main_arg4)
          ∧ r.2.mem ((c.tc : Thread Cert.ReferenceUpdateDown3Ideal.nD Cert.ReferenceUpdateDown3Ideal.τ).loc Cert.ReferenceUpdateDown3Ideal.main_arg5) = m' ((c.tc : Thread Cert.ReferenceUpdateDown3Ideal.nD Cert.ReferenceUpdateDown3Ideal.τ).loc Cert.ReferenceUpdateDown3Ideal.main_arg5)
          ∧ r.2.mem ((c.tc : Thread Cert.ReferenceUpdateDown3Ideal.nD Cert.ReferenceUpdateDown3Ideal.τ).loc Cert.ReferenceUpdateDown3Ideal.main_arg6) = m' ((c.tc : Thread Cert.ReferenceUpdateDown3Ideal.nD Cert.ReferenceUpdateDown3Ideal.τ).loc Cert.ReferenceUpdateDown3Ideal.main_arg6)
          ∧ r.2.mem ((c.tc : Thread Cert.ReferenceUpdateDown3Ideal.nD Cert.ReferenceUpdateDown3Ideal.τ).loc Cert.ReferenceUpdateDown3Ideal.main_arg7) = m' ((c.tc : Thread Cert.ReferenceUpdateDown3Ideal.nD Cert.ReferenceUpdateDown3Ideal.τ).loc Cert.ReferenceUpdateDown3Ideal.main_arg7))

def Claim : Prop :=
  ∃ (hKernel : Cert.Kernel.Facts) (hKernelIdeal : Cert.KernelIdeal.Facts) (hReferenceIdeal : Cert.ReferenceIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelUpDx : Cert.KernelUpDx.Facts) (hKernelUpDxIdeal : Cert.KernelUpDxIdeal.Facts) (hReferenceUpDxIdeal : Cert.ReferenceUpDxIdeal.Facts) (hKernelUpDw : Cert.KernelUpDw.Facts) (hKernelUpDwIdeal : Cert.KernelUpDwIdeal.Facts) (hReferenceUpDwIdeal : Cert.ReferenceUpDwIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hKernelInDx : Cert.KernelInDx.Facts) (hKernelInDxIdeal : Cert.KernelInDxIdeal.Facts) (hReferenceInDxIdeal : Cert.ReferenceInDxIdeal.Facts) (hKernelInDw : Cert.KernelInDw.Facts) (hKernelInDwIdeal : Cert.KernelInDwIdeal.Facts) (hReferenceInDwIdeal : Cert.ReferenceInDwIdeal.Facts) (hKernelInFwd : Cert.KernelInFwd.Facts) (hKernelInFwdIdeal : Cert.KernelInFwdIdeal.Facts) (hReferenceInFwdIdeal : Cert.ReferenceInFwdIdeal.Facts) (hKernelOutFwd : Cert.KernelOutFwd.Facts) (hKernelOutFwdIdeal : Cert.KernelOutFwdIdeal.Facts) (hReferenceOutFwdIdeal : Cert.ReferenceOutFwdIdeal.Facts) (hKernelUpFwd : Cert.KernelUpFwd.Facts) (hKernelUpFwdIdeal : Cert.KernelUpFwdIdeal.Facts) (hReferenceUpFwdIdeal : Cert.ReferenceUpFwdIdeal.Facts) (hKernelDownFwd : Cert.KernelDownFwd.Facts) (hKernelDownFwdIdeal : Cert.KernelDownFwdIdeal.Facts) (hReferenceDownFwdIdeal : Cert.ReferenceDownFwdIdeal.Facts) (hKernelNormBwd : Cert.KernelNormBwd.Facts) (hKernelNormBwdIdeal : Cert.KernelNormBwdIdeal.Facts) (hReferenceNormBwdIdeal : Cert.ReferenceNormBwdIdeal.Facts) (hKernelMixBwd : Cert.KernelMixBwd.Facts) (hKernelMixBwdIdeal : Cert.KernelMixBwdIdeal.Facts) (hReferenceMixBwdIdeal : Cert.ReferenceMixBwdIdeal.Facts) (hKernelActFwd : Cert.KernelActFwd.Facts) (hKernelActFwdIdeal : Cert.KernelActFwdIdeal.Facts) (hReferenceActFwdIdeal : Cert.ReferenceActFwdIdeal.Facts) (hKernelNormFwd : Cert.KernelNormFwd.Facts) (hKernelNormFwdIdeal : Cert.KernelNormFwdIdeal.Facts) (hReferenceNormFwdIdeal : Cert.ReferenceNormFwdIdeal.Facts) (hKernelMixFwd : Cert.KernelMixFwd.Facts) (hKernelMixFwdIdeal : Cert.KernelMixFwdIdeal.Facts) (hReferenceMixFwdIdeal : Cert.ReferenceMixFwdIdeal.Facts) (hKernelLoss : Cert.KernelLoss.Facts) (hKernelLossIdeal : Cert.KernelLossIdeal.Facts) (hReferenceLossIdeal : Cert.ReferenceLossIdeal.Facts) (hKernelBiasA : Cert.KernelBiasA.Facts) (hKernelBiasAIdeal : Cert.KernelBiasAIdeal.Facts) (hReferenceBiasAIdeal : Cert.ReferenceBiasAIdeal.Facts) (hKernelBiasC : Cert.KernelBiasC.Facts) (hKernelBiasCIdeal : Cert.KernelBiasCIdeal.Facts) (hReferenceBiasCIdeal : Cert.ReferenceBiasCIdeal.Facts) (hKernelUpdateIn : Cert.KernelUpdateIn.Facts) (hKernelUpdateInIdeal : Cert.KernelUpdateInIdeal.Facts) (hReferenceUpdateInIdeal : Cert.ReferenceUpdateInIdeal.Facts) (hKernelUpdateOut : Cert.KernelUpdateOut.Facts) (hKernelUpdateOutIdeal : Cert.KernelUpdateOutIdeal.Facts) (hReferenceUpdateOutIdeal : Cert.ReferenceUpdateOutIdeal.Facts) (hKernelUpdateUp : Cert.KernelUpdateUp.Facts) (hKernelUpdateUpIdeal : Cert.KernelUpdateUpIdeal.Facts) (hReferenceUpdateUpIdeal : Cert.ReferenceUpdateUpIdeal.Facts) (hKernelUpdateDown : Cert.KernelUpdateDown.Facts) (hKernelUpdateDownIdeal : Cert.KernelUpdateDownIdeal.Facts) (hReferenceUpdateDownIdeal : Cert.ReferenceUpdateDownIdeal.Facts) (hKernelSmallSum : Cert.KernelSmallSum.Facts) (hKernelSmallSumIdeal : Cert.KernelSmallSumIdeal.Facts) (hReferenceSmallSumIdeal : Cert.ReferenceSmallSumIdeal.Facts) (hKernelUpdateSmall : Cert.KernelUpdateSmall.Facts) (hKernelUpdateSmallIdeal : Cert.KernelUpdateSmallIdeal.Facts) (hReferenceUpdateSmallIdeal : Cert.ReferenceUpdateSmallIdeal.Facts) (hKernelUpdateIn1 : Cert.KernelUpdateIn1.Facts) (hKernelUpdateIn1Ideal : Cert.KernelUpdateIn1Ideal.Facts) (hReferenceUpdateIn1Ideal : Cert.ReferenceUpdateIn1Ideal.Facts) (hKernelUpdateOut1 : Cert.KernelUpdateOut1.Facts) (hKernelUpdateOut1Ideal : Cert.KernelUpdateOut1Ideal.Facts) (hReferenceUpdateOut1Ideal : Cert.ReferenceUpdateOut1Ideal.Facts) (hKernelUpdateUp1 : Cert.KernelUpdateUp1.Facts) (hKernelUpdateUp1Ideal : Cert.KernelUpdateUp1Ideal.Facts) (hReferenceUpdateUp1Ideal : Cert.ReferenceUpdateUp1Ideal.Facts) (hKernelUpdateDown1 : Cert.KernelUpdateDown1.Facts) (hKernelUpdateDown1Ideal : Cert.KernelUpdateDown1Ideal.Facts) (hReferenceUpdateDown1Ideal : Cert.ReferenceUpdateDown1Ideal.Facts) (hKernelUpdateIn2 : Cert.KernelUpdateIn2.Facts) (hKernelUpdateIn2Ideal : Cert.KernelUpdateIn2Ideal.Facts) (hReferenceUpdateIn2Ideal : Cert.ReferenceUpdateIn2Ideal.Facts) (hKernelUpdateOut2 : Cert.KernelUpdateOut2.Facts) (hKernelUpdateOut2Ideal : Cert.KernelUpdateOut2Ideal.Facts) (hReferenceUpdateOut2Ideal : Cert.ReferenceUpdateOut2Ideal.Facts) (hKernelUpdateUp2 : Cert.KernelUpdateUp2.Facts) (hKernelUpdateUp2Ideal : Cert.KernelUpdateUp2Ideal.Facts) (hReferenceUpdateUp2Ideal : Cert.ReferenceUpdateUp2Ideal.Facts) (hKernelUpdateDown2 : Cert.KernelUpdateDown2.Facts) (hKernelUpdateDown2Ideal : Cert.KernelUpdateDown2Ideal.Facts) (hReferenceUpdateDown2Ideal : Cert.ReferenceUpdateDown2Ideal.Facts) (hKernelUpdateIn3 : Cert.KernelUpdateIn3.Facts) (hKernelUpdateIn3Ideal : Cert.KernelUpdateIn3Ideal.Facts) (hReferenceUpdateIn3Ideal : Cert.ReferenceUpdateIn3Ideal.Facts) (hKernelUpdateOut3 : Cert.KernelUpdateOut3.Facts) (hKernelUpdateOut3Ideal : Cert.KernelUpdateOut3Ideal.Facts) (hReferenceUpdateOut3Ideal : Cert.ReferenceUpdateOut3Ideal.Facts) (hKernelUpdateUp3 : Cert.KernelUpdateUp3.Facts) (hKernelUpdateUp3Ideal : Cert.KernelUpdateUp3Ideal.Facts) (hReferenceUpdateUp3Ideal : Cert.ReferenceUpdateUp3Ideal.Facts) (hKernelUpdateDown3 : Cert.KernelUpdateDown3.Facts) (hKernelUpdateDown3Ideal : Cert.KernelUpdateDown3Ideal.Facts) (hReferenceUpdateDown3Ideal : Cert.ReferenceUpdateDown3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInFwd (hKernelInFwd := hKernelInFwd)
    ∧ quiescent_KernelInFwdIdeal (hKernelInFwdIdeal := hKernelInFwdIdeal)
    ∧ quiescent_ReferenceInFwdIdeal (hReferenceInFwdIdeal := hReferenceInFwdIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelUpFwd (hKernelUpFwd := hKernelUpFwd)
    ∧ quiescent_KernelUpFwdIdeal (hKernelUpFwdIdeal := hKernelUpFwdIdeal)
    ∧ quiescent_ReferenceUpFwdIdeal (hReferenceUpFwdIdeal := hReferenceUpFwdIdeal)
    ∧ quiescent_KernelDownFwd (hKernelDownFwd := hKernelDownFwd)
    ∧ quiescent_KernelDownFwdIdeal (hKernelDownFwdIdeal := hKernelDownFwdIdeal)
    ∧ quiescent_ReferenceDownFwdIdeal (hReferenceDownFwdIdeal := hReferenceDownFwdIdeal)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ quiescent_KernelMixBwd (hKernelMixBwd := hKernelMixBwd)
    ∧ quiescent_KernelMixBwdIdeal (hKernelMixBwdIdeal := hKernelMixBwdIdeal)
    ∧ quiescent_ReferenceMixBwdIdeal (hReferenceMixBwdIdeal := hReferenceMixBwdIdeal)
    ∧ quiescent_KernelActFwd (hKernelActFwd := hKernelActFwd)
    ∧ quiescent_KernelActFwdIdeal (hKernelActFwdIdeal := hKernelActFwdIdeal)
    ∧ quiescent_ReferenceActFwdIdeal (hReferenceActFwdIdeal := hReferenceActFwdIdeal)
    ∧ quiescent_KernelNormFwd (hKernelNormFwd := hKernelNormFwd)
    ∧ quiescent_KernelNormFwdIdeal (hKernelNormFwdIdeal := hKernelNormFwdIdeal)
    ∧ quiescent_ReferenceNormFwdIdeal (hReferenceNormFwdIdeal := hReferenceNormFwdIdeal)
    ∧ quiescent_KernelMixFwd (hKernelMixFwd := hKernelMixFwd)
    ∧ quiescent_KernelMixFwdIdeal (hKernelMixFwdIdeal := hKernelMixFwdIdeal)
    ∧ quiescent_ReferenceMixFwdIdeal (hReferenceMixFwdIdeal := hReferenceMixFwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelBiasA (hKernelBiasA := hKernelBiasA)
    ∧ quiescent_KernelBiasAIdeal (hKernelBiasAIdeal := hKernelBiasAIdeal)
    ∧ quiescent_ReferenceBiasAIdeal (hReferenceBiasAIdeal := hReferenceBiasAIdeal)
    ∧ quiescent_KernelBiasC (hKernelBiasC := hKernelBiasC)
    ∧ quiescent_KernelBiasCIdeal (hKernelBiasCIdeal := hKernelBiasCIdeal)
    ∧ quiescent_ReferenceBiasCIdeal (hReferenceBiasCIdeal := hReferenceBiasCIdeal)
    ∧ quiescent_KernelUpdateIn (hKernelUpdateIn := hKernelUpdateIn)
    ∧ quiescent_KernelUpdateInIdeal (hKernelUpdateInIdeal := hKernelUpdateInIdeal)
    ∧ quiescent_ReferenceUpdateInIdeal (hReferenceUpdateInIdeal := hReferenceUpdateInIdeal)
    ∧ quiescent_KernelUpdateOut (hKernelUpdateOut := hKernelUpdateOut)
    ∧ quiescent_KernelUpdateOutIdeal (hKernelUpdateOutIdeal := hKernelUpdateOutIdeal)
    ∧ quiescent_ReferenceUpdateOutIdeal (hReferenceUpdateOutIdeal := hReferenceUpdateOutIdeal)
    ∧ quiescent_KernelUpdateUp (hKernelUpdateUp := hKernelUpdateUp)
    ∧ quiescent_KernelUpdateUpIdeal (hKernelUpdateUpIdeal := hKernelUpdateUpIdeal)
    ∧ quiescent_ReferenceUpdateUpIdeal (hReferenceUpdateUpIdeal := hReferenceUpdateUpIdeal)
    ∧ quiescent_KernelUpdateDown (hKernelUpdateDown := hKernelUpdateDown)
    ∧ quiescent_KernelUpdateDownIdeal (hKernelUpdateDownIdeal := hKernelUpdateDownIdeal)
    ∧ quiescent_ReferenceUpdateDownIdeal (hReferenceUpdateDownIdeal := hReferenceUpdateDownIdeal)
    ∧ quiescent_KernelSmallSum (hKernelSmallSum := hKernelSmallSum)
    ∧ quiescent_KernelSmallSumIdeal (hKernelSmallSumIdeal := hKernelSmallSumIdeal)
    ∧ quiescent_ReferenceSmallSumIdeal (hReferenceSmallSumIdeal := hReferenceSmallSumIdeal)
    ∧ quiescent_KernelUpdateSmall (hKernelUpdateSmall := hKernelUpdateSmall)
    ∧ quiescent_KernelUpdateSmallIdeal (hKernelUpdateSmallIdeal := hKernelUpdateSmallIdeal)
    ∧ quiescent_ReferenceUpdateSmallIdeal (hReferenceUpdateSmallIdeal := hReferenceUpdateSmallIdeal)
    ∧ quiescent_KernelUpdateIn1 (hKernelUpdateIn1 := hKernelUpdateIn1)
    ∧ quiescent_KernelUpdateIn1Ideal (hKernelUpdateIn1Ideal := hKernelUpdateIn1Ideal)
    ∧ quiescent_ReferenceUpdateIn1Ideal (hReferenceUpdateIn1Ideal := hReferenceUpdateIn1Ideal)
    ∧ quiescent_KernelUpdateOut1 (hKernelUpdateOut1 := hKernelUpdateOut1)
    ∧ quiescent_KernelUpdateOut1Ideal (hKernelUpdateOut1Ideal := hKernelUpdateOut1Ideal)
    ∧ quiescent_ReferenceUpdateOut1Ideal (hReferenceUpdateOut1Ideal := hReferenceUpdateOut1Ideal)
    ∧ quiescent_KernelUpdateUp1 (hKernelUpdateUp1 := hKernelUpdateUp1)
    ∧ quiescent_KernelUpdateUp1Ideal (hKernelUpdateUp1Ideal := hKernelUpdateUp1Ideal)
    ∧ quiescent_ReferenceUpdateUp1Ideal (hReferenceUpdateUp1Ideal := hReferenceUpdateUp1Ideal)
    ∧ quiescent_KernelUpdateDown1 (hKernelUpdateDown1 := hKernelUpdateDown1)
    ∧ quiescent_KernelUpdateDown1Ideal (hKernelUpdateDown1Ideal := hKernelUpdateDown1Ideal)
    ∧ quiescent_ReferenceUpdateDown1Ideal (hReferenceUpdateDown1Ideal := hReferenceUpdateDown1Ideal)
    ∧ quiescent_KernelUpdateIn2 (hKernelUpdateIn2 := hKernelUpdateIn2)
    ∧ quiescent_KernelUpdateIn2Ideal (hKernelUpdateIn2Ideal := hKernelUpdateIn2Ideal)
    ∧ quiescent_ReferenceUpdateIn2Ideal (hReferenceUpdateIn2Ideal := hReferenceUpdateIn2Ideal)
    ∧ quiescent_KernelUpdateOut2 (hKernelUpdateOut2 := hKernelUpdateOut2)
    ∧ quiescent_KernelUpdateOut2Ideal (hKernelUpdateOut2Ideal := hKernelUpdateOut2Ideal)
    ∧ quiescent_ReferenceUpdateOut2Ideal (hReferenceUpdateOut2Ideal := hReferenceUpdateOut2Ideal)
    ∧ quiescent_KernelUpdateUp2 (hKernelUpdateUp2 := hKernelUpdateUp2)
    ∧ quiescent_KernelUpdateUp2Ideal (hKernelUpdateUp2Ideal := hKernelUpdateUp2Ideal)
    ∧ quiescent_ReferenceUpdateUp2Ideal (hReferenceUpdateUp2Ideal := hReferenceUpdateUp2Ideal)
    ∧ quiescent_KernelUpdateDown2 (hKernelUpdateDown2 := hKernelUpdateDown2)
    ∧ quiescent_KernelUpdateDown2Ideal (hKernelUpdateDown2Ideal := hKernelUpdateDown2Ideal)
    ∧ quiescent_ReferenceUpdateDown2Ideal (hReferenceUpdateDown2Ideal := hReferenceUpdateDown2Ideal)
    ∧ quiescent_KernelUpdateIn3 (hKernelUpdateIn3 := hKernelUpdateIn3)
    ∧ quiescent_KernelUpdateIn3Ideal (hKernelUpdateIn3Ideal := hKernelUpdateIn3Ideal)
    ∧ quiescent_ReferenceUpdateIn3Ideal (hReferenceUpdateIn3Ideal := hReferenceUpdateIn3Ideal)
    ∧ quiescent_KernelUpdateOut3 (hKernelUpdateOut3 := hKernelUpdateOut3)
    ∧ quiescent_KernelUpdateOut3Ideal (hKernelUpdateOut3Ideal := hKernelUpdateOut3Ideal)
    ∧ quiescent_ReferenceUpdateOut3Ideal (hReferenceUpdateOut3Ideal := hReferenceUpdateOut3Ideal)
    ∧ quiescent_KernelUpdateUp3 (hKernelUpdateUp3 := hKernelUpdateUp3)
    ∧ quiescent_KernelUpdateUp3Ideal (hKernelUpdateUp3Ideal := hKernelUpdateUp3Ideal)
    ∧ quiescent_ReferenceUpdateUp3Ideal (hReferenceUpdateUp3Ideal := hReferenceUpdateUp3Ideal)
    ∧ quiescent_KernelUpdateDown3 (hKernelUpdateDown3 := hKernelUpdateDown3)
    ∧ quiescent_KernelUpdateDown3Ideal (hKernelUpdateDown3Ideal := hKernelUpdateDown3Ideal)
    ∧ quiescent_ReferenceUpdateDown3Ideal (hReferenceUpdateDown3Ideal := hReferenceUpdateDown3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInFwd_KernelInFwdIdeal
    ∧ algebraic_KernelInFwdIdeal_ReferenceInFwdIdeal (hKernelInFwdIdeal := hKernelInFwdIdeal) (hReferenceInFwdIdeal := hReferenceInFwdIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelUpFwd_KernelUpFwdIdeal
    ∧ algebraic_KernelUpFwdIdeal_ReferenceUpFwdIdeal (hKernelUpFwdIdeal := hKernelUpFwdIdeal) (hReferenceUpFwdIdeal := hReferenceUpFwdIdeal)
    ∧ preserves_KernelDownFwd_KernelDownFwdIdeal
    ∧ algebraic_KernelDownFwdIdeal_ReferenceDownFwdIdeal (hKernelDownFwdIdeal := hKernelDownFwdIdeal) (hReferenceDownFwdIdeal := hReferenceDownFwdIdeal)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
    ∧ preserves_KernelMixBwd_KernelMixBwdIdeal
    ∧ algebraic_KernelMixBwdIdeal_ReferenceMixBwdIdeal (hKernelMixBwdIdeal := hKernelMixBwdIdeal) (hReferenceMixBwdIdeal := hReferenceMixBwdIdeal)
    ∧ preserves_KernelActFwd_KernelActFwdIdeal
    ∧ algebraic_KernelActFwdIdeal_ReferenceActFwdIdeal (hKernelActFwdIdeal := hKernelActFwdIdeal) (hReferenceActFwdIdeal := hReferenceActFwdIdeal)
    ∧ preserves_KernelNormFwd_KernelNormFwdIdeal
    ∧ algebraic_KernelNormFwdIdeal_ReferenceNormFwdIdeal (hKernelNormFwdIdeal := hKernelNormFwdIdeal) (hReferenceNormFwdIdeal := hReferenceNormFwdIdeal)
    ∧ preserves_KernelMixFwd_KernelMixFwdIdeal
    ∧ algebraic_KernelMixFwdIdeal_ReferenceMixFwdIdeal (hKernelMixFwdIdeal := hKernelMixFwdIdeal) (hReferenceMixFwdIdeal := hReferenceMixFwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelBiasA_KernelBiasAIdeal
    ∧ algebraic_KernelBiasAIdeal_ReferenceBiasAIdeal (hKernelBiasAIdeal := hKernelBiasAIdeal) (hReferenceBiasAIdeal := hReferenceBiasAIdeal)
    ∧ preserves_KernelBiasC_KernelBiasCIdeal
    ∧ algebraic_KernelBiasCIdeal_ReferenceBiasCIdeal (hKernelBiasCIdeal := hKernelBiasCIdeal) (hReferenceBiasCIdeal := hReferenceBiasCIdeal)
    ∧ preserves_KernelUpdateIn_KernelUpdateInIdeal
    ∧ algebraic_KernelUpdateInIdeal_ReferenceUpdateInIdeal (hKernelUpdateInIdeal := hKernelUpdateInIdeal) (hReferenceUpdateInIdeal := hReferenceUpdateInIdeal)
    ∧ preserves_KernelUpdateOut_KernelUpdateOutIdeal
    ∧ algebraic_KernelUpdateOutIdeal_ReferenceUpdateOutIdeal (hKernelUpdateOutIdeal := hKernelUpdateOutIdeal) (hReferenceUpdateOutIdeal := hReferenceUpdateOutIdeal)
    ∧ preserves_KernelUpdateUp_KernelUpdateUpIdeal
    ∧ algebraic_KernelUpdateUpIdeal_ReferenceUpdateUpIdeal (hKernelUpdateUpIdeal := hKernelUpdateUpIdeal) (hReferenceUpdateUpIdeal := hReferenceUpdateUpIdeal)
    ∧ preserves_KernelUpdateDown_KernelUpdateDownIdeal
    ∧ algebraic_KernelUpdateDownIdeal_ReferenceUpdateDownIdeal (hKernelUpdateDownIdeal := hKernelUpdateDownIdeal) (hReferenceUpdateDownIdeal := hReferenceUpdateDownIdeal)
    ∧ preserves_KernelSmallSum_KernelSmallSumIdeal
    ∧ algebraic_KernelSmallSumIdeal_ReferenceSmallSumIdeal (hKernelSmallSumIdeal := hKernelSmallSumIdeal) (hReferenceSmallSumIdeal := hReferenceSmallSumIdeal)
    ∧ preserves_KernelUpdateSmall_KernelUpdateSmallIdeal
    ∧ algebraic_KernelUpdateSmallIdeal_ReferenceUpdateSmallIdeal (hKernelUpdateSmallIdeal := hKernelUpdateSmallIdeal) (hReferenceUpdateSmallIdeal := hReferenceUpdateSmallIdeal)
    ∧ preserves_KernelUpdateIn1_KernelUpdateIn1Ideal
    ∧ algebraic_KernelUpdateIn1Ideal_ReferenceUpdateIn1Ideal (hKernelUpdateIn1Ideal := hKernelUpdateIn1Ideal) (hReferenceUpdateIn1Ideal := hReferenceUpdateIn1Ideal)
    ∧ preserves_KernelUpdateOut1_KernelUpdateOut1Ideal
    ∧ algebraic_KernelUpdateOut1Ideal_ReferenceUpdateOut1Ideal (hKernelUpdateOut1Ideal := hKernelUpdateOut1Ideal) (hReferenceUpdateOut1Ideal := hReferenceUpdateOut1Ideal)
    ∧ preserves_KernelUpdateUp1_KernelUpdateUp1Ideal
    ∧ algebraic_KernelUpdateUp1Ideal_ReferenceUpdateUp1Ideal (hKernelUpdateUp1Ideal := hKernelUpdateUp1Ideal) (hReferenceUpdateUp1Ideal := hReferenceUpdateUp1Ideal)
    ∧ preserves_KernelUpdateDown1_KernelUpdateDown1Ideal
    ∧ algebraic_KernelUpdateDown1Ideal_ReferenceUpdateDown1Ideal (hKernelUpdateDown1Ideal := hKernelUpdateDown1Ideal) (hReferenceUpdateDown1Ideal := hReferenceUpdateDown1Ideal)
    ∧ preserves_KernelUpdateIn2_KernelUpdateIn2Ideal
    ∧ algebraic_KernelUpdateIn2Ideal_ReferenceUpdateIn2Ideal (hKernelUpdateIn2Ideal := hKernelUpdateIn2Ideal) (hReferenceUpdateIn2Ideal := hReferenceUpdateIn2Ideal)
    ∧ preserves_KernelUpdateOut2_KernelUpdateOut2Ideal
    ∧ algebraic_KernelUpdateOut2Ideal_ReferenceUpdateOut2Ideal (hKernelUpdateOut2Ideal := hKernelUpdateOut2Ideal) (hReferenceUpdateOut2Ideal := hReferenceUpdateOut2Ideal)
    ∧ preserves_KernelUpdateUp2_KernelUpdateUp2Ideal
    ∧ algebraic_KernelUpdateUp2Ideal_ReferenceUpdateUp2Ideal (hKernelUpdateUp2Ideal := hKernelUpdateUp2Ideal) (hReferenceUpdateUp2Ideal := hReferenceUpdateUp2Ideal)
    ∧ preserves_KernelUpdateDown2_KernelUpdateDown2Ideal
    ∧ algebraic_KernelUpdateDown2Ideal_ReferenceUpdateDown2Ideal (hKernelUpdateDown2Ideal := hKernelUpdateDown2Ideal) (hReferenceUpdateDown2Ideal := hReferenceUpdateDown2Ideal)
    ∧ preserves_KernelUpdateIn3_KernelUpdateIn3Ideal
    ∧ algebraic_KernelUpdateIn3Ideal_ReferenceUpdateIn3Ideal (hKernelUpdateIn3Ideal := hKernelUpdateIn3Ideal) (hReferenceUpdateIn3Ideal := hReferenceUpdateIn3Ideal)
    ∧ preserves_KernelUpdateOut3_KernelUpdateOut3Ideal
    ∧ algebraic_KernelUpdateOut3Ideal_ReferenceUpdateOut3Ideal (hKernelUpdateOut3Ideal := hKernelUpdateOut3Ideal) (hReferenceUpdateOut3Ideal := hReferenceUpdateOut3Ideal)
    ∧ preserves_KernelUpdateUp3_KernelUpdateUp3Ideal
    ∧ algebraic_KernelUpdateUp3Ideal_ReferenceUpdateUp3Ideal (hKernelUpdateUp3Ideal := hKernelUpdateUp3Ideal) (hReferenceUpdateUp3Ideal := hReferenceUpdateUp3Ideal)
    ∧ preserves_KernelUpdateDown3_KernelUpdateDown3Ideal
    ∧ algebraic_KernelUpdateDown3Ideal_ReferenceUpdateDown3Ideal (hKernelUpdateDown3Ideal := hKernelUpdateDown3Ideal) (hReferenceUpdateDown3Ideal := hReferenceUpdateDown3Ideal)
-- ==== Pre_finite.lean ====
abbrev S4096x5632 : Shape := ⟨2, ![4096, 5632]⟩
abbrev S4096x11264 : Shape := ⟨2, ![4096, 11264]⟩
abbrev S3x11264 : Shape := ⟨2, ![3, 11264]⟩
abbrev S11264 : Shape := ⟨1, ![11264]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4096x11264 : S_.BroadcastsInDim S4096x11264 (![] : Fin 0 → Fin S4096x11264.rank)
  reducesTo_S4096x11264_S_d0_1 : S4096x11264.ReducesTo [0, 1] S_
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_

variable [Facts]

def fn_part1 {F : FTy → Type} [FloatOps F] (main_v13 : IVec S_ 1) (main_v16 : IVec S11264 1) : IVec S_ 1 :=
  let main_c_5 : IVec S_ 1 := constantI S_ 1 1#1
  let main_v17 : IVec S_ 1 := (fun x v => Host.reduce IntOp.andi x v reducesTo_S11264_S_d0 h_S_) main_v16 main_c_5
  let main_v18 : IVec S_ 1 := andi main_v13 main_v17
  main_v18

def fn {F : FTy → Type} [FloatOps F] (main_arg0 : FVec F S4096x5632 .f32) (main_arg1 : FVec F S4096x11264 .f32) (main_arg2 : FVec F S3x11264 .f32) (main_arg3 : FVec F S11264 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x11264 .f32 := Host.absf main_arg1
  let main_cst_0 : FVec F S_ .f32 := constant S_ .f32 0x7F800000#32
  let main_v5 : FVec F S4096x11264 .f32 := broadcastInDim S4096x11264 ![] bcast_S_S4096x11264 main_cst_0
  let main_v6 : IVec S4096x11264 1 := cmpf .olt main_v4 main_v5
  let main_c_1 : IVec S_ 1 := constantI S_ 1 1#1
  let main_v7 : IVec S_ 1 := (fun x v => Host.reduce IntOp.andi x v reducesTo_S4096x11264_S_d0_1 h_S_) main_v6 main_c_1
  let main_v8 : IVec S_ 1 := andi main_v3 main_v7
  let main_v9 : FVec F S3x11264 .f32 := Host.absf main_arg2
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_c_3 : IVec S_ 1 := constantI S_ 1 1#1
  let main_v12 : IVec S_ 1 := (fun x v => Host.reduce IntOp.andi x v reducesTo_S3x11264_S_d0_1 h_S_) main_v11 main_c_3
  let main_v13 : IVec S_ 1 := andi main_v8 main_v12
  let main_v14 : FVec F S11264 .f32 := Host.absf main_arg3
  let main_cst_4 : FVec F S_ .f32 := constant S_ .f32 0x7F800000#32
  let main_v15 : FVec F S11264 .f32 := broadcastInDim S11264 ![] bcast_S_S11264 main_cst_4
  let main_v16 : IVec S11264 1 := cmpf .olt main_v14 main_v15
  fn_part1 (F := F) main_v13 main_v16
-- ==== Kernel.lean ====
abbrev S4096x5632 : Shape := ⟨2, ![4096, 5632]⟩
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S2x4096x5632 : Shape := ⟨3, ![2, 4096, 5632]⟩
abbrev S3x5632 : Shape := ⟨2, ![3, 5632]⟩
abbrev S1x5632 : Shape := ⟨2, ![1, 5632]⟩
abbrev S4096x256 : Shape := ⟨2, ![4096, 256]⟩
abbrev S3x256 : Shape := ⟨2, ![3, 256]⟩
abbrev S1x256 : Shape := ⟨2, ![1, 256]⟩
abbrev S2x4096x256 : Shape := ⟨3, ![2, 4096, 256]⟩
abbrev S256x256 : Shape := ⟨2, ![256, 256]⟩
abbrev S256 : Shape := ⟨1, ![256]⟩
abbrev S264x256 : Shape := ⟨2, ![264, 256]⟩
abbrev S1x4096x256 : Shape := ⟨3, ![1, 4096, 256]⟩
abbrev S1x256x256 : Shape := ⟨3, ![1, 256, 256]⟩

abbrev nBuf : Space → Nat
  | .hbm => 11
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S4096x11264, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S1x11264, .f32⟩
  | .hbm, ⟨6, _⟩ => ⟨S2x4096x5632, .bf16⟩
  | .hbm, ⟨7, _⟩ => ⟨S3x5632, .f32⟩
  | .hbm, ⟨8, _⟩ => ⟨S3x5632, .f32⟩
  | .hbm, ⟨9, _⟩ => ⟨S1x5632, .f32⟩
  | .hbm, ⟨10, _⟩ => ⟨S1x5632, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x4096x256, .bf16⟩
  | .local _ .vmem, ⟨15, _⟩ => ⟨S2x4096x256, .bf16⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S4096x256, .f32⟩
  | .local _ .vmem, ⟨25, _⟩ => ⟨S4096x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![22], ![false]⟩

@[reducible] def k0_t1_loop : Scf.Loop 32 :=
  let c1_i32_47 : BitVec 32 := 1#32
  let c15_i32 : BitVec 32 := 15#32
  let v108 : BitVec 32 := Scalar.addi c1_i32_47 c15_i32
  let c1_i32_48 : BitVec 32 := 1#32
  ⟨c1_i32_47, v108, c1_i32_48⟩
def k0_mult1 (k0_t1 : Fin k0_t1_loop.trips) : BitVec 32 :=
  let c1_i32_47 : BitVec 32 := 1#32
  let c1_i32_48 : BitVec 32 := 1#32
  let arg15 : BitVec 32 := Scf.iv c1_i32_47 c1_i32_48 k0_t1
  let c256_i32 : BitVec 32 := 256#32
  let v169 : BitVec 32 := Scalar.muli arg15 c256_i32
  v169
def k0_mult2 (k0_t1 : Fin k0_t1_loop.trips) : BitVec 32 :=
  let c1_i32_47 : BitVec 32 := 1#32
  let c1_i32_48 : BitVec 32 := 1#32
  let arg15 : BitVec 32 := Scf.iv c1_i32_47 c1_i32_48 k0_t1
  let c256_i32 : BitVec 32 := 256#32
  let v169 : BitVec 32 := Scalar.muli arg15 c256_i32
  let v170 : BitVec 32 := v169
  let c8_i32 : BitVec 32 := 8#32
  let v171 : BitVec 32 := Scalar.subi v170 c8_i32
  v171
def k0_off1 (k0_t1 : Fin k0_t1_loop.trips) : Fin 2 → Nat :=
  let c1_i32_47 : BitVec 32 := 1#32
  let c1_i32_48 : BitVec 32 := 1#32
  let arg15 : BitVec 32 := Scf.iv c1_i32_47 c1_i32_48 k0_t1
  let c256_i32 : BitVec 32 := 256#32
  let v169 : BitVec 32 := Scalar.muli arg15 c256_i32
  let v170 : BitVec 32 := v169
  let c8_i32 : BitVec 32 := 8#32
  let v171 : BitVec 32 := Scalar.subi v170 c8_i32
  let v172 : BitVec 32 := v171
  let v173 : Index := Scalar.indexCast v172
  let c0_98 : Index := 0#32
  ![v173.toNat, 0]
def k0_mult3 (k0_t1 : Fin k0_t1_loop.trips) : BitVec 32 :=
  let c1_i32_47 : BitVec 32 := 1#32
  let c1_i32_48 : BitVec 32 := 1#32
  let arg15 : BitVec 32 := Scf.iv c1_i32_47 c1_i32_48 k0_t1
  let c256_i32 : BitVec 32 := 256#32
  let v169 : BitVec 32 := Scalar.muli arg15 c256_i32
  let v170 : BitVec 32 := v169
  let c8_i32_109 : BitVec 32 := 8#32
  let v195 : BitVec 32 := Scalar.subi v170 c8_i32_109
  v195
def k0_off2 (k0_t1 : Fin k0_t1_loop.trips) : Fin 2 → Nat :=
  let c1_i32_47 : BitVec 32 := 1#32
  let c1_i32_48 : BitVec 32 := 1#32
  let arg15 : BitVec 32 := Scf.iv c1_i32_47 c1_i32_48 k0_t1
  let c256_i32 : BitVec 32 := 256#32
  let v169 : BitVec 32 := Scalar.muli arg15 c256_i32
  let v170 : BitVec 32 := v169
  let v219 : Index := Scalar.indexCast v170
  let c0_121 : Index := 0#32
  ![v219.toNat, 0]
@[reducible] def k0_t2_loop : Scf.Loop 32 :=
  let c0_i32_59 : BitVec 32 := 0#32
  let c15_i32_60 : BitVec 32 := 15#32
  let v114 : BitVec 32 := Scalar.addi c0_i32_59 c15_i32_60
  let c1_i32_61 : BitVec 32 := 1#32
  ⟨c0_i32_59, v114, c1_i32_61⟩
def k0_mult4 (k0_t2 : Fin k0_t2_loop.trips) : BitVec 32 :=
  let c0_i32_59 : BitVec 32 := 0#32
  let c1_i32_61 : BitVec 32 := 1#32
  let arg15 : BitVec 32 := Scf.iv c0_i32_59 c1_i32_61 k0_t2
  let c256_i32 : BitVec 32 := 256#32
  let v169 : BitVec 32 := Scalar.muli arg15 c256_i32
  v169
def k0_off3 (k0_t2 : Fin k0_t2_loop.trips) : Fin 2 → Nat :=
  let c0_i32_59 : BitVec 32 := 0#32
  let c1_i32_61 : BitVec 32 := 1#32
  let arg15 : BitVec 32 := Scf.iv c0_i32_59 c1_i32_61 k0_t2
  let c256_i32 : BitVec 32 := 256#32
  let v169 : BitVec 32 := Scalar.muli arg15 c256_i32
  let v170 : BitVec 32 := v169
  let v171 : Index := Scalar.indexCast v170
  let c0_98 : Index := 0#32
  ![v171.toNat, 0]
def k0_off4 (k0_t2 : Fin k0_t2_loop.trips) : Fin 2 → Nat :=
  let c0_i32_59 : BitVec 32 := 0#32
  let c1_i32_61 : BitVec 32 := 1#32
  let arg15 : BitVec 32 := Scf.iv c0_i32_59 c1_i32_61 k0_t2
  let c256_i32 : BitVec 32 := 256#32
  let v169 : BitVec 32 := Scalar.muli arg15 c256_i32
  let v170 : BitVec 32 := v169
  let v192 : Index := Scalar.indexCast v170
  let c0_107 : Index := 0#32
  ![v192.toNat, 0]
def k0_off5 (k0_t2 : Fin k0_t2_loop.trips) : Fin 3 → Nat :=
  let c0_i32 : BitVec 32 := 0#32
  let c0_i32_59 : BitVec 32 := 0#32
  let c1_i32_61 : BitVec 32 := 1#32
  let arg15 : BitVec 32 := Scf.iv c0_i32_59 c1_i32_61 k0_t2
  let c256_i32 : BitVec 32 := 256#32
  let v169 : BitVec 32 := Scalar.muli arg15 c256_i32
  let v170 : BitVec 32 := v169
  let v192 : Index := Scalar.indexCast v170
  let c0_i32_106 : BitVec 32 := 0#32
  ![0, v192.toNat, 0]
def k0_off6 (k0_t2 : Fin k0_t2_loop.trips) : Fin 3 → Nat :=
  let c1_i32_58 : BitVec 32 := 1#32
  let c0_i32_59 : BitVec 32 := 0#32
  let c1_i32_61 : BitVec 32 := 1#32
  let arg15 : BitVec 32 := Scf.iv c0_i32_59 c1_i32_61 k0_t2
  let c256_i32 : BitVec 32 := 256#32
  let v169 : BitVec 32 := Scalar.muli arg15 c256_i32
  let v170 : BitVec 32 := v169
  let v215 : Index := Scalar.indexCast v170
  let c0_i32_118 : BitVec 32 := 0#32
  ![1, v215.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x5632 : Shape := ⟨2, ![4096, 5632]⟩
abbrev S4096x11264 : Shape := ⟨2, ![4096, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S1x4096x5632 : Shape := ⟨3, ![1, 4096, 5632]⟩
abbrev S2x4096x5632 : Shape := ⟨3, ![2, 4096, 5632]⟩
abbrev S3x5632 : Shape := ⟨2, ![3, 5632]⟩
abbrev S5632 : Shape := ⟨1, ![5632]⟩
abbrev S1x5632 : Shape := ⟨2, ![1, 5632]⟩

abbrev nBuf : Space → Nat
  | .hbm => 117
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x11264, .f32⟩
  | .hbm, ⟨2, _⟩ => ⟨S3x11264, .f32⟩
  | .hbm, ⟨3, _⟩ => ⟨S11264, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S4096x11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S4096x11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x11264, .f32⟩
  | .hbm, ⟨55, _⟩ => ⟨S4096x11264, .f32⟩
  | .hbm, ⟨56, _⟩ => ⟨S4096x11264, .f32⟩
  | .hbm, ⟨57, _⟩ => ⟨S4096x11264, .f32⟩
  | .hbm, ⟨58, _⟩ => ⟨S_, .f32⟩
  | .hbm, ⟨59, _⟩ => ⟨S11264, .f32⟩
  | .hbm, ⟨60, _⟩ => ⟨S1x11264, .f32⟩
  | .hbm, ⟨61, _⟩ => ⟨S_, .f32⟩
  | .hbm, ⟨62, _⟩ => ⟨S11264, .f32⟩
  | .hbm, ⟨63, _⟩ => ⟨S_, .f32⟩
  | .hbm, ⟨64, _⟩ => ⟨S4098x11264, .f32⟩
  | .hbm, ⟨65, _⟩ => ⟨S1x11264, .f32⟩
  | .hbm, ⟨66, _⟩ => ⟨S_, .f32⟩
  | .hbm, ⟨67, _⟩ => ⟨S3x11264, .f32⟩
  | .hbm, ⟨68, _⟩ => ⟨S4096x11264, .f32⟩
  | .hbm, ⟨69, _⟩ => ⟨S4096x11264, .f32⟩
  | .hbm, ⟨70, _⟩ => ⟨S4096x11264, .f32⟩
  | .hbm, ⟨71, _⟩ => ⟨S_, .f32⟩
  | .hbm, ⟨72, _⟩ => ⟨S11264, .f32⟩
  | .hbm, ⟨73, _⟩ => ⟨S1x11264, .f32⟩
  | .hbm, ⟨74, _⟩ => ⟨S_, .f32⟩
  | .hbm, ⟨75, _⟩ => ⟨S11264, .f32⟩
  | .hbm, ⟨76, _⟩ => ⟨S_, .f32⟩
  | .hbm, ⟨77, _⟩ => ⟨S4098x11264, .f32⟩
  | .hbm, ⟨78, _⟩ => ⟨S4098x11264, .f32⟩
  | .hbm, ⟨79, _⟩ => ⟨S1x11264, .f32⟩
  | .hbm, ⟨80, _⟩ => ⟨S_, .f32⟩
  | .hbm, ⟨81, _⟩ => ⟨S3x11264, .f32⟩
  | .hbm, ⟨82, _⟩ => ⟨S3x11264, .f32⟩
  | .hbm, ⟨83, _⟩ => ⟨S_, .f32⟩
  | .hbm, ⟨84, _⟩ => ⟨S11264, .f32⟩
  | .hbm, ⟨85, _⟩ => ⟨S1x11264, .f32⟩
  | .hbm, ⟨86, _⟩ => ⟨S_, .f32⟩
  | .hbm, ⟨87, _⟩ => ⟨S11264, .f32⟩
  | .hbm, ⟨88, _⟩ => ⟨S4096x11264, .f32⟩
  | .hbm, ⟨89, _⟩ => ⟨S4096x11264, .f32⟩
  | .hbm, ⟨90, _⟩ => ⟨S4096x11264, .f32⟩
  | .hbm, ⟨91, _⟩ => ⟨S_, .f32⟩
  | .hbm, ⟨92, _⟩ => ⟨S11264, .f32⟩
  | .hbm, ⟨93, _⟩ => ⟨S1x11264, .f32⟩
  | .hbm, ⟨94, _⟩ => ⟨S_, .f32⟩
  | .hbm, ⟨95, _⟩ => ⟨S11264, .f32⟩
  | .hbm, ⟨96, _⟩ => ⟨S_, .f32⟩
  | .hbm, ⟨97, _⟩ => ⟨S4098x11264, .f32⟩
  | .hbm, ⟨98, _⟩ => ⟨S4098x11264, .f32⟩
  | .hbm, ⟨99, _⟩ => ⟨S1x11264, .f32⟩
  | .hbm, ⟨100, _⟩ => ⟨S_, .f32⟩
  | .hbm, ⟨101, _⟩ => ⟨S3x11264, .f32⟩
  | .hbm, ⟨102, _⟩ => ⟨S3x11264, .f32⟩
  | .hbm, ⟨103, _⟩ => ⟨S2x11264, .f32⟩
  | .hbm, ⟨104, _⟩ => ⟨S4096x11264, .f32⟩
  | .hbm, ⟨105, _⟩ => ⟨S4096x5632, .f32⟩
  | .hbm, ⟨106, _⟩ => ⟨S4096x5632, .f32⟩
  | .hbm, ⟨107, _⟩ => ⟨S1x4096x5632, .f32⟩
  | .hbm, ⟨108, _⟩ => ⟨S1x4096x5632, .f32⟩
  | .hbm, ⟨109, _⟩ => ⟨S2x4096x5632, .f32⟩
  | .hbm, ⟨110, _⟩ => ⟨S2x4096x5632, .bf16⟩
  | .hbm, ⟨111, _⟩ => ⟨S3x5632, .f32⟩
  | .hbm, ⟨112, _⟩ => ⟨S3x5632, .f32⟩
  | .hbm, ⟨113, _⟩ => ⟨S5632, .f32⟩
  | .hbm, ⟨114, _⟩ => ⟨S1x5632, .f32⟩
  | .hbm, ⟨115, _⟩ => ⟨S5632, .f32⟩
  | .hbm, ⟨116, _⟩ => ⟨S1x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== KernelDownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDownDw.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpDx.lean ====
abbrev S2x4096x5632 : Shape := ⟨3, ![2, 4096, 5632]⟩
abbrev S11264x2048 : Shape := ⟨2, ![11264, 2048]⟩
abbrev S4096x2048 : Shape := ⟨2, ![4096, 2048]⟩
abbrev S1x1024x2816 : Shape := ⟨3, ![1, 1024, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S11264x2048, .bf16⟩
  | .hbm, ⟨2, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S2x4096x5632 : Shape := ⟨3, ![2, 4096, 5632]⟩
abbrev S11264x2048 : Shape := ⟨2, ![11264, 2048]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S11264x2048, .bf16⟩
  | .hbm, ⟨2, _⟩ => ⟨S2048x11264, .bf16⟩
  | .hbm, ⟨3, _⟩ => ⟨S1x4096x5632, .bf16⟩
  | .hbm, ⟨4, _⟩ => ⟨S4096x5632, .bf16⟩
  | .hbm, ⟨5, _⟩ => ⟨S1x4096x5632, .bf16⟩
  | .hbm, ⟨6, _⟩ => ⟨S4096x5632, .bf16⟩
  | .hbm, ⟨7, _⟩ => ⟨S4096x11264, .bf16⟩
  | .hbm, ⟨8, _⟩ => ⟨S_, .f32⟩
  | .hbm, ⟨9, _⟩ => ⟨S4096x2048, .f32⟩
  | .hbm, ⟨10, _⟩ => ⟨S2048x11264, .f32⟩
  | .hbm, ⟨11, _⟩ => ⟨S4096x11264, .f32⟩
  | .hbm, ⟨12, _⟩ => ⟨S4096x11264, .f32⟩
  | .hbm, ⟨13, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelUpDw.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S512x1408 : Shape := ⟨2, ![512, 1408]⟩
abbrev S4096x1408 : Shape := ⟨2, ![4096, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | .hbm, ⟨15, _⟩ => ⟨S2048x8x1408, .bf16⟩
  | .hbm, ⟨16, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== KernelOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInDx.lean ====
abbrev S4096x5376 : Shape := ⟨2, ![4096, 5376]⟩
abbrev S5376x2048 : Shape := ⟨2, ![5376, 2048]⟩
abbrev S4096x2048 : Shape := ⟨2, ![4096, 2048]⟩
abbrev S1024x5376 : Shape := ⟨2, ![1024, 5376]⟩
abbrev S5376x512 : Shape := ⟨2, ![5376, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S4096x2048, .f32⟩
  | .local _ .vmem, ⟨0, _⟩ => ⟨S1024x5376, .bf16⟩
  | .local _ .vmem, ⟨1, _⟩ => ⟨S1024x5376, .bf16⟩
  | .local _ .vmem, ⟨2, _⟩ => ⟨S5376x512, .bf16⟩
  | .local _ .vmem, ⟨3, _⟩ => ⟨S5376x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5376x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S4096x5376 : Shape := ⟨2, ![4096, 5376]⟩
abbrev S5376x2048 : Shape := ⟨2, ![5376, 2048]⟩
abbrev S2048x5376 : Shape := ⟨2, ![2048, 5376]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x2048, .bf16⟩
  | .hbm, ⟨2, _⟩ => ⟨S2048x5376, .bf16⟩
  | .hbm, ⟨3, _⟩ => ⟨S_, .f32⟩
  | .hbm, ⟨4, _⟩ => ⟨S4096x2048, .f32⟩
  | .hbm, ⟨5, _⟩ => ⟨S2048x5376, .f32⟩
  | .hbm, ⟨6, _⟩ => ⟨S4096x5376, .f32⟩
  | .hbm, ⟨7, _⟩ => ⟨S4096x5376, .f32⟩
  | .hbm, ⟨8, _⟩ => ⟨S4096x2048, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDw.lean ====
abbrev S4096x5376 : Shape := ⟨2, ![4096, 5376]⟩
abbrev S4096x2048 : Shape := ⟨2, ![4096, 2048]⟩
abbrev S5376x2048 : Shape := ⟨2, ![5376, 2048]⟩
abbrev S4096x896 : Shape := ⟨2, ![4096, 896]⟩
abbrev S4096x1024 : Shape := ⟨2, ![4096, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S5376x2048, .bf16⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S4096x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S4096x5376 : Shape := ⟨2, ![4096, 5376]⟩
abbrev S4096x2048 : Shape := ⟨2, ![4096, 2048]⟩
abbrev S_ : Shape := ⟨0, ![]⟩
abbrev S2048x5376 : Shape := ⟨2, ![2048, 5376]⟩
abbrev S5376x2048 : Shape := ⟨2, ![5376, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x2048, .bf16⟩
  | .hbm, ⟨2, _⟩ => ⟨S_, .f32⟩
  | .hbm, ⟨3, _⟩ => ⟨S2048x5376, .f32⟩
  | .hbm, ⟨4, _⟩ => ⟨S4096x2048, .f32⟩
  | .hbm, ⟨5, _⟩ => ⟨S4096x5376, .f32⟩
  | .hbm, ⟨6, _⟩ => ⟨S4096x5376, .f32⟩
  | .hbm, ⟨7, _⟩ => ⟨S5376x2048, .f32⟩
  | .hbm, ⟨8, _⟩ => ⟨S2048x5376, .f32⟩
  | .hbm, ⟨9, _⟩ => ⟨S5376x2048, .f32⟩
  | .hbm, ⟨10, _⟩ => ⟨S5376x2048, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelInFwd.lean ====
abbrev S4096x2048 : Shape := ⟨2, ![4096, 2048]⟩
abbrev S5376x2048 : Shape := ⟨2, ![5376, 2048]⟩
abbrev S4096x5376 : Shape := ⟨2, ![4096, 5376]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S4096x5376, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInFwdIdeal.lean ====
abbrev S4096x2048 : Shape := ⟨2, ![4096, 2048]⟩
abbrev S5376x2048 : Shape := ⟨2, ![5376, 2048]⟩
abbrev S2048x5376 : Shape := ⟨2, ![2048, 5376]⟩
abbrev S4096x5376 : Shape := ⟨2, ![4096, 5376]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5376x2048, .bf16⟩
  | .hbm, ⟨2, _⟩ => ⟨S2048x5376, .bf16⟩
  | .hbm, ⟨3, _⟩ => ⟨S4096x2048, .f32⟩
  | .hbm, ⟨4, _⟩ => ⟨S2048x5376, .f32⟩
  | .hbm, ⟨5, _⟩ => ⟨S4096x5376, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOutFwd.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutFwdIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUpFwd.lean ====
abbrev S4096x2048 : Shape := ⟨2, ![4096, 2048]⟩
abbrev S11264x2048 : Shape := ⟨2, ![11264, 2048]⟩
abbrev S4096x11264 : Shape := ⟨2, ![4096, 11264]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpFwdIdeal.lean ====
abbrev S4096x2048 : Shape := ⟨2, ![4096, 2048]⟩
abbrev S11264x2048 : Shape := ⟨2, ![11264, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S2048x11264, .bf16⟩
  | .hbm, ⟨3, _⟩ => ⟨S4096x2048, .f32⟩
  | .hbm, ⟨4, _⟩ => ⟨S2048x11264, .f32⟩
  | .hbm, ⟨5, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDownFwd.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownFwdIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNormBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== KernelMixBwd.lean ====
abbrev S4096x2048 : Shape := ⟨2, ![4096, 2048]⟩
abbrev S4096x512 : Shape := ⟨2, ![4096, 512]⟩
abbrev S4096x1024 : Shape := ⟨2, ![4096, 1024]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1x1024 : Shape := ⟨2, ![1, 1024]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S2048, .f32⟩
  | .hbm, ⟨5, _⟩ => ⟨S1x2048, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .f32⟩
  | .local _ .vmem, ⟨14, _⟩ => ⟨S512x1024, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceMixBwdIdeal.lean ====
abbrev S4096x2048 : Shape := ⟨2, ![4096, 2048]⟩
abbrev S4096x512 : Shape := ⟨2, ![4096, 512]⟩
abbrev S4096x1024 : Shape := ⟨2, ![4096, 1024]⟩
abbrev S2048 : Shape := ⟨1, ![2048]⟩
abbrev S512 : Shape := ⟨1, ![512]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩
abbrev S1x2048 : Shape := ⟨2, ![1, 2048]⟩

abbrev nBuf : Space → Nat
  | .hbm => 149
  | .vmem => 0
  | .smem => 0
  | _ => 0

abbrev hbmTy0_0 (i : Nat) : BufTy := match i % 128 with
  | 0 => ⟨S4096x2048, .f32⟩
  | 1 => ⟨S4096x512, .f32⟩
  | 2 => ⟨S4096x512, .f32⟩
  | 3 => ⟨S4096x1024, .f32⟩
  | 4 => ⟨S2048, .f32⟩
  | 5 => ⟨S512, .f32⟩
  | 6 => ⟨S512, .f32⟩
  | 7 => ⟨S1024, .f32⟩
  | 8 => ⟨S4096x512, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x512, .f32⟩
  | 24 => ⟨S4096x512, .f32⟩
  | 25 => ⟨S1x512, .f32⟩
  | 26 => ⟨S4096x512, .f32⟩
  | 27 => ⟨S4096x512, .f32⟩
  | 28 => ⟨S4096x512, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x512, .f32⟩
  | 44 => ⟨S4096x512, .f32⟩
  | 45 => ⟨S1x512, .f32⟩
  | 46 => ⟨S4096x512, .f32⟩
  | 47 => ⟨S4096x512, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S1x1024, .f32⟩
  | 66 => ⟨S4096x1024, .f32⟩
  | 67 => ⟨S4096x1024, .f32⟩
  | 68 => ⟨S4096x2048, .f32⟩
  | 69 => ⟨S4096x512, .f32⟩
  | 70 => ⟨S4096x512, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S4096x1024, .f32⟩
  | 77 => ⟨S4096x1024, .f32⟩
  | 78 => ⟨S_, .f32⟩
  | 79 => ⟨S1024, .f32⟩
  | 80 => ⟨S4096x1024, .f32⟩
  | 81 => ⟨S_, .f32⟩
  | 82 => ⟨S4096, .f32⟩
  | 83 => ⟨S4096x1, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x512, .f32⟩
  | 98 => ⟨S_, .f32⟩
  | 99 => ⟨S512, .f32⟩
  | 100 => ⟨S1x512, .f32⟩
  | 101 => ⟨S4096x512, .f32⟩
  | 102 => ⟨S4096x512, .f32⟩
  | 103 => ⟨S_, .f32⟩
  | 104 => ⟨S512, .f32⟩
  | 105 => ⟨S4096x512, .f32⟩
  | 106 => ⟨S_, .f32⟩
  | 107 => ⟨S4096, .f32⟩
  | 108 => ⟨S4096x1, .f32⟩
  | 109 => ⟨S4096x512, .f32⟩
  | 110 => ⟨S4096x512, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S_, .f32⟩
  | 124 => ⟨S512, .f32⟩
  | 125 => ⟨S1x512, .f32⟩
  | 126 => ⟨S4096x512, .f32⟩
  | 127 => ⟨S4096x512, .f32⟩
  | _ => ⟨S4096x2048, .f32⟩

abbrev hbmTy0_1 (i : Nat) : BufTy := match i % 128 with
  | 0 => ⟨S_, .f32⟩
  | 1 => ⟨S512, .f32⟩
  | 2 => ⟨S4096x512, .f32⟩
  | 3 => ⟨S_, .f32⟩
  | 4 => ⟨S4096, .f32⟩
  | 5 => ⟨S4096x1, .f32⟩
  | 6 => ⟨S4096x512, .f32⟩
  | 7 => ⟨S4096x512, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S2048, .f32⟩
  | 20 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_cst_23 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_24 : Ref sig .tc := ⟨.hbm, 137, rfl⟩
abbrev main_v107 : Ref sig .tc := ⟨.hbm, 138, rfl⟩
abbrev main_v108 : Ref sig .tc := ⟨.hbm, 139, rfl⟩
abbrev main_cst_25 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩

abbrev nD : Nat := 1
abbrev τ : Topo := Topo.v7x

variable {F : FTy → Type} [FloatOps F]
-- ==== KernelActFwd.lean ====
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S4096x5632 : Shape := ⟨2, ![4096, 5632]⟩
abbrev S4096x256 : Shape := ⟨2, ![4096, 256]⟩
abbrev S3x256 : Shape := ⟨2, ![3, 256]⟩
abbrev S1x256 : Shape := ⟨2, ![1, 256]⟩
abbrev S256x256 : Shape := ⟨2, ![256, 256]⟩
abbrev S264x256 : Shape := ⟨2, ![264, 256]⟩

abbrev nBuf : Space → Nat
  | .hbm => 6
  | .vmem => 14
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S1x11264, .f32⟩
  | .hbm, ⟨5, _⟩ => ⟨S4096x5632, .bf16⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4096x256, .bf16⟩
  | .local _ .vmem, ⟨13, _⟩ => ⟨S4096x256, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

@[reducible] def k0_t1_loop : Scf.Loop 32 :=
  let c1_i32_31 : BitVec 32 := 1#32
  let c15_i32 : BitVec 32 := 15#32
  let v65 : BitVec 32 := Scalar.addi c1_i32_31 c15_i32
  let c1_i32_32 : BitVec 32 := 1#32
  ⟨c1_i32_31, v65, c1_i32_32⟩
def k0_mult1 (k0_t1 : Fin k0_t1_loop.trips) : BitVec 32 :=
  let c1_i32_31 : BitVec 32 := 1#32
  let c1_i32_32 : BitVec 32 := 1#32
  let arg8 : BitVec 32 := Scf.iv c1_i32_31 c1_i32_32 k0_t1
  let c256_i32 : BitVec 32 := 256#32
  let v66 : BitVec 32 := Scalar.muli arg8 c256_i32
  v66
def k0_mult2 (k0_t1 : Fin k0_t1_loop.trips) : BitVec 32 :=
  let c1_i32_31 : BitVec 32 := 1#32
  let c1_i32_32 : BitVec 32 := 1#32
  let arg8 : BitVec 32 := Scf.iv c1_i32_31 c1_i32_32 k0_t1
  let c256_i32 : BitVec 32 := 256#32
  let v66 : BitVec 32 := Scalar.muli arg8 c256_i32
  let v67 : BitVec 32 := v66
  let c8_i32 : BitVec 32 := 8#32
  let v68 : BitVec 32 := Scalar.subi v67 c8_i32
  v68
def k0_off1 (k0_t1 : Fin k0_t1_loop.trips) : Fin 2 → Nat :=
  let c1_i32_31 : BitVec 32 := 1#32
  let c1_i32_32 : BitVec 32 := 1#32
  let arg8 : BitVec 32 := Scf.iv c1_i32_31 c1_i32_32 k0_t1
  let c256_i32 : BitVec 32 := 256#32
  let v66 : BitVec 32 := Scalar.muli arg8 c256_i32
  let v67 : BitVec 32 := v66
  let c8_i32 : BitVec 32 := 8#32
  let v68 : BitVec 32 := Scalar.subi v67 c8_i32
  let v69 : BitVec 32 := v68
  let v70 : Index := Scalar.indexCast v69
  let c0_34 : Index := 0#32
  ![v70.toNat, 0]
def k0_mult3 (k0_t1 : Fin k0_t1_loop.trips) : BitVec 32 :=
  let c1_i32_31 : BitVec 32 := 1#32
  let c1_i32_32 : BitVec 32 := 1#32
  let arg8 : BitVec 32 := Scf.iv c1_i32_31 c1_i32_32 k0_t1
  let c256_i32 : BitVec 32 := 256#32
  let v66 : BitVec 32 := Scalar.muli arg8 c256_i32
  let v67 : BitVec 32 := v66
  let c8_i32_45 : BitVec 32 := 8#32
  let v92 : BitVec 32 := Scalar.subi v67 c8_i32_45
  v92
def k0_off2 (k0_t1 : Fin k0_t1_loop.trips) : Fin 2 → Nat :=
  let c1_i32_31 : BitVec 32 := 1#32
  let c1_i32_32 : BitVec 32 := 1#32
  let arg8 : BitVec 32 := Scf.iv c1_i32_31 c1_i32_32 k0_t1
  let c256_i32 : BitVec 32 := 256#32
  let v66 : BitVec 32 := Scalar.muli arg8 c256_i32
  let v67 : BitVec 32 := v66
  let v126 : Index := Scalar.indexCast v67
  let c0_60 : Index := 0#32
  ![v126.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceActFwdIdeal.lean ====
abbrev S4096x11264 : Shape := ⟨2, ![4096, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩
abbrev S1x11264 : Shape := ⟨2, ![1, 11264]⟩
abbrev S4096x5632 : Shape := ⟨2, ![4096, 5632]⟩

abbrev nBuf : Space → Nat
  | .hbm => 42
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S_, .f32⟩
  | .hbm, ⟨4, _⟩ => ⟨S2x11264, .f32⟩
  | .hbm, ⟨5, _⟩ => ⟨S4098x11264, .f32⟩
  | .hbm, ⟨6, _⟩ => ⟨S1x11264, .f32⟩
  | .hbm, ⟨7, _⟩ => ⟨S11264, .f32⟩
  | .hbm, ⟨8, _⟩ => ⟨S4096x11264, .f32⟩
  | .hbm, ⟨9, _⟩ => ⟨S1x11264, .f32⟩
  | .hbm, ⟨10, _⟩ => ⟨S4096x11264, .f32⟩
  | .hbm, ⟨11, _⟩ => ⟨S4096x11264, .f32⟩
  | .hbm, ⟨12, _⟩ => ⟨S1x11264, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S4096x11264, .f32⟩
  | .hbm, ⟨18, _⟩ => ⟨S1x11264, .f32⟩
  | .hbm, ⟨19, _⟩ => ⟨S4096x11264, .f32⟩
  | .hbm, ⟨20, _⟩ => ⟨S4096x11264, .f32⟩
  | .hbm, ⟨21, _⟩ => ⟨S4096x11264, .f32⟩
  | .hbm, ⟨22, _⟩ => ⟨S1x11264, .f32⟩
  | .hbm, ⟨23, _⟩ => ⟨S11264, .f32⟩
  | .hbm, ⟨24, _⟩ => ⟨S4096x11264, .f32⟩
  | .hbm, ⟨25, _⟩ => ⟨S1x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== KernelNormFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormFwdIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMixFwd.lean ====
abbrev S4096x512 : Shape := ⟨2, ![4096, 512]⟩
abbrev S4096x1024 : Shape := ⟨2, ![4096, 1024]⟩
abbrev S2048 : Shape := ⟨1, ![2048]⟩
abbrev S1x2048 : Shape := ⟨2, ![1, 2048]⟩
abbrev S4096x2048 : Shape := ⟨2, ![4096, 2048]⟩
abbrev S512x512 : Shape := ⟨2, ![512, 512]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2048, .f32⟩
  | .hbm, ⟨4, _⟩ => ⟨S1x2048, .f32⟩
  | .hbm, ⟨5, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceMixFwdIdeal.lean ====
abbrev S4096x512 : Shape := ⟨2, ![4096, 512]⟩
abbrev S4096x1024 : Shape := ⟨2, ![4096, 1024]⟩
abbrev S2048 : Shape := ⟨1, ![2048]⟩
abbrev S512 : Shape := ⟨1, ![512]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩
abbrev S4096x2048 : Shape := ⟨2, ![4096, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2048, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x2048, .f32⟩
  | .hbm, ⟨56, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== KernelLoss.lean ====
abbrev S4096x2048 : Shape := ⟨2, ![4096, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceLossIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== KernelBiasA.lean ====
abbrev S1x8x128x256 : Shape := ⟨4, ![1, 8, 128, 256]⟩
abbrev S1x128x256 : Shape := ⟨3, ![1, 128, 256]⟩
abbrev S8x8x128 : Shape := ⟨3, ![8, 8, 128]⟩
abbrev S1x1x128x256 : Shape := ⟨4, ![1, 1, 128, 256]⟩
abbrev S1x8x128 : Shape := ⟨3, ![1, 8, 128]⟩
abbrev S1x128 : Shape := ⟨2, ![1, 128]⟩
abbrev S1x1 : Shape := ⟨2, ![1, 1]⟩
abbrev S128x256 : Shape := ⟨2, ![128, 256]⟩
abbrev S256 : Shape := ⟨1, ![256]⟩
abbrev S1x256 : Shape := ⟨2, ![1, 256]⟩
abbrev S1 : Shape := ⟨1, ![1]⟩
abbrev S8x128 : Shape := ⟨2, ![8, 128]⟩

abbrev nBuf : Space → Nat
  | .hbm => 3
  | .vmem => 5
  | .smem => 0
  | _ => 0

abbrev bufTy : (tb : Table) → Fin (tcTables nBuf tb) → BufTy
  | .hbm, ⟨0, _⟩ => ⟨S1x8x128x256, .f32⟩
  | .hbm, ⟨1, _⟩ => ⟨S1x128x256, .i32⟩
  | .hbm, ⟨2, _⟩ => ⟨S8x8x128, .f32⟩
  | .local _ .vmem, ⟨0, _⟩ => ⟨S1x1x128x256, .f32⟩
  | .local _ .vmem, ⟨1, _⟩ => ⟨S1x1x128x256, .f32⟩
  | .local _ .vmem, ⟨2, _⟩ => ⟨S1x128x256, .i32⟩
  | .local _ .vmem, ⟨3, _⟩ => ⟨S1x8x128, .f32⟩
  | .local _ .vmem, ⟨4, _⟩ => ⟨S1x8x128, .f32⟩
  | _, _ => ⟨S1x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelBiasAIdeal.lean ====
abbrev S1x8x128x256 : Shape := ⟨4, ![1, 8, 128, 256]⟩
abbrev S1x128x256 : Shape := ⟨3, ![1, 128, 256]⟩
abbrev S8x8x128 : Shape := ⟨3, ![8, 8, 128]⟩
abbrev S1x1x128x256 : Shape := ⟨4, ![1, 1, 128, 256]⟩
abbrev S1x8x128 : Shape := ⟨3, ![1, 8, 128]⟩
abbrev S1x128 : Shape := ⟨2, ![1, 128]⟩
abbrev S1x1 : Shape := ⟨2, ![1, 1]⟩
abbrev S128x256 : Shape := ⟨2, ![128, 256]⟩
abbrev S256 : Shape := ⟨1, ![256]⟩
abbrev S1x256 : Shape := ⟨2, ![1, 256]⟩
abbrev S1 : Shape := ⟨1, ![1]⟩
abbrev S8x128 : Shape := ⟨2, ![8, 128]⟩

abbrev nBuf : Space → Nat
  | .hbm => 3
  | .vmem => 5
  | .smem => 0
  | _ => 0

abbrev bufTy : (tb : Table) → Fin (tcTables nBuf tb) → BufTy
  | .hbm, ⟨0, _⟩ => ⟨S1x8x128x256, .f32⟩
  | .hbm, ⟨1, _⟩ => ⟨S1x128x256, .i32⟩
  | .hbm, ⟨2, _⟩ => ⟨S8x8x128, .f32⟩
  | .local _ .vmem, ⟨0, _⟩ => ⟨S1x1x128x256, .f32⟩
  | .local _ .vmem, ⟨1, _⟩ => ⟨S1x1x128x256, .f32⟩
  | .local _ .vmem, ⟨2, _⟩ => ⟨S1x128x256, .i32⟩
  | .local _ .vmem, ⟨3, _⟩ => ⟨S1x8x128, .f32⟩
  | .local _ .vmem, ⟨4, _⟩ => ⟨S1x8x128, .f32⟩
  | _, _ => ⟨S1x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceBiasAIdeal.lean ====
abbrev S1x8x128x256 : Shape := ⟨4, ![1, 8, 128, 256]⟩
abbrev S1x128x256 : Shape := ⟨3, ![1, 128, 256]⟩
abbrev S_ : Shape := ⟨0, ![]⟩
abbrev S32x8 : Shape := ⟨2, ![32, 8]⟩
abbrev S1x1x128x256x1 : Shape := ⟨5, ![1, 1, 128, 256, 1]⟩
abbrev S32 : Shape := ⟨1, ![32]⟩
abbrev S1x1x1x1x32 : Shape := ⟨5, ![1, 1, 1, 1, 32]⟩
abbrev S1x1x128x256x32 : Shape := ⟨5, ![1, 1, 128, 256, 32]⟩
abbrev S8x32 : Shape := ⟨2, ![8, 32]⟩
abbrev S1x8x1x1x32 : Shape := ⟨5, ![1, 8, 1, 1, 32]⟩
abbrev S1x8x128x256x32 : Shape := ⟨5, ![1, 8, 128, 256, 32]⟩
abbrev S8x96 : Shape := ⟨2, ![8, 96]⟩
abbrev S8x128 : Shape := ⟨2, ![8, 128]⟩
abbrev S8x1x128 : Shape := ⟨3, ![8, 1, 128]⟩
abbrev S8x8x128 : Shape := ⟨3, ![8, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S1x8x128x256, .f32⟩
  | .hbm, ⟨1, _⟩ => ⟨S1x128x256, .i32⟩
  | .hbm, ⟨2, _⟩ => ⟨S_, .f32⟩
  | .hbm, ⟨3, _⟩ => ⟨S32x8, .f32⟩
  | .hbm, ⟨4, _⟩ => ⟨S1x1x128x256x1, .i32⟩
  | .hbm, ⟨5, _⟩ => ⟨S32, .i32⟩
  | .hbm, ⟨6, _⟩ => ⟨S1x1x1x1x32, .i32⟩
  | .hbm, ⟨7, _⟩ => ⟨S1x1x128x256x32, .i32⟩
  | .hbm, ⟨8, _⟩ => ⟨S1x1x128x256x32, .i32⟩
  | .hbm, ⟨9, _⟩ => ⟨S1x1x128x256x32, .i1⟩
  | .hbm, ⟨10, _⟩ => ⟨S8x32, .f32⟩
  | .hbm, ⟨11, _⟩ => ⟨S1x8x1x1x32, .f32⟩
  | .hbm, ⟨12, _⟩ => ⟨S_, .f32⟩
  | .hbm, ⟨13, _⟩ => ⟨S_, .f32⟩
  | .hbm, ⟨14, _⟩ => ⟨S1x8x128x256x32, .i1⟩
  | .hbm, ⟨15, _⟩ => ⟨S1x8x128x256x32, .f32⟩
  | .hbm, ⟨16, _⟩ => ⟨S1x8x128x256x32, .f32⟩
  | .hbm, ⟨17, _⟩ => ⟨S1x8x128x256x32, .f32⟩
  | .hbm, ⟨18, _⟩ => ⟨S_, .f32⟩
  | .hbm, ⟨19, _⟩ => ⟨S1x8x128x256x32, .f32⟩
  | .hbm, ⟨20, _⟩ => ⟨S_, .f32⟩
  | .hbm, ⟨21, _⟩ => ⟨S1x8x128x256, .f32⟩
  | .hbm, ⟨22, _⟩ => ⟨S1x8x128x256x32, .f32⟩
  | .hbm, ⟨23, _⟩ => ⟨S_, .f32⟩
  | .hbm, ⟨24, _⟩ => ⟨S1x8x128x256x32, .f32⟩
  | .hbm, ⟨25, _⟩ => ⟨S1x8x128x256x32, .f32⟩
  | .hbm, ⟨26, _⟩ => ⟨S_, .f32⟩
  | .hbm, ⟨27, _⟩ => ⟨S8x32, .f32⟩
  | .hbm, ⟨28, _⟩ => ⟨S1x8x1x1x32, .f32⟩
  | .hbm, ⟨29, _⟩ => ⟨S_, .f32⟩
  | .hbm, ⟨30, _⟩ => ⟨S8x32, .f32⟩
  | .hbm, ⟨31, _⟩ => ⟨S32x8, .f32⟩
  | .hbm, ⟨32, _⟩ => ⟨S8x32, .f32⟩
  | .hbm, ⟨33, _⟩ => ⟨S_, .f32⟩
  | .hbm, ⟨34, _⟩ => ⟨S8x96, .f32⟩
  | .hbm, ⟨35, _⟩ => ⟨S8x128, .f32⟩
  | .hbm, ⟨36, _⟩ => ⟨S8x1x128, .f32⟩
  | .hbm, ⟨37, _⟩ => ⟨S8x8x128, .f32⟩
  | _, _ => ⟨S1x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_v9_1 : Ref sig .tc := ⟨.hbm, 14, rfl⟩
abbrev main_call0_v2 : Ref sig .tc := ⟨.hbm, 15, rfl⟩
abbrev main_call0_v3 : Ref sig .tc := ⟨.hbm, 16, rfl⟩
abbrev main_v9_0 : Ref sig .tc := ⟨.hbm, 17, rfl⟩
abbrev main_call0_cst : Ref sig .tc := ⟨.hbm, 18, rfl⟩
abbrev main_v9_2 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_cst_0 : Ref sig .tc := ⟨.hbm, 26, rfl⟩
abbrev main_call1_v2 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== KernelBiasC.lean ====
abbrev S3x16x128x256 : Shape := ⟨4, ![3, 16, 128, 256]⟩
abbrev S3x128x256 : Shape := ⟨3, ![3, 128, 256]⟩
abbrev S16x8x128 : Shape := ⟨3, ![16, 8, 128]⟩
abbrev S3x1x128x256 : Shape := ⟨4, ![3, 1, 128, 256]⟩
abbrev S1x8x128 : Shape := ⟨3, ![1, 8, 128]⟩
abbrev S1x128 : Shape := ⟨2, ![1, 128]⟩
abbrev S1x1 : Shape := ⟨2, ![1, 1]⟩
abbrev S1x128x256 : Shape := ⟨3, ![1, 128, 256]⟩
abbrev S128x256 : Shape := ⟨2, ![128, 256]⟩
abbrev S1x1x128x256 : Shape := ⟨4, ![1, 1, 128, 256]⟩
abbrev S256 : Shape := ⟨1, ![256]⟩
abbrev S1x256 : Shape := ⟨2, ![1, 256]⟩
abbrev S1 : Shape := ⟨1, ![1]⟩
abbrev S8x128 : Shape := ⟨2, ![8, 128]⟩

abbrev nBuf : Space → Nat
  | .hbm => 3
  | .vmem => 5
  | .smem => 0
  | _ => 0

abbrev bufTy : (tb : Table) → Fin (tcTables nBuf tb) → BufTy
  | .hbm, ⟨0, _⟩ => ⟨S3x16x128x256, .f32⟩
  | .hbm, ⟨1, _⟩ => ⟨S3x128x256, .i32⟩
  | .hbm, ⟨2, _⟩ => ⟨S16x8x128, .f32⟩
  | .local _ .vmem, ⟨0, _⟩ => ⟨S3x1x128x256, .f32⟩
  | .local _ .vmem, ⟨1, _⟩ => ⟨S3x1x128x256, .f32⟩
  | .local _ .vmem, ⟨2, _⟩ => ⟨S3x128x256, .i32⟩
  | .local _ .vmem, ⟨3, _⟩ => ⟨S1x8x128, .f32⟩
  | .local _ .vmem, ⟨4, _⟩ => ⟨S1x8x128, .f32⟩
  | _, _ => ⟨S3x16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceBiasCIdeal.lean ====
abbrev S3x16x128x256 : Shape := ⟨4, ![3, 16, 128, 256]⟩
abbrev S3x128x256 : Shape := ⟨3, ![3, 128, 256]⟩
abbrev S_ : Shape := ⟨0, ![]⟩
abbrev S32x16 : Shape := ⟨2, ![32, 16]⟩
abbrev S3x1x128x256x1 : Shape := ⟨5, ![3, 1, 128, 256, 1]⟩
abbrev S32 : Shape := ⟨1, ![32]⟩
abbrev S1x1x1x1x32 : Shape := ⟨5, ![1, 1, 1, 1, 32]⟩
abbrev S3x1x128x256x32 : Shape := ⟨5, ![3, 1, 128, 256, 32]⟩
abbrev S16x32 : Shape := ⟨2, ![16, 32]⟩
abbrev S1x16x1x1x32 : Shape := ⟨5, ![1, 16, 1, 1, 32]⟩
abbrev S3x16x128x256x32 : Shape := ⟨5, ![3, 16, 128, 256, 32]⟩
abbrev S16x96 : Shape := ⟨2, ![16, 96]⟩
abbrev S16x128 : Shape := ⟨2, ![16, 128]⟩
abbrev S16x1x128 : Shape := ⟨3, ![16, 1, 128]⟩
abbrev S16x8x128 : Shape := ⟨3, ![16, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S3x16x128x256, .f32⟩
  | .hbm, ⟨1, _⟩ => ⟨S3x128x256, .i32⟩
  | .hbm, ⟨2, _⟩ => ⟨S_, .f32⟩
  | .hbm, ⟨3, _⟩ => ⟨S32x16, .f32⟩
  | .hbm, ⟨4, _⟩ => ⟨S3x1x128x256x1, .i32⟩
  | .hbm, ⟨5, _⟩ => ⟨S32, .i32⟩
  | .hbm, ⟨6, _⟩ => ⟨S1x1x1x1x32, .i32⟩
  | .hbm, ⟨7, _⟩ => ⟨S3x1x128x256x32, .i32⟩
  | .hbm, ⟨8, _⟩ => ⟨S3x1x128x256x32, .i32⟩
  | .hbm, ⟨9, _⟩ => ⟨S3x1x128x256x32, .i1⟩
  | .hbm, ⟨10, _⟩ => ⟨S16x32, .f32⟩
  | .hbm, ⟨11, _⟩ => ⟨S1x16x1x1x32, .f32⟩
  | .hbm, ⟨12, _⟩ => ⟨S_, .f32⟩
  | .hbm, ⟨13, _⟩ => ⟨S_, .f32⟩
  | .hbm, ⟨14, _⟩ => ⟨S3x16x128x256x32, .i1⟩
  | .hbm, ⟨15, _⟩ => ⟨S3x16x128x256x32, .f32⟩
  | .hbm, ⟨16, _⟩ => ⟨S3x16x128x256x32, .f32⟩
  | .hbm, ⟨17, _⟩ => ⟨S3x16x128x256x32, .f32⟩
  | .hbm, ⟨18, _⟩ => ⟨S_, .f32⟩
  | .hbm, ⟨19, _⟩ => ⟨S3x16x128x256x32, .f32⟩
  | .hbm, ⟨20, _⟩ => ⟨S_, .f32⟩
  | .hbm, ⟨21, _⟩ => ⟨S3x16x128x256, .f32⟩
  | .hbm, ⟨22, _⟩ => ⟨S3x16x128x256x32, .f32⟩
  | .hbm, ⟨23, _⟩ => ⟨S_, .f32⟩
  | .hbm, ⟨24, _⟩ => ⟨S3x16x128x256x32, .f32⟩
  | .hbm, ⟨25, _⟩ => ⟨S3x16x128x256x32, .f32⟩
  | .hbm, ⟨26, _⟩ => ⟨S_, .f32⟩
  | .hbm, ⟨27, _⟩ => ⟨S16x32, .f32⟩
  | .hbm, ⟨28, _⟩ => ⟨S1x16x1x1x32, .f32⟩
  | .hbm, ⟨29, _⟩ => ⟨S_, .f32⟩
  | .hbm, ⟨30, _⟩ => ⟨S16x32, .f32⟩
  | .hbm, ⟨31, _⟩ => ⟨S32x16, .f32⟩
  | .hbm, ⟨32, _⟩ => ⟨S16x32, .f32⟩
  | .hbm, ⟨33, _⟩ => ⟨S_, .f32⟩
  | .hbm, ⟨34, _⟩ => ⟨S16x96, .f32⟩
  | .hbm, ⟨35, _⟩ => ⟨S16x128, .f32⟩
  | .hbm, ⟨36, _⟩ => ⟨S16x1x128, .f32⟩
  | .hbm, ⟨37, _⟩ => ⟨S16x8x128, .f32⟩
  | _, _ => ⟨S3x16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_v9_1 : Ref sig .tc := ⟨.hbm, 14, rfl⟩
abbrev main_call0_v2 : Ref sig .tc := ⟨.hbm, 15, rfl⟩
abbrev main_call0_v3 : Ref sig .tc := ⟨.hbm, 16, rfl⟩
abbrev main_v9_0 : Ref sig .tc := ⟨.hbm, 17, rfl⟩
abbrev main_call0_cst : Ref sig .tc := ⟨.hbm, 18, rfl⟩
abbrev main_v9_2 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_cst_0 : Ref sig .tc := ⟨.hbm, 26, rfl⟩
abbrev main_call1_v2 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== KernelUpdateIn.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateInIdeal.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateInIdeal.lean ====
abbrev S8x672x2048 : Shape := ⟨3, ![8, 672, 2048]⟩
abbrev S4x672x2048 : Shape := ⟨3, ![4, 672, 2048]⟩
abbrev S_ : Shape := ⟨0, ![]⟩
abbrev S672x2048 : Shape := ⟨2, ![672, 2048]⟩
abbrev S1x672x2048 : Shape := ⟨3, ![1, 672, 2048]⟩
abbrev S3x672x2048 : Shape := ⟨3, ![3, 672, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S8x672x2048, .f32⟩
  | .hbm, ⟨9, _⟩ => ⟨S_, .f32⟩
  | .hbm, ⟨10, _⟩ => ⟨S672x2048, .f32⟩
  | .hbm, ⟨11, _⟩ => ⟨S1x672x2048, .f32⟩
  | .hbm, ⟨12, _⟩ => ⟨S672x2048, .f32⟩
  | .hbm, ⟨13, _⟩ => ⟨S1x672x2048, .f32⟩
  | .hbm, ⟨14, _⟩ => ⟨S672x2048, .f32⟩
  | .hbm, ⟨15, _⟩ => ⟨S1x672x2048, .f32⟩
  | .hbm, ⟨16, _⟩ => ⟨S672x2048, .f32⟩
  | .hbm, ⟨17, _⟩ => ⟨S_, .f32⟩
  | .hbm, ⟨18, _⟩ => ⟨S672x2048, .f32⟩
  | .hbm, ⟨19, _⟩ => ⟨S672x2048, .f32⟩
  | .hbm, ⟨20, _⟩ => ⟨S_, .f32⟩
  | .hbm, ⟨21, _⟩ => ⟨S672x2048, .f32⟩
  | .hbm, ⟨22, _⟩ => ⟨S672x2048, .f32⟩
  | .hbm, ⟨23, _⟩ => ⟨S672x2048, .f32⟩
  | .hbm, ⟨24, _⟩ => ⟨S_, .f32⟩
  | .hbm, ⟨25, _⟩ => ⟨S672x2048, .f32⟩
  | .hbm, ⟨26, _⟩ => ⟨S672x2048, .f32⟩
  | .hbm, ⟨27, _⟩ => ⟨S672x2048, .f32⟩
  | .hbm, ⟨28, _⟩ => ⟨S_, .f32⟩
  | .hbm, ⟨29, _⟩ => ⟨S672x2048, .f32⟩
  | .hbm, ⟨30, _⟩ => ⟨S672x2048, .f32⟩
  | .hbm, ⟨31, _⟩ => ⟨S672x2048, .f32⟩
  | .hbm, ⟨32, _⟩ => ⟨S_, .f32⟩
  | .hbm, ⟨33, _⟩ => ⟨S672x2048, .f32⟩
  | .hbm, ⟨34, _⟩ => ⟨S672x2048, .f32⟩
  | .hbm, ⟨35, _⟩ => ⟨S_, .f32⟩
  | .hbm, ⟨36, _⟩ => ⟨S672x2048, .f32⟩
  | .hbm, ⟨37, _⟩ => ⟨S672x2048, .f32⟩
  | .hbm, ⟨38, _⟩ => ⟨S672x2048, .f32⟩
  | .hbm, ⟨39, _⟩ => ⟨S_, .f32⟩
  | .hbm, ⟨40, _⟩ => ⟨S672x2048, .f32⟩
  | .hbm, ⟨41, _⟩ => ⟨S672x2048, .f32⟩
  | .hbm, ⟨42, _⟩ => ⟨S672x2048, .f32⟩
  | .hbm, ⟨43, _⟩ => ⟨S_, .f32⟩
  | .hbm, ⟨44, _⟩ => ⟨S672x2048, .f32⟩
  | .hbm, ⟨45, _⟩ => ⟨S672x2048, .f32⟩
  | .hbm, ⟨46, _⟩ => ⟨S672x2048, .f32⟩
  | .hbm, ⟨47, _⟩ => ⟨S_, .f32⟩
  | .hbm, ⟨48, _⟩ => ⟨S672x2048, .f32⟩
  | .hbm, ⟨49, _⟩ => ⟨S672x2048, .f32⟩
  | .hbm, ⟨50, _⟩ => ⟨S1x672x2048, .f32⟩
  | .hbm, ⟨51, _⟩ => ⟨S3x672x2048, .f32⟩
  | .hbm, ⟨52, _⟩ => ⟨S4x672x2048, .f32⟩
  | .hbm, ⟨53, _⟩ => ⟨S1x672x2048, .f32⟩
  | .hbm, ⟨54, _⟩ => ⟨S3x672x2048, .f32⟩
  | .hbm, ⟨55, _⟩ => ⟨S4x672x2048, .f32⟩
  | .hbm, ⟨56, _⟩ => ⟨S1x672x2048, .f32⟩
  | .hbm, ⟨57, _⟩ => ⟨S3x672x2048, .f32⟩
  | .hbm, ⟨58, _⟩ => ⟨S4x672x2048, .f32⟩
  | .hbm, ⟨59, _⟩ => ⟨S1x672x2048, .f32⟩
  | .hbm, ⟨60, _⟩ => ⟨S3x672x2048, .f32⟩
  | .hbm, ⟨61, _⟩ => ⟨S4x672x2048, .f32⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelUpdateOut.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateOutIdeal.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateOutIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S3x256x2048, .f32⟩
  | .hbm, ⟨52, _⟩ => ⟨S4x256x2048, .f32⟩
  | .hbm, ⟨53, _⟩ => ⟨S1x256x2048, .f32⟩
  | .hbm, ⟨54, _⟩ => ⟨S3x256x2048, .f32⟩
  | .hbm, ⟨55, _⟩ => ⟨S4x256x2048, .f32⟩
  | .hbm, ⟨56, _⟩ => ⟨S1x256x2048, .f32⟩
  | .hbm, ⟨57, _⟩ => ⟨S3x256x2048, .f32⟩
  | .hbm, ⟨58, _⟩ => ⟨S4x256x2048, .f32⟩
  | .hbm, ⟨59, _⟩ => ⟨S1x256x2048, .f32⟩
  | .hbm, ⟨60, _⟩ => ⟨S3x256x2048, .f32⟩
  | .hbm, ⟨61, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelUpdateUp.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateUpIdeal.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateUpIdeal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S3x2048x1408 : Shape := ⟨3, ![3, 2048, 1408]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S1x2048x1408, .f32⟩
  | .hbm, ⟨51, _⟩ => ⟨S3x2048x1408, .f32⟩
  | .hbm, ⟨52, _⟩ => ⟨S4x2048x1408, .f32⟩
  | .hbm, ⟨53, _⟩ => ⟨S1x2048x1408, .f32⟩
  | .hbm, ⟨54, _⟩ => ⟨S3x2048x1408, .f32⟩
  | .hbm, ⟨55, _⟩ => ⟨S4x2048x1408, .f32⟩
  | .hbm, ⟨56, _⟩ => ⟨S1x2048x1408, .f32⟩
  | .hbm, ⟨57, _⟩ => ⟨S3x2048x1408, .f32⟩
  | .hbm, ⟨58, _⟩ => ⟨S4x2048x1408, .f32⟩
  | .hbm, ⟨59, _⟩ => ⟨S1x2048x1408, .f32⟩
  | .hbm, ⟨60, _⟩ => ⟨S3x2048x1408, .f32⟩
  | .hbm, ⟨61, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelUpdateDown.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateDownIdeal.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateDownIdeal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩
abbrev S3x704x2048 : Shape := ⟨3, ![3, 704, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S3x704x2048, .f32⟩
  | .hbm, ⟨52, _⟩ => ⟨S4x704x2048, .f32⟩
  | .hbm, ⟨53, _⟩ => ⟨S1x704x2048, .f32⟩
  | .hbm, ⟨54, _⟩ => ⟨S3x704x2048, .f32⟩
  | .hbm, ⟨55, _⟩ => ⟨S4x704x2048, .f32⟩
  | .hbm, ⟨56, _⟩ => ⟨S1x704x2048, .f32⟩
  | .hbm, ⟨57, _⟩ => ⟨S3x704x2048, .f32⟩
  | .hbm, ⟨58, _⟩ => ⟨S4x704x2048, .f32⟩
  | .hbm, ⟨59, _⟩ => ⟨S1x704x2048, .f32⟩
  | .hbm, ⟨60, _⟩ => ⟨S3x704x2048, .f32⟩
  | .hbm, ⟨61, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== KernelSmallSum.lean ====
abbrev S8x1616x128 : Shape := ⟨3, ![8, 1616, 128]⟩
abbrev S1616x128 : Shape := ⟨2, ![1616, 128]⟩
abbrev S1x1616x128 : Shape := ⟨3, ![1, 1616, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1616x128, .f32⟩
  | .hbm, ⟨1, _⟩ => ⟨S1616x128, .f32⟩
  | .local _ .vmem, ⟨0, _⟩ => ⟨S8x1616x128, .f32⟩
  | .local _ .vmem, ⟨1, _⟩ => ⟨S1616x128, .f32⟩
  | _, _ => ⟨S8x1616x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1616x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1616x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSmallSumIdeal.lean ====
abbrev S8x1616x128 : Shape := ⟨3, ![8, 1616, 128]⟩
abbrev S_ : Shape := ⟨0, ![]⟩
abbrev S1616x128 : Shape := ⟨2, ![1616, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1616x128, .f32⟩
  | .hbm, ⟨1, _⟩ => ⟨S_, .f32⟩
  | .hbm, ⟨2, _⟩ => ⟨S1616x128, .f32⟩
  | _, _ => ⟨S8x1616x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUpdateSmall.lean ====
abbrev S696x128 : Shape := ⟨2, ![696, 128]⟩

abbrev nBuf : Space → Nat
  | .hbm => 7
  | .vmem => 7
  | .smem => 0
  | _ => 0

abbrev bufTy : (tb : Table) → Fin (tcTables nBuf tb) → BufTy
  | .hbm, ⟨0, _⟩ => ⟨S696x128, .f32⟩
  | .hbm, ⟨1, _⟩ => ⟨S696x128, .f32⟩
  | .hbm, ⟨2, _⟩ => ⟨S696x128, .f32⟩
  | .hbm, ⟨3, _⟩ => ⟨S696x128, .f32⟩
  | .hbm, ⟨4, _⟩ => ⟨S696x128, .f32⟩
  | .hbm, ⟨5, _⟩ => ⟨S696x128, .f32⟩
  | .hbm, ⟨6, _⟩ => ⟨S696x128, .f32⟩
  | .local _ .vmem, ⟨0, _⟩ => ⟨S696x128, .f32⟩
  | .local _ .vmem, ⟨1, _⟩ => ⟨S696x128, .f32⟩
  | .local _ .vmem, ⟨2, _⟩ => ⟨S696x128, .f32⟩
  | .local _ .vmem, ⟨3, _⟩ => ⟨S696x128, .f32⟩
  | .local _ .vmem, ⟨4, _⟩ => ⟨S696x128, .f32⟩
  | .local _ .vmem, ⟨5, _⟩ => ⟨S696x128, .f32⟩
  | .local _ .vmem, ⟨6, _⟩ => ⟨S696x128, .f32⟩
  | _, _ => ⟨S696x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S696x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S696x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S696x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S696x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S696x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S696x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S696x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceUpdateSmallIdeal.lean ====
abbrev S696x128 : Shape := ⟨2, ![696, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S696x128, .f32⟩
  | .hbm, ⟨1, _⟩ => ⟨S696x128, .f32⟩
  | .hbm, ⟨2, _⟩ => ⟨S696x128, .f32⟩
  | .hbm, ⟨3, _⟩ => ⟨S696x128, .f32⟩
  | .hbm, ⟨4, _⟩ => ⟨S_, .f32⟩
  | .hbm, ⟨5, _⟩ => ⟨S696x128, .f32⟩
  | .hbm, ⟨6, _⟩ => ⟨S696x128, .f32⟩
  | .hbm, ⟨7, _⟩ => ⟨S_, .f32⟩
  | .hbm, ⟨8, _⟩ => ⟨S696x128, .f32⟩
  | .hbm, ⟨9, _⟩ => ⟨S696x128, .f32⟩
  | .hbm, ⟨10, _⟩ => ⟨S696x128, .f32⟩
  | .hbm, ⟨11, _⟩ => ⟨S_, .f32⟩
  | .hbm, ⟨12, _⟩ => ⟨S696x128, .f32⟩
  | .hbm, ⟨13, _⟩ => ⟨S696x128, .f32⟩
  | .hbm, ⟨14, _⟩ => ⟨S696x128, .f32⟩
  | .hbm, ⟨15, _⟩ => ⟨S_, .f32⟩
  | .hbm, ⟨16, _⟩ => ⟨S696x128, .f32⟩
  | .hbm, ⟨17, _⟩ => ⟨S696x128, .f32⟩
  | .hbm, ⟨18, _⟩ => ⟨S696x128, .f32⟩
  | .hbm, ⟨19, _⟩ => ⟨S_, .f32⟩
  | .hbm, ⟨20, _⟩ => ⟨S696x128, .f32⟩
  | .hbm, ⟨21, _⟩ => ⟨S696x128, .f32⟩
  | .hbm, ⟨22, _⟩ => ⟨S_, .f32⟩
  | .hbm, ⟨23, _⟩ => ⟨S696x128, .f32⟩
  | .hbm, ⟨24, _⟩ => ⟨S696x128, .f32⟩
  | .hbm, ⟨25, _⟩ => ⟨S696x128, .f32⟩
  | .hbm, ⟨26, _⟩ => ⟨S_, .f32⟩
  | .hbm, ⟨27, _⟩ => ⟨S696x128, .f32⟩
  | .hbm, ⟨28, _⟩ => ⟨S696x128, .f32⟩
  | .hbm, ⟨29, _⟩ => ⟨S696x128, .f32⟩
  | .hbm, ⟨30, _⟩ => ⟨S_, .f32⟩
  | .hbm, ⟨31, _⟩ => ⟨S696x128, .f32⟩
  | .hbm, ⟨32, _⟩ => ⟨S696x128, .f32⟩
  | .hbm, ⟨33, _⟩ => ⟨S696x128, .f32⟩
  | .hbm, ⟨34, _⟩ => ⟨S_, .f32⟩
  | .hbm, ⟨35, _⟩ => ⟨S696x128, .f32⟩
  | .hbm, ⟨36, _⟩ => ⟨S696x128, .f32⟩
  | _, _ => ⟨S696x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelUpdateIn1.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateIn1Ideal.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateIn1Ideal.lean ====
abbrev S8x672x2048 : Shape := ⟨3, ![8, 672, 2048]⟩
abbrev S4x672x2048 : Shape := ⟨3, ![4, 672, 2048]⟩
abbrev S_ : Shape := ⟨0, ![]⟩
abbrev S672x2048 : Shape := ⟨2, ![672, 2048]⟩
abbrev S1x672x2048 : Shape := ⟨3, ![1, 672, 2048]⟩
abbrev S2x672x2048 : Shape := ⟨3, ![2, 672, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S8x672x2048, .f32⟩
  | .hbm, ⟨9, _⟩ => ⟨S_, .f32⟩
  | .hbm, ⟨10, _⟩ => ⟨S672x2048, .f32⟩
  | .hbm, ⟨11, _⟩ => ⟨S1x672x2048, .f32⟩
  | .hbm, ⟨12, _⟩ => ⟨S672x2048, .f32⟩
  | .hbm, ⟨13, _⟩ => ⟨S1x672x2048, .f32⟩
  | .hbm, ⟨14, _⟩ => ⟨S672x2048, .f32⟩
  | .hbm, ⟨15, _⟩ => ⟨S1x672x2048, .f32⟩
  | .hbm, ⟨16, _⟩ => ⟨S672x2048, .f32⟩
  | .hbm, ⟨17, _⟩ => ⟨S_, .f32⟩
  | .hbm, ⟨18, _⟩ => ⟨S672x2048, .f32⟩
  | .hbm, ⟨19, _⟩ => ⟨S672x2048, .f32⟩
  | .hbm, ⟨20, _⟩ => ⟨S_, .f32⟩
  | .hbm, ⟨21, _⟩ => ⟨S672x2048, .f32⟩
  | .hbm, ⟨22, _⟩ => ⟨S672x2048, .f32⟩
  | .hbm, ⟨23, _⟩ => ⟨S672x2048, .f32⟩
  | .hbm, ⟨24, _⟩ => ⟨S_, .f32⟩
  | .hbm, ⟨25, _⟩ => ⟨S672x2048, .f32⟩
  | .hbm, ⟨26, _⟩ => ⟨S672x2048, .f32⟩
  | .hbm, ⟨27, _⟩ => ⟨S672x2048, .f32⟩
  | .hbm, ⟨28, _⟩ => ⟨S_, .f32⟩
  | .hbm, ⟨29, _⟩ => ⟨S672x2048, .f32⟩
  | .hbm, ⟨30, _⟩ => ⟨S672x2048, .f32⟩
  | .hbm, ⟨31, _⟩ => ⟨S672x2048, .f32⟩
  | .hbm, ⟨32, _⟩ => ⟨S_, .f32⟩
  | .hbm, ⟨33, _⟩ => ⟨S672x2048, .f32⟩
  | .hbm, ⟨34, _⟩ => ⟨S672x2048, .f32⟩
  | .hbm, ⟨35, _⟩ => ⟨S_, .f32⟩
  | .hbm, ⟨36, _⟩ => ⟨S672x2048, .f32⟩
  | .hbm, ⟨37, _⟩ => ⟨S672x2048, .f32⟩
  | .hbm, ⟨38, _⟩ => ⟨S672x2048, .f32⟩
  | .hbm, ⟨39, _⟩ => ⟨S_, .f32⟩
  | .hbm, ⟨40, _⟩ => ⟨S672x2048, .f32⟩
  | .hbm, ⟨41, _⟩ => ⟨S672x2048, .f32⟩
  | .hbm, ⟨42, _⟩ => ⟨S672x2048, .f32⟩
  | .hbm, ⟨43, _⟩ => ⟨S_, .f32⟩
  | .hbm, ⟨44, _⟩ => ⟨S672x2048, .f32⟩
  | .hbm, ⟨45, _⟩ => ⟨S672x2048, .f32⟩
  | .hbm, ⟨46, _⟩ => ⟨S672x2048, .f32⟩
  | .hbm, ⟨47, _⟩ => ⟨S_, .f32⟩
  | .hbm, ⟨48, _⟩ => ⟨S672x2048, .f32⟩
  | .hbm, ⟨49, _⟩ => ⟨S672x2048, .f32⟩
  | .hbm, ⟨50, _⟩ => ⟨S1x672x2048, .f32⟩
  | .hbm, ⟨51, _⟩ => ⟨S1x672x2048, .f32⟩
  | .hbm, ⟨52, _⟩ => ⟨S2x672x2048, .f32⟩
  | .hbm, ⟨53, _⟩ => ⟨S4x672x2048, .f32⟩
  | .hbm, ⟨54, _⟩ => ⟨S1x672x2048, .f32⟩
  | .hbm, ⟨55, _⟩ => ⟨S1x672x2048, .f32⟩
  | .hbm, ⟨56, _⟩ => ⟨S2x672x2048, .f32⟩
  | .hbm, ⟨57, _⟩ => ⟨S4x672x2048, .f32⟩
  | .hbm, ⟨58, _⟩ => ⟨S1x672x2048, .f32⟩
  | .hbm, ⟨59, _⟩ => ⟨S1x672x2048, .f32⟩
  | .hbm, ⟨60, _⟩ => ⟨S2x672x2048, .f32⟩
  | .hbm, ⟨61, _⟩ => ⟨S4x672x2048, .f32⟩
  | .hbm, ⟨62, _⟩ => ⟨S1x672x2048, .f32⟩
  | .hbm, ⟨63, _⟩ => ⟨S1x672x2048, .f32⟩
  | .hbm, ⟨64, _⟩ => ⟨S2x672x2048, .f32⟩
  | .hbm, ⟨65, _⟩ => ⟨S4x672x2048, .f32⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateOut1.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateOut1Ideal.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateOut1Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S2x256x2048 : Shape := ⟨3, ![2, 256, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S1x256x2048, .f32⟩
  | .hbm, ⟨52, _⟩ => ⟨S2x256x2048, .f32⟩
  | .hbm, ⟨53, _⟩ => ⟨S4x256x2048, .f32⟩
  | .hbm, ⟨54, _⟩ => ⟨S1x256x2048, .f32⟩
  | .hbm, ⟨55, _⟩ => ⟨S1x256x2048, .f32⟩
  | .hbm, ⟨56, _⟩ => ⟨S2x256x2048, .f32⟩
  | .hbm, ⟨57, _⟩ => ⟨S4x256x2048, .f32⟩
  | .hbm, ⟨58, _⟩ => ⟨S1x256x2048, .f32⟩
  | .hbm, ⟨59, _⟩ => ⟨S1x256x2048, .f32⟩
  | .hbm, ⟨60, _⟩ => ⟨S2x256x2048, .f32⟩
  | .hbm, ⟨61, _⟩ => ⟨S4x256x2048, .f32⟩
  | .hbm, ⟨62, _⟩ => ⟨S1x256x2048, .f32⟩
  | .hbm, ⟨63, _⟩ => ⟨S1x256x2048, .f32⟩
  | .hbm, ⟨64, _⟩ => ⟨S2x256x2048, .f32⟩
  | .hbm, ⟨65, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateUp1.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateUp1Ideal.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateUp1Ideal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S2x2048x1408 : Shape := ⟨3, ![2, 2048, 1408]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S1x2048x1408, .f32⟩
  | .hbm, ⟨51, _⟩ => ⟨S1x2048x1408, .f32⟩
  | .hbm, ⟨52, _⟩ => ⟨S2x2048x1408, .f32⟩
  | .hbm, ⟨53, _⟩ => ⟨S4x2048x1408, .f32⟩
  | .hbm, ⟨54, _⟩ => ⟨S1x2048x1408, .f32⟩
  | .hbm, ⟨55, _⟩ => ⟨S1x2048x1408, .f32⟩
  | .hbm, ⟨56, _⟩ => ⟨S2x2048x1408, .f32⟩
  | .hbm, ⟨57, _⟩ => ⟨S4x2048x1408, .f32⟩
  | .hbm, ⟨58, _⟩ => ⟨S1x2048x1408, .f32⟩
  | .hbm, ⟨59, _⟩ => ⟨S1x2048x1408, .f32⟩
  | .hbm, ⟨60, _⟩ => ⟨S2x2048x1408, .f32⟩
  | .hbm, ⟨61, _⟩ => ⟨S4x2048x1408, .f32⟩
  | .hbm, ⟨62, _⟩ => ⟨S1x2048x1408, .f32⟩
  | .hbm, ⟨63, _⟩ => ⟨S1x2048x1408, .f32⟩
  | .hbm, ⟨64, _⟩ => ⟨S2x2048x1408, .f32⟩
  | .hbm, ⟨65, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateDown1.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateDown1Ideal.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateDown1Ideal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩
abbrev S2x704x2048 : Shape := ⟨3, ![2, 704, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S1x704x2048, .f32⟩
  | .hbm, ⟨52, _⟩ => ⟨S2x704x2048, .f32⟩
  | .hbm, ⟨53, _⟩ => ⟨S4x704x2048, .f32⟩
  | .hbm, ⟨54, _⟩ => ⟨S1x704x2048, .f32⟩
  | .hbm, ⟨55, _⟩ => ⟨S1x704x2048, .f32⟩
  | .hbm, ⟨56, _⟩ => ⟨S2x704x2048, .f32⟩
  | .hbm, ⟨57, _⟩ => ⟨S4x704x2048, .f32⟩
  | .hbm, ⟨58, _⟩ => ⟨S1x704x2048, .f32⟩
  | .hbm, ⟨59, _⟩ => ⟨S1x704x2048, .f32⟩
  | .hbm, ⟨60, _⟩ => ⟨S2x704x2048, .f32⟩
  | .hbm, ⟨61, _⟩ => ⟨S4x704x2048, .f32⟩
  | .hbm, ⟨62, _⟩ => ⟨S1x704x2048, .f32⟩
  | .hbm, ⟨63, _⟩ => ⟨S1x704x2048, .f32⟩
  | .hbm, ⟨64, _⟩ => ⟨S2x704x2048, .f32⟩
  | .hbm, ⟨65, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateIn2.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateIn2Ideal.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateIn2Ideal.lean ====
abbrev S8x672x2048 : Shape := ⟨3, ![8, 672, 2048]⟩
abbrev S4x672x2048 : Shape := ⟨3, ![4, 672, 2048]⟩
abbrev S_ : Shape := ⟨0, ![]⟩
abbrev S672x2048 : Shape := ⟨2, ![672, 2048]⟩
abbrev S1x672x2048 : Shape := ⟨3, ![1, 672, 2048]⟩
abbrev S2x672x2048 : Shape := ⟨3, ![2, 672, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S8x672x2048, .f32⟩
  | .hbm, ⟨9, _⟩ => ⟨S_, .f32⟩
  | .hbm, ⟨10, _⟩ => ⟨S672x2048, .f32⟩
  | .hbm, ⟨11, _⟩ => ⟨S1x672x2048, .f32⟩
  | .hbm, ⟨12, _⟩ => ⟨S672x2048, .f32⟩
  | .hbm, ⟨13, _⟩ => ⟨S1x672x2048, .f32⟩
  | .hbm, ⟨14, _⟩ => ⟨S672x2048, .f32⟩
  | .hbm, ⟨15, _⟩ => ⟨S1x672x2048, .f32⟩
  | .hbm, ⟨16, _⟩ => ⟨S672x2048, .f32⟩
  | .hbm, ⟨17, _⟩ => ⟨S_, .f32⟩
  | .hbm, ⟨18, _⟩ => ⟨S672x2048, .f32⟩
  | .hbm, ⟨19, _⟩ => ⟨S672x2048, .f32⟩
  | .hbm, ⟨20, _⟩ => ⟨S_, .f32⟩
  | .hbm, ⟨21, _⟩ => ⟨S672x2048, .f32⟩
  | .hbm, ⟨22, _⟩ => ⟨S672x2048, .f32⟩
  | .hbm, ⟨23, _⟩ => ⟨S672x2048, .f32⟩
  | .hbm, ⟨24, _⟩ => ⟨S_, .f32⟩
  | .hbm, ⟨25, _⟩ => ⟨S672x2048, .f32⟩
  | .hbm, ⟨26, _⟩ => ⟨S672x2048, .f32⟩
  | .hbm, ⟨27, _⟩ => ⟨S672x2048, .f32⟩
  | .hbm, ⟨28, _⟩ => ⟨S_, .f32⟩
  | .hbm, ⟨29, _⟩ => ⟨S672x2048, .f32⟩
  | .hbm, ⟨30, _⟩ => ⟨S672x2048, .f32⟩
  | .hbm, ⟨31, _⟩ => ⟨S672x2048, .f32⟩
  | .hbm, ⟨32, _⟩ => ⟨S_, .f32⟩
  | .hbm, ⟨33, _⟩ => ⟨S672x2048, .f32⟩
  | .hbm, ⟨34, _⟩ => ⟨S672x2048, .f32⟩
  | .hbm, ⟨35, _⟩ => ⟨S_, .f32⟩
  | .hbm, ⟨36, _⟩ => ⟨S672x2048, .f32⟩
  | .hbm, ⟨37, _⟩ => ⟨S672x2048, .f32⟩
  | .hbm, ⟨38, _⟩ => ⟨S672x2048, .f32⟩
  | .hbm, ⟨39, _⟩ => ⟨S_, .f32⟩
  | .hbm, ⟨40, _⟩ => ⟨S672x2048, .f32⟩
  | .hbm, ⟨41, _⟩ => ⟨S672x2048, .f32⟩
  | .hbm, ⟨42, _⟩ => ⟨S672x2048, .f32⟩
  | .hbm, ⟨43, _⟩ => ⟨S_, .f32⟩
  | .hbm, ⟨44, _⟩ => ⟨S672x2048, .f32⟩
  | .hbm, ⟨45, _⟩ => ⟨S672x2048, .f32⟩
  | .hbm, ⟨46, _⟩ => ⟨S672x2048, .f32⟩
  | .hbm, ⟨47, _⟩ => ⟨S_, .f32⟩
  | .hbm, ⟨48, _⟩ => ⟨S672x2048, .f32⟩
  | .hbm, ⟨49, _⟩ => ⟨S672x2048, .f32⟩
  | .hbm, ⟨50, _⟩ => ⟨S2x672x2048, .f32⟩
  | .hbm, ⟨51, _⟩ => ⟨S1x672x2048, .f32⟩
  | .hbm, ⟨52, _⟩ => ⟨S1x672x2048, .f32⟩
  | .hbm, ⟨53, _⟩ => ⟨S4x672x2048, .f32⟩
  | .hbm, ⟨54, _⟩ => ⟨S2x672x2048, .f32⟩
  | .hbm, ⟨55, _⟩ => ⟨S1x672x2048, .f32⟩
  | .hbm, ⟨56, _⟩ => ⟨S1x672x2048, .f32⟩
  | .hbm, ⟨57, _⟩ => ⟨S4x672x2048, .f32⟩
  | .hbm, ⟨58, _⟩ => ⟨S2x672x2048, .f32⟩
  | .hbm, ⟨59, _⟩ => ⟨S1x672x2048, .f32⟩
  | .hbm, ⟨60, _⟩ => ⟨S1x672x2048, .f32⟩
  | .hbm, ⟨61, _⟩ => ⟨S4x672x2048, .f32⟩
  | .hbm, ⟨62, _⟩ => ⟨S2x672x2048, .f32⟩
  | .hbm, ⟨63, _⟩ => ⟨S1x672x2048, .f32⟩
  | .hbm, ⟨64, _⟩ => ⟨S1x672x2048, .f32⟩
  | .hbm, ⟨65, _⟩ => ⟨S4x672x2048, .f32⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateOut2.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateOut2Ideal.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateOut2Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S2x256x2048 : Shape := ⟨3, ![2, 256, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S2x256x2048, .f32⟩
  | .hbm, ⟨51, _⟩ => ⟨S1x256x2048, .f32⟩
  | .hbm, ⟨52, _⟩ => ⟨S1x256x2048, .f32⟩
  | .hbm, ⟨53, _⟩ => ⟨S4x256x2048, .f32⟩
  | .hbm, ⟨54, _⟩ => ⟨S2x256x2048, .f32⟩
  | .hbm, ⟨55, _⟩ => ⟨S1x256x2048, .f32⟩
  | .hbm, ⟨56, _⟩ => ⟨S1x256x2048, .f32⟩
  | .hbm, ⟨57, _⟩ => ⟨S4x256x2048, .f32⟩
  | .hbm, ⟨58, _⟩ => ⟨S2x256x2048, .f32⟩
  | .hbm, ⟨59, _⟩ => ⟨S1x256x2048, .f32⟩
  | .hbm, ⟨60, _⟩ => ⟨S1x256x2048, .f32⟩
  | .hbm, ⟨61, _⟩ => ⟨S4x256x2048, .f32⟩
  | .hbm, ⟨62, _⟩ => ⟨S2x256x2048, .f32⟩
  | .hbm, ⟨63, _⟩ => ⟨S1x256x2048, .f32⟩
  | .hbm, ⟨64, _⟩ => ⟨S1x256x2048, .f32⟩
  | .hbm, ⟨65, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateUp2.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateUp2Ideal.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateUp2Ideal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S2x2048x1408 : Shape := ⟨3, ![2, 2048, 1408]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S2x2048x1408, .f32⟩
  | .hbm, ⟨51, _⟩ => ⟨S1x2048x1408, .f32⟩
  | .hbm, ⟨52, _⟩ => ⟨S1x2048x1408, .f32⟩
  | .hbm, ⟨53, _⟩ => ⟨S4x2048x1408, .f32⟩
  | .hbm, ⟨54, _⟩ => ⟨S2x2048x1408, .f32⟩
  | .hbm, ⟨55, _⟩ => ⟨S1x2048x1408, .f32⟩
  | .hbm, ⟨56, _⟩ => ⟨S1x2048x1408, .f32⟩
  | .hbm, ⟨57, _⟩ => ⟨S4x2048x1408, .f32⟩
  | .hbm, ⟨58, _⟩ => ⟨S2x2048x1408, .f32⟩
  | .hbm, ⟨59, _⟩ => ⟨S1x2048x1408, .f32⟩
  | .hbm, ⟨60, _⟩ => ⟨S1x2048x1408, .f32⟩
  | .hbm, ⟨61, _⟩ => ⟨S4x2048x1408, .f32⟩
  | .hbm, ⟨62, _⟩ => ⟨S2x2048x1408, .f32⟩
  | .hbm, ⟨63, _⟩ => ⟨S1x2048x1408, .f32⟩
  | .hbm, ⟨64, _⟩ => ⟨S1x2048x1408, .f32⟩
  | .hbm, ⟨65, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateDown2.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateDown2Ideal.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateDown2Ideal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩
abbrev S2x704x2048 : Shape := ⟨3, ![2, 704, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S2x704x2048, .f32⟩
  | .hbm, ⟨51, _⟩ => ⟨S1x704x2048, .f32⟩
  | .hbm, ⟨52, _⟩ => ⟨S1x704x2048, .f32⟩
  | .hbm, ⟨53, _⟩ => ⟨S4x704x2048, .f32⟩
  | .hbm, ⟨54, _⟩ => ⟨S2x704x2048, .f32⟩
  | .hbm, ⟨55, _⟩ => ⟨S1x704x2048, .f32⟩
  | .hbm, ⟨56, _⟩ => ⟨S1x704x2048, .f32⟩
  | .hbm, ⟨57, _⟩ => ⟨S4x704x2048, .f32⟩
  | .hbm, ⟨58, _⟩ => ⟨S2x704x2048, .f32⟩
  | .hbm, ⟨59, _⟩ => ⟨S1x704x2048, .f32⟩
  | .hbm, ⟨60, _⟩ => ⟨S1x704x2048, .f32⟩
  | .hbm, ⟨61, _⟩ => ⟨S4x704x2048, .f32⟩
  | .hbm, ⟨62, _⟩ => ⟨S2x704x2048, .f32⟩
  | .hbm, ⟨63, _⟩ => ⟨S1x704x2048, .f32⟩
  | .hbm, ⟨64, _⟩ => ⟨S1x704x2048, .f32⟩
  | .hbm, ⟨65, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateIn3.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateIn3Ideal.lean ====
abbrev S8x672x2048 : Shape := ⟨3, ![8, 672, 2048]⟩
abbrev S4x672x2048 : Shape := ⟨3, ![4, 672, 2048]⟩
abbrev S8x112x2048 : Shape := ⟨3, ![8, 112, 2048]⟩
abbrev S1x112x2048 : Shape := ⟨3, ![1, 112, 2048]⟩
abbrev S112x2048 : Shape := ⟨2, ![112, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S4x672x2048, .f32⟩
  | .hbm, ⟨9, _⟩ => ⟨S4x672x2048, .f32⟩
  | .hbm, ⟨10, _⟩ => ⟨S4x672x2048, .f32⟩
  | .hbm, ⟨11, _⟩ => ⟨S4x672x2048, .f32⟩
  | .local _ .vmem, ⟨0, _⟩ => ⟨S8x112x2048, .bf16⟩
  | .local _ .vmem, ⟨1, _⟩ => ⟨S8x112x2048, .bf16⟩
  | .local _ .vmem, ⟨2, _⟩ => ⟨S1x112x2048, .f32⟩
  | .local _ .vmem, ⟨3, _⟩ => ⟨S1x112x2048, .f32⟩
  | .local _ .vmem, ⟨4, _⟩ => ⟨S1x112x2048, .f32⟩
  | .local _ .vmem, ⟨5, _⟩ => ⟨S1x112x2048, .f32⟩
  | .local _ .vmem, ⟨6, _⟩ => ⟨S1x112x2048, .f32⟩
  | .local _ .vmem, ⟨7, _⟩ => ⟨S1x112x2048, .f32⟩
  | .local _ .vmem, ⟨8, _⟩ => ⟨S1x112x2048, .f32⟩
  | .local _ .vmem, ⟨9, _⟩ => ⟨S1x112x2048, .f32⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateIn3Ideal.lean ====
abbrev S8x672x2048 : Shape := ⟨3, ![8, 672, 2048]⟩
abbrev S4x672x2048 : Shape := ⟨3, ![4, 672, 2048]⟩
abbrev S_ : Shape := ⟨0, ![]⟩
abbrev S672x2048 : Shape := ⟨2, ![672, 2048]⟩
abbrev S1x672x2048 : Shape := ⟨3, ![1, 672, 2048]⟩
abbrev S3x672x2048 : Shape := ⟨3, ![3, 672, 2048]⟩
abbrev S0x672x2048 : Shape := ⟨3, ![0, 672, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .f32⟩
  | .hbm, ⟨2, _⟩ => ⟨S4x672x2048, .f32⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .f32⟩
  | .hbm, ⟨7, _⟩ => ⟨S4x672x2048, .f32⟩
  | .hbm, ⟨8, _⟩ => ⟨S8x672x2048, .f32⟩
  | .hbm, ⟨9, _⟩ => ⟨S_, .f32⟩
  | .hbm, ⟨10, _⟩ => ⟨S672x2048, .f32⟩
  | .hbm, ⟨11, _⟩ => ⟨S1x672x2048, .f32⟩
  | .hbm, ⟨12, _⟩ => ⟨S672x2048, .f32⟩
  | .hbm, ⟨13, _⟩ => ⟨S1x672x2048, .f32⟩
  | .hbm, ⟨14, _⟩ => ⟨S672x2048, .f32⟩
  | .hbm, ⟨15, _⟩ => ⟨S1x672x2048, .f32⟩
  | .hbm, ⟨16, _⟩ => ⟨S672x2048, .f32⟩
  | .hbm, ⟨17, _⟩ => ⟨S_, .f32⟩
  | .hbm, ⟨18, _⟩ => ⟨S672x2048, .f32⟩
  | .hbm, ⟨19, _⟩ => ⟨S672x2048, .f32⟩
  | .hbm, ⟨20, _⟩ => ⟨S_, .f32⟩
  | .hbm, ⟨21, _⟩ => ⟨S672x2048, .f32⟩
  | .hbm, ⟨22, _⟩ => ⟨S672x2048, .f32⟩
  | .hbm, ⟨23, _⟩ => ⟨S672x2048, .f32⟩
  | .hbm, ⟨24, _⟩ => ⟨S_, .f32⟩
  | .hbm, ⟨25, _⟩ => ⟨S672x2048, .f32⟩
  | .hbm, ⟨26, _⟩ => ⟨S672x2048, .f32⟩
  | .hbm, ⟨27, _⟩ => ⟨S672x2048, .f32⟩
  | .hbm, ⟨28, _⟩ => ⟨S_, .f32⟩
  | .hbm, ⟨29, _⟩ => ⟨S672x2048, .f32⟩
  | .hbm, ⟨30, _⟩ => ⟨S672x2048, .f32⟩
  | .hbm, ⟨31, _⟩ => ⟨S672x2048, .f32⟩
  | .hbm, ⟨32, _⟩ => ⟨S_, .f32⟩
  | .hbm, ⟨33, _⟩ => ⟨S672x2048, .f32⟩
  | .hbm, ⟨34, _⟩ => ⟨S672x2048, .f32⟩
  | .hbm, ⟨35, _⟩ => ⟨S_, .f32⟩
  | .hbm, ⟨36, _⟩ => ⟨S672x2048, .f32⟩
  | .hbm, ⟨37, _⟩ => ⟨S672x2048, .f32⟩
  | .hbm, ⟨38, _⟩ => ⟨S672x2048, .f32⟩
  | .hbm, ⟨39, _⟩ => ⟨S_, .f32⟩
  | .hbm, ⟨40, _⟩ => ⟨S672x2048, .f32⟩
  | .hbm, ⟨41, _⟩ => ⟨S672x2048, .f32⟩
  | .hbm, ⟨42, _⟩ => ⟨S672x2048, .f32⟩
  | .hbm, ⟨43, _⟩ => ⟨S_, .f32⟩
  | .hbm, ⟨44, _⟩ => ⟨S672x2048, .f32⟩
  | .hbm, ⟨45, _⟩ => ⟨S672x2048, .f32⟩
  | .hbm, ⟨46, _⟩ => ⟨S672x2048, .f32⟩
  | .hbm, ⟨47, _⟩ => ⟨S_, .f32⟩
  | .hbm, ⟨48, _⟩ => ⟨S672x2048, .f32⟩
  | .hbm, ⟨49, _⟩ => ⟨S672x2048, .f32⟩
  | .hbm, ⟨50, _⟩ => ⟨S3x672x2048, .f32⟩
  | .hbm, ⟨51, _⟩ => ⟨S1x672x2048, .f32⟩
  | .hbm, ⟨52, _⟩ => ⟨S0x672x2048, .f32⟩
  | .hbm, ⟨53, _⟩ => ⟨S4x672x2048, .f32⟩
  | .hbm, ⟨54, _⟩ => ⟨S3x672x2048, .f32⟩
  | .hbm, ⟨55, _⟩ => ⟨S1x672x2048, .f32⟩
  | .hbm, ⟨56, _⟩ => ⟨S0x672x2048, .f32⟩
  | .hbm, ⟨57, _⟩ => ⟨S4x672x2048, .f32⟩
  | .hbm, ⟨58, _⟩ => ⟨S3x672x2048, .f32⟩
  | .hbm, ⟨59, _⟩ => ⟨S1x672x2048, .f32⟩
  | .hbm, ⟨60, _⟩ => ⟨S0x672x2048, .f32⟩
  | .hbm, ⟨61, _⟩ => ⟨S4x672x2048, .f32⟩
  | .hbm, ⟨62, _⟩ => ⟨S3x672x2048, .f32⟩
  | .hbm, ⟨63, _⟩ => ⟨S1x672x2048, .f32⟩
  | .hbm, ⟨64, _⟩ => ⟨S0x672x2048, .f32⟩
  | .hbm, ⟨65, _⟩ => ⟨S4x672x2048, .f32⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateOut3.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateOut3Ideal.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateOut3Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩
abbrev S0x256x2048 : Shape := ⟨3, ![0, 256, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S3x256x2048, .f32⟩
  | .hbm, ⟨51, _⟩ => ⟨S1x256x2048, .f32⟩
  | .hbm, ⟨52, _⟩ => ⟨S0x256x2048, .f32⟩
  | .hbm, ⟨53, _⟩ => ⟨S4x256x2048, .f32⟩
  | .hbm, ⟨54, _⟩ => ⟨S3x256x2048, .f32⟩
  | .hbm, ⟨55, _⟩ => ⟨S1x256x2048, .f32⟩
  | .hbm, ⟨56, _⟩ => ⟨S0x256x2048, .f32⟩
  | .hbm, ⟨57, _⟩ => ⟨S4x256x2048, .f32⟩
  | .hbm, ⟨58, _⟩ => ⟨S3x256x2048, .f32⟩
  | .hbm, ⟨59, _⟩ => ⟨S1x256x2048, .f32⟩
  | .hbm, ⟨60, _⟩ => ⟨S0x256x2048, .f32⟩
  | .hbm, ⟨61, _⟩ => ⟨S4x256x2048, .f32⟩
  | .hbm, ⟨62, _⟩ => ⟨S3x256x2048, .f32⟩
  | .hbm, ⟨63, _⟩ => ⟨S1x256x2048, .f32⟩
  | .hbm, ⟨64, _⟩ => ⟨S0x256x2048, .f32⟩
  | .hbm, ⟨65, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateUp3.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelUpdateUp3Ideal.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateUp3Ideal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S3x2048x1408 : Shape := ⟨3, ![3, 2048, 1408]⟩
abbrev S0x2048x1408 : Shape := ⟨3, ![0, 2048, 1408]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S3x2048x1408, .f32⟩
  | .hbm, ⟨51, _⟩ => ⟨S1x2048x1408, .f32⟩
  | .hbm, ⟨52, _⟩ => ⟨S0x2048x1408, .f32⟩
  | .hbm, ⟨53, _⟩ => ⟨S4x2048x1408, .f32⟩
  | .hbm, ⟨54, _⟩ => ⟨S3x2048x1408, .f32⟩
  | .hbm, ⟨55, _⟩ => ⟨S1x2048x1408, .f32⟩
  | .hbm, ⟨56, _⟩ => ⟨S0x2048x1408, .f32⟩
  | .hbm, ⟨57, _⟩ => ⟨S4x2048x1408, .f32⟩
  | .hbm, ⟨58, _⟩ => ⟨S3x2048x1408, .f32⟩
  | .hbm, ⟨59, _⟩ => ⟨S1x2048x1408, .f32⟩
  | .hbm, ⟨60, _⟩ => ⟨S0x2048x1408, .f32⟩
  | .hbm, ⟨61, _⟩ => ⟨S4x2048x1408, .f32⟩
  | .hbm, ⟨62, _⟩ => ⟨S3x2048x1408, .f32⟩
  | .hbm, ⟨63, _⟩ => ⟨S1x2048x1408, .f32⟩
  | .hbm, ⟨64, _⟩ => ⟨S0x2048x1408, .f32⟩
  | .hbm, ⟨65, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelUpdateDown3.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpdateDown3Ideal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩
abbrev S3x704x2048 : Shape := ⟨3, ![3, 704, 2048]⟩
abbrev S0x704x2048 : Shape := ⟨3, ![0, 704, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S3x704x2048, .f32⟩
  | .hbm, ⟨51, _⟩ => ⟨S1x704x2048, .f32⟩
  | .hbm, ⟨52, _⟩ => ⟨S0x704x2048, .f32⟩
  | .hbm, ⟨53, _⟩ => ⟨S4x704x2048, .f32⟩
  | .hbm, ⟨54, _⟩ => ⟨S3x704x2048, .f32⟩
  | .hbm, ⟨55, _⟩ => ⟨S1x704x2048, .f32⟩
  | .hbm, ⟨56, _⟩ => ⟨S0x704x2048, .f32⟩
  | .hbm, ⟨57, _⟩ => ⟨S4x704x2048, .f32⟩
  | .hbm, ⟨58, _⟩ => ⟨S3x704x2048, .f32⟩
  | .hbm, ⟨59, _⟩ => ⟨S1x704x2048, .f32⟩
  | .hbm, ⟨60, _⟩ => ⟨S0x704x2048, .f32⟩
  | .hbm, ⟨61, _⟩ => ⟨S4x704x2048, .f32⟩
  | .hbm, ⟨62, _⟩ => ⟨S3x704x2048, .f32⟩
  | .hbm, ⟨63, _⟩ => ⟨S1x704x2048, .f32⟩
  | .hbm, ⟨64, _⟩ => ⟨S0x704x2048, .f32⟩
  | .hbm, ⟨65, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Proof.Kept.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Claim

/-!
That the kernel runs and leaves its arguments as they were, over any float values: the run with the
contents of the results left open.  Both programs' frames are this one.
-/

@[expose] public section

set_option maxRecDepth 16384

noncomputable section

namespace Cert.KernelIdeal.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding frame_of

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments at the end of a run in which some windows are not named. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c)⟩) h

/-- The staging buffers at a point, and the two scratch arrays. -/
abbrev ms0_0 (t : Fin cfg0.N) : Memref sig .tc .vmem S4096x256 .f32 := win0_0.stage (cfg0.slots t 0)
abbrev ms0_1 (t : Fin cfg0.N) : Memref sig .tc .vmem S4096x256 .f32 := win0_1.stage (cfg0.slots t 1)
abbrev ms0_2 (t : Fin cfg0.N) : Memref sig .tc .vmem S4096x256 .f32 := win0_2.stage (cfg0.slots t 2)
abbrev ms0_3 (t : Fin cfg0.N) : Memref sig .tc .vmem S3x256 .f32 := win0_3.stage (cfg0.slots t 3)
abbrev ms0_4 (t : Fin cfg0.N) : Memref sig .tc .vmem S3x256 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S2x4096x256 .bf16 := win0_7.stage (cfg0.slots t 7)
abbrev ms0_8 (t : Fin cfg0.N) : Memref sig .tc .vmem S3x256 .f32 := win0_8.stage (cfg0.slots t 8)
abbrev ms0_9 (t : Fin cfg0.N) : Memref sig .tc .vmem S3x256 .f32 := win0_9.stage (cfg0.slots t 9)
abbrev ms0_10 (t : Fin cfg0.N) : Memref sig .tc .vmem S1x256 .f32 := win0_10.stage (cfg0.slots t 10)
abbrev ms0_11 (t : Fin cfg0.N) : Memref sig .tc .vmem S1x256 .f32 := win0_11.stage (cfg0.slots t 11)
abbrev scM0_0 : Memref sig .tc .vmem S4096x256 .f32 := Memref.whole cc0_scratch0
abbrev scM0_1 : Memref sig .tc .vmem S4096x256 .f32 := Memref.whole cc0_scratch1

/-- The invariant between points: the scratch arrays at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in set_option sl_exec.squeezeSlice true in
/-- The body runs from its seven blocks and leaves them, its results and scratch at some contents. -/
theorem kernelRun0_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x4096x256 .bf16) (harg8 : arg8.IsWhole) (arg9 : Memref sig .tc .vmem S3x256 .f32) (harg9 : arg9.IsWhole) (arg10 : Memref sig .tc .vmem S3x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .f32) (harg13 : arg13.IsWhole) (arg14 : Memref sig .tc .vmem S4096x256 .f32) (harg14 : arg14.IsWhole)
    (x0 : Vec F S4096x256 .f32) (x1 : Vec F S4096x256 .f32) (x2 : Vec F S4096x256 .f32) (x3 : Vec F S3x256 .f32) (x4 : Vec F S3x256 .f32) (x5 : Vec F S1x256 .f32) (x6 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_ffn_act_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_act_bwd_eq_skeleton]; unfold cc0_ffn_act_bwd_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

/-- The five result windows: nothing is said of what they hold. -/
def forgets0 : Fin 12 → Bool := fun w => w.val == 7 || w.val == 8 || w.val == 9 || w.val == 10 || w.val == 11

/-- The inputs stay at their blocks; the results are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- At every point the body runs, whatever its results hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch ends, with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The arguments end as they were and every counter stands at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Kept

end
-- ==== Proof.Gate.lean ====
module

public import proofs.«01_k».proof.Proof.Gen.KernelIdeal.Skeleton
public import Idealize.ShloMosaic.Lib.Pointwise

/-!
The mathematics of one block of 256 columns, row by row: the causal convolution of width three, the
gate and its gradient, the column sums that are the gradients of the convolution's weights, and the
convolution's transpose.  Rows are natural numbers, so a row before the first or past the last reads
as zero.  The lemmas below the definitions read each value the body computes at an index.
-/

@[expose] public section

set_option maxRecDepth 16384

noncomputable section

namespace Cert.KernelIdeal.Gate

open Idealize.ShloMosaic Idealize.ShloMosaic.TcCoe
open Cert.KernelIdeal Cert.KernelIdeal.Gen

/-- A block of 256 columns. -/
abbrev Mat := Vec Ideal S4096x256 .f32
abbrev Taps := Vec Ideal S3x256 .f32
abbrev Row := Vec Ideal S1x256 .f32

/-- Row `r` of a block, zero past its end. -/
def row (x : Mat) (r : ℕ) (l : Fin 256) : EReal := if h : r < 4096 then x (ix2 ⟨r, h⟩ l) else 0

/-- The row `d` before row `r`, zero before the block's start. -/
def prev (x : Mat) (d r : ℕ) (l : Fin 256) : EReal := if r < d then 0 else row x (r - d) l

/-- One half, as the body's constant names it. -/
def half : EReal := Ideal.ofBits .f32 0x3F000000#32

/-- The logistic function by the hyperbolic tangent. -/
def sgm (g : EReal) : EReal := half * Ideal.tanh (half * g) + half

/-- The causal convolution at a row, over the taps' three products in the body's order. -/
def conv3 (b w0 w1 w2 x2 x1 x0 : EReal) : EReal := ((b + w0 * x2) + w1 * x1) + w2 * x0

def conv (x : Mat) (w : Taps) (b : Row) (r : ℕ) (l : Fin 256) : EReal :=
  conv3 (b (ix2 0 l)) (w (ix2 0 l)) (w (ix2 1 l)) (w (ix2 2 l)) (prev x 2 r l) (prev x 1 r l) (row x r l)

/-- The gradient of the gate's input and that of the other factor's, at one element. -/
def gateGrad (da g u : EReal) : EReal := (da * u) * (sgm g * (1 + g * (1 - sgm g)))
def upGrad (da g : EReal) : EReal := da * (g * sgm g)

/-- The two gradients at a row. -/
def dGate (da pg pu : Mat) (wg wu : Taps) (bg bu : Row) (r : ℕ) (l : Fin 256) : EReal :=
  gateGrad (row da r l) (conv pg wg bg r l) (conv pu wu bu r l)
def dUp (da pg : Mat) (wg : Taps) (bg : Row) (r : ℕ) (l : Fin 256) : EReal :=
  upGrad (row da r l) (conv pg wg bg r l)

/-- The sum over the first `n` rows of a gradient times the rows `2 - i` before: the gradient of
    the convolution's tap `i`. -/
def tapSum (d : ℕ → Fin 256 → EReal) (x : Mat) (n : ℕ) (i : Fin 3) (l : Fin 256) : EReal :=
  ∑ r ∈ Finset.range n, d r l * prev x (2 - i.val) r l

def colSum (d : ℕ → Fin 256 → EReal) (n : ℕ) (l : Fin 256) : EReal := ∑ r ∈ Finset.range n, d r l

/-- The convolution's transpose at a row of a 4096-row block. -/
def back3 (w0 w1 w2 d0 d1 d2 : EReal) : EReal := (w2 * d0 + w1 * d1) + w0 * d2
def back (d : Mat) (w : Taps) (r : ℕ) (l : Fin 256) : EReal :=
  back3 (w (ix2 0 l)) (w (ix2 1 l)) (w (ix2 2 l)) (row d r l) (row d (r + 1) l) (row d (r + 2) l)

theorem row_lt (x : Mat) {r : ℕ} (h : r < 4096) (l : Fin 256) : row x r l = x (ix2 ⟨r, h⟩ l) := dif_pos h
theorem row_ge (x : Mat) {r : ℕ} (h : 4096 ≤ r) (l : Fin 256) : row x r l = 0 := dif_neg (by omega)
theorem prev_zero (x : Mat) (r : ℕ) (l : Fin 256) : prev x 0 r l = row x r l := by simp [prev]

theorem tapSum_zero (d : ℕ → Fin 256 → EReal) (x : Mat) (i : Fin 3) (l : Fin 256) : tapSum d x 0 i l = 0 := by
  simp [tapSum]
theorem tapSum_add (d : ℕ → Fin 256 → EReal) (x : Mat) (n : ℕ) (i : Fin 3) (l : Fin 256) :
    tapSum d x (n + 256) i l
      = tapSum d x n i l + ∑ k : Fin 256, d (n + k.val) l * prev x (2 - i.val) (n + k.val) l := by
  unfold tapSum
  rw [Finset.sum_range_add, Finset.sum_range (n := 256)]
theorem colSum_add (d : ℕ → Fin 256 → EReal) (n : ℕ) (l : Fin 256) :
    colSum d (n + 256) l = colSum d n l + ∑ k : Fin 256, d (n + k.val) l := by
  unfold colSum
  rw [Finset.sum_range_add, Finset.sum_range (n := 256)]

/-! ## The body's values at an index -/

/-! The comparisons with the row number that guard the first and the last rows. -/

theorem lt_one : ∀ r : Fin 256, IntOp.cmpi .slt (BitVec.ofNat 32 r.val) 1#32 = BitVec.ofBool (decide (r.val < 1)) := by
  decide +kernel
theorem lt_two : ∀ r : Fin 256, IntOp.cmpi .slt (BitVec.ofNat 32 r.val) 2#32 = BitVec.ofBool (decide (r.val < 2)) := by
  decide +kernel
theorem ge_255 : ∀ r : Fin 256, IntOp.cmpi .sge (BitVec.ofNat 32 r.val) 255#32 = BitVec.ofBool (decide (¬ r.val + 1 < 256)) := by
  decide +kernel
theorem ge_254 : ∀ r : Fin 256, IntOp.cmpi .sge (BitVec.ofNat 32 r.val) 254#32 = BitVec.ofBool (decide (¬ r.val + 2 < 256)) := by
  decide +kernel
theorem select_ofBool (p : Prop) [Decidable p] (a b : EReal) :
    Scalar.select (α := EReal) (BitVec.ofBool (decide p)) a b = if p then a else b := by
  by_cases h : p <;> simp [h, Scalar.select]

theorem at_eq (v : Vec Ideal S256x256 .f32) {a b : ℕ} (ha : a < 256) (hb : b < 256) (l : Fin 256) (h : a = b) :
    v (ix2 ⟨a, ha⟩ l) = v (ix2 ⟨b, hb⟩ l) := by subst h; rfl

section Payloads

variable (v174 : Vec Ideal S264x256 .f32) (v2 : Vec Ideal S256x256 .f32) (r l : Fin 256)

theorem pay3_at : k0_pay3 v174 (ix2 r l) = v174 (ix2 ⟨8 + r.val, by omega⟩ l) := by pointwise [k0_pay3]
theorem pay4_at : k0_pay4 v174 (ix2 r l) = v174 (ix2 ⟨7 + r.val, by omega⟩ l) := by
  pointwise [k0_pay4]
  congr 3; omega
theorem pay5_at : k0_pay5 v174 (ix2 r l) = v174 (ix2 ⟨6 + r.val, by omega⟩ l) := by
  pointwise [k0_pay5]
  congr 3; omega
theorem pay7_eq : k0_pay7 v174 = k0_pay3 v174 := rfl
theorem pay8_eq : k0_pay8 v174 = k0_pay4 v174 := rfl
theorem pay9_eq : k0_pay9 v174 = k0_pay5 v174 := rfl

theorem pay6_at (b w0 w1 w2 : Vec Ideal S1x256 .f32) :
    k0_pay6 v174 b w0 w1 w2 (ix2 r l)
      = conv3 (b (ix2 0 l)) (w0 (ix2 0 l)) (w1 (ix2 0 l)) (w2 (ix2 0 l))
          (k0_pay5 v174 (ix2 r l)) (k0_pay4 v174 (ix2 r l)) (k0_pay3 v174 (ix2 r l)) := by
  pointwise [k0_pay6, conv3]

theorem pay10_at (b : Vec Ideal S1x256 .f32) : k0_pay10 b = b := by
  funext j; idx_vars j; pointwise [k0_pay10]

theorem pay12_at (g : FVec Ideal S256x256 .f32) (x0 x1 x2 : FVec Ideal S256x256 .f32) (b : FVec Ideal S1x256 .f32)
    (w0 w1 w2 : Vec Ideal S1x256 .f32) (da : Vec Ideal S256x256 .f32) :
    k0_pay12 g x0 x1 x2 b w0 w1 w2 da (ix2 r l)
      = gateGrad (da (ix2 r l)) (g (ix2 r l))
          (conv3 (b (ix2 0 l)) (w0 (ix2 0 l)) (w1 (ix2 0 l)) (w2 (ix2 0 l)) (x2 (ix2 r l)) (x1 (ix2 r l)) (x0 (ix2 r l))) := by
  pointwise [k0_pay12, k0_pay11, gateGrad, sgm, half, conv3]
theorem pay13_at (g : FVec Ideal S256x256 .f32) (da : Vec Ideal S256x256 .f32) :
    k0_pay13 g da (ix2 r l) = upGrad (da (ix2 r l)) (g (ix2 r l)) := by
  pointwise [k0_pay13, k0_pay11, upGrad, sgm, half]
theorem pay14_eq (g : FVec Ideal S256x256 .f32) (x0 x1 x2 : FVec Ideal S256x256 .f32) (b : FVec Ideal S1x256 .f32)
    (w0 w1 w2 : Vec Ideal S1x256 .f32) (da : Vec Ideal S256x256 .f32) :
    k0_pay14 g x0 x1 x2 b w0 w1 w2 da = k0_pay12 g x0 x1 x2 b w0 w1 w2 da := by
  funext j; idx_vars j; pointwise [k0_pay14]
theorem pay15_eq (g : FVec Ideal S256x256 .f32) (da : Vec Ideal S256x256 .f32) :
    k0_pay15 g da = k0_pay13 g da := by
  funext j; idx_vars j; pointwise [k0_pay15]
theorem pay16_at (s2 g : FVec Ideal S256x256 .f32) (x0 x1 x2 : FVec Ideal S256x256 .f32) (b : FVec Ideal S1x256 .f32)
    (w0 w1 w2 : Vec Ideal S1x256 .f32) (da : Vec Ideal S256x256 .f32) (i : Fin 1) :
    k0_pay16 s2 g x0 x1 x2 b w0 w1 w2 da (ix2 i l)
      = ∑ k : Fin 256, k0_pay12 g x0 x1 x2 b w0 w1 w2 da (ix2 k l) * s2 (ix2 k l) := by
  pointwise [k0_pay16]
theorem pay17_at (s1 g : FVec Ideal S256x256 .f32) (x0 x1 x2 : FVec Ideal S256x256 .f32) (b : FVec Ideal S1x256 .f32)
    (w0 w1 w2 : Vec Ideal S1x256 .f32) (da : Vec Ideal S256x256 .f32) :
    k0_pay17 s1 g x0 x1 x2 b w0 w1 w2 da (ix1 l)
      = ∑ k : Fin 256, k0_pay12 g x0 x1 x2 b w0 w1 w2 da (ix2 k l) * s1 (ix2 k l) := by
  pointwise [k0_pay17]

/-- Three rows laid one under the other, at a row. -/
def three (a b c : EReal) (i : Fin 3) : EReal := if i.val = 0 then a else if i.val = 1 then b else c

theorem pay39_at (acc : FVec Ideal S3x256 .f32) (x0 d : FVec Ideal S256x256 .f32) (s2 : FVec Ideal S1x256 .f32)
    (s1 : FVec Ideal S256 .f32) (i : Fin 3) :
    k0_pay39 acc x0 d s2 s1 (ix2 i l)
      = acc (ix2 i l) + three (s2 (ix2 0 l)) (s1 (ix1 l)) (∑ k : Fin 256, d (ix2 k l) * x0 (ix2 k l)) i := by
  pointwise [k0_pay39, three]
  fin_vals i with hi <;> simp only [Fin.mk_zero, hi, Nat.reduceSub, Nat.reduceLT, Nat.reduceEqDiff, one_ne_zero, OfNat.ofNat_ne_zero, OfNat.ofNat_ne_one, ↓reduceDIte, ↓reduceIte]
theorem pay40_at (acc : FVec Ideal S3x256 .f32) (x0 x1 x2 d : FVec Ideal S256x256 .f32) (i : Fin 3) :
    k0_pay40 acc x0 x1 x2 d (ix2 i l)
      = acc (ix2 i l) + three (∑ k : Fin 256, d (ix2 k l) * x2 (ix2 k l)) (∑ k : Fin 256, d (ix2 k l) * x1 (ix2 k l))
          (∑ k : Fin 256, d (ix2 k l) * x0 (ix2 k l)) i := by
  pointwise [k0_pay40, three]
  fin_vals i with hi <;> simp only [hi, Nat.reduceSub, Nat.reduceLT, Nat.reduceEqDiff, one_ne_zero, OfNat.ofNat_ne_zero, OfNat.ofNat_ne_one, ↓reduceDIte, ↓reduceIte]
theorem pay41_at (acc : FVec Ideal S1x256 .f32) (d : FVec Ideal S256x256 .f32) (i : Fin 1) :
    k0_pay41 acc d (ix2 i l) = acc (ix2 i l) + ∑ k : Fin 256, d (ix2 k l) := by
  pointwise [k0_pay41]
theorem pay42_at (acc : FVec Ideal S1x256 .f32) (d : FVec Ideal S256x256 .f32) (i : Fin 1) :
    k0_pay42 acc d (ix2 i l) = acc (ix2 i l) + ∑ k : Fin 256, d (ix2 k l) := by
  pointwise [k0_pay42]

/-! The first chunk, whose rows before the start are zero. -/

theorem pay25_at : k0_pay25 v2 (ix2 r l) = if r.val < 1 then 0 else v2 (ix2 ⟨r.val - 1, by omega⟩ l) := by
  pointwise [k0_pay25]
  rw [lt_one, select_ofBool]
  refine ite_congr rfl (fun _ => rfl) fun h => ?_
  congr 3; omega
theorem pay26_at : k0_pay26 v2 (ix2 r l) = if r.val < 2 then 0 else v2 (ix2 ⟨r.val - 2, by omega⟩ l) := by
  pointwise [k0_pay26]
  rw [lt_two, select_ofBool]
  refine ite_congr rfl (fun _ => rfl) fun h => ?_
  congr 3; omega
theorem pay28_eq : k0_pay28 v2 = k0_pay25 v2 := rfl
theorem pay29_eq : k0_pay29 v2 (iota .tc S256x256 32 [0] iota_S256x256_d0_w32) = k0_pay26 v2 := rfl
theorem pay27_at (b w0 w1 w2 : Vec Ideal S1x256 .f32) :
    k0_pay27 v2 b w0 w1 w2 (ix2 r l)
      = conv3 (b (ix2 0 l)) (w0 (ix2 0 l)) (w1 (ix2 0 l)) (w2 (ix2 0 l))
          (k0_pay26 v2 (ix2 r l)) (k0_pay25 v2 (ix2 r l)) (v2 (ix2 r l)) := by
  pointwise [k0_pay27, conv3]
theorem pay31_at (g : FVec Ideal S256x256 .f32) (x1 : FVec Ideal S256x256 .f32)
    (n : IVec S256x256 32) (b w0 w1 w2 : Vec Ideal S1x256 .f32) (da : Vec Ideal S256x256 .f32) :
    k0_pay31 g v2 n x1 b w0 w1 w2 da (ix2 r l)
      = gateGrad (da (ix2 r l)) (g (ix2 r l))
          (conv3 (b (ix2 0 l)) (w0 (ix2 0 l)) (w1 (ix2 0 l)) (w2 (ix2 0 l)) (k0_pay29 v2 n (ix2 r l)) (x1 (ix2 r l)) (v2 (ix2 r l))) := by
  pointwise [k0_pay31, k0_pay30, gateGrad, sgm, half, conv3]
theorem pay32_at (g : FVec Ideal S256x256 .f32) (da : Vec Ideal S256x256 .f32) :
    k0_pay32 g da (ix2 r l) = upGrad (da (ix2 r l)) (g (ix2 r l)) := by
  pointwise [k0_pay32, k0_pay30, upGrad, sgm, half]
theorem pay33_eq (d : FVec Ideal S256x256 .f32) : k0_pay33 d = d := by
  funext j; idx_vars j; pointwise [k0_pay33]
theorem pay34_eq (d : FVec Ideal S256x256 .f32) : k0_pay34 d = d := by
  funext j; idx_vars j; pointwise [k0_pay34]
theorem pay23_at (i : Fin 3) : (k0_pay23 (F := Ideal)) (ix2 i l) = 0 := by pointwise [k0_pay23]
theorem pay24_at (i : Fin 1) : (k0_pay24 (F := Ideal)) (ix2 i l) = 0 := by pointwise [k0_pay24]
theorem pay35_at (acc : FVec Ideal S3x256 .f32) (x1 x2 d : FVec Ideal S256x256 .f32) (i : Fin 3) :
    k0_pay35 acc v2 x1 x2 d (ix2 i l)
      = acc (ix2 i l) + three (∑ k : Fin 256, d (ix2 k l) * x2 (ix2 k l)) (∑ k : Fin 256, d (ix2 k l) * x1 (ix2 k l))
          (∑ k : Fin 256, d (ix2 k l) * v2 (ix2 k l)) i := by
  pointwise [k0_pay35, three]
  fin_vals i with hi <;> simp only [hi, Nat.reduceSub, Nat.reduceLT, Nat.reduceEqDiff, one_ne_zero, OfNat.ofNat_ne_zero, OfNat.ofNat_ne_one, ↓reduceDIte, ↓reduceIte]
theorem pay36_at (acc : FVec Ideal S3x256 .f32) (x1 x2 d : FVec Ideal S256x256 .f32) (i : Fin 3) :
    k0_pay36 acc v2 x1 x2 d (ix2 i l)
      = acc (ix2 i l) + three (∑ k : Fin 256, d (ix2 k l) * x2 (ix2 k l)) (∑ k : Fin 256, d (ix2 k l) * x1 (ix2 k l))
          (∑ k : Fin 256, d (ix2 k l) * v2 (ix2 k l)) i := by
  pointwise [k0_pay36, three]
  fin_vals i with hi <;> simp only [hi, Nat.reduceSub, Nat.reduceLT, Nat.reduceEqDiff, one_ne_zero, OfNat.ofNat_ne_zero, OfNat.ofNat_ne_one, ↓reduceDIte, ↓reduceIte]
theorem pay37_at (acc : FVec Ideal S1x256 .f32) (d : FVec Ideal S256x256 .f32) (i : Fin 1) :
    k0_pay37 acc d (ix2 i l) = acc (ix2 i l) + ∑ k : Fin 256, d (ix2 k l) := by
  pointwise [k0_pay37]
theorem pay38_at (acc : FVec Ideal S1x256 .f32) (d : FVec Ideal S256x256 .f32) (i : Fin 1) :
    k0_pay38 acc d (ix2 i l) = acc (ix2 i l) + ∑ k : Fin 256, d (ix2 k l) := by
  pointwise [k0_pay38]

/-! The transpose: a chunk with the eight rows after it, and the last chunk, whose rows past the end are zero. -/

theorem pay18_at (w2 w1 w0 : Vec Ideal S1x256 .f32) (i : Fin 1) :
    k0_pay18 v174 w2 w1 w0 (ix3 i r l)
      = back3 (w0 (ix2 0 l)) (w1 (ix2 0 l)) (w2 (ix2 0 l)) (v174 (ix2 ⟨r.val, by omega⟩ l))
          (v174 (ix2 ⟨r.val + 1, by omega⟩ l)) (v174 (ix2 ⟨r.val + 2, by omega⟩ l)) := by
  pointwise [k0_pay18, back3]
  rw [show ∀ h, (⟨(r.val + 264 - 263) % 264, h⟩ : Fin 264) = ⟨r.val + 1, by omega⟩ from fun h => Fin.ext (by show (r.val + 264 - 263) % 264 = r.val + 1; omega),
    show ∀ h, (⟨(r.val + 264 - 262) % 264, h⟩ : Fin 264) = ⟨r.val + 2, by omega⟩ from fun h => Fin.ext (by show (r.val + 264 - 262) % 264 = r.val + 2; omega)]
theorem pay43_at (w2 w1 w0 : Vec Ideal S1x256 .f32) (i : Fin 1) :
    k0_pay43 (k0_pay19 v174) (k0_pay20 v174) (k0_pay21 v174 w2) (k0_pay22 w1) w0 (ix3 i r l)
      = back3 (w0 (ix2 0 l)) (w1 (ix2 0 l)) (w2 (ix2 0 l)) (v174 (ix2 ⟨r.val, by omega⟩ l))
          (v174 (ix2 ⟨r.val + 1, by omega⟩ l)) (v174 (ix2 ⟨r.val + 2, by omega⟩ l)) := by
  pointwise [k0_pay43, k0_pay19, k0_pay20, k0_pay21, k0_pay22, back3]
  rw [show ∀ h, (⟨(r.val + 264 - 263) % 264, h⟩ : Fin 264) = ⟨r.val + 1, by omega⟩ from fun h => Fin.ext (by show (r.val + 264 - 263) % 264 = r.val + 1; omega),
    show ∀ h, (⟨(r.val + 264 - 262) % 264, h⟩ : Fin 264) = ⟨r.val + 2, by omega⟩ from fun h => Fin.ext (by show (r.val + 264 - 262) % 264 = r.val + 2; omega)]
theorem pay2_at (w2 w1 w0 : Vec Ideal S1x256 .f32) (i : Fin 1) :
    k0_pay2 v2 w2 w1 w0 (ix3 i r l)
      = back3 (w0 (ix2 0 l)) (w1 (ix2 0 l)) (w2 (ix2 0 l)) (v2 (ix2 r l))
          (if h : r.val + 1 < 256 then v2 (ix2 ⟨r.val + 1, h⟩ l) else 0)
          (if h : r.val + 2 < 256 then v2 (ix2 ⟨r.val + 2, h⟩ l) else 0) := by
  pointwise [k0_pay2, back3]
  rw [ge_255, ge_254, select_ofBool, select_ofBool]
  by_cases h1 : r.val + 1 < 256 <;> by_cases h2 : r.val + 2 < 256 <;>
    simp only [h1, h2, not_true_eq_false, not_false_eq_true, ↓reduceIte, ↓reduceDIte, mul_zero, add_zero]
  · rw [at_eq v2 (a := (r.val + 256 - 255) % 256) _ h1 l (by omega), at_eq v2 (a := (r.val + 256 - 254) % 256) _ h2 l (by omega)]
  · rw [at_eq v2 (a := (r.val + 256 - 255) % 256) _ h1 l (by omega)]
  · omega
theorem pay44_at (w2 w1 w0 : Vec Ideal S1x256 .f32) (i : Fin 1) :
    k0_pay1 (k0_pay44 v2 w2 w1 w0) (ix3 i r l)
      = back3 (w0 (ix2 0 l)) (w1 (ix2 0 l)) (w2 (ix2 0 l)) (v2 (ix2 r l))
          (if h : r.val + 1 < 256 then v2 (ix2 ⟨r.val + 1, h⟩ l) else 0)
          (if h : r.val + 2 < 256 then v2 (ix2 ⟨r.val + 2, h⟩ l) else 0) := by
  pointwise [k0_pay1, k0_pay44, back3]
  rw [ge_255, ge_254, select_ofBool, select_ofBool]
  by_cases h1 : r.val + 1 < 256 <;> by_cases h2 : r.val + 2 < 256 <;>
    simp only [h1, h2, not_true_eq_false, not_false_eq_true, ↓reduceIte, ↓reduceDIte, mul_zero, add_zero]
  · rw [at_eq v2 (a := (r.val + 256 - 255) % 256) _ h1 l (by omega), at_eq v2 (a := (r.val + 256 - 254) % 256) _ h2 l (by omega)]
  · rw [at_eq v2 (a := (r.val + 256 - 255) % 256) _ h1 l (by omega)]
  · omega

end Payloads

end Cert.KernelIdeal.Gate

end
-- ==== Proof.Trips.lean ====
module

public import proofs.«01_k».proof.Proof.Gen.KernelIdeal.Loops
public import proofs.«01_k».proof.Proof.Gate
public import Idealize.ShloMosaic.Lib.Pipeline.Kit

/-!
One trip of each of the body's two loops: what it yields and the blocks it stores, as the chunk's
values of the matrices the input memrefs hold.
-/

@[expose] public section

set_option maxRecDepth 16384

noncomputable section

namespace Cert.KernelIdeal.Gate

open Idealize.ShloMosaic Idealize.ShloMosaic.TcCoe Idealize.ShloMosaic.Tactic
open Cert.KernelIdeal Cert.KernelIdeal.Gen

/-! ## The chunk's values -/

/-- The 264 rows a trip of the first loop loads: eight rows before the chunk, then the chunk. -/
def ext (x : Mat) (k : Fin k0_t1_loop.trips) : Vec Ideal S264x256 .f32 :=
  View.ld (Val := Elt Ideal) x (Rect.unit (s := S4096x256) (k0_off1 k) S264x256.size (k0_off1_inb k))
/-- The chunk's own 256 rows. -/
def cur (x : Mat) (k : Fin k0_t1_loop.trips) : Vec Ideal S256x256 .f32 :=
  View.ld (Val := Elt Ideal) x (Rect.unit (s := S4096x256) (k0_off2 k) S256x256.size (k0_off2_inb k))
/-- The 264 rows a trip of the second loop loads: the chunk, then eight rows after it. -/
def aft (x : Mat) (k : Fin k0_t2_loop.trips) : Vec Ideal S264x256 .f32 :=
  View.ld (Val := Elt Ideal) x (Rect.unit (s := S4096x256) (k0_off3 k) S264x256.size (k0_off3_inb k))
def tap0 (w : Taps) : Vec Ideal S1x256 .f32 :=
  View.ld (Val := Elt Ideal) w (Rect.unit (s := S3x256) ![0, 0] S1x256.size inb_S3x256_S1x256_0_0)
def tap1 (w : Taps) : Vec Ideal S1x256 .f32 :=
  View.ld (Val := Elt Ideal) w (Rect.unit (s := S3x256) ![1, 0] S1x256.size inb_S3x256_S1x256_1_0)
def tap2 (w : Taps) : Vec Ideal S1x256 .f32 :=
  View.ld (Val := Elt Ideal) w (Rect.unit (s := S3x256) ![2, 0] S1x256.size inb_S3x256_S1x256_2_0)
def bias (b : Row) : Vec Ideal S1x256 .f32 :=
  View.ld (Val := Elt Ideal) b (Rect.unit (s := S1x256) ![0, 0] S1x256.size inb_S1x256_S1x256_0_0)

/-- The gate's input on the chunk, and the two gradients. -/
def gateC (pg : Mat) (wg : Taps) (bg : Row) (k : Fin k0_t1_loop.trips) : FVec Ideal S256x256 .f32 :=
  k0_pay6 (ext pg k) (bias bg) (tap0 wg) (tap1 wg) (tap2 wg)
def dGateC (da pg pu : Mat) (wg wu : Taps) (bg bu : Row) (k : Fin k0_t1_loop.trips) : FVec Ideal S256x256 .f32 :=
  k0_pay12 (gateC pg wg bg k) (k0_pay7 (ext pu k)) (k0_pay8 (ext pu k)) (k0_pay9 (ext pu k)) (k0_pay10 (bias bu))
    (tap0 wu) (tap1 wu) (tap2 wu) (cur da k)
def dUpC (da pg : Mat) (wg : Taps) (bg : Row) (k : Fin k0_t1_loop.trips) : FVec Ideal S256x256 .f32 :=
  k0_pay13 (gateC pg wg bg k) (cur da k)

/-- The four sums a trip carries. -/
abbrev Acc := FVec Ideal S3x256 .f32 × FVec Ideal S3x256 .f32 × FVec Ideal S1x256 .f32 × FVec Ideal S1x256 .f32

def yieldC (da pg pu : Mat) (wg wu : Taps) (bg bu : Row) (k : Fin k0_t1_loop.trips) (acc : Acc) : Acc :=
  (k0_pay39 acc.1 (k0_pay3 (ext pg k)) (dGateC da pg pu wg wu bg bu k)
      (k0_pay16 (k0_pay5 (ext pg k)) (gateC pg wg bg k) (k0_pay7 (ext pu k)) (k0_pay8 (ext pu k)) (k0_pay9 (ext pu k))
        (k0_pay10 (bias bu)) (tap0 wu) (tap1 wu) (tap2 wu) (cur da k))
      (k0_pay17 (k0_pay4 (ext pg k)) (gateC pg wg bg k) (k0_pay7 (ext pu k)) (k0_pay8 (ext pu k)) (k0_pay9 (ext pu k))
        (k0_pay10 (bias bu)) (tap0 wu) (tap1 wu) (tap2 wu) (cur da k)),
   k0_pay40 acc.2.1 (k0_pay7 (ext pu k)) (k0_pay8 (ext pu k)) (k0_pay9 (ext pu k)) (dUpC da pg wg bg k),
   k0_pay41 acc.2.2.1 (dGateC da pg pu wg wu bg bu k),
   k0_pay42 acc.2.2.2 (dUpC da pg wg bg k))

/-! ## The trips -/

section T1

variable (𝒱 : Variants) (c : Dev nD) (bd : Option 𝒱.V) (i : grid0.Coords) (arg1 : Memref sig .tc .vmem S4096x256 .f32)
    (harg1 : arg1.IsWhole) (arg2 : Memref sig .tc .vmem S4096x256 .f32) (harg2 : arg2.IsWhole) (arg3 : Memref
    sig .tc .vmem S4096x256 .f32) (harg3 : arg3.IsWhole) (arg4 : Memref sig .tc .vmem S3x256 .f32) (harg4 :
    arg4.IsWhole) (arg5 : Memref sig .tc .vmem S3x256 .f32) (harg5 : arg5.IsWhole) (arg6 : Memref sig .tc
    .vmem S1x256 .f32) (harg6 : arg6.IsWhole) (arg7 : Memref sig .tc .vmem S1x256 .f32) (harg7 : arg7.IsWhole)
    (arg8 : Memref sig .tc .vmem S2x4096x256 .bf16) (harg8 : arg8.IsWhole) (arg9 : Memref sig .tc .vmem S3x256
    .f32) (harg9 : arg9.IsWhole) (arg10 : Memref sig .tc .vmem S3x256 .f32) (harg10 : arg10.IsWhole) (arg11 :
    Memref sig .tc .vmem S1x256 .f32) (harg11 : arg11.IsWhole) (arg12 : Memref sig .tc .vmem S1x256 .f32)
    (harg12 : arg12.IsWhole) (arg13 : Memref sig .tc .vmem S4096x256 .f32) (harg13 : arg13.IsWhole) (arg14 :
    Memref sig .tc .vmem S4096x256 .f32) (harg14 : arg14.IsWhole) (v0 : FVec Ideal S3x256 .f32) (v1 : FVec
    Ideal S1x256 .f32) (v2 : Vec Ideal S256x256 .f32) (v8 : FVec Ideal S256x256 .f32) (v13 : FVec Ideal
    S256x256 .f32) (v29 : Vec Ideal S256x256 .f32) (v35 : FVec Ideal S256x256 .f32) (v40 : FVec Ideal S256x256
    .f32) (v71 : FVec Ideal S256x256 .f32) (v73 : FVec Ideal S256x256 .f32) (X_arg1 : BufTy.Contents (Elt
    Ideal) arg1.view.ty) (X_arg2 : BufTy.Contents (Elt Ideal) arg2.view.ty) (X_arg3 : BufTy.Contents (Elt
    Ideal) arg3.view.ty) (X_arg4 : BufTy.Contents (Elt Ideal) arg4.view.ty) (X_arg5 : BufTy.Contents (Elt
    Ideal) arg5.view.ty) (X_arg6 : BufTy.Contents (Elt Ideal) arg6.view.ty) (X_arg7 : BufTy.Contents (Elt
    Ideal) arg7.view.ty)

theorem yield_t1 (k : Fin k0_t1_loop.trips) (acc : Acc) :
    (trip_k0_t1 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v0 v1 v2 v8 v13 v29 v35 v40 v71 v73
    X_arg1 X_arg2 X_arg3 X_arg4 X_arg5 X_arg6 X_arg7 k).1 acc
      = yieldC (arg1.view.read (Elt Ideal) X_arg1) (arg2.view.read (Elt Ideal) X_arg2) (arg3.view.read (Elt Ideal) X_arg3)
    (arg4.view.read (Elt Ideal) X_arg4) (arg5.view.read (Elt Ideal) X_arg5) (arg6.view.read (Elt Ideal)
    X_arg6) (arg7.view.read (Elt Ideal) X_arg7) k acc := by
  unfold trip_k0_t1; rfl
theorem gate_pieces_t1 (k : Fin k0_t1_loop.trips) (acc : Acc) :
    (trip_k0_t1 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v0 v1 v2 v8 v13 v29 v35 v40 v71 v73
    X_arg1 X_arg2 X_arg3 X_arg4 X_arg5 X_arg6 X_arg7 k).2.1 acc
      = [⟨Rect.unit (s := S4096x256) (k0_off2 k) S256x256.size (k0_off2_inb k),
          k0_pay33 (dGateC (arg1.view.read (Elt Ideal) X_arg1) (arg2.view.read (Elt Ideal) X_arg2) (arg3.view.read (Elt Ideal) X_arg3)
    (arg4.view.read (Elt Ideal) X_arg4) (arg5.view.read (Elt Ideal) X_arg5) (arg6.view.read (Elt Ideal)
    X_arg6) (arg7.view.read (Elt Ideal) X_arg7) k)⟩] := by
  unfold trip_k0_t1; rfl
theorem up_pieces_t1 (k : Fin k0_t1_loop.trips) (acc : Acc) :
    (trip_k0_t1 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v0 v1 v2 v8 v13 v29 v35 v40 v71 v73
    X_arg1 X_arg2 X_arg3 X_arg4 X_arg5 X_arg6 X_arg7 k).2.2.1 acc
      = [⟨Rect.unit (s := S4096x256) (k0_off2 k) S256x256.size (k0_off2_inb k),
          k0_pay34 (dUpC (arg1.view.read (Elt Ideal) X_arg1) (arg2.view.read (Elt Ideal) X_arg2) (arg4.view.read (Elt Ideal) X_arg4) (arg6.view.read (Elt Ideal) X_arg6) k)⟩] := by
  unfold trip_k0_t1; rfl

end T1

section T2

variable (𝒱 : Variants) (c : Dev nD) (bd : Option 𝒱.V) (i : grid0.Coords) (arg1 : Memref sig .tc .vmem S4096x256 .f32)
    (harg1 : arg1.IsWhole) (arg2 : Memref sig .tc .vmem S4096x256 .f32) (harg2 : arg2.IsWhole) (arg3 : Memref
    sig .tc .vmem S4096x256 .f32) (harg3 : arg3.IsWhole) (arg4 : Memref sig .tc .vmem S3x256 .f32) (harg4 :
    arg4.IsWhole) (arg5 : Memref sig .tc .vmem S3x256 .f32) (harg5 : arg5.IsWhole) (arg6 : Memref sig .tc
    .vmem S1x256 .f32) (harg6 : arg6.IsWhole) (arg7 : Memref sig .tc .vmem S1x256 .f32) (harg7 : arg7.IsWhole)
    (arg8 : Memref sig .tc .vmem S2x4096x256 .bf16) (harg8 : arg8.IsWhole) (arg9 : Memref sig .tc .vmem S3x256
    .f32) (harg9 : arg9.IsWhole) (arg10 : Memref sig .tc .vmem S3x256 .f32) (harg10 : arg10.IsWhole) (arg11 :
    Memref sig .tc .vmem S1x256 .f32) (harg11 : arg11.IsWhole) (arg12 : Memref sig .tc .vmem S1x256 .f32)
    (harg12 : arg12.IsWhole) (arg13 : Memref sig .tc .vmem S4096x256 .f32) (harg13 : arg13.IsWhole) (arg14 :
    Memref sig .tc .vmem S4096x256 .f32) (harg14 : arg14.IsWhole) (v109_2 : FVec Ideal S1x256 .f32) (v109_3 :
    FVec Ideal S1x256 .f32) (X_arg4 : BufTy.Contents (Elt Ideal) arg4.view.ty) (X_arg5 : BufTy.Contents (Elt
    Ideal) arg5.view.ty) (X_arg13 : BufTy.Contents (Elt Ideal) arg13.view.ty) (X_arg14 : BufTy.Contents (Elt
    Ideal) arg14.view.ty)

theorem pieces_t2 (k : Fin k0_t2_loop.trips) :
    (trip_k0_t2 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v109_2 v109_3 X_arg4 X_arg5 X_arg13
    X_arg14 k).1
      = [⟨Rect.unit (s := S2x4096x256) (k0_off6 k) S1x256x256.size (k0_off6_inb k),
            k0_pay43 (k0_pay19 (aft (arg14.view.read (Elt Ideal) X_arg14) k)) (k0_pay20 (aft (arg14.view.read (Elt Ideal) X_arg14) k)) (k0_pay21 (aft (arg14.view.read (Elt Ideal) X_arg14) k) (tap2 (arg5.view.read (Elt Ideal) X_arg5)))
              (k0_pay22 (tap1 (arg5.view.read (Elt Ideal) X_arg5))) (tap0 (arg5.view.read (Elt Ideal) X_arg5))⟩,
         ⟨Rect.unit (s := S2x4096x256) (k0_off5 k) S1x256x256.size (k0_off5_inb k),
            k0_pay18 (aft (arg13.view.read (Elt Ideal) X_arg13) k) (tap2 (arg4.view.read (Elt Ideal) X_arg4)) (tap1 (arg4.view.read (Elt Ideal) X_arg4)) (tap0 (arg4.view.read (Elt Ideal) X_arg4))⟩] := by
  unfold trip_k0_t2; rfl

end T2

end Cert.KernelIdeal.Gate

end
-- ==== Proof.Chunks.lean ====
module

public import proofs.«01_k».proof.Proof.Trips
public import Idealize.ShloMosaic.Lib.Pipeline.ValueKit

/-!
The chunk's values at an index: each is the block's own value at the chunk's row, and a trip's yield
extends the four running sums by the chunk's 256 rows.
-/

@[expose] public section

set_option maxRecDepth 16384

noncomputable section

namespace Cert.KernelIdeal.Gate

open Idealize.ShloMosaic Idealize.ShloMosaic.TcCoe Idealize.ShloMosaic.Tactic
open Cert.KernelIdeal Cert.KernelIdeal.Gen

theorem trips1 (k : Fin k0_t1_loop.trips) : k.val < 15 := Nat.lt_of_lt_of_le k.isLt k0_t1_abs.2.1
theorem trips2 (k : Fin k0_t2_loop.trips) : k.val < 15 := Nat.lt_of_lt_of_le k.isLt k0_t2_abs.2.1

section Loads

variable (x : Mat) (w : Taps) (b : Row) (k : Fin k0_t1_loop.trips) (q : Fin k0_t2_loop.trips) (l : Fin 256)

theorem ext_at (r : Fin 264) : ext x k (ix2 r l) = row x (256 * k.val + 248 + r.val) l := by
  have hk := trips1 k
  rw [row_lt x (by omega) l]
  refine View.ld_unit_apply_of x _ _ _ _ _ fun a => ?_
  refine Eq.trans ?_ (congrArg (· + _) (congrFun (k0_off1_eq k) a)).symm
  fin_cases a
  · rfl
  · show l.val = 0 + l.val; omega
theorem cur_at (r : Fin 256) : cur x k (ix2 r l) = row x (256 * (k.val + 1) + r.val) l := by
  have hk := trips1 k
  rw [row_lt x (by omega) l]
  refine View.ld_unit_apply_of x _ _ _ _ _ fun a => ?_
  refine Eq.trans ?_ (congrArg (· + _) (congrFun (k0_off2_eq k) a)).symm
  fin_cases a
  · show 256 * (k.val + 1) + r.val = 256 * k.val + 256 + r.val; omega
  · show l.val = 0 + l.val; omega
theorem aft_at (r : Fin 264) : aft x q (ix2 r l) = row x (256 * q.val + r.val) l := by
  have hk := trips2 q
  rw [row_lt x (by omega) l]
  refine View.ld_unit_apply_of x _ _ _ _ _ fun a => ?_
  refine Eq.trans ?_ (congrArg (· + _) (congrFun (k0_off3_eq q) a)).symm
  fin_cases a
  · rfl
  · show l.val = 0 + l.val; omega
theorem tap0_at : tap0 w (ix2 0 l) = w (ix2 0 l) := by pointwise [tap0]
theorem tap1_at : tap1 w (ix2 0 l) = w (ix2 1 l) := by pointwise [tap1]
theorem tap2_at : tap2 w (ix2 0 l) = w (ix2 2 l) := by pointwise [tap2]
theorem bias_at : bias b (ix2 0 l) = b (ix2 0 l) := by pointwise [bias]

theorem cur3_at (r : Fin 256) : k0_pay3 (ext x k) (ix2 r l) = row x (256 * (k.val + 1) + r.val) l := by
  rw [pay3_at, ext_at]; congr 1; show 256 * k.val + 248 + (8 + r.val) = _; omega
theorem prev1_at (r : Fin 256) : k0_pay4 (ext x k) (ix2 r l) = prev x 1 (256 * (k.val + 1) + r.val) l := by
  rw [pay4_at, ext_at, prev, if_neg (by omega)]; congr 1; show 256 * k.val + 248 + (7 + r.val) = _; omega
theorem prev2_at (r : Fin 256) : k0_pay5 (ext x k) (ix2 r l) = prev x 2 (256 * (k.val + 1) + r.val) l := by
  rw [pay5_at, ext_at, prev, if_neg (by omega)]; congr 1; show 256 * k.val + 248 + (6 + r.val) = _; omega

end Loads

section Chunk

variable (da pg pu : Mat) (wg wu : Taps) (bg bu : Row) (k : Fin k0_t1_loop.trips) (r l : Fin 256)

theorem gateC_at : gateC pg wg bg k (ix2 r l) = conv pg wg bg (256 * (k.val + 1) + r.val) l := by
  rw [gateC, pay6_at, prev2_at, prev1_at, cur3_at, tap0_at, tap1_at, tap2_at, bias_at]; rfl
theorem dGateC_at : dGateC da pg pu wg wu bg bu k (ix2 r l) = dGate da pg pu wg wu bg bu (256 * (k.val + 1) + r.val) l := by
  rw [dGateC, pay12_at, gateC_at, pay10_at, pay7_eq, pay8_eq, pay9_eq, prev2_at, prev1_at, cur3_at, tap0_at, tap1_at,
    tap2_at, bias_at, cur_at]; rfl
theorem dUpC_at : dUpC da pg wg bg k (ix2 r l) = dUp da pg wg bg (256 * (k.val + 1) + r.val) l := by
  rw [dUpC, pay13_at, gateC_at, cur_at]; rfl

/-- The four sums stand at the first `n` rows. -/
structure SumsAt (n : ℕ) (acc : Acc) : Prop where
  tg : ∀ (i : Fin 3) (l : Fin 256), acc.1 (ix2 i l) = tapSum (dGate da pg pu wg wu bg bu) pg n i l
  tu : ∀ (i : Fin 3) (l : Fin 256), acc.2.1 (ix2 i l) = tapSum (dUp da pg wg bg) pu n i l
  sg : ∀ (i : Fin 1) (l : Fin 256), acc.2.2.1 (ix2 i l) = colSum (dGate da pg pu wg wu bg bu) n l
  su : ∀ (i : Fin 1) (l : Fin 256), acc.2.2.2 (ix2 i l) = colSum (dUp da pg wg bg) n l

theorem three_sums (f : ℕ → Fin 256 → EReal) (i : Fin 3) :
    three (∑ k : Fin 256, f 2 k) (∑ k : Fin 256, f 1 k) (∑ k : Fin 256, f 0 k) i = ∑ k : Fin 256, f (2 - i.val) k := by
  fin_cases i <;> rfl

theorem yieldC_sums (acc : Acc) (h : SumsAt da pg pu wg wu bg bu (256 * (k.val + 1)) acc) :
    SumsAt da pg pu wg wu bg bu (256 * (k.val + 1) + 256) (yieldC da pg pu wg wu bg bu k acc) where
  tg i l := by
    rw [tapSum_add, ← h.tg, ← three_sums (fun j q => dGate da pg pu wg wu bg bu (256 * (k.val + 1) + q.val) l
      * prev pg j (256 * (k.val + 1) + q.val) l) i]
    simp only [yieldC, pay39_at, pay16_at, pay17_at, ← dGateC_at, ← prev1_at, ← prev2_at, prev_zero, ← cur3_at]
    rfl
  tu i l := by
    rw [tapSum_add, ← h.tu, ← three_sums (fun j q => dUp da pg wg bg (256 * (k.val + 1) + q.val) l
      * prev pu j (256 * (k.val + 1) + q.val) l) i]
    simp only [yieldC, pay40_at, pay7_eq, pay8_eq, pay9_eq, ← dUpC_at, ← prev1_at, ← prev2_at, prev_zero, ← cur3_at]
  sg i l := by
    rw [colSum_add, ← h.sg i]
    simp only [yieldC, pay41_at, ← dGateC_at]
  su i l := by
    rw [colSum_add, ← h.su i]
    simp only [yieldC, pay42_at, ← dUpC_at]

end Chunk

/-! ## The first chunk -/

section First

/-- The first 256 rows. -/
def top (x : Mat) : Vec Ideal S256x256 .f32 :=
  View.ld (Val := Elt Ideal) x (Rect.unit (s := S4096x256) ![0, 0] S256x256.size inb_S4096x256_S256x256_0_0)

variable (da pg pu : Mat) (wg wu : Taps) (bg bu : Row) (r l : Fin 256)

def gate0 : FVec Ideal S256x256 .f32 := k0_pay27 (top pg) (bias bg) (tap0 wg) (tap1 wg) (tap2 wg)
def dGate0 : FVec Ideal S256x256 .f32 :=
  k0_pay31 (gate0 pg wg bg) (top pu) (iota .tc S256x256 32 [0] iota_S256x256_d0_w32) (k0_pay28 (top pu)) (bias bu)
    (tap0 wu) (tap1 wu) (tap2 wu) (top da)
def dUp0 : FVec Ideal S256x256 .f32 := k0_pay32 (gate0 pg wg bg) (top da)

/-- The four sums after the first chunk. -/
def acc0 : Acc :=
  (k0_pay35 k0_pay23 (top pg) (k0_pay25 (top pg)) (k0_pay26 (top pg)) (dGate0 da pg pu wg wu bg bu),
   k0_pay36 k0_pay23 (top pu) (k0_pay28 (top pu)) (k0_pay29 (top pu) (iota .tc S256x256 32 [0] iota_S256x256_d0_w32))
     (dUp0 da pg wg bg),
   k0_pay37 k0_pay24 (dGate0 da pg pu wg wu bg bu),
   k0_pay38 k0_pay24 (dUp0 da pg wg bg))

theorem top_at (x : Mat) : top x (ix2 r l) = row x r.val l := by
  rw [row_lt x (by omega) l]; pointwise [top]
theorem top1_at (x : Mat) : k0_pay25 (top x) (ix2 r l) = prev x 1 r.val l := by
  rw [pay25_at, top_at]; rfl
theorem top2_at (x : Mat) : k0_pay26 (top x) (ix2 r l) = prev x 2 r.val l := by
  rw [pay26_at, top_at]; rfl

theorem gate0_at : gate0 pg wg bg (ix2 r l) = conv pg wg bg r.val l := by
  rw [gate0, pay27_at, top2_at, top1_at, top_at, tap0_at, tap1_at, tap2_at, bias_at]; rfl
theorem dGate0_at : dGate0 da pg pu wg wu bg bu (ix2 r l) = dGate da pg pu wg wu bg bu r.val l := by
  rw [dGate0, pay31_at, gate0_at, pay29_eq, pay28_eq, top2_at, top1_at, top_at, top_at, tap0_at, tap1_at, tap2_at, bias_at]; rfl
theorem dUp0_at : dUp0 da pg wg bg (ix2 r l) = dUp da pg wg bg r.val l := by
  rw [dUp0, pay32_at, gate0_at, top_at]; rfl

theorem acc0_sums : SumsAt da pg pu wg wu bg bu 256 (acc0 da pg pu wg wu bg bu) where
  tg i l := by
    refine Eq.trans ?_ (tapSum_add _ _ 0 i l).symm
    rw [tapSum_zero]
    rw [← three_sums (fun j q => dGate da pg pu wg wu bg bu (0 + q.val) l * prev pg j (0 + q.val) l) i]
    simp only [acc0, pay35_at, pay23_at, Nat.zero_add, ← dGate0_at, ← top1_at, ← top2_at, prev_zero, ← top_at]
  tu i l := by
    refine Eq.trans ?_ (tapSum_add _ _ 0 i l).symm
    rw [tapSum_zero]
    rw [← three_sums (fun j q => dUp da pg wg bg (0 + q.val) l * prev pu j (0 + q.val) l) i]
    simp only [acc0, pay36_at, pay23_at, pay28_eq, pay29_eq, Nat.zero_add, ← dUp0_at, ← top1_at, ← top2_at, prev_zero, ← top_at]
    rfl
  sg i l := by
    refine Eq.trans ?_ (colSum_add _ 0 l).symm
    simp only [acc0, pay37_at, pay24_at, Nat.zero_add, ← dGate0_at, colSum, Finset.range_zero, Finset.sum_empty]
  su i l := by
    refine Eq.trans ?_ (colSum_add _ 0 l).symm
    simp only [acc0, pay38_at, pay24_at, Nat.zero_add, ← dUp0_at, colSum, Finset.range_zero, Finset.sum_empty]

end First

/-! ## The transpose's chunks -/

section Back

/-- The last 256 rows. -/
def bot (x : Mat) : Vec Ideal S256x256 .f32 :=
  View.ld (Val := Elt Ideal) x (Rect.unit (s := S4096x256) ![3840, 0] S256x256.size inb_S4096x256_S256x256_3840_0)

variable (d : Mat) (w : Taps) (q : Fin k0_t2_loop.trips) (i : Fin 1) (r l : Fin 256)

theorem backG_at : k0_pay18 (aft d q) (tap2 w) (tap1 w) (tap0 w) (ix3 i r l) = back d w (256 * q.val + r.val) l := by
  rw [pay18_at, aft_at, aft_at, aft_at, tap0_at, tap1_at, tap2_at]; rfl
theorem backU_at :
    k0_pay43 (k0_pay19 (aft d q)) (k0_pay20 (aft d q)) (k0_pay21 (aft d q) (tap2 w)) (k0_pay22 (tap1 w)) (tap0 w) (ix3 i r l)
      = back d w (256 * q.val + r.val) l := by
  rw [pay43_at, aft_at, aft_at, aft_at, tap0_at, tap1_at, tap2_at]; rfl

theorem bot_at : bot d (ix2 r l) = row d (3840 + r.val) l := by
  rw [row_lt d (by omega) l]; pointwise [bot]
theorem bot_next (n : ℕ) : (if h : r.val + n < 256 then bot d (ix2 ⟨r.val + n, h⟩ l) else 0) = row d (3840 + r.val + n) l := by
  split
  · rw [bot_at]; congr 1; show 3840 + (r.val + n) = _; omega
  · rw [row_ge d (by omega)]
theorem backLastU_at : k0_pay2 (bot d) (tap2 w) (tap1 w) (tap0 w) (ix3 i r l) = back d w (3840 + r.val) l := by
  rw [pay2_at, bot_next, bot_next, bot_at, tap0_at, tap1_at, tap2_at]; rfl
theorem backLastG_at : k0_pay1 (k0_pay44 (bot d) (tap2 w) (tap1 w) (tap0 w)) (ix3 i r l) = back d w (3840 + r.val) l := by
  rw [pay44_at, bot_next, bot_next, bot_at, tap0_at, tap1_at, tap2_at]; rfl

end Back

end Cert.KernelIdeal.Gate

end
-- ==== Proof.States.lean ====
module

public import proofs.«01_k».proof.Proof.Chunks
public import Idealize.ShloMosaic.Lib.Pipeline.ReadBack
public import Idealize.ShloMosaic.Lib.Pipeline.CanonAppend

/-!
What the two loops leave.  After the first loop the two scratch arrays hold the gate's gradient and
the other factor's at every row, and the carried sums stand at all 4096 rows; after the second loop
and the last chunk the result block holds the transposed convolution of each.
-/

@[expose] public section

set_option maxRecDepth 16384

noncomputable section

namespace Cert.KernelIdeal.Gate

open Idealize.ShloMosaic Idealize.ShloMosaic.TcCoe Idealize.ShloMosaic.Tactic
open Cert.KernelIdeal Cert.KernelIdeal.Gen

/-! ## Blocks of rows -/

/-- The matrix whose row `r` is `G r`. -/
def mat (G : ℕ → Fin 256 → EReal) : Mat := fun y => G (y 0).val (y 1)
/-- The two planes of the result: the matrices `G` and `U`. -/
def planes (G U : ℕ → Fin 256 → EReal) : Vec Ideal S2x4096x256 .bf16 :=
  fun y => if (y 0).val = 0 then G (y 1).val (y 2) else U (y 1).val (y 2)

theorem row_mat (G : ℕ → Fin 256 → EReal) {r : ℕ} (h : r < 4096) (l : Fin 256) : row (mat G) r l = G r l := by
  rw [row_lt _ h]; rfl

theorem rows_piece (off : Fin 2 → ℕ) (inb : ∀ a, off a + S256x256.size a ≤ S4096x256.size a) (v : Vec Ideal S256x256 .f32)
    (n : ℕ) (hoff : off = ![n, 0]) (G : ℕ → Fin 256 → EReal) (h : ∀ r l : Fin 256, v (ix2 r l) = G (n + r.val) l) :
    ∀ x : (Rect.unit (s := S4096x256) off S256x256.size inb).shape.Idx,
      v x = mat G ((Rect.unit (s := S4096x256) off S256x256.size inb).emb x) := by
  subst hoff
  intro x
  have e : v x = G (n + (x 0).val) (x 1) := by
    conv_lhs => rw [eq_ix2 (n0 := 256) (n1 := 256) x]
    exact h _ _
  rw [e]
  show _ = G (n + 1 * (x 0).val) ⟨0 + 1 * (x 1).val, _⟩
  rw [Nat.one_mul]; congr 1
  exact Fin.ext (by show (x 1).val = 0 + 1 * (x 1).val; omega)

theorem rows_mem (off : Fin 2 → ℕ) (inb : ∀ a, off a + S256x256.size a ≤ S4096x256.size a) (n : ℕ) (hoff : off = ![n, 0])
    (y : S4096x256.Idx) (h : n ≤ (y 0).val ∧ (y 0).val < n + 256) :
    y ∈ (Rect.unit (s := S4096x256) off S256x256.size inb).set := by
  subst hoff
  rw [Rect.mem_set_unit]
  intro a
  fin_cases a
  · exact h
  · exact ⟨Nat.zero_le _, by have := (y 1).isLt; show (y 1).val < 0 + 256; exact (Nat.zero_add 256).symm ▸ this⟩

theorem plane_piece (off : Fin 3 → ℕ) (inb : ∀ a, off a + S1x256x256.size a ≤ S2x4096x256.size a)
    (v : Vec Ideal S1x256x256 .bf16) (p n : ℕ) (hoff : off = ![p, n, 0]) (G U H : ℕ → Fin 256 → EReal)
    (hp : (p = 0 ∧ H = G) ∨ (p = 1 ∧ H = U))
    (h : ∀ (i : Fin 1) (r l : Fin 256), v (ix3 i r l) = H (n + r.val) l) :
    ∀ x : (Rect.unit (s := S2x4096x256) off S1x256x256.size inb).shape.Idx,
      v x = planes G U ((Rect.unit (s := S2x4096x256) off S1x256x256.size inb).emb x) := by
  subst hoff
  intro x
  have e : v x = H (n + (x 1).val) (x 2) := by
    conv_lhs => rw [eq_ix3 (n0 := 1) (n1 := 256) (n2 := 256) x]
    exact h _ _ _
  have h0 : (x 0).val = 0 := by have : (x 0).val < 1 := (x 0).isLt; omega
  have h2 : (⟨0 + 1 * (x 2).val, by have := (x 2).isLt; rw [Nat.one_mul, Nat.zero_add]; exact this⟩ : Fin 256) = x 2 :=
    Fin.ext (by show 0 + 1 * (x 2).val = (x 2).val; omega)
  rw [e]
  show _ = if p + 1 * (x 0).val = 0 then G (n + 1 * (x 1).val) ⟨0 + 1 * (x 2).val, _⟩ else U (n + 1 * (x 1).val) ⟨0 + 1 * (x 2).val, _⟩
  rw [h2, h0, Nat.one_mul]
  rcases hp with ⟨rfl, rfl⟩ | ⟨rfl, rfl⟩
  · rw [if_pos rfl, Nat.one_mul]
  · rw [if_neg (by decide), Nat.one_mul]

theorem plane_mem (off : Fin 3 → ℕ) (inb : ∀ a, off a + S1x256x256.size a ≤ S2x4096x256.size a) (p n : ℕ)
    (hoff : off = ![p, n, 0]) (y : S2x4096x256.Idx) (hp : (y 0).val = p) (h : n ≤ (y 1).val ∧ (y 1).val < n + 256) :
    y ∈ (Rect.unit (s := S2x4096x256) off S1x256x256.size inb).set := by
  subst hoff
  rw [Rect.mem_set_unit]
  intro a
  fin_cases a
  · exact ⟨hp.symm.le, by show (y 0).val < p + 1; omega⟩
  · exact h
  · exact ⟨Nat.zero_le _, by have := (y 2).isLt; show (y 2).val < 0 + 256; exact (Nat.zero_add 256).symm ▸ this⟩

theorem trips1_eq : k0_t1_loop.trips = 15 := by decide +kernel
theorem trips2_eq : k0_t2_loop.trips = 15 := by decide +kernel

/-! ## The first loop -/

section T1

variable (𝒱 : Variants) (c : Dev nD) (bd : Option 𝒱.V) (i : grid0.Coords) (arg1 : Memref sig .tc .vmem S4096x256 .f32)
    (harg1 : arg1.IsWhole) (arg2 : Memref sig .tc .vmem S4096x256 .f32) (harg2 : arg2.IsWhole) (arg3 : Memref
    sig .tc .vmem S4096x256 .f32) (harg3 : arg3.IsWhole) (arg4 : Memref sig .tc .vmem S3x256 .f32) (harg4 :
    arg4.IsWhole) (arg5 : Memref sig .tc .vmem S3x256 .f32) (harg5 : arg5.IsWhole) (arg6 : Memref sig .tc
    .vmem S1x256 .f32) (harg6 : arg6.IsWhole) (arg7 : Memref sig .tc .vmem S1x256 .f32) (harg7 : arg7.IsWhole)
    (arg8 : Memref sig .tc .vmem S2x4096x256 .bf16) (harg8 : arg8.IsWhole) (arg9 : Memref sig .tc .vmem S3x256
    .f32) (harg9 : arg9.IsWhole) (arg10 : Memref sig .tc .vmem S3x256 .f32) (harg10 : arg10.IsWhole) (arg11 :
    Memref sig .tc .vmem S1x256 .f32) (harg11 : arg11.IsWhole) (arg12 : Memref sig .tc .vmem S1x256 .f32)
    (harg12 : arg12.IsWhole) (arg13 : Memref sig .tc .vmem S4096x256 .f32) (harg13 : arg13.IsWhole) (arg14 :
    Memref sig .tc .vmem S4096x256 .f32) (harg14 : arg14.IsWhole) (v0 : FVec Ideal S3x256 .f32) (v1 : FVec
    Ideal S1x256 .f32) (v2 : Vec Ideal S256x256 .f32) (v8 : FVec Ideal S256x256 .f32) (v13 : FVec Ideal
    S256x256 .f32) (v29 : Vec Ideal S256x256 .f32) (v35 : FVec Ideal S256x256 .f32) (v40 : FVec Ideal S256x256
    .f32) (v71 : FVec Ideal S256x256 .f32) (v73 : FVec Ideal S256x256 .f32) (X_arg1 : BufTy.Contents (Elt
    Ideal) arg1.view.ty) (X_arg2 : BufTy.Contents (Elt Ideal) arg2.view.ty) (X_arg3 : BufTy.Contents (Elt
    Ideal) arg3.view.ty) (X_arg4 : BufTy.Contents (Elt Ideal) arg4.view.ty) (X_arg5 : BufTy.Contents (Elt
    Ideal) arg5.view.ty) (X_arg6 : BufTy.Contents (Elt Ideal) arg6.view.ty) (X_arg7 : BufTy.Contents (Elt
    Ideal) arg7.view.ty)

/-- What holds before trip `k` of the first loop. -/
structure Inv1 (da pg pu : Mat) (wg wu : Taps) (bg bu : Row) (k : ℕ)
    (s : Acc × List (View.Piece (Elt Ideal) S4096x256 .f32) × List (View.Piece (Elt Ideal) S4096x256 .f32)) : Prop where
  sums : SumsAt da pg pu wg wu bg bu (256 * (k + 1)) s.1
  gate : View.PiecesOf (mat (dGate da pg pu wg wu bg bu)) s.2.1
  up : View.PiecesOf (mat (dUp da pg wg bg)) s.2.2
  gcov : ∀ y : S4096x256.Idx, 256 ≤ (y 0).val → (y 0).val < 256 * (k + 1) → ∃ p ∈ s.2.1, y ∈ p.1.set
  ucov : ∀ y : S4096x256.Idx, 256 ≤ (y 0).val → (y 0).val < 256 * (k + 1) → ∃ p ∈ s.2.2, y ∈ p.1.set

theorem inv1 {da pg pu : Mat} {wg wu : Taps} {bg bu : Row} (init : Acc)
    (h1 : (arg1.view.read (Elt Ideal) X_arg1) = da) (h2 : (arg2.view.read (Elt Ideal) X_arg2) = pg) (h3 : (arg3.view.read (Elt Ideal) X_arg3) = pu) (h4 : (arg4.view.read (Elt Ideal) X_arg4) = wg)
    (h5 : (arg5.view.read (Elt Ideal) X_arg5) = wu) (h6 : (arg6.view.read (Elt Ideal) X_arg6) = bg) (h7 : (arg7.view.read (Elt Ideal) X_arg7) = bu)
    (h0 : SumsAt da pg pu wg wu bg bu 256 init) :
    ∀ k ≤ 15, Inv1 da pg pu wg wu bg bu k
      (st_k0_t1 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v0 v1 v2 v8 v13 v29 v35 v40 v71 v73
    X_arg1 X_arg2 X_arg3 X_arg4 X_arg5 X_arg6 X_arg7 init k) := by
  intro k
  induction k with
  | zero => exact fun _ => ⟨h0, trivial, trivial, fun y _ _ => by omega, fun y _ _ => by omega⟩
  | succ k ih =>
    intro hk
    have hi := ih (by omega)
    have hlt : k < k0_t1_loop.trips := by rw [trips1_eq]; omega
    rw [show k + 1 = (⟨k, hlt⟩ : Fin k0_t1_loop.trips).val + 1 from rfl, st_k0_t1_succ]
    unfold tripR_k0_t1 tripL_k0_t1
    rw [yield_t1, gate_pieces_t1, up_pieces_t1]
    subst h1 h2 h3 h4 h5 h6 h7
    refine ⟨yieldC_sums _ _ _ _ _ _ _ _ _ hi.sums, ⟨?_, hi.gate⟩, ⟨?_, hi.up⟩, ?_, ?_⟩
    · rw [pay33_eq]
      exact rows_piece _ (k0_off2_inb _) _ _ (k0_off2_eq _) _ fun r l => (dGateC_at _ _ _ _ _ _ _ _ r l)
    · rw [pay34_eq]
      exact rows_piece _ (k0_off2_inb _) _ _ (k0_off2_eq _) _ fun r l => (dUpC_at _ _ _ _ _ r l)
    · intro y hy hlt'
      by_cases hc : (y 0).val < 256 * (k + 1)
      · obtain ⟨p, hp, hm⟩ := hi.gcov y hy hc
        exact ⟨p, List.mem_append_right _ hp, hm⟩
      · exact ⟨_, List.mem_append_left _ (List.mem_singleton.2 rfl), rows_mem _ (k0_off2_inb _) (256 * k + 256) (k0_off2_eq _) y ⟨by omega, by omega⟩⟩
    · intro y hy hlt'
      by_cases hc : (y 0).val < 256 * (k + 1)
      · obtain ⟨p, hp, hm⟩ := hi.ucov y hy hc
        exact ⟨p, List.mem_append_right _ hp, hm⟩
      · exact ⟨_, List.mem_append_left _ (List.mem_singleton.2 rfl), rows_mem _ (k0_off2_inb _) (256 * k + 256) (k0_off2_eq _) y ⟨by omega, by omega⟩⟩

end T1

/-- The first chunk's block under the loop's blocks leaves the matrix, whatever was there. -/
theorem scratch_read {M : Memref sig .tc .vmem S4096x256 .f32} (f : M.view.ty.Contents (Elt Ideal))
    (L : List (View.Piece (Elt Ideal) S4096x256 .f32)) (v : Vec Ideal S256x256 .f32) (G : ℕ → Fin 256 → EReal)
    (hL : View.PiecesOf (mat G) L) (hc : ∀ y : S4096x256.Idx, 256 ≤ (y 0).val → (y 0).val < 256 * (15 + 1) → ∃ p ∈ L, y ∈ p.1.set)
    (hv : ∀ r l : Fin 256, v (ix2 r l) = G r.val l) :
    M.view.read (Elt Ideal) (M.view.writes (Elt Ideal) f
      (L ++ [⟨Rect.unit (s := S4096x256) ![0, 0] S256x256.size inb_S4096x256_S256x256_0_0, v⟩])) = mat G := by
  have hcov : ∀ y : S4096x256.Idx, ∃ p ∈ L ++ [⟨Rect.unit (s := S4096x256) ![0, 0] S256x256.size inb_S4096x256_S256x256_0_0, v⟩],
      y ∈ p.1.set := by
    intro y
    by_cases h : 256 ≤ (y 0).val
    · obtain ⟨p, hp, hm⟩ := hc y h (by have : (y 0).val < 4096 := (y 0).isLt; omega)
      exact ⟨p, List.mem_append_left _ hp, hm⟩
    · exact ⟨_, List.mem_append_right _ (List.mem_singleton.2 rfl), rows_mem _ inb_S4096x256_S256x256_0_0 0 rfl y ⟨Nat.zero_le _, by omega⟩⟩
  rw [View.read_writes_eq_canon _ _ _ hcov]
  funext y
  have := View.canon_append_of_pieces (mat G) []
    (L ++ [⟨Rect.unit (s := S4096x256) ![0, 0] S256x256.size inb_S4096x256_S256x256_0_0, v⟩]) ?_ y (hcov y)
  · rwa [List.append_nil] at this
  · intro p hp
    rcases List.mem_append.1 hp with hp | hp
    · exact hL.mem p hp
    · rw [List.mem_singleton.1 hp]
      exact rows_piece _ inb_S4096x256_S256x256_0_0 v 0 rfl _ fun r l => by rw [hv, Nat.zero_add]

/-! ## The second loop -/

section T2

variable (𝒱 : Variants) (c : Dev nD) (bd : Option 𝒱.V) (i : grid0.Coords) (arg1 : Memref sig .tc .vmem S4096x256 .f32)
    (harg1 : arg1.IsWhole) (arg2 : Memref sig .tc .vmem S4096x256 .f32) (harg2 : arg2.IsWhole) (arg3 : Memref
    sig .tc .vmem S4096x256 .f32) (harg3 : arg3.IsWhole) (arg4 : Memref sig .tc .vmem S3x256 .f32) (harg4 :
    arg4.IsWhole) (arg5 : Memref sig .tc .vmem S3x256 .f32) (harg5 : arg5.IsWhole) (arg6 : Memref sig .tc
    .vmem S1x256 .f32) (harg6 : arg6.IsWhole) (arg7 : Memref sig .tc .vmem S1x256 .f32) (harg7 : arg7.IsWhole)
    (arg8 : Memref sig .tc .vmem S2x4096x256 .bf16) (harg8 : arg8.IsWhole) (arg9 : Memref sig .tc .vmem S3x256
    .f32) (harg9 : arg9.IsWhole) (arg10 : Memref sig .tc .vmem S3x256 .f32) (harg10 : arg10.IsWhole) (arg11 :
    Memref sig .tc .vmem S1x256 .f32) (harg11 : arg11.IsWhole) (arg12 : Memref sig .tc .vmem S1x256 .f32)
    (harg12 : arg12.IsWhole) (arg13 : Memref sig .tc .vmem S4096x256 .f32) (harg13 : arg13.IsWhole) (arg14 :
    Memref sig .tc .vmem S4096x256 .f32) (harg14 : arg14.IsWhole) (v109_2 : FVec Ideal S1x256 .f32) (v109_3 :
    FVec Ideal S1x256 .f32) (X_arg4 : BufTy.Contents (Elt Ideal) arg4.view.ty) (X_arg5 : BufTy.Contents (Elt
    Ideal) arg5.view.ty) (X_arg13 : BufTy.Contents (Elt Ideal) arg13.view.ty) (X_arg14 : BufTy.Contents (Elt
    Ideal) arg14.view.ty)

structure Inv2 (G U : ℕ → Fin 256 → EReal) (k : ℕ) (L : List (View.Piece (Elt Ideal) S2x4096x256 .bf16)) : Prop where
  blocks : View.PiecesOf (planes G U) L
  cov : ∀ y : S2x4096x256.Idx, (y 1).val < 256 * k → ∃ p ∈ L, y ∈ p.1.set

theorem inv2 {dg du : Mat} {wg wu : Taps} (h4 : (arg4.view.read (Elt Ideal) X_arg4) = wg) (h5 : (arg5.view.read (Elt Ideal) X_arg5) = wu)
    (h13 : (arg13.view.read (Elt Ideal) X_arg13) = dg) (h14 : (arg14.view.read (Elt Ideal) X_arg14) = du) :
    ∀ k ≤ 15, Inv2 (back dg wg) (back du wu) k
      (pb_k0_t2 (F := Ideal) 𝒱 c bd i arg1 harg1 arg2 harg2 arg3 harg3 arg4 harg4 arg5 harg5 arg6 harg6 arg7 harg7 arg8 harg8 arg9 harg9
    arg10 harg10 arg11 harg11 arg12 harg12 arg13 harg13 arg14 harg14 v109_2 v109_3 X_arg4 X_arg5 X_arg13
    X_arg14 k) := by
  intro k
  induction k with
  | zero => exact fun _ => ⟨trivial, fun y _ => by omega⟩
  | succ k ih =>
    intro hk
    have hi := ih (by omega)
    have hlt : k < k0_t2_loop.trips := by rw [trips2_eq]; omega
    rw [show k + 1 = (⟨k, hlt⟩ : Fin k0_t2_loop.trips).val + 1 from rfl, pb_k0_t2_succ]
    unfold tripL_k0_t2
    rw [pieces_t2]
    subst h4 h5 h13 h14
    refine ⟨⟨?_, ?_, hi.blocks⟩, ?_⟩
    · exact plane_piece _ (k0_off6_inb _) _ 1 _ (k0_off6_eq _) _ _ _ (.inr ⟨rfl, rfl⟩) fun i r l => backU_at _ _ _ i r l
    · exact plane_piece _ (k0_off5_inb _) _ 0 _ (k0_off5_eq _) _ _ _ (.inl ⟨rfl, rfl⟩) fun i r l => backG_at _ _ _ i r l
    · intro y hy
      by_cases hc : (y 1).val < 256 * k
      · obtain ⟨p, hp, hm⟩ := hi.cov y hc
        exact ⟨p, List.mem_append_right _ hp, hm⟩
      · have h2 : (y 0).val < 2 := (y 0).isLt
        rcases (by omega : (y 0).val = 0 ∨ (y 0).val = 1) with h0 | h0
        · exact ⟨_, List.mem_append_left _ (List.mem_cons_of_mem _ (List.mem_singleton.2 rfl)),
            plane_mem _ (k0_off5_inb _) 0 (256 * k) (k0_off5_eq _) y h0 ⟨by omega, by omega⟩⟩
        · exact ⟨_, List.mem_append_left _ List.mem_cons_self,
            plane_mem _ (k0_off6_inb _) 1 (256 * k) (k0_off6_eq _) y h0 ⟨by omega, by omega⟩⟩

end T2

/-- The last chunk's two blocks over the loop's leave the two planes. -/
theorem result_read {M : Memref sig .tc .vmem S2x4096x256 .bf16} (f : M.view.ty.Contents (Elt Ideal))
    (L : List (View.Piece (Elt Ideal) S2x4096x256 .bf16)) (G U : ℕ → Fin 256 → EReal) (h : Inv2 G U 15 L)
    (vg vu : Vec Ideal S1x256x256 .bf16) (hg : ∀ (i : Fin 1) (r l : Fin 256), vg (ix3 i r l) = G (3840 + r.val) l)
    (hu : ∀ (i : Fin 1) (r l : Fin 256), vu (ix3 i r l) = U (3840 + r.val) l)
    (ig : ∀ a, (![0, 3840, 0] : Fin 3 → ℕ) a + S1x256x256.size a ≤ S2x4096x256.size a)
    (iu : ∀ a, (![1, 3840, 0] : Fin 3 → ℕ) a + S1x256x256.size a ≤ S2x4096x256.size a) :
    M.view.read (Elt Ideal) (M.view.writes (Elt Ideal) f
      (⟨Rect.unit (s := S2x4096x256) ![1, 3840, 0] S1x256x256.size iu, vu⟩
        :: ⟨Rect.unit (s := S2x4096x256) ![0, 3840, 0] S1x256x256.size ig, vg⟩ :: L)) = planes G U := by
  have hp : View.PiecesOf (planes G U) (⟨Rect.unit (s := S2x4096x256) ![1, 3840, 0] S1x256x256.size iu, vu⟩
        :: ⟨Rect.unit (s := S2x4096x256) ![0, 3840, 0] S1x256x256.size ig, vg⟩ :: L) :=
    ⟨plane_piece _ iu _ 1 _ rfl _ _ _ (.inr ⟨rfl, rfl⟩) hu, plane_piece _ ig _ 0 _ rfl _ _ _ (.inl ⟨rfl, rfl⟩) hg, h.blocks⟩
  have hcov : ∀ y : S2x4096x256.Idx, ∃ p ∈ (⟨Rect.unit (s := S2x4096x256) ![1, 3840, 0] S1x256x256.size iu, vu⟩
        :: ⟨Rect.unit (s := S2x4096x256) ![0, 3840, 0] S1x256x256.size ig, vg⟩ :: L : List (View.Piece (Elt Ideal) S2x4096x256 .bf16)),
      y ∈ p.1.set := by
    intro y
    have h1 : (y 1).val < 4096 := (y 1).isLt
    have h2 : (y 0).val < 2 := (y 0).isLt
    by_cases hc : (y 1).val < 256 * 15
    · obtain ⟨p, hp, hm⟩ := h.cov y hc
      exact ⟨p, List.mem_cons_of_mem _ (List.mem_cons_of_mem _ hp), hm⟩
    · rcases (by omega : (y 0).val = 0 ∨ (y 0).val = 1) with h0 | h0
      · exact ⟨_, List.mem_cons_of_mem _ List.mem_cons_self, plane_mem _ ig 0 _ rfl y h0 ⟨by omega, by omega⟩⟩
      · exact ⟨_, List.mem_cons_self, plane_mem _ iu 1 _ rfl y h0 ⟨by omega, by omega⟩⟩
  rw [View.read_writes_eq_canon _ _ _ hcov]
  funext y
  have := View.canon_append_of_pieces (planes G U) [] _ hp.mem y (hcov y)
  rwa [List.append_nil] at this

end Cert.KernelIdeal.Gate

end
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Frame
public import proofs.«01_k».proof.Proof.States

/-!
The kernel's body at one block of 256 columns, from the blocks it is handed to the five results it
leaves: over the two loops' states (States.lean) and the first and last chunks (Chunks.lean).
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gate

local notation "𝕄" => MT nD τ sig Unit (Elt Ideal) ℕ (UR sig nD τ) ℕ

/-- The gradient of the taps and of the bias, as the blocks the body leaves. -/
def tapsOf (d : ℕ → Fin 256 → EReal) (x : Mat) : Taps := fun y => tapSum d x 4096 (y 0) (y 1)
def sumOf (d : ℕ → Fin 256 → EReal) : Row := fun y => colSum d 4096 (y 1)

theorem taps_read {M : Memref sig .tc .vmem S3x256 .f32} (f : M.view.ty.Contents (Elt Ideal)) (v : Vec Ideal S3x256 .f32)
    (d : ℕ → Fin 256 → EReal) (x : Mat) (h : ∀ (i : Fin 3) (l : Fin 256), v (ix2 i l) = tapSum d x 4096 i l)
    (ib : ∀ a, (![0, 0] : Fin 2 → ℕ) a + S3x256.size a ≤ S3x256.size a) :
    M.view.read (Elt Ideal) (M.view.writes (Elt Ideal) f [⟨Rect.unit (s := S3x256) ![0, 0] S3x256.size ib, v⟩]) = tapsOf d x := by
  have z : (![0, 0] : Fin 2 → ℕ) = fun _ => 0 := by funext a; fin_cases a <;> rfl
  rw [View.read_writes_eq_canon _ _ _ (fun y => ⟨_, List.mem_singleton.2 rfl, View.mem_set_unit_zero z ib y⟩), View.canon_unit_zero z]
  funext y
  conv_lhs => rw [eq_ix2 (n0 := 3) (n1 := 256) y]
  exact h _ _

theorem sum_read {M : Memref sig .tc .vmem S1x256 .f32} (f : M.view.ty.Contents (Elt Ideal)) (v : Vec Ideal S1x256 .f32)
    (d : ℕ → Fin 256 → EReal) (h : ∀ (i : Fin 1) (l : Fin 256), v (ix2 i l) = colSum d 4096 l)
    (ib : ∀ a, (![0, 0] : Fin 2 → ℕ) a + S1x256.size a ≤ S1x256.size a) :
    M.view.read (Elt Ideal) (M.view.writes (Elt Ideal) f [⟨Rect.unit (s := S1x256) ![0, 0] S1x256.size ib, v⟩]) = sumOf d := by
  have z : (![0, 0] : Fin 2 → ℕ) = fun _ => 0 := by funext a; fin_cases a <;> rfl
  rw [View.read_writes_eq_canon _ _ _ (fun y => ⟨_, List.mem_singleton.2 rfl, View.mem_set_unit_zero z ib y⟩), View.canon_unit_zero z]
  funext y
  conv_lhs => rw [eq_ix2 (n0 := 1) (n1 := 256) y]
  exact h _ _

-- (the run's proof term is large: checking it walks past the default budget)
set_option maxHeartbeats 1000000 in set_option sl_exec.squeezeSlice true in
/-- The body runs from its seven blocks to the five named results: the two planes of the
    convolution's transpose, the sums for the taps and the sums for the bias. -/
theorem kernelRun (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x4096x256 .bf16) (harg8 : arg8.IsWhole) (arg9 : Memref sig .tc .vmem S3x256 .f32) (harg9 : arg9.IsWhole) (arg10 : Memref sig .tc .vmem S3x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S4096x256 .f32) (harg13 : arg13.IsWhole) (arg14 : Memref sig .tc .vmem S4096x256 .f32) (harg14 : arg14.IsWhole)
    (x0 : Vec Ideal S4096x256 .f32) (x1 : Vec Ideal S4096x256 .f32) (x2 : Vec Ideal S4096x256 .f32) (x3 : Vec Ideal S3x256 .f32) (x4 : Vec Ideal S3x256 .f32) (x5 : Vec Ideal S1x256 .f32) (x6 : Vec Ideal S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (planes (back (mat (dGate x0 x1 x2 x3 x4 x5 x6)) x3) (back (mat (dUp x0 x1 x3 x5)) x4)) ∗ owns (c : Thread nD τ) arg9 fullShare (tapsOf (dGate x0 x1 x2 x3 x4 x5 x6) x1) ∗ owns (c : Thread nD τ) arg10 fullShare (tapsOf (dUp x0 x1 x3 x5) x2) ∗ owns (c : Thread nD τ) arg11 fullShare (sumOf (dGate x0 x1 x2 x3 x4 x5 x6)) ∗ owns (c : Thread nD τ) arg12 fullShare (sumOf (dUp x0 x1 x3 x5)) ∗ (∃ d, owns (c : Thread nD τ) arg13 fullShare d) ∗ (∃ d, owns (c : Thread nD τ) arg14 fullShare d)) -∗ K ⟨⟩))
          ⊢ wp frame (wpE (defs₀ (F := Ideal)) Variants.none c none) E (cc0_ffn_act_bwd i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_ffn_act_bwd_eq_skeleton]; unfold cc0_ffn_act_bwd_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    have t1 : Scf.trips k0_t1_loop.lb k0_t1_loop.ub k0_t1_loop.st = 15 := trips1_eq
    have t2 : Scf.trips k0_t2_loop.lb k0_t2_loop.ub k0_t2_loop.st = 15 := trips2_eq
    have h1 := fun v0 v1 v2 v8 v13 v29 v35 v40 v71 v73 init h0 => inv1 (da := x0) (pg := x1) (pu := x2) (wg := x3) (wu := x4) (bg := x5) (bu := x6) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v1 v2 v8 v13 v29 v35 v40 v71 v73 (harg1.unread x0) (harg2.unread x1) (harg3.unread x2) (harg4.unread x3) (harg5.unread x4) (harg6.unread x5) (harg7.unread x6)
      init (harg1.read_unread x0) (harg2.read_unread x1) (harg3.read_unread x2) (harg4.read_unread x3) (harg5.read_unread x4) (harg6.read_unread x5) (harg7.read_unread x6) h0 15 le_rfl
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [H7]
    · iexists _; isplitr; swap; · iexact H7
      ipureintro
      sl_unfold_run_names
      rw [t2]
      rw [t1]
      have e1 : ∀ g v0 v1 v2 v8 v13 v29 v35 v40 v71 v73 init, init = acc0 x0 x1 x2 x3 x4 x5 x6 → g = dGate0 x0 x1 x2 x3 x4 x5 x6 →
          arg13.view.read (Elt Ideal) (arg13.view.writes (Elt Ideal) fs0 ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v1 v2 v8 v13 v29 v35 v40 v71 v73 (harg1.unread x0) (harg2.unread x1) (harg3.unread x2) (harg4.unread x3) (harg5.unread x4) (harg6.unread x5) (harg7.unread x6) init 15).2.1
            ++ [⟨Rect.unit (s := S4096x256) ![0, 0] S256x256.size inb_S4096x256_S256x256_0_0, k0_pay33 g⟩]))
            = mat (dGate x0 x1 x2 x3 x4 x5 x6) := fun g v0 v1 v2 v8 v13 v29 v35 v40 v71 v73 init h hg =>
        scratch_read _ _ _ _ (h1 _ _ _ _ _ _ _ _ _ _ _ (h ▸ acc0_sums ..)).gate (h1 _ _ _ _ _ _ _ _ _ _ _ (h ▸ acc0_sums ..)).gcov
          fun r l => by rw [hg, pay33_eq, dGate0_at]
      have e2 : ∀ g v0 v1 v2 v8 v13 v29 v35 v40 v71 v73 init, init = acc0 x0 x1 x2 x3 x4 x5 x6 → g = dUp0 x0 x1 x3 x5 →
          arg14.view.read (Elt Ideal) (arg14.view.writes (Elt Ideal) fs1 ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 v0 v1 v2 v8 v13 v29 v35 v40 v71 v73 (harg1.unread x0) (harg2.unread x1) (harg3.unread x2) (harg4.unread x3) (harg5.unread x4) (harg6.unread x5) (harg7.unread x6) init 15).2.2
            ++ [⟨Rect.unit (s := S4096x256) ![0, 0] S256x256.size inb_S4096x256_S256x256_0_0, k0_pay34 g⟩]))
            = mat (dUp x0 x1 x3 x5) := fun g v0 v1 v2 v8 v13 v29 v35 v40 v71 v73 init h hg =>
        scratch_read _ _ _ _ (h1 _ _ _ _ _ _ _ _ _ _ _ (h ▸ acc0_sums ..)).up (h1 _ _ _ _ _ _ _ _ _ _ _ (h ▸ acc0_sums ..)).ucov
          fun r l => by rw [hg, pay34_eq, dUp0_at]
      refine result_read _ _ _ _ (inv2 _ _ _ _ _ _ _ _ _ _ _ _ _ _ _ _ _ _ _ _ _ _ _ _ _ _ _ _ _ _ _ _ _ _ _ _ _ _ (harg4.read_unread x3) (harg5.read_unread x4)
        (e1 _ _ _ _ _ _ _ _ _ _ _ _ ?_ ?_) (e2 _ _ _ _ _ _ _ _ _ _ _ _ ?_ ?_) 15 le_rfl) _ _ (fun i r l => ?_) (fun i r l => ?_) _ _
      · simp only [View.readAt_eq_ld, Memref.IsWhole.read_unread]; rfl
      · simp only [View.readAt_eq_ld, Memref.IsWhole.read_unread]; rfl
      · simp only [View.readAt_eq_ld, Memref.IsWhole.read_unread]; rfl
      · simp only [View.readAt_eq_ld, Memref.IsWhole.read_unread]; rfl
      · simp only [View.readAt_eq_ld, Memref.IsWhole.read_unread]
        rw [e1]
        · have h := backLastG_at (mat (dGate x0 x1 x2 x3 x4 x5 x6)) x3 i r l
          unfold bot tap0 tap1 tap2 at h
          refine Eq.trans ?_ h
          congr 1
        · rfl
        · rfl
      · simp only [View.readAt_eq_ld, Memref.IsWhole.read_unread]
        rw [e2]
        · have h := backLastU_at (mat (dUp x0 x1 x3 x5)) x4 i r l
          unfold bot tap0 tap1 tap2 at h
          exact h
        · rfl
        · rfl
    isplitl [H8]
    · iexists _; isplitr; swap; · iexact H8
      ipureintro
      sl_unfold_run_names
      rw [t1]
      refine taps_read _ _ _ _ ((h1 _ _ _ _ _ _ _ _ _ _ _ ?_).sums.tg) _
      simp only [View.readAt_eq_ld, Memref.IsWhole.read_unread]
      exact acc0_sums ..
    isplitl [H9]
    · iexists _; isplitr; swap; · iexact H9
      ipureintro
      sl_unfold_run_names
      rw [t1]
      refine taps_read _ _ _ _ ((h1 _ _ _ _ _ _ _ _ _ _ _ ?_).sums.tu) _
      simp only [View.readAt_eq_ld, Memref.IsWhole.read_unread]
      exact acc0_sums ..
    isplitl [H10]
    · iexists _; isplitr; swap; · iexact H10
      ipureintro
      sl_unfold_run_names
      rw [t1]
      refine sum_read _ _ _ ((h1 _ _ _ _ _ _ _ _ _ _ _ ?_).sums.sg) _
      simp only [View.readAt_eq_ld, Memref.IsWhole.read_unread]
      exact acc0_sums ..
    isplitl [H11]
    · iexists _; isplitr; swap; · iexact H11
      ipureintro
      sl_unfold_run_names
      rw [t1]
      refine sum_read _ _ _ ((h1 _ _ _ _ _ _ _ _ _ _ _ ?_).sums.su) _
      simp only [View.readAt_eq_ld, Memref.IsWhole.read_unread]
      exact acc0_sums ..
    isplitl [HS0]
    · iexists _, _; isplitr; swap; · iexact HS0
      ipureintro; rfl
    iexists _, _; isplitr; swap; · iexact HS1
    ipureintro; rfl

end Cert.KernelIdeal.Gen

end
-- ==== Proof.Run.lean ====
module

public import proofs.«01_k».proof.Proof.Body
public import proofs.«01_k».proof.Proof.Gen.KernelIdeal.Points
public import Idealize.ShloMosaic.Lib.Pipeline.FrameBody

/-!
The kernel's run: at every point of the grid the body takes its blocks to the named results, so the
launch ends with every array of results assembled from those blocks.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gate

local notation "𝕄" => MT nD τ sig Unit (Elt Ideal) ℕ (UR sig nD τ) ℕ

variable (m : (ℓ : Loc nD τ sig) → Buf (Elt Ideal) ℓ) (ρ : Dev nD → PrngReg)

/-! ## What each point computes -/

/-- The two gradients at a point of the grid, row by row. -/
def dG (c : Dev nD) (t : Fin cfg0.N) : ℕ → Fin 256 → EReal :=
  dGate (iblk m c 0 t) (iblk m c 1 t) (iblk m c 2 t) (iblk m c 3 t) (iblk m c 4 t) (iblk m c 5 t) (iblk m c 6 t)
def dU (c : Dev nD) (t : Fin cfg0.N) : ℕ → Fin 256 → EReal :=
  dUp (iblk m c 0 t) (iblk m c 1 t) (iblk m c 3 t) (iblk m c 5 t)

/-- The five blocks a point leaves. -/
def out7 (c : Dev nD) (t : Fin cfg0.N) : Vec Ideal S2x4096x256 .bf16 :=
  planes (back (mat (dG m c t)) (iblk m c 3 t)) (back (mat (dU m c t)) (iblk m c 4 t))
def out8 (c : Dev nD) (t : Fin cfg0.N) : Vec Ideal S3x256 .f32 := tapsOf (dG m c t) (iblk m c 1 t)
def out9 (c : Dev nD) (t : Fin cfg0.N) : Vec Ideal S3x256 .f32 := tapsOf (dU m c t) (iblk m c 2 t)
def out10 (c : Dev nD) (t : Fin cfg0.N) : Vec Ideal S1x256 .f32 := sumOf (dG m c t)
def out11 (c : Dev nD) (t : Fin cfg0.N) : Vec Ideal S1x256 .f32 := sumOf (dU m c t)

/-- Each window's current staging memref at a point, and the two scratch memrefs. -/
abbrev ms0 (t : Fin cfg0.N) : Memref sig .tc .vmem S4096x256 .f32 := win0_0.stage (cfg0.slots t 0)
abbrev ms1 (t : Fin cfg0.N) : Memref sig .tc .vmem S4096x256 .f32 := win0_1.stage (cfg0.slots t 1)
abbrev ms2 (t : Fin cfg0.N) : Memref sig .tc .vmem S4096x256 .f32 := win0_2.stage (cfg0.slots t 2)
abbrev ms3 (t : Fin cfg0.N) : Memref sig .tc .vmem S3x256 .f32 := win0_3.stage (cfg0.slots t 3)
abbrev ms4 (t : Fin cfg0.N) : Memref sig .tc .vmem S3x256 .f32 := win0_4.stage (cfg0.slots t 4)
abbrev ms5 (t : Fin cfg0.N) : Memref sig .tc .vmem S1x256 .f32 := win0_5.stage (cfg0.slots t 5)
abbrev ms6 (t : Fin cfg0.N) : Memref sig .tc .vmem S1x256 .f32 := win0_6.stage (cfg0.slots t 6)
abbrev ms7 (t : Fin cfg0.N) : Memref sig .tc .vmem S2x4096x256 .bf16 := win0_7.stage (cfg0.slots t 7)
abbrev ms8 (t : Fin cfg0.N) : Memref sig .tc .vmem S3x256 .f32 := win0_8.stage (cfg0.slots t 8)
abbrev ms9 (t : Fin cfg0.N) : Memref sig .tc .vmem S3x256 .f32 := win0_9.stage (cfg0.slots t 9)
abbrev ms10 (t : Fin cfg0.N) : Memref sig .tc .vmem S1x256 .f32 := win0_10.stage (cfg0.slots t 10)
abbrev ms11 (t : Fin cfg0.N) : Memref sig .tc .vmem S1x256 .f32 := win0_11.stage (cfg0.slots t 11)
abbrev sc0 : Memref sig .tc .vmem S4096x256 .f32 := Memref.whole cc0_scratch0
abbrev sc1 : Memref sig .tc .vmem S4096x256 .f32 := Memref.whole cc0_scratch1

theorem rest_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The pipeline's data: inputs stay at their blocks, outputs end at the named blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
    | ⟨11, _⟩ => out11 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 1200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, rest_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

/-! ## The launch -/

set_option backward.isDefEq.respectTransparency.types false in
theorem run_main_quiescent : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Silu.lean ====
module

public import proofs.«01_k».proof.Proof.Gate

/-!
The gate's two gradients over the real numbers: the body writes the logistic function by the
hyperbolic tangent and the gate's derivative as one product, the reference writes the logistic
function as a quotient and the derivative as the sum of the product rule's two terms.
-/

@[expose] public section

set_option maxRecDepth 16384

noncomputable section

namespace Cert.KernelIdeal.Gate

open Idealize.ShloMosaic

/-- The logistic function as a quotient. -/
def logis (g : EReal) : EReal := Ideal.div 1 (1 + Ideal.exp (-g))

theorem logis_coe (g : ℝ) : logis (g : EReal) = (((1 + Real.exp (-g))⁻¹ : ℝ) : EReal) := Ideal.logistic_coe g

theorem half_eq : half = ((1 / 2 : ℝ) : EReal) := by
  unfold half
  simp [Ideal.ofBits, Ideal.ieee]
  refine (EReal.coe_mul 8388608 (2 ^ 24)⁻¹).symm.trans ?_
  congr 1
  norm_num

theorem tanh_half (g : ℝ) : 1 / 2 * Real.tanh (1 / 2 * g) + 1 / 2 = (1 + Real.exp (-g))⁻¹ := by
  have e : Real.exp (-g) = Real.exp (-(1 / 2 * g)) * Real.exp (-(1 / 2 * g)) := by rw [← Real.exp_add]; congr 1; ring
  have f : Real.exp (1 / 2 * g) * Real.exp (-(1 / 2 * g)) = 1 := by rw [← Real.exp_add]; simp
  have p := Real.exp_pos (1 / 2 * g)
  have q := Real.exp_pos (-(1 / 2 * g))
  rw [Real.tanh_eq_sinh_div_cosh, Real.sinh_eq, Real.cosh_eq, e]
  generalize Real.exp (1 / 2 * g) = a at *
  generalize Real.exp (-(1 / 2 * g)) = b at *
  have ha : a = b⁻¹ := eq_inv_of_mul_eq_one_left f
  subst ha
  have : b⁻¹ + b ≠ 0 := by positivity
  have : 1 + b * b ≠ 0 := by positivity
  field_simp
  ring

theorem sgm_eq (g : ℝ) : sgm (g : EReal) = logis (g : EReal) := by
  rw [logis_coe, ← tanh_half]
  unfold sgm
  rw [half_eq, ← EReal.coe_mul, Ideal.tanh_coe, ← EReal.coe_mul, ← EReal.coe_add]

/-- The gate's gradient: one product against the sum of two. -/
theorem gateGrad_eq (a g u : ℝ) :
    gateGrad (a : EReal) (g : EReal) (u : EReal)
      = ((a : EReal) * (u : EReal)) * logis (g : EReal)
        + ((g : EReal) * ((a : EReal) * (u : EReal))) * (logis (g : EReal) * (1 - logis (g : EReal))) := by
  unfold gateGrad
  rw [sgm_eq, logis_coe]
  generalize (1 + Real.exp (-g))⁻¹ = s
  norm_cast
  ring_nf

theorem upGrad_eq (a g : ℝ) :
    upGrad (a : EReal) (g : EReal) = ((g : EReal) * logis (g : EReal)) * (a : EReal) := by
  unfold upGrad
  rw [sgm_eq, mul_comm]

/-- A real number. -/
def Finite (x : EReal) : Prop := ∃ r : ℝ, x = (r : EReal)

theorem Finite.add {x y : EReal} (hx : Finite x) (hy : Finite y) : Finite (x + y) := by
  obtain ⟨a, rfl⟩ := hx; obtain ⟨b, rfl⟩ := hy; exact ⟨a + b, (EReal.coe_add a b).symm⟩
theorem Finite.mul {x y : EReal} (hx : Finite x) (hy : Finite y) : Finite (x * y) := by
  obtain ⟨a, rfl⟩ := hx; obtain ⟨b, rfl⟩ := hy; exact ⟨a * b, (EReal.coe_mul a b).symm⟩
theorem finite_zero : Finite 0 := ⟨0, rfl⟩

theorem finite_conv3 {b w0 w1 w2 x2 x1 x0 : EReal} (hb : Finite b) (h0 : Finite w0) (h1 : Finite w1) (h2 : Finite w2)
    (y2 : Finite x2) (y1 : Finite x1) (y0 : Finite x0) : Finite (conv3 b w0 w1 w2 x2 x1 x0) :=
  ((hb.add (h0.mul y2)).add (h1.mul y1)).add (h2.mul y0)

end Cert.KernelIdeal.Gate

end
-- ==== Proof.Ref.lean ====
module

public import proofs.«01_k».proof.Proof.Gen.ReferenceIdeal.Read
public import proofs.«01_k».proof.Proof.Silu
public import Idealize.ShloMosaic.Lib.Pointwise
public import Idealize.ShloMosaic.Lib.Tactic.CleanTypes

/-!
The reference read at an index: the convolution of every column, the two gradients, and the five
results as sums and products of rows of the arguments.
-/

@[expose] public section

set_option maxRecDepth 16384

noncomputable section

namespace Cert.ReferenceIdeal.Read

open Idealize.ShloMosaic
open Cert.KernelIdeal.Gate (half sgm conv3 gateGrad upGrad back3 logis Finite finite_zero finite_conv3 gateGrad_eq upGrad_eq)

/-- Row `r` of a matrix of 4096 rows, zero past its end, and the row `d` before, zero before its start. -/
def rowOf {n : ℕ} (x : Vec Ideal (⟨2, ![4096, n]⟩ : Shape) .f32) (r : ℕ) (k : Fin n) : EReal :=
  if h : r < 4096 then x (ix2 ⟨r, h⟩ k) else 0
def prevOf {n : ℕ} (x : Vec Ideal (⟨2, ![4096, n]⟩ : Shape) .f32) (d r : ℕ) (k : Fin n) : EReal :=
  if r < d then 0 else rowOf x (r - d) k

variable (x0 : Vec Ideal S4096x5632 .f32) (x1 : Vec Ideal S4096x11264 .f32) (x2 : Vec Ideal S3x11264 .f32)
  (x3 : Vec Ideal S11264 .f32)

/-- The causal convolution at a row and column. -/
def convAt (r : ℕ) (k : Fin 11264) : EReal :=
  conv3 (x3 (ix1 k)) (x2 (ix2 0 k)) (x2 (ix2 1 k)) (x2 (ix2 2 k)) (prevOf x1 2 r k) (prevOf x1 1 r k) (rowOf x1 r k)

/-- A gate's column and the column of the factor it goes with. -/
abbrev gcol (k : Fin 5632) : Fin 11264 := ⟨k.val, by omega⟩
abbrev ucol (k : Fin 5632) : Fin 11264 := ⟨5632 + k.val, by omega⟩

/-- The two gradients at a row. -/
def gateAt (r : ℕ) (k : Fin 5632) : EReal := gateGrad (rowOf x0 r k) (convAt x1 x2 x3 r (gcol k)) (convAt x1 x2 x3 r (ucol k))
def upAt (r : ℕ) (k : Fin 5632) : EReal := upGrad (rowOf x0 r k) (convAt x1 x2 x3 r (gcol k))

variable (r : Fin 4096) (k : Fin 11264) (j : Fin 5632)

theorem v1_at (q : Fin 4098) : val_main_v1 (F := Ideal) x1 (ix2 q k) = prevOf x1 2 q.val k := by
  unfold prevOf rowOf
  pointwise [val_main_v1, val_main_v0, val_main_cst]
  split
  · rfl
  · rw [dif_pos (by omega)]

theorem v21_at : val_main_v21 (F := Ideal) x1 (ix2 r k) = rowOf x1 r.val k := by
  pointwise [val_main_v21]
  rw [v1_at]
  show (if 2 + r.val < 2 then 0 else rowOf x1 (2 + r.val - 2) k) = _
  rw [if_neg (by omega), Nat.add_sub_cancel_left]

theorem v14_at : val_main_v14 (F := Ideal) x1 (ix2 r k) = prevOf x1 1 r.val k := by
  pointwise [val_main_v14]
  rw [v1_at]
  show (if 1 + r.val < 2 then 0 else rowOf x1 (1 + r.val - 2) k) = if r.val < 1 then 0 else rowOf x1 (r.val - 1) k
  by_cases h : r.val < 1
  · rw [if_pos h, if_pos (by omega)]
  · rw [if_neg h, if_neg (by omega), show 1 + r.val - 2 = r.val - 1 by omega]

theorem v5_at : val_main_v5 (F := Ideal) x1 (ix2 r k) = prevOf x1 2 r.val k := by
  pointwise [val_main_v5]
  rw [v1_at]

theorem v25_at : val_main_v25 (F := Ideal) x1 x2 x3 (ix2 r k) = convAt x1 x2 x3 r.val k := by
  pointwise [val_main_v25, val_main_v24, val_main_v23, val_main_v22, val_main_v20, val_main_v19, val_main_v18, val_main_v17,
    val_main_v16, val_main_v15, val_main_v13, val_main_v12, val_main_v11, val_main_v10, val_main_v9, val_main_v8, val_main_v7,
    val_main_v6, val_main_v4, val_main_v3]
  rw [v21_at, v14_at, v5_at]
  rfl

theorem v26_at : val_main_v26 (F := Ideal) x1 x2 x3 (ix2 r j) = convAt x1 x2 x3 r.val (gcol j) := by
  pointwise [val_main_v26]
  rw [v25_at]
theorem v27_at : val_main_v27 (F := Ideal) x1 x2 x3 (ix2 r j) = convAt x1 x2 x3 r.val (ucol j) := by
  pointwise [val_main_v27]
  rw [v25_at]

theorem v28_2_at : val_main_v28_2 (F := Ideal) x1 x2 x3 (ix2 r j) = logis (convAt x1 x2 x3 r.val (gcol j)) := by
  pointwise [val_main_v28_2, val_main_call0_v4, val_main_call0_v3, val_main_call0_v2, val_main_call0_v1, val_main_call0_v0, val_main_call0_cst,
    val_main_call0_cst_0]
  rw [v26_at]
  rfl

theorem v28_1_at : val_main_v28_1 (F := Ideal) x1 x2 x3 (ix2 r j)
    = logis (convAt x1 x2 x3 r.val (gcol j)) * (1 - logis (convAt x1 x2 x3 r.val (gcol j))) := by
  pointwise [val_main_v28_1, val_main_call0_v7, val_main_call0_v6, val_main_call0_cst_1]
  rw [v28_2_at]

theorem v28_0_at : val_main_v28_0 (F := Ideal) x1 x2 x3 (ix2 r j)
    = convAt x1 x2 x3 r.val (gcol j) * logis (convAt x1 x2 x3 r.val (gcol j)) := by
  pointwise [val_main_v28_0]
  rw [v28_2_at, v26_at]

/-! ## The two gradients -/

/-- Every element is a real number. -/
structure AllFinite : Prop where
  h0 : ∀ i, Finite (x0 i)
  h1 : ∀ i, Finite (x1 i)
  h2 : ∀ i, Finite (x2 i)
  h3 : ∀ i, Finite (x3 i)

variable {x0 x1 x2 x3}

theorem finite_row {n : ℕ} {x : Vec Ideal (⟨2, ![4096, n]⟩ : Shape) .f32} (h : ∀ i, Finite (x i)) (r : ℕ) (k : Fin n) :
    Finite (rowOf x r k) := by
  unfold rowOf; split; exacts [h _, finite_zero]
theorem finite_prev {n : ℕ} {x : Vec Ideal (⟨2, ![4096, n]⟩ : Shape) .f32} (h : ∀ i, Finite (x i)) (d r : ℕ) (k : Fin n) :
    Finite (prevOf x d r k) := by
  unfold prevOf; split; exacts [finite_zero, finite_row h _ _]
theorem AllFinite.conv (h : AllFinite x0 x1 x2 x3) (r : ℕ) (k : Fin 11264) : Finite (convAt x1 x2 x3 r k) :=
  finite_conv3 (h.h3 _) (h.h2 _) (h.h2 _) (h.h2 _) (finite_prev h.h1 _ _ _) (finite_prev h.h1 _ _ _) (finite_row h.h1 _ _)

theorem x0_at : x0 (ix2 r j) = rowOf x0 r.val j := by
  unfold rowOf; rw [dif_pos r.isLt]

theorem v32_at (h : AllFinite x0 x1 x2 x3) : val_main_v32 (F := Ideal) x0 x1 x2 x3 (ix2 r j) = gateAt x0 x1 x2 x3 r.val j := by
  pointwise [val_main_v32, val_main_call1_v2, val_main_call1_v1, val_main_call1_v0, val_main_v31]
  rw [v28_1_at, v28_2_at, v26_at, v27_at, x0_at (x0 := x0) r j]
  unfold gateAt
  obtain ⟨a, ha⟩ := finite_row h.h0 r.val j
  obtain ⟨g, hg⟩ := h.conv r.val (gcol j)
  obtain ⟨u, hu⟩ := h.conv r.val (ucol j)
  rw [ha, hg, hu, gateGrad_eq]

theorem v30_at (h : AllFinite x0 x1 x2 x3) : val_main_v30 (F := Ideal) x0 x1 x2 x3 (ix2 r j) = upAt x0 x1 x2 x3 r.val j := by
  pointwise [val_main_v30]
  rw [v28_0_at, x0_at (x0 := x0) r j]
  unfold upAt
  obtain ⟨a, ha⟩ := finite_row h.h0 r.val j
  obtain ⟨g, hg⟩ := h.conv r.val (gcol j)
  rw [ha, hg, upGrad_eq]

variable (x0 x1 x2 x3)

/-- The two gradients side by side. -/
def gradAt (r : ℕ) (k : Fin 11264) : EReal :=
  if h : k.val < 5632 then gateAt x0 x1 x2 x3 r ⟨k.val, h⟩ else upAt x0 x1 x2 x3 r ⟨k.val - 5632, by omega⟩

theorem grad_gcol (r : ℕ) : gradAt x0 x1 x2 x3 r (gcol j) = gateAt x0 x1 x2 x3 r j := dif_pos j.isLt
theorem grad_ucol (r : ℕ) : gradAt x0 x1 x2 x3 r (ucol j) = upAt x0 x1 x2 x3 r j := by
  unfold gradAt
  refine (dif_neg (show ¬ 5632 + j.val < 5632 by omega)).trans ?_
  exact congrArg _ (Fin.ext (Nat.add_sub_cancel_left 5632 j.val))

/-- A row of a gradient, zero past its end, and the convolution's transpose at a row. -/
def past {n : ℕ} (G : ℕ → Fin n → EReal) (r : ℕ) (k : Fin n) : EReal := if r < 4096 then G r k else 0
def backAt (G : ℕ → Fin 11264 → EReal) (r : ℕ) (k : Fin 11264) : EReal :=
  back3 (x2 (ix2 0 k)) (x2 (ix2 1 k)) (x2 (ix2 2 k)) (past G r k) (past G (r + 1) k) (past G (r + 2) k)

variable {x0 x1 x2 x3} (h : AllFinite x0 x1 x2 x3)
include h

theorem v33_at : val_main_v33 (F := Ideal) x0 x1 x2 x3 (ix2 r k) = gradAt x0 x1 x2 x3 r.val k := by
  unfold gradAt
  pointwise [val_main_v33]
  split
  · rw [v32_at _ _ h]
  · rw [v30_at _ _ h]

/-! ## The sums over the rows -/

theorem v39_at : val_main_v39 (F := Ideal) x0 x1 x2 x3 (ix1 k)
    = ∑ r ∈ Finset.range 4096, gradAt x0 x1 x2 x3 r k * rowOf x1 r k := by
  rw [← Fin.sum_univ_eq_sum_range (fun r => gradAt x0 x1 x2 x3 r k * rowOf x1 r k)]
  pointwise [val_main_v39, val_main_v38, val_main_v37, val_main_v36, val_main_cst_1, val_main_cst_2]
  try simp only [Finset.univ_unique, Finset.sum_singleton, Fin.sum_univ_one, zero_add]
  refine Finset.sum_congr rfl fun r _ => ?_
  rw [v33_at _ _ h, v21_at]
theorem v48_at : val_main_v48 (F := Ideal) x0 x1 x2 x3 (ix1 k)
    = ∑ r ∈ Finset.range 4096, gradAt x0 x1 x2 x3 r k * prevOf x1 1 r k := by
  rw [← Fin.sum_univ_eq_sum_range (fun r => gradAt x0 x1 x2 x3 r k * prevOf x1 1 r k)]
  pointwise [val_main_v48, val_main_v47, val_main_v46, val_main_v45, val_main_cst_5, val_main_cst_6]
  try simp only [Finset.univ_unique, Finset.sum_singleton, Fin.sum_univ_one, zero_add]
  refine Finset.sum_congr rfl fun r _ => ?_
  rw [v33_at _ _ h, v14_at]
theorem v62_at : val_main_v62 (F := Ideal) x0 x1 x2 x3 (ix1 k)
    = ∑ r ∈ Finset.range 4096, gradAt x0 x1 x2 x3 r k * prevOf x1 2 r k := by
  rw [← Fin.sum_univ_eq_sum_range (fun r => gradAt x0 x1 x2 x3 r k * prevOf x1 2 r k)]
  pointwise [val_main_v62, val_main_v61, val_main_v60, val_main_v59, val_main_cst_11, val_main_cst_12]
  try simp only [Finset.univ_unique, Finset.sum_singleton, Fin.sum_univ_one, zero_add]
  refine Finset.sum_congr rfl fun r _ => ?_
  rw [v33_at _ _ h, v5_at]
theorem v56_at : val_main_v56 (F := Ideal) x0 x1 x2 x3 (ix1 k) = ∑ r ∈ Finset.range 4096, gradAt x0 x1 x2 x3 r k := by
  rw [← Fin.sum_univ_eq_sum_range (fun r => gradAt x0 x1 x2 x3 r k)]
  pointwise [val_main_v56, val_main_v55, val_main_v54, val_main_cst_9, val_main_cst_10]
  try simp only [Finset.univ_unique, Finset.sum_singleton, Fin.sum_univ_one, zero_add]
  refine Finset.sum_congr rfl fun r _ => ?_
  rw [v33_at _ _ h]

/-- The taps' gradients: tap `i` against the rows `2 - i` before. -/
theorem v67_at (i : Fin 3) : val_main_v67 (F := Ideal) x0 x1 x2 x3 (ix2 i k)
    = ∑ r ∈ Finset.range 4096, gradAt x0 x1 x2 x3 r k * prevOf x1 (2 - i.val) r k := by
  have z : ∀ r k, prevOf x1 0 r k = rowOf x1 r k := fun r k => by simp [prevOf]
  pointwise [val_main_v67, val_main_v66, val_main_v65, val_main_v53, val_main_v52, val_main_v51, val_main_v42, val_main_v41,
    val_main_cst_4, val_main_cst_8, val_main_cst_14]
  rw [v39_at _ h, v48_at _ h, v62_at _ h]
  fin_vals i with hi <;> simp [hi, z]

/-! ## The convolution's transpose -/

theorem v69_at : val_main_v69 (F := Ideal) x0 x1 x2 x3 (ix2 r k) = backAt x2 (gradAt x0 x1 x2 x3) r.val k := by
  unfold backAt back3 past
  pointwise [val_main_v69, val_main_v64, val_main_v63, val_main_v50, val_main_v49, val_main_v40, val_main_v58, val_main_v57,
    val_main_v44, val_main_v43, val_main_v35, val_main_v34, val_main_cst_3, val_main_cst_7, val_main_cst_13,
    val_main_v22, val_main_v20, val_main_v19, val_main_v15, val_main_v13, val_main_v12, val_main_v6, val_main_v4, val_main_v3]
  rw [v33_at r k h]
  congr 1
  · congr 1
    by_cases h1 : r.val + 1 < 4096
    · rw [if_pos h1, dif_pos (by omega), v33_at _ _ h]
      exact congrArg (fun n => x2 (ix2 1 k) * gradAt x0 x1 x2 x3 n k) (show 2 + r.val - 1 = r.val + 1 by omega)
    · rw [if_neg h1, dif_neg (by omega), mul_zero]
  · by_cases h1 : r.val + 2 < 4096
    · rw [if_pos h1, dif_pos (by omega), v33_at _ _ h]
      exact congrArg (fun n => x2 (ix2 0 k) * gradAt x0 x1 x2 x3 n k) (show 2 + r.val = r.val + 2 by omega)
    · rw [if_neg h1, dif_neg (by omega), mul_zero]

/-! ## The results -/

theorem v75_at (p : Fin 2) : val_main_v75 (F := Ideal) x0 x1 x2 x3 (ix3 p r j)
    = if p.val = 0 then backAt x2 (gradAt x0 x1 x2 x3) r.val (gcol j) else backAt x2 (gradAt x0 x1 x2 x3) r.val (ucol j) := by
  pointwise [val_main_v75, val_main_v74, val_main_v73, val_main_v72, val_main_v71, val_main_v70]
  fin_vals p with hp <;> simp only [hp] <;> simp [v69_at _ _ h]
theorem v76_at (i : Fin 3) : val_main_v76 (F := Ideal) x0 x1 x2 x3 (ix2 i j)
    = ∑ r ∈ Finset.range 4096, gateAt x0 x1 x2 x3 r j * prevOf x1 (2 - i.val) r (gcol j) := by
  pointwise [val_main_v76]
  rw [v67_at _ h]
  exact Finset.sum_congr rfl fun r _ => by rw [grad_gcol]
theorem v77_at (i : Fin 3) : val_main_v77 (F := Ideal) x0 x1 x2 x3 (ix2 i j)
    = ∑ r ∈ Finset.range 4096, upAt x0 x1 x2 x3 r j * prevOf x1 (2 - i.val) r (ucol j) := by
  pointwise [val_main_v77]
  rw [v67_at _ h]
  exact Finset.sum_congr rfl fun r _ => by rw [grad_ucol]
theorem v79_at (i : Fin 1) : val_main_v79 (F := Ideal) x0 x1 x2 x3 (ix2 i j) = ∑ r ∈ Finset.range 4096, gateAt x0 x1 x2 x3 r j := by
  pointwise [val_main_v79, val_main_v78]
  rw [v56_at _ h]
  exact Finset.sum_congr rfl fun r _ => by rw [grad_gcol]
theorem v81_at (i : Fin 1) : val_main_v81 (F := Ideal) x0 x1 x2 x3 (ix2 i j) = ∑ r ∈ Finset.range 4096, upAt x0 x1 x2 x3 r j := by
  pointwise [val_main_v81, val_main_v80]
  rw [v56_at _ h]
  exact Finset.sum_congr rfl fun r _ => by rw [grad_ucol]

end Cert.ReferenceIdeal.Read

end
-- ==== Proof.Arrays.lean ====
module

public import proofs.«01_k».proof.Proof.Run
public import proofs.«01_k».proof.Proof.Ref
public import Idealize.ShloMosaic.Lib.Pipeline.ValueKit

/-!
The kernel's five results at an index: each is assembled from blocks of 256 columns, and a block's
columns read the same columns of the arguments.
-/

@[expose] public section

set_option maxRecDepth 16384

noncomputable section

namespace Cert.KernelIdeal.Gen

open Idealize.ShloMosaic Idealize.ShloMosaic.TcCoe Idealize.ShloMosaic.Tactic
open Idealize.SL Idealize.SL.Sem
open Cert.KernelIdeal.Gate
open Cert.ReferenceIdeal.Read (rowOf prevOf convAt gcol ucol gateAt upAt past backAt gradAt grad_gcol grad_ucol)

variable (m : (ℓ : Loc nD τ sig) → Buf (Elt Ideal) ℓ) (c : Dev nD) (t : Fin cfg0.N)

/-- The arguments. -/
abbrev a0 : Vec Ideal S4096x5632 .f32 := m ((c : Thread nD τ).loc main_arg0)
abbrev a1 : Vec Ideal S4096x11264 .f32 := m ((c : Thread nD τ).loc main_arg1)
abbrev a2 : Vec Ideal S3x11264 .f32 := m ((c : Thread nD τ).loc main_arg2)
abbrev a3 : Vec Ideal S11264 .f32 := m ((c : Thread nD τ).loc main_arg3)

/-- Each window's block at a point. -/
theorem index0 : ∀ t : Fin cfg0.N, win0_0.index t = ![0, t.val] ∧ win0_1.index t = ![0, t.val] ∧ win0_2.index t = ![0, t.val + 22]
    ∧ win0_3.index t = ![0, t.val] ∧ win0_4.index t = ![0, t.val + 22] ∧ win0_5.index t = ![0, t.val] ∧ win0_6.index t = ![0, t.val + 22]
    ∧ win0_7.index t = ![0, 0, t.val] ∧ win0_8.index t = ![0, t.val] ∧ win0_9.index t = ![0, t.val]
    ∧ win0_10.index t = ![0, t.val] ∧ win0_11.index t = ![0, t.val] := by decide +kernel

/-- A column of a block in its array. -/
theorem t_lt : t.val < 22 := t.isLt
abbrev jc (l : Fin 256) : Fin 5632 := ⟨t.val * 256 + l.val, by have := t_lt t; omega⟩

theorem blk0 (r : Fin 4096) (l : Fin 256) : iblk m c 0 t (ix2 r l) = a0 m c (ix2 r (jc t l)) := by
  blk_ext! [iblk, V, (index0 t).1]
theorem blk1 (r : Fin 4096) (l : Fin 256) : iblk m c 1 t (ix2 r l) = a1 m c (ix2 r (gcol (jc t l))) := by
  blk_ext! [iblk, V, (index0 t).2.1]
theorem blk2 (r : Fin 4096) (l : Fin 256) : iblk m c 2 t (ix2 r l) = a1 m c (ix2 r (ucol (jc t l))) := by
  blk_ext! [iblk, V, (index0 t).2.2.1]
theorem blk3 (i : Fin 3) (l : Fin 256) : iblk m c 3 t (ix2 i l) = a2 m c (ix2 i (gcol (jc t l))) := by
  blk_ext! [iblk, V, (index0 t).2.2.2.1]
theorem blk4 (i : Fin 3) (l : Fin 256) : iblk m c 4 t (ix2 i l) = a2 m c (ix2 i (ucol (jc t l))) := by
  blk_ext! [iblk, V, (index0 t).2.2.2.2.1]
theorem blk5 (l : Fin 256) : iblk m c 5 t (ix2 (0 : Fin 1) l) = a3 m c (ix1 (gcol (jc t l))) := by
  blk_ext! [iblk, V, (index0 t).2.2.2.2.2.1]
theorem blk6 (l : Fin 256) : iblk m c 6 t (ix2 (0 : Fin 1) l) = a3 m c (ix1 (ucol (jc t l))) := by
  blk_ext! [iblk, V, (index0 t).2.2.2.2.2.2.1]

theorem row0 (r : ℕ) (l : Fin 256) : row (iblk m c 0 t) r l = rowOf (a0 m c) r (jc t l) := by
  unfold row rowOf; split
  · exact blk0 m c t _ l
  · rfl
theorem row1 (r : ℕ) (l : Fin 256) : row (iblk m c 1 t) r l = rowOf (a1 m c) r (gcol (jc t l)) := by
  unfold row rowOf; split
  · exact blk1 m c t _ l
  · rfl
theorem row2 (r : ℕ) (l : Fin 256) : row (iblk m c 2 t) r l = rowOf (a1 m c) r (ucol (jc t l)) := by
  unfold row rowOf; split
  · exact blk2 m c t _ l
  · rfl
theorem prev1 (d r : ℕ) (l : Fin 256) : prev (iblk m c 1 t) d r l = prevOf (a1 m c) d r (gcol (jc t l)) := by
  unfold prev prevOf; rw [row1]
theorem prev2 (d r : ℕ) (l : Fin 256) : prev (iblk m c 2 t) d r l = prevOf (a1 m c) d r (ucol (jc t l)) := by
  unfold prev prevOf; rw [row2]

theorem convG (r : ℕ) (l : Fin 256) :
    conv (iblk m c 1 t) (iblk m c 3 t) (iblk m c 5 t) r l = convAt (a1 m c) (a2 m c) (a3 m c) r (gcol (jc t l)) := by
  unfold conv convAt
  rw [blk3 m c t, blk3 m c t, blk3 m c t, blk5 m c t, prev1, prev1, row1]
theorem convU (r : ℕ) (l : Fin 256) :
    conv (iblk m c 2 t) (iblk m c 4 t) (iblk m c 6 t) r l = convAt (a1 m c) (a2 m c) (a3 m c) r (ucol (jc t l)) := by
  unfold conv convAt
  rw [blk4 m c t, blk4 m c t, blk4 m c t, blk6 m c t, prev2, prev2, row2]

theorem dG_at (r : ℕ) (l : Fin 256) : dG m c t r l = gateAt (a0 m c) (a1 m c) (a2 m c) (a3 m c) r (jc t l) := by
  unfold dG dGate gateAt
  rw [row0, convG, convU]
theorem dU_at (r : ℕ) (l : Fin 256) : dU m c t r l = upAt (a0 m c) (a1 m c) (a2 m c) (a3 m c) r (jc t l) := by
  unfold dU dUp upAt
  rw [row0, convG]

/-- The gradient's columns side by side, over the kernel's arguments. -/
abbrev grad : ℕ → Fin 11264 → EReal := gradAt (a0 m c) (a1 m c) (a2 m c) (a3 m c)

theorem rowG (r : ℕ) (l : Fin 256) : row (mat (dG m c t)) r l = past (grad m c) r (gcol (jc t l)) := by
  unfold row past
  split
  · exact (dG_at m c t r l).trans (grad_gcol _ _ _ _ _ r).symm
  · rfl
theorem rowU (r : ℕ) (l : Fin 256) : row (mat (dU m c t)) r l = past (grad m c) r (ucol (jc t l)) := by
  unfold row past
  split
  · exact (dU_at m c t r l).trans (grad_ucol _ _ _ _ _ r).symm
  · rfl

theorem backG (r : ℕ) (l : Fin 256) :
    back (mat (dG m c t)) (iblk m c 3 t) r l = backAt (a2 m c) (grad m c) r (gcol (jc t l)) := by
  unfold back backAt
  rw [rowG, rowG, rowG, blk3 m c t, blk3 m c t, blk3 m c t]
theorem backU (r : ℕ) (l : Fin 256) :
    back (mat (dU m c t)) (iblk m c 4 t) r l = backAt (a2 m c) (grad m c) r (ucol (jc t l)) := by
  unfold back backAt
  rw [rowU, rowU, rowU, blk4 m c t, blk4 m c t, blk4 m c t]

/-! ## The results -/

/-- The five results. -/
def res7 : Vec Ideal S2x4096x5632 .bf16 := fun y =>
  if (y 0).val = 0 then backAt (a2 m c) (grad m c) (y 1).val (gcol (y 2)) else backAt (a2 m c) (grad m c) (y 1).val (ucol (y 2))
def res8 : Vec Ideal S3x5632 .f32 := fun y =>
  ∑ r ∈ Finset.range 4096, gateAt (a0 m c) (a1 m c) (a2 m c) (a3 m c) r (y 1) * prevOf (a1 m c) (2 - (y 0).val) r (gcol (y 1))
def res9 : Vec Ideal S3x5632 .f32 := fun y =>
  ∑ r ∈ Finset.range 4096, upAt (a0 m c) (a1 m c) (a2 m c) (a3 m c) r (y 1) * prevOf (a1 m c) (2 - (y 0).val) r (ucol (y 1))
def res10 : Vec Ideal S1x5632 .f32 := fun y => ∑ r ∈ Finset.range 4096, gateAt (a0 m c) (a1 m c) (a2 m c) (a3 m c) r (y 1)
def res11 : Vec Ideal S1x5632 .f32 := fun y => ∑ r ∈ Finset.range 4096, upAt (a0 m c) (a1 m c) (a2 m c) (a3 m c) r (y 1)

theorem out7_at (p : Fin 2) (r : Fin 4096) (l : Fin 256) : out7 m c t (ix3 p r l) = res7 m c (ix3 p r (jc t l)) := by
  show (if p.val = 0 then back (mat (dG m c t)) (iblk m c 3 t) r.val l else back (mat (dU m c t)) (iblk m c 4 t) r.val l) = _
  rw [backG, backU]; rfl
theorem out8_at (i : Fin 3) (l : Fin 256) : out8 m c t (ix2 i l) = res8 m c (ix2 i (jc t l)) := by
  unfold out8 tapsOf tapSum res8
  exact Finset.sum_congr rfl fun r _ => congrArg₂ (· * ·) (dG_at m c t r l) (prev1 m c t _ r l)
theorem out9_at (i : Fin 3) (l : Fin 256) : out9 m c t (ix2 i l) = res9 m c (ix2 i (jc t l)) := by
  unfold out9 tapsOf tapSum res9
  exact Finset.sum_congr rfl fun r _ => congrArg₂ (· * ·) (dU_at m c t r l) (prev2 m c t _ r l)
theorem out10_at (i : Fin 1) (l : Fin 256) : out10 m c t (ix2 i l) = res10 m c (ix2 i (jc t l)) := by
  unfold out10 sumOf colSum res10
  exact Finset.sum_congr rfl fun r _ => dG_at m c t r l
theorem out11_at (i : Fin 1) (l : Fin 256) : out11 m c t (ix2 i l) = res11 m c (ix2 i (jc t l)) := by
  unfold out11 sumOf colSum res11
  exact Finset.sum_congr rfl fun r _ => dU_at m c t r l

theorem arr7 : (dats m 0 c).arrAt 7 (cfgs 0).N = res7 m c := by
  refine (dats m 0 c).arrAt_eq_of_covers 7 _ (by decide +kernel) fun t hf y => ?_
  blk_simp
  rw [after7]
  idx_vars y
  refine (out7_at m c t _ _ _).trans (congrArg (res7 m c) ?_)
  blk_ext! [(index0 t).2.2.2.2.2.2.2.1]
theorem arr8 : (dats m 0 c).arrAt 8 (cfgs 0).N = res8 m c := by
  refine (dats m 0 c).arrAt_eq_of_covers 8 _ (by decide +kernel) fun t hf y => ?_
  blk_simp
  rw [after8]
  idx_vars y
  refine (out8_at m c t _ _).trans (congrArg (res8 m c) ?_)
  blk_ext! [(index0 t).2.2.2.2.2.2.2.2.1]
theorem arr9 : (dats m 0 c).arrAt 9 (cfgs 0).N = res9 m c := by
  refine (dats m 0 c).arrAt_eq_of_covers 9 _ (by decide +kernel) fun t hf y => ?_
  blk_simp
  rw [after9]
  idx_vars y
  refine (out9_at m c t _ _).trans (congrArg (res9 m c) ?_)
  blk_ext! [(index0 t).2.2.2.2.2.2.2.2.2.1]
theorem arr10 : (dats m 0 c).arrAt 10 (cfgs 0).N = res10 m c := by
  refine (dats m 0 c).arrAt_eq_of_covers 10 _ (by decide +kernel) fun t hf y => ?_
  blk_simp
  rw [after10]
  idx_vars y
  refine (out10_at m c t _ _).trans (congrArg (res10 m c) ?_)
  blk_ext! [(index0 t).2.2.2.2.2.2.2.2.2.2.1]
theorem arr11 : (dats m 0 c).arrAt 11 (cfgs 0).N = res11 m c := by
  refine (dats m 0 c).arrAt_eq_of_covers 11 _ (by decide +kernel) fun t hf y => ?_
  blk_simp
  rw [after11]
  idx_vars y
  refine (out11_at m c t _ _).trans (congrArg (res11 m c) ?_)
  blk_ext! [(index0 t).2.2.2.2.2.2.2.2.2.2.2]

end Cert.KernelIdeal.Gen

end
-- ==== Proof.Product.lean ====
module

public import Idealize.ShloMosaic.Lib.Pointwise

/-!
The three products a projection takes, over the extended reals, at any sizes: rows against columns, rows against
rows, columns against columns. A block of such a product reads only its own rows and columns of the factors, so
a product assembled from blocks is the whole one once the blocks are known to be placed where they belong.
-/

@[expose] public section

noncomputable section

namespace Cert.Product

open Idealize.ShloMosaic

variable {M K N : ℕ}

/-- A matrix of extended reals. -/
abbrev Mat (a b : ℕ) : Type := (⟨2, ![a, b]⟩ : Shape).Idx → EReal

/-- `a b`: entry (r, l) is row r of a against column l of b. -/
def rowsCols (a : Mat M K) (b : Mat K N) : Mat M N := fun y => ∑ k : Fin K, a (ix2 (y 0) k) * b (ix2 k (y 1))
/-- `a bᵀ`: row r of a against row l of b. -/
def rowsRows (a : Mat M K) (b : Mat N K) : Mat M N := fun y => ∑ k : Fin K, a (ix2 (y 0) k) * b (ix2 (y 1) k)
/-- `aᵀ b`: column r of a against column l of b. -/
def colsCols (a : Mat K M) (b : Mat K N) : Mat M N := fun y => ∑ k : Fin K, a (ix2 k (y 0)) * b (ix2 k (y 1))

theorem rowsCols_at (a : Mat M K) (b : Mat K N) (r : Fin M) (l : Fin N) :
    rowsCols a b (ix2 r l) = ∑ k : Fin K, a (ix2 r k) * b (ix2 k l) := rfl
theorem rowsRows_at (a : Mat M K) (b : Mat N K) (r : Fin M) (l : Fin N) :
    rowsRows a b (ix2 r l) = ∑ k : Fin K, a (ix2 r k) * b (ix2 l k) := rfl
theorem colsCols_at (a : Mat K M) (b : Mat K N) (r : Fin M) (l : Fin N) :
    colsCols a b (ix2 r l) = ∑ k : Fin K, a (ix2 k r) * b (ix2 k l) := rfl

/-- A block of `a b` whose factors' blocks sit at rows `f` of a and columns `g` of b. -/
theorem rowsCols_block {m n : ℕ} {a : Mat M K} {b : Mat K N} {a' : Mat m K} {b' : Mat K n} {f : Fin m → Fin M} {g : Fin n → Fin N}
    (ha : ∀ r k, a' (ix2 r k) = a (ix2 (f r) k)) (hb : ∀ k l, b' (ix2 k l) = b (ix2 k (g l))) (r : Fin m) (l : Fin n) :
    rowsCols a' b' (ix2 r l) = rowsCols a b (ix2 (f r) (g l)) :=
  Finset.sum_congr rfl fun k _ => congrArg₂ (· * ·) (ha r k) (hb k l)
/-- A block of `a bᵀ`, at rows `f` of a and `g` of b. -/
theorem rowsRows_block {m n : ℕ} {a : Mat M K} {b : Mat N K} {a' : Mat m K} {b' : Mat n K} {f : Fin m → Fin M} {g : Fin n → Fin N}
    (ha : ∀ r k, a' (ix2 r k) = a (ix2 (f r) k)) (hb : ∀ l k, b' (ix2 l k) = b (ix2 (g l) k)) (r : Fin m) (l : Fin n) :
    rowsRows a' b' (ix2 r l) = rowsRows a b (ix2 (f r) (g l)) :=
  Finset.sum_congr rfl fun k _ => congrArg₂ (· * ·) (ha r k) (hb l k)
/-- A block of `aᵀ b`, at columns `f` of a and `g` of b. -/
theorem colsCols_block {m n : ℕ} {a : Mat K M} {b : Mat K N} {a' : Mat K m} {b' : Mat K n} {f : Fin m → Fin M} {g : Fin n → Fin N}
    (ha : ∀ k r, a' (ix2 k r) = a (ix2 k (f r))) (hb : ∀ k l, b' (ix2 k l) = b (ix2 k (g l))) (r : Fin m) (l : Fin n) :
    colsCols a' b' (ix2 r l) = colsCols a b (ix2 (f r) (g l)) :=
  Finset.sum_congr rfl fun k _ => congrArg₂ (· * ·) (ha k r) (hb k l)

/-- Entry (r, j) of two halves handed over one after the other and set side by side. -/
def besideAt {R C : ℕ} (x : (⟨3, ![2, R, C]⟩ : Shape).Idx → EReal) (r : Fin R) (j : Fin (2 * C)) : EReal :=
  x (ix3 ⟨j.val / C, Nat.div_lt_of_lt_mul (Nat.lt_of_lt_of_eq j.isLt (Nat.mul_comm 2 C))⟩ r
    ⟨j.val % C, Nat.mod_lt _ (by have := j.isLt; omega)⟩)
/-- The two halves side by side. -/
def beside {R C : ℕ} (x : (⟨3, ![2, R, C]⟩ : Shape).Idx → EReal) : Mat R (2 * C) := fun y => besideAt x (y 0) (y 1)

theorem beside_at {R C : ℕ} (x : (⟨3, ![2, R, C]⟩ : Shape).Idx → EReal) (p : Fin 2) (r : Fin R) (q : Fin C) (j : Fin (2 * C))
    (h : j.val = p.val * C + q.val) : beside x (ix2 r j) = x (ix3 p r q) := by
  have hC : 0 < C := Nat.lt_of_le_of_lt (Nat.zero_le _) q.isLt
  have h1 : j.val / C = p.val := by
    rw [h, Nat.add_comm, Nat.add_mul_div_right _ _ hC, Nat.div_eq_of_lt q.isLt, Nat.zero_add]
  have h2 : j.val % C = q.val := by rw [h, Nat.add_comm, Nat.add_mul_mod_self_right, Nat.mod_eq_of_lt q.isLt]
  exact congrArg x (congrArg₂ (fun a b => ix3 a r b) (Fin.ext h1) (Fin.ext h2))

/-- A sum over `S * K` positions taken `K` at a time. -/
theorem sum_steps {S K : ℕ} (f : Fin (S * K) → EReal) (g : Fin S → Fin K → EReal)
    (h : ∀ (s : Fin S) (k : Fin K) (i : Fin (S * K)), i.val = s.val * K + k.val → f i = g s k) :
    ∑ i : Fin (S * K), f i = ∑ s : Fin S, ∑ k : Fin K, g s k := by
  rw [← Fintype.sum_prod_type', ← finProdFinEquiv.sum_comp]
  exact Finset.sum_congr rfl fun p _ => h p.1 p.2 _ (by simp [finProdFinEquiv, Nat.mul_comm, Nat.add_comm])

/-- What is added up point by point: the last point holds the sum of all points' parts. -/
theorem sum_points {S : ℕ} (o p : Fin S → EReal) (h0 : ∀ s, s.val = 0 → o s = p s)
    (hs : ∀ s s' : Fin S, s.val = s'.val + 1 → o s = o s' + p s) (s : Fin S) (hl : s.val + 1 = S) : o s = ∑ i, p i := by
  have h : ∀ (n : ℕ) (hn : n < S), o ⟨n, hn⟩ = ∑ i : Fin (n + 1), p ⟨i.val, by omega⟩ := by
    intro n
    induction n with
    | zero => intro hn; rw [h0 _ rfl, Fin.sum_univ_one]; rfl
    | succ n ih =>
      intro hn
      rw [hs ⟨n + 1, hn⟩ ⟨n, by omega⟩ rfl, ih (by omega), Fin.sum_univ_castSucc (n := n + 1)]
      rfl
  obtain ⟨n, hn⟩ := s
  dsimp only at hl
  subst hl
  exact h n hn

end Cert.Product

end
-- ==== Proof.Norm.lean ====
module

public import Idealize.ShloMosaic.Lib.Pointwise
public import proofs.«01_k».proof.Proof.Product

/-!
A row's root-mean-square norm and its gradient, over the extended reals. The kernel writes the gradient with the cube
of the root, the reference with the root divided by the mean square, halved and taken twice. They agree on every row,
finite or not: the mean square is a positive real number or infinite, and then the root is zero.
-/

@[expose] public section

noncomputable section

namespace Cert.Norm

open Idealize.ShloMosaic Cert.Product

variable {N : ℕ}

/-- The mean of a row's squares, a small constant added, and its inverse root. `w` is the row's length. -/
def meanSq (w e : EReal) (x : Fin N → EReal) : EReal := Ideal.div (∑ k, x k * x k) w + e
def root (w e : EReal) (x : Fin N → EReal) : EReal := Ideal.rsqrt (meanSq w e x)

/-- The gradient in a row, as the kernel writes it: `d` is the incoming gradient times the gain. -/
def back (w e : EReal) (d x : Fin N → EReal) (j : Fin N) : EReal :=
  root w e x * d j - x j * (root w e x * root w e x * root w e x * Ideal.div (∑ k, d k * x k) w)

/-- What the mean square hands back to an entry, as the reference writes it. `h` is minus one half. -/
def share (w e h : EReal) (d x : Fin N → EReal) : EReal :=
  Ideal.div ((∑ k, x k * d k) * (h * Ideal.div (root w e x) (meanSq w e x))) w

theorem sq_nonneg (x : EReal) : 0 ≤ x * x := by
  induction x using EReal.rec with
  | bot => simp
  | top => simp
  | coe r => rw [← EReal.coe_mul]; exact_mod_cast mul_self_nonneg r

/-- The mean square is a positive real number or infinite. -/
theorem meanSq_cases {w e : ℝ} (hw : 0 < w) (he : 0 < e) (x : Fin N → EReal) :
    meanSq (w : EReal) (e : EReal) x = ⊤ ∨ ∃ v : ℝ, 0 < v ∧ meanSq (w : EReal) (e : EReal) x = (v : EReal) := by
  have h : 0 ≤ ∑ k, x k * x k := Finset.sum_nonneg fun k _ => sq_nonneg (x k)
  unfold meanSq
  rw [Ideal.div_coe hw.ne']
  generalize ∑ k, x k * x k = s at h
  induction s using EReal.rec with
  | bot => simp at h
  | top =>
    left
    rw [EReal.top_mul_coe_of_pos (by positivity), EReal.top_add_coe]
  | coe r =>
    right
    have hr : 0 ≤ r := by exact_mod_cast h
    exact ⟨r * (1 / w) + e, by positivity, by norm_cast⟩

theorem halves (s : EReal) (q : ℝ) (hq : 0 < q) :
    s * ((-(q / 2) : ℝ) : EReal) + s * ((-(q / 2) : ℝ) : EReal) = -(s * (q : EReal)) := by
  have hn : -(q / 2) < 0 := by linarith
  induction s using EReal.rec with
  | bot => rw [EReal.bot_mul_coe_of_neg hn, EReal.bot_mul_coe_of_pos hq]; rfl
  | top => rw [EReal.top_mul_coe_of_neg hn, EReal.top_mul_coe_of_pos hq]; rfl
  | coe r => norm_cast; ring

/-- Both ways of writing the gradient give the same. -/
theorem back_eq {w e h : ℝ} (hw : 0 < w) (he : 0 < e) (hh : h = -(1 / 2)) (d x : Fin N → EReal) (j : Fin N) :
    back (w : EReal) (e : EReal) d x j
      = d j * root (w : EReal) (e : EReal) x + x j * share (w : EReal) (e : EReal) (h : EReal) d x
        + share (w : EReal) (e : EReal) (h : EReal) d x * x j := by
  unfold back share root
  rw [add_assoc, mul_comm (d j), sub_eq_add_neg]
  refine congrArg₂ (· + ·) rfl ?_
  rw [show (∑ k, d k * x k) = ∑ k, x k * d k from Finset.sum_congr rfl fun k _ => mul_comm _ _]
  generalize (∑ k, x k * d k) = s
  rw [Ideal.div_coe hw.ne', Ideal.div_coe hw.ne']
  rcases meanSq_cases hw he x with hv | ⟨v, h0, hv⟩
  · rw [hv]
    simp [Ideal.div]
  · have hr : Ideal.rsqrt (v : EReal) = (((Real.sqrt v)⁻¹ : ℝ) : EReal) := by
      rw [Ideal.rsqrt_coe, if_neg (not_lt.mpr h0.le), if_neg h0.ne']
    rw [hv, hr, Ideal.div_coe h0.ne']
    have hs : 0 < Real.sqrt v := Real.sqrt_pos.mpr h0
    have hq : 0 < (Real.sqrt v)⁻¹ * (Real.sqrt v)⁻¹ * (Real.sqrt v)⁻¹ * (1 / w) := by positivity
    have e1 : s * ((h : EReal) * (((Real.sqrt v)⁻¹ : ℝ) * ((1 / v : ℝ) : EReal))) * ((1 / w : ℝ) : EReal)
        = s * ((-((Real.sqrt v)⁻¹ * (Real.sqrt v)⁻¹ * (Real.sqrt v)⁻¹ * (1 / w) / 2) : ℝ) : EReal) := by
      rw [mul_assoc]
      refine congrArg (s * ·) ?_
      norm_cast
      have : v = Real.sqrt v * Real.sqrt v := (Real.mul_self_sqrt h0.le).symm
      rw [hh]
      generalize Real.sqrt v = a at *
      subst this
      field_simp
    have e2 : (((Real.sqrt v)⁻¹ : ℝ) : EReal) * ((Real.sqrt v)⁻¹ : ℝ) * ((Real.sqrt v)⁻¹ : ℝ) * (s * ((1 / w : ℝ) : EReal))
        = s * (((Real.sqrt v)⁻¹ * (Real.sqrt v)⁻¹ * (Real.sqrt v)⁻¹ * (1 / w) : ℝ) : EReal) := by
      rw [mul_left_comm]
      refine congrArg (s * ·) ?_
      norm_cast
    rw [e1, e2, mul_comm (_ * _) (x j), ← mul_assoc, ← mul_assoc]
    exact (halves (x j * s) _ hq).symm

/-! ## Whole arrays -/

variable {R : ℕ}

/-- The norm of every row: each entry times its row's root and its column's gain. -/
def normed (w e : EReal) (x : Mat R N) (g : Fin N → EReal) : Mat R N :=
  fun y => x (ix2 (y 0) (y 1)) * root w e (fun k => x (ix2 (y 0) k)) * g (y 1)

/-- The gradient of every row, from the incoming gradient and the gain. -/
def backAll (w e : EReal) (d x : Mat R N) (g : Fin N → EReal) : Mat R N :=
  fun y => back w e (fun k => d (ix2 (y 0) k) * g k) (fun k => x (ix2 (y 0) k)) (y 1)

/-- The gain's gradient: a row's term, and the sum over the rows. -/
def gainTerm (w e : EReal) (d x : Mat R N) (l : Fin N) (r : Fin R) : EReal :=
  d (ix2 r l) * (x (ix2 r l) * root w e (fun k => x (ix2 r k)))
def gain (w e : EReal) (d x : Mat R N) (l : Fin N) : EReal := ∑ r, gainTerm w e d x l r

section Blocks

variable {M : ℕ} {d x : Mat R N} {d' x' : Mat M N} {g g' : Fin N → EReal} {f : Fin M → Fin R}

theorem normed_block (w e : EReal) (hx : ∀ r k, x' (ix2 r k) = x (ix2 (f r) k)) (hg : ∀ k, g' k = g k) (r : Fin M) (l : Fin N) :
    normed w e x' g' (ix2 r l) = normed w e x g (ix2 (f r) l) :=
  congrArg₂ (· * ·) (congrArg₂ (· * ·) (hx r l) (congrArg (root w e) (funext (hx r)))) (hg l)

theorem backAll_block (w e : EReal) (hd : ∀ r k, d' (ix2 r k) = d (ix2 (f r) k)) (hx : ∀ r k, x' (ix2 r k) = x (ix2 (f r) k))
    (hg : ∀ k, g' k = g k) (r : Fin M) (l : Fin N) : backAll w e d' x' g' (ix2 r l) = backAll w e d x g (ix2 (f r) l) :=
  congrArg₂ (fun a b => back w e a b l) (funext fun k => congrArg₂ (· * ·) (hd r k) (hg k)) (funext (hx r))

theorem gainTerm_block (w e : EReal) (hd : ∀ r k, d' (ix2 r k) = d (ix2 (f r) k)) (hx : ∀ r k, x' (ix2 r k) = x (ix2 (f r) k))
    (l : Fin N) (r : Fin M) : gainTerm w e d' x' l r = gainTerm w e d x l (f r) :=
  congrArg₂ (· * ·) (hd r l) (congrArg₂ (· * ·) (hx r l) (congrArg (root w e) (funext (hx r))))

end Blocks

/-! ## The constants -/

theorem eps_eq : ∃ e : ℝ, 0 < e ∧ Ideal.ofBits .f32 0x358637BD#32 = (e : EReal) := by
  refine ⟨_, ?_, by simp [Ideal.ofBits, Ideal.ieee]; rfl⟩
  positivity
theorem half_eq : Ideal.ofBits .f32 0xBF000000#32 = ((-(1 / 2) : ℝ) : EReal) := by
  simp [Ideal.ofBits, Ideal.ieee]
  norm_cast
  norm_num
theorem w512 : Ideal.ofBits .f32 0x44000000#32 = ((512 : ℝ) : EReal) := by
  simp [Ideal.ofBits, Ideal.ieee]
  norm_cast
  norm_num
theorem w1024 : Ideal.ofBits .f32 0x44800000#32 = ((1024 : ℝ) : EReal) := by
  simp [Ideal.ofBits, Ideal.ieee]
  norm_cast
  norm_num
theorem half : Ideal.ofBits .f32 0x3F000000#32 = ((1 / 2 : ℝ) : EReal) := by
  simp [Ideal.ofBits, Ideal.ieee]
  norm_cast
  norm_num
theorem one : Ideal.ofBits .f32 0x3F800000#32 = ((1 : ℝ) : EReal) := by
  simp [Ideal.ofBits, Ideal.ieee]
  norm_cast
  norm_num
theorem two : Ideal.ofBits .f32 0x40000000#32 = ((2 : ℝ) : EReal) := by
  simp [Ideal.ofBits, Ideal.ieee]
  norm_cast
  norm_num
theorem w2048 : Ideal.ofBits .f32 0x45000000#32 = ((2048 : ℝ) : EReal) := by
  simp [Ideal.ofBits, Ideal.ieee]
  norm_cast
  norm_num

end Cert.Norm

end
-- ==== Proof.NormBwd.lean ====
module

public import proofs.«01_k».proof.Defs
public import proofs.«01_k».proof.Proof.Norm
public import proofs.«01_k».proof.Proof.Gen.KernelNormBwd.Frame
public import proofs.«01_k».proof.Proof.Gen.KernelNormBwdIdeal.Frame
public import proofs.«01_k».proof.Proof.Gen.KernelNormBwdIdeal.Value
public import proofs.«01_k».proof.Proof.Gen.ReferenceNormBwdIdeal.Read
public import proofs.«01_k».proof.Proof.Gen.ReferenceNormBwdIdeal.Run
public import Idealize.ShloMosaic.Lib.Pipeline.ValueKit
public import Idealize.ShloMosaic.Lib.Quiescent
public import Idealize.ShloMosaic.Lib.Tactic

/-!
The gradient of a layer's norm, added to the stream's.
-/

@[expose] public section

set_option maxRecDepth 16384

noncomputable section

namespace Cert.NormBwd

open Idealize.ShloMosaic Idealize.ShloMosaic.TcCoe Idealize.ShloMosaic.Tactic Idealize.SL.Sem
open Cert.KernelNormBwdIdeal Cert.KernelNormBwdIdeal.Gen Cert.Product Cert.Norm

variable (m : (ℓ : Loc nD τ sig) → Buf (Elt Ideal) ℓ) (c : Dev nD) (t : Fin cfg0.N)

/-- The arguments, and the blocks of them a point reads. -/
abbrev a0 : Vec Ideal S4096x2048 .f32 := m ((c : Thread nD τ).loc main_arg0)
abbrev a1 : Vec Ideal S4096x2048 .f32 := m ((c : Thread nD τ).loc main_arg1)
abbrev a2 : Vec Ideal S2048 .f32 := m ((c : Thread nD τ).loc main_arg2)
abbrev a3 : Vec Ideal S4096x2048 .f32 := m ((c : Thread nD τ).loc main_arg3)
abbrev b0 : Vec Ideal S512x2048 .f32 := iblk m c 0 t
abbrev b1 : Vec Ideal S512x2048 .f32 := iblk m c 1 t
abbrev b2 : Vec Ideal S1x2048 .f32 := iblk m c 2 t
abbrev b3 : Vec Ideal S512x2048 .f32 := iblk m c 3 t

/-- A row's length and the small constant, as the kernel has them. -/
abbrev W : EReal := Ideal.ofBits .f32 0x45000000#32
abbrev E : EReal := Ideal.ofBits .f32 0x358637BD#32

theorem root_at (x : Vec Ideal S512x2048 .f32) (r : Fin 512) : k0_pay3 x (ix2 r 0) = root W E (fun k => x (ix2 r k)) := by
  pointwise [k0_pay3]
  rfl

theorem pay4_at (x dh : Vec Ideal S512x2048 .f32) (g : Vec Ideal S1x2048 .f32) (s : Vec Ideal S512x2048 .f32) (r : Fin 512) (l : Fin 2048) :
    k0_pay4 x dh g s (ix2 r l) = s (ix2 r l) + backAll W E dh x (fun k => g (ix2 0 k)) (ix2 r l) := by
  pointwise [k0_pay4]
  rw [root_at]
  rfl

theorem pay1_at (x dh : Vec Ideal S512x2048 .f32) (v : Vec Ideal S1x2048 .f32) (l : Fin 2048) :
    k0_pay1 x dh (k0_pay3 x) v (ix2 0 l) = v (ix2 0 l) + gain W E dh x l := by
  pointwise [k0_pay1]
  simp only [root_at]
  rfl

/-- What a point leaves: the gradient of its rows, the same rounded, and its rows' part of the gain's gradient, on
    top of what the point before left. -/
theorem dx_at (r : Fin 512) (l : Fin 2048) :
    (outsAt0 m c t.val t.isLt).1 (ix2 r l) = b3 m c t (ix2 r l) + backAll W E (b0 m c t) (b1 m c t) (fun k => b2 m c t (ix2 0 k)) (ix2 r l) := by
  by_cases h : t.val % 8 = 0
  · rw [outsAt0_A m c t h]
    frame_out
    exact pay4_at _ _ _ _ r l
  · rw [outsAt0_B m c t h]
    frame_out
    exact pay4_at _ _ _ _ r l
theorem dxb_at (r : Fin 512) (l : Fin 2048) :
    (outsAt0 m c t.val t.isLt).2.1 (ix2 r l) = b3 m c t (ix2 r l) + backAll W E (b0 m c t) (b1 m c t) (fun k => b2 m c t (ix2 0 k)) (ix2 r l) := by
  by_cases h : t.val % 8 = 0
  · rw [outsAt0_A m c t h]
    frame_out
    exact pay4_at _ _ _ _ r l
  · rw [outsAt0_B m c t h]
    frame_out
    exact pay4_at _ _ _ _ r l
theorem dg_first (h : t.val % 8 = 0) (l : Fin 2048) : (outsAt0 m c t.val t.isLt).2.2 (ix2 0 l) = gain W E (b0 m c t) (b1 m c t) l := by
  rw [outsAt0_A m c t h]
  frame_out
  refine (pay1_at _ _ _ l).trans ?_
  pointwise [k0_pay2]
theorem dg_next (h : ¬t.val % 8 = 0) (l : Fin 2048) : (outsAt0 m c t.val t.isLt).2.2 (ix2 0 l)
    = (outsAt0 m c (t.val - 1) (Nat.lt_of_le_of_lt (Nat.sub_le _ _) t.isLt)).2.2 (ix2 0 l) + gain W E (b0 m c t) (b1 m c t) l := by
  rw [outsAt0_B m c t h]
  frame_out
  exact pay1_at _ _ _ l

/-- Each window's block at a point. -/
theorem index0 : ∀ t : Fin cfg0.N, (win0_0.index t = ![t.val, 0] ∧ win0_1.index t = ![t.val, 0] ∧ win0_2.index t = ![0, 0]
    ∧ win0_3.index t = ![t.val, 0]) ∧ win0_4.index t = ![t.val, 0] ∧ win0_5.index t = ![t.val, 0] ∧ win0_6.index t = ![0, 0] := by decide +kernel

abbrev row (r : Fin 512) : Fin 4096 := ⟨t.val * 512 + r.val, by have : t.val < 8 := t.isLt; omega⟩

theorem blk0 (r : Fin 512) (k : Fin 2048) : b0 m c t (ix2 r k) = a0 m c (ix2 (row t r) k) := by
  blk_ext! [iblk, V, (index0 t).1.1]
theorem blk1 (r : Fin 512) (k : Fin 2048) : b1 m c t (ix2 r k) = a1 m c (ix2 (row t r) k) := by
  blk_ext! [iblk, V, (index0 t).1.2.1]
theorem blk2 (k : Fin 2048) : b2 m c t (ix2 0 k) = a2 m c (ix1 k) := by
  blk_ext! [iblk, V, (index0 t).1.2.2.1]
theorem blk3 (r : Fin 512) (k : Fin 2048) : b3 m c t (ix2 r k) = a3 m c (ix2 (row t r) k) := by
  blk_ext! [iblk, V, (index0 t).1.2.2.2]

/-- The results: the gradient added to the stream's, and the gain's gradient as a row. -/
def dx (dh x : Vec Ideal S4096x2048 .f32) (g : Vec Ideal S2048 .f32) (s : Vec Ideal S4096x2048 .f32) : S4096x2048.Idx → EReal :=
  fun y => s y + backAll W E dh x (fun k => g (ix1 k)) y
def dg (dh x : Vec Ideal S4096x2048 .f32) : Vec Ideal S1x2048 .f32 := fun y => gain W E dh x (y 1)

theorem dx_block (r : Fin 512) (l : Fin 2048) :
    b3 m c t (ix2 r l) + backAll W E (b0 m c t) (b1 m c t) (fun k => b2 m c t (ix2 0 k)) (ix2 r l)
      = dx (a0 m c) (a1 m c) (a2 m c) (a3 m c) (ix2 (row t r) l) :=
  congrArg₂ (· + ·) (blk3 m c t r l) (backAll_block W E (blk0 m c t) (blk1 m c t) (blk2 m c t) r l)

theorem arr4 : (dats m 0 c).arrAt 4 cfg0.N = dx (a0 m c) (a1 m c) (a2 m c) (a3 m c) := by
  refine (dats m 0 c).arrAt_eq_of_covers 4 _ (by decide +kernel) fun t hf y => ?_
  blk_simp
  rw [after0_4]
  idx_vars y
  refine (dx_at m c t _ _).trans ((dx_block m c t _ _).trans (congrArg (dx (a0 m c) (a1 m c) (a2 m c) (a3 m c)) ?_))
  blk_ext! [(index0 t).2.1]
theorem arr5 : (dats m 0 c).arrAt 5 cfg0.N = dx (a0 m c) (a1 m c) (a2 m c) (a3 m c) := by
  refine (dats m 0 c).arrAt_eq_of_covers 5 _ (by decide +kernel) fun t hf y => ?_
  blk_simp
  rw [after0_5]
  idx_vars y
  refine (dxb_at m c t _ _).trans ((dx_block m c t _ _).trans (congrArg (dx (a0 m c) (a1 m c) (a2 m c) (a3 m c)) ?_))
  blk_ext! [(index0 t).2.2.1]

/-- What the last point leaves in the gain's gradient: the sum over all rows. -/
theorem dg_at (h : t.val + 1 = 8) (l : Fin 2048) : (outsAt0 m c t.val t.isLt).2.2 (ix2 0 l) = gain W E (a0 m c) (a1 m c) l := by
  refine (sum_points (S := 8) (fun s => (outsAt0 m c s.val s.isLt).2.2 (ix2 0 l)) (fun s => gain W E (b0 m c s) (b1 m c s) l)
    (fun s hs => dg_first m c s (by omega) l) (fun s s' hs => ?_) t h).trans ?_
  · have := s.isLt
    refine (dg_next m c s (by omega) l).trans (congrArg (· + _) ?_)
    obtain ⟨n, hn⟩ := s'
    obtain ⟨k, hk⟩ := s
    dsimp only at hs
    subst hs
    rfl
  · exact (sum_steps (S := 8) (K := 512) (gainTerm W E (a0 m c) (a1 m c) l) _ fun s k i hi =>
      (congrArg _ (Fin.ext hi)).trans (gainTerm_block W E (blk0 m c s) (blk1 m c s) l k).symm).symm

theorem arr6 : (dats m 0 c).arrAt 6 cfg0.N = dg (a0 m c) (a1 m c) := by
  refine (dats m 0 c).arrAt_eq_of_covers 6 _ (by decide +kernel) fun t hf y => ?_
  blk_simp
  rw [after0_6]
  idx_vars y
  obtain rfl : y0 = 0 := Subsingleton.elim _ _
  refine (dg_at m c t (by have := (flush0_6 t).mp hf; have : t.val < 8 := t.isLt; omega) _).trans
    (congrArg (dg (a0 m c) (a1 m c)) (?_ : ix2 0 y1 = _))
  blk_ext! [(index0 t).2.2.2]

section Reference

open Cert.ReferenceNormBwdIdeal.Read

variable (x0 x1 : Vec Ideal S4096x2048 .f32) (x2 : Vec Ideal S2048 .f32) (x3 : Vec Ideal S4096x2048 .f32)

theorem mean_ref (r : Fin 4096) : val_main_v6 (F := Ideal) x1 (ix2 r 0) = meanSq W E (fun k => x1 (ix2 r k)) := by
  pointwise [val_main_v6, val_main_v5, val_main_v4, val_main_v3, val_main_v2, val_main_v1, val_main_v0, val_main_cst, val_main_cst_0,
    val_main_cst_1]
  rfl
theorem root_ref (r : Fin 4096) : val_main_v7 (F := Ideal) x1 (ix2 r 0) = root W E (fun k => x1 (ix2 r k)) := by
  pointwise [val_main_v7]
  rw [mean_ref]
  rfl
theorem share_ref (r : Fin 4096) (l : Fin 2048) : val_main_v32 (F := Ideal) x0 x1 x2 (ix2 r l)
    = share W E (Ideal.ofBits .f32 0xBF000000#32) (fun k => x0 (ix2 r k) * x2 (ix1 k)) (fun k => x1 (ix2 r k)) := by
  pointwise [val_main_v32, val_main_v31, val_main_v30, val_main_v29, val_main_v28, val_main_v24, val_main_v23, val_main_v22, val_main_v20,
    val_main_v19, val_main_v13, val_main_v10, val_main_v9, val_main_v8, val_main_cst_2, val_main_cst_5, val_main_cst_6, val_main_cst_7]
  rw [Fin.sum_univ_one, root_ref, mean_ref]
  rfl

theorem ref4 : val_main_v36 (F := Ideal) x0 x1 x2 x3 = dx x0 x1 x2 x3 := by
  funext y
  idx_vars y
  pointwise [val_main_v36, val_main_v35, val_main_v34, val_main_v33, val_main_v27, val_main_v26, val_main_v25, val_main_v20, val_main_v19,
    val_main_v13]
  rw [root_ref, share_ref, add_assoc, add_assoc, ← add_assoc (_ * _)]
  refine congrArg₂ (· + ·) rfl ?_
  obtain ⟨e, he, h⟩ := eps_eq
  unfold backAll
  rw [show W = _ from w2048, show E = _ from h, half_eq]
  exact (back_eq (w := 2048) (by norm_num) he rfl (fun k => x0 (ix2 y0 k) * x2 (ix1 k)) (fun k => x1 (ix2 y0 k)) y1).symm
theorem ref5 : val_main_v37 (F := Ideal) x0 x1 x2 x3 = dx x0 x1 x2 x3 := ref4 x0 x1 x2 x3
theorem ref6 : val_main_v38 (F := Ideal) x0 x1 = dg x0 x1 := by
  funext y
  idx_vars y
  pointwise [val_main_v38, val_main_v21, val_main_v18, val_main_v17, val_main_v16, val_main_v12, val_main_v11, val_main_cst_3, val_main_cst_4]
  rw [Fin.sum_univ_one]
  refine Finset.sum_congr rfl fun r _ => ?_
  rw [root_ref, mul_comm]
  rfl

end Reference

/-! ## The statements -/

theorem frame_kernel : Cert.quiescent_KernelNormBwd (hKernelNormBwd := Cert.KernelNormBwd.Gen.facts) :=
  fun m ρ _ => Cert.KernelNormBwd.Gen.frame m ρ
theorem frame_kernel_ideal : Cert.quiescent_KernelNormBwdIdeal (hKernelNormBwdIdeal := Cert.KernelNormBwdIdeal.Gen.facts) :=
  fun m ρ _ => Cert.KernelNormBwdIdeal.Gen.frame m ρ
theorem frame_reference : Cert.quiescent_ReferenceNormBwdIdeal (hReferenceNormBwdIdeal := Cert.ReferenceNormBwdIdeal.Gen.facts) :=
  fun m ρ _ => (θ_run _ _ _).mono (fun r h => ⟨fun c => (h c).2.2.2, sem_eq_zero_of_no_sems rfl r.2⟩)
    (Cert.ReferenceNormBwdIdeal.Value.run m ρ)

theorem equal : Cert.algebraic_KernelNormBwdIdeal_ReferenceNormBwdIdeal (hKernelNormBwdIdeal := Cert.KernelNormBwdIdeal.Gen.facts)
    (hReferenceNormBwdIdeal := Cert.ReferenceNormBwdIdeal.Gen.facts) := by
  intro m g m' g' _ hagree
  refine ⟨fun c => dx (a0 m c) (a1 m c) (a2 m c) (a3 m c), fun c => dx (a0 m c) (a1 m c) (a2 m c) (a3 m c),
    fun c => dg (a0 m c) (a1 m c), ?_, ?_⟩
  · exact (θ_run _ _ _).mono (fun r h c => ⟨(h c).1.trans (arr4 m c), (h c).2.1.trans (arr5 m c), (h c).2.2.1.trans (arr6 m c),
      (h c).2.2.2⟩) (Cert.KernelNormBwdIdeal.Value.run_blocks m g)
  · refine (θ_run _ _ _).mono (fun r h c => ?_) (Cert.ReferenceNormBwdIdeal.Value.run m' g')
    obtain ⟨h0, h1, h2, h3⟩ := hagree c
    refine ⟨(h c).1.trans ?_, (h c).2.1.trans ?_, (h c).2.2.1.trans ?_, (h c).2.2.2⟩
    · rw [Cert.ReferenceNormBwdIdeal.Read.val_main_v36_eq, h0, h1, h2, h3]
      exact ref4 _ _ _ _
    · rw [Cert.ReferenceNormBwdIdeal.Read.val_main_v37_eq, h0, h1, h2, h3]
      exact ref5 _ _ _ _
    · rw [Cert.ReferenceNormBwdIdeal.Read.val_main_v38_eq, h0, h1]
      exact ref6 _ _

end Cert.NormBwd

end
-- ==== Proof.Columns.lean ====
module

public import proofs.«01_k».proof.Proof.Product
public import Idealize.ShloMosaic.Lib.Pipeline.ValueKit

/-!
Arrays cut into columns: reading some columns, writing some columns, and three arrays side by side, of 512, 512 and 1024
columns.
-/

@[expose] public section

set_option maxRecDepth 16384

noncomputable section

namespace Cert.Columns

open Idealize.ShloMosaic Cert.Product

variable {R C : ℕ} {e : EltTy}

/-- `w` columns, from column `o` on. -/
def cols (o w : ℕ) (h : o + w ≤ C) (x : Mat R C) : Mat R w := fun y => x (ix2 (y 0) (⟨o + (y 1).val, by have : (y 1).val < w := (y 1).isLt; omega⟩ : Fin C))

theorem emb_cols (o w : ℕ) (h : ∀ a, (![0, o] : Fin 2 → ℕ) a + (![R, w] : Fin 2 → ℕ) a ≤ (⟨2, ![R, C]⟩ : Shape).size a) (r : Fin R) (l : Fin w)
    (k : Fin C) (hk : k.val = o + l.val) :
    (Rect.unit (s := ⟨2, ![R, C]⟩) ![0, o] ![R, w] h).emb (ix2 r l) = ix2 r k := by
  funext a
  fin_cases a
  · exact Fin.ext (show 0 + 1 * r.val = r.val by omega)
  · exact Fin.ext (show o + 1 * l.val = k.val by omega)

theorem mem_cols (o w : ℕ) (h : ∀ a, (![0, o] : Fin 2 → ℕ) a + (![R, w] : Fin 2 → ℕ) a ≤ (⟨2, ![R, C]⟩ : Shape).size a) (r : Fin R) (k : Fin C) :
    ix2 r k ∈ (Rect.unit (s := ⟨2, ![R, C]⟩) ![0, o] ![R, w] h).set ↔ o ≤ k.val ∧ k.val < o + w := by
  rw [Rect.mem_set_unit]
  constructor
  · intro h
    exact h 1
  · intro h a
    fin_cases a
    · exact ⟨Nat.zero_le _, by show r.val < 0 + R; omega⟩
    · exact h

/-- Reading columns. -/
theorem ld_cols (o w : ℕ) (h : ∀ a, (![0, o] : Fin 2 → ℕ) a + (![R, w] : Fin 2 → ℕ) a ≤ (⟨2, ![R, C]⟩ : Shape).size a)
    (x : (⟨2, ![R, C]⟩ : Shape).Idx → Elt Ideal e) (r : Fin R) (l : Fin w) (k : Fin C) (hk : k.val = o + l.val) :
    View.ld (Val := Elt Ideal) x (Rect.unit (s := ⟨2, ![R, C]⟩) ![0, o] ![R, w] h) (ix2 r l) = x (ix2 r k) :=
  congrArg x (emb_cols o w h r l k hk)

theorem cols_at (o w : ℕ) (h : o + w ≤ C) (x : Mat R C) (r : Fin R) (l : Fin w) (k : Fin C) (hk : k.val = o + l.val) :
    cols o w h x (ix2 r l) = x (ix2 r k) := congrArg (fun k => x (ix2 r k)) (Fin.ext hk.symm)

theorem cols_block {M : ℕ} (o w : ℕ) (h : o + w ≤ C) {x : Mat M C} {y : Mat R C} {f : Fin M → Fin R} (hx : ∀ r k, x (ix2 r k) = y (ix2 (f r) k)) :
    ∀ (r : Fin M) (l : Fin w), cols o w h x (ix2 r l) = cols o w h y (ix2 (f r) l) := fun r _ => hx r _

theorem ld_eq_cols (o w : ℕ) (hw : o + w ≤ C) (h : ∀ a, (![0, o] : Fin 2 → ℕ) a + (![R, w] : Fin 2 → ℕ) a ≤ (⟨2, ![R, C]⟩ : Shape).size a)
    (x : (⟨2, ![R, C]⟩ : Shape).Idx → Elt Ideal .f32) :
    View.ld (Val := Elt Ideal) x (Rect.unit (s := ⟨2, ![R, C]⟩) ![0, o] ![R, w] h) = cols o w hw x := by
  funext y
  rw [eq_ix2 (n0 := R) (n1 := w) y]
  exact ld_cols o w h x _ _ _ rfl

/-- Reading columns of what writes have left. -/
theorem readCov_cols {sig : RefSig} {κ : Kind} {sp : Space} (v : View sig κ sp ⟨2, ![R, C]⟩ e) (L : List (View.Piece (Elt Ideal) ⟨2, ![R, C]⟩ e))
    (o w : ℕ) (h : ∀ a, (![0, o] : Fin 2 → ℕ) a + (![R, w] : Fin 2 → ℕ) a ≤ (⟨2, ![R, C]⟩ : Shape).size a) (r : Fin R) (l : Fin w)
    (k : Fin C) (hk : k.val = o + l.val) (hc : ∃ p ∈ L, ix2 r k ∈ p.1.set) :
    v.readCov L (Rect.unit (s := ⟨2, ![R, C]⟩) ![0, o] ![R, w] h).toLoadRect (ix2 r l) = View.canon L (ix2 r k) := by
  have e : (Rect.unit (s := ⟨2, ![R, C]⟩) ![0, o] ![R, w] h).toLoadRect.idx (ix2 r l) = ix2 r k := emb_cols o w h r l k hk
  rw [← e] at hc ⊢
  exact View.read_writes_apply_eq_canon v v.junk _ L hc

/-- What is left in a place the last write's columns hold, and in one they do not. -/
theorem canon_in (o w : ℕ) (h : ∀ a, (![0, o] : Fin 2 → ℕ) a + (![R, w] : Fin 2 → ℕ) a ≤ (⟨2, ![R, C]⟩ : Shape).size a)
    (v : (⟨2, ![R, w]⟩ : Shape).Idx → Elt Ideal e) (L : List (View.Piece (Elt Ideal) ⟨2, ![R, C]⟩ e)) (r : Fin R) (l : Fin w)
    (k : Fin C) (hk : k.val = o + l.val) :
    View.canon ((⟨Rect.unit (s := ⟨2, ![R, C]⟩) ![0, o] ![R, w] h, v⟩ : View.Piece (Elt Ideal) ⟨2, ![R, C]⟩ e) :: L) (ix2 r k) = v (ix2 r l) := by
  rw [← emb_cols o w h r l k hk]
  exact View.canon_cons_emb _ _ _ _
theorem canon_out (o w : ℕ) (h : ∀ a, (![0, o] : Fin 2 → ℕ) a + (![R, w] : Fin 2 → ℕ) a ≤ (⟨2, ![R, C]⟩ : Shape).size a)
    (v : (⟨2, ![R, w]⟩ : Shape).Idx → Elt Ideal e) (L : List (View.Piece (Elt Ideal) ⟨2, ![R, C]⟩ e)) (r : Fin R) (k : Fin C)
    (hk : k.val < o ∨ o + w ≤ k.val) :
    View.canon ((⟨Rect.unit (s := ⟨2, ![R, C]⟩) ![0, o] ![R, w] h, v⟩ : View.Piece (Elt Ideal) ⟨2, ![R, C]⟩ e) :: L) (ix2 r k)
      = View.canon L (ix2 r k) :=
  View.canon_cons_of_not_mem _ _ fun hm => by have := (mem_cols o w h r k).mp hm; omega

/-! ## Three arrays side by side -/

def side (f0 f1 : Fin 512 → EReal) (f2 : Fin 1024 → EReal) (k : Fin 2048) : EReal :=
  if h : k.val < 512 then f0 ⟨k.val, h⟩ else if h' : k.val < 1024 then f1 ⟨k.val - 512, by omega⟩ else f2 ⟨k.val - 1024, by omega⟩

abbrev k0 (l : Fin 512) : Fin 2048 := ⟨l.val, by omega⟩
abbrev k1 (l : Fin 512) : Fin 2048 := ⟨512 + l.val, by omega⟩
abbrev k2 (l : Fin 1024) : Fin 2048 := ⟨1024 + l.val, by omega⟩

variable (f0 f1 : Fin 512 → EReal) (f2 : Fin 1024 → EReal)

theorem side0 (l : Fin 512) : side f0 f1 f2 (k0 l) = f0 l := dif_pos l.isLt
theorem side1 (l : Fin 512) : side f0 f1 f2 (k1 l) = f1 l :=
  (dif_neg (by show ¬512 + l.val < 512; omega)).trans ((dif_pos (by show 512 + l.val < 1024; omega)).trans
    (congrArg f1 (Fin.ext (by show 512 + l.val - 512 = l.val; omega))))
theorem side2 (l : Fin 1024) : side f0 f1 f2 (k2 l) = f2 l :=
  (dif_neg (by show ¬1024 + l.val < 512; omega)).trans ((dif_neg (by show ¬1024 + l.val < 1024; omega)).trans
    (congrArg f2 (Fin.ext (by show 1024 + l.val - 1024 = l.val; omega))))

/-- A column is one of the first, of the second or of the third array. -/
theorem column_cases {P : Fin 2048 → Prop} (h0 : ∀ l, P (k0 l)) (h1 : ∀ l, P (k1 l)) (h2 : ∀ l, P (k2 l)) (k : Fin 2048) : P k := by
  by_cases h : k.val < 512
  · exact h0 ⟨k.val, h⟩
  · by_cases h' : k.val < 1024
    · have e : k1 ⟨k.val - 512, by omega⟩ = k := Fin.ext (by show 512 + (k.val - 512) = k.val; omega)
      exact e ▸ h1 _
    · have e : k2 ⟨k.val - 1024, by omega⟩ = k := Fin.ext (by show 1024 + (k.val - 1024) = k.val; omega)
      exact e ▸ h2 _

end Cert.Columns

end
-- ==== Proof.MixBwd.lean ====
module

public import proofs.«01_k».proof.Defs
public import proofs.«01_k».proof.Proof.Norm
public import proofs.«01_k».proof.Proof.Columns
public import proofs.«01_k».proof.Proof.Gen.KernelMixBwd.Frame
public import proofs.«01_k».proof.Proof.Gen.KernelMixBwdIdeal.Frame
public import proofs.«01_k».proof.Proof.Gen.KernelMixBwdIdeal.Value
public import proofs.«01_k».proof.Proof.Gen.ReferenceMixBwdIdeal.Read
public import proofs.«01_k».proof.Proof.Gen.ReferenceMixBwdIdeal.Run
public import Idealize.ShloMosaic.Lib.Pipeline.ValueKit
public import Idealize.ShloMosaic.Lib.Quiescent
public import Idealize.ShloMosaic.Lib.Tactic

/-!
The gradient of the three mixtures' norms, from the gradient of what stands side by side.
-/

@[expose] public section

set_option maxRecDepth 16384

noncomputable section

namespace Cert.MixBwd

open Idealize.ShloMosaic Idealize.ShloMosaic.TcCoe Idealize.ShloMosaic.Tactic Idealize.SL.Sem
open Cert.KernelMixBwdIdeal Cert.KernelMixBwdIdeal.Gen Cert.Product Cert.Norm Cert.Columns

variable (m : (ℓ : Loc nD τ sig) → Buf (Elt Ideal) ℓ) (c : Dev nD) (t : Fin cfg0.N)

/-- The arguments, and the blocks of them a point reads. -/
abbrev a0 : Vec Ideal S4096x2048 .f32 := m ((c : Thread nD τ).loc main_arg0)
abbrev a1 : Vec Ideal S4096x512 .f32 := m ((c : Thread nD τ).loc main_arg1)
abbrev a2 : Vec Ideal S4096x512 .f32 := m ((c : Thread nD τ).loc main_arg2)
abbrev a3 : Vec Ideal S4096x1024 .f32 := m ((c : Thread nD τ).loc main_arg3)
abbrev a4 : Vec Ideal S2048 .f32 := m ((c : Thread nD τ).loc main_arg4)
abbrev b0 : Vec Ideal S512x2048 .f32 := iblk m c 0 t
abbrev b1 : Vec Ideal S512x512 .f32 := iblk m c 1 t
abbrev b2 : Vec Ideal S512x512 .f32 := iblk m c 2 t
abbrev b3 : Vec Ideal S512x1024 .f32 := iblk m c 3 t
abbrev b4 : Vec Ideal S1x2048 .f32 := iblk m c 4 t

/-- The two widths and the small constant. -/
abbrev W : EReal := Ideal.ofBits .f32 0x44000000#32
abbrev V2 : EReal := Ideal.ofBits .f32 0x44800000#32
abbrev E : EReal := Ideal.ofBits .f32 0x358637BD#32

/-! ## What the body computes -/

theorem root1 (x : Vec Ideal S512x512 .f32) (r : Fin 512) : k0_pay2 x (ix2 r 0) = root W E (fun k => x (ix2 r k)) := by
  pointwise [k0_pay2]
  rfl
theorem back1 (x d : Vec Ideal S512x512 .f32) (g : Vec Ideal S1x512 .f32) (r : Fin 512) (l : Fin 512) :
    k0_pay3 x d g (ix2 r l) = backAll W E d x (fun k => g (ix2 0 k)) (ix2 r l) := by
  pointwise [k0_pay3]
  rw [root1]
  rfl
theorem gain1 (x d : Vec Ideal S512x512 .f32) (v : Vec Ideal S1x512 .f32) (l : Fin 512) :
    k0_pay4 x d v (ix2 0 l) = v (ix2 0 l) + gain W E d x l := by
  pointwise [k0_pay4]
  simp only [root1]
  rfl
theorem root2 (x : Vec Ideal S512x512 .f32) (r : Fin 512) : k0_pay5 x (ix2 r 0) = root W E (fun k => x (ix2 r k)) := by
  pointwise [k0_pay5]
  rfl
theorem back2 (x d : Vec Ideal S512x512 .f32) (g : Vec Ideal S1x512 .f32) (r : Fin 512) (l : Fin 512) :
    k0_pay6 x d g (ix2 r l) = backAll W E d x (fun k => g (ix2 0 k)) (ix2 r l) := by
  pointwise [k0_pay6]
  rw [root2]
  rfl
theorem gain2 (x d : Vec Ideal S512x512 .f32) (v : Vec Ideal S1x512 .f32) (l : Fin 512) :
    k0_pay7 x d v (ix2 0 l) = v (ix2 0 l) + gain W E d x l := by
  pointwise [k0_pay7]
  simp only [root2]
  rfl
theorem root3 (x : Vec Ideal S512x1024 .f32) (r : Fin 512) : k0_pay8 x (ix2 r 0) = root V2 E (fun k => x (ix2 r k)) := by
  pointwise [k0_pay8]
  rfl
theorem back3 (x d : Vec Ideal S512x1024 .f32) (g : Vec Ideal S1x1024 .f32) (r : Fin 512) (l : Fin 1024) :
    k0_pay9 x d g (ix2 r l) = backAll V2 E d x (fun k => g (ix2 0 k)) (ix2 r l) := by
  pointwise [k0_pay9]
  rw [root3]
  rfl
theorem gain3 (x d : Vec Ideal S512x1024 .f32) (v : Vec Ideal S1x1024 .f32) (l : Fin 1024) :
    k0_pay10 x d v (ix2 0 l) = v (ix2 0 l) + gain V2 E d x l := by
  pointwise [k0_pay10]
  simp only [root3]
  rfl

/-- Each window's block at a point. -/
theorem index0 : ∀ t : Fin cfg0.N, (win0_0.index t = ![t.val, 0] ∧ win0_1.index t = ![t.val, 0] ∧ win0_2.index t = ![t.val, 0]
    ∧ win0_3.index t = ![t.val, 0]) ∧ win0_4.index t = ![0, 0] ∧ win0_5.index t = ![t.val, 0] ∧ win0_6.index t = ![t.val, 0]
    ∧ win0_7.index t = ![t.val, 0] ∧ win0_8.index t = ![0, 0] := by decide +kernel

abbrev row (r : Fin 512) : Fin 4096 := ⟨t.val * 512 + r.val, by have : t.val < 8 := t.isLt; omega⟩

theorem blk0 (r : Fin 512) (k : Fin 2048) : b0 m c t (ix2 r k) = a0 m c (ix2 (row t r) k) := by
  blk_ext! [iblk, V, (index0 t).1.1]
theorem blk1 (r : Fin 512) (k : Fin 512) : b1 m c t (ix2 r k) = a1 m c (ix2 (row t r) k) := by
  blk_ext! [iblk, V, (index0 t).1.2.1]
theorem blk2 (r : Fin 512) (k : Fin 512) : b2 m c t (ix2 r k) = a2 m c (ix2 (row t r) k) := by
  blk_ext! [iblk, V, (index0 t).1.2.2.1]
theorem blk3 (r : Fin 512) (k : Fin 1024) : b3 m c t (ix2 r k) = a3 m c (ix2 (row t r) k) := by
  blk_ext! [iblk, V, (index0 t).1.2.2.2]
theorem blk4 (k : Fin 2048) : b4 m c t (ix2 0 k) = a4 m c (ix1 k) := by
  blk_ext! [iblk, V, (index0 t).2.1]

/-! ## The three gradients -/

def dx1 (d : Vec Ideal S4096x2048 .f32) (x : Vec Ideal S4096x512 .f32) (g : Vec Ideal S2048 .f32) : S4096x512.Idx → EReal :=
  backAll W E (cols 0 512 (by decide) d) x (fun k => g (ix1 (k0 k)))

theorem dx1_at (r : Fin 512) (l : Fin 512) :
    (outsAt0 m c t.val t.isLt).1 (ix2 r l) = dx1 (a0 m c) (a1 m c) (a4 m c) (ix2 (row t r) l) := by
  have h0 : backAll W E (cols 0 512 (by decide) (b0 m c t)) (b1 m c t) (fun k => b4 m c t (ix2 0 (k0 k))) (ix2 r l)
      = dx1 (a0 m c) (a1 m c) (a4 m c) (ix2 (row t r) l) :=
    backAll_block W E (cols_block 0 512 _ (blk0 m c t)) (blk1 m c t) (fun k => blk4 m c t _) r l
  have hg : (fun k => View.ld (Val := Elt Ideal) (b4 m c t) (Rect.unit ![0, 0] ![1, 512] inb_S1x2048_S1x512_0_0) (ix2 0 k))
      = fun k => b4 m c t (ix2 0 (k0 k)) := funext fun k => ld_cols _ _ _ _ 0 k (k0 k) (Nat.zero_add _).symm
  refine Eq.trans ?_ h0
  by_cases h : t.val % 8 = 0
  · rw [outsAt0_A m c t h]
    frame_out
    rw [back1, ld_eq_cols 0 512 (by decide), hg]
  · rw [outsAt0_B m c t h]
    frame_out
    rw [back1, ld_eq_cols 0 512 (by decide), hg]

theorem arr5 : (dats m 0 c).arrAt 5 cfg0.N = dx1 (a0 m c) (a1 m c) (a4 m c) := by
  refine (dats m 0 c).arrAt_eq_of_covers 5 _ (by decide +kernel) fun t hf y => ?_
  blk_simp
  rw [after0_5]
  idx_vars y
  refine (dx1_at m c t _ _).trans (congrArg (dx1 (a0 m c) (a1 m c) (a4 m c)) ?_)
  blk_ext! [(index0 t).2.2.1]

def dx2 (d : Vec Ideal S4096x2048 .f32) (x : Vec Ideal S4096x512 .f32) (g : Vec Ideal S2048 .f32) : S4096x512.Idx → EReal :=
  backAll W E (cols 512 512 (by decide) d) x (fun k => g (ix1 (k1 k)))

theorem dx2_at (r : Fin 512) (l : Fin 512) :
    (outsAt0 m c t.val t.isLt).2.1 (ix2 r l) = dx2 (a0 m c) (a2 m c) (a4 m c) (ix2 (row t r) l) := by
  have h0 : backAll W E (cols 512 512 (by decide) (b0 m c t)) (b2 m c t) (fun k => b4 m c t (ix2 0 (k1 k))) (ix2 r l)
      = dx2 (a0 m c) (a2 m c) (a4 m c) (ix2 (row t r) l) :=
    backAll_block W E (cols_block 512 512 _ (blk0 m c t)) (blk2 m c t) (fun k => blk4 m c t _) r l
  have hg : (fun k => View.ld (Val := Elt Ideal) (b4 m c t) (Rect.unit ![0, 512] ![1, 512] inb_S1x2048_S1x512_0_512) (ix2 0 k))
      = fun k => b4 m c t (ix2 0 (k1 k)) := funext fun k => ld_cols _ _ _ _ 0 k (k1 k) rfl
  refine Eq.trans ?_ h0
  by_cases h : t.val % 8 = 0
  · rw [outsAt0_A m c t h]
    frame_out
    rw [back2, ld_eq_cols 512 512 (by decide), hg]
  · rw [outsAt0_B m c t h]
    frame_out
    rw [back2, ld_eq_cols 512 512 (by decide), hg]

theorem arr6 : (dats m 0 c).arrAt 6 cfg0.N = dx2 (a0 m c) (a2 m c) (a4 m c) := by
  refine (dats m 0 c).arrAt_eq_of_covers 6 _ (by decide +kernel) fun t hf y => ?_
  blk_simp
  rw [after0_6]
  idx_vars y
  refine (dx2_at m c t _ _).trans (congrArg (dx2 (a0 m c) (a2 m c) (a4 m c)) ?_)
  blk_ext! [(index0 t).2.2.2.1]

def dx3 (d : Vec Ideal S4096x2048 .f32) (x : Vec Ideal S4096x1024 .f32) (g : Vec Ideal S2048 .f32) : S4096x1024.Idx → EReal :=
  backAll V2 E (cols 1024 1024 (by decide) d) x (fun k => g (ix1 (k2 k)))

theorem dx3_at (r : Fin 512) (l : Fin 1024) :
    (outsAt0 m c t.val t.isLt).2.2.1 (ix2 r l) = dx3 (a0 m c) (a3 m c) (a4 m c) (ix2 (row t r) l) := by
  have h0 : backAll V2 E (cols 1024 1024 (by decide) (b0 m c t)) (b3 m c t) (fun k => b4 m c t (ix2 0 (k2 k))) (ix2 r l)
      = dx3 (a0 m c) (a3 m c) (a4 m c) (ix2 (row t r) l) :=
    backAll_block V2 E (cols_block 1024 1024 _ (blk0 m c t)) (blk3 m c t) (fun k => blk4 m c t _) r l
  have hg : (fun k => View.ld (Val := Elt Ideal) (b4 m c t) (Rect.unit ![0, 1024] ![1, 1024] inb_S1x2048_S1x1024_0_1024) (ix2 0 k))
      = fun k => b4 m c t (ix2 0 (k2 k)) := funext fun k => ld_cols _ _ _ _ 0 k (k2 k) rfl
  refine Eq.trans ?_ h0
  by_cases h : t.val % 8 = 0
  · rw [outsAt0_A m c t h]
    frame_out
    rw [back3, ld_eq_cols 1024 1024 (by decide), hg]
  · rw [outsAt0_B m c t h]
    frame_out
    rw [back3, ld_eq_cols 1024 1024 (by decide), hg]

theorem arr7 : (dats m 0 c).arrAt 7 cfg0.N = dx3 (a0 m c) (a3 m c) (a4 m c) := by
  refine (dats m 0 c).arrAt_eq_of_covers 7 _ (by decide +kernel) fun t hf y => ?_
  blk_simp
  rw [after0_7]
  idx_vars y
  refine (dx3_at m c t _ _).trans (congrArg (dx3 (a0 m c) (a3 m c) (a4 m c)) ?_)
  blk_ext! [(index0 t).2.2.2.2.1]

/-! ## The gain's gradient -/

/-- The three gains' gradients, one after the other. -/
def gains {R : ℕ} (d : Mat R 2048) (x1 x2 : Mat R 512) (x3 : Mat R 1024) : Fin 2048 → EReal :=
  side (gain W E (cols 0 512 (by decide) d) x1) (gain W E (cols 512 512 (by decide) d) x2) (gain V2 E (cols 1024 1024 (by decide) d) x3)

theorem dg_next (h : ¬t.val % 8 = 0) (l : Fin 2048) : (outsAt0 m c t.val t.isLt).2.2.2 (ix2 0 l)
    = (outsAt0 m c (t.val - 1) (Nat.lt_of_le_of_lt (Nat.sub_le _ _) t.isLt)).2.2.2 (ix2 0 l)
      + gains (b0 m c t) (b1 m c t) (b2 m c t) (b3 m c t) l := by
  rw [outsAt0_B m c t h]
  frame_out
  revert l
  refine column_cases (fun l => ?_) (fun l => ?_) (fun l => ?_)
  · unfold gains
    rw [side0, canon_out _ _ _ _ _ _ _ (.inl (by show l.val < 1024; omega)), canon_out _ _ _ _ _ _ _ (.inl (by show l.val < 512; omega)),
      canon_in 0 512 _ _ _ 0 l (k0 l) (Nat.zero_add _).symm, gain1, ld_cols _ _ _ _ _ l (k0 l) (Nat.zero_add _).symm, ld_eq_cols 0 512 (by decide)]
  · unfold gains
    rw [side1, canon_out _ _ _ _ _ _ _ (.inl (by show 512 + l.val < 1024; omega)), canon_in 512 512 _ _ _ 0 l (k1 l) rfl, gain2,
      ld_cols _ _ _ _ _ _ (k1 l) rfl, ld_eq_cols 512 512 (by decide)]
  · unfold gains
    rw [side2, canon_in 1024 1024 _ _ _ 0 l (k2 l) rfl, gain3, ld_cols _ _ _ _ _ _ (k2 l) rfl, ld_eq_cols 1024 1024 (by decide)]

theorem dg_first (h : t.val % 8 = 0) (l : Fin 2048) :
    (outsAt0 m c t.val t.isLt).2.2.2 (ix2 0 l) = gains (b0 m c t) (b1 m c t) (b2 m c t) (b3 m c t) l := by
  have hz : ∀ k : Fin 2048, View.canon [(⟨Rect.unit (s := S1x2048) ![0, 0] ![1, 2048] inb_S1x2048_S1x2048_0_0, k0_pay1 (F := Ideal)⟩ :
      View.Piece (Elt Ideal) S1x2048 .f32)] (ix2 0 k) = 0 := fun k => by
    rw [canon_in 0 2048 _ _ _ 0 k k (Nat.zero_add _).symm]
    pointwise [k0_pay1]
  have hm : ∀ k : Fin 2048, ix2 0 k ∈ (Rect.unit (s := S1x2048) ![0, 0] ![1, 2048] inb_S1x2048_S1x2048_0_0).set := fun k =>
    (mem_cols (R := 1) 0 2048 inb_S1x2048_S1x2048_0_0 0 k).mpr ⟨Nat.zero_le _, by omega⟩
  rw [outsAt0_A m c t h]
  frame_out
  revert l
  refine column_cases (fun l => ?_) (fun l => ?_) (fun l => ?_)
  · unfold gains
    rw [side0, canon_out _ _ _ _ _ _ _ (.inl (by show l.val < 1024; omega)), canon_out _ _ _ _ _ _ _ (.inl (by show l.val < 512; omega)),
      canon_in 0 512 _ _ _ 0 l (k0 l) (Nat.zero_add _).symm, gain1,
      readCov_cols _ _ 0 512 _ 0 l (k0 l) (Nat.zero_add _).symm, hz, zero_add, ld_eq_cols 0 512 (by decide)]
    exact ⟨_, List.mem_cons_self, hm _⟩
  · unfold gains
    rw [side1, canon_out _ _ _ _ _ _ _ (.inl (by show 512 + l.val < 1024; omega)), canon_in 512 512 _ _ _ 0 l (k1 l) rfl, gain2,
      readCov_cols _ _ 512 512 _ 0 l (k1 l) rfl,
      canon_out _ _ _ _ _ _ _ (.inr (by show 0 + 512 ≤ 512 + l.val; omega)), hz, zero_add, ld_eq_cols 512 512 (by decide)]
    exact ⟨_, List.mem_cons_of_mem _ List.mem_cons_self, hm _⟩
  · unfold gains
    rw [side2, canon_in 1024 1024 _ _ _ 0 l (k2 l) rfl, gain3,
      readCov_cols _ _ 1024 1024 _ 0 l (k2 l) rfl,
      canon_out _ _ _ _ _ _ _ (.inr (by show 512 + 512 ≤ 1024 + l.val; omega)),
      canon_out _ _ _ _ _ _ _ (.inr (by show 0 + 512 ≤ 1024 + l.val; omega)), hz, zero_add, ld_eq_cols 1024 1024 (by decide)]
    exact ⟨_, List.mem_cons_of_mem _ (List.mem_cons_of_mem _ List.mem_cons_self), hm _⟩

/-- What the last point leaves: the sums over all rows. -/
theorem dg_at (h : t.val + 1 = 8) (l : Fin 2048) :
    (outsAt0 m c t.val t.isLt).2.2.2 (ix2 0 l) = gains (a0 m c) (a1 m c) (a2 m c) (a3 m c) l := by
  refine (sum_points (S := 8) (fun s => (outsAt0 m c s.val s.isLt).2.2.2 (ix2 0 l))
    (fun s => gains (b0 m c s) (b1 m c s) (b2 m c s) (b3 m c s) l)
    (fun s hs => dg_first m c s (by omega) l) (fun s s' hs => ?_) t h).trans ?_
  · have := s.isLt
    refine (dg_next m c s (by omega) l).trans (congrArg (· + _) ?_)
    obtain ⟨n, hn⟩ := s'
    obtain ⟨k, hk⟩ := s
    dsimp only at hs
    subst hs
    rfl
  · unfold gains
    revert l
    refine column_cases (fun l => ?_) (fun l => ?_) (fun l => ?_)
    · simp only [side0]
      exact (sum_steps (S := 8) (K := 512) (gainTerm W E (cols 0 512 (by decide) (a0 m c)) (a1 m c) l) _ fun s k i hi =>
        (congrArg _ (Fin.ext hi)).trans (gainTerm_block W E (cols_block 0 512 _ (blk0 m c s)) (blk1 m c s) l k).symm).symm
    · simp only [side1]
      exact (sum_steps (S := 8) (K := 512) (gainTerm W E (cols 512 512 (by decide) (a0 m c)) (a2 m c) l) _ fun s k i hi =>
        (congrArg _ (Fin.ext hi)).trans (gainTerm_block W E (cols_block 512 512 _ (blk0 m c s)) (blk2 m c s) l k).symm).symm
    · simp only [side2]
      exact (sum_steps (S := 8) (K := 512) (gainTerm V2 E (cols 1024 1024 (by decide) (a0 m c)) (a3 m c) l) _ fun s k i hi =>
        (congrArg _ (Fin.ext hi)).trans (gainTerm_block V2 E (cols_block 1024 1024 _ (blk0 m c s)) (blk3 m c s) l k).symm).symm

def dg (d : Vec Ideal S4096x2048 .f32) (x1 x2 : Vec Ideal S4096x512 .f32) (x3 : Vec Ideal S4096x1024 .f32) : S1x2048.Idx → EReal :=
  fun y => gains d x1 x2 x3 (y 1)

theorem arr8 : (dats m 0 c).arrAt 8 cfg0.N = dg (a0 m c) (a1 m c) (a2 m c) (a3 m c) := by
  refine (dats m 0 c).arrAt_eq_of_covers 8 _ (by decide +kernel) fun t hf y => ?_
  blk_simp
  rw [after0_8]
  idx_vars y
  obtain rfl : y0 = 0 := Subsingleton.elim _ _
  refine (dg_at m c t (by have := (flush0_8 t).mp hf; have : t.val < 8 := t.isLt; omega) _).trans
    (congrArg (dg (a0 m c) (a1 m c) (a2 m c) (a3 m c)) (?_ : ix2 0 y1 = _))
  blk_ext! [(index0 t).2.2.2.2.2]

section Reference

open Cert.ReferenceMixBwdIdeal.Read

variable (x0 : Vec Ideal S4096x2048 .f32) (x1 x2 : Vec Ideal S4096x512 .f32) (x3 : Vec Ideal S4096x1024 .f32) (x4 : Vec Ideal S2048 .f32)

theorem mean1 (r : Fin 4096) : val_main_v9 (F := Ideal) x1 (ix2 r 0) = meanSq W E (fun k => x1 (ix2 r k)) := by
  pointwise [val_main_v3, val_main_v4, val_main_v5, val_main_v6, val_main_v7, val_main_v8, val_main_v9, val_main_cst, val_main_cst_0, val_main_cst_1]
  rfl
theorem rootr1 (r : Fin 4096) : val_main_v10 (F := Ideal) x1 (ix2 r 0) = root W E (fun k => x1 (ix2 r k)) := by
  pointwise [val_main_v10]
  rw [mean1]
  rfl
theorem share1 (r : Fin 4096) (l : Fin 512) : val_main_v110 (F := Ideal) x0 x1 x4 (ix2 r l)
    = share W E (Ideal.ofBits .f32 0xBF000000#32) (fun k => cols 0 512 (by decide) x0 (ix2 r k) * x4 (ix1 (k0 k))) (fun k => x1 (ix2 r k)) := by
  pointwise [val_main_v0, val_main_v11, val_main_v12, val_main_v13, val_main_v16, val_main_v52, val_main_v98, val_main_v99, val_main_v101, val_main_v102, val_main_v103, val_main_v106, val_main_v107, val_main_v108, val_main_v109, val_main_v110, val_main_cst_2, val_main_cst_23, val_main_cst_24, val_main_cst_25]
  rw [Fin.sum_univ_one, rootr1, mean1]
  simp only [cols_at 0 512 _ x0 r _ (k0 _) (Nat.zero_add _).symm]
  rfl
theorem refdx1 : val_main_v114 (F := Ideal) x0 x1 x4 = dx1 x0 x1 x4 := by
  funext y
  idx_vars y
  pointwise [val_main_v0, val_main_v16, val_main_v52, val_main_v98, val_main_v99, val_main_v104, val_main_v105, val_main_v111, val_main_v112, val_main_v113, val_main_v114]
  rw [rootr1, share1]
  obtain ⟨e, he, h⟩ := eps_eq
  unfold dx1 backAll
  rw [show W = _ from w512, show E = _ from h, half_eq]
  refine Eq.trans ?_ (back_eq (w := 512) (by norm_num) he rfl (fun k => cols 0 512 (by decide) x0 (ix2 y0 k) * x4 (ix1 (k0 k))) (fun k => x1 (ix2 y0 k)) y1).symm
  rw [cols_at 0 512 _ x0 y0 _ (k0 _) (Nat.zero_add _).symm]
theorem refdg1 (l : Fin 512) : val_main_v100 (F := Ideal) x0 x1 (ix1 l) = gain W E (cols 0 512 (by decide) x0) x1 l := by
  pointwise [val_main_v14, val_main_v15, val_main_v52, val_main_v95, val_main_v96, val_main_v97, val_main_v100, val_main_cst_21, val_main_cst_22]
  rw [Fin.sum_univ_one]
  refine Finset.sum_congr rfl fun r _ => ?_
  rw [rootr1, mul_comm]
  unfold gainTerm
  rw [cols_at 0 512 _ x0 r _ (k0 _) (Nat.zero_add _).symm]
theorem mean2 (r : Fin 4096) : val_main_v25 (F := Ideal) x2 (ix2 r 0) = meanSq W E (fun k => x2 (ix2 r k)) := by
  pointwise [val_main_v19, val_main_v20, val_main_v21, val_main_v22, val_main_v23, val_main_v24, val_main_v25, val_main_cst_3, val_main_cst_4, val_main_cst_5]
  rfl
theorem rootr2 (r : Fin 4096) : val_main_v26 (F := Ideal) x2 (ix2 r 0) = root W E (fun k => x2 (ix2 r k)) := by
  pointwise [val_main_v26]
  rw [mean2]
  rfl
theorem share2 (r : Fin 4096) (l : Fin 512) : val_main_v90 (F := Ideal) x0 x2 x4 (ix2 r l)
    = share W E (Ideal.ofBits .f32 0xBF000000#32) (fun k => cols 512 512 (by decide) x0 (ix2 r k) * x4 (ix1 (k1 k))) (fun k => x2 (ix2 r k)) := by
  pointwise [val_main_v1, val_main_v27, val_main_v28, val_main_v29, val_main_v32, val_main_v53, val_main_v78, val_main_v79, val_main_v81, val_main_v82, val_main_v83, val_main_v86, val_main_v87, val_main_v88, val_main_v89, val_main_v90, val_main_cst_6, val_main_cst_18, val_main_cst_19, val_main_cst_20]
  rw [Fin.sum_univ_one, rootr2, mean2]
  simp only [cols_at 512 512 _ x0 r _ (k1 _) rfl]
  rfl
theorem refdx2 : val_main_v94 (F := Ideal) x0 x2 x4 = dx2 x0 x2 x4 := by
  funext y
  idx_vars y
  pointwise [val_main_v1, val_main_v32, val_main_v53, val_main_v78, val_main_v79, val_main_v84, val_main_v85, val_main_v91, val_main_v92, val_main_v93, val_main_v94]
  rw [rootr2, share2]
  obtain ⟨e, he, h⟩ := eps_eq
  unfold dx2 backAll
  rw [show W = _ from w512, show E = _ from h, half_eq]
  refine Eq.trans ?_ (back_eq (w := 512) (by norm_num) he rfl (fun k => cols 512 512 (by decide) x0 (ix2 y0 k) * x4 (ix1 (k1 k))) (fun k => x2 (ix2 y0 k)) y1).symm
  rw [cols_at 512 512 _ x0 y0 _ (k1 _) rfl]
theorem refdg2 (l : Fin 512) : val_main_v80 (F := Ideal) x0 x2 (ix1 l) = gain W E (cols 512 512 (by decide) x0) x2 l := by
  pointwise [val_main_v30, val_main_v31, val_main_v53, val_main_v75, val_main_v76, val_main_v77, val_main_v80, val_main_cst_16, val_main_cst_17]
  rw [Fin.sum_univ_one]
  refine Finset.sum_congr rfl fun r _ => ?_
  rw [rootr2, mul_comm]
  unfold gainTerm
  rw [cols_at 512 512 _ x0 r _ (k1 _) rfl]
theorem mean3 (r : Fin 4096) : val_main_v41 (F := Ideal) x3 (ix2 r 0) = meanSq V2 E (fun k => x3 (ix2 r k)) := by
  pointwise [val_main_v35, val_main_v36, val_main_v37, val_main_v38, val_main_v39, val_main_v40, val_main_v41, val_main_cst_7, val_main_cst_8, val_main_cst_9]
  rfl
theorem rootr3 (r : Fin 4096) : val_main_v42 (F := Ideal) x3 (ix2 r 0) = root V2 E (fun k => x3 (ix2 r k)) := by
  pointwise [val_main_v42]
  rw [mean3]
  rfl
theorem share3 (r : Fin 4096) (l : Fin 1024) : val_main_v70 (F := Ideal) x0 x3 x4 (ix2 r l)
    = share V2 E (Ideal.ofBits .f32 0xBF000000#32) (fun k => cols 1024 1024 (by decide) x0 (ix2 r k) * x4 (ix1 (k2 k))) (fun k => x3 (ix2 r k)) := by
  pointwise [val_main_v2, val_main_v43, val_main_v44, val_main_v45, val_main_v48, val_main_v54, val_main_v58, val_main_v59, val_main_v61, val_main_v62, val_main_v63, val_main_v66, val_main_v67, val_main_v68, val_main_v69, val_main_v70, val_main_cst_10, val_main_cst_13, val_main_cst_14, val_main_cst_15]
  rw [Fin.sum_univ_one, rootr3, mean3]
  simp only [cols_at 1024 1024 _ x0 r _ (k2 _) rfl]
  rfl
theorem refdx3 : val_main_v74 (F := Ideal) x0 x3 x4 = dx3 x0 x3 x4 := by
  funext y
  idx_vars y
  pointwise [val_main_v2, val_main_v48, val_main_v54, val_main_v58, val_main_v59, val_main_v64, val_main_v65, val_main_v71, val_main_v72, val_main_v73, val_main_v74]
  rw [rootr3, share3]
  obtain ⟨e, he, h⟩ := eps_eq
  unfold dx3 backAll
  rw [show V2 = _ from w1024, show E = _ from h, half_eq]
  refine Eq.trans ?_ (back_eq (w := 1024) (by norm_num) he rfl (fun k => cols 1024 1024 (by decide) x0 (ix2 y0 k) * x4 (ix1 (k2 k))) (fun k => x3 (ix2 y0 k)) y1).symm
  rw [cols_at 1024 1024 _ x0 y0 _ (k2 _) rfl]
theorem refdg3 (l : Fin 1024) : val_main_v60 (F := Ideal) x0 x3 (ix1 l) = gain V2 E (cols 1024 1024 (by decide) x0) x3 l := by
  pointwise [val_main_v46, val_main_v47, val_main_v54, val_main_v55, val_main_v56, val_main_v57, val_main_v60, val_main_cst_11, val_main_cst_12]
  rw [Fin.sum_univ_one]
  refine Finset.sum_congr rfl fun r _ => ?_
  rw [rootr3, mul_comm]
  unfold gainTerm
  rw [cols_at 1024 1024 _ x0 r _ (k2 _) rfl]

theorem refdg : val_main_v116 (F := Ideal) x0 x1 x2 x3 = dg x0 x1 x2 x3 := by
  funext y
  idx_vars y
  show _ = gains x0 x1 x2 x3 y1
  pointwise [val_main_v116]
  unfold gains
  revert y1
  refine column_cases (fun l => ?_) (fun l => ?_) (fun l => ?_)
  · rw [side0, ← refdg1]
    pointwise [val_main_v115]
  · rw [side1, ← refdg2]
    pointwise [val_main_v115]
  · rw [side2, ← refdg3]
    pointwise [val_main_v115]
    rw [dif_neg (by omega), dif_neg (by omega)]
    exact congrArg (fun k => val_main_v60 (F := Ideal) x0 x3 (ix1 k)) (Fin.ext (by show 1024 + l.val - 512 - 512 = l.val; omega))

end Reference

/-! ## The statements -/

theorem frame_kernel : Cert.quiescent_KernelMixBwd (hKernelMixBwd := Cert.KernelMixBwd.Gen.facts) :=
  fun m ρ _ => Cert.KernelMixBwd.Gen.frame m ρ
theorem frame_kernel_ideal : Cert.quiescent_KernelMixBwdIdeal (hKernelMixBwdIdeal := Cert.KernelMixBwdIdeal.Gen.facts) :=
  fun m ρ _ => Cert.KernelMixBwdIdeal.Gen.frame m ρ
theorem frame_reference : Cert.quiescent_ReferenceMixBwdIdeal (hReferenceMixBwdIdeal := Cert.ReferenceMixBwdIdeal.Gen.facts) :=
  fun m ρ _ => (θ_run _ _ _).mono (fun r h => ⟨fun c => (h c).2.2.2.2, sem_eq_zero_of_no_sems rfl r.2⟩)
    (Cert.ReferenceMixBwdIdeal.Value.run m ρ)

theorem equal : Cert.algebraic_KernelMixBwdIdeal_ReferenceMixBwdIdeal (hKernelMixBwdIdeal := Cert.KernelMixBwdIdeal.Gen.facts)
    (hReferenceMixBwdIdeal := Cert.ReferenceMixBwdIdeal.Gen.facts) := by
  intro m g m' g' _ hagree
  refine ⟨fun c => dx1 (a0 m c) (a1 m c) (a4 m c), fun c => dx2 (a0 m c) (a2 m c) (a4 m c), fun c => dx3 (a0 m c) (a3 m c) (a4 m c),
    fun c => dg (a0 m c) (a1 m c) (a2 m c) (a3 m c), ?_, ?_⟩
  · exact (θ_run _ _ _).mono (fun r h c => ⟨(h c).1.trans (arr5 m c), (h c).2.1.trans (arr6 m c), (h c).2.2.1.trans (arr7 m c),
      (h c).2.2.2.1.trans (arr8 m c), (h c).2.2.2.2⟩) (Cert.KernelMixBwdIdeal.Value.run_blocks m g)
  · refine (θ_run _ _ _).mono (fun r h c => ?_) (Cert.ReferenceMixBwdIdeal.Value.run m' g')
    obtain ⟨h0, h1, h2, h3, h4⟩ := hagree c
    refine ⟨(h c).1.trans ?_, (h c).2.1.trans ?_, (h c).2.2.1.trans ?_, (h c).2.2.2.1.trans ?_, (h c).2.2.2.2⟩
    · rw [Cert.ReferenceMixBwdIdeal.Read.val_main_v114_eq, h0, h1, h4]
      exact refdx1 _ _ _
    · rw [Cert.ReferenceMixBwdIdeal.Read.val_main_v94_eq, h0, h2, h4]
      exact refdx2 _ _ _
    · rw [Cert.ReferenceMixBwdIdeal.Read.val_main_v74_eq, h0, h3, h4]
      exact refdx3 _ _ _
    · rw [Cert.ReferenceMixBwdIdeal.Read.val_main_v116_eq, h0, h1, h2, h3]
      exact refdg _ _ _ _

end Cert.MixBwd

end
-- ==== Proof.ActFwd.lean ====
module

public import proofs.«01_k».proof.Defs
public import proofs.«01_k».proof.Proof.Ref
public import proofs.«01_k».proof.Proof.Chunks
public import proofs.«01_k».proof.Proof.Gen.KernelActFwd.Frame
public import proofs.«01_k».proof.Proof.Gen.KernelActFwdIdeal.Frame
public import proofs.«01_k».proof.Proof.Gen.KernelActFwdIdeal.Value
public import proofs.«01_k».proof.Proof.Gen.ReferenceActFwdIdeal.Read
public import proofs.«01_k».proof.Proof.Gen.ReferenceActFwdIdeal.Run
public import Idealize.ShloMosaic.Lib.Pipeline.ValueKit
public import Idealize.ShloMosaic.Lib.Pipeline.ReadBack
public import Idealize.ShloMosaic.Lib.Quiescent
public import Idealize.ShloMosaic.Lib.Tactic

/-!
The activation between the feed-forward layer's two products.
-/

@[expose] public section

set_option maxRecDepth 16384

noncomputable section

namespace Cert.ActFwd

open Idealize.ShloMosaic Idealize.ShloMosaic.TcCoe Idealize.ShloMosaic.Tactic Idealize.SL.Sem
open Cert.KernelActFwdIdeal Cert.KernelActFwdIdeal.Gen

open Cert.KernelIdeal.Gate (Mat Taps Row row prev half sgm conv3 conv logis row_lt ext tap0 tap1 tap2 bias gateC ext_at gateC_at tap0_at tap1_at
  tap2_at bias_at cur3_at prev1_at prev2_at pay10_at pay25_at pay26_at pay27_at top top_at top1_at top2_at gate0_at)
open Cert.ReferenceIdeal.Read (rowOf prevOf convAt gcol ucol)

/-! ## The gate, over the extended reals -/

/-- The logistic function by the hyperbolic tangent and as a quotient agree, at the two infinities too. -/
theorem sgm_logis (g : EReal) : sgm g = logis g := by
  induction g with
  | bot =>
    unfold sgm
    rw [Cert.KernelIdeal.Gate.half_eq, EReal.coe_mul_bot_of_pos (by norm_num), Ideal.tanh_bot]
    refine Eq.trans ?_ Ideal.logistic_bot.symm
    rw [show (-1 : EReal) = ((-1 : ℝ) : EReal) from rfl, ← EReal.coe_mul, ← EReal.coe_add]
    norm_num
  | top =>
    unfold sgm
    rw [Cert.KernelIdeal.Gate.half_eq, EReal.coe_mul_top_of_pos (by norm_num), Ideal.tanh_top]
    refine Eq.trans ?_ Ideal.logistic_top.symm
    rw [show (1 : EReal) = ((1 : ℝ) : EReal) from rfl, ← EReal.coe_mul, ← EReal.coe_add]
    norm_num
  | coe g => exact Cert.KernelIdeal.Gate.sgm_eq g

/-- The activation at one element. -/
def act (g u : EReal) : EReal := (g * sgm g) * u

/-- The activation of a block at a row. -/
def actAt (pg pu : Mat) (wg wu : Taps) (bg bu : Row) (r : ℕ) (l : Fin 256) : EReal := act (conv pg wg bg r l) (conv pu wu bu r l)

/-! ## What the body computes -/

section Body

variable (v : Vec Ideal S256x256 .f32) (r l : Fin 256)

theorem pay2_at (g x0 x1 x2 : FVec Ideal S256x256 .f32) (b : FVec Ideal S1x256 .f32) (w0 w1 w2 : Vec Ideal S1x256 .f32) :
    k0_pay2 g x0 x1 x2 b w0 w1 w2 (ix2 r l) = act (g (ix2 r l))
      (conv3 (b (ix2 0 l)) (w0 (ix2 0 l)) (w1 (ix2 0 l)) (w2 (ix2 0 l)) (x2 (ix2 r l)) (x1 (ix2 r l)) (x0 (ix2 r l))) := by
  pointwise [k0_pay2, act, sgm, half, conv3]
theorem pay1_at (g x1 : FVec Ideal S256x256 .f32) (b w0 w1 w2 : Vec Ideal S1x256 .f32) :
    k0_pay1 g v x1 k0_pay10 2#32 b w0 w1 w2 (ix2 r l) = act (g (ix2 r l))
      (conv3 (b (ix2 0 l)) (w0 (ix2 0 l)) (w1 (ix2 0 l)) (w2 (ix2 0 l)) (Cert.KernelIdeal.Gen.k0_pay26 v (ix2 r l)) (x1 (ix2 r l)) (v (ix2 r l))) := by
  pointwise [k0_pay1, k0_pay10, Cert.KernelIdeal.Gen.k0_pay26, act, sgm, half, conv3]

end Body

section Chunks

variable (pg pu : Mat) (wg wu : Taps) (bg bu : Row)

/-- What the body stores of the first rows, and what a trip of its loop stores. -/
def first : Vec Ideal S256x256 .bf16 :=
  k0_pay1 (k0_pay8 (top pg) (bias bg) (tap0 wg) (tap1 wg) (tap2 wg)) (top pu) (k0_pay9 (top pu)) k0_pay10 2#32 (bias bu) (tap0 wu) (tap1 wu) (tap2 wu)
def trip (k : Fin k0_t1_loop.trips) : Vec Ideal S256x256 .bf16 :=
  k0_pay2 (k0_pay3 (ext pg k) (bias bg) (tap0 wg) (tap1 wg) (tap2 wg)) (k0_pay4 (ext pu k)) (k0_pay5 (ext pu k)) (k0_pay6 (ext pu k))
    (k0_pay7 (bias bu)) (tap0 wu) (tap1 wu) (tap2 wu)

theorem first_at (r l : Fin 256) : first pg pu wg wu bg bu (ix2 r l) = actAt pg pu wg wu bg bu r.val l := by
  have e : k0_pay8 (top pg) (bias bg) (tap0 wg) (tap1 wg) (tap2 wg) (ix2 r l) = conv pg wg bg r.val l := gate0_at pg wg bg r l
  have e1 : k0_pay9 (top pu) (ix2 r l) = prev pu 1 r.val l := top1_at r l pu
  rw [first, pay1_at, e, e1, top2_at, top_at, bias_at, tap0_at, tap1_at, tap2_at]
  rfl
theorem trip_at (k : Fin k0_t1_loop.trips) (r l : Fin 256) :
    trip pg pu wg wu bg bu k (ix2 r l) = actAt pg pu wg wu bg bu (256 * (k.val + 1) + r.val) l := by
  rw [trip, pay2_at, tap0_at, tap1_at, tap2_at]
  refine congrArg₂ act (gateC_at pg wg bg k r l) ?_
  have h0 := cur3_at pu k l r
  have h1 := prev1_at pu k l r
  have h2 := prev2_at pu k l r
  have h3 : k0_pay7 (bias bu) (ix2 0 l) = bu (ix2 0 l) := (congrFun (pay10_at (bias bu)) (ix2 0 l)).trans (bias_at bu l)
  unfold conv
  rw [← h0, ← h1, ← h2, h3]
  rfl

/-- The block: the activation at every row. -/
def block : Vec Ideal S4096x256 .bf16 := fun y => actAt pg pu wg wu bg bu (y 0).val (y 1)

theorem first_piece (x : S256x256.Idx) : first pg pu wg wu bg bu x
    = block pg pu wg wu bg bu ((Rect.unit (s := S4096x256) ![0, 0] S256x256.size inb_S4096x256_S256x256_0_0).emb x) := by
  idx_vars x
  refine (first_at pg pu wg wu bg bu x0 x1).trans (congrArg₂ (actAt pg pu wg wu bg bu) ?_ (Fin.ext ?_))
  · show x0.val = 0 + 1 * x0.val; omega
  · show x1.val = 0 + 1 * x1.val; omega
theorem trip_piece (k : Fin k0_t1_loop.trips) (x : S256x256.Idx) : trip pg pu wg wu bg bu k x
    = block pg pu wg wu bg bu ((Rect.unit (s := S4096x256) (k0_off2 k) S256x256.size (k0_off2_inb k)).emb x) := by
  idx_vars x
  refine (trip_at pg pu wg wu bg bu k x0 x1).trans (congrArg₂ (actAt pg pu wg wu bg bu) ?_ (Fin.ext ?_))
  · refine Eq.trans ?_ (congrArg (· + 1 * x0.val) (congrFun (k0_off2_eq k) 0)).symm
    show 256 * (k.val + 1) + x0.val = 256 * k.val + 256 + 1 * x0.val; omega
  · refine Eq.trans ?_ (congrArg (· + 1 * x1.val) (congrFun (k0_off2_eq k) 1)).symm
    show x1.val = 0 + 1 * x1.val; omega

end Chunks

/-! ## The loop -/

section Loop

variable (𝒱 : Variants) (c : Dev nD) (bd : Option 𝒱.V) (i : grid0.Coords) (arg1 : Memref sig .tc .vmem S4096x256 .f32)
    (harg1 : arg1.IsWhole) (arg2 : Memref sig .tc .vmem S4096x256 .f32) (harg2 : arg2.IsWhole) (arg3 : Memref
    sig .tc .vmem S3x256 .f32) (harg3 : arg3.IsWhole) (arg4 : Memref sig .tc .vmem S3x256 .f32) (harg4 : arg4.IsWhole)
    (arg5 : Memref sig .tc .vmem S1x256 .f32) (harg5 : arg5.IsWhole) (arg6 : Memref sig .tc .vmem S1x256 .f32)
    (harg6 : arg6.IsWhole) (arg7 : Memref sig .tc .vmem S4096x256 .bf16) (harg7 : arg7.IsWhole)
    (X_arg1 : BufTy.Contents (Elt Ideal) arg1.view.ty) (X_arg2 : BufTy.Contents (Elt Ideal) arg2.view.ty)
    (X_arg3 : BufTy.Contents (Elt Ideal) arg3.view.ty) (X_arg4 : BufTy.Contents (Elt Ideal) arg4.view.ty)
    (X_arg5 : BufTy.Contents (Elt Ideal) arg5.view.ty) (X_arg6 : BufTy.Contents (Elt Ideal) arg6.view.ty)

theorem trip_pieces (k : Fin k0_t1_loop.trips) :
    tripL_k0_t1 (F := Ideal) 𝒱 c bd i arg1 harg1 arg2 harg2 arg3 harg3 arg4 harg4 arg5 harg5 arg6 harg6 arg7 harg7
      X_arg1 X_arg2 X_arg3 X_arg4 X_arg5 X_arg6 k
      = [⟨Rect.unit (s := S4096x256) (k0_off2 k) S256x256.size (k0_off2_inb k),
          trip (arg1.view.read (Elt Ideal) X_arg1) (arg2.view.read (Elt Ideal) X_arg2) (arg3.view.read (Elt Ideal) X_arg3)
            (arg4.view.read (Elt Ideal) X_arg4) (arg5.view.read (Elt Ideal) X_arg5) (arg6.view.read (Elt Ideal) X_arg6) k⟩] := by
  unfold tripL_k0_t1 trip_k0_t1; rfl

theorem loop_pieces {pg pu : Mat} {wg wu : Taps} {bg bu : Row} (h1 : arg1.view.read (Elt Ideal) X_arg1 = pg)
    (h2 : arg2.view.read (Elt Ideal) X_arg2 = pu) (h3 : arg3.view.read (Elt Ideal) X_arg3 = wg) (h4 : arg4.view.read (Elt Ideal) X_arg4 = wu)
    (h5 : arg5.view.read (Elt Ideal) X_arg5 = bg) (h6 : arg6.view.read (Elt Ideal) X_arg6 = bu) : ∀ n : ℕ, View.PiecesOf
    (block pg pu wg wu bg bu)
    (pb_k0_t1 (F := Ideal) 𝒱 c bd i arg1 harg1 arg2 harg2 arg3 harg3 arg4 harg4 arg5 harg5 arg6 harg6 arg7 harg7
      X_arg1 X_arg2 X_arg3 X_arg4 X_arg5 X_arg6 n)
  | 0 => trivial
  | n + 1 => by
    by_cases h : n < k0_t1_loop.trips
    · rw [pb_k0_t1_succ (F := Ideal) 𝒱 c bd i arg1 harg1 arg2 harg2 arg3 harg3 arg4 harg4 arg5 harg5 arg6 harg6 arg7 harg7
        X_arg1 X_arg2 X_arg3 X_arg4 X_arg5 X_arg6 ⟨n, h⟩, trip_pieces, h1, h2, h3, h4, h5, h6]
      exact ⟨trip_piece _ _ _ _ _ _ ⟨n, h⟩, loop_pieces h1 h2 h3 h4 h5 h6 n⟩
    · rw [pb_k0_t1.eq_2]
      unfold pb_k0_t1Step
      rw [dif_neg h]
      exact loop_pieces h1 h2 h3 h4 h5 h6 n

end Loop

variable (m : (ℓ : Loc nD τ sig) → Buf (Elt Ideal) ℓ) (c : Dev nD) (t : Fin cfg0.N)

/-- The arguments. -/
abbrev a0 : Vec Ideal S4096x11264 .f32 := m ((c : Thread nD τ).loc main_arg0)
abbrev a1 : Vec Ideal S3x11264 .f32 := m ((c : Thread nD τ).loc main_arg1)
abbrev a2 : Vec Ideal S11264 .f32 := m ((c : Thread nD τ).loc main_arg2)

theorem PiecesOf.append {S : Shape} {e : EltTy} {G : S.Idx → Elt Ideal e} : ∀ {L L' : List (View.Piece (Elt Ideal) S e)},
    View.PiecesOf G L → View.PiecesOf G L' → View.PiecesOf G (L ++ L')
  | [], _, _, h' => h'
  | _ :: _, _, h, h' => ⟨h.1, PiecesOf.append h.2 h'⟩

/-- A point leaves the activation of its block. -/
theorem out_eq : outsAt0 m c t = block (iblk m c 0 t) (iblk m c 1 t) (iblk m c 2 t) (iblk m c 3 t) (iblk m c 4 t) (iblk m c 5 t) := by
  funext y
  have hc := cover0_A_6 c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (iblk m c 0 t) (iblk m c 1 t) (iblk m c 2 t) (iblk m c 3 t) (iblk m c 4 t) (iblk m c 5 t) y
  unfold outsAt0 out0_A_6
  refine (View.read_writes_apply_eq_canon _ _ y _ hc).trans ?_
  refine (congrFun (congrArg View.canon (List.append_nil _).symm) y).trans (View.canon_append_of_piecesOf _ [] _ ?_ y hc)
  unfold kernelRun0_A
  dsimp only
  refine PiecesOf.append (e := .bf16) ?_ ⟨?_, trivial⟩
  · exact loop_pieces _ _ _ _ _ _ _ _ _ _ _ _ _ _ _ _ _ _ _ _ _ _ _ _ ((hs0_0 t).read_unread (iblk m c 0 t))
      ((hs0_1 t).read_unread (iblk m c 1 t))
      ((hs0_2 t).read_unread (iblk m c 2 t))
      ((hs0_3 t).read_unread (iblk m c 3 t))
      ((hs0_4 t).read_unread (iblk m c 4 t))
      ((hs0_5 t).read_unread (iblk m c 5 t)) _
  · intro x
    refine Eq.trans (congrFun (Eq.trans (b := first ((ms0_0 t).view.read (Elt Ideal) ((hs0_0 t).unread (iblk m c 0 t)))
      ((ms0_1 t).view.read (Elt Ideal) ((hs0_1 t).unread (iblk m c 1 t)))
      ((ms0_2 t).view.read (Elt Ideal) ((hs0_2 t).unread (iblk m c 2 t)))
      ((ms0_3 t).view.read (Elt Ideal) ((hs0_3 t).unread (iblk m c 3 t)))
      ((ms0_4 t).view.read (Elt Ideal) ((hs0_4 t).unread (iblk m c 4 t)))
      ((ms0_5 t).view.read (Elt Ideal) ((hs0_5 t).unread (iblk m c 5 t)))) rfl ?_) x) (first_piece _ _ _ _ _ _ x)
    rw [(hs0_0 t).read_unread (iblk m c 0 t),
      (hs0_1 t).read_unread (iblk m c 1 t),
      (hs0_2 t).read_unread (iblk m c 2 t),
      (hs0_3 t).read_unread (iblk m c 3 t),
      (hs0_4 t).read_unread (iblk m c 4 t),
      (hs0_5 t).read_unread (iblk m c 5 t)]

/-- Each window's block at a point. -/
theorem index0 : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val + 22]
    ∧ win0_6.index t = ![0, t.val] := by decide +kernel

/-- A column of a block in its array. -/
theorem t_lt : t.val < 22 := t.isLt
abbrev jc (l : Fin 256) : Fin 5632 := ⟨t.val * 256 + l.val, by have := t_lt t; omega⟩

theorem blk0 (r : Fin 4096) (l : Fin 256) : iblk m c 0 t (ix2 r l) = a0 m c (ix2 r (gcol (jc t l))) := by
  blk_ext! [iblk, V, (index0 t).1]
theorem blk1 (r : Fin 4096) (l : Fin 256) : iblk m c 1 t (ix2 r l) = a0 m c (ix2 r (ucol (jc t l))) := by
  blk_ext! [iblk, V, (index0 t).2.1]
theorem blk2 (i : Fin 3) (l : Fin 256) : iblk m c 2 t (ix2 i l) = a1 m c (ix2 i (gcol (jc t l))) := by
  blk_ext! [iblk, V, (index0 t).2.2.1]
theorem blk3 (i : Fin 3) (l : Fin 256) : iblk m c 3 t (ix2 i l) = a1 m c (ix2 i (ucol (jc t l))) := by
  blk_ext! [iblk, V, (index0 t).2.2.2.1]
theorem blk4 (l : Fin 256) : iblk m c 4 t (ix2 (0 : Fin 1) l) = a2 m c (ix1 (gcol (jc t l))) := by
  blk_ext! [iblk, V, (index0 t).2.2.2.2.1]
theorem blk5 (l : Fin 256) : iblk m c 5 t (ix2 (0 : Fin 1) l) = a2 m c (ix1 (ucol (jc t l))) := by
  blk_ext! [iblk, V, (index0 t).2.2.2.2.2.1]

theorem row0 (r : ℕ) (l : Fin 256) : row (iblk m c 0 t) r l = rowOf (a0 m c) r (gcol (jc t l)) := by
  unfold row rowOf; split
  · exact blk0 m c t _ l
  · rfl
theorem row1 (r : ℕ) (l : Fin 256) : row (iblk m c 1 t) r l = rowOf (a0 m c) r (ucol (jc t l)) := by
  unfold row rowOf; split
  · exact blk1 m c t _ l
  · rfl
theorem prev0 (d r : ℕ) (l : Fin 256) : prev (iblk m c 0 t) d r l = prevOf (a0 m c) d r (gcol (jc t l)) := by
  unfold prev prevOf; rw [row0]
theorem prev1 (d r : ℕ) (l : Fin 256) : prev (iblk m c 1 t) d r l = prevOf (a0 m c) d r (ucol (jc t l)) := by
  unfold prev prevOf; rw [row1]

theorem convG (r : ℕ) (l : Fin 256) :
    conv (iblk m c 0 t) (iblk m c 2 t) (iblk m c 4 t) r l = convAt (a0 m c) (a1 m c) (a2 m c) r (gcol (jc t l)) := by
  unfold conv convAt
  rw [blk2 m c t, blk2 m c t, blk2 m c t, blk4 m c t, prev0, prev0, row0]
theorem convU (r : ℕ) (l : Fin 256) :
    conv (iblk m c 1 t) (iblk m c 3 t) (iblk m c 5 t) r l = convAt (a0 m c) (a1 m c) (a2 m c) r (ucol (jc t l)) := by
  unfold conv convAt
  rw [blk3 m c t, blk3 m c t, blk3 m c t, blk5 m c t, prev1, prev1, row1]

/-- The result: the gate's convolution times its logistic, times the other factor's convolution. -/
def out (p : Vec Ideal S4096x11264 .f32) (w : Vec Ideal S3x11264 .f32) (b : Vec Ideal S11264 .f32) : S4096x5632.Idx → EReal := fun y =>
  act (convAt p w b (y 0).val (gcol (y 1))) (convAt p w b (y 0).val (ucol (y 1)))

theorem out_at (r : Fin 4096) (l : Fin 256) : outsAt0 m c t (ix2 r l) = out (a0 m c) (a1 m c) (a2 m c) (ix2 r (jc t l)) :=
  (congrFun (out_eq m c t) (ix2 r l)).trans (congrArg₂ act (convG m c t r.val l) (convU m c t r.val l))

/-- The kernel's result. -/
theorem arr : (dats m 0 c).arrAt 6 cfg0.N = out (a0 m c) (a1 m c) (a2 m c) := by
  refine (dats m 0 c).arrAt_eq_of_covers 6 _ (by decide +kernel) fun t hf y => ?_
  blk_simp
  rw [after0_6]
  idx_vars y
  refine (out_at m c t _ _).trans (congrArg (out (a0 m c) (a1 m c) (a2 m c)) ?_)
  blk_ext! [(index0 t).2.2.2.2.2.2]

/-! ## The reference -/

section Reference

variable (x0 : Vec Ideal S4096x11264 .f32) (x1 : Vec Ideal S3x11264 .f32) (x2 : Vec Ideal S11264 .f32) (r : Fin 4096) (k : Fin 11264)
  (j : Fin 5632)

open Cert.ReferenceActFwdIdeal.Read

theorem v1_at (q : Fin 4098) : val_main_v1 (F := Ideal) x0 (ix2 q k) = prevOf x0 2 q.val k := by
  unfold prevOf rowOf
  pointwise [val_main_v1, val_main_v0, val_main_cst]
  split
  · rfl
  · rw [dif_pos (by omega)]
theorem v20_at : val_main_v20 (F := Ideal) x0 (ix2 r k) = rowOf x0 r.val k := by
  pointwise [val_main_v20]
  rw [v1_at]
  show (if 2 + r.val < 2 then 0 else rowOf x0 (2 + r.val - 2) k) = _
  rw [if_neg (by omega), Nat.add_sub_cancel_left]
theorem v13_at : val_main_v13 (F := Ideal) x0 (ix2 r k) = prevOf x0 1 r.val k := by
  pointwise [val_main_v13]
  rw [v1_at]
  show (if 1 + r.val < 2 then 0 else rowOf x0 (1 + r.val - 2) k) = if r.val < 1 then 0 else rowOf x0 (r.val - 1) k
  by_cases h : r.val < 1
  · rw [if_pos h, if_pos (by omega)]
  · rw [if_neg h, if_neg (by omega), show 1 + r.val - 2 = r.val - 1 by omega]
theorem v4_at : val_main_v4 (F := Ideal) x0 (ix2 r k) = prevOf x0 2 r.val k := by
  pointwise [val_main_v4]
  rw [v1_at]
theorem v24_at : val_main_v24 (F := Ideal) x0 x1 x2 (ix2 r k) = convAt x0 x1 x2 r.val k := by
  pointwise [val_main_v24, val_main_v23, val_main_v22, val_main_v21, val_main_v19, val_main_v18, val_main_v17, val_main_v16,
    val_main_v15, val_main_v14, val_main_v12, val_main_v11, val_main_v10, val_main_v9, val_main_v8, val_main_v7, val_main_v6,
    val_main_v5, val_main_v3, val_main_v2]
  rw [v20_at, v13_at, v4_at]
  rfl
theorem v25_at : val_main_v25 (F := Ideal) x0 x1 x2 (ix2 r j) = convAt x0 x1 x2 r.val (gcol j) := by
  pointwise [val_main_v25]
  rw [v24_at]
theorem v26_at : val_main_v26 (F := Ideal) x0 x1 x2 (ix2 r j) = convAt x0 x1 x2 r.val (ucol j) := by
  pointwise [val_main_v26]
  rw [v24_at]

/-- The reference's result. -/
theorem ref : val_main_v29 (F := Ideal) x0 x1 x2 = out x0 x1 x2 := by
  funext y
  idx_vars y
  pointwise [val_main_v29, val_main_v28, val_main_v27, val_main_call0_v5, val_main_call0_v4, val_main_call0_v3, val_main_call0_v2,
    val_main_call0_v1, val_main_call0_v0, val_main_call0_cst, val_main_call0_cst_0]
  rw [v25_at, v26_at]
  unfold out act
  rw [sgm_logis]
  rfl

end Reference

theorem frame_kernel : Cert.quiescent_KernelActFwd (hKernelActFwd := Cert.KernelActFwd.Gen.facts) :=
  fun m ρ _ => Cert.KernelActFwd.Gen.frame m ρ
theorem frame_kernel_ideal : Cert.quiescent_KernelActFwdIdeal (hKernelActFwdIdeal := Cert.KernelActFwdIdeal.Gen.facts) :=
  fun m ρ _ => Cert.KernelActFwdIdeal.Gen.frame m ρ
theorem frame_reference : Cert.quiescent_ReferenceActFwdIdeal (hReferenceActFwdIdeal := Cert.ReferenceActFwdIdeal.Gen.facts) :=
  fun m ρ _ => (θ_run _ _ _).mono (fun r h => ⟨fun c => (h c).2, sem_eq_zero_of_no_sems rfl r.2⟩)
    (Cert.ReferenceActFwdIdeal.Value.run m ρ)

theorem equal : Cert.algebraic_KernelActFwdIdeal_ReferenceActFwdIdeal (hKernelActFwdIdeal := Cert.KernelActFwdIdeal.Gen.facts)
    (hReferenceActFwdIdeal := Cert.ReferenceActFwdIdeal.Gen.facts) := by
  intro m g m' g' _ hagree
  refine ⟨fun c => out (a0 m c) (a1 m c) (a2 m c), ?_, ?_⟩
  · exact (θ_run _ _ _).mono (fun r h c => ⟨(h c).1.trans (arr m c), (h c).2⟩) (Cert.KernelActFwdIdeal.Value.run_blocks m g)
  · refine (θ_run _ _ _).mono (fun r h c => ⟨(h c).1.trans ?_, (h c).2⟩) (Cert.ReferenceActFwdIdeal.Value.run m' g')
    obtain ⟨h0, h1, h2⟩ := hagree c
    rw [Cert.ReferenceActFwdIdeal.Read.val_main_v29_eq, h0, h1, h2]
    exact ref _ _ _

end Cert.ActFwd

end
-- ==== Proof.NormFwd.lean ====
module

public import proofs.«01_k».proof.Defs
public import proofs.«01_k».proof.Proof.Norm
public import proofs.«01_k».proof.Proof.Gen.KernelNormFwd.Frame
public import proofs.«01_k».proof.Proof.Gen.KernelNormFwdIdeal.Frame
public import proofs.«01_k».proof.Proof.Gen.KernelNormFwdIdeal.Value
public import proofs.«01_k».proof.Proof.Gen.ReferenceNormFwdIdeal.Read
public import proofs.«01_k».proof.Proof.Gen.ReferenceNormFwdIdeal.Run
public import Idealize.ShloMosaic.Lib.Pipeline.ValueKit
public import Idealize.ShloMosaic.Lib.Quiescent
public import Idealize.ShloMosaic.Lib.Tactic

/-!
A layer's norm.
-/

@[expose] public section

set_option maxRecDepth 16384

noncomputable section

namespace Cert.NormFwd

open Idealize.ShloMosaic Idealize.ShloMosaic.TcCoe Idealize.ShloMosaic.Tactic Idealize.SL.Sem
open Cert.KernelNormFwdIdeal Cert.KernelNormFwdIdeal.Gen Cert.Product Cert.Norm

variable (m : (ℓ : Loc nD τ sig) → Buf (Elt Ideal) ℓ) (c : Dev nD) (t : Fin cfg0.N)

/-- The arguments, and the blocks of them a point reads. -/
abbrev a0 : Vec Ideal S4096x2048 .f32 := m ((c : Thread nD τ).loc main_arg0)
abbrev a1 : Vec Ideal S2048 .f32 := m ((c : Thread nD τ).loc main_arg1)
abbrev b0 : Vec Ideal S512x2048 .f32 := iblk m c 0 t
abbrev b1 : Vec Ideal S1x2048 .f32 := iblk m c 1 t

/-- The row's length and the small constant. -/
abbrev W : EReal := Ideal.ofBits .f32 0x45000000#32
abbrev E : EReal := Ideal.ofBits .f32 0x358637BD#32

theorem out_at (r : Fin 512) (l : Fin 2048) :
    out0_2 (b0 m c t) (b1 m c t) (ix2 r l) = normed W E (b0 m c t) (fun k => b1 m c t (ix2 0 k)) (ix2 r l) := by
  frame_out
  pointwise [k0_pay1]
  rfl

/-- Each window's block at a point. -/
theorem index0 : ∀ t : Fin cfg0.N, win0_0.index t = ![t.val, 0] ∧ win0_1.index t = ![0, 0] ∧ win0_2.index t = ![t.val, 0] := by
  decide +kernel

abbrev row (r : Fin 512) : Fin 4096 := ⟨t.val * 512 + r.val, by have : t.val < 8 := t.isLt; omega⟩

theorem blk0 (r : Fin 512) (k : Fin 2048) : b0 m c t (ix2 r k) = a0 m c (ix2 (row t r) k) := by
  blk_ext! [iblk, V, (index0 t).1]
theorem blk1 (k : Fin 2048) : b1 m c t (ix2 0 k) = a1 m c (ix1 k) := by
  blk_ext! [iblk, V, (index0 t).2.1]

/-- The result. -/
def out (x : Vec Ideal S4096x2048 .f32) (g : Vec Ideal S2048 .f32) : S4096x2048.Idx → EReal := normed W E x (fun k => g (ix1 k))

/-- The kernel's result. -/
theorem arr : (dats m 0 c).arrAt 2 cfg0.N = out (a0 m c) (a1 m c) := by
  refine (dats m 0 c).arrAt_eq_of_covers 2 _ (by decide +kernel) fun t hf y => ?_
  blk_simp
  rw [after0_2]
  idx_vars y
  refine (out_at m c t _ _).trans ((normed_block W E (blk0 m c t) (blk1 m c t) _ _).trans (congrArg (out (a0 m c) (a1 m c)) ?_))
  blk_ext! [(index0 t).2.2]

/-- The reference's result. -/
theorem ref (x0 : Vec Ideal S4096x2048 .f32) (x1 : Vec Ideal S2048 .f32) :
    Cert.ReferenceNormFwdIdeal.Read.val_main_v13 (F := Ideal) x0 x1 = out x0 x1 := by
  funext y
  idx_vars y
  pointwise [Cert.ReferenceNormFwdIdeal.Read.val_main_v13, Cert.ReferenceNormFwdIdeal.Read.val_main_v12, Cert.ReferenceNormFwdIdeal.Read.val_main_v11, Cert.ReferenceNormFwdIdeal.Read.val_main_v10, Cert.ReferenceNormFwdIdeal.Read.val_main_v9, Cert.ReferenceNormFwdIdeal.Read.val_main_v8, Cert.ReferenceNormFwdIdeal.Read.val_main_v7, Cert.ReferenceNormFwdIdeal.Read.val_main_v6, Cert.ReferenceNormFwdIdeal.Read.val_main_v5, Cert.ReferenceNormFwdIdeal.Read.val_main_v4, Cert.ReferenceNormFwdIdeal.Read.val_main_v3, Cert.ReferenceNormFwdIdeal.Read.val_main_v2, Cert.ReferenceNormFwdIdeal.Read.val_main_v1, Cert.ReferenceNormFwdIdeal.Read.val_main_v0, Cert.ReferenceNormFwdIdeal.Read.val_main_cst, Cert.ReferenceNormFwdIdeal.Read.val_main_cst_0, Cert.ReferenceNormFwdIdeal.Read.val_main_cst_1]
  rfl

theorem frame_kernel : Cert.quiescent_KernelNormFwd (hKernelNormFwd := Cert.KernelNormFwd.Gen.facts) :=
  fun m ρ _ => Cert.KernelNormFwd.Gen.frame m ρ
theorem frame_kernel_ideal : Cert.quiescent_KernelNormFwdIdeal (hKernelNormFwdIdeal := Cert.KernelNormFwdIdeal.Gen.facts) :=
  fun m ρ _ => Cert.KernelNormFwdIdeal.Gen.frame m ρ
theorem frame_reference : Cert.quiescent_ReferenceNormFwdIdeal (hReferenceNormFwdIdeal := Cert.ReferenceNormFwdIdeal.Gen.facts) :=
  fun m ρ _ => (θ_run _ _ _).mono (fun r h => ⟨fun c => ⟨(h c).2.1, (h c).2.2⟩, sem_eq_zero_of_no_sems rfl r.2⟩)
    (Cert.ReferenceNormFwdIdeal.Value.run m ρ)

theorem equal : Cert.algebraic_KernelNormFwdIdeal_ReferenceNormFwdIdeal (hKernelNormFwdIdeal := Cert.KernelNormFwdIdeal.Gen.facts)
    (hReferenceNormFwdIdeal := Cert.ReferenceNormFwdIdeal.Gen.facts) := by
  intro m g m' g' _ hagree
  refine ⟨fun c => out (a0 m c) (a1 m c), ?_, ?_⟩
  · exact (θ_run _ _ _).mono (fun r h c => ⟨(h c).1.trans (arr m c), (h c).2⟩) (Cert.KernelNormFwdIdeal.Value.run_blocks m g)
  · refine (θ_run _ _ _).mono (fun r h c => ⟨(h c).1.trans ?_, (h c).2⟩) (Cert.ReferenceNormFwdIdeal.Value.run m' g')
    rw [Cert.ReferenceNormFwdIdeal.Read.val_main_v13_eq]
    exact (ref _ _).trans (congrArg₂ out (hagree c).1 (hagree c).2)

end Cert.NormFwd

end
-- ==== Proof.MixFwd.lean ====
module

public import proofs.«01_k».proof.Defs
public import proofs.«01_k».proof.Proof.Norm
public import proofs.«01_k».proof.Proof.Columns
public import proofs.«01_k».proof.Proof.Gen.KernelMixFwd.Frame
public import proofs.«01_k».proof.Proof.Gen.KernelMixFwdIdeal.Frame
public import proofs.«01_k».proof.Proof.Gen.KernelMixFwdIdeal.Value
public import proofs.«01_k».proof.Proof.Gen.ReferenceMixFwdIdeal.Read
public import proofs.«01_k».proof.Proof.Gen.ReferenceMixFwdIdeal.Run
public import Idealize.ShloMosaic.Lib.Pipeline.ValueKit
public import Idealize.ShloMosaic.Lib.Quiescent
public import Idealize.ShloMosaic.Lib.Tactic

/-!
The norm of three mixtures, each of its own width, side by side.
-/

@[expose] public section

set_option maxRecDepth 16384

noncomputable section

namespace Cert.MixFwd

open Idealize.ShloMosaic Idealize.ShloMosaic.TcCoe Idealize.ShloMosaic.Tactic Idealize.SL.Sem
open Cert.KernelMixFwdIdeal Cert.KernelMixFwdIdeal.Gen Cert.Product Cert.Norm Cert.Columns

variable (m : (ℓ : Loc nD τ sig) → Buf (Elt Ideal) ℓ) (c : Dev nD) (t : Fin cfg0.N)

/-- The arguments, and the blocks of them a point reads. -/
abbrev a0 : Vec Ideal S4096x512 .f32 := m ((c : Thread nD τ).loc main_arg0)
abbrev a1 : Vec Ideal S4096x512 .f32 := m ((c : Thread nD τ).loc main_arg1)
abbrev a2 : Vec Ideal S4096x1024 .f32 := m ((c : Thread nD τ).loc main_arg2)
abbrev a3 : Vec Ideal S2048 .f32 := m ((c : Thread nD τ).loc main_arg3)
abbrev b0 : Vec Ideal S512x512 .f32 := iblk m c 0 t
abbrev b1 : Vec Ideal S512x512 .f32 := iblk m c 1 t
abbrev b2 : Vec Ideal S512x1024 .f32 := iblk m c 2 t
abbrev b3 : Vec Ideal S1x2048 .f32 := iblk m c 3 t

/-- The two widths and the small constant. -/
abbrev W : EReal := Ideal.ofBits .f32 0x44000000#32
abbrev V2 : EReal := Ideal.ofBits .f32 0x44800000#32
abbrev E : EReal := Ideal.ofBits .f32 0x358637BD#32

/-- The three norms side by side. -/
def mixed {R : ℕ} (x0 x1 : Mat R 512) (x2 : Mat R 1024) (g : Fin 2048 → EReal) (r : Fin R) : Fin 2048 → EReal :=
  side (fun l => normed W E x0 (fun k => g (k0 k)) (ix2 r l)) (fun l => normed W E x1 (fun k => g (k1 k)) (ix2 r l))
    (fun l => normed V2 E x2 (fun k => g (k2 k)) (ix2 r l))

theorem pay2_at (x : Vec Ideal S512x512 .f32) (g : Vec Ideal S1x512 .f32) (r l : Fin 512) :
    k0_pay2 x g (ix2 r l) = normed W E x (fun k => g (ix2 0 k)) (ix2 r l) := by
  pointwise [k0_pay2]
  rfl
theorem pay3_at (x : Vec Ideal S512x512 .f32) (g : Vec Ideal S1x512 .f32) (r l : Fin 512) :
    k0_pay3 x g (ix2 r l) = normed W E x (fun k => g (ix2 0 k)) (ix2 r l) := pay2_at x g r l
theorem pay1_at (x : Vec Ideal S512x1024 .f32) (g : Vec Ideal S1x1024 .f32) (r : Fin 512) (l : Fin 1024) :
    k0_pay1 x (k0_pay4 x) g (ix2 r l) = normed V2 E x (fun k => g (ix2 0 k)) (ix2 r l) := by
  pointwise [k0_pay1, k0_pay4]
  rfl

theorem out_at (r : Fin 512) (l : Fin 2048) :
    outsAt0 m c t (ix2 r l) = mixed (b0 m c t) (b1 m c t) (b2 m c t) (fun k => b3 m c t (ix2 0 k)) r l := by
  unfold outsAt0
  frame_out
  revert l
  refine column_cases (fun l => ?_) (fun l => ?_) (fun l => ?_)
  · unfold mixed
    rw [side0, canon_out _ _ _ _ _ _ _ (.inl (by show l.val < 1024; omega)), canon_out _ _ _ _ _ _ _ (.inl (by show l.val < 512; omega)),
      canon_in 0 512 _ _ _ r l (k0 l) (Nat.zero_add _).symm, pay2_at]
    exact congrArg (fun g => normed W E _ g _) (funext fun k => ld_cols _ _ _ _ _ _ (k0 k) (Nat.zero_add _).symm)
  · unfold mixed
    rw [side1, canon_out _ _ _ _ _ _ _ (.inl (by show 512 + l.val < 1024; omega)), canon_in 512 512 _ _ _ r l _ rfl, pay3_at]
    exact congrArg (fun g => normed W E _ g _) (funext fun k => ld_cols _ _ _ _ _ _ _ rfl)
  · unfold mixed
    rw [side2, canon_in 1024 1024 _ _ _ r l _ rfl, pay1_at]
    exact congrArg (fun g => normed V2 E _ g _) (funext fun k => ld_cols _ _ _ _ _ _ _ rfl)

/-- Each window's block at a point. -/
theorem index0 : ∀ t : Fin cfg0.N, (win0_0.index t = ![t.val, 0] ∧ win0_1.index t = ![t.val, 0] ∧ win0_2.index t = ![t.val, 0])
    ∧ win0_3.index t = ![0, 0] ∧ win0_4.index t = ![t.val, 0] := by decide +kernel

abbrev row (r : Fin 512) : Fin 4096 := ⟨t.val * 512 + r.val, by have : t.val < 8 := t.isLt; omega⟩

theorem blk0 (r : Fin 512) (k : Fin 512) : b0 m c t (ix2 r k) = a0 m c (ix2 (row t r) k) := by
  blk_ext! [iblk, V, (index0 t).1.1]
theorem blk1 (r : Fin 512) (k : Fin 512) : b1 m c t (ix2 r k) = a1 m c (ix2 (row t r) k) := by
  blk_ext! [iblk, V, (index0 t).1.2.1]
theorem blk2 (r : Fin 512) (k : Fin 1024) : b2 m c t (ix2 r k) = a2 m c (ix2 (row t r) k) := by
  blk_ext! [iblk, V, (index0 t).1.2.2]
theorem blk3 (k : Fin 2048) : b3 m c t (ix2 0 k) = a3 m c (ix1 k) := by
  blk_ext! [iblk, V, (index0 t).2.1]

/-- The result. -/
def out (x0 x1 : Vec Ideal S4096x512 .f32) (x2 : Vec Ideal S4096x1024 .f32) (g : Vec Ideal S2048 .f32) : S4096x2048.Idx → EReal :=
  fun y => mixed x0 x1 x2 (fun k => g (ix1 k)) (y 0) (y 1)

theorem out_block (r : Fin 512) (l : Fin 2048) : mixed (b0 m c t) (b1 m c t) (b2 m c t) (fun k => b3 m c t (ix2 0 k)) r l
    = out (a0 m c) (a1 m c) (a2 m c) (a3 m c) (ix2 (row t r) l) := by
  show _ = mixed _ _ _ _ _ _
  unfold mixed
  congr 1
  · exact funext fun l => normed_block W E (blk0 m c t) (fun k => blk3 m c t _) r l
  · exact funext fun l => normed_block W E (blk1 m c t) (fun k => blk3 m c t _) r l
  · exact funext fun l => normed_block V2 E (blk2 m c t) (fun k => blk3 m c t _) r l

/-- The kernel's result. -/
theorem arr : (dats m 0 c).arrAt 4 cfg0.N = out (a0 m c) (a1 m c) (a2 m c) (a3 m c) := by
  refine (dats m 0 c).arrAt_eq_of_covers 4 _ (by decide +kernel) fun t hf y => ?_
  blk_simp
  rw [after0_4]
  idx_vars y
  refine (out_at m c t _ _).trans ((out_block m c t _ _).trans (congrArg (out (a0 m c) (a1 m c) (a2 m c) (a3 m c)) ?_))
  blk_ext! [(index0 t).2.2]

section Reference

open Cert.ReferenceMixFwdIdeal.Read

variable (x0 x1 : Vec Ideal S4096x512 .f32) (x2 : Vec Ideal S4096x1024 .f32) (x3 : Vec Ideal S2048 .f32)

theorem ref0 (r : Fin 4096) (l : Fin 512) : val_main_v15 (F := Ideal) x0 x3 (ix2 r l) = normed W E x0 (fun k => x3 (ix1 (k0 k))) (ix2 r l) := by
  pointwise [val_main_v15, val_main_v14, val_main_v13, val_main_v12, val_main_v11, val_main_v10, val_main_v9, val_main_v8, val_main_v7, val_main_v6,
    val_main_v5, val_main_v4, val_main_v3, val_main_v0, val_main_cst, val_main_cst_0, val_main_cst_1]
  rfl
theorem ref1 (r : Fin 4096) (l : Fin 512) : val_main_v28 (F := Ideal) x1 x3 (ix2 r l) = normed W E x1 (fun k => x3 (ix1 (k1 k))) (ix2 r l) := by
  pointwise [val_main_v28, val_main_v27, val_main_v26, val_main_v25, val_main_v24, val_main_v23, val_main_v22, val_main_v21, val_main_v20,
    val_main_v19, val_main_v18, val_main_v17, val_main_v16, val_main_v1, val_main_cst_2, val_main_cst_3, val_main_cst_4]
  rfl
theorem ref2 (r : Fin 4096) (l : Fin 1024) : val_main_v41 (F := Ideal) x2 x3 (ix2 r l) = normed V2 E x2 (fun k => x3 (ix1 (k2 k))) (ix2 r l) := by
  pointwise [val_main_v41, val_main_v40, val_main_v39, val_main_v38, val_main_v37, val_main_v36, val_main_v35, val_main_v34, val_main_v33,
    val_main_v32, val_main_v31, val_main_v30, val_main_v29, val_main_v2, val_main_cst_5, val_main_cst_6, val_main_cst_7]
  rfl

theorem ref : val_main_v43 (F := Ideal) x0 x1 x2 x3 = out x0 x1 x2 x3 := by
  funext y
  idx_vars y
  show val_main_v42 (F := Ideal) x0 x1 x2 x3 (ix2 y0 y1) = mixed x0 x1 x2 (fun k => x3 (ix1 k)) y0 y1
  unfold mixed
  revert y1
  refine column_cases (fun l => ?_) (fun l => ?_) (fun l => ?_)
  · rw [side0, ← ref0]
    pointwise [val_main_v42]
  · rw [side1, ← ref1]
    pointwise [val_main_v42]
  · rw [side2, ← ref2]
    pointwise [val_main_v42]
    rw [dif_neg (by omega), dif_neg (by omega)]
    exact congrArg (fun k => val_main_v41 (F := Ideal) x2 x3 (ix2 y0 k)) (Fin.ext (by show 1024 + l.val - 512 - 512 = l.val; omega))

end Reference

/-! ## The statements -/

theorem frame_kernel : Cert.quiescent_KernelMixFwd (hKernelMixFwd := Cert.KernelMixFwd.Gen.facts) :=
  fun m ρ _ => Cert.KernelMixFwd.Gen.frame m ρ
theorem frame_kernel_ideal : Cert.quiescent_KernelMixFwdIdeal (hKernelMixFwdIdeal := Cert.KernelMixFwdIdeal.Gen.facts) :=
  fun m ρ _ => Cert.KernelMixFwdIdeal.Gen.frame m ρ
theorem frame_reference : Cert.quiescent_ReferenceMixFwdIdeal (hReferenceMixFwdIdeal := Cert.ReferenceMixFwdIdeal.Gen.facts) :=
  fun m ρ _ => (θ_run _ _ _).mono (fun r h => ⟨fun c => ⟨(h c).2.1, (h c).2.2⟩, sem_eq_zero_of_no_sems rfl r.2⟩)
    (Cert.ReferenceMixFwdIdeal.Value.run m ρ)

theorem equal : Cert.algebraic_KernelMixFwdIdeal_ReferenceMixFwdIdeal (hKernelMixFwdIdeal := Cert.KernelMixFwdIdeal.Gen.facts)
    (hReferenceMixFwdIdeal := Cert.ReferenceMixFwdIdeal.Gen.facts) := by
  intro m g m' g' _ hagree
  refine ⟨fun c => out (a0 m c) (a1 m c) (a2 m c) (a3 m c), ?_, ?_⟩
  · exact (θ_run _ _ _).mono (fun r h c => ⟨(h c).1.trans (arr m c), (h c).2⟩) (Cert.KernelMixFwdIdeal.Value.run_blocks m g)
  · refine (θ_run _ _ _).mono (fun r h c => ⟨(h c).1.trans ?_, (h c).2⟩) (Cert.ReferenceMixFwdIdeal.Value.run m' g')
    obtain ⟨h0, h1, h2, h3⟩ := hagree c
    rw [Cert.ReferenceMixFwdIdeal.Read.val_main_v43_eq, h0, h1, h2, h3]
    exact ref _ _ _ _

end Cert.MixFwd

end
-- ==== Proof.Loss.lean ====
module

public import proofs.«01_k».proof.Defs
public import proofs.«01_k».proof.Proof.Norm
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Read
public import proofs.«01_k».proof.Proof.Gen.ReferenceLossIdeal.Run
public import Idealize.ShloMosaic.Lib.Pipeline.ValueKit
public import Idealize.ShloMosaic.Lib.Quiescent
public import Idealize.ShloMosaic.Lib.Tactic

/-!
The loss head: the gradient of the mean square error, and the loss.
-/

@[expose] public section

set_option maxRecDepth 16384

noncomputable section

namespace Cert.Loss

open Idealize.ShloMosaic Idealize.ShloMosaic.TcCoe Idealize.ShloMosaic.Tactic Idealize.SL.Sem
open Cert.KernelLossIdeal Cert.KernelLossIdeal.Gen Cert.Product Cert.Norm

variable (m : (ℓ : Loc nD τ sig) → Buf (Elt Ideal) ℓ) (c : Dev nD) (t : Fin cfg0.N)

/-- The arguments, and the blocks of them a point reads. -/
abbrev a0 : Vec Ideal S4096x2048 .f32 := m ((c : Thread nD τ).loc main_arg0)
abbrev a1 : Vec Ideal S4096x2048 .f32 := m ((c : Thread nD τ).loc main_arg1)
abbrev b0 : Vec Ideal S512x2048 .f32 := iblk m c 0 t
abbrev b1 : Vec Ideal S512x2048 .f32 := iblk m c 1 t

/-- The row's length and one half. -/
abbrev W : EReal := Ideal.ofBits .f32 0x45000000#32
abbrev H : EReal := Ideal.ofBits .f32 0x3F000000#32

variable {R : ℕ}

/-- The gradient, one row's mean square, and the loss: half of all rows' sum. -/
def slope (x y : Mat R 2048) : Mat R 2048 := fun i => Ideal.div (x i - y i) W
def mean (x y : Mat R 2048) (r : Fin R) : EReal := Ideal.div (∑ k, (x (ix2 r k) - y (ix2 r k)) * (x (ix2 r k) - y (ix2 r k))) W
def loss (x y : Mat R 2048) : EReal := H * ∑ r, mean x y r

theorem half_sum {ι : Type} (s : Finset ι) (f : ι → EReal) : H * ∑ i ∈ s, f i = ∑ i ∈ s, H * f i := by
  classical
  rw [show H = ((1 / 2 : ℝ) : EReal) from half]
  induction s using Finset.induction_on with
  | empty => simp
  | insert a s ha ih =>
    rw [Finset.sum_insert ha, Finset.sum_insert ha, EReal.left_distrib_of_nonneg_of_ne_top (by norm_cast; norm_num) (EReal.coe_ne_top _), ih]

theorem pay3_at (x y : Vec Ideal S512x2048 .f32) (r : Fin 512) (l : Fin 2048) : k0_pay3 x y (ix2 r l) = slope x y (ix2 r l) := by
  pointwise [k0_pay3, k0_pay2]
  rfl
theorem pay5_at (x y : Vec Ideal S512x2048 .f32) (v : Vec Ideal S8x128 .f32) (i : Fin 8) (j : Fin 128) :
    k0_pay5 x y v (ix2 i j) = v (ix2 i j) + loss x y := by
  pointwise [k0_pay5, k0_pay2]
  rfl

/-- What a point leaves: the gradient of its rows, the same rounded, and its rows' part of the loss, on top of what the
    point before left. -/
theorem dy_at (r : Fin 512) (l : Fin 2048) : (outsAt0 m c t.val t.isLt).1 (ix2 r l) = slope (b0 m c t) (b1 m c t) (ix2 r l) := by
  by_cases h : t.val % 8 = 0
  · rw [outsAt0_A m c t h]
    frame_out
    exact pay3_at _ _ r l
  · rw [outsAt0_B m c t h]
    frame_out
    exact pay3_at _ _ r l
theorem dyb_at (r : Fin 512) (l : Fin 2048) : (outsAt0 m c t.val t.isLt).2.1 (ix2 r l) = slope (b0 m c t) (b1 m c t) (ix2 r l) := by
  by_cases h : t.val % 8 = 0
  · rw [outsAt0_A m c t h]
    frame_out
    exact pay3_at _ _ r l
  · rw [outsAt0_B m c t h]
    frame_out
    exact pay3_at _ _ r l
theorem loss_first (h : t.val % 8 = 0) (i : Fin 8) (j : Fin 128) : (outsAt0 m c t.val t.isLt).2.2 (ix2 i j) = loss (b0 m c t) (b1 m c t) := by
  rw [outsAt0_A m c t h]
  frame_out
  refine (pay5_at _ _ _ i j).trans ?_
  pointwise [k0_pay1]
theorem loss_next (h : ¬t.val % 8 = 0) (i : Fin 8) (j : Fin 128) : (outsAt0 m c t.val t.isLt).2.2 (ix2 i j)
    = (outsAt0 m c (t.val - 1) (Nat.lt_of_le_of_lt (Nat.sub_le _ _) t.isLt)).2.2 (ix2 i j) + loss (b0 m c t) (b1 m c t) := by
  rw [outsAt0_B m c t h]
  frame_out
  exact pay5_at _ _ _ i j

/-- Each window's block at a point. -/
theorem index0 : ∀ t : Fin cfg0.N, (win0_0.index t = ![t.val, 0] ∧ win0_1.index t = ![t.val, 0]) ∧ win0_2.index t = ![t.val, 0]
    ∧ win0_3.index t = ![t.val, 0] ∧ win0_4.index t = ![0, 0] := by decide +kernel

abbrev row (r : Fin 512) : Fin 4096 := ⟨t.val * 512 + r.val, by have : t.val < 8 := t.isLt; omega⟩

theorem blk0 (r : Fin 512) (k : Fin 2048) : b0 m c t (ix2 r k) = a0 m c (ix2 (row t r) k) := by
  blk_ext! [iblk, V, (index0 t).1.1]
theorem blk1 (r : Fin 512) (k : Fin 2048) : b1 m c t (ix2 r k) = a1 m c (ix2 (row t r) k) := by
  blk_ext! [iblk, V, (index0 t).1.2]

theorem slope_block (r : Fin 512) (l : Fin 2048) : slope (b0 m c t) (b1 m c t) (ix2 r l) = slope (a0 m c) (a1 m c) (ix2 (row t r) l) :=
  congrArg₂ (fun p q => Ideal.div (p - q) W) (blk0 m c t r l) (blk1 m c t r l)
theorem mean_block (r : Fin 512) : mean (b0 m c t) (b1 m c t) r = mean (a0 m c) (a1 m c) (row t r) :=
  congrArg (fun s => Ideal.div s W) (Finset.sum_congr rfl fun k _ =>
    congrArg₂ (fun p q : EReal => (p - q) * (p - q)) (blk0 m c t r k) (blk1 m c t r k))

theorem arr2 : (dats m 0 c).arrAt 2 cfg0.N = slope (a0 m c) (a1 m c) := by
  refine (dats m 0 c).arrAt_eq_of_covers 2 _ (by decide +kernel) fun t hf y => ?_
  blk_simp
  rw [after0_2]
  idx_vars y
  refine (dy_at m c t _ _).trans ((slope_block m c t _ _).trans (congrArg (slope (a0 m c) (a1 m c)) ?_))
  blk_ext! [(index0 t).2.1]
theorem arr3 : (dats m 0 c).arrAt 3 cfg0.N = slope (a0 m c) (a1 m c) := by
  refine (dats m 0 c).arrAt_eq_of_covers 3 _ (by decide +kernel) fun t hf y => ?_
  blk_simp
  rw [after0_3]
  idx_vars y
  refine (dyb_at m c t _ _).trans ((slope_block m c t _ _).trans (congrArg (slope (a0 m c) (a1 m c)) ?_))
  blk_ext! [(index0 t).2.2.1]

/-- What the last point leaves: the loss of all rows, in every place. -/
theorem loss_at (h : t.val + 1 = 8) (i : Fin 8) (j : Fin 128) : (outsAt0 m c t.val t.isLt).2.2 (ix2 i j) = loss (a0 m c) (a1 m c) := by
  refine (sum_points (S := 8) (fun s => (outsAt0 m c s.val s.isLt).2.2 (ix2 i j)) (fun s => loss (b0 m c s) (b1 m c s))
    (fun s hs => loss_first m c s (by omega) i j) (fun s s' hs => ?_) t h).trans ?_
  · have := s.isLt
    refine (loss_next m c s (by omega) i j).trans (congrArg (· + _) ?_)
    obtain ⟨n, hn⟩ := s'
    obtain ⟨k, hk⟩ := s
    dsimp only at hs
    subst hs
    rfl
  · refine (half_sum _ _).symm.trans (congrArg (H * ·) ?_)
    exact (sum_steps (S := 8) (K := 512) (mean (a0 m c) (a1 m c)) _ fun s k i hi =>
      (congrArg _ (Fin.ext hi)).trans (mean_block m c s k).symm).symm

theorem arr4 : (dats m 0 c).arrAt 4 cfg0.N = fun _ => loss (a0 m c) (a1 m c) := by
  refine (dats m 0 c).arrAt_eq_of_covers 4 _ (by decide +kernel) fun t hf y => ?_
  blk_simp
  rw [after0_4]
  idx_vars y
  exact loss_at m c t (by have := (flush0_4 t).mp hf; have : t.val < 8 := t.isLt; omega) _ _

section Reference

open Cert.ReferenceLossIdeal.Read

variable (x0 x1 : Vec Ideal S4096x2048 .f32)

theorem ref2 : val_main_v14 (F := Ideal) x0 x1 = slope x0 x1 := by
  funext y
  idx_vars y
  pointwise [val_main_v14, val_main_v13, val_main_v12, val_main_v11, val_main_v10, val_main_v9, val_main_v3, val_main_v2, val_main_v0,
    val_main_cst, val_main_cst_4, val_main_cst_5, val_main_cst_6]
  unfold slope
  generalize x0 (ix2 y0 y1) - x1 (ix2 y0 y1) = d
  rw [show W = _ from w2048, w2048, half, two, Ideal.div_coe (by norm_num), Ideal.div_coe (by norm_num), ← mul_assoc]
  norm_cast
  norm_num
  exact mul_comm _ _
theorem ref3 : val_main_v15 (F := Ideal) x0 x1 = slope x0 x1 := ref2 x0 x1
theorem ref4 : val_main_v16 (F := Ideal) x0 x1 = fun _ => loss x0 x1 := by
  funext y
  idx_vars y
  pointwise [val_main_v16, val_main_v8, val_main_v7, val_main_v6, val_main_v5, val_main_v4, val_main_v1, val_main_v0, val_main_cst_0,
    val_main_cst_1, val_main_cst_2, val_main_cst_3]
  rfl

end Reference

/-! ## The statements -/

theorem frame_kernel : Cert.quiescent_KernelLoss (hKernelLoss := Cert.KernelLoss.Gen.facts) :=
  fun m ρ _ => Cert.KernelLoss.Gen.frame m ρ
theorem frame_kernel_ideal : Cert.quiescent_KernelLossIdeal (hKernelLossIdeal := Cert.KernelLossIdeal.Gen.facts) :=
  fun m ρ _ => Cert.KernelLossIdeal.Gen.frame m ρ
theorem frame_reference : Cert.quiescent_ReferenceLossIdeal (hReferenceLossIdeal := Cert.ReferenceLossIdeal.Gen.facts) :=
  fun m ρ _ => (θ_run _ _ _).mono (fun r h => ⟨fun c => (h c).2.2.2, sem_eq_zero_of_no_sems rfl r.2⟩)
    (Cert.ReferenceLossIdeal.Value.run m ρ)

theorem equal : Cert.algebraic_KernelLossIdeal_ReferenceLossIdeal (hKernelLossIdeal := Cert.KernelLossIdeal.Gen.facts)
    (hReferenceLossIdeal := Cert.ReferenceLossIdeal.Gen.facts) := by
  intro m g m' g' _ hagree
  refine ⟨fun c => slope (a0 m c) (a1 m c), fun c => slope (a0 m c) (a1 m c), fun c _ => loss (a0 m c) (a1 m c), ?_, ?_⟩
  · exact (θ_run _ _ _).mono (fun r h c => ⟨(h c).1.trans (arr2 m c), (h c).2.1.trans (arr3 m c), (h c).2.2.1.trans (arr4 m c),
      (h c).2.2.2⟩) (Cert.KernelLossIdeal.Value.run_blocks m g)
  · refine (θ_run _ _ _).mono (fun r h c => ?_) (Cert.ReferenceLossIdeal.Value.run m' g')
    obtain ⟨h0, h1⟩ := hagree c
    refine ⟨(h c).1.trans ?_, (h c).2.1.trans ?_, (h c).2.2.1.trans ?_, (h c).2.2.2⟩
    · rw [Cert.ReferenceLossIdeal.Read.val_main_v14_eq, h0, h1]
      exact ref2 _ _
    · rw [Cert.ReferenceLossIdeal.Read.val_main_v15_eq, h0, h1]
      exact ref3 _ _
    · rw [Cert.ReferenceLossIdeal.Read.val_main_v16_eq, h0, h1]
      exact ref4 _ _

end Cert.Loss

end
-- ==== Proof.BiasA.lean ====
module

public import proofs.«01_k».proof.Defs
public import proofs.«01_k».proof.Proof.Ref
public import proofs.«01_k».proof.Proof.Gen.KernelBiasA.Frame
public import proofs.«01_k».proof.Proof.Gen.KernelBiasAIdeal.Frame
public import proofs.«01_k».proof.Proof.Gen.KernelBiasAIdeal.Value
public import proofs.«01_k».proof.Proof.Gen.ReferenceBiasAIdeal.Read
public import proofs.«01_k».proof.Proof.Gen.ReferenceBiasAIdeal.Run
public import Idealize.ShloMosaic.Lib.Pipeline.ValueKit
public import Idealize.ShloMosaic.Lib.Quiescent
public import Idealize.ShloMosaic.Lib.Tactic

/-!
The gradient of the bias table: a sum, for each bucket, of the logits' gradients that lie in it.
-/

@[expose] public section

set_option maxRecDepth 16384

noncomputable section

namespace Cert.BiasA

open Idealize.ShloMosaic Idealize.ShloMosaic.TcCoe Idealize.ShloMosaic.Tactic Idealize.SL.Sem
open Cert.KernelBiasAIdeal Cert.KernelBiasAIdeal.Gen

variable (m : (ℓ : Loc nD τ sig) → Buf (Elt Ideal) ℓ) (c : Dev nD) (t : Fin cfg0.N)

/-- The arguments, and the blocks of them a point reads. -/
abbrev a0 : Vec Ideal S1x8x128x256 .f32 := m ((c : Thread nD τ).loc main_arg0)
abbrev a1 : Vec Ideal S1x128x256 .i32 := m ((c : Thread nD τ).loc main_arg1)
abbrev b0 : Vec Ideal S1x1x128x256 .f32 := iblk m c 0 t
abbrev b1 : Vec Ideal S1x128x256 .i32 := iblk m c 1 t

/-- A choice by an equality of words. -/
theorem select_eq {α : Type} (p q : BitVec 32) (u v : α) : Scalar.select (IntOp.cmpi .eq p q) u v = if p = q then u else v := by
  show (if BitVec.ofBool (p == q) = 1#1 then u else v) = _
  by_cases h : p = q
  · simp [h]
  · rw [beq_eq_false_iff_ne.mpr h, if_neg h]
    rfl

section Buckets
variable (x0 : Vec Ideal S1x1x128x256 .f32) (x1 : Vec Ideal S1x128x256 .i32)

/-- One bucket's sum as the kernel writes it: keep the gradients of the bucket, add the rows up, then the lanes, from
    zero; and put it on the bucket's lane. -/
def kept (b : BitVec 32) : FVec Ideal S128x256 .f32 :=
  select (cmpi .eq (shapeCast S128x256 (View.ld x1 r0_0) shapeCasts_S1x128x256_S128x256) (broadcast S128x256 b))
    (shapeCast S128x256 (View.ld x0 r0_1) shapeCasts_S1x1x128x256_S128x256) (broadcast S128x256 (Scalar.ofBits .f32 0x00000000#32))
def summed (b : BitVec 32) : FVec Ideal S1x1 .f32 :=
  addf (broadcast S1x1 (Scalar.ofBits .f32 0x00000000#32)) (shapeCast S1x1 (multiReduction .add [1] S1 (shapeCast S1x256
    (multiReduction .add [0] S256 (kept x0 x1 b) 0x00000000#32 reduces_S128x256_S256 (.inl rfl) rfl) shapeCasts_S256_S1x256)
    0x00000000#32 reduces_S1x256_S1 (.inl rfl) rfl) shapeCasts_S1_S1x1)
def put (b : BitVec 32) (acc : FVec Ideal S1x128 .f32) : FVec Ideal S1x128 .f32 :=
  select (cmpi .eq (iota .tc S1x128 32 [1] iota_S1x128_d1_w32) (broadcast S1x128 b))
    (broadcastTo S1x128 (shapeCast S1x1 (summed x0 x1 b) shapeCasts_S1x1_S1x1) broadcasts_S1x1_S1x128) acc

/-- The lanes after the first `n` buckets. -/
def lanes : ℕ → FVec Ideal S1x128 .f32
  | 0 => broadcast S1x128 (Scalar.ofBits .f32 0x00000000#32)
  | n + 1 => put x0 x1 (BitVec.ofNat 32 n) (lanes n)

theorem out_lanes : out0_2 x0 x1 = View.canon [⟨r0_2, shapeCast S1x8x128 (broadcastTo S8x128
    (shapeCast S1x128 (lanes x0 x1 32) shapeCasts_S1x128_S1x128) broadcasts_S1x128_S8x128) shapeCasts_S8x128_S1x8x128⟩] := rfl

/-- One bucket's sum. -/
def bucket (b : BitVec 32) : EReal := ∑ k : Fin 256, ∑ r : Fin 128, if x1 (ix3 0 r k) = b then x0 (ix4 0 0 r k) else 0

theorem summed_at (b : BitVec 32) : summed x0 x1 b (ix2 0 0) = bucket x0 x1 b := by
  pointwise [summed, kept]
  exact Finset.sum_congr rfl fun k _ => Finset.sum_congr rfl fun r _ => select_eq _ _ _ _
theorem put_at (b : BitVec 32) (acc : FVec Ideal S1x128 .f32) (l : Fin 128) :
    put x0 x1 b acc (ix2 0 l) = if BitVec.ofNat 32 l.val = b then bucket x0 x1 b else acc (ix2 0 l) := by
  rw [← summed_at]
  pointwise [put]
  exact select_eq _ _ _ _
theorem lanes_at : ∀ (n : ℕ) (hn : n ≤ 128) (l : Fin 128), lanes x0 x1 n (ix2 0 l) = if l.val < n then bucket x0 x1 (BitVec.ofNat 32 l.val) else 0 := by
  intro n
  induction n with
  | zero =>
    intro hn l
    show Ideal.ofBits .f32 0x00000000#32 = _
    simp [Nat.not_lt_zero]
  | succ n ih =>
    intro hn l
    refine (put_at x0 x1 _ _ l).trans ?_
    by_cases h : l.val = n
    · rw [h, if_pos rfl, if_pos (Nat.lt_succ_self n)]
    · rw [if_neg (fun e => h ?_), ih (by omega) l]
      · exact if_congr (by omega) rfl rfl
      · have := congrArg BitVec.toNat e
        simp only [BitVec.toNat_ofNat] at this
        have := l.isLt
        omega

theorem out_at (i : Fin 1) (s : Fin 8) (l : Fin 128) : out0_2 x0 x1 (ix3 i s l) = if l.val < 32 then bucket x0 x1 (BitVec.ofNat 32 l.val) else 0 := by
  rw [out_lanes]
  frame_out
  rw [← lanes_at x0 x1 32 (by decide) l]
  pointwise []

end Buckets

/-- Each window's block at a point. -/
theorem index0 : ∀ t : Fin cfg0.N, win0_0.index t = ![0, t.val, 0, 0] ∧ win0_1.index t = ![0, 0, 0] ∧ win0_2.index t = ![t.val, 0, 0] := by
  decide +kernel

abbrev head : Fin 8 := ⟨t.val, t.isLt⟩

theorem blk0 (r : Fin 128) (k : Fin 256) : b0 m c t (ix4 0 0 r k) = a0 m c (ix4 0 (head t) r k) := by
  blk_ext! [iblk, V, (index0 t).1]
theorem blk1 (r : Fin 128) (k : Fin 256) : b1 m c t (ix3 0 r k) = a1 m c (ix3 0 r k) := by
  blk_ext! [iblk, V, (index0 t).2.1]

/-- The result: the table's gradient at a head and a bucket, in eight equal rows, the lanes past the last bucket zero. -/
def total (x : Vec Ideal S1x8x128x256 .f32) (y : Vec Ideal S1x128x256 .i32) (h : Fin 8) (b : BitVec 32) : EReal :=
  ∑ r : Fin 128, ∑ k : Fin 256, if y (ix3 0 r k) = b then x (ix4 0 h r k) else 0
def table (x : Vec Ideal S1x8x128x256 .f32) (y : Vec Ideal S1x128x256 .i32) (h : Fin 8) (l : Fin 128) : EReal :=
  if l.val < 32 then total x y h (BitVec.ofNat 32 l.val) else 0
def tables (x : Vec Ideal S1x8x128x256 .f32) (y : Vec Ideal S1x128x256 .i32) : Vec Ideal S8x8x128 .f32 := fun i => table x y (i 0) (i 2)

theorem bucket_block (b : BitVec 32) : bucket (b0 m c t) (b1 m c t) b = total (a0 m c) (a1 m c) (head t) b := by
  refine Finset.sum_comm.trans (Finset.sum_congr rfl fun r _ => Finset.sum_congr rfl fun k _ => ?_)
  rw [blk0, blk1]

theorem arr2 : (dats m 0 c).arrAt 2 cfg0.N = tables (a0 m c) (a1 m c) := by
  refine (dats m 0 c).arrAt_eq_of_covers 2 _ (by decide +kernel) fun t hf y => ?_
  blk_simp
  rw [after0_2]
  idx_vars y
  refine (out_at _ _ _ _ _).trans ?_
  rw [bucket_block]
  refine Eq.trans (b := tables (a0 m c) (a1 m c) (ix3 (head t) y1 y2)) rfl (congrArg (tables (a0 m c) (a1 m c)) ?_)
  blk_ext! [(index0 t).2.2]

section Reference
open Cert.ReferenceBiasAIdeal.Read

/-- A sum over a first axis of one place and the third and fourth axes. -/
theorem keep_two {n1 n2 n3 n4 : ℕ} (h : (⟨5, ![1, n1, n2, n3, n4]⟩ : Shape).ReducesTo [0, 2, 3] ⟨2, ![n1, n4]⟩)
    (v : (⟨5, ![1, n1, n2, n3, n4]⟩ : Shape).Idx → EReal) (z : EReal) (p : Fin n1) (q : Fin n4) :
    Ideal.hostReduceAdd h v z (ix2 p q) = z + ∑ j : Fin n2, ∑ k : Fin n3, v (ix5 0 p j k q) := by
  refine congrArg (z + ·) ((Finset.sum_filter_eq_sum_of_fiber _ (fun k : Fin n2 × Fin n3 => ix5 (0 : Fin 1) p k.1 k.2 q)
    (fun a b e => Prod.ext (show a.1 = b.1 from congrFun e 2) (show a.2 = b.2 from congrFun e 3)) (fun i => ?_) v).trans ?_)
  · constructor
    · intro e
      refine ⟨(i 2, i 3), ?_⟩
      funext a
      apply Fin.ext
      match a with
      | ⟨0, _⟩ => exact (Nat.lt_one_iff.mp (i 0).isLt).symm
      | ⟨1, _⟩ => exact (congrArg Fin.val (congrFun e ⟨0, Nat.zero_lt_two⟩)).symm
      | ⟨2, _⟩ => rfl
      | ⟨3, _⟩ => rfl
      | ⟨4, _⟩ => exact (congrArg Fin.val (congrFun e ⟨1, Nat.one_lt_two⟩)).symm
    · rintro ⟨k, rfl⟩
      funext b
      apply Fin.ext
      match b with
      | ⟨0, _⟩ => rfl
      | ⟨1, _⟩ => rfl
  · simp only [Fintype.sum_prod_type]

variable (x : Vec Ideal S1x8x128x256 .f32) (y : Vec Ideal S1x128x256 .i32)

theorem kept_ref (h : Fin 8) (r : Fin 128) (k : Fin 256) (b : Fin 32) : val_main_call1_v1 (F := Ideal) x y (ix5 0 h r k b)
    = if y (ix3 0 r k) = BitVec.ofNat 32 b.val then x (ix4 0 h r k) else 0 := by
  pointwise [val_main_call1_v1, val_main_v9_1, val_main_v6, val_main_v5, val_main_v4, val_main_v3, val_main_v2, val_main_v1, val_main_v11,
    val_main_call1_v0, val_main_call1_cst]
  exact select_eq _ _ _ _
theorem sum_ref (h : Fin 8) (b : Fin 32) : val_main_call1_v2 (F := Ideal) x y (ix2 h b) = total x y h (BitVec.ofNat 32 b.val) := by
  refine (keep_two _ _ _ _ _).trans ?_
  pointwise [val_main_call1_cst_0]
  exact Finset.sum_congr rfl fun r _ => Finset.sum_congr rfl fun k _ => kept_ref x y h r k b
theorem look_at (h : Fin 8) (b : Fin 32) : val_main_v13 (F := Ideal) x y (ix2 h b) = total x y h (BitVec.ofNat 32 b.val) := by
  refine (keep_two _ _ _ _ _).trans ?_
  rw [Fin.sum_univ_one, Fin.sum_univ_one]
  pointwise [val_main_cst_2, val_main_v12]
  exact sum_ref x y h b

theorem ref2 : val_main_v19 (F := Ideal) x y = tables x y := by
  funext i
  idx_vars i
  pointwise [val_main_v19, val_main_v18, val_main_v17, val_main_v16, val_main_v15, val_main_v14, val_main_cst_3]
  simp only [look_at]
  exact dite_eq_ite

end Reference

/-! ## The statements -/

theorem frame_kernel : Cert.quiescent_KernelBiasA (hKernelBiasA := Cert.KernelBiasA.Gen.facts) :=
  fun m ρ _ => Cert.KernelBiasA.Gen.frame m ρ
theorem frame_kernel_ideal : Cert.quiescent_KernelBiasAIdeal (hKernelBiasAIdeal := Cert.KernelBiasAIdeal.Gen.facts) :=
  fun m ρ _ => Cert.KernelBiasAIdeal.Gen.frame m ρ
theorem frame_reference : Cert.quiescent_ReferenceBiasAIdeal (hReferenceBiasAIdeal := Cert.ReferenceBiasAIdeal.Gen.facts) :=
  fun m ρ _ => (θ_run _ _ _).mono (fun r h => ⟨fun c => (h c).2, sem_eq_zero_of_no_sems rfl r.2⟩)
    (Cert.ReferenceBiasAIdeal.Value.run m ρ)

theorem equal : Cert.algebraic_KernelBiasAIdeal_ReferenceBiasAIdeal (hKernelBiasAIdeal := Cert.KernelBiasAIdeal.Gen.facts)
    (hReferenceBiasAIdeal := Cert.ReferenceBiasAIdeal.Gen.facts) := by
  intro m g m' g' _ hagree
  refine ⟨fun c => tables (a0 m c) (a1 m c), ?_, ?_⟩
  · exact (θ_run _ _ _).mono (fun r h c => ⟨(h c).1.trans (arr2 m c), (h c).2⟩) (Cert.KernelBiasAIdeal.Value.run_blocks m g)
  · refine (θ_run _ _ _).mono (fun r h c => ?_) (Cert.ReferenceBiasAIdeal.Value.run m' g')
    obtain ⟨h0, h1⟩ := hagree c
    refine ⟨(h c).1.trans ?_, (h c).2⟩
    rw [Cert.ReferenceBiasAIdeal.Read.val_main_v19_eq, h0, h1]
    exact ref2 _ _

end Cert.BiasA

end
-- ==== Proof.UpdateOut.lean ====
module

public import proofs.«01_k».proof.Defs
public import proofs.«01_k».proof.Proof.Ref
public import proofs.«01_k».proof.Proof.Gen.KernelUpdateOut.Frame
public import proofs.«01_k».proof.Proof.Gen.KernelUpdateOutIdeal.Frame
public import proofs.«01_k».proof.Proof.Gen.KernelUpdateOutIdeal.Value
public import proofs.«01_k».proof.Proof.Gen.ReferenceUpdateOutIdeal.Read
public import proofs.«01_k».proof.Proof.Gen.ReferenceUpdateOutIdeal.Run
public import Idealize.ShloMosaic.Lib.Pipeline.ValueKit
public import Idealize.ShloMosaic.Lib.Quiescent
public import Idealize.ShloMosaic.Lib.Tactic

/-!
The optimiser's step on one layer of a stacked weight, with the sum over the devices' parts of its gradient.
-/

@[expose] public section

set_option maxRecDepth 16384

noncomputable section

namespace Cert.UpdateOut

open Idealize.ShloMosaic Idealize.ShloMosaic.TcCoe Idealize.ShloMosaic.Tactic Idealize.SL.Sem
open Cert.KernelUpdateOutIdeal Cert.KernelUpdateOutIdeal.Gen

variable (m : (ℓ : Loc nD τ sig) → Buf (Elt Ideal) ℓ) (c : Dev nD) (t : Fin cfg0.N)

/-- The arguments, and the blocks of them a point reads. -/
abbrev a0 : Vec Ideal S8x256x2048 .bf16 := m ((c : Thread nD τ).loc main_arg0)
abbrev a1 : Vec Ideal S4x256x2048 .f32 := m ((c : Thread nD τ).loc main_arg1)
abbrev a2 : Vec Ideal S4x256x2048 .f32 := m ((c : Thread nD τ).loc main_arg2)
abbrev a3 : Vec Ideal S4x256x2048 .f32 := m ((c : Thread nD τ).loc main_arg3)
abbrev a4 : Vec Ideal S4x256x2048 .f32 := m ((c : Thread nD τ).loc main_arg4)
abbrev a5 : Vec Ideal S4x256x2048 .f32 := m ((c : Thread nD τ).loc main_arg5)
abbrev a6 : Vec Ideal S4x256x2048 .f32 := m ((c : Thread nD τ).loc main_arg6)
abbrev a7 : Vec Ideal S4x256x2048 .f32 := m ((c : Thread nD τ).loc main_arg7)
abbrev b0 : Vec Ideal S8x128x2048 .bf16 := iblk m c 0 t
abbrev b1 : Vec Ideal S1x128x2048 .f32 := iblk m c 1 t
abbrev b2 : Vec Ideal S1x128x2048 .f32 := iblk m c 2 t
abbrev b3 : Vec Ideal S1x128x2048 .f32 := iblk m c 3 t

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The parts' sum at a place. -/
def parts {R : ℕ} (x : (⟨3, ![8, R, 2048]⟩ : Shape).Idx → EReal) (r : Fin R) (l : Fin 2048) : EReal := ∑ d : Fin 8, x (ix3 d r l)

/-- What a point leaves. -/
theorem sum_at (r : Fin 128) (l : Fin 2048) : k0_pay3 (View.ld (b0 m c t) (Rect.unit ![0, 0, 0] ![1, 128, 2048] inb_S8x128x2048_S1x128x2048_0_0_0))
    (View.ld (b0 m c t) (Rect.unit ![1, 0, 0] ![1, 128, 2048] inb_S8x128x2048_S1x128x2048_1_0_0))
    (View.ld (b0 m c t) (Rect.unit ![2, 0, 0] ![1, 128, 2048] inb_S8x128x2048_S1x128x2048_2_0_0))
    (View.ld (b0 m c t) (Rect.unit ![3, 0, 0] ![1, 128, 2048] inb_S8x128x2048_S1x128x2048_3_0_0))
    (View.ld (b0 m c t) (Rect.unit ![4, 0, 0] ![1, 128, 2048] inb_S8x128x2048_S1x128x2048_4_0_0))
    (View.ld (b0 m c t) (Rect.unit ![5, 0, 0] ![1, 128, 2048] inb_S8x128x2048_S1x128x2048_5_0_0))
    (View.ld (b0 m c t) (Rect.unit ![6, 0, 0] ![1, 128, 2048] inb_S8x128x2048_S1x128x2048_6_0_0))
    (View.ld (b0 m c t) (Rect.unit ![7, 0, 0] ![1, 128, 2048] inb_S8x128x2048_S1x128x2048_7_0_0)) (ix2 r l) = parts (b0 m c t) r l := by
  pointwise [k0_pay3]
  rw [parts, Fin.sum_univ_eight]
theorem g_at (r : Fin 128) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S128x2048 .f32) (x : Vec Ideal S1x128x2048 .f32) (r : Fin 128) (l : Fin 2048) :
    k0_pay4 g x (ix2 r l) = mom (g (ix2 r l)) (x (ix3 0 r l)) := by
  pointwise [k0_pay4]
  rfl
theorem sqr_pay (g : Vec Ideal S128x2048 .f32) (x : Vec Ideal S1x128x2048 .f32) (r : Fin 128) (l : Fin 2048) :
    k0_pay5 g x (ix2 r l) = sqr (g (ix2 r l)) (x (ix3 0 r l)) := by
  pointwise [k0_pay5]
  rfl
theorem d_at (r : Fin 128) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0] ∧ win0_6.index t = ![0, t.val, 0]
    ∧ win0_7.index t = ![0, t.val, 0] := by decide +kernel

abbrev row (r : Fin 128) : Fin 256 := ⟨t.val * 128 + r.val, by have : t.val < 2 := t.isLt; omega⟩

theorem blk0 (d : Fin 8) (r : Fin 128) (k : Fin 2048) : b0 m c t (ix3 d r k) = a0 m c (ix3 d (row t r) k) := by
  blk_ext! [iblk, V, (index0 t).1.1]
theorem blk1 (r : Fin 128) (k : Fin 2048) : b1 m c t (ix3 0 r k) = a1 m c (ix3 0 (row t r) k) := by
  blk_ext! [iblk, V, (index0 t).1.2.1]
theorem blk2 (r : Fin 128) (k : Fin 2048) : b2 m c t (ix3 0 r k) = a2 m c (ix3 0 (row t r) k) := by
  blk_ext! [iblk, V, (index0 t).1.2.2.1]
theorem blk3 (r : Fin 128) (k : Fin 2048) : b3 m c t (ix3 0 r k) = a3 m c (ix3 0 (row t r) k) := by
  blk_ext! [iblk, V, (index0 t).1.2.2.2]

/-- An array with its first layer replaced. -/
def layer (f : Fin 256 → Fin 2048 → EReal) (o : Vec Ideal S4x256x2048 .f32) : Vec Ideal S4x256x2048 .f32 :=
  fun i => if (i 0).val = 0 then f (i 1) (i 2) else o i

/-- The results, of the arguments. -/
def moms (x : Vec Ideal S8x256x2048 .bf16) (y : Vec Ideal S4x256x2048 .f32) (r : Fin 256) (l : Fin 2048) : EReal := mom (parts x r l) (y (ix3 0 r l))
def sqrs (x : Vec Ideal S8x256x2048 .bf16) (z : Vec Ideal S4x256x2048 .f32) (r : Fin 256) (l : Fin 2048) : EReal := sqr (parts x r l) (z (ix3 0 r l))
def chgs (x : Vec Ideal S8x256x2048 .bf16) (w y z : Vec Ideal S4x256x2048 .f32) (r : Fin 256) (l : Fin 2048) : EReal :=
  chg (parts x r l) (w (ix3 0 r l)) (y (ix3 0 r l)) (z (ix3 0 r l))

theorem parts_block (r : Fin 128) (l : Fin 2048) : parts (b0 m c t) r l = parts (a0 m c) (row t r) l :=
  Finset.sum_congr rfl fun d _ => blk0 m c t d r l

/-- The layer's place, and the places outside it. -/
theorem layer_in (f : Fin 256 → Fin 2048 → EReal) (o : Vec Ideal S4x256x2048 .f32) (r : Fin 256) (l : Fin 2048) :
    layer f o (ix3 0 r l) = f r l := if_pos rfl
theorem layer_out (f : Fin 256 → Fin 2048 → EReal) (o : Vec Ideal S4x256x2048 .f32) (i : S4x256x2048.Idx) (h : ¬(i 0).val = 0) :
    o i = layer f o i := (if_neg h).symm

theorem arr4 : (dats m 0 c).arrAt 4 cfg0.N = layer (parts (a0 m c)) (a4 m c) := by
  refine (dats m 0 c).arrAt_eq_of_coversWhere_of_agree 4 _ (fun β => β (0 : Fin 3) = 0) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in (parts (a0 m c)) (a4 m c) (row t y1) y2).symm.trans (congrArg (layer (parts (a0 m c)) (a4 m c)) ?_)
    blk_ext! [(index0 t).2.1]
  · refine layer_out (parts (a0 m c)) (a4 m c) _ fun h => hj ?_
    exact (Nat.div_one _).trans h
theorem arr5 : (dats m 0 c).arrAt 5 cfg0.N = layer (chgs (a0 m c) (a1 m c) (a2 m c) (a3 m c)) (a5 m c) := by
  refine (dats m 0 c).arrAt_eq_of_coversWhere_of_agree 5 _ (fun β => β (0 : Fin 3) = 0) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in (chgs (a0 m c) (a1 m c) (a2 m c) (a3 m c)) (a5 m c) (row t y1) y2).symm.trans (congrArg (layer (chgs (a0 m c) (a1 m c) (a2 m c) (a3 m c)) (a5 m c)) ?_)
    blk_ext! [(index0 t).2.2.1]
  · refine layer_out (chgs (a0 m c) (a1 m c) (a2 m c) (a3 m c)) (a5 m c) _ fun h => hj ?_
    exact (Nat.div_one _).trans h
theorem arr6 : (dats m 0 c).arrAt 6 cfg0.N = layer (moms (a0 m c) (a2 m c)) (a6 m c) := by
  refine (dats m 0 c).arrAt_eq_of_coversWhere_of_agree 6 _ (fun β => β (0 : Fin 3) = 0) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in (moms (a0 m c) (a2 m c)) (a6 m c) (row t y1) y2).symm.trans (congrArg (layer (moms (a0 m c) (a2 m c)) (a6 m c)) ?_)
    blk_ext! [(index0 t).2.2.2.1]
  · refine layer_out (moms (a0 m c) (a2 m c)) (a6 m c) _ fun h => hj ?_
    exact (Nat.div_one _).trans h
theorem arr7 : (dats m 0 c).arrAt 7 cfg0.N = layer (sqrs (a0 m c) (a3 m c)) (a7 m c) := by
  refine (dats m 0 c).arrAt_eq_of_coversWhere_of_agree 7 _ (fun β => β (0 : Fin 3) = 0) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in (sqrs (a0 m c) (a3 m c)) (a7 m c) (row t y1) y2).symm.trans (congrArg (layer (sqrs (a0 m c) (a3 m c)) (a7 m c)) ?_)
    blk_ext! [(index0 t).2.2.2.2]
  · refine layer_out (sqrs (a0 m c) (a3 m c)) (a7 m c) _ fun h => hj ?_
    exact (Nat.div_one _).trans h

section Reference
open Cert.ReferenceUpdateOutIdeal.Read
variable (x0 : Vec Ideal S8x256x2048 .bf16) (x1 x2 x3 o : Vec Ideal S4x256x2048 .f32)

theorem sum_ref (r : Fin 256) (l : Fin 2048) : val_main_v1 (F := Ideal) x0 (ix2 r l) = parts x0 r l := by
  pointwise [val_main_v1, val_main_v0, val_main_cst]
  rfl
theorem mom_ref (r : Fin 256) (l : Fin 2048) : val_main_v12 (F := Ideal) x0 x2 (ix2 r l) = moms x0 x2 r l := by
  pointwise [val_main_v12, val_main_v11, val_main_v10, val_main_v9, val_main_v8, val_main_v5, val_main_v4, val_main_cst_0, val_main_cst_1]
  rw [sum_ref]
  rfl
theorem sqr_ref (r : Fin 256) (l : Fin 2048) : val_main_v18 (F := Ideal) x0 x3 (ix2 r l) = sqrs x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 256) (l : Fin 2048) : val_main_v31 (F := Ideal) x0 x1 x2 x3 (ix2 r l) = chgs x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

/-- The layers put together again: the new one, then the old ones. -/
theorem joined (f : Fin 256 → Fin 2048 → EReal) (o : Vec Ideal S4x256x2048 .f32) (y0 : Fin 4) (y1 : Fin 256) (y2 : Fin 2048) (a : EReal)
    (ha : a = f y1 y2) (q : ¬y0.val < 1 → 1 + (y0.val - 1) < 4) :
    (if h : y0.val < 1 then a else o (ix3 ⟨1 + (y0.val - 1), q h⟩ y1 y2)) = layer f o (ix3 y0 y1 y2) := by
  by_cases h : y0.val < 1
  · obtain rfl : y0 = 0 := Fin.ext (by omega)
    rw [dif_pos h, layer_in, ha]
  · rw [dif_neg h]
    refine Eq.trans (congrArg (fun k => o (ix3 k y1 y2)) (Fin.ext ?_)) (layer_out f o (ix3 y0 y1 y2) fun e => h ?_)
    · show 1 + (y0.val - 1) = y0.val
      omega
    · have : y0.val = 0 := e
      omega

theorem ref4 : val_main_v34 (F := Ideal) x0 o = layer (parts x0) o := by
  funext y
  idx_vars y
  pointwise [val_main_v34, val_main_v33, val_main_v32]
  exact joined (parts x0) o y0 y1 y2 _ (sum_ref x0 y1 y2) _
theorem ref5 : val_main_v37 (F := Ideal) x0 x1 x2 x3 o = layer (chgs x0 x1 x2 x3) o := by
  funext y
  idx_vars y
  pointwise [val_main_v37, val_main_v36, val_main_v35]
  exact joined (chgs x0 x1 x2 x3) o y0 y1 y2 _ (chg_ref x0 x1 x2 x3 y1 y2) _
theorem ref6 : val_main_v40 (F := Ideal) x0 x2 o = layer (moms x0 x2) o := by
  funext y
  idx_vars y
  pointwise [val_main_v40, val_main_v39, val_main_v38]
  exact joined (moms x0 x2) o y0 y1 y2 _ (mom_ref x0 x2 y1 y2) _
theorem ref7 : val_main_v43 (F := Ideal) x0 x3 o = layer (sqrs x0 x3) o := by
  funext y
  idx_vars y
  pointwise [val_main_v43, val_main_v42, val_main_v41]
  exact joined (sqrs x0 x3) o y0 y1 y2 _ (sqr_ref x0 x3 y1 y2) _

end Reference

/-! ## The statements -/

theorem frame_kernel : Cert.quiescent_KernelUpdateOut (hKernelUpdateOut := Cert.KernelUpdateOut.Gen.facts) :=
  fun m ρ _ => Cert.KernelUpdateOut.Gen.frame m ρ
theorem frame_kernel_ideal : Cert.quiescent_KernelUpdateOutIdeal (hKernelUpdateOutIdeal := Cert.KernelUpdateOutIdeal.Gen.facts) :=
  fun m ρ _ => Cert.KernelUpdateOutIdeal.Gen.frame m ρ
theorem frame_reference : Cert.quiescent_ReferenceUpdateOutIdeal (hReferenceUpdateOutIdeal := Cert.ReferenceUpdateOutIdeal.Gen.facts) :=
  fun m ρ _ => (θ_run _ _ _).mono (fun r h => ⟨fun c => (h c).2.2.2.2, sem_eq_zero_of_no_sems rfl r.2⟩)
    (Cert.ReferenceUpdateOutIdeal.Value.run m ρ)

theorem equal : Cert.algebraic_KernelUpdateOutIdeal_ReferenceUpdateOutIdeal (hKernelUpdateOutIdeal := Cert.KernelUpdateOutIdeal.Gen.facts)
    (hReferenceUpdateOutIdeal := Cert.ReferenceUpdateOutIdeal.Gen.facts) := by
  intro m g m' g' _ hagree
  refine ⟨fun c => layer (parts (a0 m c)) (a4 m c), fun c => layer (chgs (a0 m c) (a1 m c) (a2 m c) (a3 m c)) (a5 m c),
    fun c => layer (moms (a0 m c) (a2 m c)) (a6 m c), fun c => layer (sqrs (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateOutIdeal.Value.run_blocks m g)
  · refine (θ_run _ _ _).mono (fun r h c => ?_) (Cert.ReferenceUpdateOutIdeal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateOutIdeal.Read.val_main_v34_eq, h0, h4]
      exact ref4 _ _
    · rw [Cert.ReferenceUpdateOutIdeal.Read.val_main_v37_eq, h0, h1, h2, h3, h5]
      exact ref5 _ _ _ _ _
    · rw [Cert.ReferenceUpdateOutIdeal.Read.val_main_v40_eq, h0, h2, h6]
      exact ref6 _ _ _
    · rw [Cert.ReferenceUpdateOutIdeal.Read.val_main_v43_eq, h0, h3, h7]
      exact ref7 _ _ _

end Cert.UpdateOut

end
-- ==== Proof.Update.lean ====
module

public import Idealize.ShloMosaic.Lib.Pipeline.ValueKit
public import Idealize.ShloMosaic.Lib.Tactic

/-!
What the optimiser's step on one layer of a stacked weight means, for a layer of any number and any size.
-/

@[expose] public section

noncomputable section

namespace Cert.Update

open Idealize.ShloMosaic Idealize.ShloMosaic.TcCoe Idealize.ShloMosaic.Tactic

variable {R C : ℕ} (n : Fin 4)

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The devices' parts of a gradient, and the layers of a weight. -/
abbrev Parts (R C : ℕ) : Type := (⟨3, ![8, R, C]⟩ : Shape).Idx → EReal
abbrev Layers (R C : ℕ) : Type := (⟨3, ![4, R, C]⟩ : Shape).Idx → EReal

/-- The parts' sum at a place, and the step there, of the numbered layer. -/
def parts (x : Parts R C) (r : Fin R) (l : Fin C) : EReal := ∑ d : Fin 8, x (ix3 d r l)
def moms (x : Parts R C) (y : Layers R C) (r : Fin R) (l : Fin C) : EReal := mom (parts x r l) (y (ix3 n r l))
def sqrs (x : Parts R C) (z : Layers R C) (r : Fin R) (l : Fin C) : EReal := sqr (parts x r l) (z (ix3 n r l))
def chgs (x : Parts R C) (w y z : Layers R C) (r : Fin R) (l : Fin C) : EReal :=
  chg (parts x r l) (w (ix3 n r l)) (y (ix3 n r l)) (z (ix3 n r l))

/-- An array with the numbered layer replaced: the layer's place, and the places outside it. -/
def layer (f : Fin R → Fin C → EReal) (o : Layers R C) : Layers R C := fun i => if (i 0).val = n.val then f (i 1) (i 2) else o i

theorem layer_in (f : Fin R → Fin C → EReal) (o : Layers R C) (r : Fin R) (l : Fin C) : layer n f o (ix3 n r l) = f r l := if_pos rfl
theorem layer_out (f : Fin R → Fin C → EReal) (o : Layers R C) (i : (⟨3, ![4, R, C]⟩ : Shape).Idx) (h : ¬(i 0).val = n.val) :
    o i = layer n f o i := (if_neg h).symm

end Cert.Update

end
-- ==== Proof.UpdateOut1.lean ====
module

public import proofs.«01_k».proof.Defs
public import proofs.«01_k».proof.Proof.Ref
public import proofs.«01_k».proof.Proof.Update
public import proofs.«01_k».proof.Proof.Gen.KernelUpdateOut1.Frame
public import proofs.«01_k».proof.Proof.Gen.KernelUpdateOut1Ideal.Frame
public import proofs.«01_k».proof.Proof.Gen.KernelUpdateOut1Ideal.Value
public import proofs.«01_k».proof.Proof.Gen.ReferenceUpdateOut1Ideal.Read
public import proofs.«01_k».proof.Proof.Gen.ReferenceUpdateOut1Ideal.Run
public import Idealize.ShloMosaic.Lib.Pipeline.ValueKit
public import Idealize.ShloMosaic.Lib.Quiescent
public import Idealize.ShloMosaic.Lib.Tactic

/-!
The optimiser's step on layer 1 of a stacked weight, counted from 0, with the sum over the devices' parts of its gradient.
-/

@[expose] public section

set_option maxRecDepth 16384

noncomputable section

namespace Cert.UpdateOut1

open Idealize.ShloMosaic Idealize.ShloMosaic.TcCoe Idealize.ShloMosaic.Tactic Idealize.SL.Sem
open Cert.Update Cert.KernelUpdateOut1Ideal Cert.KernelUpdateOut1Ideal.Gen

variable (m : (ℓ : Loc nD τ sig) → Buf (Elt Ideal) ℓ) (c : Dev nD) (t : Fin cfg0.N)

/-- The arguments, and the blocks of them a point reads. -/
abbrev a0 : Vec Ideal S8x256x2048 .bf16 := m ((c : Thread nD τ).loc main_arg0)
abbrev a1 : Vec Ideal S4x256x2048 .f32 := m ((c : Thread nD τ).loc main_arg1)
abbrev a2 : Vec Ideal S4x256x2048 .f32 := m ((c : Thread nD τ).loc main_arg2)
abbrev a3 : Vec Ideal S4x256x2048 .f32 := m ((c : Thread nD τ).loc main_arg3)
abbrev a4 : Vec Ideal S4x256x2048 .f32 := m ((c : Thread nD τ).loc main_arg4)
abbrev a5 : Vec Ideal S4x256x2048 .f32 := m ((c : Thread nD τ).loc main_arg5)
abbrev a6 : Vec Ideal S4x256x2048 .f32 := m ((c : Thread nD τ).loc main_arg6)
abbrev a7 : Vec Ideal S4x256x2048 .f32 := m ((c : Thread nD τ).loc main_arg7)
abbrev b0 : Vec Ideal S8x128x2048 .bf16 := iblk m c 0 t
abbrev b1 : Vec Ideal S1x128x2048 .f32 := iblk m c 1 t
abbrev b2 : Vec Ideal S1x128x2048 .f32 := iblk m c 2 t
abbrev b3 : Vec Ideal S1x128x2048 .f32 := iblk m c 3 t

/-- What a point leaves. -/
theorem sum_at (r : Fin 128) (l : Fin 2048) : k0_pay3 (View.ld (b0 m c t) (Rect.unit ![0, 0, 0] ![1, 128, 2048] inb_S8x128x2048_S1x128x2048_0_0_0))
    (View.ld (b0 m c t) (Rect.unit ![1, 0, 0] ![1, 128, 2048] inb_S8x128x2048_S1x128x2048_1_0_0))
    (View.ld (b0 m c t) (Rect.unit ![2, 0, 0] ![1, 128, 2048] inb_S8x128x2048_S1x128x2048_2_0_0))
    (View.ld (b0 m c t) (Rect.unit ![3, 0, 0] ![1, 128, 2048] inb_S8x128x2048_S1x128x2048_3_0_0))
    (View.ld (b0 m c t) (Rect.unit ![4, 0, 0] ![1, 128, 2048] inb_S8x128x2048_S1x128x2048_4_0_0))
    (View.ld (b0 m c t) (Rect.unit ![5, 0, 0] ![1, 128, 2048] inb_S8x128x2048_S1x128x2048_5_0_0))
    (View.ld (b0 m c t) (Rect.unit ![6, 0, 0] ![1, 128, 2048] inb_S8x128x2048_S1x128x2048_6_0_0))
    (View.ld (b0 m c t) (Rect.unit ![7, 0, 0] ![1, 128, 2048] inb_S8x128x2048_S1x128x2048_7_0_0)) (ix2 r l) = parts (b0 m c t) r l := by
  pointwise [k0_pay3]
  rw [parts, Fin.sum_univ_eight]
theorem g_at (r : Fin 128) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S128x2048 .f32) (x : Vec Ideal S1x128x2048 .f32) (r : Fin 128) (l : Fin 2048) :
    k0_pay4 g x (ix2 r l) = mom (g (ix2 r l)) (x (ix3 0 r l)) := by
  pointwise [k0_pay4]
  rfl
theorem sqr_pay (g : Vec Ideal S128x2048 .f32) (x : Vec Ideal S1x128x2048 .f32) (r : Fin 128) (l : Fin 2048) :
    k0_pay5 g x (ix2 r l) = sqr (g (ix2 r l)) (x (ix3 0 r l)) := by
  pointwise [k0_pay5]
  rfl
theorem d_at (r : Fin 128) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![1, t.val, 0] ∧ win0_2.index t = ![1, t.val, 0]
    ∧ win0_3.index t = ![1, t.val, 0]) ∧ win0_4.index t = ![1, t.val, 0] ∧ win0_5.index t = ![1, t.val, 0] ∧ win0_6.index t = ![1, t.val, 0]
    ∧ win0_7.index t = ![1, t.val, 0] := by decide +kernel

abbrev row (r : Fin 128) : Fin 256 := ⟨t.val * 128 + r.val, by have : t.val < 2 := t.isLt; omega⟩

theorem blk0 (d : Fin 8) (r : Fin 128) (k : Fin 2048) : b0 m c t (ix3 d r k) = a0 m c (ix3 d (row t r) k) := by
  blk_ext! [iblk, V, (index0 t).1.1]
theorem blk1 (r : Fin 128) (k : Fin 2048) : b1 m c t (ix3 0 r k) = a1 m c (ix3 1 (row t r) k) := by
  blk_ext! [iblk, V, (index0 t).1.2.1]
theorem blk2 (r : Fin 128) (k : Fin 2048) : b2 m c t (ix3 0 r k) = a2 m c (ix3 1 (row t r) k) := by
  blk_ext! [iblk, V, (index0 t).1.2.2.1]
theorem blk3 (r : Fin 128) (k : Fin 2048) : b3 m c t (ix3 0 r k) = a3 m c (ix3 1 (row t r) k) := by
  blk_ext! [iblk, V, (index0 t).1.2.2.2]

theorem parts_block (r : Fin 128) (l : Fin 2048) : parts (b0 m c t) r l = parts (a0 m c) (row t r) l :=
  Finset.sum_congr rfl fun d _ => blk0 m c t d r l

theorem arr4 : (dats m 0 c).arrAt 4 cfg0.N = layer 1 (parts (a0 m c)) (a4 m c) := by
  refine (dats m 0 c).arrAt_eq_of_coversWhere_of_agree 4 _ (fun β => β (0 : Fin 3) = 1) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 1 (parts (a0 m c)) (a4 m c) (row t y1) y2).symm.trans (congrArg (layer 1 (parts (a0 m c)) (a4 m c)) ?_)
    blk_ext! [(index0 t).2.1]
  · refine layer_out 1 (parts (a0 m c)) (a4 m c) _ fun h => hj ?_
    exact (Nat.div_one _).trans h
theorem arr5 : (dats m 0 c).arrAt 5 cfg0.N = layer 1 (chgs 1 (a0 m c) (a1 m c) (a2 m c) (a3 m c)) (a5 m c) := by
  refine (dats m 0 c).arrAt_eq_of_coversWhere_of_agree 5 _ (fun β => β (0 : Fin 3) = 1) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 1 (chgs 1 (a0 m c) (a1 m c) (a2 m c) (a3 m c)) (a5 m c) (row t y1) y2).symm.trans (congrArg (layer 1 (chgs 1 (a0 m c) (a1 m c) (a2 m c) (a3 m c)) (a5 m c)) ?_)
    blk_ext! [(index0 t).2.2.1]
  · refine layer_out 1 (chgs 1 (a0 m c) (a1 m c) (a2 m c) (a3 m c)) (a5 m c) _ fun h => hj ?_
    exact (Nat.div_one _).trans h
theorem arr6 : (dats m 0 c).arrAt 6 cfg0.N = layer 1 (moms 1 (a0 m c) (a2 m c)) (a6 m c) := by
  refine (dats m 0 c).arrAt_eq_of_coversWhere_of_agree 6 _ (fun β => β (0 : Fin 3) = 1) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 1 (moms 1 (a0 m c) (a2 m c)) (a6 m c) (row t y1) y2).symm.trans (congrArg (layer 1 (moms 1 (a0 m c) (a2 m c)) (a6 m c)) ?_)
    blk_ext! [(index0 t).2.2.2.1]
  · refine layer_out 1 (moms 1 (a0 m c) (a2 m c)) (a6 m c) _ fun h => hj ?_
    exact (Nat.div_one _).trans h
theorem arr7 : (dats m 0 c).arrAt 7 cfg0.N = layer 1 (sqrs 1 (a0 m c) (a3 m c)) (a7 m c) := by
  refine (dats m 0 c).arrAt_eq_of_coversWhere_of_agree 7 _ (fun β => β (0 : Fin 3) = 1) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 1 (sqrs 1 (a0 m c) (a3 m c)) (a7 m c) (row t y1) y2).symm.trans (congrArg (layer 1 (sqrs 1 (a0 m c) (a3 m c)) (a7 m c)) ?_)
    blk_ext! [(index0 t).2.2.2.2]
  · refine layer_out 1 (sqrs 1 (a0 m c) (a3 m c)) (a7 m c) _ fun h => hj ?_
    exact (Nat.div_one _).trans h

section Reference
open Cert.ReferenceUpdateOut1Ideal.Read
variable (x0 : Vec Ideal S8x256x2048 .bf16) (x1 x2 x3 o : Vec Ideal S4x256x2048 .f32)

theorem sum_ref (r : Fin 256) (l : Fin 2048) : val_main_v1 (F := Ideal) x0 (ix2 r l) = parts x0 r l := by
  pointwise [val_main_v1, val_main_v0, val_main_cst]
  rfl
theorem mom_ref (r : Fin 256) (l : Fin 2048) : val_main_v12 (F := Ideal) x0 x2 (ix2 r l) = moms 1 x0 x2 r l := by
  pointwise [val_main_v12, val_main_v11, val_main_v10, val_main_v9, val_main_v8, val_main_v5, val_main_v4, val_main_cst_0, val_main_cst_1]
  rw [sum_ref]
  rfl
theorem sqr_ref (r : Fin 256) (l : Fin 2048) : val_main_v18 (F := Ideal) x0 x3 (ix2 r l) = sqrs 1 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 256) (l : Fin 2048) : val_main_v31 (F := Ideal) x0 x1 x2 x3 (ix2 r l) = chgs 1 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 1 (parts x0) o := by
  funext y
  idx_vars y
  pointwise [val_main_v35, val_main_v34, val_main_v33, val_main_v32]
  match y0 with
  | 0 => rfl
  | 1 => exact sum_ref x0 y1 y2
  | 2 => rfl
  | 3 => rfl
theorem ref5 : val_main_v39 (F := Ideal) x0 x1 x2 x3 o = layer 1 (chgs 1 x0 x1 x2 x3) o := by
  funext y
  idx_vars y
  pointwise [val_main_v39, val_main_v38, val_main_v37, val_main_v36]
  match y0 with
  | 0 => rfl
  | 1 => exact chg_ref x0 x1 x2 x3 y1 y2
  | 2 => rfl
  | 3 => rfl
theorem ref6 : val_main_v43 (F := Ideal) x0 x2 o = layer 1 (moms 1 x0 x2) o := by
  funext y
  idx_vars y
  pointwise [val_main_v43, val_main_v42, val_main_v41, val_main_v40]
  match y0 with
  | 0 => rfl
  | 1 => exact mom_ref x0 x2 y1 y2
  | 2 => rfl
  | 3 => rfl
theorem ref7 : val_main_v47 (F := Ideal) x0 x3 o = layer 1 (sqrs 1 x0 x3) o := by
  funext y
  idx_vars y
  pointwise [val_main_v47, val_main_v46, val_main_v45, val_main_v44]
  match y0 with
  | 0 => rfl
  | 1 => exact sqr_ref x0 x3 y1 y2
  | 2 => rfl
  | 3 => rfl

end Reference

/-! ## The statements -/

theorem frame_kernel : Cert.quiescent_KernelUpdateOut1 (hKernelUpdateOut1 := Cert.KernelUpdateOut1.Gen.facts) :=
  fun m ρ _ => Cert.KernelUpdateOut1.Gen.frame m ρ
theorem frame_kernel_ideal : Cert.quiescent_KernelUpdateOut1Ideal (hKernelUpdateOut1Ideal := Cert.KernelUpdateOut1Ideal.Gen.facts) :=
  fun m ρ _ => Cert.KernelUpdateOut1Ideal.Gen.frame m ρ
theorem frame_reference : Cert.quiescent_ReferenceUpdateOut1Ideal (hReferenceUpdateOut1Ideal := Cert.ReferenceUpdateOut1Ideal.Gen.facts) :=
  fun m ρ _ => (θ_run _ _ _).mono (fun r h => ⟨fun c => (h c).2.2.2.2, sem_eq_zero_of_no_sems rfl r.2⟩)
    (Cert.ReferenceUpdateOut1Ideal.Value.run m ρ)

theorem equal : Cert.algebraic_KernelUpdateOut1Ideal_ReferenceUpdateOut1Ideal (hKernelUpdateOut1Ideal := Cert.KernelUpdateOut1Ideal.Gen.facts)
    (hReferenceUpdateOut1Ideal := Cert.ReferenceUpdateOut1Ideal.Gen.facts) := by
  intro m g m' g' _ hagree
  refine ⟨fun c => layer 1 (parts (a0 m c)) (a4 m c), fun c => layer 1 (chgs 1 (a0 m c) (a1 m c) (a2 m c) (a3 m c)) (a5 m c),
    fun c => layer 1 (moms 1 (a0 m c) (a2 m c)) (a6 m c), fun c => layer 1 (sqrs 1 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateOut1Ideal.Value.run_blocks m g)
  · refine (θ_run _ _ _).mono (fun r h c => ?_) (Cert.ReferenceUpdateOut1Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateOut1Ideal.Read.val_main_v35_eq, h0, h4]
      exact ref4 _ _
    · rw [Cert.ReferenceUpdateOut1Ideal.Read.val_main_v39_eq, h0, h1, h2, h3, h5]
      exact ref5 _ _ _ _ _
    · rw [Cert.ReferenceUpdateOut1Ideal.Read.val_main_v43_eq, h0, h2, h6]
      exact ref6 _ _ _
    · rw [Cert.ReferenceUpdateOut1Ideal.Read.val_main_v47_eq, h0, h3, h7]
      exact ref7 _ _ _

end Cert.UpdateOut1

end
-- ==== Proof.UpdateOut2.lean ====
module

public import proofs.«01_k».proof.Defs
public import proofs.«01_k».proof.Proof.Ref
public import proofs.«01_k».proof.Proof.Update
public import proofs.«01_k».proof.Proof.Gen.KernelUpdateOut2.Frame
public import proofs.«01_k».proof.Proof.Gen.KernelUpdateOut2Ideal.Frame
public import proofs.«01_k».proof.Proof.Gen.KernelUpdateOut2Ideal.Value
public import proofs.«01_k».proof.Proof.Gen.ReferenceUpdateOut2Ideal.Read
public import proofs.«01_k».proof.Proof.Gen.ReferenceUpdateOut2Ideal.Run
public import Idealize.ShloMosaic.Lib.Pipeline.ValueKit
public import Idealize.ShloMosaic.Lib.Quiescent
public import Idealize.ShloMosaic.Lib.Tactic

/-!
The optimiser's step on layer 2 of a stacked weight, counted from 0, with the sum over the devices' parts of its gradient.
-/

@[expose] public section

set_option maxRecDepth 16384

noncomputable section

namespace Cert.UpdateOut2

open Idealize.ShloMosaic Idealize.ShloMosaic.TcCoe Idealize.ShloMosaic.Tactic Idealize.SL.Sem
open Cert.Update Cert.KernelUpdateOut2Ideal Cert.KernelUpdateOut2Ideal.Gen

variable (m : (ℓ : Loc nD τ sig) → Buf (Elt Ideal) ℓ) (c : Dev nD) (t : Fin cfg0.N)

/-- The arguments, and the blocks of them a point reads. -/
abbrev a0 : Vec Ideal S8x256x2048 .bf16 := m ((c : Thread nD τ).loc main_arg0)
abbrev a1 : Vec Ideal S4x256x2048 .f32 := m ((c : Thread nD τ).loc main_arg1)
abbrev a2 : Vec Ideal S4x256x2048 .f32 := m ((c : Thread nD τ).loc main_arg2)
abbrev a3 : Vec Ideal S4x256x2048 .f32 := m ((c : Thread nD τ).loc main_arg3)
abbrev a4 : Vec Ideal S4x256x2048 .f32 := m ((c : Thread nD τ).loc main_arg4)
abbrev a5 : Vec Ideal S4x256x2048 .f32 := m ((c : Thread nD τ).loc main_arg5)
abbrev a6 : Vec Ideal S4x256x2048 .f32 := m ((c : Thread nD τ).loc main_arg6)
abbrev a7 : Vec Ideal S4x256x2048 .f32 := m ((c : Thread nD τ).loc main_arg7)
abbrev b0 : Vec Ideal S8x128x2048 .bf16 := iblk m c 0 t
abbrev b1 : Vec Ideal S1x128x2048 .f32 := iblk m c 1 t
abbrev b2 : Vec Ideal S1x128x2048 .f32 := iblk m c 2 t
abbrev b3 : Vec Ideal S1x128x2048 .f32 := iblk m c 3 t

/-- What a point leaves. -/
theorem sum_at (r : Fin 128) (l : Fin 2048) : k0_pay3 (View.ld (b0 m c t) (Rect.unit ![0, 0, 0] ![1, 128, 2048] inb_S8x128x2048_S1x128x2048_0_0_0))
    (View.ld (b0 m c t) (Rect.unit ![1, 0, 0] ![1, 128, 2048] inb_S8x128x2048_S1x128x2048_1_0_0))
    (View.ld (b0 m c t) (Rect.unit ![2, 0, 0] ![1, 128, 2048] inb_S8x128x2048_S1x128x2048_2_0_0))
    (View.ld (b0 m c t) (Rect.unit ![3, 0, 0] ![1, 128, 2048] inb_S8x128x2048_S1x128x2048_3_0_0))
    (View.ld (b0 m c t) (Rect.unit ![4, 0, 0] ![1, 128, 2048] inb_S8x128x2048_S1x128x2048_4_0_0))
    (View.ld (b0 m c t) (Rect.unit ![5, 0, 0] ![1, 128, 2048] inb_S8x128x2048_S1x128x2048_5_0_0))
    (View.ld (b0 m c t) (Rect.unit ![6, 0, 0] ![1, 128, 2048] inb_S8x128x2048_S1x128x2048_6_0_0))
    (View.ld (b0 m c t) (Rect.unit ![7, 0, 0] ![1, 128, 2048] inb_S8x128x2048_S1x128x2048_7_0_0)) (ix2 r l) = parts (b0 m c t) r l := by
  pointwise [k0_pay3]
  rw [parts, Fin.sum_univ_eight]
theorem g_at (r : Fin 128) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S128x2048 .f32) (x : Vec Ideal S1x128x2048 .f32) (r : Fin 128) (l : Fin 2048) :
    k0_pay4 g x (ix2 r l) = mom (g (ix2 r l)) (x (ix3 0 r l)) := by
  pointwise [k0_pay4]
  rfl
theorem sqr_pay (g : Vec Ideal S128x2048 .f32) (x : Vec Ideal S1x128x2048 .f32) (r : Fin 128) (l : Fin 2048) :
    k0_pay5 g x (ix2 r l) = sqr (g (ix2 r l)) (x (ix3 0 r l)) := by
  pointwise [k0_pay5]
  rfl
theorem d_at (r : Fin 128) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![2, t.val, 0] ∧ win0_2.index t = ![2, t.val, 0]
    ∧ win0_3.index t = ![2, t.val, 0]) ∧ win0_4.index t = ![2, t.val, 0] ∧ win0_5.index t = ![2, t.val, 0] ∧ win0_6.index t = ![2, t.val, 0]
    ∧ win0_7.index t = ![2, t.val, 0] := by decide +kernel

abbrev row (r : Fin 128) : Fin 256 := ⟨t.val * 128 + r.val, by have : t.val < 2 := t.isLt; omega⟩

theorem blk0 (d : Fin 8) (r : Fin 128) (k : Fin 2048) : b0 m c t (ix3 d r k) = a0 m c (ix3 d (row t r) k) := by
  blk_ext! [iblk, V, (index0 t).1.1]
theorem blk1 (r : Fin 128) (k : Fin 2048) : b1 m c t (ix3 0 r k) = a1 m c (ix3 2 (row t r) k) := by
  blk_ext! [iblk, V, (index0 t).1.2.1]
theorem blk2 (r : Fin 128) (k : Fin 2048) : b2 m c t (ix3 0 r k) = a2 m c (ix3 2 (row t r) k) := by
  blk_ext! [iblk, V, (index0 t).1.2.2.1]
theorem blk3 (r : Fin 128) (k : Fin 2048) : b3 m c t (ix3 0 r k) = a3 m c (ix3 2 (row t r) k) := by
  blk_ext! [iblk, V, (index0 t).1.2.2.2]

theorem parts_block (r : Fin 128) (l : Fin 2048) : parts (b0 m c t) r l = parts (a0 m c) (row t r) l :=
  Finset.sum_congr rfl fun d _ => blk0 m c t d r l

theorem arr4 : (dats m 0 c).arrAt 4 cfg0.N = layer 2 (parts (a0 m c)) (a4 m c) := by
  refine (dats m 0 c).arrAt_eq_of_coversWhere_of_agree 4 _ (fun β => β (0 : Fin 3) = 2) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 2 (parts (a0 m c)) (a4 m c) (row t y1) y2).symm.trans (congrArg (layer 2 (parts (a0 m c)) (a4 m c)) ?_)
    blk_ext! [(index0 t).2.1]
  · refine layer_out 2 (parts (a0 m c)) (a4 m c) _ fun h => hj ?_
    exact (Nat.div_one _).trans h
theorem arr5 : (dats m 0 c).arrAt 5 cfg0.N = layer 2 (chgs 2 (a0 m c) (a1 m c) (a2 m c) (a3 m c)) (a5 m c) := by
  refine (dats m 0 c).arrAt_eq_of_coversWhere_of_agree 5 _ (fun β => β (0 : Fin 3) = 2) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 2 (chgs 2 (a0 m c) (a1 m c) (a2 m c) (a3 m c)) (a5 m c) (row t y1) y2).symm.trans (congrArg (layer 2 (chgs 2 (a0 m c) (a1 m c) (a2 m c) (a3 m c)) (a5 m c)) ?_)
    blk_ext! [(index0 t).2.2.1]
  · refine layer_out 2 (chgs 2 (a0 m c) (a1 m c) (a2 m c) (a3 m c)) (a5 m c) _ fun h => hj ?_
    exact (Nat.div_one _).trans h
theorem arr6 : (dats m 0 c).arrAt 6 cfg0.N = layer 2 (moms 2 (a0 m c) (a2 m c)) (a6 m c) := by
  refine (dats m 0 c).arrAt_eq_of_coversWhere_of_agree 6 _ (fun β => β (0 : Fin 3) = 2) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 2 (moms 2 (a0 m c) (a2 m c)) (a6 m c) (row t y1) y2).symm.trans (congrArg (layer 2 (moms 2 (a0 m c) (a2 m c)) (a6 m c)) ?_)
    blk_ext! [(index0 t).2.2.2.1]
  · refine layer_out 2 (moms 2 (a0 m c) (a2 m c)) (a6 m c) _ fun h => hj ?_
    exact (Nat.div_one _).trans h
theorem arr7 : (dats m 0 c).arrAt 7 cfg0.N = layer 2 (sqrs 2 (a0 m c) (a3 m c)) (a7 m c) := by
  refine (dats m 0 c).arrAt_eq_of_coversWhere_of_agree 7 _ (fun β => β (0 : Fin 3) = 2) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 2 (sqrs 2 (a0 m c) (a3 m c)) (a7 m c) (row t y1) y2).symm.trans (congrArg (layer 2 (sqrs 2 (a0 m c) (a3 m c)) (a7 m c)) ?_)
    blk_ext! [(index0 t).2.2.2.2]
  · refine layer_out 2 (sqrs 2 (a0 m c) (a3 m c)) (a7 m c) _ fun h => hj ?_
    exact (Nat.div_one _).trans h

section Reference
open Cert.ReferenceUpdateOut2Ideal.Read
variable (x0 : Vec Ideal S8x256x2048 .bf16) (x1 x2 x3 o : Vec Ideal S4x256x2048 .f32)

theorem sum_ref (r : Fin 256) (l : Fin 2048) : val_main_v1 (F := Ideal) x0 (ix2 r l) = parts x0 r l := by
  pointwise [val_main_v1, val_main_v0, val_main_cst]
  rfl
theorem mom_ref (r : Fin 256) (l : Fin 2048) : val_main_v12 (F := Ideal) x0 x2 (ix2 r l) = moms 2 x0 x2 r l := by
  pointwise [val_main_v12, val_main_v11, val_main_v10, val_main_v9, val_main_v8, val_main_v5, val_main_v4, val_main_cst_0, val_main_cst_1]
  rw [sum_ref]
  rfl
theorem sqr_ref (r : Fin 256) (l : Fin 2048) : val_main_v18 (F := Ideal) x0 x3 (ix2 r l) = sqrs 2 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 256) (l : Fin 2048) : val_main_v31 (F := Ideal) x0 x1 x2 x3 (ix2 r l) = chgs 2 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 2 (parts x0) o := by
  funext y
  idx_vars y
  pointwise [val_main_v35, val_main_v34, val_main_v33, val_main_v32]
  match y0 with
  | 0 => rfl
  | 1 => rfl
  | 2 => exact sum_ref x0 y1 y2
  | 3 => rfl
theorem ref5 : val_main_v39 (F := Ideal) x0 x1 x2 x3 o = layer 2 (chgs 2 x0 x1 x2 x3) o := by
  funext y
  idx_vars y
  pointwise [val_main_v39, val_main_v38, val_main_v37, val_main_v36]
  match y0 with
  | 0 => rfl
  | 1 => rfl
  | 2 => exact chg_ref x0 x1 x2 x3 y1 y2
  | 3 => rfl
theorem ref6 : val_main_v43 (F := Ideal) x0 x2 o = layer 2 (moms 2 x0 x2) o := by
  funext y
  idx_vars y
  pointwise [val_main_v43, val_main_v42, val_main_v41, val_main_v40]
  match y0 with
  | 0 => rfl
  | 1 => rfl
  | 2 => exact mom_ref x0 x2 y1 y2
  | 3 => rfl
theorem ref7 : val_main_v47 (F := Ideal) x0 x3 o = layer 2 (sqrs 2 x0 x3) o := by
  funext y
  idx_vars y
  pointwise [val_main_v47, val_main_v46, val_main_v45, val_main_v44]
  match y0 with
  | 0 => rfl
  | 1 => rfl
  | 2 => exact sqr_ref x0 x3 y1 y2
  | 3 => rfl

end Reference

/-! ## The statements -/

theorem frame_kernel : Cert.quiescent_KernelUpdateOut2 (hKernelUpdateOut2 := Cert.KernelUpdateOut2.Gen.facts) :=
  fun m ρ _ => Cert.KernelUpdateOut2.Gen.frame m ρ
theorem frame_kernel_ideal : Cert.quiescent_KernelUpdateOut2Ideal (hKernelUpdateOut2Ideal := Cert.KernelUpdateOut2Ideal.Gen.facts) :=
  fun m ρ _ => Cert.KernelUpdateOut2Ideal.Gen.frame m ρ
theorem frame_reference : Cert.quiescent_ReferenceUpdateOut2Ideal (hReferenceUpdateOut2Ideal := Cert.ReferenceUpdateOut2Ideal.Gen.facts) :=
  fun m ρ _ => (θ_run _ _ _).mono (fun r h => ⟨fun c => (h c).2.2.2.2, sem_eq_zero_of_no_sems rfl r.2⟩)
    (Cert.ReferenceUpdateOut2Ideal.Value.run m ρ)

theorem equal : Cert.algebraic_KernelUpdateOut2Ideal_ReferenceUpdateOut2Ideal (hKernelUpdateOut2Ideal := Cert.KernelUpdateOut2Ideal.Gen.facts)
    (hReferenceUpdateOut2Ideal := Cert.ReferenceUpdateOut2Ideal.Gen.facts) := by
  intro m g m' g' _ hagree
  refine ⟨fun c => layer 2 (parts (a0 m c)) (a4 m c), fun c => layer 2 (chgs 2 (a0 m c) (a1 m c) (a2 m c) (a3 m c)) (a5 m c),
    fun c => layer 2 (moms 2 (a0 m c) (a2 m c)) (a6 m c), fun c => layer 2 (sqrs 2 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateOut2Ideal.Value.run_blocks m g)
  · refine (θ_run _ _ _).mono (fun r h c => ?_) (Cert.ReferenceUpdateOut2Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateOut2Ideal.Read.val_main_v35_eq, h0, h4]
      exact ref4 _ _
    · rw [Cert.ReferenceUpdateOut2Ideal.Read.val_main_v39_eq, h0, h1, h2, h3, h5]
      exact ref5 _ _ _ _ _
    · rw [Cert.ReferenceUpdateOut2Ideal.Read.val_main_v43_eq, h0, h2, h6]
      exact ref6 _ _ _
    · rw [Cert.ReferenceUpdateOut2Ideal.Read.val_main_v47_eq, h0, h3, h7]
      exact ref7 _ _ _

end Cert.UpdateOut2

end
-- ==== Proof.UpdateOut3.lean ====
module

public import proofs.«01_k».proof.Defs
public import proofs.«01_k».proof.Proof.Ref
public import proofs.«01_k».proof.Proof.Update
public import proofs.«01_k».proof.Proof.Gen.KernelUpdateOut3.Frame
public import proofs.«01_k».proof.Proof.Gen.KernelUpdateOut3Ideal.Frame
public import proofs.«01_k».proof.Proof.Gen.KernelUpdateOut3Ideal.Value
public import proofs.«01_k».proof.Proof.Gen.ReferenceUpdateOut3Ideal.Read
public import proofs.«01_k».proof.Proof.Gen.ReferenceUpdateOut3Ideal.Run
public import Idealize.ShloMosaic.Lib.Pipeline.ValueKit
public import Idealize.ShloMosaic.Lib.Quiescent
public import Idealize.ShloMosaic.Lib.Tactic

/-!
The optimiser's step on layer 3 of a stacked weight, counted from 0, with the sum over the devices' parts of its gradient.
-/

@[expose] public section

set_option maxRecDepth 16384

noncomputable section

namespace Cert.UpdateOut3

open Idealize.ShloMosaic Idealize.ShloMosaic.TcCoe Idealize.ShloMosaic.Tactic Idealize.SL.Sem
open Cert.Update Cert.KernelUpdateOut3Ideal Cert.KernelUpdateOut3Ideal.Gen

variable (m : (ℓ : Loc nD τ sig) → Buf (Elt Ideal) ℓ) (c : Dev nD) (t : Fin cfg0.N)

/-- The arguments, and the blocks of them a point reads. -/
abbrev a0 : Vec Ideal S8x256x2048 .bf16 := m ((c : Thread nD τ).loc main_arg0)
abbrev a1 : Vec Ideal S4x256x2048 .f32 := m ((c : Thread nD τ).loc main_arg1)
abbrev a2 : Vec Ideal S4x256x2048 .f32 := m ((c : Thread nD τ).loc main_arg2)
abbrev a3 : Vec Ideal S4x256x2048 .f32 := m ((c : Thread nD τ).loc main_arg3)
abbrev a4 : Vec Ideal S4x256x2048 .f32 := m ((c : Thread nD τ).loc main_arg4)
abbrev a5 : Vec Ideal S4x256x2048 .f32 := m ((c : Thread nD τ).loc main_arg5)
abbrev a6 : Vec Ideal S4x256x2048 .f32 := m ((c : Thread nD τ).loc main_arg6)
abbrev a7 : Vec Ideal S4x256x2048 .f32 := m ((c : Thread nD τ).loc main_arg7)
abbrev b0 : Vec Ideal S8x128x2048 .bf16 := iblk m c 0 t
abbrev b1 : Vec Ideal S1x128x2048 .f32 := iblk m c 1 t
abbrev b2 : Vec Ideal S1x128x2048 .f32 := iblk m c 2 t
abbrev b3 : Vec Ideal S1x128x2048 .f32 := iblk m c 3 t

/-- What a point leaves. -/
theorem sum_at (r : Fin 128) (l : Fin 2048) : k0_pay3 (View.ld (b0 m c t) (Rect.unit ![0, 0, 0] ![1, 128, 2048] inb_S8x128x2048_S1x128x2048_0_0_0))
    (View.ld (b0 m c t) (Rect.unit ![1, 0, 0] ![1, 128, 2048] inb_S8x128x2048_S1x128x2048_1_0_0))
    (View.ld (b0 m c t) (Rect.unit ![2, 0, 0] ![1, 128, 2048] inb_S8x128x2048_S1x128x2048_2_0_0))
    (View.ld (b0 m c t) (Rect.unit ![3, 0, 0] ![1, 128, 2048] inb_S8x128x2048_S1x128x2048_3_0_0))
    (View.ld (b0 m c t) (Rect.unit ![4, 0, 0] ![1, 128, 2048] inb_S8x128x2048_S1x128x2048_4_0_0))
    (View.ld (b0 m c t) (Rect.unit ![5, 0, 0] ![1, 128, 2048] inb_S8x128x2048_S1x128x2048_5_0_0))
    (View.ld (b0 m c t) (Rect.unit ![6, 0, 0] ![1, 128, 2048] inb_S8x128x2048_S1x128x2048_6_0_0))
    (View.ld (b0 m c t) (Rect.unit ![7, 0, 0] ![1, 128, 2048] inb_S8x128x2048_S1x128x2048_7_0_0)) (ix2 r l) = parts (b0 m c t) r l := by
  pointwise [k0_pay3]
  rw [parts, Fin.sum_univ_eight]
theorem g_at (r : Fin 128) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S128x2048 .f32) (x : Vec Ideal S1x128x2048 .f32) (r : Fin 128) (l : Fin 2048) :
    k0_pay4 g x (ix2 r l) = mom (g (ix2 r l)) (x (ix3 0 r l)) := by
  pointwise [k0_pay4]
  rfl
theorem sqr_pay (g : Vec Ideal S128x2048 .f32) (x : Vec Ideal S1x128x2048 .f32) (r : Fin 128) (l : Fin 2048) :
    k0_pay5 g x (ix2 r l) = sqr (g (ix2 r l)) (x (ix3 0 r l)) := by
  pointwise [k0_pay5]
  rfl
theorem d_at (r : Fin 128) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![3, t.val, 0] ∧ win0_2.index t = ![3, t.val, 0]
    ∧ win0_3.index t = ![3, t.val, 0]) ∧ win0_4.index t = ![3, t.val, 0] ∧ win0_5.index t = ![3, t.val, 0] ∧ win0_6.index t = ![3, t.val, 0]
    ∧ win0_7.index t = ![3, t.val, 0] := by decide +kernel

abbrev row (r : Fin 128) : Fin 256 := ⟨t.val * 128 + r.val, by have : t.val < 2 := t.isLt; omega⟩

theorem blk0 (d : Fin 8) (r : Fin 128) (k : Fin 2048) : b0 m c t (ix3 d r k) = a0 m c (ix3 d (row t r) k) := by
  blk_ext! [iblk, V, (index0 t).1.1]
theorem blk1 (r : Fin 128) (k : Fin 2048) : b1 m c t (ix3 0 r k) = a1 m c (ix3 3 (row t r) k) := by
  blk_ext! [iblk, V, (index0 t).1.2.1]
theorem blk2 (r : Fin 128) (k : Fin 2048) : b2 m c t (ix3 0 r k) = a2 m c (ix3 3 (row t r) k) := by
  blk_ext! [iblk, V, (index0 t).1.2.2.1]
theorem blk3 (r : Fin 128) (k : Fin 2048) : b3 m c t (ix3 0 r k) = a3 m c (ix3 3 (row t r) k) := by
  blk_ext! [iblk, V, (index0 t).1.2.2.2]

theorem parts_block (r : Fin 128) (l : Fin 2048) : parts (b0 m c t) r l = parts (a0 m c) (row t r) l :=
  Finset.sum_congr rfl fun d _ => blk0 m c t d r l

theorem arr4 : (dats m 0 c).arrAt 4 cfg0.N = layer 3 (parts (a0 m c)) (a4 m c) := by
  refine (dats m 0 c).arrAt_eq_of_coversWhere_of_agree 4 _ (fun β => β (0 : Fin 3) = 3) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 3 (parts (a0 m c)) (a4 m c) (row t y1) y2).symm.trans (congrArg (layer 3 (parts (a0 m c)) (a4 m c)) ?_)
    blk_ext! [(index0 t).2.1]
  · refine layer_out 3 (parts (a0 m c)) (a4 m c) _ fun h => hj ?_
    exact (Nat.div_one _).trans h
theorem arr5 : (dats m 0 c).arrAt 5 cfg0.N = layer 3 (chgs 3 (a0 m c) (a1 m c) (a2 m c) (a3 m c)) (a5 m c) := by
  refine (dats m 0 c).arrAt_eq_of_coversWhere_of_agree 5 _ (fun β => β (0 : Fin 3) = 3) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 3 (chgs 3 (a0 m c) (a1 m c) (a2 m c) (a3 m c)) (a5 m c) (row t y1) y2).symm.trans (congrArg (layer 3 (chgs 3 (a0 m c) (a1 m c) (a2 m c) (a3 m c)) (a5 m c)) ?_)
    blk_ext! [(index0 t).2.2.1]
  · refine layer_out 3 (chgs 3 (a0 m c) (a1 m c) (a2 m c) (a3 m c)) (a5 m c) _ fun h => hj ?_
    exact (Nat.div_one _).trans h
theorem arr6 : (dats m 0 c).arrAt 6 cfg0.N = layer 3 (moms 3 (a0 m c) (a2 m c)) (a6 m c) := by
  refine (dats m 0 c).arrAt_eq_of_coversWhere_of_agree 6 _ (fun β => β (0 : Fin 3) = 3) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 3 (moms 3 (a0 m c) (a2 m c)) (a6 m c) (row t y1) y2).symm.trans (congrArg (layer 3 (moms 3 (a0 m c) (a2 m c)) (a6 m c)) ?_)
    blk_ext! [(index0 t).2.2.2.1]
  · refine layer_out 3 (moms 3 (a0 m c) (a2 m c)) (a6 m c) _ fun h => hj ?_
    exact (Nat.div_one _).trans h
theorem arr7 : (dats m 0 c).arrAt 7 cfg0.N = layer 3 (sqrs 3 (a0 m c) (a3 m c)) (a7 m c) := by
  refine (dats m 0 c).arrAt_eq_of_coversWhere_of_agree 7 _ (fun β => β (0 : Fin 3) = 3) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 3 (sqrs 3 (a0 m c) (a3 m c)) (a7 m c) (row t y1) y2).symm.trans (congrArg (layer 3 (sqrs 3 (a0 m c) (a3 m c)) (a7 m c)) ?_)
    blk_ext! [(index0 t).2.2.2.2]
  · refine layer_out 3 (sqrs 3 (a0 m c) (a3 m c)) (a7 m c) _ fun h => hj ?_
    exact (Nat.div_one _).trans h

section Reference
open Cert.ReferenceUpdateOut3Ideal.Read
variable (x0 : Vec Ideal S8x256x2048 .bf16) (x1 x2 x3 o : Vec Ideal S4x256x2048 .f32)

theorem sum_ref (r : Fin 256) (l : Fin 2048) : val_main_v1 (F := Ideal) x0 (ix2 r l) = parts x0 r l := by
  pointwise [val_main_v1, val_main_v0, val_main_cst]
  rfl
theorem mom_ref (r : Fin 256) (l : Fin 2048) : val_main_v12 (F := Ideal) x0 x2 (ix2 r l) = moms 3 x0 x2 r l := by
  pointwise [val_main_v12, val_main_v11, val_main_v10, val_main_v9, val_main_v8, val_main_v5, val_main_v4, val_main_cst_0, val_main_cst_1]
  rw [sum_ref]
  rfl
theorem sqr_ref (r : Fin 256) (l : Fin 2048) : val_main_v18 (F := Ideal) x0 x3 (ix2 r l) = sqrs 3 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 256) (l : Fin 2048) : val_main_v31 (F := Ideal) x0 x1 x2 x3 (ix2 r l) = chgs 3 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 3 (parts x0) o := by
  funext y
  idx_vars y
  pointwise [val_main_v35, val_main_v33, val_main_v32]
  match y0 with
  | 0 => rfl
  | 1 => rfl
  | 2 => rfl
  | 3 => exact sum_ref x0 y1 y2
theorem ref5 : val_main_v39 (F := Ideal) x0 x1 x2 x3 o = layer 3 (chgs 3 x0 x1 x2 x3) o := by
  funext y
  idx_vars y
  pointwise [val_main_v39, val_main_v37, val_main_v36]
  match y0 with
  | 0 => rfl
  | 1 => rfl
  | 2 => rfl
  | 3 => exact chg_ref x0 x1 x2 x3 y1 y2
theorem ref6 : val_main_v43 (F := Ideal) x0 x2 o = layer 3 (moms 3 x0 x2) o := by
  funext y
  idx_vars y
  pointwise [val_main_v43, val_main_v41, val_main_v40]
  match y0 with
  | 0 => rfl
  | 1 => rfl
  | 2 => rfl
  | 3 => exact mom_ref x0 x2 y1 y2
theorem ref7 : val_main_v47 (F := Ideal) x0 x3 o = layer 3 (sqrs 3 x0 x3) o := by
  funext y
  idx_vars y
  pointwise [val_main_v47, val_main_v45, val_main_v44]
  match y0 with
  | 0 => rfl
  | 1 => rfl
  | 2 => rfl
  | 3 => exact sqr_ref x0 x3 y1 y2

end Reference

/-! ## The statements -/

theorem frame_kernel : Cert.quiescent_KernelUpdateOut3 (hKernelUpdateOut3 := Cert.KernelUpdateOut3.Gen.facts) :=
  fun m ρ _ => Cert.KernelUpdateOut3.Gen.frame m ρ
theorem frame_kernel_ideal : Cert.quiescent_KernelUpdateOut3Ideal (hKernelUpdateOut3Ideal := Cert.KernelUpdateOut3Ideal.Gen.facts) :=
  fun m ρ _ => Cert.KernelUpdateOut3Ideal.Gen.frame m ρ
theorem frame_reference : Cert.quiescent_ReferenceUpdateOut3Ideal (hReferenceUpdateOut3Ideal := Cert.ReferenceUpdateOut3Ideal.Gen.facts) :=
  fun m ρ _ => (θ_run _ _ _).mono (fun r h => ⟨fun c => (h c).2.2.2.2, sem_eq_zero_of_no_sems rfl r.2⟩)
    (Cert.ReferenceUpdateOut3Ideal.Value.run m ρ)

theorem equal : Cert.algebraic_KernelUpdateOut3Ideal_ReferenceUpdateOut3Ideal (hKernelUpdateOut3Ideal := Cert.KernelUpdateOut3Ideal.Gen.facts)
    (hReferenceUpdateOut3Ideal := Cert.ReferenceUpdateOut3Ideal.Gen.facts) := by
  intro m g m' g' _ hagree
  refine ⟨fun c => layer 3 (parts (a0 m c)) (a4 m c), fun c => layer 3 (chgs 3 (a0 m c) (a1 m c) (a2 m c) (a3 m c)) (a5 m c),
    fun c => layer 3 (moms 3 (a0 m c) (a2 m c)) (a6 m c), fun c => layer 3 (sqrs 3 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateOut3Ideal.Value.run_blocks m g)
  · refine (θ_run _ _ _).mono (fun r h c => ?_) (Cert.ReferenceUpdateOut3Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateOut3Ideal.Read.val_main_v35_eq, h0, h4]
      exact ref4 _ _
    · rw [Cert.ReferenceUpdateOut3Ideal.Read.val_main_v39_eq, h0, h1, h2, h3, h5]
      exact ref5 _ _ _ _ _
    · rw [Cert.ReferenceUpdateOut3Ideal.Read.val_main_v43_eq, h0, h2, h6]
      exact ref6 _ _ _
    · rw [Cert.ReferenceUpdateOut3Ideal.Read.val_main_v47_eq, h0, h3, h7]
      exact ref7 _ _ _

end Cert.UpdateOut3

end
-- ==== Proof.BiasC.lean ====
module

public import proofs.«01_k».proof.Defs
public import proofs.«01_k».proof.Proof.Ref
public import proofs.«01_k».proof.Proof.Gen.KernelBiasC.Frame
public import proofs.«01_k».proof.Proof.Gen.KernelBiasCIdeal.Frame
public import proofs.«01_k».proof.Proof.Gen.KernelBiasCIdeal.Value
public import proofs.«01_k».proof.Proof.Gen.ReferenceBiasCIdeal.Read
public import proofs.«01_k».proof.Proof.Gen.ReferenceBiasCIdeal.Run
public import Idealize.ShloMosaic.Lib.Pipeline.ValueKit
public import Idealize.ShloMosaic.Lib.Quiescent
public import Idealize.ShloMosaic.Lib.Tactic

/-!
The gradient of the dilated attention's bias table: a sum, for each bucket, of the logits' gradients of the three
branches that lie in it.
-/

@[expose] public section

set_option maxRecDepth 16384

noncomputable section

namespace Cert.BiasC

open Idealize.ShloMosaic Idealize.ShloMosaic.TcCoe Idealize.ShloMosaic.Tactic Idealize.SL.Sem
open Cert.KernelBiasCIdeal Cert.KernelBiasCIdeal.Gen

variable (m : (ℓ : Loc nD τ sig) → Buf (Elt Ideal) ℓ) (c : Dev nD) (t : Fin cfg0.N)

/-- The arguments, and the blocks of them a point reads. -/
abbrev a0 : Vec Ideal S3x16x128x256 .f32 := m ((c : Thread nD τ).loc main_arg0)
abbrev a1 : Vec Ideal S3x128x256 .i32 := m ((c : Thread nD τ).loc main_arg1)
abbrev b0 : Vec Ideal S3x1x128x256 .f32 := iblk m c 0 t
abbrev b1 : Vec Ideal S3x128x256 .i32 := iblk m c 1 t

/-- A choice by an equality of words. -/
theorem select_eq {α : Type} (p q : BitVec 32) (u v : α) : Scalar.select (IntOp.cmpi .eq p q) u v = if p = q then u else v := by
  show (if BitVec.ofBool (p == q) = 1#1 then u else v) = _
  by_cases h : p = q
  · simp [h]
  · rw [beq_eq_false_iff_ne.mpr h, if_neg h]
    rfl

section Buckets
variable (x0 : Vec Ideal S3x1x128x256 .f32) (x1 : Vec Ideal S3x128x256 .i32)

/-- One bucket's sum as the kernel writes it: keep a branch's gradients of the bucket, add the rows up, then the lanes;
    add the branches up from zero; and put the sum on the bucket's lane. -/
def kept (x : Vec Ideal S1x1x128x256 .f32) (y : Vec Ideal S1x128x256 .i32) (b : BitVec 32) : FVec Ideal S128x256 .f32 :=
  select (cmpi .eq (shapeCast S128x256 y shapeCasts_S1x128x256_S128x256) (broadcast S128x256 b))
    (shapeCast S128x256 x shapeCasts_S1x1x128x256_S128x256) (broadcast S128x256 (Scalar.ofBits .f32 0x00000000#32))
def branch (x : Vec Ideal S1x1x128x256 .f32) (y : Vec Ideal S1x128x256 .i32) (b : BitVec 32) : FVec Ideal S1x1 .f32 :=
  shapeCast S1x1 (multiReduction .add [1] S1 (shapeCast S1x256
    (multiReduction .add [0] S256 (kept x y b) 0x00000000#32 reduces_S128x256_S256 (.inl rfl) rfl) shapeCasts_S256_S1x256)
    0x00000000#32 reduces_S1x256_S1 (.inl rfl) rfl) shapeCasts_S1_S1x1
def summed (b : BitVec 32) : FVec Ideal S1x1 .f32 :=
  addf (addf (addf (broadcast S1x1 (Scalar.ofBits .f32 0x00000000#32)) (branch (View.ld x0 r0_1) (View.ld x1 r0_0) b))
    (branch (View.ld x0 r0_3) (View.ld x1 r0_2) b)) (branch (View.ld x0 r0_5) (View.ld x1 r0_4) b)
def put (b : BitVec 32) (acc : FVec Ideal S1x128 .f32) : FVec Ideal S1x128 .f32 :=
  select (cmpi .eq (iota .tc S1x128 32 [1] iota_S1x128_d1_w32) (broadcast S1x128 b))
    (broadcastTo S1x128 (shapeCast S1x1 (summed x0 x1 b) shapeCasts_S1x1_S1x1) broadcasts_S1x1_S1x128) acc

/-- The lanes after the first `n` buckets. -/
def lanes : ℕ → FVec Ideal S1x128 .f32
  | 0 => broadcast S1x128 (Scalar.ofBits .f32 0x00000000#32)
  | n + 1 => put x0 x1 (BitVec.ofNat 32 n) (lanes n)

theorem out_lanes : out0_2 x0 x1 = View.canon [⟨r0_6, shapeCast S1x8x128 (broadcastTo S8x128
    (shapeCast S1x128 (lanes x0 x1 32) shapeCasts_S1x128_S1x128) broadcasts_S1x128_S8x128) shapeCasts_S8x128_S1x8x128⟩] := rfl

/-- One bucket's sum. -/
def bucket (b : BitVec 32) : EReal := ∑ g : Fin 3, ∑ k : Fin 256, ∑ r : Fin 128, if x1 (ix3 g r k) = b then x0 (ix4 g 0 r k) else 0

theorem branch_at (x : Vec Ideal S1x1x128x256 .f32) (y : Vec Ideal S1x128x256 .i32) (b : BitVec 32) :
    branch x y b (ix2 0 0) = ∑ k : Fin 256, ∑ r : Fin 128, if y (ix3 0 r k) = b then x (ix4 0 0 r k) else 0 := by
  pointwise [branch, kept]
  exact Finset.sum_congr rfl fun k _ => Finset.sum_congr rfl fun r _ => select_eq _ _ _ _
theorem summed_at (b : BitVec 32) : summed x0 x1 b (ix2 0 0) = bucket x0 x1 b := by
  pointwise [summed]
  rw [branch_at, branch_at, branch_at, bucket, Fin.sum_univ_three]
  refine congr (congrArg _ (congr (congrArg _ ?_) ?_)) ?_ <;>
    exact Finset.sum_congr rfl fun k _ => Finset.sum_congr rfl fun r _ => by pointwise []
theorem put_at (b : BitVec 32) (acc : FVec Ideal S1x128 .f32) (l : Fin 128) :
    put x0 x1 b acc (ix2 0 l) = if BitVec.ofNat 32 l.val = b then bucket x0 x1 b else acc (ix2 0 l) := by
  rw [← summed_at]
  pointwise [put]
  exact select_eq _ _ _ _
theorem lanes_at : ∀ (n : ℕ) (hn : n ≤ 128) (l : Fin 128), lanes x0 x1 n (ix2 0 l) = if l.val < n then bucket x0 x1 (BitVec.ofNat 32 l.val) else 0 := by
  intro n
  induction n with
  | zero =>
    intro hn l
    show Ideal.ofBits .f32 0x00000000#32 = _
    simp [Nat.not_lt_zero]
  | succ n ih =>
    intro hn l
    refine (put_at x0 x1 _ _ l).trans ?_
    by_cases h : l.val = n
    · rw [h, if_pos rfl, if_pos (Nat.lt_succ_self n)]
    · rw [if_neg (fun e => h ?_), ih (by omega) l]
      · exact if_congr (by omega) rfl rfl
      · have := congrArg BitVec.toNat e
        simp only [BitVec.toNat_ofNat] at this
        have := l.isLt
        omega

theorem out_at (i : Fin 1) (s : Fin 8) (l : Fin 128) : out0_2 x0 x1 (ix3 i s l) = if l.val < 32 then bucket x0 x1 (BitVec.ofNat 32 l.val) else 0 := by
  rw [out_lanes]
  frame_out
  rw [← lanes_at x0 x1 32 (by decide) l]
  pointwise []

end Buckets

/-- Each window's block at a point. -/
theorem index0 : ∀ t : Fin cfg0.N, win0_0.index t = ![0, t.val, 0, 0] ∧ win0_1.index t = ![0, 0, 0] ∧ win0_2.index t = ![t.val, 0, 0] := by
  decide +kernel

abbrev head : Fin 16 := ⟨t.val, t.isLt⟩

theorem blk0 (g : Fin 3) (r : Fin 128) (k : Fin 256) : b0 m c t (ix4 g 0 r k) = a0 m c (ix4 g (head t) r k) := by
  blk_ext! [iblk, V, (index0 t).1]
theorem blk1 (g : Fin 3) (r : Fin 128) (k : Fin 256) : b1 m c t (ix3 g r k) = a1 m c (ix3 g r k) := by
  blk_ext! [iblk, V, (index0 t).2.1]

/-- The result: the table's gradient at a head and a bucket, in eight equal rows, the lanes past the last bucket zero. -/
def total (x : Vec Ideal S3x16x128x256 .f32) (y : Vec Ideal S3x128x256 .i32) (h : Fin 16) (b : BitVec 32) : EReal :=
  ∑ g : Fin 3, ∑ r : Fin 128, ∑ k : Fin 256, if y (ix3 g r k) = b then x (ix4 g h r k) else 0
def table (x : Vec Ideal S3x16x128x256 .f32) (y : Vec Ideal S3x128x256 .i32) (h : Fin 16) (l : Fin 128) : EReal :=
  if l.val < 32 then total x y h (BitVec.ofNat 32 l.val) else 0
def tables (x : Vec Ideal S3x16x128x256 .f32) (y : Vec Ideal S3x128x256 .i32) : Vec Ideal S16x8x128 .f32 := fun i => table x y (i 0) (i 2)

theorem bucket_block (b : BitVec 32) : bucket (b0 m c t) (b1 m c t) b = total (a0 m c) (a1 m c) (head t) b := by
  refine Finset.sum_congr rfl fun g _ => Finset.sum_comm.trans (Finset.sum_congr rfl fun r _ => Finset.sum_congr rfl fun k _ => ?_)
  rw [blk0, blk1]

theorem arr2 : (dats m 0 c).arrAt 2 cfg0.N = tables (a0 m c) (a1 m c) := by
  refine (dats m 0 c).arrAt_eq_of_covers 2 _ (by decide +kernel) fun t hf y => ?_
  blk_simp
  rw [after0_2]
  idx_vars y
  refine (out_at _ _ _ _ _).trans ?_
  rw [bucket_block]
  refine Eq.trans (b := tables (a0 m c) (a1 m c) (ix3 (head t) y1 y2)) rfl (congrArg (tables (a0 m c) (a1 m c)) ?_)
  blk_ext! [(index0 t).2.2]

section Reference
open Cert.ReferenceBiasCIdeal.Read

/-- A sum over the first, third and fourth axes. -/
theorem keep_two {n0 n1 n2 n3 n4 : ℕ} (h : (⟨5, ![n0, n1, n2, n3, n4]⟩ : Shape).ReducesTo [0, 2, 3] ⟨2, ![n1, n4]⟩)
    (v : (⟨5, ![n0, n1, n2, n3, n4]⟩ : Shape).Idx → EReal) (z : EReal) (p : Fin n1) (q : Fin n4) :
    Ideal.hostReduceAdd h v z (ix2 p q) = z + ∑ g : Fin n0, ∑ j : Fin n2, ∑ k : Fin n3, v (ix5 g p j k q) := by
  refine congrArg (z + ·) ((Finset.sum_filter_eq_sum_of_fiber _ (fun k : Fin n0 × Fin n2 × Fin n3 => ix5 k.1 p k.2.1 k.2.2 q)
    (fun a b e => Prod.ext (show a.1 = b.1 from congrFun e 0) (Prod.ext (show a.2.1 = b.2.1 from congrFun e 2)
      (show a.2.2 = b.2.2 from congrFun e 3))) (fun i => ?_) v).trans ?_)
  · constructor
    · intro e
      refine ⟨(i 0, i 2, i 3), ?_⟩
      funext a
      apply Fin.ext
      match a with
      | ⟨0, _⟩ => rfl
      | ⟨1, _⟩ => exact (congrArg Fin.val (congrFun e ⟨0, Nat.zero_lt_two⟩)).symm
      | ⟨2, _⟩ => rfl
      | ⟨3, _⟩ => rfl
      | ⟨4, _⟩ => exact (congrArg Fin.val (congrFun e ⟨1, Nat.one_lt_two⟩)).symm
    · rintro ⟨k, rfl⟩
      funext b
      apply Fin.ext
      match b with
      | ⟨0, _⟩ => rfl
      | ⟨1, _⟩ => rfl
  · simp only [Fintype.sum_prod_type]

variable (x : Vec Ideal S3x16x128x256 .f32) (y : Vec Ideal S3x128x256 .i32)

theorem kept_ref (g : Fin 3) (h : Fin 16) (r : Fin 128) (k : Fin 256) (b : Fin 32) : val_main_call1_v1 (F := Ideal) x y (ix5 g h r k b)
    = if y (ix3 g r k) = BitVec.ofNat 32 b.val then x (ix4 g h r k) else 0 := by
  pointwise [val_main_call1_v1, val_main_v9_1, val_main_v6, val_main_v5, val_main_v4, val_main_v3, val_main_v2, val_main_v1, val_main_v11,
    val_main_call1_v0, val_main_call1_cst]
  exact select_eq _ _ _ _
theorem sum_ref (h : Fin 16) (b : Fin 32) : val_main_call1_v2 (F := Ideal) x y (ix2 h b) = total x y h (BitVec.ofNat 32 b.val) := by
  refine (keep_two _ _ _ _ _).trans ?_
  pointwise [val_main_call1_cst_0]
  exact Finset.sum_congr rfl fun g _ => Finset.sum_congr rfl fun r _ => Finset.sum_congr rfl fun k _ => kept_ref x y g h r k b
theorem look_at (h : Fin 16) (b : Fin 32) : val_main_v13 (F := Ideal) x y (ix2 h b) = total x y h (BitVec.ofNat 32 b.val) := by
  refine (keep_two _ _ _ _ _).trans ?_
  rw [Fin.sum_univ_one, Fin.sum_univ_one, Fin.sum_univ_one]
  pointwise [val_main_cst_2, val_main_v12]
  exact sum_ref x y h b

theorem ref2 : val_main_v19 (F := Ideal) x y = tables x y := by
  funext i
  idx_vars i
  pointwise [val_main_v19, val_main_v18, val_main_v17, val_main_v16, val_main_v15, val_main_v14, val_main_cst_3]
  simp only [look_at]
  exact dite_eq_ite

end Reference

/-! ## The statements -/

theorem frame_kernel : Cert.quiescent_KernelBiasC (hKernelBiasC := Cert.KernelBiasC.Gen.facts) :=
  fun m ρ _ => Cert.KernelBiasC.Gen.frame m ρ
theorem frame_kernel_ideal : Cert.quiescent_KernelBiasCIdeal (hKernelBiasCIdeal := Cert.KernelBiasCIdeal.Gen.facts) :=
  fun m ρ _ => Cert.KernelBiasCIdeal.Gen.frame m ρ
theorem frame_reference : Cert.quiescent_ReferenceBiasCIdeal (hReferenceBiasCIdeal := Cert.ReferenceBiasCIdeal.Gen.facts) :=
  fun m ρ _ => (θ_run _ _ _).mono (fun r h => ⟨fun c => (h c).2, sem_eq_zero_of_no_sems rfl r.2⟩)
    (Cert.ReferenceBiasCIdeal.Value.run m ρ)

theorem equal : Cert.algebraic_KernelBiasCIdeal_ReferenceBiasCIdeal (hKernelBiasCIdeal := Cert.KernelBiasCIdeal.Gen.facts)
    (hReferenceBiasCIdeal := Cert.ReferenceBiasCIdeal.Gen.facts) := by
  intro m g m' g' _ hagree
  refine ⟨fun c => tables (a0 m c) (a1 m c), ?_, ?_⟩
  · exact (θ_run _ _ _).mono (fun r h c => ⟨(h c).1.trans (arr2 m c), (h c).2⟩) (Cert.KernelBiasCIdeal.Value.run_blocks m g)
  · refine (θ_run _ _ _).mono (fun r h c => ?_) (Cert.ReferenceBiasCIdeal.Value.run m' g')
    obtain ⟨h0, h1⟩ := hagree c
    refine ⟨(h c).1.trans ?_, (h c).2⟩
    rw [Cert.ReferenceBiasCIdeal.Read.val_main_v19_eq, h0, h1]
    exact ref2 _ _

end Cert.BiasC

end
-- ==== Proof.UpdateIn.lean ====
module

public import proofs.«01_k».proof.Defs
public import proofs.«01_k».proof.Proof.Ref
public import proofs.«01_k».proof.Proof.Gen.KernelUpdateIn.Frame
public import proofs.«01_k».proof.Proof.Gen.KernelUpdateInIdeal.Frame
public import proofs.«01_k».proof.Proof.Gen.KernelUpdateInIdeal.Value
public import proofs.«01_k».proof.Proof.Gen.ReferenceUpdateInIdeal.Read
public import proofs.«01_k».proof.Proof.Gen.ReferenceUpdateInIdeal.Run
public import Idealize.ShloMosaic.Lib.Pipeline.ValueKit
public import Idealize.ShloMosaic.Lib.Quiescent
public import Idealize.ShloMosaic.Lib.Tactic

/-!
The optimiser's step on one layer of a stacked weight, with the sum over the devices' parts of its gradient.
-/

@[expose] public section

set_option maxRecDepth 16384

noncomputable section

namespace Cert.UpdateIn

open Idealize.ShloMosaic Idealize.ShloMosaic.TcCoe Idealize.ShloMosaic.Tactic Idealize.SL.Sem
open Cert.KernelUpdateInIdeal Cert.KernelUpdateInIdeal.Gen

variable (m : (ℓ : Loc nD τ sig) → Buf (Elt Ideal) ℓ) (c : Dev nD) (t : Fin cfg0.N)

/-- The arguments, and the blocks of them a point reads. -/
abbrev a0 : Vec Ideal S8x672x2048 .bf16 := m ((c : Thread nD τ).loc main_arg0)
abbrev a1 : Vec Ideal S4x672x2048 .f32 := m ((c : Thread nD τ).loc main_arg1)
abbrev a2 : Vec Ideal S4x672x2048 .f32 := m ((c : Thread nD τ).loc main_arg2)
abbrev a3 : Vec Ideal S4x672x2048 .f32 := m ((c : Thread nD τ).loc main_arg3)
abbrev a4 : Vec Ideal S4x672x2048 .f32 := m ((c : Thread nD τ).loc main_arg4)
abbrev a5 : Vec Ideal S4x672x2048 .f32 := m ((c : Thread nD τ).loc main_arg5)
abbrev a6 : Vec Ideal S4x672x2048 .f32 := m ((c : Thread nD τ).loc main_arg6)
abbrev a7 : Vec Ideal S4x672x2048 .f32 := m ((c : Thread nD τ).loc main_arg7)
abbrev b0 : Vec Ideal S8x112x2048 .bf16 := iblk m c 0 t
abbrev b1 : Vec Ideal S1x112x2048 .f32 := iblk m c 1 t
abbrev b2 : Vec Ideal S1x112x2048 .f32 := iblk m c 2 t
abbrev b3 : Vec Ideal S1x112x2048 .f32 := iblk m c 3 t

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The parts' sum at a place. -/
def parts {R : ℕ} (x : (⟨3, ![8, R, 2048]⟩ : Shape).Idx → EReal) (r : Fin R) (l : Fin 2048) : EReal := ∑ d : Fin 8, x (ix3 d r l)

/-- What a point leaves. -/
theorem sum_at (r : Fin 112) (l : Fin 2048) : k0_pay3 (View.ld (b0 m c t) (Rect.unit ![0, 0, 0] ![1, 112, 2048] inb_S8x112x2048_S1x112x2048_0_0_0))
    (View.ld (b0 m c t) (Rect.unit ![1, 0, 0] ![1, 112, 2048] inb_S8x112x2048_S1x112x2048_1_0_0))
    (View.ld (b0 m c t) (Rect.unit ![2, 0, 0] ![1, 112, 2048] inb_S8x112x2048_S1x112x2048_2_0_0))
    (View.ld (b0 m c t) (Rect.unit ![3, 0, 0] ![1, 112, 2048] inb_S8x112x2048_S1x112x2048_3_0_0))
    (View.ld (b0 m c t) (Rect.unit ![4, 0, 0] ![1, 112, 2048] inb_S8x112x2048_S1x112x2048_4_0_0))
    (View.ld (b0 m c t) (Rect.unit ![5, 0, 0] ![1, 112, 2048] inb_S8x112x2048_S1x112x2048_5_0_0))
    (View.ld (b0 m c t) (Rect.unit ![6, 0, 0] ![1, 112, 2048] inb_S8x112x2048_S1x112x2048_6_0_0))
    (View.ld (b0 m c t) (Rect.unit ![7, 0, 0] ![1, 112, 2048] inb_S8x112x2048_S1x112x2048_7_0_0)) (ix2 r l) = parts (b0 m c t) r l := by
  pointwise [k0_pay3]
  rw [parts, Fin.sum_univ_eight]
theorem g_at (r : Fin 112) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S112x2048 .f32) (x : Vec Ideal S1x112x2048 .f32) (r : Fin 112) (l : Fin 2048) :
    k0_pay4 g x (ix2 r l) = mom (g (ix2 r l)) (x (ix3 0 r l)) := by
  pointwise [k0_pay4]
  rfl
theorem sqr_pay (g : Vec Ideal S112x2048 .f32) (x : Vec Ideal S1x112x2048 .f32) (r : Fin 112) (l : Fin 2048) :
    k0_pay5 g x (ix2 r l) = sqr (g (ix2 r l)) (x (ix3 0 r l)) := by
  pointwise [k0_pay5]
  rfl
theorem d_at (r : Fin 112) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 112) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 112) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0] ∧ win0_6.index t = ![0, t.val, 0]
    ∧ win0_7.index t = ![0, t.val, 0] := by decide +kernel

abbrev row (r : Fin 112) : Fin 672 := ⟨t.val * 112 + r.val, by have : t.val < 6 := t.isLt; omega⟩

theorem blk0 (d : Fin 8) (r : Fin 112) (k : Fin 2048) : b0 m c t (ix3 d r k) = a0 m c (ix3 d (row t r) k) := by
  blk_ext! [iblk, V, (index0 t).1.1]
theorem blk1 (r : Fin 112) (k : Fin 2048) : b1 m c t (ix3 0 r k) = a1 m c (ix3 0 (row t r) k) := by
  blk_ext! [iblk, V, (index0 t).1.2.1]
theorem blk2 (r : Fin 112) (k : Fin 2048) : b2 m c t (ix3 0 r k) = a2 m c (ix3 0 (row t r) k) := by
  blk_ext! [iblk, V, (index0 t).1.2.2.1]
theorem blk3 (r : Fin 112) (k : Fin 2048) : b3 m c t (ix3 0 r k) = a3 m c (ix3 0 (row t r) k) := by
  blk_ext! [iblk, V, (index0 t).1.2.2.2]

/-- An array with its first layer replaced. -/
def layer (f : Fin 672 → Fin 2048 → EReal) (o : Vec Ideal S4x672x2048 .f32) : Vec Ideal S4x672x2048 .f32 :=
  fun i => if (i 0).val = 0 then f (i 1) (i 2) else o i

/-- The results, of the arguments. -/
def moms (x : Vec Ideal S8x672x2048 .bf16) (y : Vec Ideal S4x672x2048 .f32) (r : Fin 672) (l : Fin 2048) : EReal := mom (parts x r l) (y (ix3 0 r l))
def sqrs (x : Vec Ideal S8x672x2048 .bf16) (z : Vec Ideal S4x672x2048 .f32) (r : Fin 672) (l : Fin 2048) : EReal := sqr (parts x r l) (z (ix3 0 r l))
def chgs (x : Vec Ideal S8x672x2048 .bf16) (w y z : Vec Ideal S4x672x2048 .f32) (r : Fin 672) (l : Fin 2048) : EReal :=
  chg (parts x r l) (w (ix3 0 r l)) (y (ix3 0 r l)) (z (ix3 0 r l))

theorem parts_block (r : Fin 112) (l : Fin 2048) : parts (b0 m c t) r l = parts (a0 m c) (row t r) l :=
  Finset.sum_congr rfl fun d _ => blk0 m c t d r l

/-- The layer's place, and the places outside it. -/
theorem layer_in (f : Fin 672 → Fin 2048 → EReal) (o : Vec Ideal S4x672x2048 .f32) (r : Fin 672) (l : Fin 2048) :
    layer f o (ix3 0 r l) = f r l := if_pos rfl
theorem layer_out (f : Fin 672 → Fin 2048 → EReal) (o : Vec Ideal S4x672x2048 .f32) (i : S4x672x2048.Idx) (h : ¬(i 0).val = 0) :
    o i = layer f o i := (if_neg h).symm

theorem arr4 : (dats m 0 c).arrAt 4 cfg0.N = layer (parts (a0 m c)) (a4 m c) := by
  refine (dats m 0 c).arrAt_eq_of_coversWhere_of_agree 4 _ (fun β => β (0 : Fin 3) = 0) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in (parts (a0 m c)) (a4 m c) (row t y1) y2).symm.trans (congrArg (layer (parts (a0 m c)) (a4 m c)) ?_)
    blk_ext! [(index0 t).2.1]
  · refine layer_out (parts (a0 m c)) (a4 m c) _ fun h => hj ?_
    exact (Nat.div_one _).trans h
theorem arr5 : (dats m 0 c).arrAt 5 cfg0.N = layer (chgs (a0 m c) (a1 m c) (a2 m c) (a3 m c)) (a5 m c) := by
  refine (dats m 0 c).arrAt_eq_of_coversWhere_of_agree 5 _ (fun β => β (0 : Fin 3) = 0) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in (chgs (a0 m c) (a1 m c) (a2 m c) (a3 m c)) (a5 m c) (row t y1) y2).symm.trans (congrArg (layer (chgs (a0 m c) (a1 m c) (a2 m c) (a3 m c)) (a5 m c)) ?_)
    blk_ext! [(index0 t).2.2.1]
  · refine layer_out (chgs (a0 m c) (a1 m c) (a2 m c) (a3 m c)) (a5 m c) _ fun h => hj ?_
    exact (Nat.div_one _).trans h
theorem arr6 : (dats m 0 c).arrAt 6 cfg0.N = layer (moms (a0 m c) (a2 m c)) (a6 m c) := by
  refine (dats m 0 c).arrAt_eq_of_coversWhere_of_agree 6 _ (fun β => β (0 : Fin 3) = 0) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in (moms (a0 m c) (a2 m c)) (a6 m c) (row t y1) y2).symm.trans (congrArg (layer (moms (a0 m c) (a2 m c)) (a6 m c)) ?_)
    blk_ext! [(index0 t).2.2.2.1]
  · refine layer_out (moms (a0 m c) (a2 m c)) (a6 m c) _ fun h => hj ?_
    exact (Nat.div_one _).trans h
theorem arr7 : (dats m 0 c).arrAt 7 cfg0.N = layer (sqrs (a0 m c) (a3 m c)) (a7 m c) := by
  refine (dats m 0 c).arrAt_eq_of_coversWhere_of_agree 7 _ (fun β => β (0 : Fin 3) = 0) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in (sqrs (a0 m c) (a3 m c)) (a7 m c) (row t y1) y2).symm.trans (congrArg (layer (sqrs (a0 m c) (a3 m c)) (a7 m c)) ?_)
    blk_ext! [(index0 t).2.2.2.2]
  · refine layer_out (sqrs (a0 m c) (a3 m c)) (a7 m c) _ fun h => hj ?_
    exact (Nat.div_one _).trans h

section Reference
open Cert.ReferenceUpdateInIdeal.Read
variable (x0 : Vec Ideal S8x672x2048 .bf16) (x1 x2 x3 o : Vec Ideal S4x672x2048 .f32)

theorem sum_ref (r : Fin 672) (l : Fin 2048) : val_main_v1 (F := Ideal) x0 (ix2 r l) = parts x0 r l := by
  pointwise [val_main_v1, val_main_v0, val_main_cst]
  rfl
theorem mom_ref (r : Fin 672) (l : Fin 2048) : val_main_v12 (F := Ideal) x0 x2 (ix2 r l) = moms x0 x2 r l := by
  pointwise [val_main_v12, val_main_v11, val_main_v10, val_main_v9, val_main_v8, val_main_v5, val_main_v4, val_main_cst_0, val_main_cst_1]
  rw [sum_ref]
  rfl
theorem sqr_ref (r : Fin 672) (l : Fin 2048) : val_main_v18 (F := Ideal) x0 x3 (ix2 r l) = sqrs x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 672) (l : Fin 2048) : val_main_v31 (F := Ideal) x0 x1 x2 x3 (ix2 r l) = chgs x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

/-- The layers put together again: the new one, then the old ones. -/
theorem joined (f : Fin 672 → Fin 2048 → EReal) (o : Vec Ideal S4x672x2048 .f32) (y0 : Fin 4) (y1 : Fin 672) (y2 : Fin 2048) (a : EReal)
    (ha : a = f y1 y2) (q : ¬y0.val < 1 → 1 + (y0.val - 1) < 4) :
    (if h : y0.val < 1 then a else o (ix3 ⟨1 + (y0.val - 1), q h⟩ y1 y2)) = layer f o (ix3 y0 y1 y2) := by
  by_cases h : y0.val < 1
  · obtain rfl : y0 = 0 := Fin.ext (by omega)
    rw [dif_pos h, layer_in, ha]
  · rw [dif_neg h]
    refine Eq.trans (congrArg (fun k => o (ix3 k y1 y2)) (Fin.ext ?_)) (layer_out f o (ix3 y0 y1 y2) fun e => h ?_)
    · show 1 + (y0.val - 1) = y0.val
      omega
    · have : y0.val = 0 := e
      omega

theorem ref4 : val_main_v34 (F := Ideal) x0 o = layer (parts x0) o := by
  funext y
  idx_vars y
  pointwise [val_main_v34, val_main_v33, val_main_v32]
  exact joined (parts x0) o y0 y1 y2 _ (sum_ref x0 y1 y2) _
theorem ref5 : val_main_v37 (F := Ideal) x0 x1 x2 x3 o = layer (chgs x0 x1 x2 x3) o := by
  funext y
  idx_vars y
  pointwise [val_main_v37, val_main_v36, val_main_v35]
  exact joined (chgs x0 x1 x2 x3) o y0 y1 y2 _ (chg_ref x0 x1 x2 x3 y1 y2) _
theorem ref6 : val_main_v40 (F := Ideal) x0 x2 o = layer (moms x0 x2) o := by
  funext y
  idx_vars y
  pointwise [val_main_v40, val_main_v39, val_main_v38]
  exact joined (moms x0 x2) o y0 y1 y2 _ (mom_ref x0 x2 y1 y2) _
theorem ref7 : val_main_v43 (F := Ideal) x0 x3 o = layer (sqrs x0 x3) o := by
  funext y
  idx_vars y
  pointwise [val_main_v43, val_main_v42, val_main_v41]
  exact joined (sqrs x0 x3) o y0 y1 y2 _ (sqr_ref x0 x3 y1 y2) _

end Reference

/-! ## The statements -/

theorem frame_kernel : Cert.quiescent_KernelUpdateIn (hKernelUpdateIn := Cert.KernelUpdateIn.Gen.facts) :=
  fun m ρ _ => Cert.KernelUpdateIn.Gen.frame m ρ
theorem frame_kernel_ideal : Cert.quiescent_KernelUpdateInIdeal (hKernelUpdateInIdeal := Cert.KernelUpdateInIdeal.Gen.facts) :=
  fun m ρ _ => Cert.KernelUpdateInIdeal.Gen.frame m ρ
theorem frame_reference : Cert.quiescent_ReferenceUpdateInIdeal (hReferenceUpdateInIdeal := Cert.ReferenceUpdateInIdeal.Gen.facts) :=
  fun m ρ _ => (θ_run _ _ _).mono (fun r h => ⟨fun c => (h c).2.2.2.2, sem_eq_zero_of_no_sems rfl r.2⟩)
    (Cert.ReferenceUpdateInIdeal.Value.run m ρ)

theorem equal : Cert.algebraic_KernelUpdateInIdeal_ReferenceUpdateInIdeal (hKernelUpdateInIdeal := Cert.KernelUpdateInIdeal.Gen.facts)
    (hReferenceUpdateInIdeal := Cert.ReferenceUpdateInIdeal.Gen.facts) := by
  intro m g m' g' _ hagree
  refine ⟨fun c => layer (parts (a0 m c)) (a4 m c), fun c => layer (chgs (a0 m c) (a1 m c) (a2 m c) (a3 m c)) (a5 m c),
    fun c => layer (moms (a0 m c) (a2 m c)) (a6 m c), fun c => layer (sqrs (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateInIdeal.Value.run_blocks m g)
  · refine (θ_run _ _ _).mono (fun r h c => ?_) (Cert.ReferenceUpdateInIdeal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateInIdeal.Read.val_main_v34_eq, h0, h4]
      exact ref4 _ _
    · rw [Cert.ReferenceUpdateInIdeal.Read.val_main_v37_eq, h0, h1, h2, h3, h5]
      exact ref5 _ _ _ _ _
    · rw [Cert.ReferenceUpdateInIdeal.Read.val_main_v40_eq, h0, h2, h6]
      exact ref6 _ _ _
    · rw [Cert.ReferenceUpdateInIdeal.Read.val_main_v43_eq, h0, h3, h7]
      exact ref7 _ _ _

end Cert.UpdateIn

end
-- ==== Proof.UpdateIn1.lean ====
module

public import proofs.«01_k».proof.Defs
public import proofs.«01_k».proof.Proof.Ref
public import proofs.«01_k».proof.Proof.Update
public import proofs.«01_k».proof.Proof.Gen.KernelUpdateIn1.Frame
public import proofs.«01_k».proof.Proof.Gen.KernelUpdateIn1Ideal.Frame
public import proofs.«01_k».proof.Proof.Gen.KernelUpdateIn1Ideal.Value
public import proofs.«01_k».proof.Proof.Gen.ReferenceUpdateIn1Ideal.Read
public import proofs.«01_k».proof.Proof.Gen.ReferenceUpdateIn1Ideal.Run
public import Idealize.ShloMosaic.Lib.Pipeline.ValueKit
public import Idealize.ShloMosaic.Lib.Quiescent
public import Idealize.ShloMosaic.Lib.Tactic

/-!
The optimiser's step on layer 1 of a stacked weight, counted from 0, with the sum over the devices' parts of its gradient.
-/

@[expose] public section

set_option maxRecDepth 16384

noncomputable section

namespace Cert.UpdateIn1

open Idealize.ShloMosaic Idealize.ShloMosaic.TcCoe Idealize.ShloMosaic.Tactic Idealize.SL.Sem
open Cert.Update Cert.KernelUpdateIn1Ideal Cert.KernelUpdateIn1Ideal.Gen

variable (m : (ℓ : Loc nD τ sig) → Buf (Elt Ideal) ℓ) (c : Dev nD) (t : Fin cfg0.N)

/-- The arguments, and the blocks of them a point reads. -/
abbrev a0 : Vec Ideal S8x672x2048 .bf16 := m ((c : Thread nD τ).loc main_arg0)
abbrev a1 : Vec Ideal S4x672x2048 .f32 := m ((c : Thread nD τ).loc main_arg1)
abbrev a2 : Vec Ideal S4x672x2048 .f32 := m ((c : Thread nD τ).loc main_arg2)
abbrev a3 : Vec Ideal S4x672x2048 .f32 := m ((c : Thread nD τ).loc main_arg3)
abbrev a4 : Vec Ideal S4x672x2048 .f32 := m ((c : Thread nD τ).loc main_arg4)
abbrev a5 : Vec Ideal S4x672x2048 .f32 := m ((c : Thread nD τ).loc main_arg5)
abbrev a6 : Vec Ideal S4x672x2048 .f32 := m ((c : Thread nD τ).loc main_arg6)
abbrev a7 : Vec Ideal S4x672x2048 .f32 := m ((c : Thread nD τ).loc main_arg7)
abbrev b0 : Vec Ideal S8x112x2048 .bf16 := iblk m c 0 t
abbrev b1 : Vec Ideal S1x112x2048 .f32 := iblk m c 1 t
abbrev b2 : Vec Ideal S1x112x2048 .f32 := iblk m c 2 t
abbrev b3 : Vec Ideal S1x112x2048 .f32 := iblk m c 3 t

/-- What a point leaves. -/
theorem sum_at (r : Fin 112) (l : Fin 2048) : k0_pay3 (View.ld (b0 m c t) (Rect.unit ![0, 0, 0] ![1, 112, 2048] inb_S8x112x2048_S1x112x2048_0_0_0))
    (View.ld (b0 m c t) (Rect.unit ![1, 0, 0] ![1, 112, 2048] inb_S8x112x2048_S1x112x2048_1_0_0))
    (View.ld (b0 m c t) (Rect.unit ![2, 0, 0] ![1, 112, 2048] inb_S8x112x2048_S1x112x2048_2_0_0))
    (View.ld (b0 m c t) (Rect.unit ![3, 0, 0] ![1, 112, 2048] inb_S8x112x2048_S1x112x2048_3_0_0))
    (View.ld (b0 m c t) (Rect.unit ![4, 0, 0] ![1, 112, 2048] inb_S8x112x2048_S1x112x2048_4_0_0))
    (View.ld (b0 m c t) (Rect.unit ![5, 0, 0] ![1, 112, 2048] inb_S8x112x2048_S1x112x2048_5_0_0))
    (View.ld (b0 m c t) (Rect.unit ![6, 0, 0] ![1, 112, 2048] inb_S8x112x2048_S1x112x2048_6_0_0))
    (View.ld (b0 m c t) (Rect.unit ![7, 0, 0] ![1, 112, 2048] inb_S8x112x2048_S1x112x2048_7_0_0)) (ix2 r l) = parts (b0 m c t) r l := by
  pointwise [k0_pay3]
  rw [parts, Fin.sum_univ_eight]
theorem g_at (r : Fin 112) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S112x2048 .f32) (x : Vec Ideal S1x112x2048 .f32) (r : Fin 112) (l : Fin 2048) :
    k0_pay4 g x (ix2 r l) = mom (g (ix2 r l)) (x (ix3 0 r l)) := by
  pointwise [k0_pay4]
  rfl
theorem sqr_pay (g : Vec Ideal S112x2048 .f32) (x : Vec Ideal S1x112x2048 .f32) (r : Fin 112) (l : Fin 2048) :
    k0_pay5 g x (ix2 r l) = sqr (g (ix2 r l)) (x (ix3 0 r l)) := by
  pointwise [k0_pay5]
  rfl
theorem d_at (r : Fin 112) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 112) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 112) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![1, t.val, 0] ∧ win0_2.index t = ![1, t.val, 0]
    ∧ win0_3.index t = ![1, t.val, 0]) ∧ win0_4.index t = ![1, t.val, 0] ∧ win0_5.index t = ![1, t.val, 0] ∧ win0_6.index t = ![1, t.val, 0]
    ∧ win0_7.index t = ![1, t.val, 0] := by decide +kernel

abbrev row (r : Fin 112) : Fin 672 := ⟨t.val * 112 + r.val, by have : t.val < 6 := t.isLt; omega⟩

theorem blk0 (d : Fin 8) (r : Fin 112) (k : Fin 2048) : b0 m c t (ix3 d r k) = a0 m c (ix3 d (row t r) k) := by
  blk_ext! [iblk, V, (index0 t).1.1]
theorem blk1 (r : Fin 112) (k : Fin 2048) : b1 m c t (ix3 0 r k) = a1 m c (ix3 1 (row t r) k) := by
  blk_ext! [iblk, V, (index0 t).1.2.1]
theorem blk2 (r : Fin 112) (k : Fin 2048) : b2 m c t (ix3 0 r k) = a2 m c (ix3 1 (row t r) k) := by
  blk_ext! [iblk, V, (index0 t).1.2.2.1]
theorem blk3 (r : Fin 112) (k : Fin 2048) : b3 m c t (ix3 0 r k) = a3 m c (ix3 1 (row t r) k) := by
  blk_ext! [iblk, V, (index0 t).1.2.2.2]

theorem parts_block (r : Fin 112) (l : Fin 2048) : parts (b0 m c t) r l = parts (a0 m c) (row t r) l :=
  Finset.sum_congr rfl fun d _ => blk0 m c t d r l

theorem arr4 : (dats m 0 c).arrAt 4 cfg0.N = layer 1 (parts (a0 m c)) (a4 m c) := by
  refine (dats m 0 c).arrAt_eq_of_coversWhere_of_agree 4 _ (fun β => β (0 : Fin 3) = 1) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 1 (parts (a0 m c)) (a4 m c) (row t y1) y2).symm.trans (congrArg (layer 1 (parts (a0 m c)) (a4 m c)) ?_)
    blk_ext! [(index0 t).2.1]
  · refine layer_out 1 (parts (a0 m c)) (a4 m c) _ fun h => hj ?_
    exact (Nat.div_one _).trans h
theorem arr5 : (dats m 0 c).arrAt 5 cfg0.N = layer 1 (chgs 1 (a0 m c) (a1 m c) (a2 m c) (a3 m c)) (a5 m c) := by
  refine (dats m 0 c).arrAt_eq_of_coversWhere_of_agree 5 _ (fun β => β (0 : Fin 3) = 1) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 1 (chgs 1 (a0 m c) (a1 m c) (a2 m c) (a3 m c)) (a5 m c) (row t y1) y2).symm.trans (congrArg (layer 1 (chgs 1 (a0 m c) (a1 m c) (a2 m c) (a3 m c)) (a5 m c)) ?_)
    blk_ext! [(index0 t).2.2.1]
  · refine layer_out 1 (chgs 1 (a0 m c) (a1 m c) (a2 m c) (a3 m c)) (a5 m c) _ fun h => hj ?_
    exact (Nat.div_one _).trans h
theorem arr6 : (dats m 0 c).arrAt 6 cfg0.N = layer 1 (moms 1 (a0 m c) (a2 m c)) (a6 m c) := by
  refine (dats m 0 c).arrAt_eq_of_coversWhere_of_agree 6 _ (fun β => β (0 : Fin 3) = 1) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 1 (moms 1 (a0 m c) (a2 m c)) (a6 m c) (row t y1) y2).symm.trans (congrArg (layer 1 (moms 1 (a0 m c) (a2 m c)) (a6 m c)) ?_)
    blk_ext! [(index0 t).2.2.2.1]
  · refine layer_out 1 (moms 1 (a0 m c) (a2 m c)) (a6 m c) _ fun h => hj ?_
    exact (Nat.div_one _).trans h
theorem arr7 : (dats m 0 c).arrAt 7 cfg0.N = layer 1 (sqrs 1 (a0 m c) (a3 m c)) (a7 m c) := by
  refine (dats m 0 c).arrAt_eq_of_coversWhere_of_agree 7 _ (fun β => β (0 : Fin 3) = 1) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 1 (sqrs 1 (a0 m c) (a3 m c)) (a7 m c) (row t y1) y2).symm.trans (congrArg (layer 1 (sqrs 1 (a0 m c) (a3 m c)) (a7 m c)) ?_)
    blk_ext! [(index0 t).2.2.2.2]
  · refine layer_out 1 (sqrs 1 (a0 m c) (a3 m c)) (a7 m c) _ fun h => hj ?_
    exact (Nat.div_one _).trans h

section Reference
open Cert.ReferenceUpdateIn1Ideal.Read
variable (x0 : Vec Ideal S8x672x2048 .bf16) (x1 x2 x3 o : Vec Ideal S4x672x2048 .f32)

theorem sum_ref (r : Fin 672) (l : Fin 2048) : val_main_v1 (F := Ideal) x0 (ix2 r l) = parts x0 r l := by
  pointwise [val_main_v1, val_main_v0, val_main_cst]
  rfl
theorem mom_ref (r : Fin 672) (l : Fin 2048) : val_main_v12 (F := Ideal) x0 x2 (ix2 r l) = moms 1 x0 x2 r l := by
  pointwise [val_main_v12, val_main_v11, val_main_v10, val_main_v9, val_main_v8, val_main_v5, val_main_v4, val_main_cst_0, val_main_cst_1]
  rw [sum_ref]
  rfl
theorem sqr_ref (r : Fin 672) (l : Fin 2048) : val_main_v18 (F := Ideal) x0 x3 (ix2 r l) = sqrs 1 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 672) (l : Fin 2048) : val_main_v31 (F := Ideal) x0 x1 x2 x3 (ix2 r l) = chgs 1 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 1 (parts x0) o := by
  funext y
  idx_vars y
  pointwise [val_main_v35, val_main_v34, val_main_v33, val_main_v32]
  match y0 with
  | 0 => rfl
  | 1 => exact sum_ref x0 y1 y2
  | 2 => rfl
  | 3 => rfl
theorem ref5 : val_main_v39 (F := Ideal) x0 x1 x2 x3 o = layer 1 (chgs 1 x0 x1 x2 x3) o := by
  funext y
  idx_vars y
  pointwise [val_main_v39, val_main_v38, val_main_v37, val_main_v36]
  match y0 with
  | 0 => rfl
  | 1 => exact chg_ref x0 x1 x2 x3 y1 y2
  | 2 => rfl
  | 3 => rfl
theorem ref6 : val_main_v43 (F := Ideal) x0 x2 o = layer 1 (moms 1 x0 x2) o := by
  funext y
  idx_vars y
  pointwise [val_main_v43, val_main_v42, val_main_v41, val_main_v40]
  match y0 with
  | 0 => rfl
  | 1 => exact mom_ref x0 x2 y1 y2
  | 2 => rfl
  | 3 => rfl
theorem ref7 : val_main_v47 (F := Ideal) x0 x3 o = layer 1 (sqrs 1 x0 x3) o := by
  funext y
  idx_vars y
  pointwise [val_main_v47, val_main_v46, val_main_v45, val_main_v44]
  match y0 with
  | 0 => rfl
  | 1 => exact sqr_ref x0 x3 y1 y2
  | 2 => rfl
  | 3 => rfl

end Reference

/-! ## The statements -/

theorem frame_kernel : Cert.quiescent_KernelUpdateIn1 (hKernelUpdateIn1 := Cert.KernelUpdateIn1.Gen.facts) :=
  fun m ρ _ => Cert.KernelUpdateIn1.Gen.frame m ρ
theorem frame_kernel_ideal : Cert.quiescent_KernelUpdateIn1Ideal (hKernelUpdateIn1Ideal := Cert.KernelUpdateIn1Ideal.Gen.facts) :=
  fun m ρ _ => Cert.KernelUpdateIn1Ideal.Gen.frame m ρ
theorem frame_reference : Cert.quiescent_ReferenceUpdateIn1Ideal (hReferenceUpdateIn1Ideal := Cert.ReferenceUpdateIn1Ideal.Gen.facts) :=
  fun m ρ _ => (θ_run _ _ _).mono (fun r h => ⟨fun c => (h c).2.2.2.2, sem_eq_zero_of_no_sems rfl r.2⟩)
    (Cert.ReferenceUpdateIn1Ideal.Value.run m ρ)

theorem equal : Cert.algebraic_KernelUpdateIn1Ideal_ReferenceUpdateIn1Ideal (hKernelUpdateIn1Ideal := Cert.KernelUpdateIn1Ideal.Gen.facts)
    (hReferenceUpdateIn1Ideal := Cert.ReferenceUpdateIn1Ideal.Gen.facts) := by
  intro m g m' g' _ hagree
  refine ⟨fun c => layer 1 (parts (a0 m c)) (a4 m c), fun c => layer 1 (chgs 1 (a0 m c) (a1 m c) (a2 m c) (a3 m c)) (a5 m c),
    fun c => layer 1 (moms 1 (a0 m c) (a2 m c)) (a6 m c), fun c => layer 1 (sqrs 1 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateIn1Ideal.Value.run_blocks m g)
  · refine (θ_run _ _ _).mono (fun r h c => ?_) (Cert.ReferenceUpdateIn1Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateIn1Ideal.Read.val_main_v35_eq, h0, h4]
      exact ref4 _ _
    · rw [Cert.ReferenceUpdateIn1Ideal.Read.val_main_v39_eq, h0, h1, h2, h3, h5]
      exact ref5 _ _ _ _ _
    · rw [Cert.ReferenceUpdateIn1Ideal.Read.val_main_v43_eq, h0, h2, h6]
      exact ref6 _ _ _
    · rw [Cert.ReferenceUpdateIn1Ideal.Read.val_main_v47_eq, h0, h3, h7]
      exact ref7 _ _ _

end Cert.UpdateIn1

end
-- ==== Proof.UpdateIn2.lean ====
module

public import proofs.«01_k».proof.Defs
public import proofs.«01_k».proof.Proof.Ref
public import proofs.«01_k».proof.Proof.Update
public import proofs.«01_k».proof.Proof.Gen.KernelUpdateIn2.Frame
public import proofs.«01_k».proof.Proof.Gen.KernelUpdateIn2Ideal.Frame
public import proofs.«01_k».proof.Proof.Gen.KernelUpdateIn2Ideal.Value
public import proofs.«01_k».proof.Proof.Gen.ReferenceUpdateIn2Ideal.Read
public import proofs.«01_k».proof.Proof.Gen.ReferenceUpdateIn2Ideal.Run
public import Idealize.ShloMosaic.Lib.Pipeline.ValueKit
public import Idealize.ShloMosaic.Lib.Quiescent
public import Idealize.ShloMosaic.Lib.Tactic

/-!
The optimiser's step on layer 2 of a stacked weight, counted from 0, with the sum over the devices' parts of its gradient.
-/

@[expose] public section

set_option maxRecDepth 16384

noncomputable section

namespace Cert.UpdateIn2

open Idealize.ShloMosaic Idealize.ShloMosaic.TcCoe Idealize.ShloMosaic.Tactic Idealize.SL.Sem
open Cert.Update Cert.KernelUpdateIn2Ideal Cert.KernelUpdateIn2Ideal.Gen

variable (m : (ℓ : Loc nD τ sig) → Buf (Elt Ideal) ℓ) (c : Dev nD) (t : Fin cfg0.N)

/-- The arguments, and the blocks of them a point reads. -/
abbrev a0 : Vec Ideal S8x672x2048 .bf16 := m ((c : Thread nD τ).loc main_arg0)
abbrev a1 : Vec Ideal S4x672x2048 .f32 := m ((c : Thread nD τ).loc main_arg1)
abbrev a2 : Vec Ideal S4x672x2048 .f32 := m ((c : Thread nD τ).loc main_arg2)
abbrev a3 : Vec Ideal S4x672x2048 .f32 := m ((c : Thread nD τ).loc main_arg3)
abbrev a4 : Vec Ideal S4x672x2048 .f32 := m ((c : Thread nD τ).loc main_arg4)
abbrev a5 : Vec Ideal S4x672x2048 .f32 := m ((c : Thread nD τ).loc main_arg5)
abbrev a6 : Vec Ideal S4x672x2048 .f32 := m ((c : Thread nD τ).loc main_arg6)
abbrev a7 : Vec Ideal S4x672x2048 .f32 := m ((c : Thread nD τ).loc main_arg7)
abbrev b0 : Vec Ideal S8x112x2048 .bf16 := iblk m c 0 t
abbrev b1 : Vec Ideal S1x112x2048 .f32 := iblk m c 1 t
abbrev b2 : Vec Ideal S1x112x2048 .f32 := iblk m c 2 t
abbrev b3 : Vec Ideal S1x112x2048 .f32 := iblk m c 3 t

/-- What a point leaves. -/
theorem sum_at (r : Fin 112) (l : Fin 2048) : k0_pay3 (View.ld (b0 m c t) (Rect.unit ![0, 0, 0] ![1, 112, 2048] inb_S8x112x2048_S1x112x2048_0_0_0))
    (View.ld (b0 m c t) (Rect.unit ![1, 0, 0] ![1, 112, 2048] inb_S8x112x2048_S1x112x2048_1_0_0))
    (View.ld (b0 m c t) (Rect.unit ![2, 0, 0] ![1, 112, 2048] inb_S8x112x2048_S1x112x2048_2_0_0))
    (View.ld (b0 m c t) (Rect.unit ![3, 0, 0] ![1, 112, 2048] inb_S8x112x2048_S1x112x2048_3_0_0))
    (View.ld (b0 m c t) (Rect.unit ![4, 0, 0] ![1, 112, 2048] inb_S8x112x2048_S1x112x2048_4_0_0))
    (View.ld (b0 m c t) (Rect.unit ![5, 0, 0] ![1, 112, 2048] inb_S8x112x2048_S1x112x2048_5_0_0))
    (View.ld (b0 m c t) (Rect.unit ![6, 0, 0] ![1, 112, 2048] inb_S8x112x2048_S1x112x2048_6_0_0))
    (View.ld (b0 m c t) (Rect.unit ![7, 0, 0] ![1, 112, 2048] inb_S8x112x2048_S1x112x2048_7_0_0)) (ix2 r l) = parts (b0 m c t) r l := by
  pointwise [k0_pay3]
  rw [parts, Fin.sum_univ_eight]
theorem g_at (r : Fin 112) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S112x2048 .f32) (x : Vec Ideal S1x112x2048 .f32) (r : Fin 112) (l : Fin 2048) :
    k0_pay4 g x (ix2 r l) = mom (g (ix2 r l)) (x (ix3 0 r l)) := by
  pointwise [k0_pay4]
  rfl
theorem sqr_pay (g : Vec Ideal S112x2048 .f32) (x : Vec Ideal S1x112x2048 .f32) (r : Fin 112) (l : Fin 2048) :
    k0_pay5 g x (ix2 r l) = sqr (g (ix2 r l)) (x (ix3 0 r l)) := by
  pointwise [k0_pay5]
  rfl
theorem d_at (r : Fin 112) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 112) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 112) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![2, t.val, 0] ∧ win0_2.index t = ![2, t.val, 0]
    ∧ win0_3.index t = ![2, t.val, 0]) ∧ win0_4.index t = ![2, t.val, 0] ∧ win0_5.index t = ![2, t.val, 0] ∧ win0_6.index t = ![2, t.val, 0]
    ∧ win0_7.index t = ![2, t.val, 0] := by decide +kernel

abbrev row (r : Fin 112) : Fin 672 := ⟨t.val * 112 + r.val, by have : t.val < 6 := t.isLt; omega⟩

theorem blk0 (d : Fin 8) (r : Fin 112) (k : Fin 2048) : b0 m c t (ix3 d r k) = a0 m c (ix3 d (row t r) k) := by
  blk_ext! [iblk, V, (index0 t).1.1]
theorem blk1 (r : Fin 112) (k : Fin 2048) : b1 m c t (ix3 0 r k) = a1 m c (ix3 2 (row t r) k) := by
  blk_ext! [iblk, V, (index0 t).1.2.1]
theorem blk2 (r : Fin 112) (k : Fin 2048) : b2 m c t (ix3 0 r k) = a2 m c (ix3 2 (row t r) k) := by
  blk_ext! [iblk, V, (index0 t).1.2.2.1]
theorem blk3 (r : Fin 112) (k : Fin 2048) : b3 m c t (ix3 0 r k) = a3 m c (ix3 2 (row t r) k) := by
  blk_ext! [iblk, V, (index0 t).1.2.2.2]

theorem parts_block (r : Fin 112) (l : Fin 2048) : parts (b0 m c t) r l = parts (a0 m c) (row t r) l :=
  Finset.sum_congr rfl fun d _ => blk0 m c t d r l

theorem arr4 : (dats m 0 c).arrAt 4 cfg0.N = layer 2 (parts (a0 m c)) (a4 m c) := by
  refine (dats m 0 c).arrAt_eq_of_coversWhere_of_agree 4 _ (fun β => β (0 : Fin 3) = 2) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 2 (parts (a0 m c)) (a4 m c) (row t y1) y2).symm.trans (congrArg (layer 2 (parts (a0 m c)) (a4 m c)) ?_)
    blk_ext! [(index0 t).2.1]
  · refine layer_out 2 (parts (a0 m c)) (a4 m c) _ fun h => hj ?_
    exact (Nat.div_one _).trans h
theorem arr5 : (dats m 0 c).arrAt 5 cfg0.N = layer 2 (chgs 2 (a0 m c) (a1 m c) (a2 m c) (a3 m c)) (a5 m c) := by
  refine (dats m 0 c).arrAt_eq_of_coversWhere_of_agree 5 _ (fun β => β (0 : Fin 3) = 2) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 2 (chgs 2 (a0 m c) (a1 m c) (a2 m c) (a3 m c)) (a5 m c) (row t y1) y2).symm.trans (congrArg (layer 2 (chgs 2 (a0 m c) (a1 m c) (a2 m c) (a3 m c)) (a5 m c)) ?_)
    blk_ext! [(index0 t).2.2.1]
  · refine layer_out 2 (chgs 2 (a0 m c) (a1 m c) (a2 m c) (a3 m c)) (a5 m c) _ fun h => hj ?_
    exact (Nat.div_one _).trans h
theorem arr6 : (dats m 0 c).arrAt 6 cfg0.N = layer 2 (moms 2 (a0 m c) (a2 m c)) (a6 m c) := by
  refine (dats m 0 c).arrAt_eq_of_coversWhere_of_agree 6 _ (fun β => β (0 : Fin 3) = 2) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 2 (moms 2 (a0 m c) (a2 m c)) (a6 m c) (row t y1) y2).symm.trans (congrArg (layer 2 (moms 2 (a0 m c) (a2 m c)) (a6 m c)) ?_)
    blk_ext! [(index0 t).2.2.2.1]
  · refine layer_out 2 (moms 2 (a0 m c) (a2 m c)) (a6 m c) _ fun h => hj ?_
    exact (Nat.div_one _).trans h
theorem arr7 : (dats m 0 c).arrAt 7 cfg0.N = layer 2 (sqrs 2 (a0 m c) (a3 m c)) (a7 m c) := by
  refine (dats m 0 c).arrAt_eq_of_coversWhere_of_agree 7 _ (fun β => β (0 : Fin 3) = 2) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 2 (sqrs 2 (a0 m c) (a3 m c)) (a7 m c) (row t y1) y2).symm.trans (congrArg (layer 2 (sqrs 2 (a0 m c) (a3 m c)) (a7 m c)) ?_)
    blk_ext! [(index0 t).2.2.2.2]
  · refine layer_out 2 (sqrs 2 (a0 m c) (a3 m c)) (a7 m c) _ fun h => hj ?_
    exact (Nat.div_one _).trans h

section Reference
open Cert.ReferenceUpdateIn2Ideal.Read
variable (x0 : Vec Ideal S8x672x2048 .bf16) (x1 x2 x3 o : Vec Ideal S4x672x2048 .f32)

theorem sum_ref (r : Fin 672) (l : Fin 2048) : val_main_v1 (F := Ideal) x0 (ix2 r l) = parts x0 r l := by
  pointwise [val_main_v1, val_main_v0, val_main_cst]
  rfl
theorem mom_ref (r : Fin 672) (l : Fin 2048) : val_main_v12 (F := Ideal) x0 x2 (ix2 r l) = moms 2 x0 x2 r l := by
  pointwise [val_main_v12, val_main_v11, val_main_v10, val_main_v9, val_main_v8, val_main_v5, val_main_v4, val_main_cst_0, val_main_cst_1]
  rw [sum_ref]
  rfl
theorem sqr_ref (r : Fin 672) (l : Fin 2048) : val_main_v18 (F := Ideal) x0 x3 (ix2 r l) = sqrs 2 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 672) (l : Fin 2048) : val_main_v31 (F := Ideal) x0 x1 x2 x3 (ix2 r l) = chgs 2 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 2 (parts x0) o := by
  funext y
  idx_vars y
  pointwise [val_main_v35, val_main_v34, val_main_v33, val_main_v32]
  match y0 with
  | 0 => rfl
  | 1 => rfl
  | 2 => exact sum_ref x0 y1 y2
  | 3 => rfl
theorem ref5 : val_main_v39 (F := Ideal) x0 x1 x2 x3 o = layer 2 (chgs 2 x0 x1 x2 x3) o := by
  funext y
  idx_vars y
  pointwise [val_main_v39, val_main_v38, val_main_v37, val_main_v36]
  match y0 with
  | 0 => rfl
  | 1 => rfl
  | 2 => exact chg_ref x0 x1 x2 x3 y1 y2
  | 3 => rfl
theorem ref6 : val_main_v43 (F := Ideal) x0 x2 o = layer 2 (moms 2 x0 x2) o := by
  funext y
  idx_vars y
  pointwise [val_main_v43, val_main_v42, val_main_v41, val_main_v40]
  match y0 with
  | 0 => rfl
  | 1 => rfl
  | 2 => exact mom_ref x0 x2 y1 y2
  | 3 => rfl
theorem ref7 : val_main_v47 (F := Ideal) x0 x3 o = layer 2 (sqrs 2 x0 x3) o := by
  funext y
  idx_vars y
  pointwise [val_main_v47, val_main_v46, val_main_v45, val_main_v44]
  match y0 with
  | 0 => rfl
  | 1 => rfl
  | 2 => exact sqr_ref x0 x3 y1 y2
  | 3 => rfl

end Reference

/-! ## The statements -/

theorem frame_kernel : Cert.quiescent_KernelUpdateIn2 (hKernelUpdateIn2 := Cert.KernelUpdateIn2.Gen.facts) :=
  fun m ρ _ => Cert.KernelUpdateIn2.Gen.frame m ρ
theorem frame_kernel_ideal : Cert.quiescent_KernelUpdateIn2Ideal (hKernelUpdateIn2Ideal := Cert.KernelUpdateIn2Ideal.Gen.facts) :=
  fun m ρ _ => Cert.KernelUpdateIn2Ideal.Gen.frame m ρ
theorem frame_reference : Cert.quiescent_ReferenceUpdateIn2Ideal (hReferenceUpdateIn2Ideal := Cert.ReferenceUpdateIn2Ideal.Gen.facts) :=
  fun m ρ _ => (θ_run _ _ _).mono (fun r h => ⟨fun c => (h c).2.2.2.2, sem_eq_zero_of_no_sems rfl r.2⟩)
    (Cert.ReferenceUpdateIn2Ideal.Value.run m ρ)

theorem equal : Cert.algebraic_KernelUpdateIn2Ideal_ReferenceUpdateIn2Ideal (hKernelUpdateIn2Ideal := Cert.KernelUpdateIn2Ideal.Gen.facts)
    (hReferenceUpdateIn2Ideal := Cert.ReferenceUpdateIn2Ideal.Gen.facts) := by
  intro m g m' g' _ hagree
  refine ⟨fun c => layer 2 (parts (a0 m c)) (a4 m c), fun c => layer 2 (chgs 2 (a0 m c) (a1 m c) (a2 m c) (a3 m c)) (a5 m c),
    fun c => layer 2 (moms 2 (a0 m c) (a2 m c)) (a6 m c), fun c => layer 2 (sqrs 2 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateIn2Ideal.Value.run_blocks m g)
  · refine (θ_run _ _ _).mono (fun r h c => ?_) (Cert.ReferenceUpdateIn2Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateIn2Ideal.Read.val_main_v35_eq, h0, h4]
      exact ref4 _ _
    · rw [Cert.ReferenceUpdateIn2Ideal.Read.val_main_v39_eq, h0, h1, h2, h3, h5]
      exact ref5 _ _ _ _ _
    · rw [Cert.ReferenceUpdateIn2Ideal.Read.val_main_v43_eq, h0, h2, h6]
      exact ref6 _ _ _
    · rw [Cert.ReferenceUpdateIn2Ideal.Read.val_main_v47_eq, h0, h3, h7]
      exact ref7 _ _ _

end Cert.UpdateIn2

end
-- ==== Proof.UpdateIn3.lean ====
module

public import proofs.«01_k».proof.Defs
public import proofs.«01_k».proof.Proof.Ref
public import proofs.«01_k».proof.Proof.Update
public import proofs.«01_k».proof.Proof.Gen.KernelUpdateIn3.Frame
public import proofs.«01_k».proof.Proof.Gen.KernelUpdateIn3Ideal.Frame
public import proofs.«01_k».proof.Proof.Gen.KernelUpdateIn3Ideal.Value
public import proofs.«01_k».proof.Proof.Gen.ReferenceUpdateIn3Ideal.Read
public import proofs.«01_k».proof.Proof.Gen.ReferenceUpdateIn3Ideal.Run
public import Idealize.ShloMosaic.Lib.Pipeline.ValueKit
public import Idealize.ShloMosaic.Lib.Quiescent
public import Idealize.ShloMosaic.Lib.Tactic

/-!
The optimiser's step on layer 3 of a stacked weight, counted from 0, with the sum over the devices' parts of its gradient.
-/

@[expose] public section

set_option maxRecDepth 16384

noncomputable section

namespace Cert.UpdateIn3

open Idealize.ShloMosaic Idealize.ShloMosaic.TcCoe Idealize.ShloMosaic.Tactic Idealize.SL.Sem
open Cert.Update Cert.KernelUpdateIn3Ideal Cert.KernelUpdateIn3Ideal.Gen

variable (m : (ℓ : Loc nD τ sig) → Buf (Elt Ideal) ℓ) (c : Dev nD) (t : Fin cfg0.N)

/-- The arguments, and the blocks of them a point reads. -/
abbrev a0 : Vec Ideal S8x672x2048 .bf16 := m ((c : Thread nD τ).loc main_arg0)
abbrev a1 : Vec Ideal S4x672x2048 .f32 := m ((c : Thread nD τ).loc main_arg1)
abbrev a2 : Vec Ideal S4x672x2048 .f32 := m ((c : Thread nD τ).loc main_arg2)
abbrev a3 : Vec Ideal S4x672x2048 .f32 := m ((c : Thread nD τ).loc main_arg3)
abbrev a4 : Vec Ideal S4x672x2048 .f32 := m ((c : Thread nD τ).loc main_arg4)
abbrev a5 : Vec Ideal S4x672x2048 .f32 := m ((c : Thread nD τ).loc main_arg5)
abbrev a6 : Vec Ideal S4x672x2048 .f32 := m ((c : Thread nD τ).loc main_arg6)
abbrev a7 : Vec Ideal S4x672x2048 .f32 := m ((c : Thread nD τ).loc main_arg7)
abbrev b0 : Vec Ideal S8x112x2048 .bf16 := iblk m c 0 t
abbrev b1 : Vec Ideal S1x112x2048 .f32 := iblk m c 1 t
abbrev b2 : Vec Ideal S1x112x2048 .f32 := iblk m c 2 t
abbrev b3 : Vec Ideal S1x112x2048 .f32 := iblk m c 3 t

/-- What a point leaves. -/
theorem sum_at (r : Fin 112) (l : Fin 2048) : k0_pay3 (View.ld (b0 m c t) (Rect.unit ![0, 0, 0] ![1, 112, 2048] inb_S8x112x2048_S1x112x2048_0_0_0))
    (View.ld (b0 m c t) (Rect.unit ![1, 0, 0] ![1, 112, 2048] inb_S8x112x2048_S1x112x2048_1_0_0))
    (View.ld (b0 m c t) (Rect.unit ![2, 0, 0] ![1, 112, 2048] inb_S8x112x2048_S1x112x2048_2_0_0))
    (View.ld (b0 m c t) (Rect.unit ![3, 0, 0] ![1, 112, 2048] inb_S8x112x2048_S1x112x2048_3_0_0))
    (View.ld (b0 m c t) (Rect.unit ![4, 0, 0] ![1, 112, 2048] inb_S8x112x2048_S1x112x2048_4_0_0))
    (View.ld (b0 m c t) (Rect.unit ![5, 0, 0] ![1, 112, 2048] inb_S8x112x2048_S1x112x2048_5_0_0))
    (View.ld (b0 m c t) (Rect.unit ![6, 0, 0] ![1, 112, 2048] inb_S8x112x2048_S1x112x2048_6_0_0))
    (View.ld (b0 m c t) (Rect.unit ![7, 0, 0] ![1, 112, 2048] inb_S8x112x2048_S1x112x2048_7_0_0)) (ix2 r l) = parts (b0 m c t) r l := by
  pointwise [k0_pay3]
  rw [parts, Fin.sum_univ_eight]
theorem g_at (r : Fin 112) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S112x2048 .f32) (x : Vec Ideal S1x112x2048 .f32) (r : Fin 112) (l : Fin 2048) :
    k0_pay4 g x (ix2 r l) = mom (g (ix2 r l)) (x (ix3 0 r l)) := by
  pointwise [k0_pay4]
  rfl
theorem sqr_pay (g : Vec Ideal S112x2048 .f32) (x : Vec Ideal S1x112x2048 .f32) (r : Fin 112) (l : Fin 2048) :
    k0_pay5 g x (ix2 r l) = sqr (g (ix2 r l)) (x (ix3 0 r l)) := by
  pointwise [k0_pay5]
  rfl
theorem d_at (r : Fin 112) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 112) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 112) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![3, t.val, 0] ∧ win0_2.index t = ![3, t.val, 0]
    ∧ win0_3.index t = ![3, t.val, 0]) ∧ win0_4.index t = ![3, t.val, 0] ∧ win0_5.index t = ![3, t.val, 0] ∧ win0_6.index t = ![3, t.val, 0]
    ∧ win0_7.index t = ![3, t.val, 0] := by decide +kernel

abbrev row (r : Fin 112) : Fin 672 := ⟨t.val * 112 + r.val, by have : t.val < 6 := t.isLt; omega⟩

theorem blk0 (d : Fin 8) (r : Fin 112) (k : Fin 2048) : b0 m c t (ix3 d r k) = a0 m c (ix3 d (row t r) k) := by
  blk_ext! [iblk, V, (index0 t).1.1]
theorem blk1 (r : Fin 112) (k : Fin 2048) : b1 m c t (ix3 0 r k) = a1 m c (ix3 3 (row t r) k) := by
  blk_ext! [iblk, V, (index0 t).1.2.1]
theorem blk2 (r : Fin 112) (k : Fin 2048) : b2 m c t (ix3 0 r k) = a2 m c (ix3 3 (row t r) k) := by
  blk_ext! [iblk, V, (index0 t).1.2.2.1]
theorem blk3 (r : Fin 112) (k : Fin 2048) : b3 m c t (ix3 0 r k) = a3 m c (ix3 3 (row t r) k) := by
  blk_ext! [iblk, V, (index0 t).1.2.2.2]

theorem parts_block (r : Fin 112) (l : Fin 2048) : parts (b0 m c t) r l = parts (a0 m c) (row t r) l :=
  Finset.sum_congr rfl fun d _ => blk0 m c t d r l

theorem arr4 : (dats m 0 c).arrAt 4 cfg0.N = layer 3 (parts (a0 m c)) (a4 m c) := by
  refine (dats m 0 c).arrAt_eq_of_coversWhere_of_agree 4 _ (fun β => β (0 : Fin 3) = 3) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 3 (parts (a0 m c)) (a4 m c) (row t y1) y2).symm.trans (congrArg (layer 3 (parts (a0 m c)) (a4 m c)) ?_)
    blk_ext! [(index0 t).2.1]
  · refine layer_out 3 (parts (a0 m c)) (a4 m c) _ fun h => hj ?_
    exact (Nat.div_one _).trans h
theorem arr5 : (dats m 0 c).arrAt 5 cfg0.N = layer 3 (chgs 3 (a0 m c) (a1 m c) (a2 m c) (a3 m c)) (a5 m c) := by
  refine (dats m 0 c).arrAt_eq_of_coversWhere_of_agree 5 _ (fun β => β (0 : Fin 3) = 3) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 3 (chgs 3 (a0 m c) (a1 m c) (a2 m c) (a3 m c)) (a5 m c) (row t y1) y2).symm.trans (congrArg (layer 3 (chgs 3 (a0 m c) (a1 m c) (a2 m c) (a3 m c)) (a5 m c)) ?_)
    blk_ext! [(index0 t).2.2.1]
  · refine layer_out 3 (chgs 3 (a0 m c) (a1 m c) (a2 m c) (a3 m c)) (a5 m c) _ fun h => hj ?_
    exact (Nat.div_one _).trans h
theorem arr6 : (dats m 0 c).arrAt 6 cfg0.N = layer 3 (moms 3 (a0 m c) (a2 m c)) (a6 m c) := by
  refine (dats m 0 c).arrAt_eq_of_coversWhere_of_agree 6 _ (fun β => β (0 : Fin 3) = 3) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 3 (moms 3 (a0 m c) (a2 m c)) (a6 m c) (row t y1) y2).symm.trans (congrArg (layer 3 (moms 3 (a0 m c) (a2 m c)) (a6 m c)) ?_)
    blk_ext! [(index0 t).2.2.2.1]
  · refine layer_out 3 (moms 3 (a0 m c) (a2 m c)) (a6 m c) _ fun h => hj ?_
    exact (Nat.div_one _).trans h
theorem arr7 : (dats m 0 c).arrAt 7 cfg0.N = layer 3 (sqrs 3 (a0 m c) (a3 m c)) (a7 m c) := by
  refine (dats m 0 c).arrAt_eq_of_coversWhere_of_agree 7 _ (fun β => β (0 : Fin 3) = 3) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 3 (sqrs 3 (a0 m c) (a3 m c)) (a7 m c) (row t y1) y2).symm.trans (congrArg (layer 3 (sqrs 3 (a0 m c) (a3 m c)) (a7 m c)) ?_)
    blk_ext! [(index0 t).2.2.2.2]
  · refine layer_out 3 (sqrs 3 (a0 m c) (a3 m c)) (a7 m c) _ fun h => hj ?_
    exact (Nat.div_one _).trans h

section Reference
open Cert.ReferenceUpdateIn3Ideal.Read
variable (x0 : Vec Ideal S8x672x2048 .bf16) (x1 x2 x3 o : Vec Ideal S4x672x2048 .f32)

theorem sum_ref (r : Fin 672) (l : Fin 2048) : val_main_v1 (F := Ideal) x0 (ix2 r l) = parts x0 r l := by
  pointwise [val_main_v1, val_main_v0, val_main_cst]
  rfl
theorem mom_ref (r : Fin 672) (l : Fin 2048) : val_main_v12 (F := Ideal) x0 x2 (ix2 r l) = moms 3 x0 x2 r l := by
  pointwise [val_main_v12, val_main_v11, val_main_v10, val_main_v9, val_main_v8, val_main_v5, val_main_v4, val_main_cst_0, val_main_cst_1]
  rw [sum_ref]
  rfl
theorem sqr_ref (r : Fin 672) (l : Fin 2048) : val_main_v18 (F := Ideal) x0 x3 (ix2 r l) = sqrs 3 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 672) (l : Fin 2048) : val_main_v31 (F := Ideal) x0 x1 x2 x3 (ix2 r l) = chgs 3 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 3 (parts x0) o := by
  funext y
  idx_vars y
  pointwise [val_main_v35, val_main_v33, val_main_v32]
  match y0 with
  | 0 => rfl
  | 1 => rfl
  | 2 => rfl
  | 3 => exact sum_ref x0 y1 y2
theorem ref5 : val_main_v39 (F := Ideal) x0 x1 x2 x3 o = layer 3 (chgs 3 x0 x1 x2 x3) o := by
  funext y
  idx_vars y
  pointwise [val_main_v39, val_main_v37, val_main_v36]
  match y0 with
  | 0 => rfl
  | 1 => rfl
  | 2 => rfl
  | 3 => exact chg_ref x0 x1 x2 x3 y1 y2
theorem ref6 : val_main_v43 (F := Ideal) x0 x2 o = layer 3 (moms 3 x0 x2) o := by
  funext y
  idx_vars y
  pointwise [val_main_v43, val_main_v41, val_main_v40]
  match y0 with
  | 0 => rfl
  | 1 => rfl
  | 2 => rfl
  | 3 => exact mom_ref x0 x2 y1 y2
theorem ref7 : val_main_v47 (F := Ideal) x0 x3 o = layer 3 (sqrs 3 x0 x3) o := by
  funext y
  idx_vars y
  pointwise [val_main_v47, val_main_v45, val_main_v44]
  match y0 with
  | 0 => rfl
  | 1 => rfl
  | 2 => rfl
  | 3 => exact sqr_ref x0 x3 y1 y2

end Reference

/-! ## The statements -/

theorem frame_kernel : Cert.quiescent_KernelUpdateIn3 (hKernelUpdateIn3 := Cert.KernelUpdateIn3.Gen.facts) :=
  fun m ρ _ => Cert.KernelUpdateIn3.Gen.frame m ρ
theorem frame_kernel_ideal : Cert.quiescent_KernelUpdateIn3Ideal (hKernelUpdateIn3Ideal := Cert.KernelUpdateIn3Ideal.Gen.facts) :=
  fun m ρ _ => Cert.KernelUpdateIn3Ideal.Gen.frame m ρ
theorem frame_reference : Cert.quiescent_ReferenceUpdateIn3Ideal (hReferenceUpdateIn3Ideal := Cert.ReferenceUpdateIn3Ideal.Gen.facts) :=
  fun m ρ _ => (θ_run _ _ _).mono (fun r h => ⟨fun c => (h c).2.2.2.2, sem_eq_zero_of_no_sems rfl r.2⟩)
    (Cert.ReferenceUpdateIn3Ideal.Value.run m ρ)

theorem equal : Cert.algebraic_KernelUpdateIn3Ideal_ReferenceUpdateIn3Ideal (hKernelUpdateIn3Ideal := Cert.KernelUpdateIn3Ideal.Gen.facts)
    (hReferenceUpdateIn3Ideal := Cert.ReferenceUpdateIn3Ideal.Gen.facts) := by
  intro m g m' g' _ hagree
  refine ⟨fun c => layer 3 (parts (a0 m c)) (a4 m c), fun c => layer 3 (chgs 3 (a0 m c) (a1 m c) (a2 m c) (a3 m c)) (a5 m c),
    fun c => layer 3 (moms 3 (a0 m c) (a2 m c)) (a6 m c), fun c => layer 3 (sqrs 3 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateIn3Ideal.Value.run_blocks m g)
  · refine (θ_run _ _ _).mono (fun r h c => ?_) (Cert.ReferenceUpdateIn3Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateIn3Ideal.Read.val_main_v35_eq, h0, h4]
      exact ref4 _ _
    · rw [Cert.ReferenceUpdateIn3Ideal.Read.val_main_v39_eq, h0, h1, h2, h3, h5]
      exact ref5 _ _ _ _ _
    · rw [Cert.ReferenceUpdateIn3Ideal.Read.val_main_v43_eq, h0, h2, h6]
      exact ref6 _ _ _
    · rw [Cert.ReferenceUpdateIn3Ideal.Read.val_main_v47_eq, h0, h3, h7]
      exact ref7 _ _ _

end Cert.UpdateIn3

end
-- ==== Proof.UpdateUp.lean ====
module

public import proofs.«01_k».proof.Defs
public import proofs.«01_k».proof.Proof.Ref
public import proofs.«01_k».proof.Proof.Gen.KernelUpdateUp.Frame
public import proofs.«01_k».proof.Proof.Gen.KernelUpdateUpIdeal.Frame
public import proofs.«01_k».proof.Proof.Gen.KernelUpdateUpIdeal.Value
public import proofs.«01_k».proof.Proof.Gen.ReferenceUpdateUpIdeal.Read
public import proofs.«01_k».proof.Proof.Gen.ReferenceUpdateUpIdeal.Run
public import Idealize.ShloMosaic.Lib.Pipeline.ValueKit
public import Idealize.ShloMosaic.Lib.Quiescent
public import Idealize.ShloMosaic.Lib.Tactic

/-!
The optimiser's step on one layer of a stacked weight, with the sum over the devices' parts of its gradient.
-/

@[expose] public section

set_option maxRecDepth 16384

noncomputable section

namespace Cert.UpdateUp

open Idealize.ShloMosaic Idealize.ShloMosaic.TcCoe Idealize.ShloMosaic.Tactic Idealize.SL.Sem
open Cert.KernelUpdateUpIdeal Cert.KernelUpdateUpIdeal.Gen

variable (m : (ℓ : Loc nD τ sig) → Buf (Elt Ideal) ℓ) (c : Dev nD) (t : Fin cfg0.N)

/-- The arguments, and the blocks of them a point reads. -/
abbrev a0 : Vec Ideal S8x2048x1408 .bf16 := m ((c : Thread nD τ).loc main_arg0)
abbrev a1 : Vec Ideal S4x2048x1408 .f32 := m ((c : Thread nD τ).loc main_arg1)
abbrev a2 : Vec Ideal S4x2048x1408 .f32 := m ((c : Thread nD τ).loc main_arg2)
abbrev a3 : Vec Ideal S4x2048x1408 .f32 := m ((c : Thread nD τ).loc main_arg3)
abbrev a4 : Vec Ideal S4x2048x1408 .f32 := m ((c : Thread nD τ).loc main_arg4)
abbrev a5 : Vec Ideal S4x2048x1408 .f32 := m ((c : Thread nD τ).loc main_arg5)
abbrev a6 : Vec Ideal S4x2048x1408 .f32 := m ((c : Thread nD τ).loc main_arg6)
abbrev a7 : Vec Ideal S4x2048x1408 .f32 := m ((c : Thread nD τ).loc main_arg7)
abbrev b0 : Vec Ideal S8x128x1408 .bf16 := iblk m c 0 t
abbrev b1 : Vec Ideal S1x128x1408 .f32 := iblk m c 1 t
abbrev b2 : Vec Ideal S1x128x1408 .f32 := iblk m c 2 t
abbrev b3 : Vec Ideal S1x128x1408 .f32 := iblk m c 3 t

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The parts' sum at a place. -/
def parts {R : ℕ} (x : (⟨3, ![8, R, 1408]⟩ : Shape).Idx → EReal) (r : Fin R) (l : Fin 1408) : EReal := ∑ d : Fin 8, x (ix3 d r l)

/-- What a point leaves. -/
theorem sum_at (r : Fin 128) (l : Fin 1408) : k0_pay3 (View.ld (b0 m c t) (Rect.unit ![0, 0, 0] ![1, 128, 1408] inb_S8x128x1408_S1x128x1408_0_0_0))
    (View.ld (b0 m c t) (Rect.unit ![1, 0, 0] ![1, 128, 1408] inb_S8x128x1408_S1x128x1408_1_0_0))
    (View.ld (b0 m c t) (Rect.unit ![2, 0, 0] ![1, 128, 1408] inb_S8x128x1408_S1x128x1408_2_0_0))
    (View.ld (b0 m c t) (Rect.unit ![3, 0, 0] ![1, 128, 1408] inb_S8x128x1408_S1x128x1408_3_0_0))
    (View.ld (b0 m c t) (Rect.unit ![4, 0, 0] ![1, 128, 1408] inb_S8x128x1408_S1x128x1408_4_0_0))
    (View.ld (b0 m c t) (Rect.unit ![5, 0, 0] ![1, 128, 1408] inb_S8x128x1408_S1x128x1408_5_0_0))
    (View.ld (b0 m c t) (Rect.unit ![6, 0, 0] ![1, 128, 1408] inb_S8x128x1408_S1x128x1408_6_0_0))
    (View.ld (b0 m c t) (Rect.unit ![7, 0, 0] ![1, 128, 1408] inb_S8x128x1408_S1x128x1408_7_0_0)) (ix2 r l) = parts (b0 m c t) r l := by
  pointwise [k0_pay3]
  rw [parts, Fin.sum_univ_eight]
theorem g_at (r : Fin 128) (l : Fin 1408) : (outsAt0 m c t).1 (ix3 0 r l) = parts (b0 m c t) r l := by
  unfold outsAt0
  frame_out
  refine Eq.trans ?_ (sum_at m c t r l)
  pointwise [k0_pay6]
theorem mom_pay (g : Vec Ideal S128x1408 .f32) (x : Vec Ideal S1x128x1408 .f32) (r : Fin 128) (l : Fin 1408) :
    k0_pay4 g x (ix2 r l) = mom (g (ix2 r l)) (x (ix3 0 r l)) := by
  pointwise [k0_pay4]
  rfl
theorem sqr_pay (g : Vec Ideal S128x1408 .f32) (x : Vec Ideal S1x128x1408 .f32) (r : Fin 128) (l : Fin 1408) :
    k0_pay5 g x (ix2 r l) = sqr (g (ix2 r l)) (x (ix3 0 r l)) := by
  pointwise [k0_pay5]
  rfl
theorem d_at (r : Fin 128) (l : Fin 1408) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 1408) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 1408) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0] ∧ win0_6.index t = ![0, t.val, 0]
    ∧ win0_7.index t = ![0, t.val, 0] := by decide +kernel

abbrev row (r : Fin 128) : Fin 2048 := ⟨t.val * 128 + r.val, by have : t.val < 16 := t.isLt; omega⟩

theorem blk0 (d : Fin 8) (r : Fin 128) (k : Fin 1408) : b0 m c t (ix3 d r k) = a0 m c (ix3 d (row t r) k) := by
  blk_ext! [iblk, V, (index0 t).1.1]
theorem blk1 (r : Fin 128) (k : Fin 1408) : b1 m c t (ix3 0 r k) = a1 m c (ix3 0 (row t r) k) := by
  blk_ext! [iblk, V, (index0 t).1.2.1]
theorem blk2 (r : Fin 128) (k : Fin 1408) : b2 m c t (ix3 0 r k) = a2 m c (ix3 0 (row t r) k) := by
  blk_ext! [iblk, V, (index0 t).1.2.2.1]
theorem blk3 (r : Fin 128) (k : Fin 1408) : b3 m c t (ix3 0 r k) = a3 m c (ix3 0 (row t r) k) := by
  blk_ext! [iblk, V, (index0 t).1.2.2.2]

/-- An array with its first layer replaced. -/
def layer (f : Fin 2048 → Fin 1408 → EReal) (o : Vec Ideal S4x2048x1408 .f32) : Vec Ideal S4x2048x1408 .f32 :=
  fun i => if (i 0).val = 0 then f (i 1) (i 2) else o i

/-- The results, of the arguments. -/
def moms (x : Vec Ideal S8x2048x1408 .bf16) (y : Vec Ideal S4x2048x1408 .f32) (r : Fin 2048) (l : Fin 1408) : EReal := mom (parts x r l) (y (ix3 0 r l))
def sqrs (x : Vec Ideal S8x2048x1408 .bf16) (z : Vec Ideal S4x2048x1408 .f32) (r : Fin 2048) (l : Fin 1408) : EReal := sqr (parts x r l) (z (ix3 0 r l))
def chgs (x : Vec Ideal S8x2048x1408 .bf16) (w y z : Vec Ideal S4x2048x1408 .f32) (r : Fin 2048) (l : Fin 1408) : EReal :=
  chg (parts x r l) (w (ix3 0 r l)) (y (ix3 0 r l)) (z (ix3 0 r l))

theorem parts_block (r : Fin 128) (l : Fin 1408) : parts (b0 m c t) r l = parts (a0 m c) (row t r) l :=
  Finset.sum_congr rfl fun d _ => blk0 m c t d r l

/-- The layer's place, and the places outside it. -/
theorem layer_in (f : Fin 2048 → Fin 1408 → EReal) (o : Vec Ideal S4x2048x1408 .f32) (r : Fin 2048) (l : Fin 1408) :
    layer f o (ix3 0 r l) = f r l := if_pos rfl
theorem layer_out (f : Fin 2048 → Fin 1408 → EReal) (o : Vec Ideal S4x2048x1408 .f32) (i : S4x2048x1408.Idx) (h : ¬(i 0).val = 0) :
    o i = layer f o i := (if_neg h).symm

theorem arr4 : (dats m 0 c).arrAt 4 cfg0.N = layer (parts (a0 m c)) (a4 m c) := by
  refine (dats m 0 c).arrAt_eq_of_coversWhere_of_agree 4 _ (fun β => β (0 : Fin 3) = 0) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in (parts (a0 m c)) (a4 m c) (row t y1) y2).symm.trans (congrArg (layer (parts (a0 m c)) (a4 m c)) ?_)
    blk_ext! [(index0 t).2.1]
  · refine layer_out (parts (a0 m c)) (a4 m c) _ fun h => hj ?_
    exact (Nat.div_one _).trans h
theorem arr5 : (dats m 0 c).arrAt 5 cfg0.N = layer (chgs (a0 m c) (a1 m c) (a2 m c) (a3 m c)) (a5 m c) := by
  refine (dats m 0 c).arrAt_eq_of_coversWhere_of_agree 5 _ (fun β => β (0 : Fin 3) = 0) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in (chgs (a0 m c) (a1 m c) (a2 m c) (a3 m c)) (a5 m c) (row t y1) y2).symm.trans (congrArg (layer (chgs (a0 m c) (a1 m c) (a2 m c) (a3 m c)) (a5 m c)) ?_)
    blk_ext! [(index0 t).2.2.1]
  · refine layer_out (chgs (a0 m c) (a1 m c) (a2 m c) (a3 m c)) (a5 m c) _ fun h => hj ?_
    exact (Nat.div_one _).trans h
theorem arr6 : (dats m 0 c).arrAt 6 cfg0.N = layer (moms (a0 m c) (a2 m c)) (a6 m c) := by
  refine (dats m 0 c).arrAt_eq_of_coversWhere_of_agree 6 _ (fun β => β (0 : Fin 3) = 0) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in (moms (a0 m c) (a2 m c)) (a6 m c) (row t y1) y2).symm.trans (congrArg (layer (moms (a0 m c) (a2 m c)) (a6 m c)) ?_)
    blk_ext! [(index0 t).2.2.2.1]
  · refine layer_out (moms (a0 m c) (a2 m c)) (a6 m c) _ fun h => hj ?_
    exact (Nat.div_one _).trans h
theorem arr7 : (dats m 0 c).arrAt 7 cfg0.N = layer (sqrs (a0 m c) (a3 m c)) (a7 m c) := by
  refine (dats m 0 c).arrAt_eq_of_coversWhere_of_agree 7 _ (fun β => β (0 : Fin 3) = 0) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in (sqrs (a0 m c) (a3 m c)) (a7 m c) (row t y1) y2).symm.trans (congrArg (layer (sqrs (a0 m c) (a3 m c)) (a7 m c)) ?_)
    blk_ext! [(index0 t).2.2.2.2]
  · refine layer_out (sqrs (a0 m c) (a3 m c)) (a7 m c) _ fun h => hj ?_
    exact (Nat.div_one _).trans h

section Reference
open Cert.ReferenceUpdateUpIdeal.Read
variable (x0 : Vec Ideal S8x2048x1408 .bf16) (x1 x2 x3 o : Vec Ideal S4x2048x1408 .f32)

theorem sum_ref (r : Fin 2048) (l : Fin 1408) : val_main_v1 (F := Ideal) x0 (ix2 r l) = parts x0 r l := by
  pointwise [val_main_v1, val_main_v0, val_main_cst]
  rfl
theorem mom_ref (r : Fin 2048) (l : Fin 1408) : val_main_v12 (F := Ideal) x0 x2 (ix2 r l) = moms x0 x2 r l := by
  pointwise [val_main_v12, val_main_v11, val_main_v10, val_main_v9, val_main_v8, val_main_v5, val_main_v4, val_main_cst_0, val_main_cst_1]
  rw [sum_ref]
  rfl
theorem sqr_ref (r : Fin 2048) (l : Fin 1408) : val_main_v18 (F := Ideal) x0 x3 (ix2 r l) = sqrs x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 2048) (l : Fin 1408) : val_main_v31 (F := Ideal) x0 x1 x2 x3 (ix2 r l) = chgs x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

/-- The layers put together again: the new one, then the old ones. -/
theorem joined (f : Fin 2048 → Fin 1408 → EReal) (o : Vec Ideal S4x2048x1408 .f32) (y0 : Fin 4) (y1 : Fin 2048) (y2 : Fin 1408) (a : EReal)
    (ha : a = f y1 y2) (q : ¬y0.val < 1 → 1 + (y0.val - 1) < 4) :
    (if h : y0.val < 1 then a else o (ix3 ⟨1 + (y0.val - 1), q h⟩ y1 y2)) = layer f o (ix3 y0 y1 y2) := by
  by_cases h : y0.val < 1
  · obtain rfl : y0 = 0 := Fin.ext (by omega)
    rw [dif_pos h, layer_in, ha]
  · rw [dif_neg h]
    refine Eq.trans (congrArg (fun k => o (ix3 k y1 y2)) (Fin.ext ?_)) (layer_out f o (ix3 y0 y1 y2) fun e => h ?_)
    · show 1 + (y0.val - 1) = y0.val
      omega
    · have : y0.val = 0 := e
      omega

theorem ref4 : val_main_v34 (F := Ideal) x0 o = layer (parts x0) o := by
  funext y
  idx_vars y
  pointwise [val_main_v34, val_main_v33, val_main_v32]
  exact joined (parts x0) o y0 y1 y2 _ (sum_ref x0 y1 y2) _
theorem ref5 : val_main_v37 (F := Ideal) x0 x1 x2 x3 o = layer (chgs x0 x1 x2 x3) o := by
  funext y
  idx_vars y
  pointwise [val_main_v37, val_main_v36, val_main_v35]
  exact joined (chgs x0 x1 x2 x3) o y0 y1 y2 _ (chg_ref x0 x1 x2 x3 y1 y2) _
theorem ref6 : val_main_v40 (F := Ideal) x0 x2 o = layer (moms x0 x2) o := by
  funext y
  idx_vars y
  pointwise [val_main_v40, val_main_v39, val_main_v38]
  exact joined (moms x0 x2) o y0 y1 y2 _ (mom_ref x0 x2 y1 y2) _
theorem ref7 : val_main_v43 (F := Ideal) x0 x3 o = layer (sqrs x0 x3) o := by
  funext y
  idx_vars y
  pointwise [val_main_v43, val_main_v42, val_main_v41]
  exact joined (sqrs x0 x3) o y0 y1 y2 _ (sqr_ref x0 x3 y1 y2) _

end Reference

/-! ## The statements -/

theorem frame_kernel : Cert.quiescent_KernelUpdateUp (hKernelUpdateUp := Cert.KernelUpdateUp.Gen.facts) :=
  fun m ρ _ => Cert.KernelUpdateUp.Gen.frame m ρ
theorem frame_kernel_ideal : Cert.quiescent_KernelUpdateUpIdeal (hKernelUpdateUpIdeal := Cert.KernelUpdateUpIdeal.Gen.facts) :=
  fun m ρ _ => Cert.KernelUpdateUpIdeal.Gen.frame m ρ
theorem frame_reference : Cert.quiescent_ReferenceUpdateUpIdeal (hReferenceUpdateUpIdeal := Cert.ReferenceUpdateUpIdeal.Gen.facts) :=
  fun m ρ _ => (θ_run _ _ _).mono (fun r h => ⟨fun c => (h c).2.2.2.2, sem_eq_zero_of_no_sems rfl r.2⟩)
    (Cert.ReferenceUpdateUpIdeal.Value.run m ρ)

theorem equal : Cert.algebraic_KernelUpdateUpIdeal_ReferenceUpdateUpIdeal (hKernelUpdateUpIdeal := Cert.KernelUpdateUpIdeal.Gen.facts)
    (hReferenceUpdateUpIdeal := Cert.ReferenceUpdateUpIdeal.Gen.facts) := by
  intro m g m' g' _ hagree
  refine ⟨fun c => layer (parts (a0 m c)) (a4 m c), fun c => layer (chgs (a0 m c) (a1 m c) (a2 m c) (a3 m c)) (a5 m c),
    fun c => layer (moms (a0 m c) (a2 m c)) (a6 m c), fun c => layer (sqrs (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateUpIdeal.Value.run_blocks m g)
  · refine (θ_run _ _ _).mono (fun r h c => ?_) (Cert.ReferenceUpdateUpIdeal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateUpIdeal.Read.val_main_v34_eq, h0, h4]
      exact ref4 _ _
    · rw [Cert.ReferenceUpdateUpIdeal.Read.val_main_v37_eq, h0, h1, h2, h3, h5]
      exact ref5 _ _ _ _ _
    · rw [Cert.ReferenceUpdateUpIdeal.Read.val_main_v40_eq, h0, h2, h6]
      exact ref6 _ _ _
    · rw [Cert.ReferenceUpdateUpIdeal.Read.val_main_v43_eq, h0, h3, h7]
      exact ref7 _ _ _

end Cert.UpdateUp

end
-- ==== Proof.UpdateUp1.lean ====
module

public import proofs.«01_k».proof.Defs
public import proofs.«01_k».proof.Proof.Ref
public import proofs.«01_k».proof.Proof.Update
public import proofs.«01_k».proof.Proof.Gen.KernelUpdateUp1.Frame
public import proofs.«01_k».proof.Proof.Gen.KernelUpdateUp1Ideal.Frame
public import proofs.«01_k».proof.Proof.Gen.KernelUpdateUp1Ideal.Value
public import proofs.«01_k».proof.Proof.Gen.ReferenceUpdateUp1Ideal.Read
public import proofs.«01_k».proof.Proof.Gen.ReferenceUpdateUp1Ideal.Run
public import Idealize.ShloMosaic.Lib.Pipeline.ValueKit
public import Idealize.ShloMosaic.Lib.Quiescent
public import Idealize.ShloMosaic.Lib.Tactic

/-!
The optimiser's step on layer 1 of a stacked weight, counted from 0, with the sum over the devices' parts of its gradient.
-/

@[expose] public section

set_option maxRecDepth 16384

noncomputable section

namespace Cert.UpdateUp1

open Idealize.ShloMosaic Idealize.ShloMosaic.TcCoe Idealize.ShloMosaic.Tactic Idealize.SL.Sem
open Cert.Update Cert.KernelUpdateUp1Ideal Cert.KernelUpdateUp1Ideal.Gen

variable (m : (ℓ : Loc nD τ sig) → Buf (Elt Ideal) ℓ) (c : Dev nD) (t : Fin cfg0.N)

/-- The arguments, and the blocks of them a point reads. -/
abbrev a0 : Vec Ideal S8x2048x1408 .bf16 := m ((c : Thread nD τ).loc main_arg0)
abbrev a1 : Vec Ideal S4x2048x1408 .f32 := m ((c : Thread nD τ).loc main_arg1)
abbrev a2 : Vec Ideal S4x2048x1408 .f32 := m ((c : Thread nD τ).loc main_arg2)
abbrev a3 : Vec Ideal S4x2048x1408 .f32 := m ((c : Thread nD τ).loc main_arg3)
abbrev a4 : Vec Ideal S4x2048x1408 .f32 := m ((c : Thread nD τ).loc main_arg4)
abbrev a5 : Vec Ideal S4x2048x1408 .f32 := m ((c : Thread nD τ).loc main_arg5)
abbrev a6 : Vec Ideal S4x2048x1408 .f32 := m ((c : Thread nD τ).loc main_arg6)
abbrev a7 : Vec Ideal S4x2048x1408 .f32 := m ((c : Thread nD τ).loc main_arg7)
abbrev b0 : Vec Ideal S8x128x1408 .bf16 := iblk m c 0 t
abbrev b1 : Vec Ideal S1x128x1408 .f32 := iblk m c 1 t
abbrev b2 : Vec Ideal S1x128x1408 .f32 := iblk m c 2 t
abbrev b3 : Vec Ideal S1x128x1408 .f32 := iblk m c 3 t

/-- What a point leaves. -/
theorem sum_at (r : Fin 128) (l : Fin 1408) : k0_pay3 (View.ld (b0 m c t) (Rect.unit ![0, 0, 0] ![1, 128, 1408] inb_S8x128x1408_S1x128x1408_0_0_0))
    (View.ld (b0 m c t) (Rect.unit ![1, 0, 0] ![1, 128, 1408] inb_S8x128x1408_S1x128x1408_1_0_0))
    (View.ld (b0 m c t) (Rect.unit ![2, 0, 0] ![1, 128, 1408] inb_S8x128x1408_S1x128x1408_2_0_0))
    (View.ld (b0 m c t) (Rect.unit ![3, 0, 0] ![1, 128, 1408] inb_S8x128x1408_S1x128x1408_3_0_0))
    (View.ld (b0 m c t) (Rect.unit ![4, 0, 0] ![1, 128, 1408] inb_S8x128x1408_S1x128x1408_4_0_0))
    (View.ld (b0 m c t) (Rect.unit ![5, 0, 0] ![1, 128, 1408] inb_S8x128x1408_S1x128x1408_5_0_0))
    (View.ld (b0 m c t) (Rect.unit ![6, 0, 0] ![1, 128, 1408] inb_S8x128x1408_S1x128x1408_6_0_0))
    (View.ld (b0 m c t) (Rect.unit ![7, 0, 0] ![1, 128, 1408] inb_S8x128x1408_S1x128x1408_7_0_0)) (ix2 r l) = parts (b0 m c t) r l := by
  pointwise [k0_pay3]
  rw [parts, Fin.sum_univ_eight]
theorem g_at (r : Fin 128) (l : Fin 1408) : (outsAt0 m c t).1 (ix3 0 r l) = parts (b0 m c t) r l := by
  unfold outsAt0
  frame_out
  refine Eq.trans ?_ (sum_at m c t r l)
  pointwise [k0_pay6]
theorem mom_pay (g : Vec Ideal S128x1408 .f32) (x : Vec Ideal S1x128x1408 .f32) (r : Fin 128) (l : Fin 1408) :
    k0_pay4 g x (ix2 r l) = mom (g (ix2 r l)) (x (ix3 0 r l)) := by
  pointwise [k0_pay4]
  rfl
theorem sqr_pay (g : Vec Ideal S128x1408 .f32) (x : Vec Ideal S1x128x1408 .f32) (r : Fin 128) (l : Fin 1408) :
    k0_pay5 g x (ix2 r l) = sqr (g (ix2 r l)) (x (ix3 0 r l)) := by
  pointwise [k0_pay5]
  rfl
theorem d_at (r : Fin 128) (l : Fin 1408) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 1408) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 1408) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![1, t.val, 0] ∧ win0_2.index t = ![1, t.val, 0]
    ∧ win0_3.index t = ![1, t.val, 0]) ∧ win0_4.index t = ![1, t.val, 0] ∧ win0_5.index t = ![1, t.val, 0] ∧ win0_6.index t = ![1, t.val, 0]
    ∧ win0_7.index t = ![1, t.val, 0] := by decide +kernel

abbrev row (r : Fin 128) : Fin 2048 := ⟨t.val * 128 + r.val, by have : t.val < 16 := t.isLt; omega⟩

theorem blk0 (d : Fin 8) (r : Fin 128) (k : Fin 1408) : b0 m c t (ix3 d r k) = a0 m c (ix3 d (row t r) k) := by
  blk_ext! [iblk, V, (index0 t).1.1]
theorem blk1 (r : Fin 128) (k : Fin 1408) : b1 m c t (ix3 0 r k) = a1 m c (ix3 1 (row t r) k) := by
  blk_ext! [iblk, V, (index0 t).1.2.1]
theorem blk2 (r : Fin 128) (k : Fin 1408) : b2 m c t (ix3 0 r k) = a2 m c (ix3 1 (row t r) k) := by
  blk_ext! [iblk, V, (index0 t).1.2.2.1]
theorem blk3 (r : Fin 128) (k : Fin 1408) : b3 m c t (ix3 0 r k) = a3 m c (ix3 1 (row t r) k) := by
  blk_ext! [iblk, V, (index0 t).1.2.2.2]

theorem parts_block (r : Fin 128) (l : Fin 1408) : parts (b0 m c t) r l = parts (a0 m c) (row t r) l :=
  Finset.sum_congr rfl fun d _ => blk0 m c t d r l

theorem arr4 : (dats m 0 c).arrAt 4 cfg0.N = layer 1 (parts (a0 m c)) (a4 m c) := by
  refine (dats m 0 c).arrAt_eq_of_coversWhere_of_agree 4 _ (fun β => β (0 : Fin 3) = 1) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 1 (parts (a0 m c)) (a4 m c) (row t y1) y2).symm.trans (congrArg (layer 1 (parts (a0 m c)) (a4 m c)) ?_)
    blk_ext! [(index0 t).2.1]
  · refine layer_out 1 (parts (a0 m c)) (a4 m c) _ fun h => hj ?_
    exact (Nat.div_one _).trans h
theorem arr5 : (dats m 0 c).arrAt 5 cfg0.N = layer 1 (chgs 1 (a0 m c) (a1 m c) (a2 m c) (a3 m c)) (a5 m c) := by
  refine (dats m 0 c).arrAt_eq_of_coversWhere_of_agree 5 _ (fun β => β (0 : Fin 3) = 1) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 1 (chgs 1 (a0 m c) (a1 m c) (a2 m c) (a3 m c)) (a5 m c) (row t y1) y2).symm.trans (congrArg (layer 1 (chgs 1 (a0 m c) (a1 m c) (a2 m c) (a3 m c)) (a5 m c)) ?_)
    blk_ext! [(index0 t).2.2.1]
  · refine layer_out 1 (chgs 1 (a0 m c) (a1 m c) (a2 m c) (a3 m c)) (a5 m c) _ fun h => hj ?_
    exact (Nat.div_one _).trans h
theorem arr6 : (dats m 0 c).arrAt 6 cfg0.N = layer 1 (moms 1 (a0 m c) (a2 m c)) (a6 m c) := by
  refine (dats m 0 c).arrAt_eq_of_coversWhere_of_agree 6 _ (fun β => β (0 : Fin 3) = 1) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 1 (moms 1 (a0 m c) (a2 m c)) (a6 m c) (row t y1) y2).symm.trans (congrArg (layer 1 (moms 1 (a0 m c) (a2 m c)) (a6 m c)) ?_)
    blk_ext! [(index0 t).2.2.2.1]
  · refine layer_out 1 (moms 1 (a0 m c) (a2 m c)) (a6 m c) _ fun h => hj ?_
    exact (Nat.div_one _).trans h
theorem arr7 : (dats m 0 c).arrAt 7 cfg0.N = layer 1 (sqrs 1 (a0 m c) (a3 m c)) (a7 m c) := by
  refine (dats m 0 c).arrAt_eq_of_coversWhere_of_agree 7 _ (fun β => β (0 : Fin 3) = 1) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 1 (sqrs 1 (a0 m c) (a3 m c)) (a7 m c) (row t y1) y2).symm.trans (congrArg (layer 1 (sqrs 1 (a0 m c) (a3 m c)) (a7 m c)) ?_)
    blk_ext! [(index0 t).2.2.2.2]
  · refine layer_out 1 (sqrs 1 (a0 m c) (a3 m c)) (a7 m c) _ fun h => hj ?_
    exact (Nat.div_one _).trans h

section Reference
open Cert.ReferenceUpdateUp1Ideal.Read
variable (x0 : Vec Ideal S8x2048x1408 .bf16) (x1 x2 x3 o : Vec Ideal S4x2048x1408 .f32)

theorem sum_ref (r : Fin 2048) (l : Fin 1408) : val_main_v1 (F := Ideal) x0 (ix2 r l) = parts x0 r l := by
  pointwise [val_main_v1, val_main_v0, val_main_cst]
  rfl
theorem mom_ref (r : Fin 2048) (l : Fin 1408) : val_main_v12 (F := Ideal) x0 x2 (ix2 r l) = moms 1 x0 x2 r l := by
  pointwise [val_main_v12, val_main_v11, val_main_v10, val_main_v9, val_main_v8, val_main_v5, val_main_v4, val_main_cst_0, val_main_cst_1]
  rw [sum_ref]
  rfl
theorem sqr_ref (r : Fin 2048) (l : Fin 1408) : val_main_v18 (F := Ideal) x0 x3 (ix2 r l) = sqrs 1 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 2048) (l : Fin 1408) : val_main_v31 (F := Ideal) x0 x1 x2 x3 (ix2 r l) = chgs 1 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 1 (parts x0) o := by
  funext y
  idx_vars y
  pointwise [val_main_v35, val_main_v34, val_main_v33, val_main_v32]
  match y0 with
  | 0 => rfl
  | 1 => exact sum_ref x0 y1 y2
  | 2 => rfl
  | 3 => rfl
theorem ref5 : val_main_v39 (F := Ideal) x0 x1 x2 x3 o = layer 1 (chgs 1 x0 x1 x2 x3) o := by
  funext y
  idx_vars y
  pointwise [val_main_v39, val_main_v38, val_main_v37, val_main_v36]
  match y0 with
  | 0 => rfl
  | 1 => exact chg_ref x0 x1 x2 x3 y1 y2
  | 2 => rfl
  | 3 => rfl
theorem ref6 : val_main_v43 (F := Ideal) x0 x2 o = layer 1 (moms 1 x0 x2) o := by
  funext y
  idx_vars y
  pointwise [val_main_v43, val_main_v42, val_main_v41, val_main_v40]
  match y0 with
  | 0 => rfl
  | 1 => exact mom_ref x0 x2 y1 y2
  | 2 => rfl
  | 3 => rfl
theorem ref7 : val_main_v47 (F := Ideal) x0 x3 o = layer 1 (sqrs 1 x0 x3) o := by
  funext y
  idx_vars y
  pointwise [val_main_v47, val_main_v46, val_main_v45, val_main_v44]
  match y0 with
  | 0 => rfl
  | 1 => exact sqr_ref x0 x3 y1 y2
  | 2 => rfl
  | 3 => rfl

end Reference

/-! ## The statements -/

theorem frame_kernel : Cert.quiescent_KernelUpdateUp1 (hKernelUpdateUp1 := Cert.KernelUpdateUp1.Gen.facts) :=
  fun m ρ _ => Cert.KernelUpdateUp1.Gen.frame m ρ
theorem frame_kernel_ideal : Cert.quiescent_KernelUpdateUp1Ideal (hKernelUpdateUp1Ideal := Cert.KernelUpdateUp1Ideal.Gen.facts) :=
  fun m ρ _ => Cert.KernelUpdateUp1Ideal.Gen.frame m ρ
theorem frame_reference : Cert.quiescent_ReferenceUpdateUp1Ideal (hReferenceUpdateUp1Ideal := Cert.ReferenceUpdateUp1Ideal.Gen.facts) :=
  fun m ρ _ => (θ_run _ _ _).mono (fun r h => ⟨fun c => (h c).2.2.2.2, sem_eq_zero_of_no_sems rfl r.2⟩)
    (Cert.ReferenceUpdateUp1Ideal.Value.run m ρ)

theorem equal : Cert.algebraic_KernelUpdateUp1Ideal_ReferenceUpdateUp1Ideal (hKernelUpdateUp1Ideal := Cert.KernelUpdateUp1Ideal.Gen.facts)
    (hReferenceUpdateUp1Ideal := Cert.ReferenceUpdateUp1Ideal.Gen.facts) := by
  intro m g m' g' _ hagree
  refine ⟨fun c => layer 1 (parts (a0 m c)) (a4 m c), fun c => layer 1 (chgs 1 (a0 m c) (a1 m c) (a2 m c) (a3 m c)) (a5 m c),
    fun c => layer 1 (moms 1 (a0 m c) (a2 m c)) (a6 m c), fun c => layer 1 (sqrs 1 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateUp1Ideal.Value.run_blocks m g)
  · refine (θ_run _ _ _).mono (fun r h c => ?_) (Cert.ReferenceUpdateUp1Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateUp1Ideal.Read.val_main_v35_eq, h0, h4]
      exact ref4 _ _
    · rw [Cert.ReferenceUpdateUp1Ideal.Read.val_main_v39_eq, h0, h1, h2, h3, h5]
      exact ref5 _ _ _ _ _
    · rw [Cert.ReferenceUpdateUp1Ideal.Read.val_main_v43_eq, h0, h2, h6]
      exact ref6 _ _ _
    · rw [Cert.ReferenceUpdateUp1Ideal.Read.val_main_v47_eq, h0, h3, h7]
      exact ref7 _ _ _

end Cert.UpdateUp1

end
-- ==== Proof.UpdateUp2.lean ====
module

public import proofs.«01_k».proof.Defs
public import proofs.«01_k».proof.Proof.Ref
public import proofs.«01_k».proof.Proof.Update
public import proofs.«01_k».proof.Proof.Gen.KernelUpdateUp2.Frame
public import proofs.«01_k».proof.Proof.Gen.KernelUpdateUp2Ideal.Frame
public import proofs.«01_k».proof.Proof.Gen.KernelUpdateUp2Ideal.Value
public import proofs.«01_k».proof.Proof.Gen.ReferenceUpdateUp2Ideal.Read
public import proofs.«01_k».proof.Proof.Gen.ReferenceUpdateUp2Ideal.Run
public import Idealize.ShloMosaic.Lib.Pipeline.ValueKit
public import Idealize.ShloMosaic.Lib.Quiescent
public import Idealize.ShloMosaic.Lib.Tactic

/-!
The optimiser's step on layer 2 of a stacked weight, counted from 0, with the sum over the devices' parts of its gradient.
-/

@[expose] public section

set_option maxRecDepth 16384

noncomputable section

namespace Cert.UpdateUp2

open Idealize.ShloMosaic Idealize.ShloMosaic.TcCoe Idealize.ShloMosaic.Tactic Idealize.SL.Sem
open Cert.Update Cert.KernelUpdateUp2Ideal Cert.KernelUpdateUp2Ideal.Gen

variable (m : (ℓ : Loc nD τ sig) → Buf (Elt Ideal) ℓ) (c : Dev nD) (t : Fin cfg0.N)

/-- The arguments, and the blocks of them a point reads. -/
abbrev a0 : Vec Ideal S8x2048x1408 .bf16 := m ((c : Thread nD τ).loc main_arg0)
abbrev a1 : Vec Ideal S4x2048x1408 .f32 := m ((c : Thread nD τ).loc main_arg1)
abbrev a2 : Vec Ideal S4x2048x1408 .f32 := m ((c : Thread nD τ).loc main_arg2)
abbrev a3 : Vec Ideal S4x2048x1408 .f32 := m ((c : Thread nD τ).loc main_arg3)
abbrev a4 : Vec Ideal S4x2048x1408 .f32 := m ((c : Thread nD τ).loc main_arg4)
abbrev a5 : Vec Ideal S4x2048x1408 .f32 := m ((c : Thread nD τ).loc main_arg5)
abbrev a6 : Vec Ideal S4x2048x1408 .f32 := m ((c : Thread nD τ).loc main_arg6)
abbrev a7 : Vec Ideal S4x2048x1408 .f32 := m ((c : Thread nD τ).loc main_arg7)
abbrev b0 : Vec Ideal S8x128x1408 .bf16 := iblk m c 0 t
abbrev b1 : Vec Ideal S1x128x1408 .f32 := iblk m c 1 t
abbrev b2 : Vec Ideal S1x128x1408 .f32 := iblk m c 2 t
abbrev b3 : Vec Ideal S1x128x1408 .f32 := iblk m c 3 t

/-- What a point leaves. -/
theorem sum_at (r : Fin 128) (l : Fin 1408) : k0_pay3 (View.ld (b0 m c t) (Rect.unit ![0, 0, 0] ![1, 128, 1408] inb_S8x128x1408_S1x128x1408_0_0_0))
    (View.ld (b0 m c t) (Rect.unit ![1, 0, 0] ![1, 128, 1408] inb_S8x128x1408_S1x128x1408_1_0_0))
    (View.ld (b0 m c t) (Rect.unit ![2, 0, 0] ![1, 128, 1408] inb_S8x128x1408_S1x128x1408_2_0_0))
    (View.ld (b0 m c t) (Rect.unit ![3, 0, 0] ![1, 128, 1408] inb_S8x128x1408_S1x128x1408_3_0_0))
    (View.ld (b0 m c t) (Rect.unit ![4, 0, 0] ![1, 128, 1408] inb_S8x128x1408_S1x128x1408_4_0_0))
    (View.ld (b0 m c t) (Rect.unit ![5, 0, 0] ![1, 128, 1408] inb_S8x128x1408_S1x128x1408_5_0_0))
    (View.ld (b0 m c t) (Rect.unit ![6, 0, 0] ![1, 128, 1408] inb_S8x128x1408_S1x128x1408_6_0_0))
    (View.ld (b0 m c t) (Rect.unit ![7, 0, 0] ![1, 128, 1408] inb_S8x128x1408_S1x128x1408_7_0_0)) (ix2 r l) = parts (b0 m c t) r l := by
  pointwise [k0_pay3]
  rw [parts, Fin.sum_univ_eight]
theorem g_at (r : Fin 128) (l : Fin 1408) : (outsAt0 m c t).1 (ix3 0 r l) = parts (b0 m c t) r l := by
  unfold outsAt0
  frame_out
  refine Eq.trans ?_ (sum_at m c t r l)
  pointwise [k0_pay6]
theorem mom_pay (g : Vec Ideal S128x1408 .f32) (x : Vec Ideal S1x128x1408 .f32) (r : Fin 128) (l : Fin 1408) :
    k0_pay4 g x (ix2 r l) = mom (g (ix2 r l)) (x (ix3 0 r l)) := by
  pointwise [k0_pay4]
  rfl
theorem sqr_pay (g : Vec Ideal S128x1408 .f32) (x : Vec Ideal S1x128x1408 .f32) (r : Fin 128) (l : Fin 1408) :
    k0_pay5 g x (ix2 r l) = sqr (g (ix2 r l)) (x (ix3 0 r l)) := by
  pointwise [k0_pay5]
  rfl
theorem d_at (r : Fin 128) (l : Fin 1408) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 1408) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 1408) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![2, t.val, 0] ∧ win0_2.index t = ![2, t.val, 0]
    ∧ win0_3.index t = ![2, t.val, 0]) ∧ win0_4.index t = ![2, t.val, 0] ∧ win0_5.index t = ![2, t.val, 0] ∧ win0_6.index t = ![2, t.val, 0]
    ∧ win0_7.index t = ![2, t.val, 0] := by decide +kernel

abbrev row (r : Fin 128) : Fin 2048 := ⟨t.val * 128 + r.val, by have : t.val < 16 := t.isLt; omega⟩

theorem blk0 (d : Fin 8) (r : Fin 128) (k : Fin 1408) : b0 m c t (ix3 d r k) = a0 m c (ix3 d (row t r) k) := by
  blk_ext! [iblk, V, (index0 t).1.1]
theorem blk1 (r : Fin 128) (k : Fin 1408) : b1 m c t (ix3 0 r k) = a1 m c (ix3 2 (row t r) k) := by
  blk_ext! [iblk, V, (index0 t).1.2.1]
theorem blk2 (r : Fin 128) (k : Fin 1408) : b2 m c t (ix3 0 r k) = a2 m c (ix3 2 (row t r) k) := by
  blk_ext! [iblk, V, (index0 t).1.2.2.1]
theorem blk3 (r : Fin 128) (k : Fin 1408) : b3 m c t (ix3 0 r k) = a3 m c (ix3 2 (row t r) k) := by
  blk_ext! [iblk, V, (index0 t).1.2.2.2]

theorem parts_block (r : Fin 128) (l : Fin 1408) : parts (b0 m c t) r l = parts (a0 m c) (row t r) l :=
  Finset.sum_congr rfl fun d _ => blk0 m c t d r l

theorem arr4 : (dats m 0 c).arrAt 4 cfg0.N = layer 2 (parts (a0 m c)) (a4 m c) := by
  refine (dats m 0 c).arrAt_eq_of_coversWhere_of_agree 4 _ (fun β => β (0 : Fin 3) = 2) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 2 (parts (a0 m c)) (a4 m c) (row t y1) y2).symm.trans (congrArg (layer 2 (parts (a0 m c)) (a4 m c)) ?_)
    blk_ext! [(index0 t).2.1]
  · refine layer_out 2 (parts (a0 m c)) (a4 m c) _ fun h => hj ?_
    exact (Nat.div_one _).trans h
theorem arr5 : (dats m 0 c).arrAt 5 cfg0.N = layer 2 (chgs 2 (a0 m c) (a1 m c) (a2 m c) (a3 m c)) (a5 m c) := by
  refine (dats m 0 c).arrAt_eq_of_coversWhere_of_agree 5 _ (fun β => β (0 : Fin 3) = 2) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 2 (chgs 2 (a0 m c) (a1 m c) (a2 m c) (a3 m c)) (a5 m c) (row t y1) y2).symm.trans (congrArg (layer 2 (chgs 2 (a0 m c) (a1 m c) (a2 m c) (a3 m c)) (a5 m c)) ?_)
    blk_ext! [(index0 t).2.2.1]
  · refine layer_out 2 (chgs 2 (a0 m c) (a1 m c) (a2 m c) (a3 m c)) (a5 m c) _ fun h => hj ?_
    exact (Nat.div_one _).trans h
theorem arr6 : (dats m 0 c).arrAt 6 cfg0.N = layer 2 (moms 2 (a0 m c) (a2 m c)) (a6 m c) := by
  refine (dats m 0 c).arrAt_eq_of_coversWhere_of_agree 6 _ (fun β => β (0 : Fin 3) = 2) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 2 (moms 2 (a0 m c) (a2 m c)) (a6 m c) (row t y1) y2).symm.trans (congrArg (layer 2 (moms 2 (a0 m c) (a2 m c)) (a6 m c)) ?_)
    blk_ext! [(index0 t).2.2.2.1]
  · refine layer_out 2 (moms 2 (a0 m c) (a2 m c)) (a6 m c) _ fun h => hj ?_
    exact (Nat.div_one _).trans h
theorem arr7 : (dats m 0 c).arrAt 7 cfg0.N = layer 2 (sqrs 2 (a0 m c) (a3 m c)) (a7 m c) := by
  refine (dats m 0 c).arrAt_eq_of_coversWhere_of_agree 7 _ (fun β => β (0 : Fin 3) = 2) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 2 (sqrs 2 (a0 m c) (a3 m c)) (a7 m c) (row t y1) y2).symm.trans (congrArg (layer 2 (sqrs 2 (a0 m c) (a3 m c)) (a7 m c)) ?_)
    blk_ext! [(index0 t).2.2.2.2]
  · refine layer_out 2 (sqrs 2 (a0 m c) (a3 m c)) (a7 m c) _ fun h => hj ?_
    exact (Nat.div_one _).trans h

section Reference
open Cert.ReferenceUpdateUp2Ideal.Read
variable (x0 : Vec Ideal S8x2048x1408 .bf16) (x1 x2 x3 o : Vec Ideal S4x2048x1408 .f32)

theorem sum_ref (r : Fin 2048) (l : Fin 1408) : val_main_v1 (F := Ideal) x0 (ix2 r l) = parts x0 r l := by
  pointwise [val_main_v1, val_main_v0, val_main_cst]
  rfl
theorem mom_ref (r : Fin 2048) (l : Fin 1408) : val_main_v12 (F := Ideal) x0 x2 (ix2 r l) = moms 2 x0 x2 r l := by
  pointwise [val_main_v12, val_main_v11, val_main_v10, val_main_v9, val_main_v8, val_main_v5, val_main_v4, val_main_cst_0, val_main_cst_1]
  rw [sum_ref]
  rfl
theorem sqr_ref (r : Fin 2048) (l : Fin 1408) : val_main_v18 (F := Ideal) x0 x3 (ix2 r l) = sqrs 2 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 2048) (l : Fin 1408) : val_main_v31 (F := Ideal) x0 x1 x2 x3 (ix2 r l) = chgs 2 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 2 (parts x0) o := by
  funext y
  idx_vars y
  pointwise [val_main_v35, val_main_v34, val_main_v33, val_main_v32]
  match y0 with
  | 0 => rfl
  | 1 => rfl
  | 2 => exact sum_ref x0 y1 y2
  | 3 => rfl
theorem ref5 : val_main_v39 (F := Ideal) x0 x1 x2 x3 o = layer 2 (chgs 2 x0 x1 x2 x3) o := by
  funext y
  idx_vars y
  pointwise [val_main_v39, val_main_v38, val_main_v37, val_main_v36]
  match y0 with
  | 0 => rfl
  | 1 => rfl
  | 2 => exact chg_ref x0 x1 x2 x3 y1 y2
  | 3 => rfl
theorem ref6 : val_main_v43 (F := Ideal) x0 x2 o = layer 2 (moms 2 x0 x2) o := by
  funext y
  idx_vars y
  pointwise [val_main_v43, val_main_v42, val_main_v41, val_main_v40]
  match y0 with
  | 0 => rfl
  | 1 => rfl
  | 2 => exact mom_ref x0 x2 y1 y2
  | 3 => rfl
theorem ref7 : val_main_v47 (F := Ideal) x0 x3 o = layer 2 (sqrs 2 x0 x3) o := by
  funext y
  idx_vars y
  pointwise [val_main_v47, val_main_v46, val_main_v45, val_main_v44]
  match y0 with
  | 0 => rfl
  | 1 => rfl
  | 2 => exact sqr_ref x0 x3 y1 y2
  | 3 => rfl

end Reference

/-! ## The statements -/

theorem frame_kernel : Cert.quiescent_KernelUpdateUp2 (hKernelUpdateUp2 := Cert.KernelUpdateUp2.Gen.facts) :=
  fun m ρ _ => Cert.KernelUpdateUp2.Gen.frame m ρ
theorem frame_kernel_ideal : Cert.quiescent_KernelUpdateUp2Ideal (hKernelUpdateUp2Ideal := Cert.KernelUpdateUp2Ideal.Gen.facts) :=
  fun m ρ _ => Cert.KernelUpdateUp2Ideal.Gen.frame m ρ
theorem frame_reference : Cert.quiescent_ReferenceUpdateUp2Ideal (hReferenceUpdateUp2Ideal := Cert.ReferenceUpdateUp2Ideal.Gen.facts) :=
  fun m ρ _ => (θ_run _ _ _).mono (fun r h => ⟨fun c => (h c).2.2.2.2, sem_eq_zero_of_no_sems rfl r.2⟩)
    (Cert.ReferenceUpdateUp2Ideal.Value.run m ρ)

theorem equal : Cert.algebraic_KernelUpdateUp2Ideal_ReferenceUpdateUp2Ideal (hKernelUpdateUp2Ideal := Cert.KernelUpdateUp2Ideal.Gen.facts)
    (hReferenceUpdateUp2Ideal := Cert.ReferenceUpdateUp2Ideal.Gen.facts) := by
  intro m g m' g' _ hagree
  refine ⟨fun c => layer 2 (parts (a0 m c)) (a4 m c), fun c => layer 2 (chgs 2 (a0 m c) (a1 m c) (a2 m c) (a3 m c)) (a5 m c),
    fun c => layer 2 (moms 2 (a0 m c) (a2 m c)) (a6 m c), fun c => layer 2 (sqrs 2 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateUp2Ideal.Value.run_blocks m g)
  · refine (θ_run _ _ _).mono (fun r h c => ?_) (Cert.ReferenceUpdateUp2Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateUp2Ideal.Read.val_main_v35_eq, h0, h4]
      exact ref4 _ _
    · rw [Cert.ReferenceUpdateUp2Ideal.Read.val_main_v39_eq, h0, h1, h2, h3, h5]
      exact ref5 _ _ _ _ _
    · rw [Cert.ReferenceUpdateUp2Ideal.Read.val_main_v43_eq, h0, h2, h6]
      exact ref6 _ _ _
    · rw [Cert.ReferenceUpdateUp2Ideal.Read.val_main_v47_eq, h0, h3, h7]
      exact ref7 _ _ _

end Cert.UpdateUp2

end
-- ==== Proof.UpdateUp3.lean ====
module

public import proofs.«01_k».proof.Defs
public import proofs.«01_k».proof.Proof.Ref
public import proofs.«01_k».proof.Proof.Update
public import proofs.«01_k».proof.Proof.Gen.KernelUpdateUp3.Frame
public import proofs.«01_k».proof.Proof.Gen.KernelUpdateUp3Ideal.Frame
public import proofs.«01_k».proof.Proof.Gen.KernelUpdateUp3Ideal.Value
public import proofs.«01_k».proof.Proof.Gen.ReferenceUpdateUp3Ideal.Read
public import proofs.«01_k».proof.Proof.Gen.ReferenceUpdateUp3Ideal.Run
public import Idealize.ShloMosaic.Lib.Pipeline.ValueKit
public import Idealize.ShloMosaic.Lib.Quiescent
public import Idealize.ShloMosaic.Lib.Tactic

/-!
The optimiser's step on layer 3 of a stacked weight, counted from 0, with the sum over the devices' parts of its gradient.
-/

@[expose] public section

set_option maxRecDepth 16384

noncomputable section

namespace Cert.UpdateUp3

open Idealize.ShloMosaic Idealize.ShloMosaic.TcCoe Idealize.ShloMosaic.Tactic Idealize.SL.Sem
open Cert.Update Cert.KernelUpdateUp3Ideal Cert.KernelUpdateUp3Ideal.Gen

variable (m : (ℓ : Loc nD τ sig) → Buf (Elt Ideal) ℓ) (c : Dev nD) (t : Fin cfg0.N)

/-- The arguments, and the blocks of them a point reads. -/
abbrev a0 : Vec Ideal S8x2048x1408 .bf16 := m ((c : Thread nD τ).loc main_arg0)
abbrev a1 : Vec Ideal S4x2048x1408 .f32 := m ((c : Thread nD τ).loc main_arg1)
abbrev a2 : Vec Ideal S4x2048x1408 .f32 := m ((c : Thread nD τ).loc main_arg2)
abbrev a3 : Vec Ideal S4x2048x1408 .f32 := m ((c : Thread nD τ).loc main_arg3)
abbrev a4 : Vec Ideal S4x2048x1408 .f32 := m ((c : Thread nD τ).loc main_arg4)
abbrev a5 : Vec Ideal S4x2048x1408 .f32 := m ((c : Thread nD τ).loc main_arg5)
abbrev a6 : Vec Ideal S4x2048x1408 .f32 := m ((c : Thread nD τ).loc main_arg6)
abbrev a7 : Vec Ideal S4x2048x1408 .f32 := m ((c : Thread nD τ).loc main_arg7)
abbrev b0 : Vec Ideal S8x128x1408 .bf16 := iblk m c 0 t
abbrev b1 : Vec Ideal S1x128x1408 .f32 := iblk m c 1 t
abbrev b2 : Vec Ideal S1x128x1408 .f32 := iblk m c 2 t
abbrev b3 : Vec Ideal S1x128x1408 .f32 := iblk m c 3 t

/-- What a point leaves. -/
theorem sum_at (r : Fin 128) (l : Fin 1408) : k0_pay3 (View.ld (b0 m c t) (Rect.unit ![0, 0, 0] ![1, 128, 1408] inb_S8x128x1408_S1x128x1408_0_0_0))
    (View.ld (b0 m c t) (Rect.unit ![1, 0, 0] ![1, 128, 1408] inb_S8x128x1408_S1x128x1408_1_0_0))
    (View.ld (b0 m c t) (Rect.unit ![2, 0, 0] ![1, 128, 1408] inb_S8x128x1408_S1x128x1408_2_0_0))
    (View.ld (b0 m c t) (Rect.unit ![3, 0, 0] ![1, 128, 1408] inb_S8x128x1408_S1x128x1408_3_0_0))
    (View.ld (b0 m c t) (Rect.unit ![4, 0, 0] ![1, 128, 1408] inb_S8x128x1408_S1x128x1408_4_0_0))
    (View.ld (b0 m c t) (Rect.unit ![5, 0, 0] ![1, 128, 1408] inb_S8x128x1408_S1x128x1408_5_0_0))
    (View.ld (b0 m c t) (Rect.unit ![6, 0, 0] ![1, 128, 1408] inb_S8x128x1408_S1x128x1408_6_0_0))
    (View.ld (b0 m c t) (Rect.unit ![7, 0, 0] ![1, 128, 1408] inb_S8x128x1408_S1x128x1408_7_0_0)) (ix2 r l) = parts (b0 m c t) r l := by
  pointwise [k0_pay3]
  rw [parts, Fin.sum_univ_eight]
theorem g_at (r : Fin 128) (l : Fin 1408) : (outsAt0 m c t).1 (ix3 0 r l) = parts (b0 m c t) r l := by
  unfold outsAt0
  frame_out
  refine Eq.trans ?_ (sum_at m c t r l)
  pointwise [k0_pay6]
theorem mom_pay (g : Vec Ideal S128x1408 .f32) (x : Vec Ideal S1x128x1408 .f32) (r : Fin 128) (l : Fin 1408) :
    k0_pay4 g x (ix2 r l) = mom (g (ix2 r l)) (x (ix3 0 r l)) := by
  pointwise [k0_pay4]
  rfl
theorem sqr_pay (g : Vec Ideal S128x1408 .f32) (x : Vec Ideal S1x128x1408 .f32) (r : Fin 128) (l : Fin 1408) :
    k0_pay5 g x (ix2 r l) = sqr (g (ix2 r l)) (x (ix3 0 r l)) := by
  pointwise [k0_pay5]
  rfl
theorem d_at (r : Fin 128) (l : Fin 1408) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 128) (l : Fin 1408) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 128) (l : Fin 1408) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![3, t.val, 0] ∧ win0_2.index t = ![3, t.val, 0]
    ∧ win0_3.index t = ![3, t.val, 0]) ∧ win0_4.index t = ![3, t.val, 0] ∧ win0_5.index t = ![3, t.val, 0] ∧ win0_6.index t = ![3, t.val, 0]
    ∧ win0_7.index t = ![3, t.val, 0] := by decide +kernel

abbrev row (r : Fin 128) : Fin 2048 := ⟨t.val * 128 + r.val, by have : t.val < 16 := t.isLt; omega⟩

theorem blk0 (d : Fin 8) (r : Fin 128) (k : Fin 1408) : b0 m c t (ix3 d r k) = a0 m c (ix3 d (row t r) k) := by
  blk_ext! [iblk, V, (index0 t).1.1]
theorem blk1 (r : Fin 128) (k : Fin 1408) : b1 m c t (ix3 0 r k) = a1 m c (ix3 3 (row t r) k) := by
  blk_ext! [iblk, V, (index0 t).1.2.1]
theorem blk2 (r : Fin 128) (k : Fin 1408) : b2 m c t (ix3 0 r k) = a2 m c (ix3 3 (row t r) k) := by
  blk_ext! [iblk, V, (index0 t).1.2.2.1]
theorem blk3 (r : Fin 128) (k : Fin 1408) : b3 m c t (ix3 0 r k) = a3 m c (ix3 3 (row t r) k) := by
  blk_ext! [iblk, V, (index0 t).1.2.2.2]

theorem parts_block (r : Fin 128) (l : Fin 1408) : parts (b0 m c t) r l = parts (a0 m c) (row t r) l :=
  Finset.sum_congr rfl fun d _ => blk0 m c t d r l

theorem arr4 : (dats m 0 c).arrAt 4 cfg0.N = layer 3 (parts (a0 m c)) (a4 m c) := by
  refine (dats m 0 c).arrAt_eq_of_coversWhere_of_agree 4 _ (fun β => β (0 : Fin 3) = 3) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 3 (parts (a0 m c)) (a4 m c) (row t y1) y2).symm.trans (congrArg (layer 3 (parts (a0 m c)) (a4 m c)) ?_)
    blk_ext! [(index0 t).2.1]
  · refine layer_out 3 (parts (a0 m c)) (a4 m c) _ fun h => hj ?_
    exact (Nat.div_one _).trans h
theorem arr5 : (dats m 0 c).arrAt 5 cfg0.N = layer 3 (chgs 3 (a0 m c) (a1 m c) (a2 m c) (a3 m c)) (a5 m c) := by
  refine (dats m 0 c).arrAt_eq_of_coversWhere_of_agree 5 _ (fun β => β (0 : Fin 3) = 3) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 3 (chgs 3 (a0 m c) (a1 m c) (a2 m c) (a3 m c)) (a5 m c) (row t y1) y2).symm.trans (congrArg (layer 3 (chgs 3 (a0 m c) (a1 m c) (a2 m c) (a3 m c)) (a5 m c)) ?_)
    blk_ext! [(index0 t).2.2.1]
  · refine layer_out 3 (chgs 3 (a0 m c) (a1 m c) (a2 m c) (a3 m c)) (a5 m c) _ fun h => hj ?_
    exact (Nat.div_one _).trans h
theorem arr6 : (dats m 0 c).arrAt 6 cfg0.N = layer 3 (moms 3 (a0 m c) (a2 m c)) (a6 m c) := by
  refine (dats m 0 c).arrAt_eq_of_coversWhere_of_agree 6 _ (fun β => β (0 : Fin 3) = 3) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 3 (moms 3 (a0 m c) (a2 m c)) (a6 m c) (row t y1) y2).symm.trans (congrArg (layer 3 (moms 3 (a0 m c) (a2 m c)) (a6 m c)) ?_)
    blk_ext! [(index0 t).2.2.2.1]
  · refine layer_out 3 (moms 3 (a0 m c) (a2 m c)) (a6 m c) _ fun h => hj ?_
    exact (Nat.div_one _).trans h
theorem arr7 : (dats m 0 c).arrAt 7 cfg0.N = layer 3 (sqrs 3 (a0 m c) (a3 m c)) (a7 m c) := by
  refine (dats m 0 c).arrAt_eq_of_coversWhere_of_agree 7 _ (fun β => β (0 : Fin 3) = 3) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 3 (sqrs 3 (a0 m c) (a3 m c)) (a7 m c) (row t y1) y2).symm.trans (congrArg (layer 3 (sqrs 3 (a0 m c) (a3 m c)) (a7 m c)) ?_)
    blk_ext! [(index0 t).2.2.2.2]
  · refine layer_out 3 (sqrs 3 (a0 m c) (a3 m c)) (a7 m c) _ fun h => hj ?_
    exact (Nat.div_one _).trans h

section Reference
open Cert.ReferenceUpdateUp3Ideal.Read
variable (x0 : Vec Ideal S8x2048x1408 .bf16) (x1 x2 x3 o : Vec Ideal S4x2048x1408 .f32)

theorem sum_ref (r : Fin 2048) (l : Fin 1408) : val_main_v1 (F := Ideal) x0 (ix2 r l) = parts x0 r l := by
  pointwise [val_main_v1, val_main_v0, val_main_cst]
  rfl
theorem mom_ref (r : Fin 2048) (l : Fin 1408) : val_main_v12 (F := Ideal) x0 x2 (ix2 r l) = moms 3 x0 x2 r l := by
  pointwise [val_main_v12, val_main_v11, val_main_v10, val_main_v9, val_main_v8, val_main_v5, val_main_v4, val_main_cst_0, val_main_cst_1]
  rw [sum_ref]
  rfl
theorem sqr_ref (r : Fin 2048) (l : Fin 1408) : val_main_v18 (F := Ideal) x0 x3 (ix2 r l) = sqrs 3 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 2048) (l : Fin 1408) : val_main_v31 (F := Ideal) x0 x1 x2 x3 (ix2 r l) = chgs 3 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 3 (parts x0) o := by
  funext y
  idx_vars y
  pointwise [val_main_v35, val_main_v33, val_main_v32]
  match y0 with
  | 0 => rfl
  | 1 => rfl
  | 2 => rfl
  | 3 => exact sum_ref x0 y1 y2
theorem ref5 : val_main_v39 (F := Ideal) x0 x1 x2 x3 o = layer 3 (chgs 3 x0 x1 x2 x3) o := by
  funext y
  idx_vars y
  pointwise [val_main_v39, val_main_v37, val_main_v36]
  match y0 with
  | 0 => rfl
  | 1 => rfl
  | 2 => rfl
  | 3 => exact chg_ref x0 x1 x2 x3 y1 y2
theorem ref6 : val_main_v43 (F := Ideal) x0 x2 o = layer 3 (moms 3 x0 x2) o := by
  funext y
  idx_vars y
  pointwise [val_main_v43, val_main_v41, val_main_v40]
  match y0 with
  | 0 => rfl
  | 1 => rfl
  | 2 => rfl
  | 3 => exact mom_ref x0 x2 y1 y2
theorem ref7 : val_main_v47 (F := Ideal) x0 x3 o = layer 3 (sqrs 3 x0 x3) o := by
  funext y
  idx_vars y
  pointwise [val_main_v47, val_main_v45, val_main_v44]
  match y0 with
  | 0 => rfl
  | 1 => rfl
  | 2 => rfl
  | 3 => exact sqr_ref x0 x3 y1 y2

end Reference

/-! ## The statements -/

theorem frame_kernel : Cert.quiescent_KernelUpdateUp3 (hKernelUpdateUp3 := Cert.KernelUpdateUp3.Gen.facts) :=
  fun m ρ _ => Cert.KernelUpdateUp3.Gen.frame m ρ
theorem frame_kernel_ideal : Cert.quiescent_KernelUpdateUp3Ideal (hKernelUpdateUp3Ideal := Cert.KernelUpdateUp3Ideal.Gen.facts) :=
  fun m ρ _ => Cert.KernelUpdateUp3Ideal.Gen.frame m ρ
theorem frame_reference : Cert.quiescent_ReferenceUpdateUp3Ideal (hReferenceUpdateUp3Ideal := Cert.ReferenceUpdateUp3Ideal.Gen.facts) :=
  fun m ρ _ => (θ_run _ _ _).mono (fun r h => ⟨fun c => (h c).2.2.2.2, sem_eq_zero_of_no_sems rfl r.2⟩)
    (Cert.ReferenceUpdateUp3Ideal.Value.run m ρ)

theorem equal : Cert.algebraic_KernelUpdateUp3Ideal_ReferenceUpdateUp3Ideal (hKernelUpdateUp3Ideal := Cert.KernelUpdateUp3Ideal.Gen.facts)
    (hReferenceUpdateUp3Ideal := Cert.ReferenceUpdateUp3Ideal.Gen.facts) := by
  intro m g m' g' _ hagree
  refine ⟨fun c => layer 3 (parts (a0 m c)) (a4 m c), fun c => layer 3 (chgs 3 (a0 m c) (a1 m c) (a2 m c) (a3 m c)) (a5 m c),
    fun c => layer 3 (moms 3 (a0 m c) (a2 m c)) (a6 m c), fun c => layer 3 (sqrs 3 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateUp3Ideal.Value.run_blocks m g)
  · refine (θ_run _ _ _).mono (fun r h c => ?_) (Cert.ReferenceUpdateUp3Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateUp3Ideal.Read.val_main_v35_eq, h0, h4]
      exact ref4 _ _
    · rw [Cert.ReferenceUpdateUp3Ideal.Read.val_main_v39_eq, h0, h1, h2, h3, h5]
      exact ref5 _ _ _ _ _
    · rw [Cert.ReferenceUpdateUp3Ideal.Read.val_main_v43_eq, h0, h2, h6]
      exact ref6 _ _ _
    · rw [Cert.ReferenceUpdateUp3Ideal.Read.val_main_v47_eq, h0, h3, h7]
      exact ref7 _ _ _

end Cert.UpdateUp3

end
-- ==== Proof.UpdateDown.lean ====
module

public import proofs.«01_k».proof.Defs
public import proofs.«01_k».proof.Proof.Ref
public import proofs.«01_k».proof.Proof.Gen.KernelUpdateDown.Frame
public import proofs.«01_k».proof.Proof.Gen.KernelUpdateDownIdeal.Frame
public import proofs.«01_k».proof.Proof.Gen.KernelUpdateDownIdeal.Value
public import proofs.«01_k».proof.Proof.Gen.ReferenceUpdateDownIdeal.Read
public import proofs.«01_k».proof.Proof.Gen.ReferenceUpdateDownIdeal.Run
public import Idealize.ShloMosaic.Lib.Pipeline.ValueKit
public import Idealize.ShloMosaic.Lib.Quiescent
public import Idealize.ShloMosaic.Lib.Tactic

/-!
The optimiser's step on one layer of a stacked weight, with the sum over the devices' parts of its gradient.
-/

@[expose] public section

set_option maxRecDepth 16384

noncomputable section

namespace Cert.UpdateDown

open Idealize.ShloMosaic Idealize.ShloMosaic.TcCoe Idealize.ShloMosaic.Tactic Idealize.SL.Sem
open Cert.KernelUpdateDownIdeal Cert.KernelUpdateDownIdeal.Gen

variable (m : (ℓ : Loc nD τ sig) → Buf (Elt Ideal) ℓ) (c : Dev nD) (t : Fin cfg0.N)

/-- The arguments, and the blocks of them a point reads. -/
abbrev a0 : Vec Ideal S8x704x2048 .bf16 := m ((c : Thread nD τ).loc main_arg0)
abbrev a1 : Vec Ideal S4x704x2048 .f32 := m ((c : Thread nD τ).loc main_arg1)
abbrev a2 : Vec Ideal S4x704x2048 .f32 := m ((c : Thread nD τ).loc main_arg2)
abbrev a3 : Vec Ideal S4x704x2048 .f32 := m ((c : Thread nD τ).loc main_arg3)
abbrev a4 : Vec Ideal S4x704x2048 .f32 := m ((c : Thread nD τ).loc main_arg4)
abbrev a5 : Vec Ideal S4x704x2048 .f32 := m ((c : Thread nD τ).loc main_arg5)
abbrev a6 : Vec Ideal S4x704x2048 .f32 := m ((c : Thread nD τ).loc main_arg6)
abbrev a7 : Vec Ideal S4x704x2048 .f32 := m ((c : Thread nD τ).loc main_arg7)
abbrev b0 : Vec Ideal S8x64x2048 .bf16 := iblk m c 0 t
abbrev b1 : Vec Ideal S1x64x2048 .f32 := iblk m c 1 t
abbrev b2 : Vec Ideal S1x64x2048 .f32 := iblk m c 2 t
abbrev b3 : Vec Ideal S1x64x2048 .f32 := iblk m c 3 t

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The parts' sum at a place. -/
def parts {R : ℕ} (x : (⟨3, ![8, R, 2048]⟩ : Shape).Idx → EReal) (r : Fin R) (l : Fin 2048) : EReal := ∑ d : Fin 8, x (ix3 d r l)

/-- What a point leaves. -/
theorem sum_at (r : Fin 64) (l : Fin 2048) : k0_pay3 (View.ld (b0 m c t) (Rect.unit ![0, 0, 0] ![1, 64, 2048] inb_S8x64x2048_S1x64x2048_0_0_0))
    (View.ld (b0 m c t) (Rect.unit ![1, 0, 0] ![1, 64, 2048] inb_S8x64x2048_S1x64x2048_1_0_0))
    (View.ld (b0 m c t) (Rect.unit ![2, 0, 0] ![1, 64, 2048] inb_S8x64x2048_S1x64x2048_2_0_0))
    (View.ld (b0 m c t) (Rect.unit ![3, 0, 0] ![1, 64, 2048] inb_S8x64x2048_S1x64x2048_3_0_0))
    (View.ld (b0 m c t) (Rect.unit ![4, 0, 0] ![1, 64, 2048] inb_S8x64x2048_S1x64x2048_4_0_0))
    (View.ld (b0 m c t) (Rect.unit ![5, 0, 0] ![1, 64, 2048] inb_S8x64x2048_S1x64x2048_5_0_0))
    (View.ld (b0 m c t) (Rect.unit ![6, 0, 0] ![1, 64, 2048] inb_S8x64x2048_S1x64x2048_6_0_0))
    (View.ld (b0 m c t) (Rect.unit ![7, 0, 0] ![1, 64, 2048] inb_S8x64x2048_S1x64x2048_7_0_0)) (ix2 r l) = parts (b0 m c t) r l := by
  pointwise [k0_pay3]
  rw [parts, Fin.sum_univ_eight]
theorem g_at (r : Fin 64) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S64x2048 .f32) (x : Vec Ideal S1x64x2048 .f32) (r : Fin 64) (l : Fin 2048) :
    k0_pay4 g x (ix2 r l) = mom (g (ix2 r l)) (x (ix3 0 r l)) := by
  pointwise [k0_pay4]
  rfl
theorem sqr_pay (g : Vec Ideal S64x2048 .f32) (x : Vec Ideal S1x64x2048 .f32) (r : Fin 64) (l : Fin 2048) :
    k0_pay5 g x (ix2 r l) = sqr (g (ix2 r l)) (x (ix3 0 r l)) := by
  pointwise [k0_pay5]
  rfl
theorem d_at (r : Fin 64) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 64) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 64) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![0, t.val, 0] ∧ win0_2.index t = ![0, t.val, 0]
    ∧ win0_3.index t = ![0, t.val, 0]) ∧ win0_4.index t = ![0, t.val, 0] ∧ win0_5.index t = ![0, t.val, 0] ∧ win0_6.index t = ![0, t.val, 0]
    ∧ win0_7.index t = ![0, t.val, 0] := by decide +kernel

abbrev row (r : Fin 64) : Fin 704 := ⟨t.val * 64 + r.val, by have : t.val < 11 := t.isLt; omega⟩

theorem blk0 (d : Fin 8) (r : Fin 64) (k : Fin 2048) : b0 m c t (ix3 d r k) = a0 m c (ix3 d (row t r) k) := by
  blk_ext! [iblk, V, (index0 t).1.1]
theorem blk1 (r : Fin 64) (k : Fin 2048) : b1 m c t (ix3 0 r k) = a1 m c (ix3 0 (row t r) k) := by
  blk_ext! [iblk, V, (index0 t).1.2.1]
theorem blk2 (r : Fin 64) (k : Fin 2048) : b2 m c t (ix3 0 r k) = a2 m c (ix3 0 (row t r) k) := by
  blk_ext! [iblk, V, (index0 t).1.2.2.1]
theorem blk3 (r : Fin 64) (k : Fin 2048) : b3 m c t (ix3 0 r k) = a3 m c (ix3 0 (row t r) k) := by
  blk_ext! [iblk, V, (index0 t).1.2.2.2]

/-- An array with its first layer replaced. -/
def layer (f : Fin 704 → Fin 2048 → EReal) (o : Vec Ideal S4x704x2048 .f32) : Vec Ideal S4x704x2048 .f32 :=
  fun i => if (i 0).val = 0 then f (i 1) (i 2) else o i

/-- The results, of the arguments. -/
def moms (x : Vec Ideal S8x704x2048 .bf16) (y : Vec Ideal S4x704x2048 .f32) (r : Fin 704) (l : Fin 2048) : EReal := mom (parts x r l) (y (ix3 0 r l))
def sqrs (x : Vec Ideal S8x704x2048 .bf16) (z : Vec Ideal S4x704x2048 .f32) (r : Fin 704) (l : Fin 2048) : EReal := sqr (parts x r l) (z (ix3 0 r l))
def chgs (x : Vec Ideal S8x704x2048 .bf16) (w y z : Vec Ideal S4x704x2048 .f32) (r : Fin 704) (l : Fin 2048) : EReal :=
  chg (parts x r l) (w (ix3 0 r l)) (y (ix3 0 r l)) (z (ix3 0 r l))

theorem parts_block (r : Fin 64) (l : Fin 2048) : parts (b0 m c t) r l = parts (a0 m c) (row t r) l :=
  Finset.sum_congr rfl fun d _ => blk0 m c t d r l

/-- The layer's place, and the places outside it. -/
theorem layer_in (f : Fin 704 → Fin 2048 → EReal) (o : Vec Ideal S4x704x2048 .f32) (r : Fin 704) (l : Fin 2048) :
    layer f o (ix3 0 r l) = f r l := if_pos rfl
theorem layer_out (f : Fin 704 → Fin 2048 → EReal) (o : Vec Ideal S4x704x2048 .f32) (i : S4x704x2048.Idx) (h : ¬(i 0).val = 0) :
    o i = layer f o i := (if_neg h).symm

theorem arr4 : (dats m 0 c).arrAt 4 cfg0.N = layer (parts (a0 m c)) (a4 m c) := by
  refine (dats m 0 c).arrAt_eq_of_coversWhere_of_agree 4 _ (fun β => β (0 : Fin 3) = 0) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in (parts (a0 m c)) (a4 m c) (row t y1) y2).symm.trans (congrArg (layer (parts (a0 m c)) (a4 m c)) ?_)
    blk_ext! [(index0 t).2.1]
  · refine layer_out (parts (a0 m c)) (a4 m c) _ fun h => hj ?_
    exact (Nat.div_one _).trans h
theorem arr5 : (dats m 0 c).arrAt 5 cfg0.N = layer (chgs (a0 m c) (a1 m c) (a2 m c) (a3 m c)) (a5 m c) := by
  refine (dats m 0 c).arrAt_eq_of_coversWhere_of_agree 5 _ (fun β => β (0 : Fin 3) = 0) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in (chgs (a0 m c) (a1 m c) (a2 m c) (a3 m c)) (a5 m c) (row t y1) y2).symm.trans (congrArg (layer (chgs (a0 m c) (a1 m c) (a2 m c) (a3 m c)) (a5 m c)) ?_)
    blk_ext! [(index0 t).2.2.1]
  · refine layer_out (chgs (a0 m c) (a1 m c) (a2 m c) (a3 m c)) (a5 m c) _ fun h => hj ?_
    exact (Nat.div_one _).trans h
theorem arr6 : (dats m 0 c).arrAt 6 cfg0.N = layer (moms (a0 m c) (a2 m c)) (a6 m c) := by
  refine (dats m 0 c).arrAt_eq_of_coversWhere_of_agree 6 _ (fun β => β (0 : Fin 3) = 0) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in (moms (a0 m c) (a2 m c)) (a6 m c) (row t y1) y2).symm.trans (congrArg (layer (moms (a0 m c) (a2 m c)) (a6 m c)) ?_)
    blk_ext! [(index0 t).2.2.2.1]
  · refine layer_out (moms (a0 m c) (a2 m c)) (a6 m c) _ fun h => hj ?_
    exact (Nat.div_one _).trans h
theorem arr7 : (dats m 0 c).arrAt 7 cfg0.N = layer (sqrs (a0 m c) (a3 m c)) (a7 m c) := by
  refine (dats m 0 c).arrAt_eq_of_coversWhere_of_agree 7 _ (fun β => β (0 : Fin 3) = 0) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in (sqrs (a0 m c) (a3 m c)) (a7 m c) (row t y1) y2).symm.trans (congrArg (layer (sqrs (a0 m c) (a3 m c)) (a7 m c)) ?_)
    blk_ext! [(index0 t).2.2.2.2]
  · refine layer_out (sqrs (a0 m c) (a3 m c)) (a7 m c) _ fun h => hj ?_
    exact (Nat.div_one _).trans h

section Reference
open Cert.ReferenceUpdateDownIdeal.Read
variable (x0 : Vec Ideal S8x704x2048 .bf16) (x1 x2 x3 o : Vec Ideal S4x704x2048 .f32)

theorem sum_ref (r : Fin 704) (l : Fin 2048) : val_main_v1 (F := Ideal) x0 (ix2 r l) = parts x0 r l := by
  pointwise [val_main_v1, val_main_v0, val_main_cst]
  rfl
theorem mom_ref (r : Fin 704) (l : Fin 2048) : val_main_v12 (F := Ideal) x0 x2 (ix2 r l) = moms x0 x2 r l := by
  pointwise [val_main_v12, val_main_v11, val_main_v10, val_main_v9, val_main_v8, val_main_v5, val_main_v4, val_main_cst_0, val_main_cst_1]
  rw [sum_ref]
  rfl
theorem sqr_ref (r : Fin 704) (l : Fin 2048) : val_main_v18 (F := Ideal) x0 x3 (ix2 r l) = sqrs x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 704) (l : Fin 2048) : val_main_v31 (F := Ideal) x0 x1 x2 x3 (ix2 r l) = chgs x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

/-- The layers put together again: the new one, then the old ones. -/
theorem joined (f : Fin 704 → Fin 2048 → EReal) (o : Vec Ideal S4x704x2048 .f32) (y0 : Fin 4) (y1 : Fin 704) (y2 : Fin 2048) (a : EReal)
    (ha : a = f y1 y2) (q : ¬y0.val < 1 → 1 + (y0.val - 1) < 4) :
    (if h : y0.val < 1 then a else o (ix3 ⟨1 + (y0.val - 1), q h⟩ y1 y2)) = layer f o (ix3 y0 y1 y2) := by
  by_cases h : y0.val < 1
  · obtain rfl : y0 = 0 := Fin.ext (by omega)
    rw [dif_pos h, layer_in, ha]
  · rw [dif_neg h]
    refine Eq.trans (congrArg (fun k => o (ix3 k y1 y2)) (Fin.ext ?_)) (layer_out f o (ix3 y0 y1 y2) fun e => h ?_)
    · show 1 + (y0.val - 1) = y0.val
      omega
    · have : y0.val = 0 := e
      omega

theorem ref4 : val_main_v34 (F := Ideal) x0 o = layer (parts x0) o := by
  funext y
  idx_vars y
  pointwise [val_main_v34, val_main_v33, val_main_v32]
  exact joined (parts x0) o y0 y1 y2 _ (sum_ref x0 y1 y2) _
theorem ref5 : val_main_v37 (F := Ideal) x0 x1 x2 x3 o = layer (chgs x0 x1 x2 x3) o := by
  funext y
  idx_vars y
  pointwise [val_main_v37, val_main_v36, val_main_v35]
  exact joined (chgs x0 x1 x2 x3) o y0 y1 y2 _ (chg_ref x0 x1 x2 x3 y1 y2) _
theorem ref6 : val_main_v40 (F := Ideal) x0 x2 o = layer (moms x0 x2) o := by
  funext y
  idx_vars y
  pointwise [val_main_v40, val_main_v39, val_main_v38]
  exact joined (moms x0 x2) o y0 y1 y2 _ (mom_ref x0 x2 y1 y2) _
theorem ref7 : val_main_v43 (F := Ideal) x0 x3 o = layer (sqrs x0 x3) o := by
  funext y
  idx_vars y
  pointwise [val_main_v43, val_main_v42, val_main_v41]
  exact joined (sqrs x0 x3) o y0 y1 y2 _ (sqr_ref x0 x3 y1 y2) _

end Reference

/-! ## The statements -/

theorem frame_kernel : Cert.quiescent_KernelUpdateDown (hKernelUpdateDown := Cert.KernelUpdateDown.Gen.facts) :=
  fun m ρ _ => Cert.KernelUpdateDown.Gen.frame m ρ
theorem frame_kernel_ideal : Cert.quiescent_KernelUpdateDownIdeal (hKernelUpdateDownIdeal := Cert.KernelUpdateDownIdeal.Gen.facts) :=
  fun m ρ _ => Cert.KernelUpdateDownIdeal.Gen.frame m ρ
theorem frame_reference : Cert.quiescent_ReferenceUpdateDownIdeal (hReferenceUpdateDownIdeal := Cert.ReferenceUpdateDownIdeal.Gen.facts) :=
  fun m ρ _ => (θ_run _ _ _).mono (fun r h => ⟨fun c => (h c).2.2.2.2, sem_eq_zero_of_no_sems rfl r.2⟩)
    (Cert.ReferenceUpdateDownIdeal.Value.run m ρ)

theorem equal : Cert.algebraic_KernelUpdateDownIdeal_ReferenceUpdateDownIdeal (hKernelUpdateDownIdeal := Cert.KernelUpdateDownIdeal.Gen.facts)
    (hReferenceUpdateDownIdeal := Cert.ReferenceUpdateDownIdeal.Gen.facts) := by
  intro m g m' g' _ hagree
  refine ⟨fun c => layer (parts (a0 m c)) (a4 m c), fun c => layer (chgs (a0 m c) (a1 m c) (a2 m c) (a3 m c)) (a5 m c),
    fun c => layer (moms (a0 m c) (a2 m c)) (a6 m c), fun c => layer (sqrs (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateDownIdeal.Value.run_blocks m g)
  · refine (θ_run _ _ _).mono (fun r h c => ?_) (Cert.ReferenceUpdateDownIdeal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateDownIdeal.Read.val_main_v34_eq, h0, h4]
      exact ref4 _ _
    · rw [Cert.ReferenceUpdateDownIdeal.Read.val_main_v37_eq, h0, h1, h2, h3, h5]
      exact ref5 _ _ _ _ _
    · rw [Cert.ReferenceUpdateDownIdeal.Read.val_main_v40_eq, h0, h2, h6]
      exact ref6 _ _ _
    · rw [Cert.ReferenceUpdateDownIdeal.Read.val_main_v43_eq, h0, h3, h7]
      exact ref7 _ _ _

end Cert.UpdateDown

end
-- ==== Proof.UpdateDown1.lean ====
module

public import proofs.«01_k».proof.Defs
public import proofs.«01_k».proof.Proof.Ref
public import proofs.«01_k».proof.Proof.Update
public import proofs.«01_k».proof.Proof.Gen.KernelUpdateDown1.Frame
public import proofs.«01_k».proof.Proof.Gen.KernelUpdateDown1Ideal.Frame
public import proofs.«01_k».proof.Proof.Gen.KernelUpdateDown1Ideal.Value
public import proofs.«01_k».proof.Proof.Gen.ReferenceUpdateDown1Ideal.Read
public import proofs.«01_k».proof.Proof.Gen.ReferenceUpdateDown1Ideal.Run
public import Idealize.ShloMosaic.Lib.Pipeline.ValueKit
public import Idealize.ShloMosaic.Lib.Quiescent
public import Idealize.ShloMosaic.Lib.Tactic

/-!
The optimiser's step on layer 1 of a stacked weight, counted from 0, with the sum over the devices' parts of its gradient.
-/

@[expose] public section

set_option maxRecDepth 16384

noncomputable section

namespace Cert.UpdateDown1

open Idealize.ShloMosaic Idealize.ShloMosaic.TcCoe Idealize.ShloMosaic.Tactic Idealize.SL.Sem
open Cert.Update Cert.KernelUpdateDown1Ideal Cert.KernelUpdateDown1Ideal.Gen

variable (m : (ℓ : Loc nD τ sig) → Buf (Elt Ideal) ℓ) (c : Dev nD) (t : Fin cfg0.N)

/-- The arguments, and the blocks of them a point reads. -/
abbrev a0 : Vec Ideal S8x704x2048 .bf16 := m ((c : Thread nD τ).loc main_arg0)
abbrev a1 : Vec Ideal S4x704x2048 .f32 := m ((c : Thread nD τ).loc main_arg1)
abbrev a2 : Vec Ideal S4x704x2048 .f32 := m ((c : Thread nD τ).loc main_arg2)
abbrev a3 : Vec Ideal S4x704x2048 .f32 := m ((c : Thread nD τ).loc main_arg3)
abbrev a4 : Vec Ideal S4x704x2048 .f32 := m ((c : Thread nD τ).loc main_arg4)
abbrev a5 : Vec Ideal S4x704x2048 .f32 := m ((c : Thread nD τ).loc main_arg5)
abbrev a6 : Vec Ideal S4x704x2048 .f32 := m ((c : Thread nD τ).loc main_arg6)
abbrev a7 : Vec Ideal S4x704x2048 .f32 := m ((c : Thread nD τ).loc main_arg7)
abbrev b0 : Vec Ideal S8x64x2048 .bf16 := iblk m c 0 t
abbrev b1 : Vec Ideal S1x64x2048 .f32 := iblk m c 1 t
abbrev b2 : Vec Ideal S1x64x2048 .f32 := iblk m c 2 t
abbrev b3 : Vec Ideal S1x64x2048 .f32 := iblk m c 3 t

/-- What a point leaves. -/
theorem sum_at (r : Fin 64) (l : Fin 2048) : k0_pay3 (View.ld (b0 m c t) (Rect.unit ![0, 0, 0] ![1, 64, 2048] inb_S8x64x2048_S1x64x2048_0_0_0))
    (View.ld (b0 m c t) (Rect.unit ![1, 0, 0] ![1, 64, 2048] inb_S8x64x2048_S1x64x2048_1_0_0))
    (View.ld (b0 m c t) (Rect.unit ![2, 0, 0] ![1, 64, 2048] inb_S8x64x2048_S1x64x2048_2_0_0))
    (View.ld (b0 m c t) (Rect.unit ![3, 0, 0] ![1, 64, 2048] inb_S8x64x2048_S1x64x2048_3_0_0))
    (View.ld (b0 m c t) (Rect.unit ![4, 0, 0] ![1, 64, 2048] inb_S8x64x2048_S1x64x2048_4_0_0))
    (View.ld (b0 m c t) (Rect.unit ![5, 0, 0] ![1, 64, 2048] inb_S8x64x2048_S1x64x2048_5_0_0))
    (View.ld (b0 m c t) (Rect.unit ![6, 0, 0] ![1, 64, 2048] inb_S8x64x2048_S1x64x2048_6_0_0))
    (View.ld (b0 m c t) (Rect.unit ![7, 0, 0] ![1, 64, 2048] inb_S8x64x2048_S1x64x2048_7_0_0)) (ix2 r l) = parts (b0 m c t) r l := by
  pointwise [k0_pay3]
  rw [parts, Fin.sum_univ_eight]
theorem g_at (r : Fin 64) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S64x2048 .f32) (x : Vec Ideal S1x64x2048 .f32) (r : Fin 64) (l : Fin 2048) :
    k0_pay4 g x (ix2 r l) = mom (g (ix2 r l)) (x (ix3 0 r l)) := by
  pointwise [k0_pay4]
  rfl
theorem sqr_pay (g : Vec Ideal S64x2048 .f32) (x : Vec Ideal S1x64x2048 .f32) (r : Fin 64) (l : Fin 2048) :
    k0_pay5 g x (ix2 r l) = sqr (g (ix2 r l)) (x (ix3 0 r l)) := by
  pointwise [k0_pay5]
  rfl
theorem d_at (r : Fin 64) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 64) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 64) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![1, t.val, 0] ∧ win0_2.index t = ![1, t.val, 0]
    ∧ win0_3.index t = ![1, t.val, 0]) ∧ win0_4.index t = ![1, t.val, 0] ∧ win0_5.index t = ![1, t.val, 0] ∧ win0_6.index t = ![1, t.val, 0]
    ∧ win0_7.index t = ![1, t.val, 0] := by decide +kernel

abbrev row (r : Fin 64) : Fin 704 := ⟨t.val * 64 + r.val, by have : t.val < 11 := t.isLt; omega⟩

theorem blk0 (d : Fin 8) (r : Fin 64) (k : Fin 2048) : b0 m c t (ix3 d r k) = a0 m c (ix3 d (row t r) k) := by
  blk_ext! [iblk, V, (index0 t).1.1]
theorem blk1 (r : Fin 64) (k : Fin 2048) : b1 m c t (ix3 0 r k) = a1 m c (ix3 1 (row t r) k) := by
  blk_ext! [iblk, V, (index0 t).1.2.1]
theorem blk2 (r : Fin 64) (k : Fin 2048) : b2 m c t (ix3 0 r k) = a2 m c (ix3 1 (row t r) k) := by
  blk_ext! [iblk, V, (index0 t).1.2.2.1]
theorem blk3 (r : Fin 64) (k : Fin 2048) : b3 m c t (ix3 0 r k) = a3 m c (ix3 1 (row t r) k) := by
  blk_ext! [iblk, V, (index0 t).1.2.2.2]

theorem parts_block (r : Fin 64) (l : Fin 2048) : parts (b0 m c t) r l = parts (a0 m c) (row t r) l :=
  Finset.sum_congr rfl fun d _ => blk0 m c t d r l

theorem arr4 : (dats m 0 c).arrAt 4 cfg0.N = layer 1 (parts (a0 m c)) (a4 m c) := by
  refine (dats m 0 c).arrAt_eq_of_coversWhere_of_agree 4 _ (fun β => β (0 : Fin 3) = 1) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 1 (parts (a0 m c)) (a4 m c) (row t y1) y2).symm.trans (congrArg (layer 1 (parts (a0 m c)) (a4 m c)) ?_)
    blk_ext! [(index0 t).2.1]
  · refine layer_out 1 (parts (a0 m c)) (a4 m c) _ fun h => hj ?_
    exact (Nat.div_one _).trans h
theorem arr5 : (dats m 0 c).arrAt 5 cfg0.N = layer 1 (chgs 1 (a0 m c) (a1 m c) (a2 m c) (a3 m c)) (a5 m c) := by
  refine (dats m 0 c).arrAt_eq_of_coversWhere_of_agree 5 _ (fun β => β (0 : Fin 3) = 1) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 1 (chgs 1 (a0 m c) (a1 m c) (a2 m c) (a3 m c)) (a5 m c) (row t y1) y2).symm.trans (congrArg (layer 1 (chgs 1 (a0 m c) (a1 m c) (a2 m c) (a3 m c)) (a5 m c)) ?_)
    blk_ext! [(index0 t).2.2.1]
  · refine layer_out 1 (chgs 1 (a0 m c) (a1 m c) (a2 m c) (a3 m c)) (a5 m c) _ fun h => hj ?_
    exact (Nat.div_one _).trans h
theorem arr6 : (dats m 0 c).arrAt 6 cfg0.N = layer 1 (moms 1 (a0 m c) (a2 m c)) (a6 m c) := by
  refine (dats m 0 c).arrAt_eq_of_coversWhere_of_agree 6 _ (fun β => β (0 : Fin 3) = 1) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 1 (moms 1 (a0 m c) (a2 m c)) (a6 m c) (row t y1) y2).symm.trans (congrArg (layer 1 (moms 1 (a0 m c) (a2 m c)) (a6 m c)) ?_)
    blk_ext! [(index0 t).2.2.2.1]
  · refine layer_out 1 (moms 1 (a0 m c) (a2 m c)) (a6 m c) _ fun h => hj ?_
    exact (Nat.div_one _).trans h
theorem arr7 : (dats m 0 c).arrAt 7 cfg0.N = layer 1 (sqrs 1 (a0 m c) (a3 m c)) (a7 m c) := by
  refine (dats m 0 c).arrAt_eq_of_coversWhere_of_agree 7 _ (fun β => β (0 : Fin 3) = 1) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 1 (sqrs 1 (a0 m c) (a3 m c)) (a7 m c) (row t y1) y2).symm.trans (congrArg (layer 1 (sqrs 1 (a0 m c) (a3 m c)) (a7 m c)) ?_)
    blk_ext! [(index0 t).2.2.2.2]
  · refine layer_out 1 (sqrs 1 (a0 m c) (a3 m c)) (a7 m c) _ fun h => hj ?_
    exact (Nat.div_one _).trans h

section Reference
open Cert.ReferenceUpdateDown1Ideal.Read
variable (x0 : Vec Ideal S8x704x2048 .bf16) (x1 x2 x3 o : Vec Ideal S4x704x2048 .f32)

theorem sum_ref (r : Fin 704) (l : Fin 2048) : val_main_v1 (F := Ideal) x0 (ix2 r l) = parts x0 r l := by
  pointwise [val_main_v1, val_main_v0, val_main_cst]
  rfl
theorem mom_ref (r : Fin 704) (l : Fin 2048) : val_main_v12 (F := Ideal) x0 x2 (ix2 r l) = moms 1 x0 x2 r l := by
  pointwise [val_main_v12, val_main_v11, val_main_v10, val_main_v9, val_main_v8, val_main_v5, val_main_v4, val_main_cst_0, val_main_cst_1]
  rw [sum_ref]
  rfl
theorem sqr_ref (r : Fin 704) (l : Fin 2048) : val_main_v18 (F := Ideal) x0 x3 (ix2 r l) = sqrs 1 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 704) (l : Fin 2048) : val_main_v31 (F := Ideal) x0 x1 x2 x3 (ix2 r l) = chgs 1 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 1 (parts x0) o := by
  funext y
  idx_vars y
  pointwise [val_main_v35, val_main_v34, val_main_v33, val_main_v32]
  match y0 with
  | 0 => rfl
  | 1 => exact sum_ref x0 y1 y2
  | 2 => rfl
  | 3 => rfl
theorem ref5 : val_main_v39 (F := Ideal) x0 x1 x2 x3 o = layer 1 (chgs 1 x0 x1 x2 x3) o := by
  funext y
  idx_vars y
  pointwise [val_main_v39, val_main_v38, val_main_v37, val_main_v36]
  match y0 with
  | 0 => rfl
  | 1 => exact chg_ref x0 x1 x2 x3 y1 y2
  | 2 => rfl
  | 3 => rfl
theorem ref6 : val_main_v43 (F := Ideal) x0 x2 o = layer 1 (moms 1 x0 x2) o := by
  funext y
  idx_vars y
  pointwise [val_main_v43, val_main_v42, val_main_v41, val_main_v40]
  match y0 with
  | 0 => rfl
  | 1 => exact mom_ref x0 x2 y1 y2
  | 2 => rfl
  | 3 => rfl
theorem ref7 : val_main_v47 (F := Ideal) x0 x3 o = layer 1 (sqrs 1 x0 x3) o := by
  funext y
  idx_vars y
  pointwise [val_main_v47, val_main_v46, val_main_v45, val_main_v44]
  match y0 with
  | 0 => rfl
  | 1 => exact sqr_ref x0 x3 y1 y2
  | 2 => rfl
  | 3 => rfl

end Reference

/-! ## The statements -/

theorem frame_kernel : Cert.quiescent_KernelUpdateDown1 (hKernelUpdateDown1 := Cert.KernelUpdateDown1.Gen.facts) :=
  fun m ρ _ => Cert.KernelUpdateDown1.Gen.frame m ρ
theorem frame_kernel_ideal : Cert.quiescent_KernelUpdateDown1Ideal (hKernelUpdateDown1Ideal := Cert.KernelUpdateDown1Ideal.Gen.facts) :=
  fun m ρ _ => Cert.KernelUpdateDown1Ideal.Gen.frame m ρ
theorem frame_reference : Cert.quiescent_ReferenceUpdateDown1Ideal (hReferenceUpdateDown1Ideal := Cert.ReferenceUpdateDown1Ideal.Gen.facts) :=
  fun m ρ _ => (θ_run _ _ _).mono (fun r h => ⟨fun c => (h c).2.2.2.2, sem_eq_zero_of_no_sems rfl r.2⟩)
    (Cert.ReferenceUpdateDown1Ideal.Value.run m ρ)

theorem equal : Cert.algebraic_KernelUpdateDown1Ideal_ReferenceUpdateDown1Ideal (hKernelUpdateDown1Ideal := Cert.KernelUpdateDown1Ideal.Gen.facts)
    (hReferenceUpdateDown1Ideal := Cert.ReferenceUpdateDown1Ideal.Gen.facts) := by
  intro m g m' g' _ hagree
  refine ⟨fun c => layer 1 (parts (a0 m c)) (a4 m c), fun c => layer 1 (chgs 1 (a0 m c) (a1 m c) (a2 m c) (a3 m c)) (a5 m c),
    fun c => layer 1 (moms 1 (a0 m c) (a2 m c)) (a6 m c), fun c => layer 1 (sqrs 1 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateDown1Ideal.Value.run_blocks m g)
  · refine (θ_run _ _ _).mono (fun r h c => ?_) (Cert.ReferenceUpdateDown1Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateDown1Ideal.Read.val_main_v35_eq, h0, h4]
      exact ref4 _ _
    · rw [Cert.ReferenceUpdateDown1Ideal.Read.val_main_v39_eq, h0, h1, h2, h3, h5]
      exact ref5 _ _ _ _ _
    · rw [Cert.ReferenceUpdateDown1Ideal.Read.val_main_v43_eq, h0, h2, h6]
      exact ref6 _ _ _
    · rw [Cert.ReferenceUpdateDown1Ideal.Read.val_main_v47_eq, h0, h3, h7]
      exact ref7 _ _ _

end Cert.UpdateDown1

end
-- ==== Proof.UpdateDown2.lean ====
module

public import proofs.«01_k».proof.Defs
public import proofs.«01_k».proof.Proof.Ref
public import proofs.«01_k».proof.Proof.Update
public import proofs.«01_k».proof.Proof.Gen.KernelUpdateDown2.Frame
public import proofs.«01_k».proof.Proof.Gen.KernelUpdateDown2Ideal.Frame
public import proofs.«01_k».proof.Proof.Gen.KernelUpdateDown2Ideal.Value
public import proofs.«01_k».proof.Proof.Gen.ReferenceUpdateDown2Ideal.Read
public import proofs.«01_k».proof.Proof.Gen.ReferenceUpdateDown2Ideal.Run
public import Idealize.ShloMosaic.Lib.Pipeline.ValueKit
public import Idealize.ShloMosaic.Lib.Quiescent
public import Idealize.ShloMosaic.Lib.Tactic

/-!
The optimiser's step on layer 2 of a stacked weight, counted from 0, with the sum over the devices' parts of its gradient.
-/

@[expose] public section

set_option maxRecDepth 16384

noncomputable section

namespace Cert.UpdateDown2

open Idealize.ShloMosaic Idealize.ShloMosaic.TcCoe Idealize.ShloMosaic.Tactic Idealize.SL.Sem
open Cert.Update Cert.KernelUpdateDown2Ideal Cert.KernelUpdateDown2Ideal.Gen

variable (m : (ℓ : Loc nD τ sig) → Buf (Elt Ideal) ℓ) (c : Dev nD) (t : Fin cfg0.N)

/-- The arguments, and the blocks of them a point reads. -/
abbrev a0 : Vec Ideal S8x704x2048 .bf16 := m ((c : Thread nD τ).loc main_arg0)
abbrev a1 : Vec Ideal S4x704x2048 .f32 := m ((c : Thread nD τ).loc main_arg1)
abbrev a2 : Vec Ideal S4x704x2048 .f32 := m ((c : Thread nD τ).loc main_arg2)
abbrev a3 : Vec Ideal S4x704x2048 .f32 := m ((c : Thread nD τ).loc main_arg3)
abbrev a4 : Vec Ideal S4x704x2048 .f32 := m ((c : Thread nD τ).loc main_arg4)
abbrev a5 : Vec Ideal S4x704x2048 .f32 := m ((c : Thread nD τ).loc main_arg5)
abbrev a6 : Vec Ideal S4x704x2048 .f32 := m ((c : Thread nD τ).loc main_arg6)
abbrev a7 : Vec Ideal S4x704x2048 .f32 := m ((c : Thread nD τ).loc main_arg7)
abbrev b0 : Vec Ideal S8x64x2048 .bf16 := iblk m c 0 t
abbrev b1 : Vec Ideal S1x64x2048 .f32 := iblk m c 1 t
abbrev b2 : Vec Ideal S1x64x2048 .f32 := iblk m c 2 t
abbrev b3 : Vec Ideal S1x64x2048 .f32 := iblk m c 3 t

/-- What a point leaves. -/
theorem sum_at (r : Fin 64) (l : Fin 2048) : k0_pay3 (View.ld (b0 m c t) (Rect.unit ![0, 0, 0] ![1, 64, 2048] inb_S8x64x2048_S1x64x2048_0_0_0))
    (View.ld (b0 m c t) (Rect.unit ![1, 0, 0] ![1, 64, 2048] inb_S8x64x2048_S1x64x2048_1_0_0))
    (View.ld (b0 m c t) (Rect.unit ![2, 0, 0] ![1, 64, 2048] inb_S8x64x2048_S1x64x2048_2_0_0))
    (View.ld (b0 m c t) (Rect.unit ![3, 0, 0] ![1, 64, 2048] inb_S8x64x2048_S1x64x2048_3_0_0))
    (View.ld (b0 m c t) (Rect.unit ![4, 0, 0] ![1, 64, 2048] inb_S8x64x2048_S1x64x2048_4_0_0))
    (View.ld (b0 m c t) (Rect.unit ![5, 0, 0] ![1, 64, 2048] inb_S8x64x2048_S1x64x2048_5_0_0))
    (View.ld (b0 m c t) (Rect.unit ![6, 0, 0] ![1, 64, 2048] inb_S8x64x2048_S1x64x2048_6_0_0))
    (View.ld (b0 m c t) (Rect.unit ![7, 0, 0] ![1, 64, 2048] inb_S8x64x2048_S1x64x2048_7_0_0)) (ix2 r l) = parts (b0 m c t) r l := by
  pointwise [k0_pay3]
  rw [parts, Fin.sum_univ_eight]
theorem g_at (r : Fin 64) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S64x2048 .f32) (x : Vec Ideal S1x64x2048 .f32) (r : Fin 64) (l : Fin 2048) :
    k0_pay4 g x (ix2 r l) = mom (g (ix2 r l)) (x (ix3 0 r l)) := by
  pointwise [k0_pay4]
  rfl
theorem sqr_pay (g : Vec Ideal S64x2048 .f32) (x : Vec Ideal S1x64x2048 .f32) (r : Fin 64) (l : Fin 2048) :
    k0_pay5 g x (ix2 r l) = sqr (g (ix2 r l)) (x (ix3 0 r l)) := by
  pointwise [k0_pay5]
  rfl
theorem d_at (r : Fin 64) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 64) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 64) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![2, t.val, 0] ∧ win0_2.index t = ![2, t.val, 0]
    ∧ win0_3.index t = ![2, t.val, 0]) ∧ win0_4.index t = ![2, t.val, 0] ∧ win0_5.index t = ![2, t.val, 0] ∧ win0_6.index t = ![2, t.val, 0]
    ∧ win0_7.index t = ![2, t.val, 0] := by decide +kernel

abbrev row (r : Fin 64) : Fin 704 := ⟨t.val * 64 + r.val, by have : t.val < 11 := t.isLt; omega⟩

theorem blk0 (d : Fin 8) (r : Fin 64) (k : Fin 2048) : b0 m c t (ix3 d r k) = a0 m c (ix3 d (row t r) k) := by
  blk_ext! [iblk, V, (index0 t).1.1]
theorem blk1 (r : Fin 64) (k : Fin 2048) : b1 m c t (ix3 0 r k) = a1 m c (ix3 2 (row t r) k) := by
  blk_ext! [iblk, V, (index0 t).1.2.1]
theorem blk2 (r : Fin 64) (k : Fin 2048) : b2 m c t (ix3 0 r k) = a2 m c (ix3 2 (row t r) k) := by
  blk_ext! [iblk, V, (index0 t).1.2.2.1]
theorem blk3 (r : Fin 64) (k : Fin 2048) : b3 m c t (ix3 0 r k) = a3 m c (ix3 2 (row t r) k) := by
  blk_ext! [iblk, V, (index0 t).1.2.2.2]

theorem parts_block (r : Fin 64) (l : Fin 2048) : parts (b0 m c t) r l = parts (a0 m c) (row t r) l :=
  Finset.sum_congr rfl fun d _ => blk0 m c t d r l

theorem arr4 : (dats m 0 c).arrAt 4 cfg0.N = layer 2 (parts (a0 m c)) (a4 m c) := by
  refine (dats m 0 c).arrAt_eq_of_coversWhere_of_agree 4 _ (fun β => β (0 : Fin 3) = 2) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 2 (parts (a0 m c)) (a4 m c) (row t y1) y2).symm.trans (congrArg (layer 2 (parts (a0 m c)) (a4 m c)) ?_)
    blk_ext! [(index0 t).2.1]
  · refine layer_out 2 (parts (a0 m c)) (a4 m c) _ fun h => hj ?_
    exact (Nat.div_one _).trans h
theorem arr5 : (dats m 0 c).arrAt 5 cfg0.N = layer 2 (chgs 2 (a0 m c) (a1 m c) (a2 m c) (a3 m c)) (a5 m c) := by
  refine (dats m 0 c).arrAt_eq_of_coversWhere_of_agree 5 _ (fun β => β (0 : Fin 3) = 2) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 2 (chgs 2 (a0 m c) (a1 m c) (a2 m c) (a3 m c)) (a5 m c) (row t y1) y2).symm.trans (congrArg (layer 2 (chgs 2 (a0 m c) (a1 m c) (a2 m c) (a3 m c)) (a5 m c)) ?_)
    blk_ext! [(index0 t).2.2.1]
  · refine layer_out 2 (chgs 2 (a0 m c) (a1 m c) (a2 m c) (a3 m c)) (a5 m c) _ fun h => hj ?_
    exact (Nat.div_one _).trans h
theorem arr6 : (dats m 0 c).arrAt 6 cfg0.N = layer 2 (moms 2 (a0 m c) (a2 m c)) (a6 m c) := by
  refine (dats m 0 c).arrAt_eq_of_coversWhere_of_agree 6 _ (fun β => β (0 : Fin 3) = 2) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 2 (moms 2 (a0 m c) (a2 m c)) (a6 m c) (row t y1) y2).symm.trans (congrArg (layer 2 (moms 2 (a0 m c) (a2 m c)) (a6 m c)) ?_)
    blk_ext! [(index0 t).2.2.2.1]
  · refine layer_out 2 (moms 2 (a0 m c) (a2 m c)) (a6 m c) _ fun h => hj ?_
    exact (Nat.div_one _).trans h
theorem arr7 : (dats m 0 c).arrAt 7 cfg0.N = layer 2 (sqrs 2 (a0 m c) (a3 m c)) (a7 m c) := by
  refine (dats m 0 c).arrAt_eq_of_coversWhere_of_agree 7 _ (fun β => β (0 : Fin 3) = 2) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 2 (sqrs 2 (a0 m c) (a3 m c)) (a7 m c) (row t y1) y2).symm.trans (congrArg (layer 2 (sqrs 2 (a0 m c) (a3 m c)) (a7 m c)) ?_)
    blk_ext! [(index0 t).2.2.2.2]
  · refine layer_out 2 (sqrs 2 (a0 m c) (a3 m c)) (a7 m c) _ fun h => hj ?_
    exact (Nat.div_one _).trans h

section Reference
open Cert.ReferenceUpdateDown2Ideal.Read
variable (x0 : Vec Ideal S8x704x2048 .bf16) (x1 x2 x3 o : Vec Ideal S4x704x2048 .f32)

theorem sum_ref (r : Fin 704) (l : Fin 2048) : val_main_v1 (F := Ideal) x0 (ix2 r l) = parts x0 r l := by
  pointwise [val_main_v1, val_main_v0, val_main_cst]
  rfl
theorem mom_ref (r : Fin 704) (l : Fin 2048) : val_main_v12 (F := Ideal) x0 x2 (ix2 r l) = moms 2 x0 x2 r l := by
  pointwise [val_main_v12, val_main_v11, val_main_v10, val_main_v9, val_main_v8, val_main_v5, val_main_v4, val_main_cst_0, val_main_cst_1]
  rw [sum_ref]
  rfl
theorem sqr_ref (r : Fin 704) (l : Fin 2048) : val_main_v18 (F := Ideal) x0 x3 (ix2 r l) = sqrs 2 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 704) (l : Fin 2048) : val_main_v31 (F := Ideal) x0 x1 x2 x3 (ix2 r l) = chgs 2 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 2 (parts x0) o := by
  funext y
  idx_vars y
  pointwise [val_main_v35, val_main_v34, val_main_v33, val_main_v32]
  match y0 with
  | 0 => rfl
  | 1 => rfl
  | 2 => exact sum_ref x0 y1 y2
  | 3 => rfl
theorem ref5 : val_main_v39 (F := Ideal) x0 x1 x2 x3 o = layer 2 (chgs 2 x0 x1 x2 x3) o := by
  funext y
  idx_vars y
  pointwise [val_main_v39, val_main_v38, val_main_v37, val_main_v36]
  match y0 with
  | 0 => rfl
  | 1 => rfl
  | 2 => exact chg_ref x0 x1 x2 x3 y1 y2
  | 3 => rfl
theorem ref6 : val_main_v43 (F := Ideal) x0 x2 o = layer 2 (moms 2 x0 x2) o := by
  funext y
  idx_vars y
  pointwise [val_main_v43, val_main_v42, val_main_v41, val_main_v40]
  match y0 with
  | 0 => rfl
  | 1 => rfl
  | 2 => exact mom_ref x0 x2 y1 y2
  | 3 => rfl
theorem ref7 : val_main_v47 (F := Ideal) x0 x3 o = layer 2 (sqrs 2 x0 x3) o := by
  funext y
  idx_vars y
  pointwise [val_main_v47, val_main_v46, val_main_v45, val_main_v44]
  match y0 with
  | 0 => rfl
  | 1 => rfl
  | 2 => exact sqr_ref x0 x3 y1 y2
  | 3 => rfl

end Reference

/-! ## The statements -/

theorem frame_kernel : Cert.quiescent_KernelUpdateDown2 (hKernelUpdateDown2 := Cert.KernelUpdateDown2.Gen.facts) :=
  fun m ρ _ => Cert.KernelUpdateDown2.Gen.frame m ρ
theorem frame_kernel_ideal : Cert.quiescent_KernelUpdateDown2Ideal (hKernelUpdateDown2Ideal := Cert.KernelUpdateDown2Ideal.Gen.facts) :=
  fun m ρ _ => Cert.KernelUpdateDown2Ideal.Gen.frame m ρ
theorem frame_reference : Cert.quiescent_ReferenceUpdateDown2Ideal (hReferenceUpdateDown2Ideal := Cert.ReferenceUpdateDown2Ideal.Gen.facts) :=
  fun m ρ _ => (θ_run _ _ _).mono (fun r h => ⟨fun c => (h c).2.2.2.2, sem_eq_zero_of_no_sems rfl r.2⟩)
    (Cert.ReferenceUpdateDown2Ideal.Value.run m ρ)

theorem equal : Cert.algebraic_KernelUpdateDown2Ideal_ReferenceUpdateDown2Ideal (hKernelUpdateDown2Ideal := Cert.KernelUpdateDown2Ideal.Gen.facts)
    (hReferenceUpdateDown2Ideal := Cert.ReferenceUpdateDown2Ideal.Gen.facts) := by
  intro m g m' g' _ hagree
  refine ⟨fun c => layer 2 (parts (a0 m c)) (a4 m c), fun c => layer 2 (chgs 2 (a0 m c) (a1 m c) (a2 m c) (a3 m c)) (a5 m c),
    fun c => layer 2 (moms 2 (a0 m c) (a2 m c)) (a6 m c), fun c => layer 2 (sqrs 2 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateDown2Ideal.Value.run_blocks m g)
  · refine (θ_run _ _ _).mono (fun r h c => ?_) (Cert.ReferenceUpdateDown2Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateDown2Ideal.Read.val_main_v35_eq, h0, h4]
      exact ref4 _ _
    · rw [Cert.ReferenceUpdateDown2Ideal.Read.val_main_v39_eq, h0, h1, h2, h3, h5]
      exact ref5 _ _ _ _ _
    · rw [Cert.ReferenceUpdateDown2Ideal.Read.val_main_v43_eq, h0, h2, h6]
      exact ref6 _ _ _
    · rw [Cert.ReferenceUpdateDown2Ideal.Read.val_main_v47_eq, h0, h3, h7]
      exact ref7 _ _ _

end Cert.UpdateDown2

end
-- ==== Proof.UpdateDown3.lean ====
module

public import proofs.«01_k».proof.Defs
public import proofs.«01_k».proof.Proof.Ref
public import proofs.«01_k».proof.Proof.Update
public import proofs.«01_k».proof.Proof.Gen.KernelUpdateDown3.Frame
public import proofs.«01_k».proof.Proof.Gen.KernelUpdateDown3Ideal.Frame
public import proofs.«01_k».proof.Proof.Gen.KernelUpdateDown3Ideal.Value
public import proofs.«01_k».proof.Proof.Gen.ReferenceUpdateDown3Ideal.Read
public import proofs.«01_k».proof.Proof.Gen.ReferenceUpdateDown3Ideal.Run
public import Idealize.ShloMosaic.Lib.Pipeline.ValueKit
public import Idealize.ShloMosaic.Lib.Quiescent
public import Idealize.ShloMosaic.Lib.Tactic

/-!
The optimiser's step on layer 3 of a stacked weight, counted from 0, with the sum over the devices' parts of its gradient.
-/

@[expose] public section

set_option maxRecDepth 16384

noncomputable section

namespace Cert.UpdateDown3

open Idealize.ShloMosaic Idealize.ShloMosaic.TcCoe Idealize.ShloMosaic.Tactic Idealize.SL.Sem
open Cert.Update Cert.KernelUpdateDown3Ideal Cert.KernelUpdateDown3Ideal.Gen

variable (m : (ℓ : Loc nD τ sig) → Buf (Elt Ideal) ℓ) (c : Dev nD) (t : Fin cfg0.N)

/-- The arguments, and the blocks of them a point reads. -/
abbrev a0 : Vec Ideal S8x704x2048 .bf16 := m ((c : Thread nD τ).loc main_arg0)
abbrev a1 : Vec Ideal S4x704x2048 .f32 := m ((c : Thread nD τ).loc main_arg1)
abbrev a2 : Vec Ideal S4x704x2048 .f32 := m ((c : Thread nD τ).loc main_arg2)
abbrev a3 : Vec Ideal S4x704x2048 .f32 := m ((c : Thread nD τ).loc main_arg3)
abbrev a4 : Vec Ideal S4x704x2048 .f32 := m ((c : Thread nD τ).loc main_arg4)
abbrev a5 : Vec Ideal S4x704x2048 .f32 := m ((c : Thread nD τ).loc main_arg5)
abbrev a6 : Vec Ideal S4x704x2048 .f32 := m ((c : Thread nD τ).loc main_arg6)
abbrev a7 : Vec Ideal S4x704x2048 .f32 := m ((c : Thread nD τ).loc main_arg7)
abbrev b0 : Vec Ideal S8x64x2048 .bf16 := iblk m c 0 t
abbrev b1 : Vec Ideal S1x64x2048 .f32 := iblk m c 1 t
abbrev b2 : Vec Ideal S1x64x2048 .f32 := iblk m c 2 t
abbrev b3 : Vec Ideal S1x64x2048 .f32 := iblk m c 3 t

/-- What a point leaves. -/
theorem sum_at (r : Fin 64) (l : Fin 2048) : k0_pay3 (View.ld (b0 m c t) (Rect.unit ![0, 0, 0] ![1, 64, 2048] inb_S8x64x2048_S1x64x2048_0_0_0))
    (View.ld (b0 m c t) (Rect.unit ![1, 0, 0] ![1, 64, 2048] inb_S8x64x2048_S1x64x2048_1_0_0))
    (View.ld (b0 m c t) (Rect.unit ![2, 0, 0] ![1, 64, 2048] inb_S8x64x2048_S1x64x2048_2_0_0))
    (View.ld (b0 m c t) (Rect.unit ![3, 0, 0] ![1, 64, 2048] inb_S8x64x2048_S1x64x2048_3_0_0))
    (View.ld (b0 m c t) (Rect.unit ![4, 0, 0] ![1, 64, 2048] inb_S8x64x2048_S1x64x2048_4_0_0))
    (View.ld (b0 m c t) (Rect.unit ![5, 0, 0] ![1, 64, 2048] inb_S8x64x2048_S1x64x2048_5_0_0))
    (View.ld (b0 m c t) (Rect.unit ![6, 0, 0] ![1, 64, 2048] inb_S8x64x2048_S1x64x2048_6_0_0))
    (View.ld (b0 m c t) (Rect.unit ![7, 0, 0] ![1, 64, 2048] inb_S8x64x2048_S1x64x2048_7_0_0)) (ix2 r l) = parts (b0 m c t) r l := by
  pointwise [k0_pay3]
  rw [parts, Fin.sum_univ_eight]
theorem g_at (r : Fin 64) (l : Fin 2048) : (outsAt0 m c t).1 (ix3 0 r l) = parts (b0 m c t) r l := by
  unfold outsAt0
  frame_out
  refine Eq.trans ?_ (sum_at m c t r l)
  pointwise [k0_pay6]
theorem mom_pay (g : Vec Ideal S64x2048 .f32) (x : Vec Ideal S1x64x2048 .f32) (r : Fin 64) (l : Fin 2048) :
    k0_pay4 g x (ix2 r l) = mom (g (ix2 r l)) (x (ix3 0 r l)) := by
  pointwise [k0_pay4]
  rfl
theorem sqr_pay (g : Vec Ideal S64x2048 .f32) (x : Vec Ideal S1x64x2048 .f32) (r : Fin 64) (l : Fin 2048) :
    k0_pay5 g x (ix2 r l) = sqr (g (ix2 r l)) (x (ix3 0 r l)) := by
  pointwise [k0_pay5]
  rfl
theorem d_at (r : Fin 64) (l : Fin 2048) : (outsAt0 m c t).2.1 (ix3 0 r l)
    = chg (parts (b0 m c t) r l) (b1 m c t (ix3 0 r l)) (b2 m c t (ix3 0 r l)) (b3 m c t (ix3 0 r l)) := by
  unfold outsAt0
  frame_out
  rw [← sum_at m c t r l]
  pointwise [k0_pay7]
  rw [mom_pay, sqr_pay]
  rfl
theorem m_at (r : Fin 64) (l : Fin 2048) : (outsAt0 m c t).2.2.1 (ix3 0 r l) = mom (parts (b0 m c t) r l) (b2 m c t (ix3 0 r l)) := by
  unfold outsAt0
  frame_out
  rw [← sum_at m c t r l]
  pointwise [k0_pay1]
  exact mom_pay _ _ _ _
theorem v_at (r : Fin 64) (l : Fin 2048) : (outsAt0 m c t).2.2.2 (ix3 0 r l) = sqr (parts (b0 m c t) r l) (b3 m c t (ix3 0 r l)) := by
  unfold outsAt0
  frame_out
  rw [← sum_at m c t r l]
  pointwise [k0_pay2]
  exact sqr_pay _ _ _ _

/-- Each window's block at a point. -/
theorem index0 : ∀ t : Fin cfg0.N, (win0_0.index t = ![0, t.val, 0] ∧ win0_1.index t = ![3, t.val, 0] ∧ win0_2.index t = ![3, t.val, 0]
    ∧ win0_3.index t = ![3, t.val, 0]) ∧ win0_4.index t = ![3, t.val, 0] ∧ win0_5.index t = ![3, t.val, 0] ∧ win0_6.index t = ![3, t.val, 0]
    ∧ win0_7.index t = ![3, t.val, 0] := by decide +kernel

abbrev row (r : Fin 64) : Fin 704 := ⟨t.val * 64 + r.val, by have : t.val < 11 := t.isLt; omega⟩

theorem blk0 (d : Fin 8) (r : Fin 64) (k : Fin 2048) : b0 m c t (ix3 d r k) = a0 m c (ix3 d (row t r) k) := by
  blk_ext! [iblk, V, (index0 t).1.1]
theorem blk1 (r : Fin 64) (k : Fin 2048) : b1 m c t (ix3 0 r k) = a1 m c (ix3 3 (row t r) k) := by
  blk_ext! [iblk, V, (index0 t).1.2.1]
theorem blk2 (r : Fin 64) (k : Fin 2048) : b2 m c t (ix3 0 r k) = a2 m c (ix3 3 (row t r) k) := by
  blk_ext! [iblk, V, (index0 t).1.2.2.1]
theorem blk3 (r : Fin 64) (k : Fin 2048) : b3 m c t (ix3 0 r k) = a3 m c (ix3 3 (row t r) k) := by
  blk_ext! [iblk, V, (index0 t).1.2.2.2]

theorem parts_block (r : Fin 64) (l : Fin 2048) : parts (b0 m c t) r l = parts (a0 m c) (row t r) l :=
  Finset.sum_congr rfl fun d _ => blk0 m c t d r l

theorem arr4 : (dats m 0 c).arrAt 4 cfg0.N = layer 3 (parts (a0 m c)) (a4 m c) := by
  refine (dats m 0 c).arrAt_eq_of_coversWhere_of_agree 4 _ (fun β => β (0 : Fin 3) = 3) (by decide +kernel) (fun t hf y => ?_) (fun j hj => ?_)
  · blk_simp
    rw [after0_4]
    idx_vars y
    obtain rfl : y0 = 0 := Fin.ext (by omega)
    refine (g_at m c t _ _).trans ?_
    rw [parts_block]
    refine (layer_in 3 (parts (a0 m c)) (a4 m c) (row t y1) y2).symm.trans (congrArg (layer 3 (parts (a0 m c)) (a4 m c)) ?_)
    blk_ext! [(index0 t).2.1]
  · refine layer_out 3 (parts (a0 m c)) (a4 m c) _ fun h => hj ?_
    exact (Nat.div_one _).trans h
theorem arr5 : (dats m 0 c).arrAt 5 cfg0.N = layer 3 (chgs 3 (a0 m c) (a1 m c) (a2 m c) (a3 m c)) (a5 m c) := by
  refine (dats m 0 c).arrAt_eq_of_coversWhere_of_agree 5 _ (fun β => β (0 : Fin 3) = 3) (by decide +kernel) (fun t hf y => ?_) (fun j hj => ?_)
  · blk_simp
    rw [after0_5]
    idx_vars y
    obtain rfl : y0 = 0 := Fin.ext (by omega)
    refine (d_at m c t _ _).trans ?_
    rw [parts_block, blk1, blk2, blk3]
    refine (layer_in 3 (chgs 3 (a0 m c) (a1 m c) (a2 m c) (a3 m c)) (a5 m c) (row t y1) y2).symm.trans (congrArg (layer 3 (chgs 3 (a0 m c) (a1 m c) (a2 m c) (a3 m c)) (a5 m c)) ?_)
    blk_ext! [(index0 t).2.2.1]
  · refine layer_out 3 (chgs 3 (a0 m c) (a1 m c) (a2 m c) (a3 m c)) (a5 m c) _ fun h => hj ?_
    exact (Nat.div_one _).trans h
theorem arr6 : (dats m 0 c).arrAt 6 cfg0.N = layer 3 (moms 3 (a0 m c) (a2 m c)) (a6 m c) := by
  refine (dats m 0 c).arrAt_eq_of_coversWhere_of_agree 6 _ (fun β => β (0 : Fin 3) = 3) (by decide +kernel) (fun t hf y => ?_) (fun j hj => ?_)
  · blk_simp
    rw [after0_6]
    idx_vars y
    obtain rfl : y0 = 0 := Fin.ext (by omega)
    refine (m_at m c t _ _).trans ?_
    rw [parts_block, blk2]
    refine (layer_in 3 (moms 3 (a0 m c) (a2 m c)) (a6 m c) (row t y1) y2).symm.trans (congrArg (layer 3 (moms 3 (a0 m c) (a2 m c)) (a6 m c)) ?_)
    blk_ext! [(index0 t).2.2.2.1]
  · refine layer_out 3 (moms 3 (a0 m c) (a2 m c)) (a6 m c) _ fun h => hj ?_
    exact (Nat.div_one _).trans h
theorem arr7 : (dats m 0 c).arrAt 7 cfg0.N = layer 3 (sqrs 3 (a0 m c) (a3 m c)) (a7 m c) := by
  refine (dats m 0 c).arrAt_eq_of_coversWhere_of_agree 7 _ (fun β => β (0 : Fin 3) = 3) (by decide +kernel) (fun t hf y => ?_) (fun j hj => ?_)
  · blk_simp
    rw [after0_7]
    idx_vars y
    obtain rfl : y0 = 0 := Fin.ext (by omega)
    refine (v_at m c t _ _).trans ?_
    rw [parts_block, blk3]
    refine (layer_in 3 (sqrs 3 (a0 m c) (a3 m c)) (a7 m c) (row t y1) y2).symm.trans (congrArg (layer 3 (sqrs 3 (a0 m c) (a3 m c)) (a7 m c)) ?_)
    blk_ext! [(index0 t).2.2.2.2]
  · refine layer_out 3 (sqrs 3 (a0 m c) (a3 m c)) (a7 m c) _ fun h => hj ?_
    exact (Nat.div_one _).trans h

section Reference
open Cert.ReferenceUpdateDown3Ideal.Read
variable (x0 : Vec Ideal S8x704x2048 .bf16) (x1 x2 x3 o : Vec Ideal S4x704x2048 .f32)

theorem sum_ref (r : Fin 704) (l : Fin 2048) : val_main_v1 (F := Ideal) x0 (ix2 r l) = parts x0 r l := by
  pointwise [val_main_v1, val_main_v0, val_main_cst]
  rfl
theorem mom_ref (r : Fin 704) (l : Fin 2048) : val_main_v12 (F := Ideal) x0 x2 (ix2 r l) = moms 3 x0 x2 r l := by
  pointwise [val_main_v12, val_main_v11, val_main_v10, val_main_v9, val_main_v8, val_main_v5, val_main_v4, val_main_cst_0, val_main_cst_1]
  rw [sum_ref]
  rfl
theorem sqr_ref (r : Fin 704) (l : Fin 2048) : val_main_v18 (F := Ideal) x0 x3 (ix2 r l) = sqrs 3 x0 x3 r l := by
  pointwise [val_main_v18, val_main_v17, val_main_v16, val_main_v15, val_main_v14, val_main_v13, val_main_v7, val_main_v6, val_main_cst_2,
    val_main_cst_3]
  rw [sum_ref]
  rfl
theorem chg_ref (r : Fin 704) (l : Fin 2048) : val_main_v31 (F := Ideal) x0 x1 x2 x3 (ix2 r l) = chgs 3 x0 x1 x2 x3 r l := by
  pointwise [val_main_v31, val_main_v30, val_main_v29, val_main_v28, val_main_v27, val_main_v26, val_main_v25, val_main_v24, val_main_v23,
    val_main_v22, val_main_v21, val_main_v20, val_main_v19, val_main_v3, val_main_v2, val_main_cst_4, val_main_cst_5, val_main_cst_6,
    val_main_cst_7, val_main_cst_8]
  rw [mom_ref, sqr_ref]
  rfl

theorem ref4 : val_main_v35 (F := Ideal) x0 o = layer 3 (parts x0) o := by
  funext y
  idx_vars y
  pointwise [val_main_v35, val_main_v33, val_main_v32]
  match y0 with
  | 0 => rfl
  | 1 => rfl
  | 2 => rfl
  | 3 => exact sum_ref x0 y1 y2
theorem ref5 : val_main_v39 (F := Ideal) x0 x1 x2 x3 o = layer 3 (chgs 3 x0 x1 x2 x3) o := by
  funext y
  idx_vars y
  pointwise [val_main_v39, val_main_v37, val_main_v36]
  match y0 with
  | 0 => rfl
  | 1 => rfl
  | 2 => rfl
  | 3 => exact chg_ref x0 x1 x2 x3 y1 y2
theorem ref6 : val_main_v43 (F := Ideal) x0 x2 o = layer 3 (moms 3 x0 x2) o := by
  funext y
  idx_vars y
  pointwise [val_main_v43, val_main_v41, val_main_v40]
  match y0 with
  | 0 => rfl
  | 1 => rfl
  | 2 => rfl
  | 3 => exact mom_ref x0 x2 y1 y2
theorem ref7 : val_main_v47 (F := Ideal) x0 x3 o = layer 3 (sqrs 3 x0 x3) o := by
  funext y
  idx_vars y
  pointwise [val_main_v47, val_main_v45, val_main_v44]
  match y0 with
  | 0 => rfl
  | 1 => rfl
  | 2 => rfl
  | 3 => exact sqr_ref x0 x3 y1 y2

end Reference

/-! ## The statements -/

theorem frame_kernel : Cert.quiescent_KernelUpdateDown3 (hKernelUpdateDown3 := Cert.KernelUpdateDown3.Gen.facts) :=
  fun m ρ _ => Cert.KernelUpdateDown3.Gen.frame m ρ
theorem frame_kernel_ideal : Cert.quiescent_KernelUpdateDown3Ideal (hKernelUpdateDown3Ideal := Cert.KernelUpdateDown3Ideal.Gen.facts) :=
  fun m ρ _ => Cert.KernelUpdateDown3Ideal.Gen.frame m ρ
theorem frame_reference : Cert.quiescent_ReferenceUpdateDown3Ideal (hReferenceUpdateDown3Ideal := Cert.ReferenceUpdateDown3Ideal.Gen.facts) :=
  fun m ρ _ => (θ_run _ _ _).mono (fun r h => ⟨fun c => (h c).2.2.2.2, sem_eq_zero_of_no_sems rfl r.2⟩)
    (Cert.ReferenceUpdateDown3Ideal.Value.run m ρ)

theorem equal : Cert.algebraic_KernelUpdateDown3Ideal_ReferenceUpdateDown3Ideal (hKernelUpdateDown3Ideal := Cert.KernelUpdateDown3Ideal.Gen.facts)
    (hReferenceUpdateDown3Ideal := Cert.ReferenceUpdateDown3Ideal.Gen.facts) := by
  intro m g m' g' _ hagree
  refine ⟨fun c => layer 3 (parts (a0 m c)) (a4 m c), fun c => layer 3 (chgs 3 (a0 m c) (a1 m c) (a2 m c) (a3 m c)) (a5 m c),
    fun c => layer 3 (moms 3 (a0 m c) (a2 m c)) (a6 m c), fun c => layer 3 (sqrs 3 (a0 m c) (a3 m c)) (a7 m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelUpdateDown3Ideal.Value.run_blocks m g)
  · refine (θ_run _ _ _).mono (fun r h c => ?_) (Cert.ReferenceUpdateDown3Ideal.Value.run m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [Cert.ReferenceUpdateDown3Ideal.Read.val_main_v35_eq, h0, h4]
      exact ref4 _ _
    · rw [Cert.ReferenceUpdateDown3Ideal.Read.val_main_v39_eq, h0, h1, h2, h3, h5]
      exact ref5 _ _ _ _ _
    · rw [Cert.ReferenceUpdateDown3Ideal.Read.val_main_v43_eq, h0, h2, h6]
      exact ref6 _ _ _
    · rw [Cert.ReferenceUpdateDown3Ideal.Read.val_main_v47_eq, h0, h3, h7]
      exact ref7 _ _ _

end Cert.UpdateDown3

end
-- ==== Proof.SmallSum.lean ====
module

public import proofs.«01_k».proof.Defs
public import proofs.«01_k».proof.Proof.Ref
public import proofs.«01_k».proof.Proof.Gen.KernelSmallSum.Frame
public import proofs.«01_k».proof.Proof.Gen.KernelSmallSumIdeal.Frame
public import proofs.«01_k».proof.Proof.Gen.KernelSmallSumIdeal.Value
public import proofs.«01_k».proof.Proof.Gen.ReferenceSmallSumIdeal.Read
public import proofs.«01_k».proof.Proof.Gen.ReferenceSmallSumIdeal.Run
public import Idealize.ShloMosaic.Lib.Pipeline.ValueKit
public import Idealize.ShloMosaic.Lib.Quiescent
public import Idealize.ShloMosaic.Lib.Tactic

/-!
The sum over the devices' parts of the packed small gradients.
-/

@[expose] public section

set_option maxRecDepth 16384

noncomputable section

namespace Cert.SmallSum

open Idealize.ShloMosaic Idealize.ShloMosaic.TcCoe Idealize.ShloMosaic.Tactic Idealize.SL.Sem
open Cert.KernelSmallSumIdeal Cert.KernelSmallSumIdeal.Gen

variable (m : (ℓ : Loc nD τ sig) → Buf (Elt Ideal) ℓ) (c : Dev nD) (t : Fin cfg0.N)

/-- The argument, and the block of it the one point reads. -/
abbrev a0 : Vec Ideal S8x1616x128 .f32 := m ((c : Thread nD τ).loc main_arg0)
abbrev b0 : Vec Ideal S8x1616x128 .f32 := iblk m c 0 t

/-- The parts' sum. -/
def parts (x : Vec Ideal S8x1616x128 .f32) : Vec Ideal S1616x128 .f32 := fun i => ∑ d : Fin 8, x (ix3 d (i 0) (i 1))

theorem out_at (x : Vec Ideal S8x1616x128 .f32) (r : Fin 1616) (l : Fin 128) : out0_1 x (ix2 r l) = ∑ d : Fin 8, x (ix3 d r l) := by
  unfold out0_1
  frame_out
  pointwise [k0_pay1]
  rw [Fin.sum_univ_eight]

theorem index0 : ∀ t : Fin cfg0.N, win0_0.index t = ![0, 0, 0] ∧ win0_1.index t = ![0, 0] := by decide +kernel

theorem blk0 (d : Fin 8) (r : Fin 1616) (k : Fin 128) : b0 m c t (ix3 d r k) = a0 m c (ix3 d r k) := by
  blk_ext! [iblk, V, (index0 t).1]

theorem arr1 : (dats m 0 c).arrAt 1 cfg0.N = parts (a0 m c) := by
  refine (dats m 0 c).arrAt_eq_of_covers 1 _ (by decide +kernel) fun t hf y => ?_
  blk_simp
  rw [after0_1]
  idx_vars y
  refine (out_at _ _ _).trans ?_
  refine Eq.trans (b := parts (a0 m c) (ix2 y0 y1)) (Finset.sum_congr rfl fun d _ => blk0 m c t d y0 y1) (congrArg (parts (a0 m c)) ?_)
  blk_ext! [(index0 t).2]

section Reference
open Cert.ReferenceSmallSumIdeal.Read

theorem ref1 (x : Vec Ideal S8x1616x128 .f32) : val_main_v0 (F := Ideal) x = parts x := by
  funext y
  idx_vars y
  pointwise [val_main_v0, val_main_cst]
  rfl

end Reference

/-! ## The statements -/

theorem frame_kernel : Cert.quiescent_KernelSmallSum (hKernelSmallSum := Cert.KernelSmallSum.Gen.facts) :=
  fun m ρ _ => Cert.KernelSmallSum.Gen.frame m ρ
theorem frame_kernel_ideal : Cert.quiescent_KernelSmallSumIdeal (hKernelSmallSumIdeal := Cert.KernelSmallSumIdeal.Gen.facts) :=
  fun m ρ _ => Cert.KernelSmallSumIdeal.Gen.frame m ρ
theorem frame_reference : Cert.quiescent_ReferenceSmallSumIdeal (hReferenceSmallSumIdeal := Cert.ReferenceSmallSumIdeal.Gen.facts) :=
  fun m ρ _ => (θ_run _ _ _).mono (fun r h => ⟨fun c => (h c).2, sem_eq_zero_of_no_sems rfl r.2⟩)
    (Cert.ReferenceSmallSumIdeal.Value.run m ρ)

theorem equal : Cert.algebraic_KernelSmallSumIdeal_ReferenceSmallSumIdeal (hKernelSmallSumIdeal := Cert.KernelSmallSumIdeal.Gen.facts)
    (hReferenceSmallSumIdeal := Cert.ReferenceSmallSumIdeal.Gen.facts) := by
  intro m g m' g' _ hagree
  refine ⟨fun c => parts (a0 m c), ?_, ?_⟩
  · exact (θ_run _ _ _).mono (fun r h c => ⟨(h c).1.trans (arr1 m c), (h c).2⟩) (Cert.KernelSmallSumIdeal.Value.run_blocks m g)
  · refine (θ_run _ _ _).mono (fun r h c => ?_) (Cert.ReferenceSmallSumIdeal.Value.run m' g')
    have h0 := hagree c
    refine ⟨(h c).1.trans ?_, (h c).2⟩
    rw [Cert.ReferenceSmallSumIdeal.Read.val_main_v0_eq, h0]
    exact ref1 _

end Cert.SmallSum

end
-- ==== Proof.UpdateSmall.lean ====
module

public import proofs.«01_k».proof.Defs
public import proofs.«01_k».proof.Proof.Ref
public import proofs.«01_k».proof.Proof.Gen.KernelUpdateSmall.Frame
public import proofs.«01_k».proof.Proof.Gen.KernelUpdateSmallIdeal.Frame
public import proofs.«01_k».proof.Proof.Gen.KernelUpdateSmallIdeal.Value
public import proofs.«01_k».proof.Proof.Gen.ReferenceUpdateSmallIdeal.Read
public import proofs.«01_k».proof.Proof.Gen.ReferenceUpdateSmallIdeal.Run
public import Idealize.ShloMosaic.Lib.Pipeline.ValueKit
public import Idealize.ShloMosaic.Lib.Quiescent
public import Idealize.ShloMosaic.Lib.Tactic

/-!
The optimiser's step on the packed small weights.
-/

@[expose] public section

set_option maxRecDepth 16384

noncomputable section

namespace Cert.UpdateSmall

open Idealize.ShloMosaic Idealize.ShloMosaic.TcCoe Idealize.ShloMosaic.Tactic Idealize.SL.Sem
open Cert.KernelUpdateSmallIdeal Cert.KernelUpdateSmallIdeal.Gen

variable (m : (ℓ : Loc nD τ sig) → Buf (Elt Ideal) ℓ) (c : Dev nD) (t : Fin cfg0.N)

/-- The arguments, and the blocks of them the one point reads: the gradient, the weight and the two moments. -/
abbrev a0 : Vec Ideal S696x128 .f32 := m ((c : Thread nD τ).loc main_arg0)
abbrev a1 : Vec Ideal S696x128 .f32 := m ((c : Thread nD τ).loc main_arg1)
abbrev a2 : Vec Ideal S696x128 .f32 := m ((c : Thread nD τ).loc main_arg2)
abbrev a3 : Vec Ideal S696x128 .f32 := m ((c : Thread nD τ).loc main_arg3)
abbrev b0 : Vec Ideal S696x128 .f32 := iblk m c 0 t
abbrev b1 : Vec Ideal S696x128 .f32 := iblk m c 1 t
abbrev b2 : Vec Ideal S696x128 .f32 := iblk m c 2 t
abbrev b3 : Vec Ideal S696x128 .f32 := iblk m c 3 t

/-- The step on one element: the first and second moments after it, and the change of the weight. -/
def mom (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def chg (g w m v : EReal) : EReal := Ideal.ofBits .f32 0xBA83126F#32 *
  (Ideal.div (Ideal.div (mom g m) (Ideal.ofBits .f32 0x3F26BD02#32))
    (Ideal.sqrt (Ideal.div (sqr g v) (Ideal.ofBits .f32 0x3C231ACC#32)) + Ideal.ofBits .f32 0x322BCC77#32)
    + Ideal.ofBits .f32 0x3C23D70A#32 * w)

/-- The results, of the arguments. -/
def moms (x y : Vec Ideal S696x128 .f32) : Vec Ideal S696x128 .f32 := fun i => mom (x i) (y i)
def sqrs (x z : Vec Ideal S696x128 .f32) : Vec Ideal S696x128 .f32 := fun i => sqr (x i) (z i)
def chgs (x w y z : Vec Ideal S696x128 .f32) : Vec Ideal S696x128 .f32 := fun i => chg (x i) (w i) (y i) (z i)

section Point
variable (x w y z : Vec Ideal S696x128 .f32) (r : Fin 696) (l : Fin 128)

/-- What a point leaves. -/
theorem mom_pay : k0_pay1 x y (ix2 r l) = mom (x (ix2 r l)) (y (ix2 r l)) := by
  pointwise [k0_pay1]
  rfl
theorem sqr_pay : k0_pay2 x z (ix2 r l) = sqr (x (ix2 r l)) (z (ix2 r l)) := by
  pointwise [k0_pay2]
  rfl
theorem out_m : out0_5 x w y z (ix2 r l) = mom (x (ix2 r l)) (y (ix2 r l)) := by
  unfold out0_5
  frame_out
  refine (mom_pay _ _ _ _).trans ?_
  pointwise []
theorem out_v : out0_6 x w y z (ix2 r l) = sqr (x (ix2 r l)) (z (ix2 r l)) := by
  unfold out0_6
  frame_out
  refine (sqr_pay _ _ _ _).trans ?_
  pointwise []
theorem out_d : out0_4 x w y z (ix2 r l) = chg (x (ix2 r l)) (w (ix2 r l)) (y (ix2 r l)) (z (ix2 r l)) := by
  unfold out0_4
  frame_out
  pointwise [k0_pay3]
  rw [mom_pay, sqr_pay]
  pointwise []
  rfl

end Point

theorem index0 : ∀ t : Fin cfg0.N, (win0_0.index t = ![0, 0] ∧ win0_1.index t = ![0, 0] ∧ win0_2.index t = ![0, 0] ∧ win0_3.index t = ![0, 0])
    ∧ win0_4.index t = ![0, 0] ∧ win0_5.index t = ![0, 0] ∧ win0_6.index t = ![0, 0] := by decide +kernel

theorem blk0 (r : Fin 696) (k : Fin 128) : b0 m c t (ix2 r k) = a0 m c (ix2 r k) := by
  blk_ext! [iblk, V, (index0 t).1.1]
theorem blk1 (r : Fin 696) (k : Fin 128) : b1 m c t (ix2 r k) = a1 m c (ix2 r k) := by
  blk_ext! [iblk, V, (index0 t).1.2.1]
theorem blk2 (r : Fin 696) (k : Fin 128) : b2 m c t (ix2 r k) = a2 m c (ix2 r k) := by
  blk_ext! [iblk, V, (index0 t).1.2.2.1]
theorem blk3 (r : Fin 696) (k : Fin 128) : b3 m c t (ix2 r k) = a3 m c (ix2 r k) := by
  blk_ext! [iblk, V, (index0 t).1.2.2.2]

theorem arr4 : (dats m 0 c).arrAt 4 cfg0.N = chgs (a0 m c) (a1 m c) (a2 m c) (a3 m c) := by
  refine (dats m 0 c).arrAt_eq_of_covers 4 _ (by decide +kernel) fun t hf y => ?_
  blk_simp
  rw [after0_4]
  idx_vars y
  refine (out_d (b0 m c t) (b1 m c t) (b2 m c t) (b3 m c t) y0 y1).trans ?_
  rw [blk0, blk1, blk2, blk3]
  refine Eq.trans (b := chgs (a0 m c) (a1 m c) (a2 m c) (a3 m c) (ix2 y0 y1)) rfl (congrArg (chgs (a0 m c) (a1 m c) (a2 m c) (a3 m c)) ?_)
  blk_ext! [(index0 t).2.1]
theorem arr5 : (dats m 0 c).arrAt 5 cfg0.N = moms (a0 m c) (a2 m c) := by
  refine (dats m 0 c).arrAt_eq_of_covers 5 _ (by decide +kernel) fun t hf y => ?_
  blk_simp
  rw [after0_5]
  idx_vars y
  refine (out_m (b0 m c t) (b1 m c t) (b2 m c t) (b3 m c t) y0 y1).trans ?_
  rw [blk0, blk2]
  refine Eq.trans (b := moms (a0 m c) (a2 m c) (ix2 y0 y1)) rfl (congrArg (moms (a0 m c) (a2 m c)) ?_)
  blk_ext! [(index0 t).2.2.1]
theorem arr6 : (dats m 0 c).arrAt 6 cfg0.N = sqrs (a0 m c) (a3 m c) := by
  refine (dats m 0 c).arrAt_eq_of_covers 6 _ (by decide +kernel) fun t hf y => ?_
  blk_simp
  rw [after0_6]
  idx_vars y
  refine (out_v (b0 m c t) (b1 m c t) (b2 m c t) (b3 m c t) y0 y1).trans ?_
  rw [blk0, blk3]
  refine Eq.trans (b := sqrs (a0 m c) (a3 m c) (ix2 y0 y1)) rfl (congrArg (sqrs (a0 m c) (a3 m c)) ?_)
  blk_ext! [(index0 t).2.2.2]

section Reference
open Cert.ReferenceUpdateSmallIdeal.Read
variable (x w y z : Vec Ideal S696x128 .f32)

theorem ref5 : val_main_v4 (F := Ideal) x y = moms x y := by
  funext i
  idx_vars i
  pointwise [val_main_v4, val_main_v3, val_main_v2, val_main_v1, val_main_v0, val_main_cst, val_main_cst_0]
  rfl
theorem ref6 : val_main_v10 (F := Ideal) x z = sqrs x z := by
  funext i
  idx_vars i
  pointwise [val_main_v10, val_main_v9, val_main_v8, val_main_v7, val_main_v6, val_main_v5, val_main_cst_1, val_main_cst_2]
  rfl
theorem ref4 : val_main_v23 (F := Ideal) x w y z = chgs x w y z := by
  funext i
  idx_vars i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
  rw [ref5, ref6]
  rfl

end Reference

/-! ## The statements -/

theorem frame_kernel : Cert.quiescent_KernelUpdateSmall (hKernelUpdateSmall := Cert.KernelUpdateSmall.Gen.facts) :=
  fun m ρ _ => Cert.KernelUpdateSmall.Gen.frame m ρ
theorem frame_kernel_ideal : Cert.quiescent_KernelUpdateSmallIdeal (hKernelUpdateSmallIdeal := Cert.KernelUpdateSmallIdeal.Gen.facts) :=
  fun m ρ _ => Cert.KernelUpdateSmallIdeal.Gen.frame m ρ
theorem frame_reference : Cert.quiescent_ReferenceUpdateSmallIdeal (hReferenceUpdateSmallIdeal := Cert.ReferenceUpdateSmallIdeal.Gen.facts) :=
  fun m ρ _ => (θ_run _ _ _).mono (fun r h => ⟨fun c => (h c).2.2.2, sem_eq_zero_of_no_sems rfl r.2⟩)
    (Cert.ReferenceUpdateSmallIdeal.Value.run m ρ)

theorem equal : Cert.algebraic_KernelUpdateSmallIdeal_ReferenceUpdateSmallIdeal (hKernelUpdateSmallIdeal := Cert.KernelUpdateSmallIdeal.Gen.facts)
    (hReferenceUpdateSmallIdeal := Cert.ReferenceUpdateSmallIdeal.Gen.facts) := by
  intro m g m' g' _ hagree
  refine ⟨fun c => chgs (a0 m c) (a1 m c) (a2 m c) (a3 m c), fun c => moms (a0 m c) (a2 m c), fun c => sqrs (a0 m c) (a3 m c), ?_, ?_⟩
  · exact (θ_run _ _ _).mono (fun r h c => ⟨(h c).1.trans (arr4 m c), (h c).2.1.trans (arr5 m c), (h c).2.2.1.trans (arr6 m c),
      (h c).2.2.2⟩) (Cert.KernelUpdateSmallIdeal.Value.run_blocks m g)
  · refine (θ_run _ _ _).mono (fun r h c => ?_) (Cert.ReferenceUpdateSmallIdeal.Value.run m' g')
    obtain ⟨h0, h1, h2, h3⟩ := hagree c
    refine ⟨(h c).1.trans ?_, (h c).2.1.trans ?_, (h c).2.2.1.trans ?_, (h c).2.2.2⟩
    · rw [Cert.ReferenceUpdateSmallIdeal.Read.val_main_v23_eq, h0, h1, h2, h3]
      exact ref4 _ _ _ _
    · rw [Cert.ReferenceUpdateSmallIdeal.Read.val_main_v4_eq, h0, h2]
      exact ref5 _ _
    · rw [Cert.ReferenceUpdateSmallIdeal.Read.val_main_v10_eq, h0, h3]
      exact ref6 _ _

end Cert.UpdateSmall

end
-- ==== Proof.InFwd.lean ====
module

public import proofs.«01_k».proof.Defs
public import proofs.«01_k».proof.Proof.Product
public import proofs.«01_k».proof.Proof.Gen.KernelInFwd.Frame
public import proofs.«01_k».proof.Proof.Gen.KernelInFwdIdeal.Frame
public import proofs.«01_k».proof.Proof.Gen.KernelInFwdIdeal.Value
public import proofs.«01_k».proof.Proof.Gen.ReferenceInFwdIdeal.Read
public import proofs.«01_k».proof.Proof.Gen.ReferenceInFwdIdeal.Run
public import Idealize.ShloMosaic.Lib.Pipeline.ValueKit
public import Idealize.ShloMosaic.Lib.Quiescent
public import Idealize.ShloMosaic.Lib.Tactic

/-!
The input projection: rows of its input against rows of the transposed weight. Both programs
end with that product.
-/

@[expose] public section

set_option maxRecDepth 16384

noncomputable section

namespace Cert.InFwd

open Idealize.ShloMosaic Idealize.ShloMosaic.TcCoe Idealize.ShloMosaic.Tactic Idealize.SL.Sem
open Cert.KernelInFwdIdeal Cert.KernelInFwdIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S5376x2048 .bf16 := m ((c : Thread nD τ).loc main_arg1)
abbrev b0 : Vec Ideal S1024x2048 .bf16 := iblk m c 0 t
abbrev b1 : Vec Ideal S768x2048 .bf16 := iblk m c 1 t

theorem out_at (r : Fin 1024) (l : Fin 768) : outsAt0 m c t (ix2 r l) = rowsRows (b0 m c t) (b1 m c t) (ix2 r l) := by
  unfold outsAt0
  frame_out
  rw [rowsRows_at]
  pointwise [k0_pay2, k0_pay1]

/-- Each window's block at a point. -/
theorem index0 : ∀ t : Fin cfg0.N, win0_0.index t = ![t.val / 7, 0] ∧ win0_1.index t = ![t.val % 7, 0]
    ∧ win0_2.index t = ![t.val / 7, t.val % 7] := by decide +kernel

abbrev row (r : Fin 1024) : Fin 4096 := ⟨t.val / 7 * 1024 + r.val, by have : t.val < 28 := t.isLt; omega⟩
abbrev col (l : Fin 768) : Fin 5376 := ⟨t.val % 7 * 768 + l.val, by have : t.val < 28 := t.isLt; omega⟩

theorem blk0 (r : Fin 1024) (k : Fin 2048) : b0 m c t (ix2 r k) = a0 m c (ix2 (row t r) k) := by
  blk_ext! [iblk, V, (index0 t).1]
theorem blk1 (l : Fin 768) (k : Fin 2048) : b1 m c t (ix2 l k) = a1 m c (ix2 (col t l) k) := by
  blk_ext! [iblk, V, (index0 t).2.1]

/-- The kernel's result. -/
theorem arr : (dats m 0 c).arrAt 2 cfg0.N = rowsRows (a0 m c) (a1 m c) := by
  refine (dats m 0 c).arrAt_eq_of_covers 2 _ (by decide +kernel) fun t hf y => ?_
  blk_simp
  rw [after0_2]
  idx_vars y
  refine (out_at m c t _ _).trans ((rowsRows_block (blk0 m c t) (blk1 m c t) _ _).trans (congrArg (rowsRows (a0 m c) (a1 m c)) ?_))
  blk_ext! [(index0 t).2.2]

/-- The reference's result. -/
theorem ref (x0 : Vec Ideal S4096x2048 .bf16) (x1 : Vec Ideal S5376x2048 .bf16) :
    Cert.ReferenceInFwdIdeal.Read.val_main_v3 (F := Ideal) x0 x1 = rowsRows x0 x1 := by
  funext y
  idx_vars y
  rw [rowsRows_at]
  pointwise [Cert.ReferenceInFwdIdeal.Read.val_main_v3, Cert.ReferenceInFwdIdeal.Read.val_main_v2, Cert.ReferenceInFwdIdeal.Read.val_main_v1,
    Cert.ReferenceInFwdIdeal.Read.val_main_v0]

theorem frame_kernel : Cert.quiescent_KernelInFwd (hKernelInFwd := Cert.KernelInFwd.Gen.facts) :=
  fun m ρ _ => Cert.KernelInFwd.Gen.frame m ρ
theorem frame_kernel_ideal : Cert.quiescent_KernelInFwdIdeal (hKernelInFwdIdeal := Cert.KernelInFwdIdeal.Gen.facts) :=
  fun m ρ _ => Cert.KernelInFwdIdeal.Gen.frame m ρ
theorem frame_reference : Cert.quiescent_ReferenceInFwdIdeal (hReferenceInFwdIdeal := Cert.ReferenceInFwdIdeal.Gen.facts) :=
  fun m ρ _ => (θ_run _ _ _).mono (fun r h => ⟨fun c => ⟨(h c).2.1, (h c).2.2⟩, sem_eq_zero_of_no_sems rfl r.2⟩)
    (Cert.ReferenceInFwdIdeal.Value.run m ρ)

theorem equal : Cert.algebraic_KernelInFwdIdeal_ReferenceInFwdIdeal (hKernelInFwdIdeal := Cert.KernelInFwdIdeal.Gen.facts)
    (hReferenceInFwdIdeal := Cert.ReferenceInFwdIdeal.Gen.facts) := by
  intro m g m' g' _ hagree
  refine ⟨fun c => rowsRows (a0 m c) (a1 m c), ?_, ?_⟩
  · exact (θ_run _ _ _).mono (fun r h c => ⟨(h c).1.trans (arr m c), (h c).2⟩) (Cert.KernelInFwdIdeal.Value.run_blocks m g)
  · refine (θ_run _ _ _).mono (fun r h c => ⟨(h c).1.trans ?_, (h c).2⟩) (Cert.ReferenceInFwdIdeal.Value.run m' g')
    rw [Cert.ReferenceInFwdIdeal.Read.val_main_v3_eq]
    exact (ref _ _).trans (congrArg₂ rowsRows (hagree c).1 (hagree c).2)

end Cert.InFwd

end
-- ==== Proof.OutFwd.lean ====
module

public import proofs.«01_k».proof.Defs
public import proofs.«01_k».proof.Proof.Product
public import proofs.«01_k».proof.Proof.Gen.KernelOutFwd.Frame
public import proofs.«01_k».proof.Proof.Gen.KernelOutFwdIdeal.Frame
public import proofs.«01_k».proof.Proof.Gen.KernelOutFwdIdeal.Value
public import proofs.«01_k».proof.Proof.Gen.ReferenceOutFwdIdeal.Read
public import proofs.«01_k».proof.Proof.Gen.ReferenceOutFwdIdeal.Run
public import Idealize.ShloMosaic.Lib.Pipeline.ValueKit
public import Idealize.ShloMosaic.Lib.Quiescent
public import Idealize.ShloMosaic.Lib.Tactic

/-!
The output projection, added to the stream it continues. Both programs end with that sum.
-/

@[expose] public section

set_option maxRecDepth 16384

noncomputable section

namespace Cert.OutFwd

open Idealize.ShloMosaic Idealize.ShloMosaic.TcCoe Idealize.ShloMosaic.Tactic Idealize.SL.Sem
open Cert.KernelOutFwdIdeal Cert.KernelOutFwdIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S2048x2048 .bf16 := m ((c : Thread nD τ).loc main_arg1)
abbrev a2 : Vec Ideal S4096x2048 .f32 := m ((c : Thread nD τ).loc main_arg2)
abbrev b0 : Vec Ideal S1024x2048 .bf16 := iblk m c 0 t
abbrev b1 : Vec Ideal S2048x1024 .bf16 := iblk m c 1 t
abbrev b2 : Vec Ideal S1024x1024 .f32 := iblk m c 2 t

/-- The product added to the stream. -/
def added (x : Vec Ideal S4096x2048 .bf16) (w : Vec Ideal S2048x2048 .bf16) (z : Vec Ideal S4096x2048 .f32) : Vec Ideal S4096x2048 .f32 :=
  fun y => z y + rowsCols x w y

theorem out_at (r l : Fin 1024) : outsAt0 m c t (ix2 r l) = b2 m c t (ix2 r l) + rowsCols (b0 m c t) (b1 m c t) (ix2 r l) := by
  unfold outsAt0
  frame_out
  rw [rowsCols_at]
  pointwise [k0_pay3, k0_pay2, k0_pay1]

/-- Each window's block at a point. -/
theorem index0 : ∀ t : Fin cfg0.N, win0_0.index t = ![t.val / 2, 0] ∧ win0_1.index t = ![0, t.val % 2]
    ∧ win0_2.index t = ![t.val / 2, t.val % 2] ∧ win0_3.index t = ![t.val / 2, t.val % 2] := by decide +kernel

abbrev row (r : Fin 1024) : Fin 4096 := ⟨t.val / 2 * 1024 + r.val, by have : t.val < 8 := t.isLt; omega⟩
abbrev col (l : Fin 1024) : Fin 2048 := ⟨t.val % 2 * 1024 + l.val, by have : t.val < 8 := t.isLt; omega⟩

theorem blk0 (r : Fin 1024) (k : Fin 2048) : b0 m c t (ix2 r k) = a0 m c (ix2 (row t r) k) := by
  blk_ext! [iblk, V, (index0 t).1]
theorem blk1 (k : Fin 2048) (l : Fin 1024) : b1 m c t (ix2 k l) = a1 m c (ix2 k (col t l)) := by
  blk_ext! [iblk, V, (index0 t).2.1]
theorem blk2 (r l : Fin 1024) : b2 m c t (ix2 r l) = a2 m c (ix2 (row t r) (col t l)) := by
  blk_ext! [iblk, V, (index0 t).2.2.1]

/-- The kernel's result. -/
theorem arr : (dats m 0 c).arrAt 3 cfg0.N = added (a0 m c) (a1 m c) (a2 m c) := by
  refine (dats m 0 c).arrAt_eq_of_covers 3 _ (by decide +kernel) fun t hf y => ?_
  blk_simp
  rw [after0_3]
  idx_vars y
  refine (out_at m c t _ _).trans ((congrArg₂ (· + ·) (blk2 m c t _ _) (rowsCols_block (blk0 m c t) (blk1 m c t) _ _)).trans
    (congrArg (added (a0 m c) (a1 m c) (a2 m c)) ?_))
  blk_ext! [(index0 t).2.2.2]

/-- The reference's result. -/
theorem ref (x0 : Vec Ideal S4096x2048 .bf16) (x1 : Vec Ideal S2048x2048 .bf16) (x2 : Vec Ideal S4096x2048 .f32) :
    Cert.ReferenceOutFwdIdeal.Read.val_main_v3 (F := Ideal) x0 x1 x2 = added x0 x1 x2 := by
  funext y
  idx_vars y
  rw [added, rowsCols_at]
  pointwise [Cert.ReferenceOutFwdIdeal.Read.val_main_v3, Cert.ReferenceOutFwdIdeal.Read.val_main_v2, Cert.ReferenceOutFwdIdeal.Read.val_main_v1,
    Cert.ReferenceOutFwdIdeal.Read.val_main_v0]

theorem frame_kernel : Cert.quiescent_KernelOutFwd (hKernelOutFwd := Cert.KernelOutFwd.Gen.facts) :=
  fun m ρ _ => Cert.KernelOutFwd.Gen.frame m ρ
theorem frame_kernel_ideal : Cert.quiescent_KernelOutFwdIdeal (hKernelOutFwdIdeal := Cert.KernelOutFwdIdeal.Gen.facts) :=
  fun m ρ _ => Cert.KernelOutFwdIdeal.Gen.frame m ρ
theorem frame_reference : Cert.quiescent_ReferenceOutFwdIdeal (hReferenceOutFwdIdeal := Cert.ReferenceOutFwdIdeal.Gen.facts) :=
  fun m ρ _ => (θ_run _ _ _).mono (fun r h => ⟨fun c => (h c).2, sem_eq_zero_of_no_sems rfl r.2⟩)
    (Cert.ReferenceOutFwdIdeal.Value.run m ρ)

theorem equal : Cert.algebraic_KernelOutFwdIdeal_ReferenceOutFwdIdeal (hKernelOutFwdIdeal := Cert.KernelOutFwdIdeal.Gen.facts)
    (hReferenceOutFwdIdeal := Cert.ReferenceOutFwdIdeal.Gen.facts) := by
  intro m g m' g' _ hagree
  refine ⟨fun c => added (a0 m c) (a1 m c) (a2 m c), ?_, ?_⟩
  · exact (θ_run _ _ _).mono (fun r h c => ⟨(h c).1.trans (arr m c), (h c).2⟩) (Cert.KernelOutFwdIdeal.Value.run_blocks m g)
  · refine (θ_run _ _ _).mono (fun r h c => ⟨(h c).1.trans ?_, (h c).2⟩) (Cert.ReferenceOutFwdIdeal.Value.run m' g')
    rw [Cert.ReferenceOutFwdIdeal.Read.val_main_v3_eq]
    refine (ref _ _ _).trans ?_
    exact (congrArg₂ (fun x w => added x w _) (hagree c).1 (hagree c).2.1).trans (congrArg (added _ _) (hagree c).2.2)

end Cert.OutFwd

end
-- ==== Proof.UpFwd.lean ====
module

public import proofs.«01_k».proof.Defs
public import proofs.«01_k».proof.Proof.Product
public import proofs.«01_k».proof.Proof.Gen.KernelUpFwd.Frame
public import proofs.«01_k».proof.Proof.Gen.KernelUpFwdIdeal.Frame
public import proofs.«01_k».proof.Proof.Gen.KernelUpFwdIdeal.Value
public import proofs.«01_k».proof.Proof.Gen.ReferenceUpFwdIdeal.Read
public import proofs.«01_k».proof.Proof.Gen.ReferenceUpFwdIdeal.Run
public import Idealize.ShloMosaic.Lib.Pipeline.ValueKit
public import Idealize.ShloMosaic.Lib.Quiescent
public import Idealize.ShloMosaic.Lib.Tactic

/-!
The up projection: rows of its input against rows of the transposed weight. Both programs
end with that product.
-/

@[expose] public section

set_option maxRecDepth 16384

noncomputable section

namespace Cert.UpFwd

open Idealize.ShloMosaic Idealize.ShloMosaic.TcCoe Idealize.ShloMosaic.Tactic Idealize.SL.Sem
open Cert.KernelUpFwdIdeal Cert.KernelUpFwdIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S11264x2048 .bf16 := m ((c : Thread nD τ).loc main_arg1)
abbrev b0 : Vec Ideal S1024x2048 .bf16 := iblk m c 0 t
abbrev b1 : Vec Ideal S1024x2048 .bf16 := iblk m c 1 t

theorem out_at (r : Fin 1024) (l : Fin 1024) : outsAt0 m c t (ix2 r l) = rowsRows (b0 m c t) (b1 m c t) (ix2 r l) := by
  unfold outsAt0
  frame_out
  rw [rowsRows_at]
  pointwise [k0_pay2, k0_pay1]

/-- Each window's block at a point. -/
theorem index0 : ∀ t : Fin cfg0.N, win0_0.index t = ![t.val / 11, 0] ∧ win0_1.index t = ![t.val % 11, 0]
    ∧ win0_2.index t = ![t.val / 11, t.val % 11] := by decide +kernel

abbrev row (r : Fin 1024) : Fin 4096 := ⟨t.val / 11 * 1024 + r.val, by have : t.val < 44 := t.isLt; omega⟩
abbrev col (l : Fin 1024) : Fin 11264 := ⟨t.val % 11 * 1024 + l.val, by have : t.val < 44 := t.isLt; omega⟩

theorem blk0 (r : Fin 1024) (k : Fin 2048) : b0 m c t (ix2 r k) = a0 m c (ix2 (row t r) k) := by
  blk_ext! [iblk, V, (index0 t).1]
theorem blk1 (l : Fin 1024) (k : Fin 2048) : b1 m c t (ix2 l k) = a1 m c (ix2 (col t l) k) := by
  blk_ext! [iblk, V, (index0 t).2.1]

/-- The kernel's result. -/
theorem arr : (dats m 0 c).arrAt 2 cfg0.N = rowsRows (a0 m c) (a1 m c) := by
  refine (dats m 0 c).arrAt_eq_of_covers 2 _ (by decide +kernel) fun t hf y => ?_
  blk_simp
  rw [after0_2]
  idx_vars y
  refine (out_at m c t _ _).trans ((rowsRows_block (blk0 m c t) (blk1 m c t) _ _).trans (congrArg (rowsRows (a0 m c) (a1 m c)) ?_))
  blk_ext! [(index0 t).2.2]

/-- The reference's result. -/
theorem ref (x0 : Vec Ideal S4096x2048 .bf16) (x1 : Vec Ideal S11264x2048 .bf16) :
    Cert.ReferenceUpFwdIdeal.Read.val_main_v3 (F := Ideal) x0 x1 = rowsRows x0 x1 := by
  funext y
  idx_vars y
  rw [rowsRows_at]
  pointwise [Cert.ReferenceUpFwdIdeal.Read.val_main_v3, Cert.ReferenceUpFwdIdeal.Read.val_main_v2, Cert.ReferenceUpFwdIdeal.Read.val_main_v1,
    Cert.ReferenceUpFwdIdeal.Read.val_main_v0]

theorem frame_kernel : Cert.quiescent_KernelUpFwd (hKernelUpFwd := Cert.KernelUpFwd.Gen.facts) :=
  fun m ρ _ => Cert.KernelUpFwd.Gen.frame m ρ
theorem frame_kernel_ideal : Cert.quiescent_KernelUpFwdIdeal (hKernelUpFwdIdeal := Cert.KernelUpFwdIdeal.Gen.facts) :=
  fun m ρ _ => Cert.KernelUpFwdIdeal.Gen.frame m ρ
theorem frame_reference : Cert.quiescent_ReferenceUpFwdIdeal (hReferenceUpFwdIdeal := Cert.ReferenceUpFwdIdeal.Gen.facts) :=
  fun m ρ _ => (θ_run _ _ _).mono (fun r h => ⟨fun c => ⟨(h c).2.1, (h c).2.2⟩, sem_eq_zero_of_no_sems rfl r.2⟩)
    (Cert.ReferenceUpFwdIdeal.Value.run m ρ)

theorem equal : Cert.algebraic_KernelUpFwdIdeal_ReferenceUpFwdIdeal (hKernelUpFwdIdeal := Cert.KernelUpFwdIdeal.Gen.facts)
    (hReferenceUpFwdIdeal := Cert.ReferenceUpFwdIdeal.Gen.facts) := by
  intro m g m' g' _ hagree
  refine ⟨fun c => rowsRows (a0 m c) (a1 m c), ?_, ?_⟩
  · exact (θ_run _ _ _).mono (fun r h c => ⟨(h c).1.trans (arr m c), (h c).2⟩) (Cert.KernelUpFwdIdeal.Value.run_blocks m g)
  · refine (θ_run _ _ _).mono (fun r h c => ⟨(h c).1.trans ?_, (h c).2⟩) (Cert.ReferenceUpFwdIdeal.Value.run m' g')
    rw [Cert.ReferenceUpFwdIdeal.Read.val_main_v3_eq]
    exact (ref _ _).trans (congrArg₂ rowsRows (hagree c).1 (hagree c).2)

end Cert.UpFwd

end
-- ==== Proof.DownFwd.lean ====
module

public import proofs.«01_k».proof.Defs
public import proofs.«01_k».proof.Proof.Product
public import proofs.«01_k».proof.Proof.Gen.KernelDownFwd.Frame
public import proofs.«01_k».proof.Proof.Gen.KernelDownFwdIdeal.Frame
public import proofs.«01_k».proof.Proof.Gen.KernelDownFwdIdeal.Value
public import proofs.«01_k».proof.Proof.Gen.ReferenceDownFwdIdeal.Read
public import proofs.«01_k».proof.Proof.Gen.ReferenceDownFwdIdeal.Run
public import Idealize.ShloMosaic.Lib.Pipeline.ValueKit
public import Idealize.ShloMosaic.Lib.Quiescent
public import Idealize.ShloMosaic.Lib.Tactic

/-!
The down projection, added to the stream it continues. The kernel takes the sum in two steps, kept in a scratch
buffer between them; both programs end with the one sum.
-/

@[expose] public section

set_option maxRecDepth 16384

noncomputable section

namespace Cert.DownFwd

open Idealize.ShloMosaic Idealize.ShloMosaic.TcCoe Idealize.ShloMosaic.Tactic Idealize.SL.Sem
open Cert.KernelDownFwdIdeal Cert.KernelDownFwdIdeal.Gen Cert.Product

variable (m : (ℓ : Loc nD τ sig) → Buf (Elt Ideal) ℓ) (c : Dev nD) (t : Fin cfg0.N)

/-- The arguments, and the blocks of them a point reads. -/
abbrev a0 : Vec Ideal S4096x5632 .bf16 := m ((c : Thread nD τ).loc main_arg0)
abbrev a1 : Vec Ideal S5632x2048 .bf16 := m ((c : Thread nD τ).loc main_arg1)
abbrev a2 : Vec Ideal S4096x2048 .f32 := m ((c : Thread nD τ).loc main_arg2)
abbrev b0 : Vec Ideal S1024x2816 .bf16 := iblk m c 0 t
abbrev b1 : Vec Ideal S2816x1024 .bf16 := iblk m c 1 t
abbrev b2 : Vec Ideal S1024x1024 .f32 := iblk m c 2 t

/-- The product added to the stream. -/
def added (x : Vec Ideal S4096x5632 .bf16) (w : Vec Ideal S5632x2048 .bf16) (z : Vec Ideal S4096x2048 .f32) : Vec Ideal S4096x2048 .f32 :=
  fun y => z y + rowsCols x w y

/-- What the scratch buffer holds after a point, and what the point before left in it. -/
abbrev kept : Vec Ideal S1024x1024 .f32 := (outsAt0 m c t.val t.isLt).2
abbrev before : Vec Ideal S1024x1024 .f32 := (outsAt0 m c (t.val - 1) (Nat.lt_of_le_of_lt (Nat.sub_le _ _) t.isLt)).2

/-- The first of two points leaves its own product; -/
theorem first_at (h : t.val % 2 = 0) (r l : Fin 1024) : kept m c t (ix2 r l) = rowsCols (b0 m c t) (b1 m c t) (ix2 r l) := by
  unfold kept
  rw [outsAt0_A m c t h (by omega)]
  frame_out
  rw [rowsCols_at]
  pointwise [k0_pay2, k0_pay1]
/-- the second adds its own to it and both to the stream. -/
theorem last_at (h : t.val % 2 = 1) (r l : Fin 1024) :
    (outsAt0 m c t.val t.isLt).1 (ix2 r l)
      = b2 m c t (ix2 r l) + (before m c t (ix2 r l) + rowsCols (b0 m c t) (b1 m c t) (ix2 r l)) := by
  rw [outsAt0_B m c t (by omega) h]
  frame_out
  rw [rowsCols_at]
  pointwise [k0_pay3, k0_pay2]
  exact congrArg₂ (· + ·) rfl (congrArg₂ (· + ·) (congrFun ((Memref.isWhole_whole _).read_unread _) _) rfl)

/-- Each window's block at a point. -/
theorem index0 : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := by decide +kernel

theorem lt : t.val < 16 := t.isLt
abbrev row (r : Fin 1024) : Fin 4096 := ⟨t.val / 4 * 1024 + r.val, by have := lt t; omega⟩
abbrev col (l : Fin 1024) : Fin 2048 := ⟨t.val / 2 % 2 * 1024 + l.val, by have := lt t; omega⟩
abbrev mid (k : Fin 2816) : Fin 5632 := ⟨t.val % 2 * 2816 + k.val, by have := lt t; omega⟩

theorem blk0 (r : Fin 1024) (k : Fin 2816) : b0 m c t (ix2 r k) = a0 m c (ix2 (row t r) (mid t k)) := by
  blk_ext! [iblk, V, (index0 t).1]
theorem blk1 (k : Fin 2816) (l : Fin 1024) : b1 m c t (ix2 k l) = a1 m c (ix2 (mid t k) (col t l)) := by
  blk_ext! [iblk, V, (index0 t).2.1]
theorem blk2 (r l : Fin 1024) : b2 m c t (ix2 r l) = a2 m c (ix2 (row t r) (col t l)) := by
  blk_ext! [iblk, V, (index0 t).2.2.1]

/-- One term of an entry's sum, and the share of the sum that step `s` takes. -/
def term (R : Fin 4096) (L : Fin 2048) (i : Fin 5632) : EReal := a0 m c (ix2 R i) * a1 m c (ix2 i L)
def share (R : Fin 4096) (L : Fin 2048) (s : Fin 2) : EReal := ∑ k : Fin 2816, term m c R L ⟨s.val * 2816 + k.val, by omega⟩

theorem share_at (s : Fin 2) (h : t.val % 2 = s.val) (r l : Fin 1024) (R : Fin 4096) (L : Fin 2048) (hR : R = row t r) (hL : L = col t l) :
    rowsCols (b0 m c t) (b1 m c t) (ix2 r l) = share m c R L s := by
  subst hR hL
  refine Finset.sum_congr rfl fun k _ => ?_
  refine (congrArg₂ (· * ·) (blk0 m c t r k) (blk1 m c t k l)).trans (congrArg (term m c (row t r) (col t l)) (Fin.ext ?_))
  show t.val % 2 * 2816 + k.val = s.val * 2816 + k.val
  rw [h]

/-- What the second of two points writes: the whole sum. -/
theorem out_at (h : t.val % 2 = 1) (r l : Fin 1024) :
    (outsAt0 m c t.val t.isLt).1 (ix2 r l) = added (a0 m c) (a1 m c) (a2 m c) (ix2 (row t r) (col t l)) := by
  have ht := lt t
  obtain ⟨n, hn⟩ : ∃ n, t.val = n + 1 := ⟨t.val - 1, by omega⟩
  obtain ⟨v, hv⟩ := t
  dsimp only at hn h ht
  subst hn
  rw [last_at m c ⟨n + 1, hv⟩ h]
  have e0 := first_at m c ⟨n, by omega⟩ (by dsimp only; omega) r l
  have s0 := share_at m c ⟨n, by omega⟩ 0 (by dsimp only; omega) r l (row ⟨n + 1, hv⟩ r) (col ⟨n + 1, hv⟩ l) (Fin.ext (by dsimp only; omega)) (Fin.ext (by dsimp only; omega))
  have s1 := share_at m c ⟨n + 1, hv⟩ 1 (by dsimp only; omega) r l (row ⟨n + 1, hv⟩ r) (col ⟨n + 1, hv⟩ l) rfl rfl
  have whole : rowsCols (a0 m c) (a1 m c) (ix2 (row ⟨n + 1, hv⟩ r) (col ⟨n + 1, hv⟩ l))
      = ∑ s : Fin 2, share m c (row ⟨n + 1, hv⟩ r) (col ⟨n + 1, hv⟩ l) s :=
    sum_steps (S := 2) (K := 2816) (term m c (row ⟨n + 1, hv⟩ r) (col ⟨n + 1, hv⟩ l)) _ fun s k i hi => congrArg _ (Fin.ext hi)
  rw [added, whole, Fin.sum_univ_two, ← s0, ← s1, ← e0]
  exact congrArg (· + _) (blk2 m c ⟨n + 1, hv⟩ r l)

/-- The kernel's result. -/
theorem arr : (dats m 0 c).arrAt 3 cfg0.N = added (a0 m c) (a1 m c) (a2 m c) := by
  refine (dats m 0 c).arrAt_eq_of_covers 3 _ (by decide +kernel) fun t hf y => ?_
  blk_simp
  rw [after0_3]
  idx_vars y
  refine (out_at m c t ((flush0_3 t).mp hf) _ _).trans (congrArg (added (a0 m c) (a1 m c) (a2 m c)) ?_)
  blk_ext! [(index0 t).2.2.2]

/-- The reference's result. -/
theorem ref (x0 : Vec Ideal S4096x5632 .bf16) (x1 : Vec Ideal S5632x2048 .bf16) (x2 : Vec Ideal S4096x2048 .f32) :
    Cert.ReferenceDownFwdIdeal.Read.val_main_v3 (F := Ideal) x0 x1 x2 = added x0 x1 x2 := by
  funext y
  idx_vars y
  rw [added, rowsCols_at]
  pointwise [Cert.ReferenceDownFwdIdeal.Read.val_main_v3, Cert.ReferenceDownFwdIdeal.Read.val_main_v2, Cert.ReferenceDownFwdIdeal.Read.val_main_v1,
    Cert.ReferenceDownFwdIdeal.Read.val_main_v0]

theorem frame_kernel : Cert.quiescent_KernelDownFwd (hKernelDownFwd := Cert.KernelDownFwd.Gen.facts) :=
  fun m ρ _ => Cert.KernelDownFwd.Gen.frame m ρ
theorem frame_kernel_ideal : Cert.quiescent_KernelDownFwdIdeal (hKernelDownFwdIdeal := Cert.KernelDownFwdIdeal.Gen.facts) :=
  fun m ρ _ => Cert.KernelDownFwdIdeal.Gen.frame m ρ
theorem frame_reference : Cert.quiescent_ReferenceDownFwdIdeal (hReferenceDownFwdIdeal := Cert.ReferenceDownFwdIdeal.Gen.facts) :=
  fun m ρ _ => (θ_run _ _ _).mono (fun r h => ⟨fun c => (h c).2, sem_eq_zero_of_no_sems rfl r.2⟩)
    (Cert.ReferenceDownFwdIdeal.Value.run m ρ)

theorem equal : Cert.algebraic_KernelDownFwdIdeal_ReferenceDownFwdIdeal (hKernelDownFwdIdeal := Cert.KernelDownFwdIdeal.Gen.facts)
    (hReferenceDownFwdIdeal := Cert.ReferenceDownFwdIdeal.Gen.facts) := by
  intro m g m' g' _ hagree
  refine ⟨fun c => added (a0 m c) (a1 m c) (a2 m c), ?_, ?_⟩
  · exact (θ_run _ _ _).mono (fun r h c => ⟨(h c).1.trans (arr m c), (h c).2⟩) (Cert.KernelDownFwdIdeal.Value.run_blocks m g)
  · refine (θ_run _ _ _).mono (fun r h c => ⟨(h c).1.trans ?_, (h c).2⟩) (Cert.ReferenceDownFwdIdeal.Value.run m' g')
    rw [Cert.ReferenceDownFwdIdeal.Read.val_main_v3_eq]
    refine (ref _ _ _).trans ?_
    exact (congrArg₂ (fun x w => added x w _) (hagree c).1 (hagree c).2.1).trans (congrArg (added _ _) (hagree c).2.2)

end Cert.DownFwd

end
-- ==== Proof.InDw.lean ====
module

public import proofs.«01_k».proof.Defs
public import proofs.«01_k».proof.Proof.Product
public import proofs.«01_k».proof.Proof.Gen.KernelInDw.Frame
public import proofs.«01_k».proof.Proof.Gen.KernelInDwIdeal.Frame
public import proofs.«01_k».proof.Proof.Gen.KernelInDwIdeal.Value
public import proofs.«01_k».proof.Proof.Gen.ReferenceInDwIdeal.Read
public import proofs.«01_k».proof.Proof.Gen.ReferenceInDwIdeal.Run
public import Idealize.ShloMosaic.Lib.Pipeline.ValueKit
public import Idealize.ShloMosaic.Lib.Quiescent
public import Idealize.ShloMosaic.Lib.Tactic

/-!
The input projection's weight gradient, transposed: columns of the incoming gradient against columns of its input. Both programs
end with that product.
-/

@[expose] public section

set_option maxRecDepth 16384

noncomputable section

namespace Cert.InDw

open Idealize.ShloMosaic Idealize.ShloMosaic.TcCoe Idealize.ShloMosaic.Tactic Idealize.SL.Sem
open Cert.KernelInDwIdeal Cert.KernelInDwIdeal.Gen Cert.Product

variable (m : (ℓ : Loc nD τ sig) → Buf (Elt Ideal) ℓ) (c : Dev nD) (t : Fin cfg0.N)

/-- The arguments, and the blocks of them a point reads. -/
abbrev a0 : Vec Ideal S4096x5376 .bf16 := m ((c : Thread nD τ).loc main_arg0)
abbrev a1 : Vec Ideal S4096x2048 .bf16 := m ((c : Thread nD τ).loc main_arg1)
abbrev b0 : Vec Ideal S4096x896 .bf16 := iblk m c 0 t
abbrev b1 : Vec Ideal S4096x1024 .bf16 := iblk m c 1 t

theorem out_at (r : Fin 896) (l : Fin 1024) : outsAt0 m c t (ix2 r l) = colsCols (b0 m c t) (b1 m c t) (ix2 r l) := by
  unfold outsAt0
  frame_out
  rw [colsCols_at]
  pointwise [k0_pay3, k0_pay2, k0_pay1]

/-- Each window's block at a point. -/
theorem index0 : ∀ t : Fin cfg0.N, win0_0.index t = ![0, t.val / 2] ∧ win0_1.index t = ![0, t.val % 2]
    ∧ win0_2.index t = ![t.val / 2, t.val % 2] := by decide +kernel

abbrev row (r : Fin 896) : Fin 5376 := ⟨t.val / 2 * 896 + r.val, by have : t.val < 12 := t.isLt; omega⟩
abbrev col (l : Fin 1024) : Fin 2048 := ⟨t.val % 2 * 1024 + l.val, by have : t.val < 12 := t.isLt; omega⟩

theorem blk0 (k : Fin 4096) (r : Fin 896) : b0 m c t (ix2 k r) = a0 m c (ix2 k (row t r)) := by
  blk_ext! [iblk, V, (index0 t).1]
theorem blk1 (k : Fin 4096) (l : Fin 1024) : b1 m c t (ix2 k l) = a1 m c (ix2 k (col t l)) := by
  blk_ext! [iblk, V, (index0 t).2.1]

/-- The kernel's result. -/
theorem arr : (dats m 0 c).arrAt 2 cfg0.N = colsCols (a0 m c) (a1 m c) := by
  refine (dats m 0 c).arrAt_eq_of_covers 2 _ (by decide +kernel) fun t hf y => ?_
  blk_simp
  rw [after0_2]
  idx_vars y
  refine (out_at m c t _ _).trans ((colsCols_block (blk0 m c t) (blk1 m c t) _ _).trans (congrArg (colsCols (a0 m c) (a1 m c)) ?_))
  blk_ext! [(index0 t).2.2]

/-- The reference's result. -/
theorem ref (x0 : Vec Ideal S4096x5376 .bf16) (x1 : Vec Ideal S4096x2048 .bf16) :
    Cert.ReferenceInDwIdeal.Read.val_main_v7 (F := Ideal) x0 x1 = colsCols x0 x1 := by
  funext y
  idx_vars y
  rw [colsCols_at]
  pointwise [Cert.ReferenceInDwIdeal.Read.val_main_v7, Cert.ReferenceInDwIdeal.Read.val_main_v6, Cert.ReferenceInDwIdeal.Read.val_main_v5, Cert.ReferenceInDwIdeal.Read.val_main_v4, Cert.ReferenceInDwIdeal.Read.val_main_v3, Cert.ReferenceInDwIdeal.Read.val_main_v1]

theorem frame_kernel : Cert.quiescent_KernelInDw (hKernelInDw := Cert.KernelInDw.Gen.facts) :=
  fun m ρ _ => Cert.KernelInDw.Gen.frame m ρ
theorem frame_kernel_ideal : Cert.quiescent_KernelInDwIdeal (hKernelInDwIdeal := Cert.KernelInDwIdeal.Gen.facts) :=
  fun m ρ _ => Cert.KernelInDwIdeal.Gen.frame m ρ
theorem frame_reference : Cert.quiescent_ReferenceInDwIdeal (hReferenceInDwIdeal := Cert.ReferenceInDwIdeal.Gen.facts) :=
  fun m ρ _ => (θ_run _ _ _).mono (fun r h => ⟨fun c => ⟨(h c).2.1, (h c).2.2⟩, sem_eq_zero_of_no_sems rfl r.2⟩)
    (Cert.ReferenceInDwIdeal.Value.run m ρ)

theorem equal : Cert.algebraic_KernelInDwIdeal_ReferenceInDwIdeal (hKernelInDwIdeal := Cert.KernelInDwIdeal.Gen.facts)
    (hReferenceInDwIdeal := Cert.ReferenceInDwIdeal.Gen.facts) := by
  intro m g m' g' _ hagree
  refine ⟨fun c => colsCols (a0 m c) (a1 m c), ?_, ?_⟩
  · exact (θ_run _ _ _).mono (fun r h c => ⟨(h c).1.trans (arr m c), (h c).2⟩) (Cert.KernelInDwIdeal.Value.run_blocks m g)
  · refine (θ_run _ _ _).mono (fun r h c => ⟨(h c).1.trans ?_, (h c).2⟩) (Cert.ReferenceInDwIdeal.Value.run m' g')
    rw [Cert.ReferenceInDwIdeal.Read.val_main_v7_eq]
    exact (ref _ _).trans (congrArg₂ colsCols (hagree c).1 (hagree c).2)

end Cert.InDw

end
-- ==== Proof.InDx.lean ====
module

public import proofs.«01_k».proof.Defs
public import proofs.«01_k».proof.Proof.Product
public import proofs.«01_k».proof.Proof.Gen.KernelInDx.Frame
public import proofs.«01_k».proof.Proof.Gen.KernelInDxIdeal.Frame
public import proofs.«01_k».proof.Proof.Gen.KernelInDxIdeal.Value
public import proofs.«01_k».proof.Proof.Gen.ReferenceInDxIdeal.Read
public import proofs.«01_k».proof.Proof.Gen.ReferenceInDxIdeal.Run
public import Idealize.ShloMosaic.Lib.Pipeline.ValueKit
public import Idealize.ShloMosaic.Lib.Quiescent
public import Idealize.ShloMosaic.Lib.Tactic

/-!
The input projection's input gradient: rows of the incoming gradient against columns of the transposed weight. Both programs
end with that product.
-/

@[expose] public section

set_option maxRecDepth 16384

noncomputable section

namespace Cert.InDx

open Idealize.ShloMosaic Idealize.ShloMosaic.TcCoe Idealize.ShloMosaic.Tactic Idealize.SL.Sem
open Cert.KernelInDxIdeal Cert.KernelInDxIdeal.Gen Cert.Product

variable (m : (ℓ : Loc nD τ sig) → Buf (Elt Ideal) ℓ) (c : Dev nD) (t : Fin cfg0.N)

/-- The arguments, and the blocks of them a point reads. -/
abbrev a0 : Vec Ideal S4096x5376 .bf16 := m ((c : Thread nD τ).loc main_arg0)
abbrev a1 : Vec Ideal S5376x2048 .bf16 := m ((c : Thread nD τ).loc main_arg1)
abbrev b0 : Vec Ideal S1024x5376 .bf16 := iblk m c 0 t
abbrev b1 : Vec Ideal S5376x512 .bf16 := iblk m c 1 t

theorem out_at (r : Fin 1024) (l : Fin 512) : outsAt0 m c t (ix2 r l) = rowsCols (b0 m c t) (b1 m c t) (ix2 r l) := by
  unfold outsAt0
  frame_out
  rw [rowsCols_at]
  pointwise [k0_pay2, k0_pay1]

/-- Each window's block at a point. -/
theorem index0 : ∀ t : Fin cfg0.N, win0_0.index t = ![t.val / 4, 0] ∧ win0_1.index t = ![0, t.val % 4]
    ∧ win0_2.index t = ![t.val / 4, t.val % 4] := by decide +kernel

abbrev row (r : Fin 1024) : Fin 4096 := ⟨t.val / 4 * 1024 + r.val, by have : t.val < 16 := t.isLt; omega⟩
abbrev col (l : Fin 512) : Fin 2048 := ⟨t.val % 4 * 512 + l.val, by have : t.val < 16 := t.isLt; omega⟩

theorem blk0 (r : Fin 1024) (k : Fin 5376) : b0 m c t (ix2 r k) = a0 m c (ix2 (row t r) k) := by
  blk_ext! [iblk, V, (index0 t).1]
theorem blk1 (k : Fin 5376) (l : Fin 512) : b1 m c t (ix2 k l) = a1 m c (ix2 k (col t l)) := by
  blk_ext! [iblk, V, (index0 t).2.1]

/-- The kernel's result. -/
theorem arr : (dats m 0 c).arrAt 2 cfg0.N = rowsCols (a0 m c) (a1 m c) := by
  refine (dats m 0 c).arrAt_eq_of_covers 2 _ (by decide +kernel) fun t hf y => ?_
  blk_simp
  rw [after0_2]
  idx_vars y
  refine (out_at m c t _ _).trans ((rowsCols_block (blk0 m c t) (blk1 m c t) _ _).trans (congrArg (rowsCols (a0 m c) (a1 m c)) ?_))
  blk_ext! [(index0 t).2.2]

/-- The reference's result. -/
theorem ref (x0 : Vec Ideal S4096x5376 .bf16) (x1 : Vec Ideal S5376x2048 .bf16) :
    Cert.ReferenceInDxIdeal.Read.val_main_v5 (F := Ideal) x0 x1 = rowsCols x0 x1 := by
  funext y
  idx_vars y
  rw [rowsCols_at]
  pointwise [Cert.ReferenceInDxIdeal.Read.val_main_v5, Cert.ReferenceInDxIdeal.Read.val_main_v4, Cert.ReferenceInDxIdeal.Read.val_main_v2, Cert.ReferenceInDxIdeal.Read.val_main_v0]

theorem frame_kernel : Cert.quiescent_KernelInDx (hKernelInDx := Cert.KernelInDx.Gen.facts) :=
  fun m ρ _ => Cert.KernelInDx.Gen.frame m ρ
theorem frame_kernel_ideal : Cert.quiescent_KernelInDxIdeal (hKernelInDxIdeal := Cert.KernelInDxIdeal.Gen.facts) :=
  fun m ρ _ => Cert.KernelInDxIdeal.Gen.frame m ρ
theorem frame_reference : Cert.quiescent_ReferenceInDxIdeal (hReferenceInDxIdeal := Cert.ReferenceInDxIdeal.Gen.facts) :=
  fun m ρ _ => (θ_run _ _ _).mono (fun r h => ⟨fun c => ⟨(h c).2.1, (h c).2.2⟩, sem_eq_zero_of_no_sems rfl r.2⟩)
    (Cert.ReferenceInDxIdeal.Value.run m ρ)

theorem equal : Cert.algebraic_KernelInDxIdeal_ReferenceInDxIdeal (hKernelInDxIdeal := Cert.KernelInDxIdeal.Gen.facts)
    (hReferenceInDxIdeal := Cert.ReferenceInDxIdeal.Gen.facts) := by
  intro m g m' g' _ hagree
  refine ⟨fun c => rowsCols (a0 m c) (a1 m c), ?_, ?_⟩
  · exact (θ_run _ _ _).mono (fun r h c => ⟨(h c).1.trans (arr m c), (h c).2⟩) (Cert.KernelInDxIdeal.Value.run_blocks m g)
  · refine (θ_run _ _ _).mono (fun r h c => ⟨(h c).1.trans ?_, (h c).2⟩) (Cert.ReferenceInDxIdeal.Value.run m' g')
    rw [Cert.ReferenceInDxIdeal.Read.val_main_v5_eq]
    exact (ref _ _).trans (congrArg₂ rowsCols (hagree c).1 (hagree c).2)

end Cert.InDx

end
-- ==== Proof.OutDw.lean ====
module

public import proofs.«01_k».proof.Defs
public import proofs.«01_k».proof.Proof.Product
public import proofs.«01_k».proof.Proof.Gen.KernelOutDw.Frame
public import proofs.«01_k».proof.Proof.Gen.KernelOutDwIdeal.Frame
public import proofs.«01_k».proof.Proof.Gen.KernelOutDwIdeal.Value
public import proofs.«01_k».proof.Proof.Gen.ReferenceOutDwIdeal.Read
public import proofs.«01_k».proof.Proof.Gen.ReferenceOutDwIdeal.Run
public import Idealize.ShloMosaic.Lib.Pipeline.ValueKit
public import Idealize.ShloMosaic.Lib.Quiescent
public import Idealize.ShloMosaic.Lib.Tactic

/-!
The output projection's weight gradient: columns of its input against columns of the incoming gradient. Both programs
end with that product.
-/

@[expose] public section

set_option maxRecDepth 16384

noncomputable section

namespace Cert.OutDw

open Idealize.ShloMosaic Idealize.ShloMosaic.TcCoe Idealize.ShloMosaic.Tactic Idealize.SL.Sem
open Cert.KernelOutDwIdeal Cert.KernelOutDwIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S4096x2048 .bf16 := m ((c : Thread nD τ).loc main_arg1)
abbrev b0 : Vec Ideal S4096x1024 .bf16 := iblk m c 0 t
abbrev b1 : Vec Ideal S4096x1024 .bf16 := iblk m c 1 t

theorem out_at (r : Fin 1024) (l : Fin 1024) : outsAt0 m c t (ix2 r l) = colsCols (b0 m c t) (b1 m c t) (ix2 r l) := by
  unfold outsAt0
  frame_out
  rw [colsCols_at]
  pointwise [k0_pay3, k0_pay2, k0_pay1]

/-- Each window's block at a point. -/
theorem index0 : ∀ t : Fin cfg0.N, win0_0.index t = ![0, t.val / 2] ∧ win0_1.index t = ![0, t.val % 2]
    ∧ win0_2.index t = ![t.val / 2, t.val % 2] := by decide +kernel

abbrev row (r : Fin 1024) : Fin 2048 := ⟨t.val / 2 * 1024 + r.val, by have : t.val < 4 := t.isLt; omega⟩
abbrev col (l : Fin 1024) : Fin 2048 := ⟨t.val % 2 * 1024 + l.val, by have : t.val < 4 := t.isLt; omega⟩

theorem blk0 (k : Fin 4096) (r : Fin 1024) : b0 m c t (ix2 k r) = a0 m c (ix2 k (row t r)) := by
  blk_ext! [iblk, V, (index0 t).1]
theorem blk1 (k : Fin 4096) (l : Fin 1024) : b1 m c t (ix2 k l) = a1 m c (ix2 k (col t l)) := by
  blk_ext! [iblk, V, (index0 t).2.1]

/-- The kernel's result. -/
theorem arr : (dats m 0 c).arrAt 2 cfg0.N = colsCols (a0 m c) (a1 m c) := by
  refine (dats m 0 c).arrAt_eq_of_covers 2 _ (by decide +kernel) fun t hf y => ?_
  blk_simp
  rw [after0_2]
  idx_vars y
  refine (out_at m c t _ _).trans ((colsCols_block (blk0 m c t) (blk1 m c t) _ _).trans (congrArg (colsCols (a0 m c) (a1 m c)) ?_))
  blk_ext! [(index0 t).2.2]

/-- The reference's result. -/
theorem ref (x0 : Vec Ideal S4096x2048 .bf16) (x1 : Vec Ideal S4096x2048 .bf16) :
    Cert.ReferenceOutDwIdeal.Read.val_main_v6 (F := Ideal) x0 x1 = colsCols x0 x1 := by
  funext y
  idx_vars y
  rw [colsCols_at]
  pointwise [Cert.ReferenceOutDwIdeal.Read.val_main_v6, Cert.ReferenceOutDwIdeal.Read.val_main_v5, Cert.ReferenceOutDwIdeal.Read.val_main_v4, Cert.ReferenceOutDwIdeal.Read.val_main_v3, Cert.ReferenceOutDwIdeal.Read.val_main_v1]
  exact Finset.sum_congr rfl fun k _ => mul_comm _ _

theorem frame_kernel : Cert.quiescent_KernelOutDw (hKernelOutDw := Cert.KernelOutDw.Gen.facts) :=
  fun m ρ _ => Cert.KernelOutDw.Gen.frame m ρ
theorem frame_kernel_ideal : Cert.quiescent_KernelOutDwIdeal (hKernelOutDwIdeal := Cert.KernelOutDwIdeal.Gen.facts) :=
  fun m ρ _ => Cert.KernelOutDwIdeal.Gen.frame m ρ
theorem frame_reference : Cert.quiescent_ReferenceOutDwIdeal (hReferenceOutDwIdeal := Cert.ReferenceOutDwIdeal.Gen.facts) :=
  fun m ρ _ => (θ_run _ _ _).mono (fun r h => ⟨fun c => ⟨(h c).2.1, (h c).2.2⟩, sem_eq_zero_of_no_sems rfl r.2⟩)
    (Cert.ReferenceOutDwIdeal.Value.run m ρ)

theorem equal : Cert.algebraic_KernelOutDwIdeal_ReferenceOutDwIdeal (hKernelOutDwIdeal := Cert.KernelOutDwIdeal.Gen.facts)
    (hReferenceOutDwIdeal := Cert.ReferenceOutDwIdeal.Gen.facts) := by
  intro m g m' g' _ hagree
  refine ⟨fun c => colsCols (a0 m c) (a1 m c), ?_, ?_⟩
  · exact (θ_run _ _ _).mono (fun r h c => ⟨(h c).1.trans (arr m c), (h c).2⟩) (Cert.KernelOutDwIdeal.Value.run_blocks m g)
  · refine (θ_run _ _ _).mono (fun r h c => ⟨(h c).1.trans ?_, (h c).2⟩) (Cert.ReferenceOutDwIdeal.Value.run m' g')
    rw [Cert.ReferenceOutDwIdeal.Read.val_main_v6_eq]
    exact (ref _ _).trans (congrArg₂ colsCols (hagree c).1 (hagree c).2)

end Cert.OutDw

end
-- ==== Proof.OutDx.lean ====
module

public import proofs.«01_k».proof.Defs
public import proofs.«01_k».proof.Proof.Product
public import proofs.«01_k».proof.Proof.Gen.KernelOutDx.Frame
public import proofs.«01_k».proof.Proof.Gen.KernelOutDxIdeal.Frame
public import proofs.«01_k».proof.Proof.Gen.KernelOutDxIdeal.Value
public import proofs.«01_k».proof.Proof.Gen.ReferenceOutDxIdeal.Read
public import proofs.«01_k».proof.Proof.Gen.ReferenceOutDxIdeal.Run
public import Idealize.ShloMosaic.Lib.Pipeline.ValueKit
public import Idealize.ShloMosaic.Lib.Quiescent
public import Idealize.ShloMosaic.Lib.Tactic

/-!
The output projection's input gradient: rows of the incoming gradient against rows of the weight. Both programs
end with that product.
-/

@[expose] public section

set_option maxRecDepth 16384

noncomputable section

namespace Cert.OutDx

open Idealize.ShloMosaic Idealize.ShloMosaic.TcCoe Idealize.ShloMosaic.Tactic Idealize.SL.Sem
open Cert.KernelOutDxIdeal Cert.KernelOutDxIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S2048x2048 .bf16 := m ((c : Thread nD τ).loc main_arg1)
abbrev b0 : Vec Ideal S1024x2048 .bf16 := iblk m c 0 t
abbrev b1 : Vec Ideal S1024x2048 .bf16 := iblk m c 1 t

theorem out_at (r : Fin 1024) (l : Fin 1024) : outsAt0 m c t (ix2 r l) = rowsRows (b0 m c t) (b1 m c t) (ix2 r l) := by
  unfold outsAt0
  frame_out
  rw [rowsRows_at]
  pointwise [k0_pay2, k0_pay1]

/-- Each window's block at a point. -/
theorem index0 : ∀ t : Fin cfg0.N, win0_0.index t = ![t.val / 2, 0] ∧ win0_1.index t = ![t.val % 2, 0]
    ∧ win0_2.index t = ![t.val / 2, t.val % 2] := by decide +kernel

abbrev row (r : Fin 1024) : Fin 4096 := ⟨t.val / 2 * 1024 + r.val, by have : t.val < 8 := t.isLt; omega⟩
abbrev col (l : Fin 1024) : Fin 2048 := ⟨t.val % 2 * 1024 + l.val, by have : t.val < 8 := t.isLt; omega⟩

theorem blk0 (r : Fin 1024) (k : Fin 2048) : b0 m c t (ix2 r k) = a0 m c (ix2 (row t r) k) := by
  blk_ext! [iblk, V, (index0 t).1]
theorem blk1 (l : Fin 1024) (k : Fin 2048) : b1 m c t (ix2 l k) = a1 m c (ix2 (col t l) k) := by
  blk_ext! [iblk, V, (index0 t).2.1]

/-- The kernel's result. -/
theorem arr : (dats m 0 c).arrAt 2 cfg0.N = rowsRows (a0 m c) (a1 m c) := by
  refine (dats m 0 c).arrAt_eq_of_covers 2 _ (by decide +kernel) fun t hf y => ?_
  blk_simp
  rw [after0_2]
  idx_vars y
  refine (out_at m c t _ _).trans ((rowsRows_block (blk0 m c t) (blk1 m c t) _ _).trans (congrArg (rowsRows (a0 m c) (a1 m c)) ?_))
  blk_ext! [(index0 t).2.2]

/-- The reference's result. -/
theorem ref (x0 : Vec Ideal S4096x2048 .bf16) (x1 : Vec Ideal S2048x2048 .bf16) :
    Cert.ReferenceOutDxIdeal.Read.val_main_v4 (F := Ideal) x0 x1 = rowsRows x0 x1 := by
  funext y
  idx_vars y
  rw [rowsRows_at]
  pointwise [Cert.ReferenceOutDxIdeal.Read.val_main_v4, Cert.ReferenceOutDxIdeal.Read.val_main_v3, Cert.ReferenceOutDxIdeal.Read.val_main_v1]

theorem frame_kernel : Cert.quiescent_KernelOutDx (hKernelOutDx := Cert.KernelOutDx.Gen.facts) :=
  fun m ρ _ => Cert.KernelOutDx.Gen.frame m ρ
theorem frame_kernel_ideal : Cert.quiescent_KernelOutDxIdeal (hKernelOutDxIdeal := Cert.KernelOutDxIdeal.Gen.facts) :=
  fun m ρ _ => Cert.KernelOutDxIdeal.Gen.frame m ρ
theorem frame_reference : Cert.quiescent_ReferenceOutDxIdeal (hReferenceOutDxIdeal := Cert.ReferenceOutDxIdeal.Gen.facts) :=
  fun m ρ _ => (θ_run _ _ _).mono (fun r h => ⟨fun c => ⟨(h c).2.1, (h c).2.2⟩, sem_eq_zero_of_no_sems rfl r.2⟩)
    (Cert.ReferenceOutDxIdeal.Value.run m ρ)

theorem equal : Cert.algebraic_KernelOutDxIdeal_ReferenceOutDxIdeal (hKernelOutDxIdeal := Cert.KernelOutDxIdeal.Gen.facts)
    (hReferenceOutDxIdeal := Cert.ReferenceOutDxIdeal.Gen.facts) := by
  intro m g m' g' _ hagree
  refine ⟨fun c => rowsRows (a0 m c) (a1 m c), ?_, ?_⟩
  · exact (θ_run _ _ _).mono (fun r h c => ⟨(h c).1.trans (arr m c), (h c).2⟩) (Cert.KernelOutDxIdeal.Value.run_blocks m g)
  · refine (θ_run _ _ _).mono (fun r h c => ⟨(h c).1.trans ?_, (h c).2⟩) (Cert.ReferenceOutDxIdeal.Value.run m' g')
    rw [Cert.ReferenceOutDxIdeal.Read.val_main_v4_eq]
    exact (ref _ _).trans (congrArg₂ rowsRows (hagree c).1 (hagree c).2)

end Cert.OutDx

end
-- ==== Proof.UpDw.lean ====
module

public import proofs.«01_k».proof.Defs
public import proofs.«01_k».proof.Proof.Product
public import proofs.«01_k».proof.Proof.Gen.KernelUpDw.Frame
public import proofs.«01_k».proof.Proof.Gen.KernelUpDwIdeal.Frame
public import proofs.«01_k».proof.Proof.Gen.KernelUpDwIdeal.Value
public import proofs.«01_k».proof.Proof.Gen.ReferenceUpDwIdeal.Read
public import proofs.«01_k».proof.Proof.Gen.ReferenceUpDwIdeal.Run
public import Idealize.ShloMosaic.Lib.Pipeline.ValueKit
public import Idealize.ShloMosaic.Lib.Quiescent
public import Idealize.ShloMosaic.Lib.Tactic

/-!
The up projection's weight gradient: columns of its input against columns of the incoming gradient, whose two halves
stand side by side; the result is cut into eight column blocks. Both programs end with that product.
-/

@[expose] public section

set_option maxRecDepth 16384

noncomputable section

namespace Cert.UpDw

open Idealize.ShloMosaic Idealize.ShloMosaic.TcCoe Idealize.ShloMosaic.Tactic Idealize.SL.Sem
open Cert.KernelUpDwIdeal Cert.KernelUpDwIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S2x4096x5632 .bf16 := m ((c : Thread nD τ).loc main_arg1)
abbrev b0 : Vec Ideal S4096x512 .bf16 := iblk m c 0 t
abbrev b1 : Vec Ideal S1x4096x1408 .bf16 := iblk m c 1 t
/-- The second block as a matrix. -/
abbrev b1m : Mat 4096 1408 := fun y => b1 m c t (ix3 0 (y 0) (y 1))

/-- The product, cut into eight blocks of 1408 columns. -/
def blocks (x : Vec Ideal S4096x2048 .bf16) (w : Vec Ideal S2x4096x5632 .bf16) : Vec Ideal S8x2048x1408 .bf16 := fun y =>
  colsCols (M := 2048) (K := 4096) (N := 11264) x (beside w) (ix2 (y 1) (⟨(y 0).val * 1408 + (y 2).val, by
    have h0 : (y 0).val < 8 := (y 0).isLt
    have h2 : (y 2).val < 1408 := (y 2).isLt
    omega⟩ : Fin 11264))

theorem out_at (p : Fin 1) (r : Fin 512) (l : Fin 1408) :
    outsAt0 m c t (ix3 p r l) = colsCols (b0 m c t) (b1m m c t) (ix2 r l) := by
  unfold outsAt0
  frame_out
  rw [colsCols_at]
  pointwise [k0_pay3, k0_pay2, k0_pay1]
  rfl

/-- Each window's block at a point. -/
theorem index0 : ∀ t : Fin cfg0.N, win0_0.index t = ![0, t.val / 8] ∧ win0_1.index t = ![t.val % 8 / 4, 0, t.val % 8 % 4]
    ∧ win0_2.index t = ![t.val % 8, t.val / 8, 0] := by decide +kernel

abbrev row (r : Fin 512) : Fin 2048 := ⟨t.val / 8 * 512 + r.val, by have : t.val < 32 := t.isLt; omega⟩
abbrev col (l : Fin 1408) : Fin 11264 := ⟨t.val % 8 * 1408 + l.val, by have : t.val < 32 := t.isLt; omega⟩

theorem blk0 (k : Fin 4096) (r : Fin 512) : b0 m c t (ix2 k r) = a0 m c (ix2 k (row t r)) := by
  blk_ext! [iblk, V, (index0 t).1]
theorem blk1 (k : Fin 4096) (l : Fin 1408) : b1m m c t (ix2 k l) = beside (a1 m c) (ix2 k (col t l)) := by
  rw [beside_at (a1 m c) ⟨t.val % 8 / 4, by omega⟩ k ⟨t.val % 8 % 4 * 1408 + l.val, by omega⟩ (col t l) (by dsimp only; omega)]
  show b1 m c t (ix3 0 k l) = _
  blk_ext! [iblk, V, (index0 t).2.1]

/-- The kernel's result. -/
theorem arr : (dats m 0 c).arrAt 2 cfg0.N = blocks (a0 m c) (a1 m c) := by
  refine (dats m 0 c).arrAt_eq_of_covers 2 _ (by decide +kernel) fun t hf y => ?_
  blk_simp
  rw [after0_2]
  idx_vars y
  refine (out_at m c t _ _ _).trans ((colsCols_block (blk0 m c t) (blk1 m c t) _ _).trans
    ((?_ : _ = blocks (a0 m c) (a1 m c) (ix3 ⟨t.val % 8, by omega⟩ (row t y1) y2)).trans (congrArg (blocks (a0 m c) (a1 m c)) ?_)))
  · rfl
  · blk_ext! [(index0 t).2.2]

/-- The incoming gradient as the reference forms it: its halves side by side. -/
theorem ref_beside (x1 : Vec Ideal S2x4096x5632 .bf16) (r : Fin 4096) (j : Fin 11264) :
    Cert.ReferenceUpDwIdeal.Read.val_main_v8 (F := Ideal) x1 (ix2 r j) = beside x1 (ix2 r j) := by
  pointwise [Cert.ReferenceUpDwIdeal.Read.val_main_v8, Cert.ReferenceUpDwIdeal.Read.val_main_v4, Cert.ReferenceUpDwIdeal.Read.val_main_v3,
    Cert.ReferenceUpDwIdeal.Read.val_main_v2, Cert.ReferenceUpDwIdeal.Read.val_main_v1, Cert.ReferenceUpDwIdeal.Read.val_main_v0]
  split
  · exact (beside_at x1 0 r _ j (by dsimp only; omega)).symm
  · exact (beside_at x1 1 r _ j (by dsimp only; omega)).symm

/-- The reference's result. -/
theorem ref (x0 : Vec Ideal S4096x2048 .bf16) (x1 : Vec Ideal S2x4096x5632 .bf16) :
    Cert.ReferenceUpDwIdeal.Read.val_main_v13 (F := Ideal) x0 x1 = blocks x0 x1 := by
  funext y
  idx_vars y
  have h : y0.val * 1408 + y2.val < 11264 := by omega
  show _ = ∑ k : Fin 4096, x0 (ix2 k y1) * beside x1 (ix2 k (⟨y0.val * 1408 + y2.val, h⟩ : Fin 11264))
  pointwise [Cert.ReferenceUpDwIdeal.Read.val_main_v13, Cert.ReferenceUpDwIdeal.Read.val_main_v12, Cert.ReferenceUpDwIdeal.Read.val_main_v11,
    Cert.ReferenceUpDwIdeal.Read.val_main_v10, Cert.ReferenceUpDwIdeal.Read.val_main_v9, Cert.ReferenceUpDwIdeal.Read.val_main_v6]
  refine Finset.sum_congr rfl fun k _ => ?_
  refine (congrArg (· * _) (ref_beside x1 k _)).trans ?_
  rw [mul_comm]

theorem frame_kernel : Cert.quiescent_KernelUpDw (hKernelUpDw := Cert.KernelUpDw.Gen.facts) :=
  fun m ρ _ => Cert.KernelUpDw.Gen.frame m ρ
theorem frame_kernel_ideal : Cert.quiescent_KernelUpDwIdeal (hKernelUpDwIdeal := Cert.KernelUpDwIdeal.Gen.facts) :=
  fun m ρ _ => Cert.KernelUpDwIdeal.Gen.frame m ρ
theorem frame_reference : Cert.quiescent_ReferenceUpDwIdeal (hReferenceUpDwIdeal := Cert.ReferenceUpDwIdeal.Gen.facts) :=
  fun m ρ _ => (θ_run _ _ _).mono (fun r h => ⟨fun c => ⟨(h c).2.1, (h c).2.2⟩, sem_eq_zero_of_no_sems rfl r.2⟩)
    (Cert.ReferenceUpDwIdeal.Value.run m ρ)

theorem equal : Cert.algebraic_KernelUpDwIdeal_ReferenceUpDwIdeal (hKernelUpDwIdeal := Cert.KernelUpDwIdeal.Gen.facts)
    (hReferenceUpDwIdeal := Cert.ReferenceUpDwIdeal.Gen.facts) := by
  intro m g m' g' _ hagree
  refine ⟨fun c => blocks (a0 m c) (a1 m c), ?_, ?_⟩
  · exact (θ_run _ _ _).mono (fun r h c => ⟨(h c).1.trans (arr m c), (h c).2⟩) (Cert.KernelUpDwIdeal.Value.run_blocks m g)
  · refine (θ_run _ _ _).mono (fun r h c => ⟨(h c).1.trans ?_, (h c).2⟩) (Cert.ReferenceUpDwIdeal.Value.run m' g')
    rw [Cert.ReferenceUpDwIdeal.Read.val_main_v13_eq]
    exact (ref _ _).trans (congrArg₂ blocks (hagree c).1 (hagree c).2)

end Cert.UpDw

end
-- ==== Proof.UpDx.lean ====
module

public import proofs.«01_k».proof.Defs
public import proofs.«01_k».proof.Proof.Product
public import proofs.«01_k».proof.Proof.Gen.KernelUpDx.Frame
public import proofs.«01_k».proof.Proof.Gen.KernelUpDxIdeal.Frame
public import proofs.«01_k».proof.Proof.Gen.KernelUpDxIdeal.Value
public import proofs.«01_k».proof.Proof.Gen.ReferenceUpDxIdeal.Read
public import proofs.«01_k».proof.Proof.Gen.ReferenceUpDxIdeal.Run
public import Idealize.ShloMosaic.Lib.Pipeline.ValueKit
public import Idealize.ShloMosaic.Lib.Quiescent
public import Idealize.ShloMosaic.Lib.Tactic

/-!
The up projection's input gradient: rows of the incoming gradient, whose two halves stand side by side, against
columns of the transposed weight. The kernel takes the sum in four steps, kept in a scratch buffer between them;
both programs end with the one sum.
-/

@[expose] public section

set_option maxRecDepth 16384

noncomputable section

namespace Cert.UpDx

open Idealize.ShloMosaic Idealize.ShloMosaic.TcCoe Idealize.ShloMosaic.Tactic Idealize.SL.Sem
open Cert.KernelUpDxIdeal Cert.KernelUpDxIdeal.Gen Cert.Product

variable (m : (ℓ : Loc nD τ sig) → Buf (Elt Ideal) ℓ) (c : Dev nD) (t : Fin cfg0.N)

/-- The arguments, and the blocks of them a point reads. -/
abbrev a0 : Vec Ideal S2x4096x5632 .bf16 := m ((c : Thread nD τ).loc main_arg0)
abbrev a1 : Vec Ideal S11264x2048 .bf16 := m ((c : Thread nD τ).loc main_arg1)
abbrev b0 : Vec Ideal S1x1024x2816 .bf16 := iblk m c 0 t
abbrev b1 : Vec Ideal S2816x1024 .bf16 := iblk m c 1 t
/-- The first block as a matrix. -/
abbrev b0m : Mat 1024 2816 := fun y => b0 m c t (ix3 0 (y 0) (y 1))

/-- The whole product. -/
def prod (x : Vec Ideal S2x4096x5632 .bf16) (w : Vec Ideal S11264x2048 .bf16) : Vec Ideal S4096x2048 .f32 :=
  rowsCols (M := 4096) (K := 11264) (N := 2048) (beside x) w

/-- What the scratch buffer holds after a point, and what the point before left in it. -/
abbrev kept : Vec Ideal S1024x1024 .f32 := (outsAt0 m c t.val t.isLt).2
abbrev before : Vec Ideal S1024x1024 .f32 := (outsAt0 m c (t.val - 1) (Nat.lt_of_le_of_lt (Nat.sub_le _ _) t.isLt)).2

/-- The first of four points leaves its own product; -/
theorem first_at (h : t.val % 4 = 0) (r l : Fin 1024) : kept m c t (ix2 r l) = rowsCols (b0m m c t) (b1 m c t) (ix2 r l) := by
  unfold kept
  rw [outsAt0_A m c t h (by omega)]
  frame_out
  rw [rowsCols_at]
  pointwise [k0_pay2, k0_pay1]
  rfl
/-- the next two add theirs; -/
theorem next_at (h : ¬t.val % 4 = 0) (h' : ¬t.val % 4 = 3) (r l : Fin 1024) :
    kept m c t (ix2 r l) = before m c t (ix2 r l) + rowsCols (b0m m c t) (b1 m c t) (ix2 r l) := by
  unfold kept
  rw [outsAt0_B m c t h h']
  frame_out
  rw [rowsCols_at]
  pointwise [k0_pay2]
  exact congrArg₂ (· + ·) (congrFun ((Memref.isWhole_whole _).read_unread _) _) rfl
/-- the last writes the sum of the four to the result. -/
theorem last_at (h : t.val % 4 = 3) (r l : Fin 1024) :
    (outsAt0 m c t.val t.isLt).1 (ix2 r l) = before m c t (ix2 r l) + rowsCols (b0m m c t) (b1 m c t) (ix2 r l) := by
  rw [outsAt0_C m c t (by omega) h]
  frame_out
  rw [rowsCols_at]
  pointwise [k0_pay2]
  exact congrArg₂ (· + ·) (congrFun ((Memref.isWhole_whole _).read_unread _) _) rfl

/-- Each window's block at a point. -/
theorem index0 : ∀ t : Fin cfg0.N, win0_0.index t = ![t.val % 4 / 2, t.val / 8, t.val % 4 % 2] ∧ win0_1.index t = ![t.val % 4, t.val / 4 % 2]
    ∧ win0_2.index t = ![t.val / 8, t.val / 4 % 2] := by decide +kernel

theorem lt : t.val < 32 := t.isLt
abbrev row (r : Fin 1024) : Fin 4096 := ⟨t.val / 8 * 1024 + r.val, by have := lt t; omega⟩
abbrev col (l : Fin 1024) : Fin 2048 := ⟨t.val / 4 % 2 * 1024 + l.val, by have := lt t; omega⟩
abbrev mid (k : Fin 2816) : Fin 11264 := ⟨t.val % 4 * 2816 + k.val, by have := lt t; omega⟩

theorem blk0 (r : Fin 1024) (k : Fin 2816) : b0m m c t (ix2 r k) = beside (a0 m c) (ix2 (row t r) (mid t k)) := by
  rw [beside_at (a0 m c) ⟨t.val % 4 / 2, by omega⟩ (row t r) ⟨t.val % 4 % 2 * 2816 + k.val, by omega⟩ (mid t k) (by dsimp only; omega)]
  show b0 m c t (ix3 0 r k) = _
  blk_ext! [iblk, V, (index0 t).1]
theorem blk1 (k : Fin 2816) (l : Fin 1024) : b1 m c t (ix2 k l) = a1 m c (ix2 (mid t k) (col t l)) := by
  blk_ext! [iblk, V, (index0 t).2.1]

/-- One term of an entry's sum, and the share of the sum that step `s` takes. -/
def term (R : Fin 4096) (L : Fin 2048) (i : Fin 11264) : EReal := beside (a0 m c) (ix2 R i) * a1 m c (ix2 i L)
def share (R : Fin 4096) (L : Fin 2048) (s : Fin 4) : EReal := ∑ k : Fin 2816, term m c R L ⟨s.val * 2816 + k.val, by omega⟩

theorem share_at (s : Fin 4) (h : t.val % 4 = s.val) (r l : Fin 1024) (R : Fin 4096) (L : Fin 2048) (hR : R = row t r) (hL : L = col t l) :
    rowsCols (b0m m c t) (b1 m c t) (ix2 r l) = share m c R L s := by
  subst hR hL
  refine Finset.sum_congr rfl fun k _ => ?_
  refine (congrArg₂ (· * ·) (blk0 m c t r k) (blk1 m c t k l)).trans (congrArg (term m c (row t r) (col t l)) (Fin.ext ?_))
  show t.val % 4 * 2816 + k.val = s.val * 2816 + k.val
  rw [h]

/-- What the last of four points writes: the whole sum. -/
theorem out_at (h : t.val % 4 = 3) (r l : Fin 1024) :
    (outsAt0 m c t.val t.isLt).1 (ix2 r l) = prod (a0 m c) (a1 m c) (ix2 (row t r) (col t l)) := by
  have ht := lt t
  obtain ⟨n, hn⟩ : ∃ n, t.val = n + 3 := ⟨t.val - 3, by omega⟩
  obtain ⟨v, hv⟩ := t
  dsimp only at hn h ht
  subst hn
  rw [last_at m c ⟨n + 3, hv⟩ h]
  have e2 := next_at m c ⟨n + 2, by omega⟩ (by dsimp only; omega) (by dsimp only; omega) r l
  have e1 := next_at m c ⟨n + 1, by omega⟩ (by dsimp only; omega) (by dsimp only; omega) r l
  have e0 := first_at m c ⟨n, by omega⟩ (by dsimp only; omega) r l
  have s0 := share_at m c ⟨n, by omega⟩ 0 (by dsimp only; omega) r l (row ⟨n + 3, hv⟩ r) (col ⟨n + 3, hv⟩ l) (Fin.ext (by dsimp only; omega)) (Fin.ext (by dsimp only; omega))
  have s1 := share_at m c ⟨n + 1, by omega⟩ 1 (by dsimp only; omega) r l (row ⟨n + 3, hv⟩ r) (col ⟨n + 3, hv⟩ l) (Fin.ext (by dsimp only; omega)) (Fin.ext (by dsimp only; omega))
  have s2 := share_at m c ⟨n + 2, by omega⟩ 2 (by dsimp only; omega) r l (row ⟨n + 3, hv⟩ r) (col ⟨n + 3, hv⟩ l) (Fin.ext (by dsimp only; omega)) (Fin.ext (by dsimp only; omega))
  have s3 := share_at m c ⟨n + 3, hv⟩ 3 (by dsimp only; omega) r l (row ⟨n + 3, hv⟩ r) (col ⟨n + 3, hv⟩ l) rfl rfl
  have whole : prod (a0 m c) (a1 m c) (ix2 (row ⟨n + 3, hv⟩ r) (col ⟨n + 3, hv⟩ l))
      = ∑ s : Fin 4, share m c (row ⟨n + 3, hv⟩ r) (col ⟨n + 3, hv⟩ l) s :=
    sum_steps (S := 4) (K := 2816) (term m c (row ⟨n + 3, hv⟩ r) (col ⟨n + 3, hv⟩ l)) _ fun s k i hi => congrArg _ (Fin.ext hi)
  rw [whole, Fin.sum_univ_four, ← s0, ← s1, ← s2, ← s3, ← e0]
  exact congrArg (· + _) (e2.trans (congrArg (· + _) e1))

/-- The kernel's result. -/
theorem arr : (dats m 0 c).arrAt 2 cfg0.N = prod (a0 m c) (a1 m c) := by
  refine (dats m 0 c).arrAt_eq_of_covers 2 _ (by decide +kernel) fun t hf y => ?_
  blk_simp
  rw [after0_2]
  idx_vars y
  refine (out_at m c t ((flush0_2 t).mp hf) _ _).trans (congrArg (prod (a0 m c) (a1 m c)) ?_)
  blk_ext! [(index0 t).2.2]

/-- The incoming gradient as the reference forms it: its halves side by side. -/
theorem ref_beside (x0 : Vec Ideal S2x4096x5632 .bf16) (r : Fin 4096) (j : Fin 11264) :
    Cert.ReferenceUpDxIdeal.Read.val_main_v9 (F := Ideal) x0 (ix2 r j) = beside x0 (ix2 r j) := by
  pointwise [Cert.ReferenceUpDxIdeal.Read.val_main_v9, Cert.ReferenceUpDxIdeal.Read.val_main_v5, Cert.ReferenceUpDxIdeal.Read.val_main_v4,
    Cert.ReferenceUpDxIdeal.Read.val_main_v3, Cert.ReferenceUpDxIdeal.Read.val_main_v2, Cert.ReferenceUpDxIdeal.Read.val_main_v1]
  split
  · exact (beside_at x0 0 r _ j (by dsimp only; omega)).symm
  · exact (beside_at x0 1 r _ j (by dsimp only; omega)).symm

/-- The reference's result. -/
theorem ref (x0 : Vec Ideal S2x4096x5632 .bf16) (x1 : Vec Ideal S11264x2048 .bf16) :
    Cert.ReferenceUpDxIdeal.Read.val_main_v10 (F := Ideal) x0 x1 = prod x0 x1 := by
  funext y
  idx_vars y
  show _ = ∑ k : Fin 11264, beside x0 (ix2 y0 k) * x1 (ix2 k y1)
  pointwise [Cert.ReferenceUpDxIdeal.Read.val_main_v10, Cert.ReferenceUpDxIdeal.Read.val_main_v7, Cert.ReferenceUpDxIdeal.Read.val_main_v0]
  refine Finset.sum_congr rfl fun k _ => ?_
  rw [ref_beside]

theorem frame_kernel : Cert.quiescent_KernelUpDx (hKernelUpDx := Cert.KernelUpDx.Gen.facts) :=
  fun m ρ _ => Cert.KernelUpDx.Gen.frame m ρ
theorem frame_kernel_ideal : Cert.quiescent_KernelUpDxIdeal (hKernelUpDxIdeal := Cert.KernelUpDxIdeal.Gen.facts) :=
  fun m ρ _ => Cert.KernelUpDxIdeal.Gen.frame m ρ
theorem frame_reference : Cert.quiescent_ReferenceUpDxIdeal (hReferenceUpDxIdeal := Cert.ReferenceUpDxIdeal.Gen.facts) :=
  fun m ρ _ => (θ_run _ _ _).mono (fun r h => ⟨fun c => ⟨(h c).2.1, (h c).2.2⟩, sem_eq_zero_of_no_sems rfl r.2⟩)
    (Cert.ReferenceUpDxIdeal.Value.run m ρ)

theorem equal : Cert.algebraic_KernelUpDxIdeal_ReferenceUpDxIdeal (hKernelUpDxIdeal := Cert.KernelUpDxIdeal.Gen.facts)
    (hReferenceUpDxIdeal := Cert.ReferenceUpDxIdeal.Gen.facts) := by
  intro m g m' g' _ hagree
  refine ⟨fun c => prod (a0 m c) (a1 m c), ?_, ?_⟩
  · exact (θ_run _ _ _).mono (fun r h c => ⟨(h c).1.trans (arr m c), (h c).2⟩) (Cert.KernelUpDxIdeal.Value.run_blocks m g)
  · refine (θ_run _ _ _).mono (fun r h c => ⟨(h c).1.trans ?_, (h c).2⟩) (Cert.ReferenceUpDxIdeal.Value.run m' g')
    rw [Cert.ReferenceUpDxIdeal.Read.val_main_v10_eq]
    exact (ref _ _).trans (congrArg₂ prod (hagree c).1 (hagree c).2)

end Cert.UpDx

end
-- ==== Proof.DownDw.lean ====
module

public import proofs.«01_k».proof.Defs
public import proofs.«01_k».proof.Proof.Product
public import proofs.«01_k».proof.Proof.Gen.KernelDownDw.Frame
public import proofs.«01_k».proof.Proof.Gen.KernelDownDwIdeal.Frame
public import proofs.«01_k».proof.Proof.Gen.KernelDownDwIdeal.Value
public import proofs.«01_k».proof.Proof.Gen.ReferenceDownDwIdeal.Read
public import proofs.«01_k».proof.Proof.Gen.ReferenceDownDwIdeal.Run
public import Idealize.ShloMosaic.Lib.Pipeline.ValueKit
public import Idealize.ShloMosaic.Lib.Quiescent
public import Idealize.ShloMosaic.Lib.Tactic

/-!
The down projection's weight gradient: columns of its input against columns of the incoming gradient. Both programs
end with that product.
-/

@[expose] public section

set_option maxRecDepth 16384

noncomputable section

namespace Cert.DownDw

open Idealize.ShloMosaic Idealize.ShloMosaic.TcCoe Idealize.ShloMosaic.Tactic Idealize.SL.Sem
open Cert.KernelDownDwIdeal Cert.KernelDownDwIdeal.Gen Cert.Product

variable (m : (ℓ : Loc nD τ sig) → Buf (Elt Ideal) ℓ) (c : Dev nD) (t : Fin cfg0.N)

/-- The arguments, and the blocks of them a point reads. -/
abbrev a0 : Vec Ideal S4096x5632 .bf16 := m ((c : Thread nD τ).loc main_arg0)
abbrev a1 : Vec Ideal S4096x2048 .bf16 := m ((c : Thread nD τ).loc main_arg1)
abbrev b0 : Vec Ideal S4096x1408 .bf16 := iblk m c 0 t
abbrev b1 : Vec Ideal S4096x512 .bf16 := iblk m c 1 t

theorem out_at (r : Fin 1408) (l : Fin 512) : outsAt0 m c t (ix2 r l) = colsCols (b0 m c t) (b1 m c t) (ix2 r l) := by
  unfold outsAt0
  frame_out
  rw [colsCols_at]
  pointwise [k0_pay3, k0_pay2, k0_pay1]

/-- Each window's block at a point. -/
theorem index0 : ∀ t : Fin cfg0.N, win0_0.index t = ![0, t.val / 4] ∧ win0_1.index t = ![0, t.val % 4]
    ∧ win0_2.index t = ![t.val / 4, t.val % 4] := by decide +kernel

abbrev row (r : Fin 1408) : Fin 5632 := ⟨t.val / 4 * 1408 + r.val, by have : t.val < 16 := t.isLt; omega⟩
abbrev col (l : Fin 512) : Fin 2048 := ⟨t.val % 4 * 512 + l.val, by have : t.val < 16 := t.isLt; omega⟩

theorem blk0 (k : Fin 4096) (r : Fin 1408) : b0 m c t (ix2 k r) = a0 m c (ix2 k (row t r)) := by
  blk_ext! [iblk, V, (index0 t).1]
theorem blk1 (k : Fin 4096) (l : Fin 512) : b1 m c t (ix2 k l) = a1 m c (ix2 k (col t l)) := by
  blk_ext! [iblk, V, (index0 t).2.1]

/-- The kernel's result. -/
theorem arr : (dats m 0 c).arrAt 2 cfg0.N = colsCols (a0 m c) (a1 m c) := by
  refine (dats m 0 c).arrAt_eq_of_covers 2 _ (by decide +kernel) fun t hf y => ?_
  blk_simp
  rw [after0_2]
  idx_vars y
  refine (out_at m c t _ _).trans ((colsCols_block (blk0 m c t) (blk1 m c t) _ _).trans (congrArg (colsCols (a0 m c) (a1 m c)) ?_))
  blk_ext! [(index0 t).2.2]

/-- The reference's result. -/
theorem ref (x0 : Vec Ideal S4096x5632 .bf16) (x1 : Vec Ideal S4096x2048 .bf16) :
    Cert.ReferenceDownDwIdeal.Read.val_main_v6 (F := Ideal) x0 x1 = colsCols x0 x1 := by
  funext y
  idx_vars y
  rw [colsCols_at]
  pointwise [Cert.ReferenceDownDwIdeal.Read.val_main_v6, Cert.ReferenceDownDwIdeal.Read.val_main_v5, Cert.ReferenceDownDwIdeal.Read.val_main_v4, Cert.ReferenceDownDwIdeal.Read.val_main_v3, Cert.ReferenceDownDwIdeal.Read.val_main_v1]
  exact Finset.sum_congr rfl fun k _ => mul_comm _ _

theorem frame_kernel : Cert.quiescent_KernelDownDw (hKernelDownDw := Cert.KernelDownDw.Gen.facts) :=
  fun m ρ _ => Cert.KernelDownDw.Gen.frame m ρ
theorem frame_kernel_ideal : Cert.quiescent_KernelDownDwIdeal (hKernelDownDwIdeal := Cert.KernelDownDwIdeal.Gen.facts) :=
  fun m ρ _ => Cert.KernelDownDwIdeal.Gen.frame m ρ
theorem frame_reference : Cert.quiescent_ReferenceDownDwIdeal (hReferenceDownDwIdeal := Cert.ReferenceDownDwIdeal.Gen.facts) :=
  fun m ρ _ => (θ_run _ _ _).mono (fun r h => ⟨fun c => ⟨(h c).2.1, (h c).2.2⟩, sem_eq_zero_of_no_sems rfl r.2⟩)
    (Cert.ReferenceDownDwIdeal.Value.run m ρ)

theorem equal : Cert.algebraic_KernelDownDwIdeal_ReferenceDownDwIdeal (hKernelDownDwIdeal := Cert.KernelDownDwIdeal.Gen.facts)
    (hReferenceDownDwIdeal := Cert.ReferenceDownDwIdeal.Gen.facts) := by
  intro m g m' g' _ hagree
  refine ⟨fun c => colsCols (a0 m c) (a1 m c), ?_, ?_⟩
  · exact (θ_run _ _ _).mono (fun r h c => ⟨(h c).1.trans (arr m c), (h c).2⟩) (Cert.KernelDownDwIdeal.Value.run_blocks m g)
  · refine (θ_run _ _ _).mono (fun r h c => ⟨(h c).1.trans ?_, (h c).2⟩) (Cert.ReferenceDownDwIdeal.Value.run m' g')
    rw [Cert.ReferenceDownDwIdeal.Read.val_main_v6_eq]
    exact (ref _ _).trans (congrArg₂ colsCols (hagree c).1 (hagree c).2)

end Cert.DownDw

end
-- ==== Proof.DownDx.lean ====
module

public import proofs.«01_k».proof.Defs
public import proofs.«01_k».proof.Proof.Product
public import proofs.«01_k».proof.Proof.Gen.KernelDownDx.Frame
public import proofs.«01_k».proof.Proof.Gen.KernelDownDxIdeal.Frame
public import proofs.«01_k».proof.Proof.Gen.KernelDownDxIdeal.Value
public import proofs.«01_k».proof.Proof.Gen.ReferenceDownDxIdeal.Read
public import proofs.«01_k».proof.Proof.Gen.ReferenceDownDxIdeal.Run
public import Idealize.ShloMosaic.Lib.Pipeline.ValueKit
public import Idealize.ShloMosaic.Lib.Quiescent
public import Idealize.ShloMosaic.Lib.Tactic

/-!
The down projection's input gradient: rows of the incoming gradient against rows of the weight. Both programs
end with that product.
-/

@[expose] public section

set_option maxRecDepth 16384

noncomputable section

namespace Cert.DownDx

open Idealize.ShloMosaic Idealize.ShloMosaic.TcCoe Idealize.ShloMosaic.Tactic Idealize.SL.Sem
open Cert.KernelDownDxIdeal Cert.KernelDownDxIdeal.Gen Cert.Product

variable (m : (ℓ : Loc nD τ sig) → Buf (Elt Ideal) ℓ) (c : Dev nD) (t : Fin cfg0.N)

/-- The arguments, and the blocks of them a point reads. -/
abbrev a0 : Vec Ideal S4096x2048 .bf16 := m ((c : Thread nD τ).loc main_arg0)
abbrev a1 : Vec Ideal S5632x2048 .bf16 := m ((c : Thread nD τ).loc main_arg1)
abbrev b0 : Vec Ideal S1024x2048 .bf16 := iblk m c 0 t
abbrev b1 : Vec Ideal S1408x2048 .bf16 := iblk m c 1 t

theorem out_at (r : Fin 1024) (l : Fin 1408) : outsAt0 m c t (ix2 r l) = rowsRows (b0 m c t) (b1 m c t) (ix2 r l) := by
  unfold outsAt0
  frame_out
  rw [rowsRows_at]
  pointwise [k0_pay2, k0_pay1]

/-- Each window's block at a point. -/
theorem index0 : ∀ t : Fin cfg0.N, win0_0.index t = ![t.val / 4, 0] ∧ win0_1.index t = ![t.val % 4, 0]
    ∧ win0_2.index t = ![t.val / 4, t.val % 4] := by decide +kernel

abbrev row (r : Fin 1024) : Fin 4096 := ⟨t.val / 4 * 1024 + r.val, by have : t.val < 16 := t.isLt; omega⟩
abbrev col (l : Fin 1408) : Fin 5632 := ⟨t.val % 4 * 1408 + l.val, by have : t.val < 16 := t.isLt; omega⟩

theorem blk0 (r : Fin 1024) (k : Fin 2048) : b0 m c t (ix2 r k) = a0 m c (ix2 (row t r) k) := by
  blk_ext! [iblk, V, (index0 t).1]
theorem blk1 (l : Fin 1408) (k : Fin 2048) : b1 m c t (ix2 l k) = a1 m c (ix2 (col t l) k) := by
  blk_ext! [iblk, V, (index0 t).2.1]

/-- The kernel's result. -/
theorem arr : (dats m 0 c).arrAt 2 cfg0.N = rowsRows (a0 m c) (a1 m c) := by
  refine (dats m 0 c).arrAt_eq_of_covers 2 _ (by decide +kernel) fun t hf y => ?_
  blk_simp
  rw [after0_2]
  idx_vars y
  refine (out_at m c t _ _).trans ((rowsRows_block (blk0 m c t) (blk1 m c t) _ _).trans (congrArg (rowsRows (a0 m c) (a1 m c)) ?_))
  blk_ext! [(index0 t).2.2]

/-- The reference's result. -/
theorem ref (x0 : Vec Ideal S4096x2048 .bf16) (x1 : Vec Ideal S5632x2048 .bf16) :
    Cert.ReferenceDownDxIdeal.Read.val_main_v4 (F := Ideal) x0 x1 = rowsRows x0 x1 := by
  funext y
  idx_vars y
  rw [rowsRows_at]
  pointwise [Cert.ReferenceDownDxIdeal.Read.val_main_v4, Cert.ReferenceDownDxIdeal.Read.val_main_v3, Cert.ReferenceDownDxIdeal.Read.val_main_v1]

theorem frame_kernel : Cert.quiescent_KernelDownDx (hKernelDownDx := Cert.KernelDownDx.Gen.facts) :=
  fun m ρ _ => Cert.KernelDownDx.Gen.frame m ρ
theorem frame_kernel_ideal : Cert.quiescent_KernelDownDxIdeal (hKernelDownDxIdeal := Cert.KernelDownDxIdeal.Gen.facts) :=
  fun m ρ _ => Cert.KernelDownDxIdeal.Gen.frame m ρ
theorem frame_reference : Cert.quiescent_ReferenceDownDxIdeal (hReferenceDownDxIdeal := Cert.ReferenceDownDxIdeal.Gen.facts) :=
  fun m ρ _ => (θ_run _ _ _).mono (fun r h => ⟨fun c => ⟨(h c).2.1, (h c).2.2⟩, sem_eq_zero_of_no_sems rfl r.2⟩)
    (Cert.ReferenceDownDxIdeal.Value.run m ρ)

theorem equal : Cert.algebraic_KernelDownDxIdeal_ReferenceDownDxIdeal (hKernelDownDxIdeal := Cert.KernelDownDxIdeal.Gen.facts)
    (hReferenceDownDxIdeal := Cert.ReferenceDownDxIdeal.Gen.facts) := by
  intro m g m' g' _ hagree
  refine ⟨fun c => rowsRows (a0 m c) (a1 m c), ?_, ?_⟩
  · exact (θ_run _ _ _).mono (fun r h c => ⟨(h c).1.trans (arr m c), (h c).2⟩) (Cert.KernelDownDxIdeal.Value.run_blocks m g)
  · refine (θ_run _ _ _).mono (fun r h c => ⟨(h c).1.trans ?_, (h c).2⟩) (Cert.ReferenceDownDxIdeal.Value.run m' g')
    rw [Cert.ReferenceDownDxIdeal.Read.val_main_v4_eq]
    exact (ref _ _).trans (congrArg₂ rowsRows (hagree c).1 (hagree c).2)

end Cert.DownDx

end
-- ==== Proof.lean ====
/- The gate's gradient with the causal convolution's, the twelve products of the projections and of their gradients,
   the norms and their gradients, the activation, the loss head, the gradients of the bias tables, the sum over the
   devices' parts and the optimiser's steps: that each kernel and its reference run and leave their arguments as they
   were (the frames), and that over the extended reals the kernel's results are the reference's. For the gate's gradient
   the arguments are finite; its kernel's run is in Proof/Run.lean, its results at an index in Proof/Arrays.lean, its
   reference's in Proof/Ref.lean, and here the two are put side by side. Each product has a module of its own, named
   after the projection (In, Out, Up, Down) and the call (Fwd; Dx, the input's gradient; Dw, the weight's); what they
   share is in Proof/Product.lean. Each of the other calls has a module of its own (NormFwd, NormBwd, MixFwd, MixBwd,
   ActFwd, Loss, BiasA, BiasC, SmallSum, UpdateSmall, and for the optimiser's step on a projection's weight UpdateIn,
   UpdateOut, UpdateUp, UpdateDown at layer 0 and the same names with the layer's number at the others); what the norms
   share is in Proof/Norm.lean and Proof/Columns.lean, what the steps on layers 1 to 3 share in Proof/Update.lean. -/
module

public import proofs.«01_k».proof.Defs
public import proofs.«01_k».proof.Proof.Gen.Kernel
public import proofs.«01_k».proof.Proof.Kept
public import proofs.«01_k».proof.Proof.Gen.Pre_finite
public import proofs.«01_k».proof.Proof.Arrays
public import proofs.«01_k».proof.Proof.NormBwd
public import proofs.«01_k».proof.Proof.MixBwd
public import proofs.«01_k».proof.Proof.ActFwd
public import proofs.«01_k».proof.Proof.NormFwd
public import proofs.«01_k».proof.Proof.MixFwd
public import proofs.«01_k».proof.Proof.Loss
public import proofs.«01_k».proof.Proof.BiasA
public import proofs.«01_k».proof.Proof.UpdateOut
public import proofs.«01_k».proof.Proof.UpdateOut1
public import proofs.«01_k».proof.Proof.UpdateOut2
public import proofs.«01_k».proof.Proof.UpdateOut3
public import proofs.«01_k».proof.Proof.BiasC
public import proofs.«01_k».proof.Proof.UpdateIn
public import proofs.«01_k».proof.Proof.UpdateIn1
public import proofs.«01_k».proof.Proof.UpdateIn2
public import proofs.«01_k».proof.Proof.UpdateIn3
public import proofs.«01_k».proof.Proof.UpdateUp
public import proofs.«01_k».proof.Proof.UpdateUp1
public import proofs.«01_k».proof.Proof.UpdateUp2
public import proofs.«01_k».proof.Proof.UpdateUp3
public import proofs.«01_k».proof.Proof.UpdateDown
public import proofs.«01_k».proof.Proof.UpdateDown1
public import proofs.«01_k».proof.Proof.UpdateDown2
public import proofs.«01_k».proof.Proof.UpdateDown3
public import proofs.«01_k».proof.Proof.SmallSum
public import proofs.«01_k».proof.Proof.UpdateSmall
public import proofs.«01_k».proof.Proof.InFwd
public import proofs.«01_k».proof.Proof.OutFwd
public import proofs.«01_k».proof.Proof.UpFwd
public import proofs.«01_k».proof.Proof.DownFwd
public import proofs.«01_k».proof.Proof.InDw
public import proofs.«01_k».proof.Proof.InDx
public import proofs.«01_k».proof.Proof.OutDw
public import proofs.«01_k».proof.Proof.OutDx
public import proofs.«01_k».proof.Proof.UpDw
public import proofs.«01_k».proof.Proof.UpDx
public import proofs.«01_k».proof.Proof.DownDw
public import proofs.«01_k».proof.Proof.DownDx
public import Idealize.ShloMosaic.Lib.Claim
public import Idealize.ShloMosaic.Lib.Quiescent
public import Idealize.ShloMosaic.Lib.ReduceAll
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Gate (Finite)

/-! ## Finite arguments -/

instance : Subsingleton Cert.Pre_finite.S_.Idx := ⟨fun a b => funext fun x => x.elim0⟩

/-- An element whose absolute value is below infinity is a real number. -/
theorem finite_of_lt {s : Shape} (x : FVec Ideal s .f32) (i : s.Idx)
    (h : Ideal.cmp .olt (max (x i : EReal) (-(x i : EReal))) (Ideal.ofBits .f32 0x7F800000#32) = 1#1) : Finite (x i) := by
  have htop : Ideal.ofBits .f32 0x7F800000#32 = ⊤ := by simp [Ideal.ofBits, Ideal.ieee]
  rw [htop] at h
  unfold Ideal.cmp at h
  generalize (x i : EReal) = e at h ⊢
  induction e using EReal.rec with
  | bot => simp at h
  | top => simp at h
  | coe r => exact ⟨r, rfl⟩

theorem finite_of_pre (x0 : FVec Ideal Cert.Pre_finite.S4096x5632 .f32) (x1 : FVec Ideal Cert.Pre_finite.S4096x11264 .f32)
    (x2 : FVec Ideal Cert.Pre_finite.S3x11264 .f32) (x3 : FVec Ideal Cert.Pre_finite.S11264 .f32)
    (h : Cert.Pre_finite.fn (F := Ideal) x0 x1 x2 x3 = fun _ => 1#1) : Cert.ReferenceIdeal.Read.AllFinite x0 x1 x2 x3 := by
  have e := congrFun h ix0
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => finite_of_lt x0 i (Host.reduce_andi_all _ _ _ _ _ e0 i), fun i => finite_of_lt x1 i (Host.reduce_andi_all _ _ _ _ _ e1 i),
    fun i => finite_of_lt x2 i (Host.reduce_andi_all _ _ _ _ _ e2 i), fun i => finite_of_lt x3 i (Host.reduce_andi_all _ _ _ _ _ e3 i)⟩

/-! ## The frames -/

/-- The two programs' body tables have the same text: each label's body is the same. -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs Cert.KernelIdeal.pcfgs) bodies_eq

/-- The kernel's frame: the ideal program's run, over any float values, is the kernel's run. -/
theorem frame_kernel : Cert.quiescent_Kernel (hKernel := Cert.Kernel.Gen.facts) := fun m ρ _ => by
  rw [defs_eq]
  exact Cert.KernelIdeal.Kept.frame (F := Bits) m ρ

theorem frame_kernel_ideal : Cert.quiescent_KernelIdeal (hKernelIdeal := Cert.KernelIdeal.Gen.facts) := fun m ρ _ =>
  Cert.KernelIdeal.Kept.frame (F := Ideal) m ρ

theorem frame_reference : Cert.quiescent_ReferenceIdeal (hReferenceIdeal := Cert.ReferenceIdeal.Gen.facts) := fun m ρ _ =>
  (θ_run _ _ _).mono (fun r h => ⟨fun c => ⟨(h c).2.2.2.2.2.1, (h c).2.2.2.2.2.2.1, (h c).2.2.2.2.2.2.2.1, (h c).2.2.2.2.2.2.2.2⟩,
    sem_eq_zero_of_no_sems rfl r.2⟩) (Cert.ReferenceIdeal.Value.run m ρ)

/-! ## The results -/

theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Gen.res7 m c, fun c => Cert.KernelIdeal.Gen.res8 m c, fun c => Cert.KernelIdeal.Gen.res9 m c,
    fun c => Cert.KernelIdeal.Gen.res10 m c, fun c => Cert.KernelIdeal.Gen.res11 m c, ?_, ?_⟩
  · refine (θ_run _ _ _).mono (fun r h c => ?_) (θ_run_and (Cert.KernelIdeal.Gen.frame m g) (Cert.KernelIdeal.Gen.run_main m g))
    obtain ⟨hf, hr⟩ := h
    exact ⟨((hr c).1 7).trans (Cert.KernelIdeal.Gen.arr7 m c), ((hr c).1 8).trans (Cert.KernelIdeal.Gen.arr8 m c),
      ((hr c).1 9).trans (Cert.KernelIdeal.Gen.arr9 m c), ((hr c).1 10).trans (Cert.KernelIdeal.Gen.arr10 m c),
      ((hr c).1 11).trans (Cert.KernelIdeal.Gen.arr11 m c), hf.1 c⟩
  · refine (θ_run _ _ _).mono (fun r h c => ?_) (Cert.ReferenceIdeal.Value.run m' g')
    obtain ⟨h75, h76, h77, h79, h81, hargs⟩ := h c
    obtain ⟨ag0, ag1, ag2, ag3⟩ := hagree c
    have e0 : StableHlo.launchContents m' c (Proc.devRef .tc Cert.ReferenceIdeal.main_arg0) = _ := ag0
    have e1 : StableHlo.launchContents m' c (Proc.devRef .tc Cert.ReferenceIdeal.main_arg1) = _ := ag1
    have e2 : StableHlo.launchContents m' c (Proc.devRef .tc Cert.ReferenceIdeal.main_arg2) = _ := ag2
    have e3 : StableHlo.launchContents m' c (Proc.devRef .tc Cert.ReferenceIdeal.main_arg3) = _ := ag3
    have fin := finite_of_pre _ _ _ _ (hpre c)
    refine ⟨h75.trans ((Cert.ReferenceIdeal.Read.val_main_v75_eq _).trans ?_), h76.trans ((Cert.ReferenceIdeal.Read.val_main_v76_eq _).trans ?_),
      h77.trans ((Cert.ReferenceIdeal.Read.val_main_v77_eq _).trans ?_), h79.trans ((Cert.ReferenceIdeal.Read.val_main_v79_eq _).trans ?_),
      h81.trans ((Cert.ReferenceIdeal.Read.val_main_v81_eq _).trans ?_), hargs⟩
    all_goals
      rw [e0, e1, e2, e3]
      funext y
    · rw [eq_ix3 (n0 := 2) (n1 := 4096) (n2 := 5632) y]
      exact Cert.ReferenceIdeal.Read.v75_at _ _ fin _
    · rw [eq_ix2 (n0 := 3) (n1 := 5632) y]
      exact Cert.ReferenceIdeal.Read.v76_at _ fin _
    · rw [eq_ix2 (n0 := 3) (n1 := 5632) y]
      exact Cert.ReferenceIdeal.Read.v77_at _ fin _
    · rw [eq_ix2 (n0 := 1) (n1 := 5632) y]
      exact Cert.ReferenceIdeal.Read.v79_at _ fin _
    · rw [eq_ix2 (n0 := 1) (n1 := 5632) y]
      exact Cert.ReferenceIdeal.Read.v81_at _ fin _

theorem claim : Cert.Claim :=
  ⟨Cert.Kernel.Gen.facts, Cert.KernelIdeal.Gen.facts, Cert.ReferenceIdeal.Gen.facts, Cert.KernelDownDx.Gen.facts,
    Cert.KernelDownDxIdeal.Gen.facts, Cert.ReferenceDownDxIdeal.Gen.facts, Cert.KernelDownDw.Gen.facts,
    Cert.KernelDownDwIdeal.Gen.facts, Cert.ReferenceDownDwIdeal.Gen.facts, Cert.KernelUpDx.Gen.facts,
    Cert.KernelUpDxIdeal.Gen.facts, Cert.ReferenceUpDxIdeal.Gen.facts, Cert.KernelUpDw.Gen.facts,
    Cert.KernelUpDwIdeal.Gen.facts, Cert.ReferenceUpDwIdeal.Gen.facts, Cert.KernelOutDx.Gen.facts,
    Cert.KernelOutDxIdeal.Gen.facts, Cert.ReferenceOutDxIdeal.Gen.facts, Cert.KernelOutDw.Gen.facts,
    Cert.KernelOutDwIdeal.Gen.facts, Cert.ReferenceOutDwIdeal.Gen.facts, Cert.KernelInDx.Gen.facts,
    Cert.KernelInDxIdeal.Gen.facts, Cert.ReferenceInDxIdeal.Gen.facts, Cert.KernelInDw.Gen.facts,
    Cert.KernelInDwIdeal.Gen.facts, Cert.ReferenceInDwIdeal.Gen.facts, Cert.KernelInFwd.Gen.facts,
    Cert.KernelInFwdIdeal.Gen.facts, Cert.ReferenceInFwdIdeal.Gen.facts, Cert.KernelOutFwd.Gen.facts,
    Cert.KernelOutFwdIdeal.Gen.facts, Cert.ReferenceOutFwdIdeal.Gen.facts, Cert.KernelUpFwd.Gen.facts,
    Cert.KernelUpFwdIdeal.Gen.facts, Cert.ReferenceUpFwdIdeal.Gen.facts, Cert.KernelDownFwd.Gen.facts,
    Cert.KernelDownFwdIdeal.Gen.facts, Cert.ReferenceDownFwdIdeal.Gen.facts, Cert.KernelNormBwd.Gen.facts,
    Cert.KernelNormBwdIdeal.Gen.facts, Cert.ReferenceNormBwdIdeal.Gen.facts, Cert.KernelMixBwd.Gen.facts,
    Cert.KernelMixBwdIdeal.Gen.facts, Cert.ReferenceMixBwdIdeal.Gen.facts, Cert.KernelActFwd.Gen.facts,
    Cert.KernelActFwdIdeal.Gen.facts, Cert.ReferenceActFwdIdeal.Gen.facts, Cert.KernelNormFwd.Gen.facts,
    Cert.KernelNormFwdIdeal.Gen.facts, Cert.ReferenceNormFwdIdeal.Gen.facts, Cert.KernelMixFwd.Gen.facts,
    Cert.KernelMixFwdIdeal.Gen.facts, Cert.ReferenceMixFwdIdeal.Gen.facts, Cert.KernelLoss.Gen.facts,
    Cert.KernelLossIdeal.Gen.facts, Cert.ReferenceLossIdeal.Gen.facts, Cert.KernelBiasA.Gen.facts,
    Cert.KernelBiasAIdeal.Gen.facts, Cert.ReferenceBiasAIdeal.Gen.facts, Cert.KernelBiasC.Gen.facts,
    Cert.KernelBiasCIdeal.Gen.facts, Cert.ReferenceBiasCIdeal.Gen.facts, Cert.KernelUpdateIn.Gen.facts,
    Cert.KernelUpdateInIdeal.Gen.facts, Cert.ReferenceUpdateInIdeal.Gen.facts, Cert.KernelUpdateOut.Gen.facts,
    Cert.KernelUpdateOutIdeal.Gen.facts, Cert.ReferenceUpdateOutIdeal.Gen.facts, Cert.KernelUpdateUp.Gen.facts,
    Cert.KernelUpdateUpIdeal.Gen.facts, Cert.ReferenceUpdateUpIdeal.Gen.facts, Cert.KernelUpdateDown.Gen.facts,
    Cert.KernelUpdateDownIdeal.Gen.facts, Cert.ReferenceUpdateDownIdeal.Gen.facts, Cert.KernelSmallSum.Gen.facts,
    Cert.KernelSmallSumIdeal.Gen.facts, Cert.ReferenceSmallSumIdeal.Gen.facts, Cert.KernelUpdateSmall.Gen.facts,
    Cert.KernelUpdateSmallIdeal.Gen.facts, Cert.ReferenceUpdateSmallIdeal.Gen.facts, Cert.KernelUpdateIn1.Gen.facts,
    Cert.KernelUpdateIn1Ideal.Gen.facts, Cert.ReferenceUpdateIn1Ideal.Gen.facts, Cert.KernelUpdateOut1.Gen.facts,
    Cert.KernelUpdateOut1Ideal.Gen.facts, Cert.ReferenceUpdateOut1Ideal.Gen.facts, Cert.KernelUpdateUp1.Gen.facts,
    Cert.KernelUpdateUp1Ideal.Gen.facts, Cert.ReferenceUpdateUp1Ideal.Gen.facts, Cert.KernelUpdateDown1.Gen.facts,
    Cert.KernelUpdateDown1Ideal.Gen.facts, Cert.ReferenceUpdateDown1Ideal.Gen.facts, Cert.KernelUpdateIn2.Gen.facts,
    Cert.KernelUpdateIn2Ideal.Gen.facts, Cert.ReferenceUpdateIn2Ideal.Gen.facts, Cert.KernelUpdateOut2.Gen.facts,
    Cert.KernelUpdateOut2Ideal.Gen.facts, Cert.ReferenceUpdateOut2Ideal.Gen.facts, Cert.KernelUpdateUp2.Gen.facts,
    Cert.KernelUpdateUp2Ideal.Gen.facts, Cert.ReferenceUpdateUp2Ideal.Gen.facts, Cert.KernelUpdateDown2.Gen.facts,
    Cert.KernelUpdateDown2Ideal.Gen.facts, Cert.ReferenceUpdateDown2Ideal.Gen.facts, Cert.KernelUpdateIn3.Gen.facts,
    Cert.KernelUpdateIn3Ideal.Gen.facts, Cert.ReferenceUpdateIn3Ideal.Gen.facts, Cert.KernelUpdateOut3.Gen.facts,
    Cert.KernelUpdateOut3Ideal.Gen.facts, Cert.ReferenceUpdateOut3Ideal.Gen.facts, Cert.KernelUpdateUp3.Gen.facts,
    Cert.KernelUpdateUp3Ideal.Gen.facts, Cert.ReferenceUpdateUp3Ideal.Gen.facts, Cert.KernelUpdateDown3.Gen.facts,
    Cert.KernelUpdateDown3Ideal.Gen.facts, Cert.ReferenceUpdateDown3Ideal.Gen.facts, Cert.Pre_finite.Gen.facts,
    frame_kernel, frame_kernel_ideal, fun m ρ _ => frame_kernel_ideal m ρ trivial, frame_reference,
    fun m ρ _ => frame_reference m ρ trivial, Cert.DownDx.frame_kernel, Cert.DownDx.frame_kernel_ideal,
    Cert.DownDx.frame_reference, Cert.DownDw.frame_kernel, Cert.DownDw.frame_kernel_ideal, Cert.DownDw.frame_reference,
    Cert.UpDx.frame_kernel, Cert.UpDx.frame_kernel_ideal, Cert.UpDx.frame_reference, Cert.UpDw.frame_kernel,
    Cert.UpDw.frame_kernel_ideal, Cert.UpDw.frame_reference, Cert.OutDx.frame_kernel, Cert.OutDx.frame_kernel_ideal,
    Cert.OutDx.frame_reference, Cert.OutDw.frame_kernel, Cert.OutDw.frame_kernel_ideal, Cert.OutDw.frame_reference,
    Cert.InDx.frame_kernel, Cert.InDx.frame_kernel_ideal, Cert.InDx.frame_reference, Cert.InDw.frame_kernel,
    Cert.InDw.frame_kernel_ideal, Cert.InDw.frame_reference, Cert.InFwd.frame_kernel, Cert.InFwd.frame_kernel_ideal,
    Cert.InFwd.frame_reference, Cert.OutFwd.frame_kernel, Cert.OutFwd.frame_kernel_ideal, Cert.OutFwd.frame_reference,
    Cert.UpFwd.frame_kernel, Cert.UpFwd.frame_kernel_ideal, Cert.UpFwd.frame_reference, Cert.DownFwd.frame_kernel,
    Cert.DownFwd.frame_kernel_ideal, Cert.DownFwd.frame_reference, Cert.NormBwd.frame_kernel,
    Cert.NormBwd.frame_kernel_ideal, Cert.NormBwd.frame_reference, Cert.MixBwd.frame_kernel,
    Cert.MixBwd.frame_kernel_ideal, Cert.MixBwd.frame_reference, Cert.ActFwd.frame_kernel,
    Cert.ActFwd.frame_kernel_ideal, Cert.ActFwd.frame_reference, Cert.NormFwd.frame_kernel,
    Cert.NormFwd.frame_kernel_ideal, Cert.NormFwd.frame_reference, Cert.MixFwd.frame_kernel,
    Cert.MixFwd.frame_kernel_ideal, Cert.MixFwd.frame_reference, Cert.Loss.frame_kernel, Cert.Loss.frame_kernel_ideal,
    Cert.Loss.frame_reference, Cert.BiasA.frame_kernel, Cert.BiasA.frame_kernel_ideal, Cert.BiasA.frame_reference,
    Cert.BiasC.frame_kernel, Cert.BiasC.frame_kernel_ideal, Cert.BiasC.frame_reference, Cert.UpdateIn.frame_kernel,
    Cert.UpdateIn.frame_kernel_ideal, Cert.UpdateIn.frame_reference, Cert.UpdateOut.frame_kernel,
    Cert.UpdateOut.frame_kernel_ideal, Cert.UpdateOut.frame_reference, Cert.UpdateUp.frame_kernel,
    Cert.UpdateUp.frame_kernel_ideal, Cert.UpdateUp.frame_reference, Cert.UpdateDown.frame_kernel,
    Cert.UpdateDown.frame_kernel_ideal, Cert.UpdateDown.frame_reference, Cert.SmallSum.frame_kernel,
    Cert.SmallSum.frame_kernel_ideal, Cert.SmallSum.frame_reference, Cert.UpdateSmall.frame_kernel,
    Cert.UpdateSmall.frame_kernel_ideal, Cert.UpdateSmall.frame_reference, Cert.UpdateIn1.frame_kernel,
    Cert.UpdateIn1.frame_kernel_ideal, Cert.UpdateIn1.frame_reference, Cert.UpdateOut1.frame_kernel,
    Cert.UpdateOut1.frame_kernel_ideal, Cert.UpdateOut1.frame_reference, Cert.UpdateUp1.frame_kernel,
    Cert.UpdateUp1.frame_kernel_ideal, Cert.UpdateUp1.frame_reference, Cert.UpdateDown1.frame_kernel,
    Cert.UpdateDown1.frame_kernel_ideal, Cert.UpdateDown1.frame_reference, Cert.UpdateIn2.frame_kernel,
    Cert.UpdateIn2.frame_kernel_ideal, Cert.UpdateIn2.frame_reference, Cert.UpdateOut2.frame_kernel,
    Cert.UpdateOut2.frame_kernel_ideal, Cert.UpdateOut2.frame_reference, Cert.UpdateUp2.frame_kernel,
    Cert.UpdateUp2.frame_kernel_ideal, Cert.UpdateUp2.frame_reference, Cert.UpdateDown2.frame_kernel,
    Cert.UpdateDown2.frame_kernel_ideal, Cert.UpdateDown2.frame_reference, Cert.UpdateIn3.frame_kernel,
    Cert.UpdateIn3.frame_kernel_ideal, Cert.UpdateIn3.frame_reference, Cert.UpdateOut3.frame_kernel,
    Cert.UpdateOut3.frame_kernel_ideal, Cert.UpdateOut3.frame_reference, Cert.UpdateUp3.frame_kernel,
    Cert.UpdateUp3.frame_kernel_ideal, Cert.UpdateUp3.frame_reference, Cert.UpdateDown3.frame_kernel,
    Cert.UpdateDown3.frame_kernel_ideal, Cert.UpdateDown3.frame_reference, trivial, equal, trivial, Cert.DownDx.equal,
    trivial, Cert.DownDw.equal, trivial, Cert.UpDx.equal, trivial, Cert.UpDw.equal, trivial, Cert.OutDx.equal, trivial,
    Cert.OutDw.equal, trivial, Cert.InDx.equal, trivial, Cert.InDw.equal, trivial, Cert.InFwd.equal, trivial,
    Cert.OutFwd.equal, trivial, Cert.UpFwd.equal, trivial, Cert.DownFwd.equal, trivial, Cert.NormBwd.equal, trivial,
    Cert.MixBwd.equal, trivial, Cert.ActFwd.equal, trivial, Cert.NormFwd.equal, trivial, Cert.MixFwd.equal, trivial,
    Cert.Loss.equal, trivial, Cert.BiasA.equal, trivial, Cert.BiasC.equal, trivial, Cert.UpdateIn.equal, trivial,
    Cert.UpdateOut.equal, trivial, Cert.UpdateUp.equal, trivial, Cert.UpdateDown.equal, trivial, Cert.SmallSum.equal,
    trivial, Cert.UpdateSmall.equal, trivial, Cert.UpdateIn1.equal, trivial, Cert.UpdateOut1.equal, trivial,
    Cert.UpdateUp1.equal, trivial, Cert.UpdateDown1.equal, trivial, Cert.UpdateIn2.equal, trivial,
    Cert.UpdateOut2.equal, trivial, Cert.UpdateUp2.equal, trivial, Cert.UpdateDown2.equal, trivial,
    Cert.UpdateIn3.equal, trivial, Cert.UpdateOut3.equal, trivial, Cert.UpdateUp3.equal, trivial,
    Cert.UpdateDown3.equal⟩

end Cert.Proof

end
